-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_real_scores [hPre_real_scores : Cert.Pre_real_scores.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_real_scores.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))) = (fun _ => 1#1)

def Pre_MemBwdRefIdeal (m : (ℓ : Loc Cert.MemBwdRefIdeal.nD Cert.MemBwdRefIdeal.τ Cert.MemBwdRefIdeal.sig) → Buf (Elt Ideal) ℓ) : Prop :=
  True

def Pre_MemBwdRefIdeal_real_scores [hPre_real_scores : Cert.Pre_real_scores.Facts] (m : (ℓ : Loc Cert.MemBwdRefIdeal.nD Cert.MemBwdRefIdeal.τ Cert.MemBwdRefIdeal.sig) → Buf (Elt Ideal) ℓ) : Prop :=
  ∀ c : Dev Cert.MemBwdRefIdeal.nD,
    (Cert.Pre_real_scores.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2)) (m ((c.tc : Thread Cert.MemBwdRefIdeal.nD Cert.MemBwdRefIdeal.τ).loc Cert.MemBwdRefIdeal.main_arg3))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_FfnOutBwd (m : (ℓ : Loc Cert.FfnOutBwd.nD Cert.FfnOutBwd.τ Cert.FfnOutBwd.sig) → Buf (Elt Bits) ℓ) : Prop :=
  True

def Pre_FfnOutBwdIdeal (m : (ℓ : Loc Cert.FfnOutBwdIdeal.nD Cert.FfnOutBwdIdeal.τ Cert.FfnOutBwdIdeal.sig) → Buf (Elt Ideal) ℓ) : Prop :=
  True

def Pre_FfnOutBwdIdeal_real_ffn [hPre_real_ffn : Cert.Pre_real_ffn.Facts] (m : (ℓ : Loc Cert.FfnOutBwdIdeal.nD Cert.FfnOutBwdIdeal.τ Cert.FfnOutBwdIdeal.sig) → Buf (Elt Ideal) ℓ) : Prop :=
  ∀ c : Dev Cert.FfnOutBwdIdeal.nD,
    (Cert.Pre_real_ffn.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))) = (fun _ => 1#1)

def Pre_FfnOutBwdRefIdeal (m : (ℓ : Loc Cert.FfnOutBwdRefIdeal.nD Cert.FfnOutBwdRefIdeal.τ Cert.FfnOutBwdRefIdeal.sig) → Buf (Elt Ideal) ℓ) : Prop :=
  True

def Pre_FfnOutBwdRefIdeal_real_ffn [hPre_real_ffn : Cert.Pre_real_ffn.Facts] (m : (ℓ : Loc Cert.FfnOutBwdRefIdeal.nD Cert.FfnOutBwdRefIdeal.τ Cert.FfnOutBwdRefIdeal.sig) → Buf (Elt Ideal) ℓ) : Prop :=
  ∀ c : Dev Cert.FfnOutBwdRefIdeal.nD,
    (Cert.Pre_real_ffn.fn (F := Ideal) (m ((c.tc : Thread Cert.FfnOutBwdRefIdeal.nD Cert.FfnOutBwdRefIdeal.τ).loc Cert.FfnOutBwdRefIdeal.main_arg0)) (m ((c.tc : Thread Cert.FfnOutBwdRefIdeal.nD Cert.FfnOutBwdRefIdeal.τ).loc Cert.FfnOutBwdRefIdeal.main_arg1)) (m ((c.tc : Thread Cert.FfnOutBwdRefIdeal.nD Cert.FfnOutBwdRefIdeal.τ).loc Cert.FfnOutBwdRefIdeal.main_arg2)) (m ((c.tc : Thread Cert.FfnOutBwdRefIdeal.nD Cert.FfnOutBwdRefIdeal.τ).loc Cert.FfnOutBwdRefIdeal.main_arg3))) = (fun _ => 1#1)

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxIdeal_real_norm [hPre_real_norm : Cert.Pre_real_norm.Facts] (m : (ℓ : Loc Cert.GateDxIdeal.nD Cert.GateDxIdeal.τ Cert.GateDxIdeal.sig) → Buf (Elt Ideal) ℓ) : Prop :=
  ∀ c : Dev Cert.GateDxIdeal.nD,
    (Cert.Pre_real_norm.fn (F := Ideal) (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg2)) (m ((c.tc : Thread Cert.GateDxIdeal.nD Cert.GateDxIdeal.τ).loc Cert.GateDxIdeal.main_arg3)) (m ((c.tc : Thread Cert.GateDxIdeal.nD Cert.GateDxIdeal.τ).loc Cert.GateDxIdeal.main_arg4)) (m ((c.tc : Thread Cert.GateDxIdeal.nD Cert.GateDxIdeal.τ).loc Cert.GateDxIdeal.main_arg5))) = (fun _ => 1#1)

def Pre_GateDxRefIdeal (m : (ℓ : Loc Cert.GateDxRefIdeal.nD Cert.GateDxRefIdeal.τ Cert.GateDxRefIdeal.sig) → Buf (Elt Ideal) ℓ) : Prop :=
  True

def Pre_GateDxRefIdeal_real_norm [hPre_real_norm : Cert.Pre_real_norm.Facts] (m : (ℓ : Loc Cert.GateDxRefIdeal.nD Cert.GateDxRefIdeal.τ Cert.GateDxRefIdeal.sig) → Buf (Elt Ideal) ℓ) : Prop :=
  ∀ c : Dev Cert.GateDxRefIdeal.nD,
    (Cert.Pre_real_norm.fn (F := Ideal) (m ((c.tc : Thread Cert.GateDxRefIdeal.nD Cert.GateDxRefIdeal.τ).loc Cert.GateDxRefIdeal.main_arg0)) (m ((c.tc : Thread Cert.GateDxRefIdeal.nD Cert.GateDxRefIdeal.τ).loc Cert.GateDxRefIdeal.main_arg1)) (m ((c.tc : Thread Cert.GateDxRefIdeal.nD Cert.GateDxRefIdeal.τ).loc Cert.GateDxRefIdeal.main_arg2)) (m ((c.tc : Thread Cert.GateDxRefIdeal.nD Cert.GateDxRefIdeal.τ).loc Cert.GateDxRefIdeal.main_arg3)) (m ((c.tc : Thread Cert.GateDxRefIdeal.nD Cert.GateDxRefIdeal.τ).loc Cert.GateDxRefIdeal.main_arg4)) (m ((c.tc : Thread Cert.GateDxRefIdeal.nD Cert.GateDxRefIdeal.τ).loc Cert.GateDxRefIdeal.main_arg5))) = (fun _ => 1#1)

def Pre_FfnInDxG (m : (ℓ : Loc Cert.FfnInDxG.nD Cert.FfnInDxG.τ Cert.FfnInDxG.sig) → Buf (Elt Bits) ℓ) : Prop :=
  True

def Pre_FfnInDxGIdeal (m : (ℓ : Loc Cert.FfnInDxGIdeal.nD Cert.FfnInDxGIdeal.τ Cert.FfnInDxGIdeal.sig) → Buf (Elt Ideal) ℓ) : Prop :=
  True

def Pre_FfnInDxGIdeal_real_norm_half [hPre_real_norm_half : Cert.Pre_real_norm_half.Facts] (m : (ℓ : Loc Cert.FfnInDxGIdeal.nD Cert.FfnInDxGIdeal.τ Cert.FfnInDxGIdeal.sig) → Buf (Elt Ideal) ℓ) : Prop :=
  ∀ c : Dev Cert.FfnInDxGIdeal.nD,
    (Cert.Pre_real_norm_half.fn (F := Ideal) (m ((c.tc : Thread Cert.FfnInDxGIdeal.nD Cert.FfnInDxGIdeal.τ).loc Cert.FfnInDxGIdeal.main_arg0)) (m ((c.tc : Thread Cert.FfnInDxGIdeal.nD Cert.FfnInDxGIdeal.τ).loc Cert.FfnInDxGIdeal.main_arg1)) (m ((c.tc : Thread Cert.FfnInDxGIdeal.nD Cert.FfnInDxGIdeal.τ).loc Cert.FfnInDxGIdeal.main_arg2)) (m ((c.tc : Thread Cert.FfnInDxGIdeal.nD Cert.FfnInDxGIdeal.τ).loc Cert.FfnInDxGIdeal.main_arg3)) (m ((c.tc : Thread Cert.FfnInDxGIdeal.nD Cert.FfnInDxGIdeal.τ).loc Cert.FfnInDxGIdeal.main_arg4)) (m ((c.tc : Thread Cert.FfnInDxGIdeal.nD Cert.FfnInDxGIdeal.τ).loc Cert.FfnInDxGIdeal.main_arg5))) = (fun _ => 1#1)

def Pre_FfnInDxGRefIdeal (m : (ℓ : Loc Cert.FfnInDxGRefIdeal.nD Cert.FfnInDxGRefIdeal.τ Cert.FfnInDxGRefIdeal.sig) → Buf (Elt Ideal) ℓ) : Prop :=
  True

def Pre_FfnInDxGRefIdeal_real_norm_half [hPre_real_norm_half : Cert.Pre_real_norm_half.Facts] (m : (ℓ : Loc Cert.FfnInDxGRefIdeal.nD Cert.FfnInDxGRefIdeal.τ Cert.FfnInDxGRefIdeal.sig) → Buf (Elt Ideal) ℓ) : Prop :=
  ∀ c : Dev Cert.FfnInDxGRefIdeal.nD,
    (Cert.Pre_real_norm_half.fn (F := Ideal) (m ((c.tc : Thread Cert.FfnInDxGRefIdeal.nD Cert.FfnInDxGRefIdeal.τ).loc Cert.FfnInDxGRefIdeal.main_arg0)) (m ((c.tc : Thread Cert.FfnInDxGRefIdeal.nD Cert.FfnInDxGRefIdeal.τ).loc Cert.FfnInDxGRefIdeal.main_arg1)) (m ((c.tc : Thread Cert.FfnInDxGRefIdeal.nD Cert.FfnInDxGRefIdeal.τ).loc Cert.FfnInDxGRefIdeal.main_arg2)) (m ((c.tc : Thread Cert.FfnInDxGRefIdeal.nD Cert.FfnInDxGRefIdeal.τ).loc Cert.FfnInDxGRefIdeal.main_arg3)) (m ((c.tc : Thread Cert.FfnInDxGRefIdeal.nD Cert.FfnInDxGRefIdeal.τ).loc Cert.FfnInDxGRefIdeal.main_arg4)) (m ((c.tc : Thread Cert.FfnInDxGRefIdeal.nD Cert.FfnInDxGRefIdeal.τ).loc Cert.FfnInDxGRefIdeal.main_arg5))) = (fun _ => 1#1)

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_FfnInDxA (m : (ℓ : Loc Cert.FfnInDxA.nD Cert.FfnInDxA.τ Cert.FfnInDxA.sig) → Buf (Elt Bits) ℓ) : Prop :=
  True

def Pre_FfnInDxAIdeal (m : (ℓ : Loc Cert.FfnInDxAIdeal.nD Cert.FfnInDxAIdeal.τ Cert.FfnInDxAIdeal.sig) → Buf (Elt Ideal) ℓ) : Prop :=
  True

def Pre_FfnInDxARefIdeal (m : (ℓ : Loc Cert.FfnInDxARefIdeal.nD Cert.FfnInDxARefIdeal.τ Cert.FfnInDxARefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_FfnInDwA (m : (ℓ : Loc Cert.FfnInDwA.nD Cert.FfnInDwA.τ Cert.FfnInDwA.sig) → Buf (Elt Bits) ℓ) : Prop :=
  True

def Pre_FfnInDwAIdeal (m : (ℓ : Loc Cert.FfnInDwAIdeal.nD Cert.FfnInDwAIdeal.τ Cert.FfnInDwAIdeal.sig) → Buf (Elt Ideal) ℓ) : Prop :=
  True

def Pre_FfnInDwARefIdeal (m : (ℓ : Loc Cert.FfnInDwARefIdeal.nD Cert.FfnInDwARefIdeal.τ Cert.FfnInDwARefIdeal.sig) → Buf (Elt Ideal) ℓ) : Prop :=
  True

def Pre_FfnInDwG (m : (ℓ : Loc Cert.FfnInDwG.nD Cert.FfnInDwG.τ Cert.FfnInDwG.sig) → Buf (Elt Bits) ℓ) : Prop :=
  True

def Pre_FfnInDwGIdeal (m : (ℓ : Loc Cert.FfnInDwGIdeal.nD Cert.FfnInDwGIdeal.τ Cert.FfnInDwGIdeal.sig) → Buf (Elt Ideal) ℓ) : Prop :=
  True

def Pre_FfnInDwGRefIdeal (m : (ℓ : Loc Cert.FfnInDwGRefIdeal.nD Cert.FfnInDwGRefIdeal.τ Cert.FfnInDwGRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdIdeal_real_norm_mem [hPre_real_norm_mem : Cert.Pre_real_norm_mem.Facts] (m : (ℓ : Loc Cert.NormMemBwdIdeal.nD Cert.NormMemBwdIdeal.τ Cert.NormMemBwdIdeal.sig) → Buf (Elt Ideal) ℓ) : Prop :=
  ∀ c : Dev Cert.NormMemBwdIdeal.nD,
    (Cert.Pre_real_norm_mem.fn (F := Ideal) (m ((c.tc : Thread Cert.NormMemBwdIdeal.nD Cert.NormMemBwdIdeal.τ).loc Cert.NormMemBwdIdeal.main_arg0)) (m ((c.tc : Thread Cert.NormMemBwdIdeal.nD Cert.NormMemBwdIdeal.τ).loc Cert.NormMemBwdIdeal.main_arg1)) (m ((c.tc : Thread Cert.NormMemBwdIdeal.nD Cert.NormMemBwdIdeal.τ).loc Cert.NormMemBwdIdeal.main_arg2)) (m ((c.tc : Thread Cert.NormMemBwdIdeal.nD Cert.NormMemBwdIdeal.τ).loc Cert.NormMemBwdIdeal.main_arg3))) = (fun _ => 1#1)

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_NormMemBwdRefIdeal_real_norm_mem [hPre_real_norm_mem : Cert.Pre_real_norm_mem.Facts] (m : (ℓ : Loc Cert.NormMemBwdRefIdeal.nD Cert.NormMemBwdRefIdeal.τ Cert.NormMemBwdRefIdeal.sig) → Buf (Elt Ideal) ℓ) : Prop :=
  ∀ c : Dev Cert.NormMemBwdRefIdeal.nD,
    (Cert.Pre_real_norm_mem.fn (F := Ideal) (m ((c.tc : Thread Cert.NormMemBwdRefIdeal.nD Cert.NormMemBwdRefIdeal.τ).loc Cert.NormMemBwdRefIdeal.main_arg0)) (m ((c.tc : Thread Cert.NormMemBwdRefIdeal.nD Cert.NormMemBwdRefIdeal.τ).loc Cert.NormMemBwdRefIdeal.main_arg1)) (m ((c.tc : Thread Cert.NormMemBwdRefIdeal.nD Cert.NormMemBwdRefIdeal.τ).loc Cert.NormMemBwdRefIdeal.main_arg2)) (m ((c.tc : Thread Cert.NormMemBwdRefIdeal.nD Cert.NormMemBwdRefIdeal.τ).loc Cert.NormMemBwdRefIdeal.main_arg3))) = (fun _ => 1#1)

def Pre_MemkvDw (m : (ℓ : Loc Cert.MemkvDw.nD Cert.MemkvDw.τ Cert.MemkvDw.sig) → Buf (Elt Bits) ℓ) : Prop :=
  True

def Pre_MemkvDwIdeal (m : (ℓ : Loc Cert.MemkvDwIdeal.nD Cert.MemkvDwIdeal.τ Cert.MemkvDwIdeal.sig) → Buf (Elt Ideal) ℓ) : Prop :=
  True

def Pre_MemkvDwRefIdeal (m : (ℓ : Loc Cert.MemkvDwRefIdeal.nD Cert.MemkvDwRefIdeal.τ Cert.MemkvDwRefIdeal.sig) → Buf (Elt Ideal) ℓ) : Prop :=
  True

def Pre_MemkvDx (m : (ℓ : Loc Cert.MemkvDx.nD Cert.MemkvDx.τ Cert.MemkvDx.sig) → Buf (Elt Bits) ℓ) : Prop :=
  True

def Pre_MemkvDxIdeal (m : (ℓ : Loc Cert.MemkvDxIdeal.nD Cert.MemkvDxIdeal.τ Cert.MemkvDxIdeal.sig) → Buf (Elt Ideal) ℓ) : Prop :=
  True

def Pre_MemkvDxRefIdeal (m : (ℓ : Loc Cert.MemkvDxRefIdeal.nD Cert.MemkvDxRefIdeal.τ Cert.MemkvDxRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_MmMemkv (m : (ℓ : Loc Cert.MmMemkv.nD Cert.MmMemkv.τ Cert.MmMemkv.sig) → Buf (Elt Bits) ℓ) : Prop :=
  True

def Pre_MmMemkvIdeal (m : (ℓ : Loc Cert.MmMemkvIdeal.nD Cert.MmMemkvIdeal.τ Cert.MmMemkvIdeal.sig) → Buf (Elt Ideal) ℓ) : Prop :=
  True

def Pre_MmMemkvRefIdeal (m : (ℓ : Loc Cert.MmMemkvRefIdeal.nD Cert.MmMemkvRefIdeal.τ Cert.MmMemkvRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutLast (m : (ℓ : Loc Cert.FfnOutLast.nD Cert.FfnOutLast.τ Cert.FfnOutLast.sig) → Buf (Elt Bits) ℓ) : Prop :=
  True

def Pre_FfnOutLastIdeal (m : (ℓ : Loc Cert.FfnOutLastIdeal.nD Cert.FfnOutLastIdeal.τ Cert.FfnOutLastIdeal.sig) → Buf (Elt Ideal) ℓ) : Prop :=
  True

def Pre_FfnOutLastRefIdeal (m : (ℓ : Loc Cert.FfnOutLastRefIdeal.nD Cert.FfnOutLastRefIdeal.τ Cert.FfnOutLastRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RetPostBwd (m : (ℓ : Loc Cert.RetPostBwd.nD Cert.RetPostBwd.τ Cert.RetPostBwd.sig) → Buf (Elt Bits) ℓ) : Prop :=
  True

def Pre_RetPostBwdIdeal (m : (ℓ : Loc Cert.RetPostBwdIdeal.nD Cert.RetPostBwdIdeal.τ Cert.RetPostBwdIdeal.sig) → Buf (Elt Ideal) ℓ) : Prop :=
  True

def Pre_RetPostBwdIdeal_real_ret_post [hPre_real_ret_post : Cert.Pre_real_ret_post.Facts] (m : (ℓ : Loc Cert.RetPostBwdIdeal.nD Cert.RetPostBwdIdeal.τ Cert.RetPostBwdIdeal.sig) → Buf (Elt Ideal) ℓ) : Prop :=
  ∀ c : Dev Cert.RetPostBwdIdeal.nD,
    (Cert.Pre_real_ret_post.fn (F := Ideal) (m ((c.tc : Thread Cert.RetPostBwdIdeal.nD Cert.RetPostBwdIdeal.τ).loc Cert.RetPostBwdIdeal.main_arg0)) (m ((c.tc : Thread Cert.RetPostBwdIdeal.nD Cert.RetPostBwdIdeal.τ).loc Cert.RetPostBwdIdeal.main_arg1)) (m ((c.tc : Thread Cert.RetPostBwdIdeal.nD Cert.RetPostBwdIdeal.τ).loc Cert.RetPostBwdIdeal.main_arg2)) (m ((c.tc : Thread Cert.RetPostBwdIdeal.nD Cert.RetPostBwdIdeal.τ).loc Cert.RetPostBwdIdeal.main_arg3))) = (fun _ => 1#1)

def Pre_RetPostBwdRefIdeal (m : (ℓ : Loc Cert.RetPostBwdRefIdeal.nD Cert.RetPostBwdRefIdeal.τ Cert.RetPostBwdRefIdeal.sig) → Buf (Elt Ideal) ℓ) : Prop :=
  True

def Pre_RetPostBwdRefIdeal_real_ret_post [hPre_real_ret_post : Cert.Pre_real_ret_post.Facts] (m : (ℓ : Loc Cert.RetPostBwdRefIdeal.nD Cert.RetPostBwdRefIdeal.τ Cert.RetPostBwdRefIdeal.sig) → Buf (Elt Ideal) ℓ) : Prop :=
  ∀ c : Dev Cert.RetPostBwdRefIdeal.nD,
    (Cert.Pre_real_ret_post.fn (F := Ideal) (m ((c.tc : Thread Cert.RetPostBwdRefIdeal.nD Cert.RetPostBwdRefIdeal.τ).loc Cert.RetPostBwdRefIdeal.main_arg0)) (m ((c.tc : Thread Cert.RetPostBwdRefIdeal.nD Cert.RetPostBwdRefIdeal.τ).loc Cert.RetPostBwdRefIdeal.main_arg1)) (m ((c.tc : Thread Cert.RetPostBwdRefIdeal.nD Cert.RetPostBwdRefIdeal.τ).loc Cert.RetPostBwdRefIdeal.main_arg2)) (m ((c.tc : Thread Cert.RetPostBwdRefIdeal.nD Cert.RetPostBwdRefIdeal.τ).loc Cert.RetPostBwdRefIdeal.main_arg3))) = (fun _ => 1#1)

def Pre_MemkvPrep (m : (ℓ : Loc Cert.MemkvPrep.nD Cert.MemkvPrep.τ Cert.MemkvPrep.sig) → Buf (Elt Bits) ℓ) : Prop :=
  True

def Pre_MemkvPrepIdeal (m : (ℓ : Loc Cert.MemkvPrepIdeal.nD Cert.MemkvPrepIdeal.τ Cert.MemkvPrepIdeal.sig) → Buf (Elt Ideal) ℓ) : Prop :=
  True

def Pre_MemkvPrepIdeal_real_memkv [hPre_real_memkv : Cert.Pre_real_memkv.Facts] (m : (ℓ : Loc Cert.MemkvPrepIdeal.nD Cert.MemkvPrepIdeal.τ Cert.MemkvPrepIdeal.sig) → Buf (Elt Ideal) ℓ) : Prop :=
  ∀ c : Dev Cert.MemkvPrepIdeal.nD,
    (Cert.Pre_real_memkv.fn (F := Ideal) (m ((c.tc : Thread Cert.MemkvPrepIdeal.nD Cert.MemkvPrepIdeal.τ).loc Cert.MemkvPrepIdeal.main_arg0)) (m ((c.tc : Thread Cert.MemkvPrepIdeal.nD Cert.MemkvPrepIdeal.τ).loc Cert.MemkvPrepIdeal.main_arg1))) = (fun _ => 1#1)

def Pre_MemkvPrepRefIdeal (m : (ℓ : Loc Cert.MemkvPrepRefIdeal.nD Cert.MemkvPrepRefIdeal.τ Cert.MemkvPrepRefIdeal.sig) → Buf (Elt Ideal) ℓ) : Prop :=
  True

def Pre_MemkvPrepRefIdeal_real_memkv [hPre_real_memkv : Cert.Pre_real_memkv.Facts] (m : (ℓ : Loc Cert.MemkvPrepRefIdeal.nD Cert.MemkvPrepRefIdeal.τ Cert.MemkvPrepRefIdeal.sig) → Buf (Elt Ideal) ℓ) : Prop :=
  ∀ c : Dev Cert.MemkvPrepRefIdeal.nD,
    (Cert.Pre_real_memkv.fn (F := Ideal) (m ((c.tc : Thread Cert.MemkvPrepRefIdeal.nD Cert.MemkvPrepRefIdeal.τ).loc Cert.MemkvPrepRefIdeal.main_arg0)) (m ((c.tc : Thread Cert.MemkvPrepRefIdeal.nD Cert.MemkvPrepRefIdeal.τ).loc Cert.MemkvPrepRefIdeal.main_arg1))) = (fun _ => 1#1)

def Pre_MemkvBwd (m : (ℓ : Loc Cert.MemkvBwd.nD Cert.MemkvBwd.τ Cert.MemkvBwd.sig) → Buf (Elt Bits) ℓ) : Prop :=
  True

def Pre_MemkvBwdIdeal (m : (ℓ : Loc Cert.MemkvBwdIdeal.nD Cert.MemkvBwdIdeal.τ Cert.MemkvBwdIdeal.sig) → Buf (Elt Ideal) ℓ) : Prop :=
  True

def Pre_MemkvBwdIdeal_real_memkv_bwd [hPre_real_memkv_bwd : Cert.Pre_real_memkv_bwd.Facts] (m : (ℓ : Loc Cert.MemkvBwdIdeal.nD Cert.MemkvBwdIdeal.τ Cert.MemkvBwdIdeal.sig) → Buf (Elt Ideal) ℓ) : Prop :=
  ∀ c : Dev Cert.MemkvBwdIdeal.nD,
    (Cert.Pre_real_memkv_bwd.fn (F := Ideal) (m ((c.tc : Thread Cert.MemkvBwdIdeal.nD Cert.MemkvBwdIdeal.τ).loc Cert.MemkvBwdIdeal.main_arg0)) (m ((c.tc : Thread Cert.MemkvBwdIdeal.nD Cert.MemkvBwdIdeal.τ).loc Cert.MemkvBwdIdeal.main_arg1)) (m ((c.tc : Thread Cert.MemkvBwdIdeal.nD Cert.MemkvBwdIdeal.τ).loc Cert.MemkvBwdIdeal.main_arg2)) (m ((c.tc : Thread Cert.MemkvBwdIdeal.nD Cert.MemkvBwdIdeal.τ).loc Cert.MemkvBwdIdeal.main_arg3))) = (fun _ => 1#1)

def Pre_MemkvBwdRefIdeal (m : (ℓ : Loc Cert.MemkvBwdRefIdeal.nD Cert.MemkvBwdRefIdeal.τ Cert.MemkvBwdRefIdeal.sig) → Buf (Elt Ideal) ℓ) : Prop :=
  True

def Pre_MemkvBwdRefIdeal_real_memkv_bwd [hPre_real_memkv_bwd : Cert.Pre_real_memkv_bwd.Facts] (m : (ℓ : Loc Cert.MemkvBwdRefIdeal.nD Cert.MemkvBwdRefIdeal.τ Cert.MemkvBwdRefIdeal.sig) → Buf (Elt Ideal) ℓ) : Prop :=
  ∀ c : Dev Cert.MemkvBwdRefIdeal.nD,
    (Cert.Pre_real_memkv_bwd.fn (F := Ideal) (m ((c.tc : Thread Cert.MemkvBwdRefIdeal.nD Cert.MemkvBwdRefIdeal.τ).loc Cert.MemkvBwdRefIdeal.main_arg0)) (m ((c.tc : Thread Cert.MemkvBwdRefIdeal.nD Cert.MemkvBwdRefIdeal.τ).loc Cert.MemkvBwdRefIdeal.main_arg1)) (m ((c.tc : Thread Cert.MemkvBwdRefIdeal.nD Cert.MemkvBwdRefIdeal.τ).loc Cert.MemkvBwdRefIdeal.main_arg2)) (m ((c.tc : Thread Cert.MemkvBwdRefIdeal.nD Cert.MemkvBwdRefIdeal.τ).loc Cert.MemkvBwdRefIdeal.main_arg3))) = (fun _ => 1#1)

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_RpbExpand (m : (ℓ : Loc Cert.RpbExpand.nD Cert.RpbExpand.τ Cert.RpbExpand.sig) → Buf (Elt Bits) ℓ) : Prop :=
  True

def Pre_RpbExpandIdeal (m : (ℓ : Loc Cert.RpbExpandIdeal.nD Cert.RpbExpandIdeal.τ Cert.RpbExpandIdeal.sig) → Buf (Elt Ideal) ℓ) : Prop :=
  True

def Pre_RpbExpandRefIdeal (m : (ℓ : Loc Cert.RpbExpandRefIdeal.nD Cert.RpbExpandRefIdeal.τ Cert.RpbExpandRefIdeal.sig) → Buf (Elt Ideal) ℓ) : Prop :=
  True

def Pre_RpbReduce (m : (ℓ : Loc Cert.RpbReduce.nD Cert.RpbReduce.τ Cert.RpbReduce.sig) → Buf (Elt Bits) ℓ) : Prop :=
  True

def Pre_RpbReduceIdeal (m : (ℓ : Loc Cert.RpbReduceIdeal.nD Cert.RpbReduceIdeal.τ Cert.RpbReduceIdeal.sig) → Buf (Elt Ideal) ℓ) : Prop :=
  True

def Pre_RpbReduceRefIdeal (m : (ℓ : Loc Cert.RpbReduceRefIdeal.nD Cert.RpbReduceRefIdeal.τ Cert.RpbReduceRefIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdIdeal_pre_real_scores [hMemBwdIdeal : Cert.MemBwdIdeal.Facts] [hPre_real_scores : Cert.Pre_real_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_real_scores m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3))
      ∧ r.2.sem = fun _ => 0)

def quiescent_MemBwdRefIdeal_pre_real_scores [hMemBwdRefIdeal : Cert.MemBwdRefIdeal.Facts] [hPre_real_scores : Cert.Pre_real_scores.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal_real_scores m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_FfnOutBwd [hFfnOutBwd : Cert.FfnOutBwd.Facts] : Prop :=
  ∀ (m : (ℓ : Loc Cert.FfnOutBwd.nD Cert.FfnOutBwd.τ Cert.FfnOutBwd.sig) → Buf (Elt Bits) ℓ) (g : Dev Cert.FfnOutBwd.nD → PrngReg), Pre_FfnOutBwd m →
    θ_run (Cert.FfnOutBwd.defs (F := Bits)) (onTc (τ := Cert.FfnOutBwd.τ) (Cert.FfnOutBwd.main (F := Bits))) ⟨m, fun _ => 0, g⟩ (fun r => (∀ c : Dev Cert.FfnOutBwd.nD,
      r.2.mem ((c.tc : Thread Cert.FfnOutBwd.nD Cert.FfnOutBwd.τ).loc Cert.FfnOutBwd.main_arg0) = m ((c.tc : Thread Cert.FfnOutBwd.nD Cert.FfnOutBwd.τ).loc Cert.FfnOutBwd.main_arg0)
      ∧ r.2.mem ((c.tc : Thread Cert.FfnOutBwd.nD Cert.FfnOutBwd.τ).loc Cert.FfnOutBwd.main_arg1) = m ((c.tc : Thread Cert.FfnOutBwd.nD Cert.FfnOutBwd.τ).loc Cert.FfnOutBwd.main_arg1)
      ∧ r.2.mem ((c.tc : Thread Cert.FfnOutBwd.nD Cert.FfnOutBwd.τ).loc Cert.FfnOutBwd.main_arg2) = m ((c.tc : Thread Cert.FfnOutBwd.nD Cert.FfnOutBwd.τ).loc Cert.FfnOutBwd.main_arg2)
      ∧ r.2.mem ((c.tc : Thread Cert.FfnOutBwd.nD Cert.FfnOutBwd.τ).loc Cert.FfnOutBwd.main_arg3) = m ((c.tc : Thread Cert.FfnOutBwd.nD Cert.FfnOutBwd.τ).loc Cert.FfnOutBwd.main_arg3))
      ∧ r.2.sem = fun _ => 0)

def quiescent_FfnOutBwdIdeal [hFfnOutBwdIdeal : Cert.FfnOutBwdIdeal.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdIdeal_pre_real_ffn [hFfnOutBwdIdeal : Cert.FfnOutBwdIdeal.Facts] [hPre_real_ffn : Cert.Pre_real_ffn.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal_real_ffn m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdRefIdeal [hFfnOutBwdRefIdeal : Cert.FfnOutBwdRefIdeal.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_FfnOutBwdRefIdeal_pre_real_ffn [hFfnOutBwdRefIdeal : Cert.FfnOutBwdRefIdeal.Facts] [hPre_real_ffn : Cert.Pre_real_ffn.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal_real_ffn m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2)
      ∧ r.2.mem ((c.tc : Thread Cert.GateDx.nD Cert.GateDx.τ).loc Cert.GateDx.main_arg3) = m ((c.tc : Thread Cert.GateDx.nD Cert.GateDx.τ).loc Cert.GateDx.main_arg3)
      ∧ r.2.mem ((c.tc : Thread Cert.GateDx.nD Cert.GateDx.τ).loc Cert.GateDx.main_arg4) = m ((c.tc : Thread Cert.GateDx.nD Cert.GateDx.τ).loc Cert.GateDx.main_arg4)
      ∧ r.2.mem ((c.tc : Thread Cert.GateDx.nD Cert.GateDx.τ).loc Cert.GateDx.main_arg5) = m ((c.tc : Thread Cert.GateDx.nD Cert.GateDx.τ).loc Cert.GateDx.main_arg5))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
      ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4)
      ∧ r.2.mem ((c.tc : Thread Cert.GateDxIdeal.nD Cert.GateDxIdeal.τ).loc Cert.GateDxIdeal.main_arg5) = m ((c.tc : Thread Cert.GateDxIdeal.nD Cert.GateDxIdeal.τ).loc Cert.GateDxIdeal.main_arg5))
      ∧ r.2.sem = fun _ => 0)

def quiescent_GateDxIdeal_pre_real_norm [hGateDxIdeal : Cert.GateDxIdeal.Facts] [hPre_real_norm : Cert.Pre_real_norm.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal_real_norm m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
      ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4)
      ∧ r.2.mem ((c.tc : Thread Cert.GateDxIdeal.nD Cert.GateDxIdeal.τ).loc Cert.GateDxIdeal.main_arg5) = m ((c.tc : Thread Cert.GateDxIdeal.nD Cert.GateDxIdeal.τ).loc Cert.GateDxIdeal.main_arg5))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2)
      ∧ r.2.mem ((c.tc : Thread Cert.GateDxRefIdeal.nD Cert.GateDxRefIdeal.τ).loc Cert.GateDxRefIdeal.main_arg3) = m ((c.tc : Thread Cert.GateDxRefIdeal.nD Cert.GateDxRefIdeal.τ).loc Cert.GateDxRefIdeal.main_arg3)
      ∧ r.2.mem ((c.tc : Thread Cert.GateDxRefIdeal.nD Cert.GateDxRefIdeal.τ).loc Cert.GateDxRefIdeal.main_arg4) = m ((c.tc : Thread Cert.GateDxRefIdeal.nD Cert.GateDxRefIdeal.τ).loc Cert.GateDxRefIdeal.main_arg4)
      ∧ r.2.mem ((c.tc : Thread Cert.GateDxRefIdeal.nD Cert.GateDxRefIdeal.τ).loc Cert.GateDxRefIdeal.main_arg5) = m ((c.tc : Thread Cert.GateDxRefIdeal.nD Cert.GateDxRefIdeal.τ).loc Cert.GateDxRefIdeal.main_arg5))
      ∧ r.2.sem = fun _ => 0)

def quiescent_GateDxRefIdeal_pre_real_norm [hGateDxRefIdeal : Cert.GateDxRefIdeal.Facts] [hPre_real_norm : Cert.Pre_real_norm.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal_real_norm m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2)
      ∧ r.2.mem ((c.tc : Thread Cert.GateDxRefIdeal.nD Cert.GateDxRefIdeal.τ).loc Cert.GateDxRefIdeal.main_arg3) = m ((c.tc : Thread Cert.GateDxRefIdeal.nD Cert.GateDxRefIdeal.τ).loc Cert.GateDxRefIdeal.main_arg3)
      ∧ r.2.mem ((c.tc : Thread Cert.GateDxRefIdeal.nD Cert.GateDxRefIdeal.τ).loc Cert.GateDxRefIdeal.main_arg4) = m ((c.tc : Thread Cert.GateDxRefIdeal.nD Cert.GateDxRefIdeal.τ).loc Cert.GateDxRefIdeal.main_arg4)
      ∧ r.2.mem ((c.tc : Thread Cert.GateDxRefIdeal.nD Cert.GateDxRefIdeal.τ).loc Cert.GateDxRefIdeal.main_arg5) = m ((c.tc : Thread Cert.GateDxRefIdeal.nD Cert.GateDxRefIdeal.τ).loc Cert.GateDxRefIdeal.main_arg5))
      ∧ r.2.sem = fun _ => 0)

def quiescent_FfnInDxG [hFfnInDxG : Cert.FfnInDxG.Facts] : Prop :=
  ∀ (m : (ℓ : Loc Cert.FfnInDxG.nD Cert.FfnInDxG.τ Cert.FfnInDxG.sig) → Buf (Elt Bits) ℓ) (g : Dev Cert.FfnInDxG.nD → PrngReg), Pre_FfnInDxG m →
    θ_run (Cert.FfnInDxG.defs (F := Bits)) (onTc (τ := Cert.FfnInDxG.τ) (Cert.FfnInDxG.main (F := Bits))) ⟨m, fun _ => 0, g⟩ (fun r => (∀ c : Dev Cert.FfnInDxG.nD,
      r.2.mem ((c.tc : Thread Cert.FfnInDxG.nD Cert.FfnInDxG.τ).loc Cert.FfnInDxG.main_arg0) = m ((c.tc : Thread Cert.FfnInDxG.nD Cert.FfnInDxG.τ).loc Cert.FfnInDxG.main_arg0)
      ∧ r.2.mem ((c.tc : Thread Cert.FfnInDxG.nD Cert.FfnInDxG.τ).loc Cert.FfnInDxG.main_arg1) = m ((c.tc : Thread Cert.FfnInDxG.nD Cert.FfnInDxG.τ).loc Cert.FfnInDxG.main_arg1)
      ∧ r.2.mem ((c.tc : Thread Cert.FfnInDxG.nD Cert.FfnInDxG.τ).loc Cert.FfnInDxG.main_arg2) = m ((c.tc : Thread Cert.FfnInDxG.nD Cert.FfnInDxG.τ).loc Cert.FfnInDxG.main_arg2)
      ∧ r.2.mem ((c.tc : Thread Cert.FfnInDxG.nD Cert.FfnInDxG.τ).loc Cert.FfnInDxG.main_arg3) = m ((c.tc : Thread Cert.FfnInDxG.nD Cert.FfnInDxG.τ).loc Cert.FfnInDxG.main_arg3)
      ∧ r.2.mem ((c.tc : Thread Cert.FfnInDxG.nD Cert.FfnInDxG.τ).loc Cert.FfnInDxG.main_arg4) = m ((c.tc : Thread Cert.FfnInDxG.nD Cert.FfnInDxG.τ).loc Cert.FfnInDxG.main_arg4)
      ∧ r.2.mem ((c.tc : Thread Cert.FfnInDxG.nD Cert.FfnInDxG.τ).loc Cert.FfnInDxG.main_arg5) = m ((c.tc : Thread Cert.FfnInDxG.nD Cert.FfnInDxG.τ).loc Cert.FfnInDxG.main_arg5))
      ∧ r.2.sem = fun _ => 0)

def quiescent_FfnInDxGIdeal [hFfnInDxGIdeal : Cert.FfnInDxGIdeal.Facts] : Prop :=
  ∀ (m : (ℓ : Loc Cert.FfnInDxGIdeal.nD Cert.FfnInDxGIdeal.τ Cert.FfnInDxGIdeal.sig) → Buf (Elt Ideal) ℓ) (g : Dev Cert.FfnInDxGIdeal.nD → PrngReg), Pre_FfnInDxGIdeal m →
    θ_run (Cert.FfnInDxGIdeal.defs (F := Ideal)) (onTc (τ := Cert.FfnInDxGIdeal.τ) (Cert.FfnInDxGIdeal.main (F := Ideal))) ⟨m, fun _ => 0, g⟩ (fun r => (∀ c : Dev Cert.FfnInDxGIdeal.nD,
      r.2.mem ((c.tc : Thread Cert.FfnInDxGIdeal.nD Cert.FfnInDxGIdeal.τ).loc Cert.FfnInDxGIdeal.main_arg0) = m ((c.tc : Thread Cert.FfnInDxGIdeal.nD Cert.FfnInDxGIdeal.τ).loc Cert.FfnInDxGIdeal.main_arg0)
      ∧ r.2.mem ((c.tc : Thread Cert.FfnInDxGIdeal.nD Cert.FfnInDxGIdeal.τ).loc Cert.FfnInDxGIdeal.main_arg1) = m ((c.tc : Thread Cert.FfnInDxGIdeal.nD Cert.FfnInDxGIdeal.τ).loc Cert.FfnInDxGIdeal.main_arg1)
      ∧ r.2.mem ((c.tc : Thread Cert.FfnInDxGIdeal.nD Cert.FfnInDxGIdeal.τ).loc Cert.FfnInDxGIdeal.main_arg2) = m ((c.tc : Thread Cert.FfnInDxGIdeal.nD Cert.FfnInDxGIdeal.τ).loc Cert.FfnInDxGIdeal.main_arg2)
      ∧ r.2.mem ((c.tc : Thread Cert.FfnInDxGIdeal.nD Cert.FfnInDxGIdeal.τ).loc Cert.FfnInDxGIdeal.main_arg3) = m ((c.tc : Thread Cert.FfnInDxGIdeal.nD Cert.FfnInDxGIdeal.τ).loc Cert.FfnInDxGIdeal.main_arg3)
      ∧ r.2.mem ((c.tc : Thread Cert.FfnInDxGIdeal.nD Cert.FfnInDxGIdeal.τ).loc Cert.FfnInDxGIdeal.main_arg4) = m ((c.tc : Thread Cert.FfnInDxGIdeal.nD Cert.FfnInDxGIdeal.τ).loc Cert.FfnInDxGIdeal.main_arg4)
      ∧ r.2.mem ((c.tc : Thread Cert.FfnInDxGIdeal.nD Cert.FfnInDxGIdeal.τ).loc Cert.FfnInDxGIdeal.main_arg5) = m ((c.tc : Thread Cert.FfnInDxGIdeal.nD Cert.FfnInDxGIdeal.τ).loc Cert.FfnInDxGIdeal.main_arg5))
      ∧ r.2.sem = fun _ => 0)

def quiescent_FfnInDxGIdeal_pre_real_norm_half [hFfnInDxGIdeal : Cert.FfnInDxGIdeal.Facts] [hPre_real_norm_half : Cert.Pre_real_norm_half.Facts] : Prop :=
  ∀ (m : (ℓ : Loc Cert.FfnInDxGIdeal.nD Cert.FfnInDxGIdeal.τ Cert.FfnInDxGIdeal.sig) → Buf (Elt Ideal) ℓ) (g : Dev Cert.FfnInDxGIdeal.nD → PrngReg), Pre_FfnInDxGIdeal_real_norm_half m →
    θ_run (Cert.FfnInDxGIdeal.defs (F := Ideal)) (onTc (τ := Cert.FfnInDxGIdeal.τ) (Cert.FfnInDxGIdeal.main (F := Ideal))) ⟨m, fun _ => 0, g⟩ (fun r => (∀ c : Dev Cert.FfnInDxGIdeal.nD,
      r.2.mem ((c.tc : Thread Cert.FfnInDxGIdeal.nD Cert.FfnInDxGIdeal.τ).loc Cert.FfnInDxGIdeal.main_arg0) = m ((c.tc : Thread Cert.FfnInDxGIdeal.nD Cert.FfnInDxGIdeal.τ).loc Cert.FfnInDxGIdeal.main_arg0)
      ∧ r.2.mem ((c.tc : Thread Cert.FfnInDxGIdeal.nD Cert.FfnInDxGIdeal.τ).loc Cert.FfnInDxGIdeal.main_arg1) = m ((c.tc : Thread Cert.FfnInDxGIdeal.nD Cert.FfnInDxGIdeal.τ).loc Cert.FfnInDxGIdeal.main_arg1)
      ∧ r.2.mem ((c.tc : Thread Cert.FfnInDxGIdeal.nD Cert.FfnInDxGIdeal.τ).loc Cert.FfnInDxGIdeal.main_arg2) = m ((c.tc : Thread Cert.FfnInDxGIdeal.nD Cert.FfnInDxGIdeal.τ).loc Cert.FfnInDxGIdeal.main_arg2)
      ∧ r.2.mem ((c.tc : Thread Cert.FfnInDxGIdeal.nD Cert.FfnInDxGIdeal.τ).loc Cert.FfnInDxGIdeal.main_arg3) = m ((c.tc : Thread Cert.FfnInDxGIdeal.nD Cert.FfnInDxGIdeal.τ).loc Cert.FfnInDxGIdeal.main_arg3)
      ∧ r.2.mem ((c.tc : Thread Cert.FfnInDxGIdeal.nD Cert.FfnInDxGIdeal.τ).loc Cert.FfnInDxGIdeal.main_arg4) = m ((c.tc : Thread Cert.FfnInDxGIdeal.nD Cert.FfnInDxGIdeal.τ).loc Cert.FfnInDxGIdeal.main_arg4)
      ∧ r.2.mem ((c.tc : Thread Cert.FfnInDxGIdeal.nD Cert.FfnInDxGIdeal.τ).loc Cert.FfnInDxGIdeal.main_arg5) = m ((c.tc : Thread Cert.FfnInDxGIdeal.nD Cert.FfnInDxGIdeal.τ).loc Cert.FfnInDxGIdeal.main_arg5))
      ∧ r.2.sem = fun _ => 0)

def quiescent_FfnInDxGRefIdeal [hFfnInDxGRefIdeal : Cert.FfnInDxGRefIdeal.Facts] : Prop :=
  ∀ (m : (ℓ : Loc Cert.FfnInDxGRefIdeal.nD Cert.FfnInDxGRefIdeal.τ Cert.FfnInDxGRefIdeal.sig) → Buf (Elt Ideal) ℓ) (g : Dev Cert.FfnInDxGRefIdeal.nD → PrngReg), Pre_FfnInDxGRefIdeal m →
    θ_run (Cert.FfnInDxGRefIdeal.defs (F := Ideal)) (onTc (τ := Cert.FfnInDxGRefIdeal.τ) (Cert.FfnInDxGRefIdeal.main (F := Ideal))) ⟨m, fun _ => 0, g⟩ (fun r => (∀ c : Dev Cert.FfnInDxGRefIdeal.nD,
      r.2.mem ((c.tc : Thread Cert.FfnInDxGRefIdeal.nD Cert.FfnInDxGRefIdeal.τ).loc Cert.FfnInDxGRefIdeal.main_arg0) = m ((c.tc : Thread Cert.FfnInDxGRefIdeal.nD Cert.FfnInDxGRefIdeal.τ).loc Cert.FfnInDxGRefIdeal.main_arg0)
      ∧ r.2.mem ((c.tc : Thread Cert.FfnInDxGRefIdeal.nD Cert.FfnInDxGRefIdeal.τ).loc Cert.FfnInDxGRefIdeal.main_arg1) = m ((c.tc : Thread Cert.FfnInDxGRefIdeal.nD Cert.FfnInDxGRefIdeal.τ).loc Cert.FfnInDxGRefIdeal.main_arg1)
      ∧ r.2.mem ((c.tc : Thread Cert.FfnInDxGRefIdeal.nD Cert.FfnInDxGRefIdeal.τ).loc Cert.FfnInDxGRefIdeal.main_arg2) = m ((c.tc : Thread Cert.FfnInDxGRefIdeal.nD Cert.FfnInDxGRefIdeal.τ).loc Cert.FfnInDxGRefIdeal.main_arg2)
      ∧ r.2.mem ((c.tc : Thread Cert.FfnInDxGRefIdeal.nD Cert.FfnInDxGRefIdeal.τ).loc Cert.FfnInDxGRefIdeal.main_arg3) = m ((c.tc : Thread Cert.FfnInDxGRefIdeal.nD Cert.FfnInDxGRefIdeal.τ).loc Cert.FfnInDxGRefIdeal.main_arg3)
      ∧ r.2.mem ((c.tc : Thread Cert.FfnInDxGRefIdeal.nD Cert.FfnInDxGRefIdeal.τ).loc Cert.FfnInDxGRefIdeal.main_arg4) = m ((c.tc : Thread Cert.FfnInDxGRefIdeal.nD Cert.FfnInDxGRefIdeal.τ).loc Cert.FfnInDxGRefIdeal.main_arg4)
      ∧ r.2.mem ((c.tc : Thread Cert.FfnInDxGRefIdeal.nD Cert.FfnInDxGRefIdeal.τ).loc Cert.FfnInDxGRefIdeal.main_arg5) = m ((c.tc : Thread Cert.FfnInDxGRefIdeal.nD Cert.FfnInDxGRefIdeal.τ).loc Cert.FfnInDxGRefIdeal.main_arg5))
      ∧ r.2.sem = fun _ => 0)

def quiescent_FfnInDxGRefIdeal_pre_real_norm_half [hFfnInDxGRefIdeal : Cert.FfnInDxGRefIdeal.Facts] [hPre_real_norm_half : Cert.Pre_real_norm_half.Facts] : Prop :=
  ∀ (m : (ℓ : Loc Cert.FfnInDxGRefIdeal.nD Cert.FfnInDxGRefIdeal.τ Cert.FfnInDxGRefIdeal.sig) → Buf (Elt Ideal) ℓ) (g : Dev Cert.FfnInDxGRefIdeal.nD → PrngReg), Pre_FfnInDxGRefIdeal_real_norm_half m →
    θ_run (Cert.FfnInDxGRefIdeal.defs (F := Ideal)) (onTc (τ := Cert.FfnInDxGRefIdeal.τ) (Cert.FfnInDxGRefIdeal.main (F := Ideal))) ⟨m, fun _ => 0, g⟩ (fun r => (∀ c : Dev Cert.FfnInDxGRefIdeal.nD,
      r.2.mem ((c.tc : Thread Cert.FfnInDxGRefIdeal.nD Cert.FfnInDxGRefIdeal.τ).loc Cert.FfnInDxGRefIdeal.main_arg0) = m ((c.tc : Thread Cert.FfnInDxGRefIdeal.nD Cert.FfnInDxGRefIdeal.τ).loc Cert.FfnInDxGRefIdeal.main_arg0)
      ∧ r.2.mem ((c.tc : Thread Cert.FfnInDxGRefIdeal.nD Cert.FfnInDxGRefIdeal.τ).loc Cert.FfnInDxGRefIdeal.main_arg1) = m ((c.tc : Thread Cert.FfnInDxGRefIdeal.nD Cert.FfnInDxGRefIdeal.τ).loc Cert.FfnInDxGRefIdeal.main_arg1)
      ∧ r.2.mem ((c.tc : Thread Cert.FfnInDxGRefIdeal.nD Cert.FfnInDxGRefIdeal.τ).loc Cert.FfnInDxGRefIdeal.main_arg2) = m ((c.tc : Thread Cert.FfnInDxGRefIdeal.nD Cert.FfnInDxGRefIdeal.τ).loc Cert.FfnInDxGRefIdeal.main_arg2)
      ∧ r.2.mem ((c.tc : Thread Cert.FfnInDxGRefIdeal.nD Cert.FfnInDxGRefIdeal.τ).loc Cert.FfnInDxGRefIdeal.main_arg3) = m ((c.tc : Thread Cert.FfnInDxGRefIdeal.nD Cert.FfnInDxGRefIdeal.τ).loc Cert.FfnInDxGRefIdeal.main_arg3)
      ∧ r.2.mem ((c.tc : Thread Cert.FfnInDxGRefIdeal.nD Cert.FfnInDxGRefIdeal.τ).loc Cert.FfnInDxGRefIdeal.main_arg4) = m ((c.tc : Thread Cert.FfnInDxGRefIdeal.nD Cert.FfnInDxGRefIdeal.τ).loc Cert.FfnInDxGRefIdeal.main_arg4)
      ∧ r.2.mem ((c.tc : Thread Cert.FfnInDxGRefIdeal.nD Cert.FfnInDxGRefIdeal.τ).loc Cert.FfnInDxGRefIdeal.main_arg5) = m ((c.tc : Thread Cert.FfnInDxGRefIdeal.nD Cert.FfnInDxGRefIdeal.τ).loc Cert.FfnInDxGRefIdeal.main_arg5))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_FfnInDxA [hFfnInDxA : Cert.FfnInDxA.Facts] : Prop :=
  ∀ (m : (ℓ : Loc Cert.FfnInDxA.nD Cert.FfnInDxA.τ Cert.FfnInDxA.sig) → Buf (Elt Bits) ℓ) (g : Dev Cert.FfnInDxA.nD → PrngReg), Pre_FfnInDxA m →
    θ_run (Cert.FfnInDxA.defs (F := Bits)) (onTc (τ := Cert.FfnInDxA.τ) (Cert.FfnInDxA.main (F := Bits))) ⟨m, fun _ => 0, g⟩ (fun r => (∀ c : Dev Cert.FfnInDxA.nD,
      r.2.mem ((c.tc : Thread Cert.FfnInDxA.nD Cert.FfnInDxA.τ).loc Cert.FfnInDxA.main_arg0) = m ((c.tc : Thread Cert.FfnInDxA.nD Cert.FfnInDxA.τ).loc Cert.FfnInDxA.main_arg0)
      ∧ r.2.mem ((c.tc : Thread Cert.FfnInDxA.nD Cert.FfnInDxA.τ).loc Cert.FfnInDxA.main_arg1) = m ((c.tc : Thread Cert.FfnInDxA.nD Cert.FfnInDxA.τ).loc Cert.FfnInDxA.main_arg1))
      ∧ r.2.sem = fun _ => 0)

def quiescent_FfnInDxAIdeal [hFfnInDxAIdeal : Cert.FfnInDxAIdeal.Facts] : Prop :=
  ∀ (m : (ℓ : Loc Cert.FfnInDxAIdeal.nD Cert.FfnInDxAIdeal.τ Cert.FfnInDxAIdeal.sig) → Buf (Elt Ideal) ℓ) (g : Dev Cert.FfnInDxAIdeal.nD → PrngReg), Pre_FfnInDxAIdeal m →
    θ_run (Cert.FfnInDxAIdeal.defs (F := Ideal)) (onTc (τ := Cert.FfnInDxAIdeal.τ) (Cert.FfnInDxAIdeal.main (F := Ideal))) ⟨m, fun _ => 0, g⟩ (fun r => (∀ c : Dev Cert.FfnInDxAIdeal.nD,
      r.2.mem ((c.tc : Thread Cert.FfnInDxAIdeal.nD Cert.FfnInDxAIdeal.τ).loc Cert.FfnInDxAIdeal.main_arg0) = m ((c.tc : Thread Cert.FfnInDxAIdeal.nD Cert.FfnInDxAIdeal.τ).loc Cert.FfnInDxAIdeal.main_arg0)
      ∧ r.2.mem ((c.tc : Thread Cert.FfnInDxAIdeal.nD Cert.FfnInDxAIdeal.τ).loc Cert.FfnInDxAIdeal.main_arg1) = m ((c.tc : Thread Cert.FfnInDxAIdeal.nD Cert.FfnInDxAIdeal.τ).loc Cert.FfnInDxAIdeal.main_arg1))
      ∧ r.2.sem = fun _ => 0)

def quiescent_FfnInDxARefIdeal [hFfnInDxARefIdeal : Cert.FfnInDxARefIdeal.Facts] : Prop :=
  ∀ (m : (ℓ : Loc Cert.FfnInDxARefIdeal.nD Cert.FfnInDxARefIdeal.τ Cert.FfnInDxARefIdeal.sig) → Buf (Elt Ideal) ℓ) (g : Dev Cert.FfnInDxARefIdeal.nD → PrngReg), Pre_FfnInDxARefIdeal m →
    θ_run (Cert.FfnInDxARefIdeal.defs (F := Ideal)) (onTc (τ := Cert.FfnInDxARefIdeal.τ) (Cert.FfnInDxARefIdeal.main (F := Ideal))) ⟨m, fun _ => 0, g⟩ (fun r => (∀ c : Dev Cert.FfnInDxARefIdeal.nD,
      r.2.mem ((c.tc : Thread Cert.FfnInDxARefIdeal.nD Cert.FfnInDxARefIdeal.τ).loc Cert.FfnInDxARefIdeal.main_arg0) = m ((c.tc : Thread Cert.FfnInDxARefIdeal.nD Cert.FfnInDxARefIdeal.τ).loc Cert.FfnInDxARefIdeal.main_arg0)
      ∧ r.2.mem ((c.tc : Thread Cert.FfnInDxARefIdeal.nD Cert.FfnInDxARefIdeal.τ).loc Cert.FfnInDxARefIdeal.main_arg1) = m ((c.tc : Thread Cert.FfnInDxARefIdeal.nD Cert.FfnInDxARefIdeal.τ).loc Cert.FfnInDxARefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_FfnInDwA [hFfnInDwA : Cert.FfnInDwA.Facts] : Prop :=
  ∀ (m : (ℓ : Loc Cert.FfnInDwA.nD Cert.FfnInDwA.τ Cert.FfnInDwA.sig) → Buf (Elt Bits) ℓ) (g : Dev Cert.FfnInDwA.nD → PrngReg), Pre_FfnInDwA m →
    θ_run (Cert.FfnInDwA.defs (F := Bits)) (onTc (τ := Cert.FfnInDwA.τ) (Cert.FfnInDwA.main (F := Bits))) ⟨m, fun _ => 0, g⟩ (fun r => (∀ c : Dev Cert.FfnInDwA.nD,
      r.2.mem ((c.tc : Thread Cert.FfnInDwA.nD Cert.FfnInDwA.τ).loc Cert.FfnInDwA.main_arg0) = m ((c.tc : Thread Cert.FfnInDwA.nD Cert.FfnInDwA.τ).loc Cert.FfnInDwA.main_arg0)
      ∧ r.2.mem ((c.tc : Thread Cert.FfnInDwA.nD Cert.FfnInDwA.τ).loc Cert.FfnInDwA.main_arg1) = m ((c.tc : Thread Cert.FfnInDwA.nD Cert.FfnInDwA.τ).loc Cert.FfnInDwA.main_arg1)
      ∧ r.2.mem ((c.tc : Thread Cert.FfnInDwA.nD Cert.FfnInDwA.τ).loc Cert.FfnInDwA.main_arg2) = m ((c.tc : Thread Cert.FfnInDwA.nD Cert.FfnInDwA.τ).loc Cert.FfnInDwA.main_arg2))
      ∧ r.2.sem = fun _ => 0)

def quiescent_FfnInDwAIdeal [hFfnInDwAIdeal : Cert.FfnInDwAIdeal.Facts] : Prop :=
  ∀ (m : (ℓ : Loc Cert.FfnInDwAIdeal.nD Cert.FfnInDwAIdeal.τ Cert.FfnInDwAIdeal.sig) → Buf (Elt Ideal) ℓ) (g : Dev Cert.FfnInDwAIdeal.nD → PrngReg), Pre_FfnInDwAIdeal m →
    θ_run (Cert.FfnInDwAIdeal.defs (F := Ideal)) (onTc (τ := Cert.FfnInDwAIdeal.τ) (Cert.FfnInDwAIdeal.main (F := Ideal))) ⟨m, fun _ => 0, g⟩ (fun r => (∀ c : Dev Cert.FfnInDwAIdeal.nD,
      r.2.mem ((c.tc : Thread Cert.FfnInDwAIdeal.nD Cert.FfnInDwAIdeal.τ).loc Cert.FfnInDwAIdeal.main_arg0) = m ((c.tc : Thread Cert.FfnInDwAIdeal.nD Cert.FfnInDwAIdeal.τ).loc Cert.FfnInDwAIdeal.main_arg0)
      ∧ r.2.mem ((c.tc : Thread Cert.FfnInDwAIdeal.nD Cert.FfnInDwAIdeal.τ).loc Cert.FfnInDwAIdeal.main_arg1) = m ((c.tc : Thread Cert.FfnInDwAIdeal.nD Cert.FfnInDwAIdeal.τ).loc Cert.FfnInDwAIdeal.main_arg1)
      ∧ r.2.mem ((c.tc : Thread Cert.FfnInDwAIdeal.nD Cert.FfnInDwAIdeal.τ).loc Cert.FfnInDwAIdeal.main_arg2) = m ((c.tc : Thread Cert.FfnInDwAIdeal.nD Cert.FfnInDwAIdeal.τ).loc Cert.FfnInDwAIdeal.main_arg2))
      ∧ r.2.sem = fun _ => 0)

def quiescent_FfnInDwARefIdeal [hFfnInDwARefIdeal : Cert.FfnInDwARefIdeal.Facts] : Prop :=
  ∀ (m : (ℓ : Loc Cert.FfnInDwARefIdeal.nD Cert.FfnInDwARefIdeal.τ Cert.FfnInDwARefIdeal.sig) → Buf (Elt Ideal) ℓ) (g : Dev Cert.FfnInDwARefIdeal.nD → PrngReg), Pre_FfnInDwARefIdeal m →
    θ_run (Cert.FfnInDwARefIdeal.defs (F := Ideal)) (onTc (τ := Cert.FfnInDwARefIdeal.τ) (Cert.FfnInDwARefIdeal.main (F := Ideal))) ⟨m, fun _ => 0, g⟩ (fun r => (∀ c : Dev Cert.FfnInDwARefIdeal.nD,
      r.2.mem ((c.tc : Thread Cert.FfnInDwARefIdeal.nD Cert.FfnInDwARefIdeal.τ).loc Cert.FfnInDwARefIdeal.main_arg0) = m ((c.tc : Thread Cert.FfnInDwARefIdeal.nD Cert.FfnInDwARefIdeal.τ).loc Cert.FfnInDwARefIdeal.main_arg0)
      ∧ r.2.mem ((c.tc : Thread Cert.FfnInDwARefIdeal.nD Cert.FfnInDwARefIdeal.τ).loc Cert.FfnInDwARefIdeal.main_arg1) = m ((c.tc : Thread Cert.FfnInDwARefIdeal.nD Cert.FfnInDwARefIdeal.τ).loc Cert.FfnInDwARefIdeal.main_arg1)
      ∧ r.2.mem ((c.tc : Thread Cert.FfnInDwARefIdeal.nD Cert.FfnInDwARefIdeal.τ).loc Cert.FfnInDwARefIdeal.main_arg2) = m ((c.tc : Thread Cert.FfnInDwARefIdeal.nD Cert.FfnInDwARefIdeal.τ).loc Cert.FfnInDwARefIdeal.main_arg2))
      ∧ r.2.sem = fun _ => 0)

def quiescent_FfnInDwG [hFfnInDwG : Cert.FfnInDwG.Facts] : Prop :=
  ∀ (m : (ℓ : Loc Cert.FfnInDwG.nD Cert.FfnInDwG.τ Cert.FfnInDwG.sig) → Buf (Elt Bits) ℓ) (g : Dev Cert.FfnInDwG.nD → PrngReg), Pre_FfnInDwG m →
    θ_run (Cert.FfnInDwG.defs (F := Bits)) (onTc (τ := Cert.FfnInDwG.τ) (Cert.FfnInDwG.main (F := Bits))) ⟨m, fun _ => 0, g⟩ (fun r => (∀ c : Dev Cert.FfnInDwG.nD,
      r.2.mem ((c.tc : Thread Cert.FfnInDwG.nD Cert.FfnInDwG.τ).loc Cert.FfnInDwG.main_arg0) = m ((c.tc : Thread Cert.FfnInDwG.nD Cert.FfnInDwG.τ).loc Cert.FfnInDwG.main_arg0)
      ∧ r.2.mem ((c.tc : Thread Cert.FfnInDwG.nD Cert.FfnInDwG.τ).loc Cert.FfnInDwG.main_arg1) = m ((c.tc : Thread Cert.FfnInDwG.nD Cert.FfnInDwG.τ).loc Cert.FfnInDwG.main_arg1)
      ∧ r.2.mem ((c.tc : Thread Cert.FfnInDwG.nD Cert.FfnInDwG.τ).loc Cert.FfnInDwG.main_arg2) = m ((c.tc : Thread Cert.FfnInDwG.nD Cert.FfnInDwG.τ).loc Cert.FfnInDwG.main_arg2))
      ∧ r.2.sem = fun _ => 0)

def quiescent_FfnInDwGIdeal [hFfnInDwGIdeal : Cert.FfnInDwGIdeal.Facts] : Prop :=
  ∀ (m : (ℓ : Loc Cert.FfnInDwGIdeal.nD Cert.FfnInDwGIdeal.τ Cert.FfnInDwGIdeal.sig) → Buf (Elt Ideal) ℓ) (g : Dev Cert.FfnInDwGIdeal.nD → PrngReg), Pre_FfnInDwGIdeal m →
    θ_run (Cert.FfnInDwGIdeal.defs (F := Ideal)) (onTc (τ := Cert.FfnInDwGIdeal.τ) (Cert.FfnInDwGIdeal.main (F := Ideal))) ⟨m, fun _ => 0, g⟩ (fun r => (∀ c : Dev Cert.FfnInDwGIdeal.nD,
      r.2.mem ((c.tc : Thread Cert.FfnInDwGIdeal.nD Cert.FfnInDwGIdeal.τ).loc Cert.FfnInDwGIdeal.main_arg0) = m ((c.tc : Thread Cert.FfnInDwGIdeal.nD Cert.FfnInDwGIdeal.τ).loc Cert.FfnInDwGIdeal.main_arg0)
      ∧ r.2.mem ((c.tc : Thread Cert.FfnInDwGIdeal.nD Cert.FfnInDwGIdeal.τ).loc Cert.FfnInDwGIdeal.main_arg1) = m ((c.tc : Thread Cert.FfnInDwGIdeal.nD Cert.FfnInDwGIdeal.τ).loc Cert.FfnInDwGIdeal.main_arg1)
      ∧ r.2.mem ((c.tc : Thread Cert.FfnInDwGIdeal.nD Cert.FfnInDwGIdeal.τ).loc Cert.FfnInDwGIdeal.main_arg2) = m ((c.tc : Thread Cert.FfnInDwGIdeal.nD Cert.FfnInDwGIdeal.τ).loc Cert.FfnInDwGIdeal.main_arg2))
      ∧ r.2.sem = fun _ => 0)

def quiescent_FfnInDwGRefIdeal [hFfnInDwGRefIdeal : Cert.FfnInDwGRefIdeal.Facts] : Prop :=
  ∀ (m : (ℓ : Loc Cert.FfnInDwGRefIdeal.nD Cert.FfnInDwGRefIdeal.τ Cert.FfnInDwGRefIdeal.sig) → Buf (Elt Ideal) ℓ) (g : Dev Cert.FfnInDwGRefIdeal.nD → PrngReg), Pre_FfnInDwGRefIdeal m →
    θ_run (Cert.FfnInDwGRefIdeal.defs (F := Ideal)) (onTc (τ := Cert.FfnInDwGRefIdeal.τ) (Cert.FfnInDwGRefIdeal.main (F := Ideal))) ⟨m, fun _ => 0, g⟩ (fun r => (∀ c : Dev Cert.FfnInDwGRefIdeal.nD,
      r.2.mem ((c.tc : Thread Cert.FfnInDwGRefIdeal.nD Cert.FfnInDwGRefIdeal.τ).loc Cert.FfnInDwGRefIdeal.main_arg0) = m ((c.tc : Thread Cert.FfnInDwGRefIdeal.nD Cert.FfnInDwGRefIdeal.τ).loc Cert.FfnInDwGRefIdeal.main_arg0)
      ∧ r.2.mem ((c.tc : Thread Cert.FfnInDwGRefIdeal.nD Cert.FfnInDwGRefIdeal.τ).loc Cert.FfnInDwGRefIdeal.main_arg1) = m ((c.tc : Thread Cert.FfnInDwGRefIdeal.nD Cert.FfnInDwGRefIdeal.τ).loc Cert.FfnInDwGRefIdeal.main_arg1)
      ∧ r.2.mem ((c.tc : Thread Cert.FfnInDwGRefIdeal.nD Cert.FfnInDwGRefIdeal.τ).loc Cert.FfnInDwGRefIdeal.main_arg2) = m ((c.tc : Thread Cert.FfnInDwGRefIdeal.nD Cert.FfnInDwGRefIdeal.τ).loc Cert.FfnInDwGRefIdeal.main_arg2))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2)
      ∧ r.2.mem ((c.tc : Thread Cert.NormMemBwd.nD Cert.NormMemBwd.τ).loc Cert.NormMemBwd.main_arg3) = m ((c.tc : Thread Cert.NormMemBwd.nD Cert.NormMemBwd.τ).loc Cert.NormMemBwd.main_arg3))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2)
      ∧ r.2.mem ((c.tc : Thread Cert.NormMemBwdIdeal.nD Cert.NormMemBwdIdeal.τ).loc Cert.NormMemBwdIdeal.main_arg3) = m ((c.tc : Thread Cert.NormMemBwdIdeal.nD Cert.NormMemBwdIdeal.τ).loc Cert.NormMemBwdIdeal.main_arg3))
      ∧ r.2.sem = fun _ => 0)

def quiescent_NormMemBwdIdeal_pre_real_norm_mem [hNormMemBwdIdeal : Cert.NormMemBwdIdeal.Facts] [hPre_real_norm_mem : Cert.Pre_real_norm_mem.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal_real_norm_mem m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2)
      ∧ r.2.mem ((c.tc : Thread Cert.NormMemBwdIdeal.nD Cert.NormMemBwdIdeal.τ).loc Cert.NormMemBwdIdeal.main_arg3) = m ((c.tc : Thread Cert.NormMemBwdIdeal.nD Cert.NormMemBwdIdeal.τ).loc Cert.NormMemBwdIdeal.main_arg3))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2)
      ∧ r.2.mem ((c.tc : Thread Cert.NormMemBwdRefIdeal.nD Cert.NormMemBwdRefIdeal.τ).loc Cert.NormMemBwdRefIdeal.main_arg3) = m ((c.tc : Thread Cert.NormMemBwdRefIdeal.nD Cert.NormMemBwdRefIdeal.τ).loc Cert.NormMemBwdRefIdeal.main_arg3))
      ∧ r.2.sem = fun _ => 0)

def quiescent_NormMemBwdRefIdeal_pre_real_norm_mem [hNormMemBwdRefIdeal : Cert.NormMemBwdRefIdeal.Facts] [hPre_real_norm_mem : Cert.Pre_real_norm_mem.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal_real_norm_mem m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2)
      ∧ r.2.mem ((c.tc : Thread Cert.NormMemBwdRefIdeal.nD Cert.NormMemBwdRefIdeal.τ).loc Cert.NormMemBwdRefIdeal.main_arg3) = m ((c.tc : Thread Cert.NormMemBwdRefIdeal.nD Cert.NormMemBwdRefIdeal.τ).loc Cert.NormMemBwdRefIdeal.main_arg3))
      ∧ r.2.sem = fun _ => 0)

def quiescent_MemkvDw [hMemkvDw : Cert.MemkvDw.Facts] : Prop :=
  ∀ (m : (ℓ : Loc Cert.MemkvDw.nD Cert.MemkvDw.τ Cert.MemkvDw.sig) → Buf (Elt Bits) ℓ) (g : Dev Cert.MemkvDw.nD → PrngReg), Pre_MemkvDw m →
    θ_run (Cert.MemkvDw.defs (F := Bits)) (onTc (τ := Cert.MemkvDw.τ) (Cert.MemkvDw.main (F := Bits))) ⟨m, fun _ => 0, g⟩ (fun r => (∀ c : Dev Cert.MemkvDw.nD,
      r.2.mem ((c.tc : Thread Cert.MemkvDw.nD Cert.MemkvDw.τ).loc Cert.MemkvDw.main_arg0) = m ((c.tc : Thread Cert.MemkvDw.nD Cert.MemkvDw.τ).loc Cert.MemkvDw.main_arg0)
      ∧ r.2.mem ((c.tc : Thread Cert.MemkvDw.nD Cert.MemkvDw.τ).loc Cert.MemkvDw.main_arg1) = m ((c.tc : Thread Cert.MemkvDw.nD Cert.MemkvDw.τ).loc Cert.MemkvDw.main_arg1))
      ∧ r.2.sem = fun _ => 0)

def quiescent_MemkvDwIdeal [hMemkvDwIdeal : Cert.MemkvDwIdeal.Facts] : Prop :=
  ∀ (m : (ℓ : Loc Cert.MemkvDwIdeal.nD Cert.MemkvDwIdeal.τ Cert.MemkvDwIdeal.sig) → Buf (Elt Ideal) ℓ) (g : Dev Cert.MemkvDwIdeal.nD → PrngReg), Pre_MemkvDwIdeal m →
    θ_run (Cert.MemkvDwIdeal.defs (F := Ideal)) (onTc (τ := Cert.MemkvDwIdeal.τ) (Cert.MemkvDwIdeal.main (F := Ideal))) ⟨m, fun _ => 0, g⟩ (fun r => (∀ c : Dev Cert.MemkvDwIdeal.nD,
      r.2.mem ((c.tc : Thread Cert.MemkvDwIdeal.nD Cert.MemkvDwIdeal.τ).loc Cert.MemkvDwIdeal.main_arg0) = m ((c.tc : Thread Cert.MemkvDwIdeal.nD Cert.MemkvDwIdeal.τ).loc Cert.MemkvDwIdeal.main_arg0)
      ∧ r.2.mem ((c.tc : Thread Cert.MemkvDwIdeal.nD Cert.MemkvDwIdeal.τ).loc Cert.MemkvDwIdeal.main_arg1) = m ((c.tc : Thread Cert.MemkvDwIdeal.nD Cert.MemkvDwIdeal.τ).loc Cert.MemkvDwIdeal.main_arg1))
      ∧ r.2.sem = fun _ => 0)

def quiescent_MemkvDwRefIdeal [hMemkvDwRefIdeal : Cert.MemkvDwRefIdeal.Facts] : Prop :=
  ∀ (m : (ℓ : Loc Cert.MemkvDwRefIdeal.nD Cert.MemkvDwRefIdeal.τ Cert.MemkvDwRefIdeal.sig) → Buf (Elt Ideal) ℓ) (g : Dev Cert.MemkvDwRefIdeal.nD → PrngReg), Pre_MemkvDwRefIdeal m →
    θ_run (Cert.MemkvDwRefIdeal.defs (F := Ideal)) (onTc (τ := Cert.MemkvDwRefIdeal.τ) (Cert.MemkvDwRefIdeal.main (F := Ideal))) ⟨m, fun _ => 0, g⟩ (fun r => (∀ c : Dev Cert.MemkvDwRefIdeal.nD,
      r.2.mem ((c.tc : Thread Cert.MemkvDwRefIdeal.nD Cert.MemkvDwRefIdeal.τ).loc Cert.MemkvDwRefIdeal.main_arg0) = m ((c.tc : Thread Cert.MemkvDwRefIdeal.nD Cert.MemkvDwRefIdeal.τ).loc Cert.MemkvDwRefIdeal.main_arg0)
      ∧ r.2.mem ((c.tc : Thread Cert.MemkvDwRefIdeal.nD Cert.MemkvDwRefIdeal.τ).loc Cert.MemkvDwRefIdeal.main_arg1) = m ((c.tc : Thread Cert.MemkvDwRefIdeal.nD Cert.MemkvDwRefIdeal.τ).loc Cert.MemkvDwRefIdeal.main_arg1))
      ∧ r.2.sem = fun _ => 0)

def quiescent_MemkvDx [hMemkvDx : Cert.MemkvDx.Facts] : Prop :=
  ∀ (m : (ℓ : Loc Cert.MemkvDx.nD Cert.MemkvDx.τ Cert.MemkvDx.sig) → Buf (Elt Bits) ℓ) (g : Dev Cert.MemkvDx.nD → PrngReg), Pre_MemkvDx m →
    θ_run (Cert.MemkvDx.defs (F := Bits)) (onTc (τ := Cert.MemkvDx.τ) (Cert.MemkvDx.main (F := Bits))) ⟨m, fun _ => 0, g⟩ (fun r => (∀ c : Dev Cert.MemkvDx.nD,
      r.2.mem ((c.tc : Thread Cert.MemkvDx.nD Cert.MemkvDx.τ).loc Cert.MemkvDx.main_arg0) = m ((c.tc : Thread Cert.MemkvDx.nD Cert.MemkvDx.τ).loc Cert.MemkvDx.main_arg0)
      ∧ r.2.mem ((c.tc : Thread Cert.MemkvDx.nD Cert.MemkvDx.τ).loc Cert.MemkvDx.main_arg1) = m ((c.tc : Thread Cert.MemkvDx.nD Cert.MemkvDx.τ).loc Cert.MemkvDx.main_arg1))
      ∧ r.2.sem = fun _ => 0)

def quiescent_MemkvDxIdeal [hMemkvDxIdeal : Cert.MemkvDxIdeal.Facts] : Prop :=
  ∀ (m : (ℓ : Loc Cert.MemkvDxIdeal.nD Cert.MemkvDxIdeal.τ Cert.MemkvDxIdeal.sig) → Buf (Elt Ideal) ℓ) (g : Dev Cert.MemkvDxIdeal.nD → PrngReg), Pre_MemkvDxIdeal m →
    θ_run (Cert.MemkvDxIdeal.defs (F := Ideal)) (onTc (τ := Cert.MemkvDxIdeal.τ) (Cert.MemkvDxIdeal.main (F := Ideal))) ⟨m, fun _ => 0, g⟩ (fun r => (∀ c : Dev Cert.MemkvDxIdeal.nD,
      r.2.mem ((c.tc : Thread Cert.MemkvDxIdeal.nD Cert.MemkvDxIdeal.τ).loc Cert.MemkvDxIdeal.main_arg0) = m ((c.tc : Thread Cert.MemkvDxIdeal.nD Cert.MemkvDxIdeal.τ).loc Cert.MemkvDxIdeal.main_arg0)
      ∧ r.2.mem ((c.tc : Thread Cert.MemkvDxIdeal.nD Cert.MemkvDxIdeal.τ).loc Cert.MemkvDxIdeal.main_arg1) = m ((c.tc : Thread Cert.MemkvDxIdeal.nD Cert.MemkvDxIdeal.τ).loc Cert.MemkvDxIdeal.main_arg1))
      ∧ r.2.sem = fun _ => 0)

def quiescent_MemkvDxRefIdeal [hMemkvDxRefIdeal : Cert.MemkvDxRefIdeal.Facts] : Prop :=
  ∀ (m : (ℓ : Loc Cert.MemkvDxRefIdeal.nD Cert.MemkvDxRefIdeal.τ Cert.MemkvDxRefIdeal.sig) → Buf (Elt Ideal) ℓ) (g : Dev Cert.MemkvDxRefIdeal.nD → PrngReg), Pre_MemkvDxRefIdeal m →
    θ_run (Cert.MemkvDxRefIdeal.defs (F := Ideal)) (onTc (τ := Cert.MemkvDxRefIdeal.τ) (Cert.MemkvDxRefIdeal.main (F := Ideal))) ⟨m, fun _ => 0, g⟩ (fun r => (∀ c : Dev Cert.MemkvDxRefIdeal.nD,
      r.2.mem ((c.tc : Thread Cert.MemkvDxRefIdeal.nD Cert.MemkvDxRefIdeal.τ).loc Cert.MemkvDxRefIdeal.main_arg0) = m ((c.tc : Thread Cert.MemkvDxRefIdeal.nD Cert.MemkvDxRefIdeal.τ).loc Cert.MemkvDxRefIdeal.main_arg0)
      ∧ r.2.mem ((c.tc : Thread Cert.MemkvDxRefIdeal.nD Cert.MemkvDxRefIdeal.τ).loc Cert.MemkvDxRefIdeal.main_arg1) = m ((c.tc : Thread Cert.MemkvDxRefIdeal.nD Cert.MemkvDxRefIdeal.τ).loc Cert.MemkvDxRefIdeal.main_arg1))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_MmMemkv [hMmMemkv : Cert.MmMemkv.Facts] : Prop :=
  ∀ (m : (ℓ : Loc Cert.MmMemkv.nD Cert.MmMemkv.τ Cert.MmMemkv.sig) → Buf (Elt Bits) ℓ) (g : Dev Cert.MmMemkv.nD → PrngReg), Pre_MmMemkv m →
    θ_run (Cert.MmMemkv.defs (F := Bits)) (onTc (τ := Cert.MmMemkv.τ) (Cert.MmMemkv.main (F := Bits))) ⟨m, fun _ => 0, g⟩ (fun r => (∀ c : Dev Cert.MmMemkv.nD,
      r.2.mem ((c.tc : Thread Cert.MmMemkv.nD Cert.MmMemkv.τ).loc Cert.MmMemkv.main_arg0) = m ((c.tc : Thread Cert.MmMemkv.nD Cert.MmMemkv.τ).loc Cert.MmMemkv.main_arg0)
      ∧ r.2.mem ((c.tc : Thread Cert.MmMemkv.nD Cert.MmMemkv.τ).loc Cert.MmMemkv.main_arg1) = m ((c.tc : Thread Cert.MmMemkv.nD Cert.MmMemkv.τ).loc Cert.MmMemkv.main_arg1))
      ∧ r.2.sem = fun _ => 0)

def quiescent_MmMemkvIdeal [hMmMemkvIdeal : Cert.MmMemkvIdeal.Facts] : Prop :=
  ∀ (m : (ℓ : Loc Cert.MmMemkvIdeal.nD Cert.MmMemkvIdeal.τ Cert.MmMemkvIdeal.sig) → Buf (Elt Ideal) ℓ) (g : Dev Cert.MmMemkvIdeal.nD → PrngReg), Pre_MmMemkvIdeal m →
    θ_run (Cert.MmMemkvIdeal.defs (F := Ideal)) (onTc (τ := Cert.MmMemkvIdeal.τ) (Cert.MmMemkvIdeal.main (F := Ideal))) ⟨m, fun _ => 0, g⟩ (fun r => (∀ c : Dev Cert.MmMemkvIdeal.nD,
      r.2.mem ((c.tc : Thread Cert.MmMemkvIdeal.nD Cert.MmMemkvIdeal.τ).loc Cert.MmMemkvIdeal.main_arg0) = m ((c.tc : Thread Cert.MmMemkvIdeal.nD Cert.MmMemkvIdeal.τ).loc Cert.MmMemkvIdeal.main_arg0)
      ∧ r.2.mem ((c.tc : Thread Cert.MmMemkvIdeal.nD Cert.MmMemkvIdeal.τ).loc Cert.MmMemkvIdeal.main_arg1) = m ((c.tc : Thread Cert.MmMemkvIdeal.nD Cert.MmMemkvIdeal.τ).loc Cert.MmMemkvIdeal.main_arg1))
      ∧ r.2.sem = fun _ => 0)

def quiescent_MmMemkvRefIdeal [hMmMemkvRefIdeal : Cert.MmMemkvRefIdeal.Facts] : Prop :=
  ∀ (m : (ℓ : Loc Cert.MmMemkvRefIdeal.nD Cert.MmMemkvRefIdeal.τ Cert.MmMemkvRefIdeal.sig) → Buf (Elt Ideal) ℓ) (g : Dev Cert.MmMemkvRefIdeal.nD → PrngReg), Pre_MmMemkvRefIdeal m →
    θ_run (Cert.MmMemkvRefIdeal.defs (F := Ideal)) (onTc (τ := Cert.MmMemkvRefIdeal.τ) (Cert.MmMemkvRefIdeal.main (F := Ideal))) ⟨m, fun _ => 0, g⟩ (fun r => (∀ c : Dev Cert.MmMemkvRefIdeal.nD,
      r.2.mem ((c.tc : Thread Cert.MmMemkvRefIdeal.nD Cert.MmMemkvRefIdeal.τ).loc Cert.MmMemkvRefIdeal.main_arg0) = m ((c.tc : Thread Cert.MmMemkvRefIdeal.nD Cert.MmMemkvRefIdeal.τ).loc Cert.MmMemkvRefIdeal.main_arg0)
      ∧ r.2.mem ((c.tc : Thread Cert.MmMemkvRefIdeal.nD Cert.MmMemkvRefIdeal.τ).loc Cert.MmMemkvRefIdeal.main_arg1) = m ((c.tc : Thread Cert.MmMemkvRefIdeal.nD Cert.MmMemkvRefIdeal.τ).loc Cert.MmMemkvRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_FfnOutLast [hFfnOutLast : Cert.FfnOutLast.Facts] : Prop :=
  ∀ (m : (ℓ : Loc Cert.FfnOutLast.nD Cert.FfnOutLast.τ Cert.FfnOutLast.sig) → Buf (Elt Bits) ℓ) (g : Dev Cert.FfnOutLast.nD → PrngReg), Pre_FfnOutLast m →
    θ_run (Cert.FfnOutLast.defs (F := Bits)) (onTc (τ := Cert.FfnOutLast.τ) (Cert.FfnOutLast.main (F := Bits))) ⟨m, fun _ => 0, g⟩ (fun r => (∀ c : Dev Cert.FfnOutLast.nD,
      r.2.mem ((c.tc : Thread Cert.FfnOutLast.nD Cert.FfnOutLast.τ).loc Cert.FfnOutLast.main_arg0) = m ((c.tc : Thread Cert.FfnOutLast.nD Cert.FfnOutLast.τ).loc Cert.FfnOutLast.main_arg0)
      ∧ r.2.mem ((c.tc : Thread Cert.FfnOutLast.nD Cert.FfnOutLast.τ).loc Cert.FfnOutLast.main_arg1) = m ((c.tc : Thread Cert.FfnOutLast.nD Cert.FfnOutLast.τ).loc Cert.FfnOutLast.main_arg1)
      ∧ r.2.mem ((c.tc : Thread Cert.FfnOutLast.nD Cert.FfnOutLast.τ).loc Cert.FfnOutLast.main_arg2) = m ((c.tc : Thread Cert.FfnOutLast.nD Cert.FfnOutLast.τ).loc Cert.FfnOutLast.main_arg2))
      ∧ r.2.sem = fun _ => 0)

def quiescent_FfnOutLastIdeal [hFfnOutLastIdeal : Cert.FfnOutLastIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg), Pre_FfnOutLastIdeal m →
    θ_run (Cert.FfnOutLastIdeal.defs (F := Ideal)) (onTc (τ := Cert.FfnOutLastIdeal.τ) (Cert.FfnOutLastIdeal.main (F := Ideal))) ⟨m, fun _ => 0, g⟩ (fun r => (∀ c : Dev Cert.FfnOutLastIdeal.nD,
      r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
      ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1)
      ∧ r.2.mem ((c.tc : Thread Cert.FfnOutLastIdeal.nD Cert.FfnOutLastIdeal.τ).loc Cert.FfnOutLastIdeal.main_arg2) = m ((c.tc : Thread Cert.FfnOutLastIdeal.nD Cert.FfnOutLastIdeal.τ).loc Cert.FfnOutLastIdeal.main_arg2))
      ∧ r.2.sem = fun _ => 0)

def quiescent_FfnOutLastRefIdeal [hFfnOutLastRefIdeal : Cert.FfnOutLastRefIdeal.Facts] : Prop :=
  ∀ (m : (ℓ : Loc Cert.FfnOutLastRefIdeal.nD Cert.FfnOutLastRefIdeal.τ Cert.FfnOutLastRefIdeal.sig) → Buf (Elt Ideal) ℓ) (g : Dev Cert.FfnOutLastRefIdeal.nD → PrngReg), Pre_FfnOutLastRefIdeal m →
    θ_run (Cert.FfnOutLastRefIdeal.defs (F := Ideal)) (onTc (τ := Cert.FfnOutLastRefIdeal.τ) (Cert.FfnOutLastRefIdeal.main (F := Ideal))) ⟨m, fun _ => 0, g⟩ (fun r => (∀ c : Dev Cert.FfnOutLastRefIdeal.nD,
      r.2.mem ((c.tc : Thread Cert.FfnOutLastRefIdeal.nD Cert.FfnOutLastRefIdeal.τ).loc Cert.FfnOutLastRefIdeal.main_arg0) = m ((c.tc : Thread Cert.FfnOutLastRefIdeal.nD Cert.FfnOutLastRefIdeal.τ).loc Cert.FfnOutLastRefIdeal.main_arg0)
      ∧ r.2.mem ((c.tc : Thread Cert.FfnOutLastRefIdeal.nD Cert.FfnOutLastRefIdeal.τ).loc Cert.FfnOutLastRefIdeal.main_arg1) = m ((c.tc : Thread Cert.FfnOutLastRefIdeal.nD Cert.FfnOutLastRefIdeal.τ).loc Cert.FfnOutLastRefIdeal.main_arg1)
      ∧ r.2.mem ((c.tc : Thread Cert.FfnOutLastRefIdeal.nD Cert.FfnOutLastRefIdeal.τ).loc Cert.FfnOutLastRefIdeal.main_arg2) = m ((c.tc : Thread Cert.FfnOutLastRefIdeal.nD Cert.FfnOutLastRefIdeal.τ).loc Cert.FfnOutLastRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_RetPostBwd [hRetPostBwd : Cert.RetPostBwd.Facts] : Prop :=
  ∀ (m : (ℓ : Loc Cert.RetPostBwd.nD Cert.RetPostBwd.τ Cert.RetPostBwd.sig) → Buf (Elt Bits) ℓ) (g : Dev Cert.RetPostBwd.nD → PrngReg), Pre_RetPostBwd m →
    θ_run (Cert.RetPostBwd.defs (F := Bits)) (onTc (τ := Cert.RetPostBwd.τ) (Cert.RetPostBwd.main (F := Bits))) ⟨m, fun _ => 0, g⟩ (fun r => (∀ c : Dev Cert.RetPostBwd.nD,
      r.2.mem ((c.tc : Thread Cert.RetPostBwd.nD Cert.RetPostBwd.τ).loc Cert.RetPostBwd.main_arg0) = m ((c.tc : Thread Cert.RetPostBwd.nD Cert.RetPostBwd.τ).loc Cert.RetPostBwd.main_arg0)
      ∧ r.2.mem ((c.tc : Thread Cert.RetPostBwd.nD Cert.RetPostBwd.τ).loc Cert.RetPostBwd.main_arg1) = m ((c.tc : Thread Cert.RetPostBwd.nD Cert.RetPostBwd.τ).loc Cert.RetPostBwd.main_arg1)
      ∧ r.2.mem ((c.tc : Thread Cert.RetPostBwd.nD Cert.RetPostBwd.τ).loc Cert.RetPostBwd.main_arg2) = m ((c.tc : Thread Cert.RetPostBwd.nD Cert.RetPostBwd.τ).loc Cert.RetPostBwd.main_arg2)
      ∧ r.2.mem ((c.tc : Thread Cert.RetPostBwd.nD Cert.RetPostBwd.τ).loc Cert.RetPostBwd.main_arg3) = m ((c.tc : Thread Cert.RetPostBwd.nD Cert.RetPostBwd.τ).loc Cert.RetPostBwd.main_arg3))
      ∧ r.2.sem = fun _ => 0)

def quiescent_RetPostBwdIdeal [hRetPostBwdIdeal : Cert.RetPostBwdIdeal.Facts] : Prop :=
  ∀ (m : (ℓ : Loc Cert.RetPostBwdIdeal.nD Cert.RetPostBwdIdeal.τ Cert.RetPostBwdIdeal.sig) → Buf (Elt Ideal) ℓ) (g : Dev Cert.RetPostBwdIdeal.nD → PrngReg), Pre_RetPostBwdIdeal m →
    θ_run (Cert.RetPostBwdIdeal.defs (F := Ideal)) (onTc (τ := Cert.RetPostBwdIdeal.τ) (Cert.RetPostBwdIdeal.main (F := Ideal))) ⟨m, fun _ => 0, g⟩ (fun r => (∀ c : Dev Cert.RetPostBwdIdeal.nD,
      r.2.mem ((c.tc : Thread Cert.RetPostBwdIdeal.nD Cert.RetPostBwdIdeal.τ).loc Cert.RetPostBwdIdeal.main_arg0) = m ((c.tc : Thread Cert.RetPostBwdIdeal.nD Cert.RetPostBwdIdeal.τ).loc Cert.RetPostBwdIdeal.main_arg0)
      ∧ r.2.mem ((c.tc : Thread Cert.RetPostBwdIdeal.nD Cert.RetPostBwdIdeal.τ).loc Cert.RetPostBwdIdeal.main_arg1) = m ((c.tc : Thread Cert.RetPostBwdIdeal.nD Cert.RetPostBwdIdeal.τ).loc Cert.RetPostBwdIdeal.main_arg1)
      ∧ r.2.mem ((c.tc : Thread Cert.RetPostBwdIdeal.nD Cert.RetPostBwdIdeal.τ).loc Cert.RetPostBwdIdeal.main_arg2) = m ((c.tc : Thread Cert.RetPostBwdIdeal.nD Cert.RetPostBwdIdeal.τ).loc Cert.RetPostBwdIdeal.main_arg2)
      ∧ r.2.mem ((c.tc : Thread Cert.RetPostBwdIdeal.nD Cert.RetPostBwdIdeal.τ).loc Cert.RetPostBwdIdeal.main_arg3) = m ((c.tc : Thread Cert.RetPostBwdIdeal.nD Cert.RetPostBwdIdeal.τ).loc Cert.RetPostBwdIdeal.main_arg3))
      ∧ r.2.sem = fun _ => 0)

def quiescent_RetPostBwdIdeal_pre_real_ret_post [hRetPostBwdIdeal : Cert.RetPostBwdIdeal.Facts] [hPre_real_ret_post : Cert.Pre_real_ret_post.Facts] : Prop :=
  ∀ (m : (ℓ : Loc Cert.RetPostBwdIdeal.nD Cert.RetPostBwdIdeal.τ Cert.RetPostBwdIdeal.sig) → Buf (Elt Ideal) ℓ) (g : Dev Cert.RetPostBwdIdeal.nD → PrngReg), Pre_RetPostBwdIdeal_real_ret_post m →
    θ_run (Cert.RetPostBwdIdeal.defs (F := Ideal)) (onTc (τ := Cert.RetPostBwdIdeal.τ) (Cert.RetPostBwdIdeal.main (F := Ideal))) ⟨m, fun _ => 0, g⟩ (fun r => (∀ c : Dev Cert.RetPostBwdIdeal.nD,
      r.2.mem ((c.tc : Thread Cert.RetPostBwdIdeal.nD Cert.RetPostBwdIdeal.τ).loc Cert.RetPostBwdIdeal.main_arg0) = m ((c.tc : Thread Cert.RetPostBwdIdeal.nD Cert.RetPostBwdIdeal.τ).loc Cert.RetPostBwdIdeal.main_arg0)
      ∧ r.2.mem ((c.tc : Thread Cert.RetPostBwdIdeal.nD Cert.RetPostBwdIdeal.τ).loc Cert.RetPostBwdIdeal.main_arg1) = m ((c.tc : Thread Cert.RetPostBwdIdeal.nD Cert.RetPostBwdIdeal.τ).loc Cert.RetPostBwdIdeal.main_arg1)
      ∧ r.2.mem ((c.tc : Thread Cert.RetPostBwdIdeal.nD Cert.RetPostBwdIdeal.τ).loc Cert.RetPostBwdIdeal.main_arg2) = m ((c.tc : Thread Cert.RetPostBwdIdeal.nD Cert.RetPostBwdIdeal.τ).loc Cert.RetPostBwdIdeal.main_arg2)
      ∧ r.2.mem ((c.tc : Thread Cert.RetPostBwdIdeal.nD Cert.RetPostBwdIdeal.τ).loc Cert.RetPostBwdIdeal.main_arg3) = m ((c.tc : Thread Cert.RetPostBwdIdeal.nD Cert.RetPostBwdIdeal.τ).loc Cert.RetPostBwdIdeal.main_arg3))
      ∧ r.2.sem = fun _ => 0)

def quiescent_RetPostBwdRefIdeal [hRetPostBwdRefIdeal : Cert.RetPostBwdRefIdeal.Facts] : Prop :=
  ∀ (m : (ℓ : Loc Cert.RetPostBwdRefIdeal.nD Cert.RetPostBwdRefIdeal.τ Cert.RetPostBwdRefIdeal.sig) → Buf (Elt Ideal) ℓ) (g : Dev Cert.RetPostBwdRefIdeal.nD → PrngReg), Pre_RetPostBwdRefIdeal m →
    θ_run (Cert.RetPostBwdRefIdeal.defs (F := Ideal)) (onTc (τ := Cert.RetPostBwdRefIdeal.τ) (Cert.RetPostBwdRefIdeal.main (F := Ideal))) ⟨m, fun _ => 0, g⟩ (fun r => (∀ c : Dev Cert.RetPostBwdRefIdeal.nD,
      r.2.mem ((c.tc : Thread Cert.RetPostBwdRefIdeal.nD Cert.RetPostBwdRefIdeal.τ).loc Cert.RetPostBwdRefIdeal.main_arg0) = m ((c.tc : Thread Cert.RetPostBwdRefIdeal.nD Cert.RetPostBwdRefIdeal.τ).loc Cert.RetPostBwdRefIdeal.main_arg0)
      ∧ r.2.mem ((c.tc : Thread Cert.RetPostBwdRefIdeal.nD Cert.RetPostBwdRefIdeal.τ).loc Cert.RetPostBwdRefIdeal.main_arg1) = m ((c.tc : Thread Cert.RetPostBwdRefIdeal.nD Cert.RetPostBwdRefIdeal.τ).loc Cert.RetPostBwdRefIdeal.main_arg1)
      ∧ r.2.mem ((c.tc : Thread Cert.RetPostBwdRefIdeal.nD Cert.RetPostBwdRefIdeal.τ).loc Cert.RetPostBwdRefIdeal.main_arg2) = m ((c.tc : Thread Cert.RetPostBwdRefIdeal.nD Cert.RetPostBwdRefIdeal.τ).loc Cert.RetPostBwdRefIdeal.main_arg2)
      ∧ r.2.mem ((c.tc : Thread Cert.RetPostBwdRefIdeal.nD Cert.RetPostBwdRefIdeal.τ).loc Cert.RetPostBwdRefIdeal.main_arg3) = m ((c.tc : Thread Cert.RetPostBwdRefIdeal.nD Cert.RetPostBwdRefIdeal.τ).loc Cert.RetPostBwdRefIdeal.main_arg3))
      ∧ r.2.sem = fun _ => 0)

def quiescent_RetPostBwdRefIdeal_pre_real_ret_post [hRetPostBwdRefIdeal : Cert.RetPostBwdRefIdeal.Facts] [hPre_real_ret_post : Cert.Pre_real_ret_post.Facts] : Prop :=
  ∀ (m : (ℓ : Loc Cert.RetPostBwdRefIdeal.nD Cert.RetPostBwdRefIdeal.τ Cert.RetPostBwdRefIdeal.sig) → Buf (Elt Ideal) ℓ) (g : Dev Cert.RetPostBwdRefIdeal.nD → PrngReg), Pre_RetPostBwdRefIdeal_real_ret_post m →
    θ_run (Cert.RetPostBwdRefIdeal.defs (F := Ideal)) (onTc (τ := Cert.RetPostBwdRefIdeal.τ) (Cert.RetPostBwdRefIdeal.main (F := Ideal))) ⟨m, fun _ => 0, g⟩ (fun r => (∀ c : Dev Cert.RetPostBwdRefIdeal.nD,
      r.2.mem ((c.tc : Thread Cert.RetPostBwdRefIdeal.nD Cert.RetPostBwdRefIdeal.τ).loc Cert.RetPostBwdRefIdeal.main_arg0) = m ((c.tc : Thread Cert.RetPostBwdRefIdeal.nD Cert.RetPostBwdRefIdeal.τ).loc Cert.RetPostBwdRefIdeal.main_arg0)
      ∧ r.2.mem ((c.tc : Thread Cert.RetPostBwdRefIdeal.nD Cert.RetPostBwdRefIdeal.τ).loc Cert.RetPostBwdRefIdeal.main_arg1) = m ((c.tc : Thread Cert.RetPostBwdRefIdeal.nD Cert.RetPostBwdRefIdeal.τ).loc Cert.RetPostBwdRefIdeal.main_arg1)
      ∧ r.2.mem ((c.tc : Thread Cert.RetPostBwdRefIdeal.nD Cert.RetPostBwdRefIdeal.τ).loc Cert.RetPostBwdRefIdeal.main_arg2) = m ((c.tc : Thread Cert.RetPostBwdRefIdeal.nD Cert.RetPostBwdRefIdeal.τ).loc Cert.RetPostBwdRefIdeal.main_arg2)
      ∧ r.2.mem ((c.tc : Thread Cert.RetPostBwdRefIdeal.nD Cert.RetPostBwdRefIdeal.τ).loc Cert.RetPostBwdRefIdeal.main_arg3) = m ((c.tc : Thread Cert.RetPostBwdRefIdeal.nD Cert.RetPostBwdRefIdeal.τ).loc Cert.RetPostBwdRefIdeal.main_arg3))
      ∧ r.2.sem = fun _ => 0)

def quiescent_MemkvPrep [hMemkvPrep : Cert.MemkvPrep.Facts] : Prop :=
  ∀ (m : (ℓ : Loc Cert.MemkvPrep.nD Cert.MemkvPrep.τ Cert.MemkvPrep.sig) → Buf (Elt Bits) ℓ) (g : Dev Cert.MemkvPrep.nD → PrngReg), Pre_MemkvPrep m →
    θ_run (Cert.MemkvPrep.defs (F := Bits)) (onTc (τ := Cert.MemkvPrep.τ) (Cert.MemkvPrep.main (F := Bits))) ⟨m, fun _ => 0, g⟩ (fun r => (∀ c : Dev Cert.MemkvPrep.nD,
      r.2.mem ((c.tc : Thread Cert.MemkvPrep.nD Cert.MemkvPrep.τ).loc Cert.MemkvPrep.main_arg0) = m ((c.tc : Thread Cert.MemkvPrep.nD Cert.MemkvPrep.τ).loc Cert.MemkvPrep.main_arg0)
      ∧ r.2.mem ((c.tc : Thread Cert.MemkvPrep.nD Cert.MemkvPrep.τ).loc Cert.MemkvPrep.main_arg1) = m ((c.tc : Thread Cert.MemkvPrep.nD Cert.MemkvPrep.τ).loc Cert.MemkvPrep.main_arg1))
      ∧ r.2.sem = fun _ => 0)

def quiescent_MemkvPrepIdeal [hMemkvPrepIdeal : Cert.MemkvPrepIdeal.Facts] : Prop :=
  ∀ (m : (ℓ : Loc Cert.MemkvPrepIdeal.nD Cert.MemkvPrepIdeal.τ Cert.MemkvPrepIdeal.sig) → Buf (Elt Ideal) ℓ) (g : Dev Cert.MemkvPrepIdeal.nD → PrngReg), Pre_MemkvPrepIdeal m →
    θ_run (Cert.MemkvPrepIdeal.defs (F := Ideal)) (onTc (τ := Cert.MemkvPrepIdeal.τ) (Cert.MemkvPrepIdeal.main (F := Ideal))) ⟨m, fun _ => 0, g⟩ (fun r => (∀ c : Dev Cert.MemkvPrepIdeal.nD,
      r.2.mem ((c.tc : Thread Cert.MemkvPrepIdeal.nD Cert.MemkvPrepIdeal.τ).loc Cert.MemkvPrepIdeal.main_arg0) = m ((c.tc : Thread Cert.MemkvPrepIdeal.nD Cert.MemkvPrepIdeal.τ).loc Cert.MemkvPrepIdeal.main_arg0)
      ∧ r.2.mem ((c.tc : Thread Cert.MemkvPrepIdeal.nD Cert.MemkvPrepIdeal.τ).loc Cert.MemkvPrepIdeal.main_arg1) = m ((c.tc : Thread Cert.MemkvPrepIdeal.nD Cert.MemkvPrepIdeal.τ).loc Cert.MemkvPrepIdeal.main_arg1))
      ∧ r.2.sem = fun _ => 0)

def quiescent_MemkvPrepIdeal_pre_real_memkv [hMemkvPrepIdeal : Cert.MemkvPrepIdeal.Facts] [hPre_real_memkv : Cert.Pre_real_memkv.Facts] : Prop :=
  ∀ (m : (ℓ : Loc Cert.MemkvPrepIdeal.nD Cert.MemkvPrepIdeal.τ Cert.MemkvPrepIdeal.sig) → Buf (Elt Ideal) ℓ) (g : Dev Cert.MemkvPrepIdeal.nD → PrngReg), Pre_MemkvPrepIdeal_real_memkv m →
    θ_run (Cert.MemkvPrepIdeal.defs (F := Ideal)) (onTc (τ := Cert.MemkvPrepIdeal.τ) (Cert.MemkvPrepIdeal.main (F := Ideal))) ⟨m, fun _ => 0, g⟩ (fun r => (∀ c : Dev Cert.MemkvPrepIdeal.nD,
      r.2.mem ((c.tc : Thread Cert.MemkvPrepIdeal.nD Cert.MemkvPrepIdeal.τ).loc Cert.MemkvPrepIdeal.main_arg0) = m ((c.tc : Thread Cert.MemkvPrepIdeal.nD Cert.MemkvPrepIdeal.τ).loc Cert.MemkvPrepIdeal.main_arg0)
      ∧ r.2.mem ((c.tc : Thread Cert.MemkvPrepIdeal.nD Cert.MemkvPrepIdeal.τ).loc Cert.MemkvPrepIdeal.main_arg1) = m ((c.tc : Thread Cert.MemkvPrepIdeal.nD Cert.MemkvPrepIdeal.τ).loc Cert.MemkvPrepIdeal.main_arg1))
      ∧ r.2.sem = fun _ => 0)

def quiescent_MemkvPrepRefIdeal [hMemkvPrepRefIdeal : Cert.MemkvPrepRefIdeal.Facts] : Prop :=
  ∀ (m : (ℓ : Loc Cert.MemkvPrepRefIdeal.nD Cert.MemkvPrepRefIdeal.τ Cert.MemkvPrepRefIdeal.sig) → Buf (Elt Ideal) ℓ) (g : Dev Cert.MemkvPrepRefIdeal.nD → PrngReg), Pre_MemkvPrepRefIdeal m →
    θ_run (Cert.MemkvPrepRefIdeal.defs (F := Ideal)) (onTc (τ := Cert.MemkvPrepRefIdeal.τ) (Cert.MemkvPrepRefIdeal.main (F := Ideal))) ⟨m, fun _ => 0, g⟩ (fun r => (∀ c : Dev Cert.MemkvPrepRefIdeal.nD,
      r.2.mem ((c.tc : Thread Cert.MemkvPrepRefIdeal.nD Cert.MemkvPrepRefIdeal.τ).loc Cert.MemkvPrepRefIdeal.main_arg0) = m ((c.tc : Thread Cert.MemkvPrepRefIdeal.nD Cert.MemkvPrepRefIdeal.τ).loc Cert.MemkvPrepRefIdeal.main_arg0)
      ∧ r.2.mem ((c.tc : Thread Cert.MemkvPrepRefIdeal.nD Cert.MemkvPrepRefIdeal.τ).loc Cert.MemkvPrepRefIdeal.main_arg1) = m ((c.tc : Thread Cert.MemkvPrepRefIdeal.nD Cert.MemkvPrepRefIdeal.τ).loc Cert.MemkvPrepRefIdeal.main_arg1))
      ∧ r.2.sem = fun _ => 0)

def quiescent_MemkvPrepRefIdeal_pre_real_memkv [hMemkvPrepRefIdeal : Cert.MemkvPrepRefIdeal.Facts] [hPre_real_memkv : Cert.Pre_real_memkv.Facts] : Prop :=
  ∀ (m : (ℓ : Loc Cert.MemkvPrepRefIdeal.nD Cert.MemkvPrepRefIdeal.τ Cert.MemkvPrepRefIdeal.sig) → Buf (Elt Ideal) ℓ) (g : Dev Cert.MemkvPrepRefIdeal.nD → PrngReg), Pre_MemkvPrepRefIdeal_real_memkv m →
    θ_run (Cert.MemkvPrepRefIdeal.defs (F := Ideal)) (onTc (τ := Cert.MemkvPrepRefIdeal.τ) (Cert.MemkvPrepRefIdeal.main (F := Ideal))) ⟨m, fun _ => 0, g⟩ (fun r => (∀ c : Dev Cert.MemkvPrepRefIdeal.nD,
      r.2.mem ((c.tc : Thread Cert.MemkvPrepRefIdeal.nD Cert.MemkvPrepRefIdeal.τ).loc Cert.MemkvPrepRefIdeal.main_arg0) = m ((c.tc : Thread Cert.MemkvPrepRefIdeal.nD Cert.MemkvPrepRefIdeal.τ).loc Cert.MemkvPrepRefIdeal.main_arg0)
      ∧ r.2.mem ((c.tc : Thread Cert.MemkvPrepRefIdeal.nD Cert.MemkvPrepRefIdeal.τ).loc Cert.MemkvPrepRefIdeal.main_arg1) = m ((c.tc : Thread Cert.MemkvPrepRefIdeal.nD Cert.MemkvPrepRefIdeal.τ).loc Cert.MemkvPrepRefIdeal.main_arg1))
      ∧ r.2.sem = fun _ => 0)

def quiescent_MemkvBwd [hMemkvBwd : Cert.MemkvBwd.Facts] : Prop :=
  ∀ (m : (ℓ : Loc Cert.MemkvBwd.nD Cert.MemkvBwd.τ Cert.MemkvBwd.sig) → Buf (Elt Bits) ℓ) (g : Dev Cert.MemkvBwd.nD → PrngReg), Pre_MemkvBwd m →
    θ_run (Cert.MemkvBwd.defs (F := Bits)) (onTc (τ := Cert.MemkvBwd.τ) (Cert.MemkvBwd.main (F := Bits))) ⟨m, fun _ => 0, g⟩ (fun r => (∀ c : Dev Cert.MemkvBwd.nD,
      r.2.mem ((c.tc : Thread Cert.MemkvBwd.nD Cert.MemkvBwd.τ).loc Cert.MemkvBwd.main_arg0) = m ((c.tc : Thread Cert.MemkvBwd.nD Cert.MemkvBwd.τ).loc Cert.MemkvBwd.main_arg0)
      ∧ r.2.mem ((c.tc : Thread Cert.MemkvBwd.nD Cert.MemkvBwd.τ).loc Cert.MemkvBwd.main_arg1) = m ((c.tc : Thread Cert.MemkvBwd.nD Cert.MemkvBwd.τ).loc Cert.MemkvBwd.main_arg1)
      ∧ r.2.mem ((c.tc : Thread Cert.MemkvBwd.nD Cert.MemkvBwd.τ).loc Cert.MemkvBwd.main_arg2) = m ((c.tc : Thread Cert.MemkvBwd.nD Cert.MemkvBwd.τ).loc Cert.MemkvBwd.main_arg2)
      ∧ r.2.mem ((c.tc : Thread Cert.MemkvBwd.nD Cert.MemkvBwd.τ).loc Cert.MemkvBwd.main_arg3) = m ((c.tc : Thread Cert.MemkvBwd.nD Cert.MemkvBwd.τ).loc Cert.MemkvBwd.main_arg3))
      ∧ r.2.sem = fun _ => 0)

def quiescent_MemkvBwdIdeal [hMemkvBwdIdeal : Cert.MemkvBwdIdeal.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg), Pre_MemkvBwdIdeal m →
    θ_run (Cert.MemkvBwdIdeal.defs (F := Ideal)) (onTc (τ := Cert.MemkvBwdIdeal.τ) (Cert.MemkvBwdIdeal.main (F := Ideal))) ⟨m, fun _ => 0, g⟩ (fun r => (∀ c : Dev Cert.MemkvBwdIdeal.nD,
      r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
      ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
      ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
      ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ r.2.sem = fun _ => 0)

def quiescent_MemkvBwdIdeal_pre_real_memkv_bwd [hMemkvBwdIdeal : Cert.MemkvBwdIdeal.Facts] [hPre_real_memkv_bwd : Cert.Pre_real_memkv_bwd.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg), Pre_MemkvBwdIdeal_real_memkv_bwd m →
    θ_run (Cert.MemkvBwdIdeal.defs (F := Ideal)) (onTc (τ := Cert.MemkvBwdIdeal.τ) (Cert.MemkvBwdIdeal.main (F := Ideal))) ⟨m, fun _ => 0, g⟩ (fun r => (∀ c : Dev Cert.MemkvBwdIdeal.nD,
      r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
      ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
      ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
      ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ r.2.sem = fun _ => 0)

def quiescent_MemkvBwdRefIdeal [hMemkvBwdRefIdeal : Cert.MemkvBwdRefIdeal.Facts] : Prop :=
  ∀ (m : (ℓ : Loc Cert.MemkvBwdRefIdeal.nD Cert.MemkvBwdRefIdeal.τ Cert.MemkvBwdRefIdeal.sig) → Buf (Elt Ideal) ℓ) (g : Dev Cert.MemkvBwdRefIdeal.nD → PrngReg), Pre_MemkvBwdRefIdeal m →
    θ_run (Cert.MemkvBwdRefIdeal.defs (F := Ideal)) (onTc (τ := Cert.MemkvBwdRefIdeal.τ) (Cert.MemkvBwdRefIdeal.main (F := Ideal))) ⟨m, fun _ => 0, g⟩ (fun r => (∀ c : Dev Cert.MemkvBwdRefIdeal.nD,
      r.2.mem ((c.tc : Thread Cert.MemkvBwdRefIdeal.nD Cert.MemkvBwdRefIdeal.τ).loc Cert.MemkvBwdRefIdeal.main_arg0) = m ((c.tc : Thread Cert.MemkvBwdRefIdeal.nD Cert.MemkvBwdRefIdeal.τ).loc Cert.MemkvBwdRefIdeal.main_arg0)
      ∧ r.2.mem ((c.tc : Thread Cert.MemkvBwdRefIdeal.nD Cert.MemkvBwdRefIdeal.τ).loc Cert.MemkvBwdRefIdeal.main_arg1) = m ((c.tc : Thread Cert.MemkvBwdRefIdeal.nD Cert.MemkvBwdRefIdeal.τ).loc Cert.MemkvBwdRefIdeal.main_arg1)
      ∧ r.2.mem ((c.tc : Thread Cert.MemkvBwdRefIdeal.nD Cert.MemkvBwdRefIdeal.τ).loc Cert.MemkvBwdRefIdeal.main_arg2) = m ((c.tc : Thread Cert.MemkvBwdRefIdeal.nD Cert.MemkvBwdRefIdeal.τ).loc Cert.MemkvBwdRefIdeal.main_arg2)
      ∧ r.2.mem ((c.tc : Thread Cert.MemkvBwdRefIdeal.nD Cert.MemkvBwdRefIdeal.τ).loc Cert.MemkvBwdRefIdeal.main_arg3) = m ((c.tc : Thread Cert.MemkvBwdRefIdeal.nD Cert.MemkvBwdRefIdeal.τ).loc Cert.MemkvBwdRefIdeal.main_arg3))
      ∧ r.2.sem = fun _ => 0)

def quiescent_MemkvBwdRefIdeal_pre_real_memkv_bwd [hMemkvBwdRefIdeal : Cert.MemkvBwdRefIdeal.Facts] [hPre_real_memkv_bwd : Cert.Pre_real_memkv_bwd.Facts] : Prop :=
  ∀ (m : (ℓ : Loc Cert.MemkvBwdRefIdeal.nD Cert.MemkvBwdRefIdeal.τ Cert.MemkvBwdRefIdeal.sig) → Buf (Elt Ideal) ℓ) (g : Dev Cert.MemkvBwdRefIdeal.nD → PrngReg), Pre_MemkvBwdRefIdeal_real_memkv_bwd m →
    θ_run (Cert.MemkvBwdRefIdeal.defs (F := Ideal)) (onTc (τ := Cert.MemkvBwdRefIdeal.τ) (Cert.MemkvBwdRefIdeal.main (F := Ideal))) ⟨m, fun _ => 0, g⟩ (fun r => (∀ c : Dev Cert.MemkvBwdRefIdeal.nD,
      r.2.mem ((c.tc : Thread Cert.MemkvBwdRefIdeal.nD Cert.MemkvBwdRefIdeal.τ).loc Cert.MemkvBwdRefIdeal.main_arg0) = m ((c.tc : Thread Cert.MemkvBwdRefIdeal.nD Cert.MemkvBwdRefIdeal.τ).loc Cert.MemkvBwdRefIdeal.main_arg0)
      ∧ r.2.mem ((c.tc : Thread Cert.MemkvBwdRefIdeal.nD Cert.MemkvBwdRefIdeal.τ).loc Cert.MemkvBwdRefIdeal.main_arg1) = m ((c.tc : Thread Cert.MemkvBwdRefIdeal.nD Cert.MemkvBwdRefIdeal.τ).loc Cert.MemkvBwdRefIdeal.main_arg1)
      ∧ r.2.mem ((c.tc : Thread Cert.MemkvBwdRefIdeal.nD Cert.MemkvBwdRefIdeal.τ).loc Cert.MemkvBwdRefIdeal.main_arg2) = m ((c.tc : Thread Cert.MemkvBwdRefIdeal.nD Cert.MemkvBwdRefIdeal.τ).loc Cert.MemkvBwdRefIdeal.main_arg2)
      ∧ r.2.mem ((c.tc : Thread Cert.MemkvBwdRefIdeal.nD Cert.MemkvBwdRefIdeal.τ).loc Cert.MemkvBwdRefIdeal.main_arg3) = m ((c.tc : Thread Cert.MemkvBwdRefIdeal.nD Cert.MemkvBwdRefIdeal.τ).loc Cert.MemkvBwdRefIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_RpbExpand [hRpbExpand : Cert.RpbExpand.Facts] : Prop :=
  ∀ (m : (ℓ : Loc Cert.RpbExpand.nD Cert.RpbExpand.τ Cert.RpbExpand.sig) → Buf (Elt Bits) ℓ) (g : Dev Cert.RpbExpand.nD → PrngReg), Pre_RpbExpand m →
    θ_run (Cert.RpbExpand.defs (F := Bits)) (onTc (τ := Cert.RpbExpand.τ) (Cert.RpbExpand.main (F := Bits))) ⟨m, fun _ => 0, g⟩ (fun r => (∀ c : Dev Cert.RpbExpand.nD,
      r.2.mem ((c.tc : Thread Cert.RpbExpand.nD Cert.RpbExpand.τ).loc Cert.RpbExpand.main_arg0) = m ((c.tc : Thread Cert.RpbExpand.nD Cert.RpbExpand.τ).loc Cert.RpbExpand.main_arg0)
      ∧ r.2.mem ((c.tc : Thread Cert.RpbExpand.nD Cert.RpbExpand.τ).loc Cert.RpbExpand.main_arg1) = m ((c.tc : Thread Cert.RpbExpand.nD Cert.RpbExpand.τ).loc Cert.RpbExpand.main_arg1))
      ∧ r.2.sem = fun _ => 0)

def quiescent_RpbExpandIdeal [hRpbExpandIdeal : Cert.RpbExpandIdeal.Facts] : Prop :=
  ∀ (m : (ℓ : Loc Cert.RpbExpandIdeal.nD Cert.RpbExpandIdeal.τ Cert.RpbExpandIdeal.sig) → Buf (Elt Ideal) ℓ) (g : Dev Cert.RpbExpandIdeal.nD → PrngReg), Pre_RpbExpandIdeal m →
    θ_run (Cert.RpbExpandIdeal.defs (F := Ideal)) (onTc (τ := Cert.RpbExpandIdeal.τ) (Cert.RpbExpandIdeal.main (F := Ideal))) ⟨m, fun _ => 0, g⟩ (fun r => (∀ c : Dev Cert.RpbExpandIdeal.nD,
      r.2.mem ((c.tc : Thread Cert.RpbExpandIdeal.nD Cert.RpbExpandIdeal.τ).loc Cert.RpbExpandIdeal.main_arg0) = m ((c.tc : Thread Cert.RpbExpandIdeal.nD Cert.RpbExpandIdeal.τ).loc Cert.RpbExpandIdeal.main_arg0)
      ∧ r.2.mem ((c.tc : Thread Cert.RpbExpandIdeal.nD Cert.RpbExpandIdeal.τ).loc Cert.RpbExpandIdeal.main_arg1) = m ((c.tc : Thread Cert.RpbExpandIdeal.nD Cert.RpbExpandIdeal.τ).loc Cert.RpbExpandIdeal.main_arg1))
      ∧ r.2.sem = fun _ => 0)

def quiescent_RpbExpandRefIdeal [hRpbExpandRefIdeal : Cert.RpbExpandRefIdeal.Facts] : Prop :=
  ∀ (m : (ℓ : Loc Cert.RpbExpandRefIdeal.nD Cert.RpbExpandRefIdeal.τ Cert.RpbExpandRefIdeal.sig) → Buf (Elt Ideal) ℓ) (g : Dev Cert.RpbExpandRefIdeal.nD → PrngReg), Pre_RpbExpandRefIdeal m →
    θ_run (Cert.RpbExpandRefIdeal.defs (F := Ideal)) (onTc (τ := Cert.RpbExpandRefIdeal.τ) (Cert.RpbExpandRefIdeal.main (F := Ideal))) ⟨m, fun _ => 0, g⟩ (fun r => (∀ c : Dev Cert.RpbExpandRefIdeal.nD,
      r.2.mem ((c.tc : Thread Cert.RpbExpandRefIdeal.nD Cert.RpbExpandRefIdeal.τ).loc Cert.RpbExpandRefIdeal.main_arg0) = m ((c.tc : Thread Cert.RpbExpandRefIdeal.nD Cert.RpbExpandRefIdeal.τ).loc Cert.RpbExpandRefIdeal.main_arg0)
      ∧ r.2.mem ((c.tc : Thread Cert.RpbExpandRefIdeal.nD Cert.RpbExpandRefIdeal.τ).loc Cert.RpbExpandRefIdeal.main_arg1) = m ((c.tc : Thread Cert.RpbExpandRefIdeal.nD Cert.RpbExpandRefIdeal.τ).loc Cert.RpbExpandRefIdeal.main_arg1))
      ∧ r.2.sem = fun _ => 0)

def quiescent_RpbReduce [hRpbReduce : Cert.RpbReduce.Facts] : Prop :=
  ∀ (m : (ℓ : Loc Cert.RpbReduce.nD Cert.RpbReduce.τ Cert.RpbReduce.sig) → Buf (Elt Bits) ℓ) (g : Dev Cert.RpbReduce.nD → PrngReg), Pre_RpbReduce m →
    θ_run (Cert.RpbReduce.defs (F := Bits)) (onTc (τ := Cert.RpbReduce.τ) (Cert.RpbReduce.main (F := Bits))) ⟨m, fun _ => 0, g⟩ (fun r => (∀ c : Dev Cert.RpbReduce.nD,
      r.2.mem ((c.tc : Thread Cert.RpbReduce.nD Cert.RpbReduce.τ).loc Cert.RpbReduce.main_arg0) = m ((c.tc : Thread Cert.RpbReduce.nD Cert.RpbReduce.τ).loc Cert.RpbReduce.main_arg0)
      ∧ r.2.mem ((c.tc : Thread Cert.RpbReduce.nD Cert.RpbReduce.τ).loc Cert.RpbReduce.main_arg1) = m ((c.tc : Thread Cert.RpbReduce.nD Cert.RpbReduce.τ).loc Cert.RpbReduce.main_arg1))
      ∧ r.2.sem = fun _ => 0)

def quiescent_RpbReduceIdeal [hRpbReduceIdeal : Cert.RpbReduceIdeal.Facts] : Prop :=
  ∀ (m : (ℓ : Loc Cert.RpbReduceIdeal.nD Cert.RpbReduceIdeal.τ Cert.RpbReduceIdeal.sig) → Buf (Elt Ideal) ℓ) (g : Dev Cert.RpbReduceIdeal.nD → PrngReg), Pre_RpbReduceIdeal m →
    θ_run (Cert.RpbReduceIdeal.defs (F := Ideal)) (onTc (τ := Cert.RpbReduceIdeal.τ) (Cert.RpbReduceIdeal.main (F := Ideal))) ⟨m, fun _ => 0, g⟩ (fun r => (∀ c : Dev Cert.RpbReduceIdeal.nD,
      r.2.mem ((c.tc : Thread Cert.RpbReduceIdeal.nD Cert.RpbReduceIdeal.τ).loc Cert.RpbReduceIdeal.main_arg0) = m ((c.tc : Thread Cert.RpbReduceIdeal.nD Cert.RpbReduceIdeal.τ).loc Cert.RpbReduceIdeal.main_arg0)
      ∧ r.2.mem ((c.tc : Thread Cert.RpbReduceIdeal.nD Cert.RpbReduceIdeal.τ).loc Cert.RpbReduceIdeal.main_arg1) = m ((c.tc : Thread Cert.RpbReduceIdeal.nD Cert.RpbReduceIdeal.τ).loc Cert.RpbReduceIdeal.main_arg1))
      ∧ r.2.sem = fun _ => 0)

def quiescent_RpbReduceRefIdeal [hRpbReduceRefIdeal : Cert.RpbReduceRefIdeal.Facts] : Prop :=
  ∀ (m : (ℓ : Loc Cert.RpbReduceRefIdeal.nD Cert.RpbReduceRefIdeal.τ Cert.RpbReduceRefIdeal.sig) → Buf (Elt Ideal) ℓ) (g : Dev Cert.RpbReduceRefIdeal.nD → PrngReg), Pre_RpbReduceRefIdeal m →
    θ_run (Cert.RpbReduceRefIdeal.defs (F := Ideal)) (onTc (τ := Cert.RpbReduceRefIdeal.τ) (Cert.RpbReduceRefIdeal.main (F := Ideal))) ⟨m, fun _ => 0, g⟩ (fun r => (∀ c : Dev Cert.RpbReduceRefIdeal.nD,
      r.2.mem ((c.tc : Thread Cert.RpbReduceRefIdeal.nD Cert.RpbReduceRefIdeal.τ).loc Cert.RpbReduceRefIdeal.main_arg0) = m ((c.tc : Thread Cert.RpbReduceRefIdeal.nD Cert.RpbReduceRefIdeal.τ).loc Cert.RpbReduceRefIdeal.main_arg0)
      ∧ r.2.mem ((c.tc : Thread Cert.RpbReduceRefIdeal.nD Cert.RpbReduceRefIdeal.τ).loc Cert.RpbReduceRefIdeal.main_arg1) = m ((c.tc : Thread Cert.RpbReduceRefIdeal.nD Cert.RpbReduceRefIdeal.τ).loc Cert.RpbReduceRefIdeal.main_arg1))
      ∧ r.2.sem = fun _ => 0)

def preserves_MemBwd_MemBwdIdeal : Prop :=
  True

def algebraic_MemBwdIdeal_MemBwdRefIdeal_pre_real_scores [hMemBwdIdeal : Cert.MemBwdIdeal.Facts] [hMemBwdRefIdeal : Cert.MemBwdRefIdeal.Facts] [hPre_real_scores : Cert.Pre_real_scores.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal_real_scores m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)
      ∧ m' ((c.tc : Thread Cert.MemBwdRefIdeal.nD Cert.MemBwdRefIdeal.τ).loc Cert.MemBwdRefIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_v0_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v79) = v0 c
          ∧ r.2.mem ((c.tc : Thread Cert.MemBwdRefIdeal.nD Cert.MemBwdRefIdeal.τ).loc Cert.MemBwdRefIdeal.main_v76) = v1 c
          ∧ r.2.mem ((c.tc : Thread Cert.MemBwdRefIdeal.nD Cert.MemBwdRefIdeal.τ).loc Cert.MemBwdRefIdeal.main_v73) = v2 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2)
          ∧ r.2.mem ((c.tc : Thread Cert.MemBwdRefIdeal.nD Cert.MemBwdRefIdeal.τ).loc Cert.MemBwdRefIdeal.main_arg3) = m' ((c.tc : Thread Cert.MemBwdRefIdeal.nD Cert.MemBwdRefIdeal.τ).loc Cert.MemBwdRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v36) = v0 c
          ∧ r.2.mem ((c.tc : Thread Cert.MergeBwdRefIdeal.nD Cert.MergeBwdRefIdeal.τ).loc Cert.MergeBwdRefIdeal.main_v37) = v1 c
          ∧ r.2.mem ((c.tc : Thread Cert.MergeBwdRefIdeal.nD Cert.MergeBwdRefIdeal.τ).loc Cert.MergeBwdRefIdeal.main_v39) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_FfnOutBwd_FfnOutBwdIdeal : Prop :=
  True

def algebraic_FfnOutBwdIdeal_FfnOutBwdRefIdeal_pre_real_ffn [hFfnOutBwdIdeal : Cert.FfnOutBwdIdeal.Facts] [hFfnOutBwdRefIdeal : Cert.FfnOutBwdRefIdeal.Facts] [hPre_real_ffn : Cert.Pre_real_ffn.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg)
    (m' : (ℓ : Loc Cert.FfnOutBwdRefIdeal.nD Cert.FfnOutBwdRefIdeal.τ Cert.FfnOutBwdRefIdeal.sig) → Buf (Elt Ideal) ℓ) (g' : Dev Cert.FfnOutBwdRefIdeal.nD → PrngReg), Pre_FfnOutBwdIdeal_real_ffn m →
    (∀ c : Dev Cert.FfnOutBwdIdeal.nD,
      m' ((c.tc : Thread Cert.FfnOutBwdRefIdeal.nD Cert.FfnOutBwdRefIdeal.τ).loc Cert.FfnOutBwdRefIdeal.main_arg0) = m ((c.tc : Thread Cert.FfnOutBwdIdeal.nD Cert.FfnOutBwdIdeal.τ).loc Cert.FfnOutBwdIdeal.main_arg0)
      ∧ m' ((c.tc : Thread Cert.FfnOutBwdRefIdeal.nD Cert.FfnOutBwdRefIdeal.τ).loc Cert.FfnOutBwdRefIdeal.main_arg1) = m ((c.tc : Thread Cert.FfnOutBwdIdeal.nD Cert.FfnOutBwdIdeal.τ).loc Cert.FfnOutBwdIdeal.main_arg1)
      ∧ m' ((c.tc : Thread Cert.FfnOutBwdRefIdeal.nD Cert.FfnOutBwdRefIdeal.τ).loc Cert.FfnOutBwdRefIdeal.main_arg2) = m ((c.tc : Thread Cert.FfnOutBwdIdeal.nD Cert.FfnOutBwdIdeal.τ).loc Cert.FfnOutBwdIdeal.main_arg2)
      ∧ m' ((c.tc : Thread Cert.FfnOutBwdRefIdeal.nD Cert.FfnOutBwdRefIdeal.τ).loc Cert.FfnOutBwdRefIdeal.main_arg3) = m ((c.tc : Thread Cert.FfnOutBwdIdeal.nD Cert.FfnOutBwdIdeal.τ).loc Cert.FfnOutBwdIdeal.main_arg3)) →
    ∃ (v0 : (c : Dev Cert.FfnOutBwdIdeal.nD) → Buf (Elt Ideal) ((c.tc : Thread Cert.FfnOutBwdIdeal.nD Cert.FfnOutBwdIdeal.τ).loc Cert.FfnOutBwdIdeal.main_v0_0)) (v1 : (c : Dev Cert.FfnOutBwdIdeal.nD) → Buf (Elt Ideal) ((c.tc : Thread Cert.FfnOutBwdIdeal.nD Cert.FfnOutBwdIdeal.τ).loc Cert.FfnOutBwdIdeal.main_v0_1)),
      θ_run (Cert.FfnOutBwdIdeal.defs (F := Ideal)) (onTc (τ := Cert.FfnOutBwdIdeal.τ) (Cert.FfnOutBwdIdeal.main (F := Ideal))) ⟨m, fun _ => 0, g⟩ (fun r => ∀ c : Dev Cert.FfnOutBwdIdeal.nD,
          r.2.mem ((c.tc : Thread Cert.FfnOutBwdIdeal.nD Cert.FfnOutBwdIdeal.τ).loc Cert.FfnOutBwdIdeal.main_v0_0) = v0 c
          ∧ r.2.mem ((c.tc : Thread Cert.FfnOutBwdIdeal.nD Cert.FfnOutBwdIdeal.τ).loc Cert.FfnOutBwdIdeal.main_v0_1) = v1 c
          ∧ r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
          ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
          ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
          ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ θ_run (Cert.FfnOutBwdRefIdeal.defs (F := Ideal)) (onTc (τ := Cert.FfnOutBwdRefIdeal.τ) (Cert.FfnOutBwdRefIdeal.main (F := Ideal))) ⟨m', fun _ => 0, g'⟩ (fun r => ∀ c : Dev Cert.FfnOutBwdRefIdeal.nD,
          r.2.mem ((c.tc : Thread Cert.FfnOutBwdRefIdeal.nD Cert.FfnOutBwdRefIdeal.τ).loc Cert.FfnOutBwdRefIdeal.main_v23) = v0 c
          ∧ r.2.mem ((c.tc : Thread Cert.FfnOutBwdRefIdeal.nD Cert.FfnOutBwdRefIdeal.τ).loc Cert.FfnOutBwdRefIdeal.main_v24) = v1 c
          ∧ r.2.mem ((c.tc : Thread Cert.FfnOutBwdRefIdeal.nD Cert.FfnOutBwdRefIdeal.τ).loc Cert.FfnOutBwdRefIdeal.main_arg0) = m' ((c.tc : Thread Cert.FfnOutBwdRefIdeal.nD Cert.FfnOutBwdRefIdeal.τ).loc Cert.FfnOutBwdRefIdeal.main_arg0)
          ∧ r.2.mem ((c.tc : Thread Cert.FfnOutBwdRefIdeal.nD Cert.FfnOutBwdRefIdeal.τ).loc Cert.FfnOutBwdRefIdeal.main_arg1) = m' ((c.tc : Thread Cert.FfnOutBwdRefIdeal.nD Cert.FfnOutBwdRefIdeal.τ).loc Cert.FfnOutBwdRefIdeal.main_arg1)
          ∧ r.2.mem ((c.tc : Thread Cert.FfnOutBwdRefIdeal.nD Cert.FfnOutBwdRefIdeal.τ).loc Cert.FfnOutBwdRefIdeal.main_arg2) = m' ((c.tc : Thread Cert.FfnOutBwdRefIdeal.nD Cert.FfnOutBwdRefIdeal.τ).loc Cert.FfnOutBwdRefIdeal.main_arg2)
          ∧ r.2.mem ((c.tc : Thread Cert.FfnOutBwdRefIdeal.nD Cert.FfnOutBwdRefIdeal.τ).loc Cert.FfnOutBwdRefIdeal.main_arg3) = m' ((c.tc : Thread Cert.FfnOutBwdRefIdeal.nD Cert.FfnOutBwdRefIdeal.τ).loc Cert.FfnOutBwdRefIdeal.main_arg3))

def preserves_GateDx_GateDxIdeal : Prop :=
  True

def algebraic_GateDxIdeal_GateDxRefIdeal_pre_real_norm [hGateDxIdeal : Cert.GateDxIdeal.Facts] [hGateDxRefIdeal : Cert.GateDxRefIdeal.Facts] [hPre_real_norm : Cert.Pre_real_norm.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal_real_norm m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)
      ∧ m' ((c.tc : Thread Cert.GateDxRefIdeal.nD Cert.GateDxRefIdeal.τ).loc Cert.GateDxRefIdeal.main_arg3) = m ((c.tc : Thread Cert.GateDxIdeal.nD Cert.GateDxIdeal.τ).loc Cert.GateDxIdeal.main_arg3)
      ∧ m' ((c.tc : Thread Cert.GateDxRefIdeal.nD Cert.GateDxRefIdeal.τ).loc Cert.GateDxRefIdeal.main_arg4) = m ((c.tc : Thread Cert.GateDxIdeal.nD Cert.GateDxIdeal.τ).loc Cert.GateDxIdeal.main_arg4)
      ∧ m' ((c.tc : Thread Cert.GateDxRefIdeal.nD Cert.GateDxRefIdeal.τ).loc Cert.GateDxRefIdeal.main_arg5) = m ((c.tc : Thread Cert.GateDxIdeal.nD Cert.GateDxIdeal.τ).loc Cert.GateDxIdeal.main_arg5)) →
    ∃ (v0 : (c : Dev Cert.GateDxIdeal.nD) → Buf (Elt Ideal) ((c.tc : Thread Cert.GateDxIdeal.nD Cert.GateDxIdeal.τ).loc Cert.GateDxIdeal.main_v0_0)) (v1 : (c : Dev Cert.GateDxIdeal.nD) → Buf (Elt Ideal) ((c.tc : Thread Cert.GateDxIdeal.nD Cert.GateDxIdeal.τ).loc Cert.GateDxIdeal.main_v0_1)) (v2 : (c : Dev Cert.GateDxIdeal.nD) → Buf (Elt Ideal) ((c.tc : Thread Cert.GateDxIdeal.nD Cert.GateDxIdeal.τ).loc Cert.GateDxIdeal.main_v0_2)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0_0) = v0 c
          ∧ r.2.mem ((c.tc : Thread Cert.GateDxIdeal.nD Cert.GateDxIdeal.τ).loc Cert.GateDxIdeal.main_v0_1) = v1 c
          ∧ r.2.mem ((c.tc : Thread Cert.GateDxIdeal.nD Cert.GateDxIdeal.τ).loc Cert.GateDxIdeal.main_v0_2) = v2 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
          ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
          ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4)
          ∧ r.2.mem ((c.tc : Thread Cert.GateDxIdeal.nD Cert.GateDxIdeal.τ).loc Cert.GateDxIdeal.main_arg5) = m ((c.tc : Thread Cert.GateDxIdeal.nD Cert.GateDxIdeal.τ).loc Cert.GateDxIdeal.main_arg5))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v43) = v0 c
          ∧ r.2.mem ((c.tc : Thread Cert.GateDxRefIdeal.nD Cert.GateDxRefIdeal.τ).loc Cert.GateDxRefIdeal.main_v44) = v1 c
          ∧ r.2.mem ((c.tc : Thread Cert.GateDxRefIdeal.nD Cert.GateDxRefIdeal.τ).loc Cert.GateDxRefIdeal.main_v45) = v2 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2)
          ∧ r.2.mem ((c.tc : Thread Cert.GateDxRefIdeal.nD Cert.GateDxRefIdeal.τ).loc Cert.GateDxRefIdeal.main_arg3) = m' ((c.tc : Thread Cert.GateDxRefIdeal.nD Cert.GateDxRefIdeal.τ).loc Cert.GateDxRefIdeal.main_arg3)
          ∧ r.2.mem ((c.tc : Thread Cert.GateDxRefIdeal.nD Cert.GateDxRefIdeal.τ).loc Cert.GateDxRefIdeal.main_arg4) = m' ((c.tc : Thread Cert.GateDxRefIdeal.nD Cert.GateDxRefIdeal.τ).loc Cert.GateDxRefIdeal.main_arg4)
          ∧ r.2.mem ((c.tc : Thread Cert.GateDxRefIdeal.nD Cert.GateDxRefIdeal.τ).loc Cert.GateDxRefIdeal.main_arg5) = m' ((c.tc : Thread Cert.GateDxRefIdeal.nD Cert.GateDxRefIdeal.τ).loc Cert.GateDxRefIdeal.main_arg5))

def preserves_FfnInDxG_FfnInDxGIdeal : Prop :=
  True

def algebraic_FfnInDxGIdeal_FfnInDxGRefIdeal_pre_real_norm_half [hFfnInDxGIdeal : Cert.FfnInDxGIdeal.Facts] [hFfnInDxGRefIdeal : Cert.FfnInDxGRefIdeal.Facts] [hPre_real_norm_half : Cert.Pre_real_norm_half.Facts] : Prop :=
  ∀ (m : (ℓ : Loc Cert.FfnInDxGIdeal.nD Cert.FfnInDxGIdeal.τ Cert.FfnInDxGIdeal.sig) → Buf (Elt Ideal) ℓ) (g : Dev Cert.FfnInDxGIdeal.nD → PrngReg)
    (m' : (ℓ : Loc Cert.FfnInDxGRefIdeal.nD Cert.FfnInDxGRefIdeal.τ Cert.FfnInDxGRefIdeal.sig) → Buf (Elt Ideal) ℓ) (g' : Dev Cert.FfnInDxGRefIdeal.nD → PrngReg), Pre_FfnInDxGIdeal_real_norm_half m →
    (∀ c : Dev Cert.FfnInDxGIdeal.nD,
      m' ((c.tc : Thread Cert.FfnInDxGRefIdeal.nD Cert.FfnInDxGRefIdeal.τ).loc Cert.FfnInDxGRefIdeal.main_arg0) = m ((c.tc : Thread Cert.FfnInDxGIdeal.nD Cert.FfnInDxGIdeal.τ).loc Cert.FfnInDxGIdeal.main_arg0)
      ∧ m' ((c.tc : Thread Cert.FfnInDxGRefIdeal.nD Cert.FfnInDxGRefIdeal.τ).loc Cert.FfnInDxGRefIdeal.main_arg1) = m ((c.tc : Thread Cert.FfnInDxGIdeal.nD Cert.FfnInDxGIdeal.τ).loc Cert.FfnInDxGIdeal.main_arg1)
      ∧ m' ((c.tc : Thread Cert.FfnInDxGRefIdeal.nD Cert.FfnInDxGRefIdeal.τ).loc Cert.FfnInDxGRefIdeal.main_arg2) = m ((c.tc : Thread Cert.FfnInDxGIdeal.nD Cert.FfnInDxGIdeal.τ).loc Cert.FfnInDxGIdeal.main_arg2)
      ∧ m' ((c.tc : Thread Cert.FfnInDxGRefIdeal.nD Cert.FfnInDxGRefIdeal.τ).loc Cert.FfnInDxGRefIdeal.main_arg3) = m ((c.tc : Thread Cert.FfnInDxGIdeal.nD Cert.FfnInDxGIdeal.τ).loc Cert.FfnInDxGIdeal.main_arg3)
      ∧ m' ((c.tc : Thread Cert.FfnInDxGRefIdeal.nD Cert.FfnInDxGRefIdeal.τ).loc Cert.FfnInDxGRefIdeal.main_arg4) = m ((c.tc : Thread Cert.FfnInDxGIdeal.nD Cert.FfnInDxGIdeal.τ).loc Cert.FfnInDxGIdeal.main_arg4)
      ∧ m' ((c.tc : Thread Cert.FfnInDxGRefIdeal.nD Cert.FfnInDxGRefIdeal.τ).loc Cert.FfnInDxGRefIdeal.main_arg5) = m ((c.tc : Thread Cert.FfnInDxGIdeal.nD Cert.FfnInDxGIdeal.τ).loc Cert.FfnInDxGIdeal.main_arg5)) →
    ∃ (v0 : (c : Dev Cert.FfnInDxGIdeal.nD) → Buf (Elt Ideal) ((c.tc : Thread Cert.FfnInDxGIdeal.nD Cert.FfnInDxGIdeal.τ).loc Cert.FfnInDxGIdeal.main_v0_0)) (v1 : (c : Dev Cert.FfnInDxGIdeal.nD) → Buf (Elt Ideal) ((c.tc : Thread Cert.FfnInDxGIdeal.nD Cert.FfnInDxGIdeal.τ).loc Cert.FfnInDxGIdeal.main_v0_1)) (v2 : (c : Dev Cert.FfnInDxGIdeal.nD) → Buf (Elt Ideal) ((c.tc : Thread Cert.FfnInDxGIdeal.nD Cert.FfnInDxGIdeal.τ).loc Cert.FfnInDxGIdeal.main_v0_2)),
      θ_run (Cert.FfnInDxGIdeal.defs (F := Ideal)) (onTc (τ := Cert.FfnInDxGIdeal.τ) (Cert.FfnInDxGIdeal.main (F := Ideal))) ⟨m, fun _ => 0, g⟩ (fun r => ∀ c : Dev Cert.FfnInDxGIdeal.nD,
          r.2.mem ((c.tc : Thread Cert.FfnInDxGIdeal.nD Cert.FfnInDxGIdeal.τ).loc Cert.FfnInDxGIdeal.main_v0_0) = v0 c
          ∧ r.2.mem ((c.tc : Thread Cert.FfnInDxGIdeal.nD Cert.FfnInDxGIdeal.τ).loc Cert.FfnInDxGIdeal.main_v0_1) = v1 c
          ∧ r.2.mem ((c.tc : Thread Cert.FfnInDxGIdeal.nD Cert.FfnInDxGIdeal.τ).loc Cert.FfnInDxGIdeal.main_v0_2) = v2 c
          ∧ r.2.mem ((c.tc : Thread Cert.FfnInDxGIdeal.nD Cert.FfnInDxGIdeal.τ).loc Cert.FfnInDxGIdeal.main_arg0) = m ((c.tc : Thread Cert.FfnInDxGIdeal.nD Cert.FfnInDxGIdeal.τ).loc Cert.FfnInDxGIdeal.main_arg0)
          ∧ r.2.mem ((c.tc : Thread Cert.FfnInDxGIdeal.nD Cert.FfnInDxGIdeal.τ).loc Cert.FfnInDxGIdeal.main_arg1) = m ((c.tc : Thread Cert.FfnInDxGIdeal.nD Cert.FfnInDxGIdeal.τ).loc Cert.FfnInDxGIdeal.main_arg1)
          ∧ r.2.mem ((c.tc : Thread Cert.FfnInDxGIdeal.nD Cert.FfnInDxGIdeal.τ).loc Cert.FfnInDxGIdeal.main_arg2) = m ((c.tc : Thread Cert.FfnInDxGIdeal.nD Cert.FfnInDxGIdeal.τ).loc Cert.FfnInDxGIdeal.main_arg2)
          ∧ r.2.mem ((c.tc : Thread Cert.FfnInDxGIdeal.nD Cert.FfnInDxGIdeal.τ).loc Cert.FfnInDxGIdeal.main_arg3) = m ((c.tc : Thread Cert.FfnInDxGIdeal.nD Cert.FfnInDxGIdeal.τ).loc Cert.FfnInDxGIdeal.main_arg3)
          ∧ r.2.mem ((c.tc : Thread Cert.FfnInDxGIdeal.nD Cert.FfnInDxGIdeal.τ).loc Cert.FfnInDxGIdeal.main_arg4) = m ((c.tc : Thread Cert.FfnInDxGIdeal.nD Cert.FfnInDxGIdeal.τ).loc Cert.FfnInDxGIdeal.main_arg4)
          ∧ r.2.mem ((c.tc : Thread Cert.FfnInDxGIdeal.nD Cert.FfnInDxGIdeal.τ).loc Cert.FfnInDxGIdeal.main_arg5) = m ((c.tc : Thread Cert.FfnInDxGIdeal.nD Cert.FfnInDxGIdeal.τ).loc Cert.FfnInDxGIdeal.main_arg5))
      ∧ θ_run (Cert.FfnInDxGRefIdeal.defs (F := Ideal)) (onTc (τ := Cert.FfnInDxGRefIdeal.τ) (Cert.FfnInDxGRefIdeal.main (F := Ideal))) ⟨m', fun _ => 0, g'⟩ (fun r => ∀ c : Dev Cert.FfnInDxGRefIdeal.nD,
          r.2.mem ((c.tc : Thread Cert.FfnInDxGRefIdeal.nD Cert.FfnInDxGRefIdeal.τ).loc Cert.FfnInDxGRefIdeal.main_v44) = v0 c
          ∧ r.2.mem ((c.tc : Thread Cert.FfnInDxGRefIdeal.nD Cert.FfnInDxGRefIdeal.τ).loc Cert.FfnInDxGRefIdeal.main_v45) = v1 c
          ∧ r.2.mem ((c.tc : Thread Cert.FfnInDxGRefIdeal.nD Cert.FfnInDxGRefIdeal.τ).loc Cert.FfnInDxGRefIdeal.main_v46) = v2 c
          ∧ r.2.mem ((c.tc : Thread Cert.FfnInDxGRefIdeal.nD Cert.FfnInDxGRefIdeal.τ).loc Cert.FfnInDxGRefIdeal.main_arg0) = m' ((c.tc : Thread Cert.FfnInDxGRefIdeal.nD Cert.FfnInDxGRefIdeal.τ).loc Cert.FfnInDxGRefIdeal.main_arg0)
          ∧ r.2.mem ((c.tc : Thread Cert.FfnInDxGRefIdeal.nD Cert.FfnInDxGRefIdeal.τ).loc Cert.FfnInDxGRefIdeal.main_arg1) = m' ((c.tc : Thread Cert.FfnInDxGRefIdeal.nD Cert.FfnInDxGRefIdeal.τ).loc Cert.FfnInDxGRefIdeal.main_arg1)
          ∧ r.2.mem ((c.tc : Thread Cert.FfnInDxGRefIdeal.nD Cert.FfnInDxGRefIdeal.τ).loc Cert.FfnInDxGRefIdeal.main_arg2) = m' ((c.tc : Thread Cert.FfnInDxGRefIdeal.nD Cert.FfnInDxGRefIdeal.τ).loc Cert.FfnInDxGRefIdeal.main_arg2)
          ∧ r.2.mem ((c.tc : Thread Cert.FfnInDxGRefIdeal.nD Cert.FfnInDxGRefIdeal.τ).loc Cert.FfnInDxGRefIdeal.main_arg3) = m' ((c.tc : Thread Cert.FfnInDxGRefIdeal.nD Cert.FfnInDxGRefIdeal.τ).loc Cert.FfnInDxGRefIdeal.main_arg3)
          ∧ r.2.mem ((c.tc : Thread Cert.FfnInDxGRefIdeal.nD Cert.FfnInDxGRefIdeal.τ).loc Cert.FfnInDxGRefIdeal.main_arg4) = m' ((c.tc : Thread Cert.FfnInDxGRefIdeal.nD Cert.FfnInDxGRefIdeal.τ).loc Cert.FfnInDxGRefIdeal.main_arg4)
          ∧ r.2.mem ((c.tc : Thread Cert.FfnInDxGRefIdeal.nD Cert.FfnInDxGRefIdeal.τ).loc Cert.FfnInDxGRefIdeal.main_arg5) = m' ((c.tc : Thread Cert.FfnInDxGRefIdeal.nD Cert.FfnInDxGRefIdeal.τ).loc Cert.FfnInDxGRefIdeal.main_arg5))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v7) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_FfnInDxA_FfnInDxAIdeal : Prop :=
  True

def algebraic_FfnInDxAIdeal_FfnInDxARefIdeal [hFfnInDxAIdeal : Cert.FfnInDxAIdeal.Facts] [hFfnInDxARefIdeal : Cert.FfnInDxARefIdeal.Facts] : Prop :=
  ∀ (m : (ℓ : Loc Cert.FfnInDxAIdeal.nD Cert.FfnInDxAIdeal.τ Cert.FfnInDxAIdeal.sig) → Buf (Elt Ideal) ℓ) (g : Dev Cert.FfnInDxAIdeal.nD → PrngReg)
    (m' : (ℓ : Loc Cert.FfnInDxARefIdeal.nD Cert.FfnInDxARefIdeal.τ Cert.FfnInDxARefIdeal.sig) → Buf (Elt Ideal) ℓ) (g' : Dev Cert.FfnInDxARefIdeal.nD → PrngReg), Pre_FfnInDxAIdeal m →
    (∀ c : Dev Cert.FfnInDxAIdeal.nD,
      m' ((c.tc : Thread Cert.FfnInDxARefIdeal.nD Cert.FfnInDxARefIdeal.τ).loc Cert.FfnInDxARefIdeal.main_arg0) = m ((c.tc : Thread Cert.FfnInDxAIdeal.nD Cert.FfnInDxAIdeal.τ).loc Cert.FfnInDxAIdeal.main_arg0)
      ∧ m' ((c.tc : Thread Cert.FfnInDxARefIdeal.nD Cert.FfnInDxARefIdeal.τ).loc Cert.FfnInDxARefIdeal.main_arg1) = m ((c.tc : Thread Cert.FfnInDxAIdeal.nD Cert.FfnInDxAIdeal.τ).loc Cert.FfnInDxAIdeal.main_arg1)) →
    ∃ (v0 : (c : Dev Cert.FfnInDxAIdeal.nD) → Buf (Elt Ideal) ((c.tc : Thread Cert.FfnInDxAIdeal.nD Cert.FfnInDxAIdeal.τ).loc Cert.FfnInDxAIdeal.main_v0)),
      θ_run (Cert.FfnInDxAIdeal.defs (F := Ideal)) (onTc (τ := Cert.FfnInDxAIdeal.τ) (Cert.FfnInDxAIdeal.main (F := Ideal))) ⟨m, fun _ => 0, g⟩ (fun r => ∀ c : Dev Cert.FfnInDxAIdeal.nD,
          r.2.mem ((c.tc : Thread Cert.FfnInDxAIdeal.nD Cert.FfnInDxAIdeal.τ).loc Cert.FfnInDxAIdeal.main_v0) = v0 c
          ∧ r.2.mem ((c.tc : Thread Cert.FfnInDxAIdeal.nD Cert.FfnInDxAIdeal.τ).loc Cert.FfnInDxAIdeal.main_arg0) = m ((c.tc : Thread Cert.FfnInDxAIdeal.nD Cert.FfnInDxAIdeal.τ).loc Cert.FfnInDxAIdeal.main_arg0)
          ∧ r.2.mem ((c.tc : Thread Cert.FfnInDxAIdeal.nD Cert.FfnInDxAIdeal.τ).loc Cert.FfnInDxAIdeal.main_arg1) = m ((c.tc : Thread Cert.FfnInDxAIdeal.nD Cert.FfnInDxAIdeal.τ).loc Cert.FfnInDxAIdeal.main_arg1))
      ∧ θ_run (Cert.FfnInDxARefIdeal.defs (F := Ideal)) (onTc (τ := Cert.FfnInDxARefIdeal.τ) (Cert.FfnInDxARefIdeal.main (F := Ideal))) ⟨m', fun _ => 0, g'⟩ (fun r => ∀ c : Dev Cert.FfnInDxARefIdeal.nD,
          r.2.mem ((c.tc : Thread Cert.FfnInDxARefIdeal.nD Cert.FfnInDxARefIdeal.τ).loc Cert.FfnInDxARefIdeal.main_v6) = v0 c
          ∧ r.2.mem ((c.tc : Thread Cert.FfnInDxARefIdeal.nD Cert.FfnInDxARefIdeal.τ).loc Cert.FfnInDxARefIdeal.main_arg0) = m' ((c.tc : Thread Cert.FfnInDxARefIdeal.nD Cert.FfnInDxARefIdeal.τ).loc Cert.FfnInDxARefIdeal.main_arg0)
          ∧ r.2.mem ((c.tc : Thread Cert.FfnInDxARefIdeal.nD Cert.FfnInDxARefIdeal.τ).loc Cert.FfnInDxARefIdeal.main_arg1) = m' ((c.tc : Thread Cert.FfnInDxARefIdeal.nD Cert.FfnInDxARefIdeal.τ).loc Cert.FfnInDxARefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_FfnInDwA_FfnInDwAIdeal : Prop :=
  True

def algebraic_FfnInDwAIdeal_FfnInDwARefIdeal [hFfnInDwAIdeal : Cert.FfnInDwAIdeal.Facts] [hFfnInDwARefIdeal : Cert.FfnInDwARefIdeal.Facts] : Prop :=
  ∀ (m : (ℓ : Loc Cert.FfnInDwAIdeal.nD Cert.FfnInDwAIdeal.τ Cert.FfnInDwAIdeal.sig) → Buf (Elt Ideal) ℓ) (g : Dev Cert.FfnInDwAIdeal.nD → PrngReg)
    (m' : (ℓ : Loc Cert.FfnInDwARefIdeal.nD Cert.FfnInDwARefIdeal.τ Cert.FfnInDwARefIdeal.sig) → Buf (Elt Ideal) ℓ) (g' : Dev Cert.FfnInDwARefIdeal.nD → PrngReg), Pre_FfnInDwAIdeal m →
    (∀ c : Dev Cert.FfnInDwAIdeal.nD,
      m' ((c.tc : Thread Cert.FfnInDwARefIdeal.nD Cert.FfnInDwARefIdeal.τ).loc Cert.FfnInDwARefIdeal.main_arg0) = m ((c.tc : Thread Cert.FfnInDwAIdeal.nD Cert.FfnInDwAIdeal.τ).loc Cert.FfnInDwAIdeal.main_arg0)
      ∧ m' ((c.tc : Thread Cert.FfnInDwARefIdeal.nD Cert.FfnInDwARefIdeal.τ).loc Cert.FfnInDwARefIdeal.main_arg1) = m ((c.tc : Thread Cert.FfnInDwAIdeal.nD Cert.FfnInDwAIdeal.τ).loc Cert.FfnInDwAIdeal.main_arg1)
      ∧ m' ((c.tc : Thread Cert.FfnInDwARefIdeal.nD Cert.FfnInDwARefIdeal.τ).loc Cert.FfnInDwARefIdeal.main_arg2) = m ((c.tc : Thread Cert.FfnInDwAIdeal.nD Cert.FfnInDwAIdeal.τ).loc Cert.FfnInDwAIdeal.main_arg2)) →
    ∃ (v0 : (c : Dev Cert.FfnInDwAIdeal.nD) → Buf (Elt Ideal) ((c.tc : Thread Cert.FfnInDwAIdeal.nD Cert.FfnInDwAIdeal.τ).loc Cert.FfnInDwAIdeal.main_v0)),
      θ_run (Cert.FfnInDwAIdeal.defs (F := Ideal)) (onTc (τ := Cert.FfnInDwAIdeal.τ) (Cert.FfnInDwAIdeal.main (F := Ideal))) ⟨m, fun _ => 0, g⟩ (fun r => ∀ c : Dev Cert.FfnInDwAIdeal.nD,
          r.2.mem ((c.tc : Thread Cert.FfnInDwAIdeal.nD Cert.FfnInDwAIdeal.τ).loc Cert.FfnInDwAIdeal.main_v0) = v0 c
          ∧ r.2.mem ((c.tc : Thread Cert.FfnInDwAIdeal.nD Cert.FfnInDwAIdeal.τ).loc Cert.FfnInDwAIdeal.main_arg0) = m ((c.tc : Thread Cert.FfnInDwAIdeal.nD Cert.FfnInDwAIdeal.τ).loc Cert.FfnInDwAIdeal.main_arg0)
          ∧ r.2.mem ((c.tc : Thread Cert.FfnInDwAIdeal.nD Cert.FfnInDwAIdeal.τ).loc Cert.FfnInDwAIdeal.main_arg1) = m ((c.tc : Thread Cert.FfnInDwAIdeal.nD Cert.FfnInDwAIdeal.τ).loc Cert.FfnInDwAIdeal.main_arg1)
          ∧ r.2.mem ((c.tc : Thread Cert.FfnInDwAIdeal.nD Cert.FfnInDwAIdeal.τ).loc Cert.FfnInDwAIdeal.main_arg2) = m ((c.tc : Thread Cert.FfnInDwAIdeal.nD Cert.FfnInDwAIdeal.τ).loc Cert.FfnInDwAIdeal.main_arg2))
      ∧ θ_run (Cert.FfnInDwARefIdeal.defs (F := Ideal)) (onTc (τ := Cert.FfnInDwARefIdeal.τ) (Cert.FfnInDwARefIdeal.main (F := Ideal))) ⟨m', fun _ => 0, g'⟩ (fun r => ∀ c : Dev Cert.FfnInDwARefIdeal.nD,
          r.2.mem ((c.tc : Thread Cert.FfnInDwARefIdeal.nD Cert.FfnInDwARefIdeal.τ).loc Cert.FfnInDwARefIdeal.main_v9) = v0 c
          ∧ r.2.mem ((c.tc : Thread Cert.FfnInDwARefIdeal.nD Cert.FfnInDwARefIdeal.τ).loc Cert.FfnInDwARefIdeal.main_arg0) = m' ((c.tc : Thread Cert.FfnInDwARefIdeal.nD Cert.FfnInDwARefIdeal.τ).loc Cert.FfnInDwARefIdeal.main_arg0)
          ∧ r.2.mem ((c.tc : Thread Cert.FfnInDwARefIdeal.nD Cert.FfnInDwARefIdeal.τ).loc Cert.FfnInDwARefIdeal.main_arg1) = m' ((c.tc : Thread Cert.FfnInDwARefIdeal.nD Cert.FfnInDwARefIdeal.τ).loc Cert.FfnInDwARefIdeal.main_arg1)
          ∧ r.2.mem ((c.tc : Thread Cert.FfnInDwARefIdeal.nD Cert.FfnInDwARefIdeal.τ).loc Cert.FfnInDwARefIdeal.main_arg2) = m' ((c.tc : Thread Cert.FfnInDwARefIdeal.nD Cert.FfnInDwARefIdeal.τ).loc Cert.FfnInDwARefIdeal.main_arg2))

def preserves_FfnInDwG_FfnInDwGIdeal : Prop :=
  True

def algebraic_FfnInDwGIdeal_FfnInDwGRefIdeal [hFfnInDwGIdeal : Cert.FfnInDwGIdeal.Facts] [hFfnInDwGRefIdeal : Cert.FfnInDwGRefIdeal.Facts] : Prop :=
  ∀ (m : (ℓ : Loc Cert.FfnInDwGIdeal.nD Cert.FfnInDwGIdeal.τ Cert.FfnInDwGIdeal.sig) → Buf (Elt Ideal) ℓ) (g : Dev Cert.FfnInDwGIdeal.nD → PrngReg)
    (m' : (ℓ : Loc Cert.FfnInDwGRefIdeal.nD Cert.FfnInDwGRefIdeal.τ Cert.FfnInDwGRefIdeal.sig) → Buf (Elt Ideal) ℓ) (g' : Dev Cert.FfnInDwGRefIdeal.nD → PrngReg), Pre_FfnInDwGIdeal m →
    (∀ c : Dev Cert.FfnInDwGIdeal.nD,
      m' ((c.tc : Thread Cert.FfnInDwGRefIdeal.nD Cert.FfnInDwGRefIdeal.τ).loc Cert.FfnInDwGRefIdeal.main_arg0) = m ((c.tc : Thread Cert.FfnInDwGIdeal.nD Cert.FfnInDwGIdeal.τ).loc Cert.FfnInDwGIdeal.main_arg0)
      ∧ m' ((c.tc : Thread Cert.FfnInDwGRefIdeal.nD Cert.FfnInDwGRefIdeal.τ).loc Cert.FfnInDwGRefIdeal.main_arg1) = m ((c.tc : Thread Cert.FfnInDwGIdeal.nD Cert.FfnInDwGIdeal.τ).loc Cert.FfnInDwGIdeal.main_arg1)
      ∧ m' ((c.tc : Thread Cert.FfnInDwGRefIdeal.nD Cert.FfnInDwGRefIdeal.τ).loc Cert.FfnInDwGRefIdeal.main_arg2) = m ((c.tc : Thread Cert.FfnInDwGIdeal.nD Cert.FfnInDwGIdeal.τ).loc Cert.FfnInDwGIdeal.main_arg2)) →
    ∃ (v0 : (c : Dev Cert.FfnInDwGIdeal.nD) → Buf (Elt Ideal) ((c.tc : Thread Cert.FfnInDwGIdeal.nD Cert.FfnInDwGIdeal.τ).loc Cert.FfnInDwGIdeal.main_v0)),
      θ_run (Cert.FfnInDwGIdeal.defs (F := Ideal)) (onTc (τ := Cert.FfnInDwGIdeal.τ) (Cert.FfnInDwGIdeal.main (F := Ideal))) ⟨m, fun _ => 0, g⟩ (fun r => ∀ c : Dev Cert.FfnInDwGIdeal.nD,
          r.2.mem ((c.tc : Thread Cert.FfnInDwGIdeal.nD Cert.FfnInDwGIdeal.τ).loc Cert.FfnInDwGIdeal.main_v0) = v0 c
          ∧ r.2.mem ((c.tc : Thread Cert.FfnInDwGIdeal.nD Cert.FfnInDwGIdeal.τ).loc Cert.FfnInDwGIdeal.main_arg0) = m ((c.tc : Thread Cert.FfnInDwGIdeal.nD Cert.FfnInDwGIdeal.τ).loc Cert.FfnInDwGIdeal.main_arg0)
          ∧ r.2.mem ((c.tc : Thread Cert.FfnInDwGIdeal.nD Cert.FfnInDwGIdeal.τ).loc Cert.FfnInDwGIdeal.main_arg1) = m ((c.tc : Thread Cert.FfnInDwGIdeal.nD Cert.FfnInDwGIdeal.τ).loc Cert.FfnInDwGIdeal.main_arg1)
          ∧ r.2.mem ((c.tc : Thread Cert.FfnInDwGIdeal.nD Cert.FfnInDwGIdeal.τ).loc Cert.FfnInDwGIdeal.main_arg2) = m ((c.tc : Thread Cert.FfnInDwGIdeal.nD Cert.FfnInDwGIdeal.τ).loc Cert.FfnInDwGIdeal.main_arg2))
      ∧ θ_run (Cert.FfnInDwGRefIdeal.defs (F := Ideal)) (onTc (τ := Cert.FfnInDwGRefIdeal.τ) (Cert.FfnInDwGRefIdeal.main (F := Ideal))) ⟨m', fun _ => 0, g'⟩ (fun r => ∀ c : Dev Cert.FfnInDwGRefIdeal.nD,
          r.2.mem ((c.tc : Thread Cert.FfnInDwGRefIdeal.nD Cert.FfnInDwGRefIdeal.τ).loc Cert.FfnInDwGRefIdeal.main_v9) = v0 c
          ∧ r.2.mem ((c.tc : Thread Cert.FfnInDwGRefIdeal.nD Cert.FfnInDwGRefIdeal.τ).loc Cert.FfnInDwGRefIdeal.main_arg0) = m' ((c.tc : Thread Cert.FfnInDwGRefIdeal.nD Cert.FfnInDwGRefIdeal.τ).loc Cert.FfnInDwGRefIdeal.main_arg0)
          ∧ r.2.mem ((c.tc : Thread Cert.FfnInDwGRefIdeal.nD Cert.FfnInDwGRefIdeal.τ).loc Cert.FfnInDwGRefIdeal.main_arg1) = m' ((c.tc : Thread Cert.FfnInDwGRefIdeal.nD Cert.FfnInDwGRefIdeal.τ).loc Cert.FfnInDwGRefIdeal.main_arg1)
          ∧ r.2.mem ((c.tc : Thread Cert.FfnInDwGRefIdeal.nD Cert.FfnInDwGRefIdeal.τ).loc Cert.FfnInDwGRefIdeal.main_arg2) = m' ((c.tc : Thread Cert.FfnInDwGRefIdeal.nD Cert.FfnInDwGRefIdeal.τ).loc Cert.FfnInDwGRefIdeal.main_arg2))

def preserves_NormMemBwd_NormMemBwdIdeal : Prop :=
  True

def algebraic_NormMemBwdIdeal_NormMemBwdRefIdeal_pre_real_norm_mem [hNormMemBwdIdeal : Cert.NormMemBwdIdeal.Facts] [hNormMemBwdRefIdeal : Cert.NormMemBwdRefIdeal.Facts] [hPre_real_norm_mem : Cert.Pre_real_norm_mem.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal_real_norm_mem m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)
      ∧ m' ((c.tc : Thread Cert.NormMemBwdRefIdeal.nD Cert.NormMemBwdRefIdeal.τ).loc Cert.NormMemBwdRefIdeal.main_arg3) = m ((c.tc : Thread Cert.NormMemBwdIdeal.nD Cert.NormMemBwdIdeal.τ).loc Cert.NormMemBwdIdeal.main_arg3)) →
    ∃ (v0 : (c : Dev Cert.NormMemBwdIdeal.nD) → Buf (Elt Ideal) ((c.tc : Thread Cert.NormMemBwdIdeal.nD Cert.NormMemBwdIdeal.τ).loc Cert.NormMemBwdIdeal.main_v0_0)) (v1 : (c : Dev Cert.NormMemBwdIdeal.nD) → Buf (Elt Ideal) ((c.tc : Thread Cert.NormMemBwdIdeal.nD Cert.NormMemBwdIdeal.τ).loc Cert.NormMemBwdIdeal.main_v0_1)) (v2 : (c : Dev Cert.NormMemBwdIdeal.nD) → Buf (Elt Ideal) ((c.tc : Thread Cert.NormMemBwdIdeal.nD Cert.NormMemBwdIdeal.τ).loc Cert.NormMemBwdIdeal.main_v0_2)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0_0) = v0 c
          ∧ r.2.mem ((c.tc : Thread Cert.NormMemBwdIdeal.nD Cert.NormMemBwdIdeal.τ).loc Cert.NormMemBwdIdeal.main_v0_1) = v1 c
          ∧ r.2.mem ((c.tc : Thread Cert.NormMemBwdIdeal.nD Cert.NormMemBwdIdeal.τ).loc Cert.NormMemBwdIdeal.main_v0_2) = v2 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2)
          ∧ r.2.mem ((c.tc : Thread Cert.NormMemBwdIdeal.nD Cert.NormMemBwdIdeal.τ).loc Cert.NormMemBwdIdeal.main_arg3) = m ((c.tc : Thread Cert.NormMemBwdIdeal.nD Cert.NormMemBwdIdeal.τ).loc Cert.NormMemBwdIdeal.main_arg3))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v37) = v0 c
          ∧ r.2.mem ((c.tc : Thread Cert.NormMemBwdRefIdeal.nD Cert.NormMemBwdRefIdeal.τ).loc Cert.NormMemBwdRefIdeal.main_v38) = v1 c
          ∧ r.2.mem ((c.tc : Thread Cert.NormMemBwdRefIdeal.nD Cert.NormMemBwdRefIdeal.τ).loc Cert.NormMemBwdRefIdeal.main_v39) = v2 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2)
          ∧ r.2.mem ((c.tc : Thread Cert.NormMemBwdRefIdeal.nD Cert.NormMemBwdRefIdeal.τ).loc Cert.NormMemBwdRefIdeal.main_arg3) = m' ((c.tc : Thread Cert.NormMemBwdRefIdeal.nD Cert.NormMemBwdRefIdeal.τ).loc Cert.NormMemBwdRefIdeal.main_arg3))

def preserves_MemkvDw_MemkvDwIdeal : Prop :=
  True

def algebraic_MemkvDwIdeal_MemkvDwRefIdeal [hMemkvDwIdeal : Cert.MemkvDwIdeal.Facts] [hMemkvDwRefIdeal : Cert.MemkvDwRefIdeal.Facts] : Prop :=
  ∀ (m : (ℓ : Loc Cert.MemkvDwIdeal.nD Cert.MemkvDwIdeal.τ Cert.MemkvDwIdeal.sig) → Buf (Elt Ideal) ℓ) (g : Dev Cert.MemkvDwIdeal.nD → PrngReg)
    (m' : (ℓ : Loc Cert.MemkvDwRefIdeal.nD Cert.MemkvDwRefIdeal.τ Cert.MemkvDwRefIdeal.sig) → Buf (Elt Ideal) ℓ) (g' : Dev Cert.MemkvDwRefIdeal.nD → PrngReg), Pre_MemkvDwIdeal m →
    (∀ c : Dev Cert.MemkvDwIdeal.nD,
      m' ((c.tc : Thread Cert.MemkvDwRefIdeal.nD Cert.MemkvDwRefIdeal.τ).loc Cert.MemkvDwRefIdeal.main_arg0) = m ((c.tc : Thread Cert.MemkvDwIdeal.nD Cert.MemkvDwIdeal.τ).loc Cert.MemkvDwIdeal.main_arg0)
      ∧ m' ((c.tc : Thread Cert.MemkvDwRefIdeal.nD Cert.MemkvDwRefIdeal.τ).loc Cert.MemkvDwRefIdeal.main_arg1) = m ((c.tc : Thread Cert.MemkvDwIdeal.nD Cert.MemkvDwIdeal.τ).loc Cert.MemkvDwIdeal.main_arg1)) →
    ∃ (v0 : (c : Dev Cert.MemkvDwIdeal.nD) → Buf (Elt Ideal) ((c.tc : Thread Cert.MemkvDwIdeal.nD Cert.MemkvDwIdeal.τ).loc Cert.MemkvDwIdeal.main_v0)),
      θ_run (Cert.MemkvDwIdeal.defs (F := Ideal)) (onTc (τ := Cert.MemkvDwIdeal.τ) (Cert.MemkvDwIdeal.main (F := Ideal))) ⟨m, fun _ => 0, g⟩ (fun r => ∀ c : Dev Cert.MemkvDwIdeal.nD,
          r.2.mem ((c.tc : Thread Cert.MemkvDwIdeal.nD Cert.MemkvDwIdeal.τ).loc Cert.MemkvDwIdeal.main_v0) = v0 c
          ∧ r.2.mem ((c.tc : Thread Cert.MemkvDwIdeal.nD Cert.MemkvDwIdeal.τ).loc Cert.MemkvDwIdeal.main_arg0) = m ((c.tc : Thread Cert.MemkvDwIdeal.nD Cert.MemkvDwIdeal.τ).loc Cert.MemkvDwIdeal.main_arg0)
          ∧ r.2.mem ((c.tc : Thread Cert.MemkvDwIdeal.nD Cert.MemkvDwIdeal.τ).loc Cert.MemkvDwIdeal.main_arg1) = m ((c.tc : Thread Cert.MemkvDwIdeal.nD Cert.MemkvDwIdeal.τ).loc Cert.MemkvDwIdeal.main_arg1))
      ∧ θ_run (Cert.MemkvDwRefIdeal.defs (F := Ideal)) (onTc (τ := Cert.MemkvDwRefIdeal.τ) (Cert.MemkvDwRefIdeal.main (F := Ideal))) ⟨m', fun _ => 0, g'⟩ (fun r => ∀ c : Dev Cert.MemkvDwRefIdeal.nD,
          r.2.mem ((c.tc : Thread Cert.MemkvDwRefIdeal.nD Cert.MemkvDwRefIdeal.τ).loc Cert.MemkvDwRefIdeal.main_v6) = v0 c
          ∧ r.2.mem ((c.tc : Thread Cert.MemkvDwRefIdeal.nD Cert.MemkvDwRefIdeal.τ).loc Cert.MemkvDwRefIdeal.main_arg0) = m' ((c.tc : Thread Cert.MemkvDwRefIdeal.nD Cert.MemkvDwRefIdeal.τ).loc Cert.MemkvDwRefIdeal.main_arg0)
          ∧ r.2.mem ((c.tc : Thread Cert.MemkvDwRefIdeal.nD Cert.MemkvDwRefIdeal.τ).loc Cert.MemkvDwRefIdeal.main_arg1) = m' ((c.tc : Thread Cert.MemkvDwRefIdeal.nD Cert.MemkvDwRefIdeal.τ).loc Cert.MemkvDwRefIdeal.main_arg1))

def preserves_MemkvDx_MemkvDxIdeal : Prop :=
  True

def algebraic_MemkvDxIdeal_MemkvDxRefIdeal [hMemkvDxIdeal : Cert.MemkvDxIdeal.Facts] [hMemkvDxRefIdeal : Cert.MemkvDxRefIdeal.Facts] : Prop :=
  ∀ (m : (ℓ : Loc Cert.MemkvDxIdeal.nD Cert.MemkvDxIdeal.τ Cert.MemkvDxIdeal.sig) → Buf (Elt Ideal) ℓ) (g : Dev Cert.MemkvDxIdeal.nD → PrngReg)
    (m' : (ℓ : Loc Cert.MemkvDxRefIdeal.nD Cert.MemkvDxRefIdeal.τ Cert.MemkvDxRefIdeal.sig) → Buf (Elt Ideal) ℓ) (g' : Dev Cert.MemkvDxRefIdeal.nD → PrngReg), Pre_MemkvDxIdeal m →
    (∀ c : Dev Cert.MemkvDxIdeal.nD,
      m' ((c.tc : Thread Cert.MemkvDxRefIdeal.nD Cert.MemkvDxRefIdeal.τ).loc Cert.MemkvDxRefIdeal.main_arg0) = m ((c.tc : Thread Cert.MemkvDxIdeal.nD Cert.MemkvDxIdeal.τ).loc Cert.MemkvDxIdeal.main_arg0)
      ∧ m' ((c.tc : Thread Cert.MemkvDxRefIdeal.nD Cert.MemkvDxRefIdeal.τ).loc Cert.MemkvDxRefIdeal.main_arg1) = m ((c.tc : Thread Cert.MemkvDxIdeal.nD Cert.MemkvDxIdeal.τ).loc Cert.MemkvDxIdeal.main_arg1)) →
    ∃ (v0 : (c : Dev Cert.MemkvDxIdeal.nD) → Buf (Elt Ideal) ((c.tc : Thread Cert.MemkvDxIdeal.nD Cert.MemkvDxIdeal.τ).loc Cert.MemkvDxIdeal.main_v0)),
      θ_run (Cert.MemkvDxIdeal.defs (F := Ideal)) (onTc (τ := Cert.MemkvDxIdeal.τ) (Cert.MemkvDxIdeal.main (F := Ideal))) ⟨m, fun _ => 0, g⟩ (fun r => ∀ c : Dev Cert.MemkvDxIdeal.nD,
          r.2.mem ((c.tc : Thread Cert.MemkvDxIdeal.nD Cert.MemkvDxIdeal.τ).loc Cert.MemkvDxIdeal.main_v0) = v0 c
          ∧ r.2.mem ((c.tc : Thread Cert.MemkvDxIdeal.nD Cert.MemkvDxIdeal.τ).loc Cert.MemkvDxIdeal.main_arg0) = m ((c.tc : Thread Cert.MemkvDxIdeal.nD Cert.MemkvDxIdeal.τ).loc Cert.MemkvDxIdeal.main_arg0)
          ∧ r.2.mem ((c.tc : Thread Cert.MemkvDxIdeal.nD Cert.MemkvDxIdeal.τ).loc Cert.MemkvDxIdeal.main_arg1) = m ((c.tc : Thread Cert.MemkvDxIdeal.nD Cert.MemkvDxIdeal.τ).loc Cert.MemkvDxIdeal.main_arg1))
      ∧ θ_run (Cert.MemkvDxRefIdeal.defs (F := Ideal)) (onTc (τ := Cert.MemkvDxRefIdeal.τ) (Cert.MemkvDxRefIdeal.main (F := Ideal))) ⟨m', fun _ => 0, g'⟩ (fun r => ∀ c : Dev Cert.MemkvDxRefIdeal.nD,
          r.2.mem ((c.tc : Thread Cert.MemkvDxRefIdeal.nD Cert.MemkvDxRefIdeal.τ).loc Cert.MemkvDxRefIdeal.main_v4) = v0 c
          ∧ r.2.mem ((c.tc : Thread Cert.MemkvDxRefIdeal.nD Cert.MemkvDxRefIdeal.τ).loc Cert.MemkvDxRefIdeal.main_arg0) = m' ((c.tc : Thread Cert.MemkvDxRefIdeal.nD Cert.MemkvDxRefIdeal.τ).loc Cert.MemkvDxRefIdeal.main_arg0)
          ∧ r.2.mem ((c.tc : Thread Cert.MemkvDxRefIdeal.nD Cert.MemkvDxRefIdeal.τ).loc Cert.MemkvDxRefIdeal.main_arg1) = m' ((c.tc : Thread Cert.MemkvDxRefIdeal.nD Cert.MemkvDxRefIdeal.τ).loc Cert.MemkvDxRefIdeal.main_arg1))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v14) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v14) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_MmMemkv_MmMemkvIdeal : Prop :=
  True

def algebraic_MmMemkvIdeal_MmMemkvRefIdeal [hMmMemkvIdeal : Cert.MmMemkvIdeal.Facts] [hMmMemkvRefIdeal : Cert.MmMemkvRefIdeal.Facts] : Prop :=
  ∀ (m : (ℓ : Loc Cert.MmMemkvIdeal.nD Cert.MmMemkvIdeal.τ Cert.MmMemkvIdeal.sig) → Buf (Elt Ideal) ℓ) (g : Dev Cert.MmMemkvIdeal.nD → PrngReg)
    (m' : (ℓ : Loc Cert.MmMemkvRefIdeal.nD Cert.MmMemkvRefIdeal.τ Cert.MmMemkvRefIdeal.sig) → Buf (Elt Ideal) ℓ) (g' : Dev Cert.MmMemkvRefIdeal.nD → PrngReg), Pre_MmMemkvIdeal m →
    (∀ c : Dev Cert.MmMemkvIdeal.nD,
      m' ((c.tc : Thread Cert.MmMemkvRefIdeal.nD Cert.MmMemkvRefIdeal.τ).loc Cert.MmMemkvRefIdeal.main_arg0) = m ((c.tc : Thread Cert.MmMemkvIdeal.nD Cert.MmMemkvIdeal.τ).loc Cert.MmMemkvIdeal.main_arg0)
      ∧ m' ((c.tc : Thread Cert.MmMemkvRefIdeal.nD Cert.MmMemkvRefIdeal.τ).loc Cert.MmMemkvRefIdeal.main_arg1) = m ((c.tc : Thread Cert.MmMemkvIdeal.nD Cert.MmMemkvIdeal.τ).loc Cert.MmMemkvIdeal.main_arg1)) →
    ∃ (v0 : (c : Dev Cert.MmMemkvIdeal.nD) → Buf (Elt Ideal) ((c.tc : Thread Cert.MmMemkvIdeal.nD Cert.MmMemkvIdeal.τ).loc Cert.MmMemkvIdeal.main_v0)),
      θ_run (Cert.MmMemkvIdeal.defs (F := Ideal)) (onTc (τ := Cert.MmMemkvIdeal.τ) (Cert.MmMemkvIdeal.main (F := Ideal))) ⟨m, fun _ => 0, g⟩ (fun r => ∀ c : Dev Cert.MmMemkvIdeal.nD,
          r.2.mem ((c.tc : Thread Cert.MmMemkvIdeal.nD Cert.MmMemkvIdeal.τ).loc Cert.MmMemkvIdeal.main_v0) = v0 c
          ∧ r.2.mem ((c.tc : Thread Cert.MmMemkvIdeal.nD Cert.MmMemkvIdeal.τ).loc Cert.MmMemkvIdeal.main_arg0) = m ((c.tc : Thread Cert.MmMemkvIdeal.nD Cert.MmMemkvIdeal.τ).loc Cert.MmMemkvIdeal.main_arg0)
          ∧ r.2.mem ((c.tc : Thread Cert.MmMemkvIdeal.nD Cert.MmMemkvIdeal.τ).loc Cert.MmMemkvIdeal.main_arg1) = m ((c.tc : Thread Cert.MmMemkvIdeal.nD Cert.MmMemkvIdeal.τ).loc Cert.MmMemkvIdeal.main_arg1))
      ∧ θ_run (Cert.MmMemkvRefIdeal.defs (F := Ideal)) (onTc (τ := Cert.MmMemkvRefIdeal.τ) (Cert.MmMemkvRefIdeal.main (F := Ideal))) ⟨m', fun _ => 0, g'⟩ (fun r => ∀ c : Dev Cert.MmMemkvRefIdeal.nD,
          r.2.mem ((c.tc : Thread Cert.MmMemkvRefIdeal.nD Cert.MmMemkvRefIdeal.τ).loc Cert.MmMemkvRefIdeal.main_v2) = v0 c
          ∧ r.2.mem ((c.tc : Thread Cert.MmMemkvRefIdeal.nD Cert.MmMemkvRefIdeal.τ).loc Cert.MmMemkvRefIdeal.main_arg0) = m' ((c.tc : Thread Cert.MmMemkvRefIdeal.nD Cert.MmMemkvRefIdeal.τ).loc Cert.MmMemkvRefIdeal.main_arg0)
          ∧ r.2.mem ((c.tc : Thread Cert.MmMemkvRefIdeal.nD Cert.MmMemkvRefIdeal.τ).loc Cert.MmMemkvRefIdeal.main_arg1) = m' ((c.tc : Thread Cert.MmMemkvRefIdeal.nD Cert.MmMemkvRefIdeal.τ).loc Cert.MmMemkvRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v30) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_v16) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v3) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v4) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v0_0)) (v1 : (c : Dev Cert.MmOutIdeal.nD) → Buf (Elt Ideal) ((c.tc : Thread Cert.MmOutIdeal.nD Cert.MmOutIdeal.τ).loc Cert.MmOutIdeal.main_v0_1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0_0) = v0 c
          ∧ r.2.mem ((c.tc : Thread Cert.MmOutIdeal.nD Cert.MmOutIdeal.τ).loc Cert.MmOutIdeal.main_v0_1) = v1 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v3) = v0 c
          ∧ r.2.mem ((c.tc : Thread Cert.MmOutRefIdeal.nD Cert.MmOutRefIdeal.τ).loc Cert.MmOutRefIdeal.main_v18) = v1 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v18) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_FfnOutLast_FfnOutLastIdeal : Prop :=
  True

def algebraic_FfnOutLastIdeal_FfnOutLastRefIdeal [hFfnOutLastIdeal : Cert.FfnOutLastIdeal.Facts] [hFfnOutLastRefIdeal : Cert.FfnOutLastRefIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg)
    (m' : (ℓ : Loc Cert.FfnOutLastRefIdeal.nD Cert.FfnOutLastRefIdeal.τ Cert.FfnOutLastRefIdeal.sig) → Buf (Elt Ideal) ℓ) (g' : Dev Cert.FfnOutLastRefIdeal.nD → PrngReg), Pre_FfnOutLastIdeal m →
    (∀ c : Dev Cert.FfnOutLastIdeal.nD,
      m' ((c.tc : Thread Cert.FfnOutLastRefIdeal.nD Cert.FfnOutLastRefIdeal.τ).loc Cert.FfnOutLastRefIdeal.main_arg0) = m ((c.tc : Thread Cert.FfnOutLastIdeal.nD Cert.FfnOutLastIdeal.τ).loc Cert.FfnOutLastIdeal.main_arg0)
      ∧ m' ((c.tc : Thread Cert.FfnOutLastRefIdeal.nD Cert.FfnOutLastRefIdeal.τ).loc Cert.FfnOutLastRefIdeal.main_arg1) = m ((c.tc : Thread Cert.FfnOutLastIdeal.nD Cert.FfnOutLastIdeal.τ).loc Cert.FfnOutLastIdeal.main_arg1)
      ∧ m' ((c.tc : Thread Cert.FfnOutLastRefIdeal.nD Cert.FfnOutLastRefIdeal.τ).loc Cert.FfnOutLastRefIdeal.main_arg2) = m ((c.tc : Thread Cert.FfnOutLastIdeal.nD Cert.FfnOutLastIdeal.τ).loc Cert.FfnOutLastIdeal.main_arg2)) →
    ∃ (v0 : (c : Dev Cert.FfnOutLastIdeal.nD) → Buf (Elt Ideal) ((c.tc : Thread Cert.FfnOutLastIdeal.nD Cert.FfnOutLastIdeal.τ).loc Cert.FfnOutLastIdeal.main_v0)),
      θ_run (Cert.FfnOutLastIdeal.defs (F := Ideal)) (onTc (τ := Cert.FfnOutLastIdeal.τ) (Cert.FfnOutLastIdeal.main (F := Ideal))) ⟨m, fun _ => 0, g⟩ (fun r => ∀ c : Dev Cert.FfnOutLastIdeal.nD,
          r.2.mem ((c.tc : Thread Cert.FfnOutLastIdeal.nD Cert.FfnOutLastIdeal.τ).loc Cert.FfnOutLastIdeal.main_v0) = v0 c
          ∧ r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
          ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1)
          ∧ r.2.mem ((c.tc : Thread Cert.FfnOutLastIdeal.nD Cert.FfnOutLastIdeal.τ).loc Cert.FfnOutLastIdeal.main_arg2) = m ((c.tc : Thread Cert.FfnOutLastIdeal.nD Cert.FfnOutLastIdeal.τ).loc Cert.FfnOutLastIdeal.main_arg2))
      ∧ θ_run (Cert.FfnOutLastRefIdeal.defs (F := Ideal)) (onTc (τ := Cert.FfnOutLastRefIdeal.τ) (Cert.FfnOutLastRefIdeal.main (F := Ideal))) ⟨m', fun _ => 0, g'⟩ (fun r => ∀ c : Dev Cert.FfnOutLastRefIdeal.nD,
          r.2.mem ((c.tc : Thread Cert.FfnOutLastRefIdeal.nD Cert.FfnOutLastRefIdeal.τ).loc Cert.FfnOutLastRefIdeal.main_v3) = v0 c
          ∧ r.2.mem ((c.tc : Thread Cert.FfnOutLastRefIdeal.nD Cert.FfnOutLastRefIdeal.τ).loc Cert.FfnOutLastRefIdeal.main_arg0) = m' ((c.tc : Thread Cert.FfnOutLastRefIdeal.nD Cert.FfnOutLastRefIdeal.τ).loc Cert.FfnOutLastRefIdeal.main_arg0)
          ∧ r.2.mem ((c.tc : Thread Cert.FfnOutLastRefIdeal.nD Cert.FfnOutLastRefIdeal.τ).loc Cert.FfnOutLastRefIdeal.main_arg1) = m' ((c.tc : Thread Cert.FfnOutLastRefIdeal.nD Cert.FfnOutLastRefIdeal.τ).loc Cert.FfnOutLastRefIdeal.main_arg1)
          ∧ r.2.mem ((c.tc : Thread Cert.FfnOutLastRefIdeal.nD Cert.FfnOutLastRefIdeal.τ).loc Cert.FfnOutLastRefIdeal.main_arg2) = m' ((c.tc : Thread Cert.FfnOutLastRefIdeal.nD Cert.FfnOutLastRefIdeal.τ).loc Cert.FfnOutLastRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v14) = v0 c
          ∧ r.2.mem ((c.tc : Thread Cert.FfnInRefIdeal.nD Cert.FfnInRefIdeal.τ).loc Cert.FfnInRefIdeal.main_v15) = v1 c
          ∧ r.2.mem ((c.tc : Thread Cert.FfnInRefIdeal.nD Cert.FfnInRefIdeal.τ).loc Cert.FfnInRefIdeal.main_v16) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_RetPostBwd_RetPostBwdIdeal : Prop :=
  True

def algebraic_RetPostBwdIdeal_RetPostBwdRefIdeal_pre_real_ret_post [hRetPostBwdIdeal : Cert.RetPostBwdIdeal.Facts] [hRetPostBwdRefIdeal : Cert.RetPostBwdRefIdeal.Facts] [hPre_real_ret_post : Cert.Pre_real_ret_post.Facts] : Prop :=
  ∀ (m : (ℓ : Loc Cert.RetPostBwdIdeal.nD Cert.RetPostBwdIdeal.τ Cert.RetPostBwdIdeal.sig) → Buf (Elt Ideal) ℓ) (g : Dev Cert.RetPostBwdIdeal.nD → PrngReg)
    (m' : (ℓ : Loc Cert.RetPostBwdRefIdeal.nD Cert.RetPostBwdRefIdeal.τ Cert.RetPostBwdRefIdeal.sig) → Buf (Elt Ideal) ℓ) (g' : Dev Cert.RetPostBwdRefIdeal.nD → PrngReg), Pre_RetPostBwdIdeal_real_ret_post m →
    (∀ c : Dev Cert.RetPostBwdIdeal.nD,
      m' ((c.tc : Thread Cert.RetPostBwdRefIdeal.nD Cert.RetPostBwdRefIdeal.τ).loc Cert.RetPostBwdRefIdeal.main_arg0) = m ((c.tc : Thread Cert.RetPostBwdIdeal.nD Cert.RetPostBwdIdeal.τ).loc Cert.RetPostBwdIdeal.main_arg0)
      ∧ m' ((c.tc : Thread Cert.RetPostBwdRefIdeal.nD Cert.RetPostBwdRefIdeal.τ).loc Cert.RetPostBwdRefIdeal.main_arg1) = m ((c.tc : Thread Cert.RetPostBwdIdeal.nD Cert.RetPostBwdIdeal.τ).loc Cert.RetPostBwdIdeal.main_arg1)
      ∧ m' ((c.tc : Thread Cert.RetPostBwdRefIdeal.nD Cert.RetPostBwdRefIdeal.τ).loc Cert.RetPostBwdRefIdeal.main_arg2) = m ((c.tc : Thread Cert.RetPostBwdIdeal.nD Cert.RetPostBwdIdeal.τ).loc Cert.RetPostBwdIdeal.main_arg2)
      ∧ m' ((c.tc : Thread Cert.RetPostBwdRefIdeal.nD Cert.RetPostBwdRefIdeal.τ).loc Cert.RetPostBwdRefIdeal.main_arg3) = m ((c.tc : Thread Cert.RetPostBwdIdeal.nD Cert.RetPostBwdIdeal.τ).loc Cert.RetPostBwdIdeal.main_arg3)) →
    ∃ (v0 : (c : Dev Cert.RetPostBwdIdeal.nD) → Buf (Elt Ideal) ((c.tc : Thread Cert.RetPostBwdIdeal.nD Cert.RetPostBwdIdeal.τ).loc Cert.RetPostBwdIdeal.main_v0_0)) (v1 : (c : Dev Cert.RetPostBwdIdeal.nD) → Buf (Elt Ideal) ((c.tc : Thread Cert.RetPostBwdIdeal.nD Cert.RetPostBwdIdeal.τ).loc Cert.RetPostBwdIdeal.main_v0_1)) (v2 : (c : Dev Cert.RetPostBwdIdeal.nD) → Buf (Elt Ideal) ((c.tc : Thread Cert.RetPostBwdIdeal.nD Cert.RetPostBwdIdeal.τ).loc Cert.RetPostBwdIdeal.main_v0_2)),
      θ_run (Cert.RetPostBwdIdeal.defs (F := Ideal)) (onTc (τ := Cert.RetPostBwdIdeal.τ) (Cert.RetPostBwdIdeal.main (F := Ideal))) ⟨m, fun _ => 0, g⟩ (fun r => ∀ c : Dev Cert.RetPostBwdIdeal.nD,
          r.2.mem ((c.tc : Thread Cert.RetPostBwdIdeal.nD Cert.RetPostBwdIdeal.τ).loc Cert.RetPostBwdIdeal.main_v0_0) = v0 c
          ∧ r.2.mem ((c.tc : Thread Cert.RetPostBwdIdeal.nD Cert.RetPostBwdIdeal.τ).loc Cert.RetPostBwdIdeal.main_v0_1) = v1 c
          ∧ r.2.mem ((c.tc : Thread Cert.RetPostBwdIdeal.nD Cert.RetPostBwdIdeal.τ).loc Cert.RetPostBwdIdeal.main_v0_2) = v2 c
          ∧ r.2.mem ((c.tc : Thread Cert.RetPostBwdIdeal.nD Cert.RetPostBwdIdeal.τ).loc Cert.RetPostBwdIdeal.main_arg0) = m ((c.tc : Thread Cert.RetPostBwdIdeal.nD Cert.RetPostBwdIdeal.τ).loc Cert.RetPostBwdIdeal.main_arg0)
          ∧ r.2.mem ((c.tc : Thread Cert.RetPostBwdIdeal.nD Cert.RetPostBwdIdeal.τ).loc Cert.RetPostBwdIdeal.main_arg1) = m ((c.tc : Thread Cert.RetPostBwdIdeal.nD Cert.RetPostBwdIdeal.τ).loc Cert.RetPostBwdIdeal.main_arg1)
          ∧ r.2.mem ((c.tc : Thread Cert.RetPostBwdIdeal.nD Cert.RetPostBwdIdeal.τ).loc Cert.RetPostBwdIdeal.main_arg2) = m ((c.tc : Thread Cert.RetPostBwdIdeal.nD Cert.RetPostBwdIdeal.τ).loc Cert.RetPostBwdIdeal.main_arg2)
          ∧ r.2.mem ((c.tc : Thread Cert.RetPostBwdIdeal.nD Cert.RetPostBwdIdeal.τ).loc Cert.RetPostBwdIdeal.main_arg3) = m ((c.tc : Thread Cert.RetPostBwdIdeal.nD Cert.RetPostBwdIdeal.τ).loc Cert.RetPostBwdIdeal.main_arg3))
      ∧ θ_run (Cert.RetPostBwdRefIdeal.defs (F := Ideal)) (onTc (τ := Cert.RetPostBwdRefIdeal.τ) (Cert.RetPostBwdRefIdeal.main (F := Ideal))) ⟨m', fun _ => 0, g'⟩ (fun r => ∀ c : Dev Cert.RetPostBwdRefIdeal.nD,
          r.2.mem ((c.tc : Thread Cert.RetPostBwdRefIdeal.nD Cert.RetPostBwdRefIdeal.τ).loc Cert.RetPostBwdRefIdeal.main_v62) = v0 c
          ∧ r.2.mem ((c.tc : Thread Cert.RetPostBwdRefIdeal.nD Cert.RetPostBwdRefIdeal.τ).loc Cert.RetPostBwdRefIdeal.main_v38) = v1 c
          ∧ r.2.mem ((c.tc : Thread Cert.RetPostBwdRefIdeal.nD Cert.RetPostBwdRefIdeal.τ).loc Cert.RetPostBwdRefIdeal.main_v63) = v2 c
          ∧ r.2.mem ((c.tc : Thread Cert.RetPostBwdRefIdeal.nD Cert.RetPostBwdRefIdeal.τ).loc Cert.RetPostBwdRefIdeal.main_arg0) = m' ((c.tc : Thread Cert.RetPostBwdRefIdeal.nD Cert.RetPostBwdRefIdeal.τ).loc Cert.RetPostBwdRefIdeal.main_arg0)
          ∧ r.2.mem ((c.tc : Thread Cert.RetPostBwdRefIdeal.nD Cert.RetPostBwdRefIdeal.τ).loc Cert.RetPostBwdRefIdeal.main_arg1) = m' ((c.tc : Thread Cert.RetPostBwdRefIdeal.nD Cert.RetPostBwdRefIdeal.τ).loc Cert.RetPostBwdRefIdeal.main_arg1)
          ∧ r.2.mem ((c.tc : Thread Cert.RetPostBwdRefIdeal.nD Cert.RetPostBwdRefIdeal.τ).loc Cert.RetPostBwdRefIdeal.main_arg2) = m' ((c.tc : Thread Cert.RetPostBwdRefIdeal.nD Cert.RetPostBwdRefIdeal.τ).loc Cert.RetPostBwdRefIdeal.main_arg2)
          ∧ r.2.mem ((c.tc : Thread Cert.RetPostBwdRefIdeal.nD Cert.RetPostBwdRefIdeal.τ).loc Cert.RetPostBwdRefIdeal.main_arg3) = m' ((c.tc : Thread Cert.RetPostBwdRefIdeal.nD Cert.RetPostBwdRefIdeal.τ).loc Cert.RetPostBwdRefIdeal.main_arg3))

def preserves_MemkvPrep_MemkvPrepIdeal : Prop :=
  True

def algebraic_MemkvPrepIdeal_MemkvPrepRefIdeal_pre_real_memkv [hMemkvPrepIdeal : Cert.MemkvPrepIdeal.Facts] [hMemkvPrepRefIdeal : Cert.MemkvPrepRefIdeal.Facts] [hPre_real_memkv : Cert.Pre_real_memkv.Facts] : Prop :=
  ∀ (m : (ℓ : Loc Cert.MemkvPrepIdeal.nD Cert.MemkvPrepIdeal.τ Cert.MemkvPrepIdeal.sig) → Buf (Elt Ideal) ℓ) (g : Dev Cert.MemkvPrepIdeal.nD → PrngReg)
    (m' : (ℓ : Loc Cert.MemkvPrepRefIdeal.nD Cert.MemkvPrepRefIdeal.τ Cert.MemkvPrepRefIdeal.sig) → Buf (Elt Ideal) ℓ) (g' : Dev Cert.MemkvPrepRefIdeal.nD → PrngReg), Pre_MemkvPrepIdeal_real_memkv m →
    (∀ c : Dev Cert.MemkvPrepIdeal.nD,
      m' ((c.tc : Thread Cert.MemkvPrepRefIdeal.nD Cert.MemkvPrepRefIdeal.τ).loc Cert.MemkvPrepRefIdeal.main_arg0) = m ((c.tc : Thread Cert.MemkvPrepIdeal.nD Cert.MemkvPrepIdeal.τ).loc Cert.MemkvPrepIdeal.main_arg0)
      ∧ m' ((c.tc : Thread Cert.MemkvPrepRefIdeal.nD Cert.MemkvPrepRefIdeal.τ).loc Cert.MemkvPrepRefIdeal.main_arg1) = m ((c.tc : Thread Cert.MemkvPrepIdeal.nD Cert.MemkvPrepIdeal.τ).loc Cert.MemkvPrepIdeal.main_arg1)) →
    ∃ (v0 : (c : Dev Cert.MemkvPrepIdeal.nD) → Buf (Elt Ideal) ((c.tc : Thread Cert.MemkvPrepIdeal.nD Cert.MemkvPrepIdeal.τ).loc Cert.MemkvPrepIdeal.main_v0_0)) (v1 : (c : Dev Cert.MemkvPrepIdeal.nD) → Buf (Elt Ideal) ((c.tc : Thread Cert.MemkvPrepIdeal.nD Cert.MemkvPrepIdeal.τ).loc Cert.MemkvPrepIdeal.main_v0_1)),
      θ_run (Cert.MemkvPrepIdeal.defs (F := Ideal)) (onTc (τ := Cert.MemkvPrepIdeal.τ) (Cert.MemkvPrepIdeal.main (F := Ideal))) ⟨m, fun _ => 0, g⟩ (fun r => ∀ c : Dev Cert.MemkvPrepIdeal.nD,
          r.2.mem ((c.tc : Thread Cert.MemkvPrepIdeal.nD Cert.MemkvPrepIdeal.τ).loc Cert.MemkvPrepIdeal.main_v0_0) = v0 c
          ∧ r.2.mem ((c.tc : Thread Cert.MemkvPrepIdeal.nD Cert.MemkvPrepIdeal.τ).loc Cert.MemkvPrepIdeal.main_v0_1) = v1 c
          ∧ r.2.mem ((c.tc : Thread Cert.MemkvPrepIdeal.nD Cert.MemkvPrepIdeal.τ).loc Cert.MemkvPrepIdeal.main_arg0) = m ((c.tc : Thread Cert.MemkvPrepIdeal.nD Cert.MemkvPrepIdeal.τ).loc Cert.MemkvPrepIdeal.main_arg0)
          ∧ r.2.mem ((c.tc : Thread Cert.MemkvPrepIdeal.nD Cert.MemkvPrepIdeal.τ).loc Cert.MemkvPrepIdeal.main_arg1) = m ((c.tc : Thread Cert.MemkvPrepIdeal.nD Cert.MemkvPrepIdeal.τ).loc Cert.MemkvPrepIdeal.main_arg1))
      ∧ θ_run (Cert.MemkvPrepRefIdeal.defs (F := Ideal)) (onTc (τ := Cert.MemkvPrepRefIdeal.τ) (Cert.MemkvPrepRefIdeal.main (F := Ideal))) ⟨m', fun _ => 0, g'⟩ (fun r => ∀ c : Dev Cert.MemkvPrepRefIdeal.nD,
          r.2.mem ((c.tc : Thread Cert.MemkvPrepRefIdeal.nD Cert.MemkvPrepRefIdeal.τ).loc Cert.MemkvPrepRefIdeal.main_v19) = v0 c
          ∧ r.2.mem ((c.tc : Thread Cert.MemkvPrepRefIdeal.nD Cert.MemkvPrepRefIdeal.τ).loc Cert.MemkvPrepRefIdeal.main_v20) = v1 c
          ∧ r.2.mem ((c.tc : Thread Cert.MemkvPrepRefIdeal.nD Cert.MemkvPrepRefIdeal.τ).loc Cert.MemkvPrepRefIdeal.main_arg0) = m' ((c.tc : Thread Cert.MemkvPrepRefIdeal.nD Cert.MemkvPrepRefIdeal.τ).loc Cert.MemkvPrepRefIdeal.main_arg0)
          ∧ r.2.mem ((c.tc : Thread Cert.MemkvPrepRefIdeal.nD Cert.MemkvPrepRefIdeal.τ).loc Cert.MemkvPrepRefIdeal.main_arg1) = m' ((c.tc : Thread Cert.MemkvPrepRefIdeal.nD Cert.MemkvPrepRefIdeal.τ).loc Cert.MemkvPrepRefIdeal.main_arg1))

def preserves_MemkvBwd_MemkvBwdIdeal : Prop :=
  True

def algebraic_MemkvBwdIdeal_MemkvBwdRefIdeal_pre_real_memkv_bwd [hMemkvBwdIdeal : Cert.MemkvBwdIdeal.Facts] [hMemkvBwdRefIdeal : Cert.MemkvBwdRefIdeal.Facts] [hPre_real_memkv_bwd : Cert.Pre_real_memkv_bwd.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg)
    (m' : (ℓ : Loc Cert.MemkvBwdRefIdeal.nD Cert.MemkvBwdRefIdeal.τ Cert.MemkvBwdRefIdeal.sig) → Buf (Elt Ideal) ℓ) (g' : Dev Cert.MemkvBwdRefIdeal.nD → PrngReg), Pre_MemkvBwdIdeal_real_memkv_bwd m →
    (∀ c : Dev Cert.MemkvBwdIdeal.nD,
      m' ((c.tc : Thread Cert.MemkvBwdRefIdeal.nD Cert.MemkvBwdRefIdeal.τ).loc Cert.MemkvBwdRefIdeal.main_arg0) = m ((c.tc : Thread Cert.MemkvBwdIdeal.nD Cert.MemkvBwdIdeal.τ).loc Cert.MemkvBwdIdeal.main_arg0)
      ∧ m' ((c.tc : Thread Cert.MemkvBwdRefIdeal.nD Cert.MemkvBwdRefIdeal.τ).loc Cert.MemkvBwdRefIdeal.main_arg1) = m ((c.tc : Thread Cert.MemkvBwdIdeal.nD Cert.MemkvBwdIdeal.τ).loc Cert.MemkvBwdIdeal.main_arg1)
      ∧ m' ((c.tc : Thread Cert.MemkvBwdRefIdeal.nD Cert.MemkvBwdRefIdeal.τ).loc Cert.MemkvBwdRefIdeal.main_arg2) = m ((c.tc : Thread Cert.MemkvBwdIdeal.nD Cert.MemkvBwdIdeal.τ).loc Cert.MemkvBwdIdeal.main_arg2)
      ∧ m' ((c.tc : Thread Cert.MemkvBwdRefIdeal.nD Cert.MemkvBwdRefIdeal.τ).loc Cert.MemkvBwdRefIdeal.main_arg3) = m ((c.tc : Thread Cert.MemkvBwdIdeal.nD Cert.MemkvBwdIdeal.τ).loc Cert.MemkvBwdIdeal.main_arg3)) →
    ∃ (v0 : (c : Dev Cert.MemkvBwdIdeal.nD) → Buf (Elt Ideal) ((c.tc : Thread Cert.MemkvBwdIdeal.nD Cert.MemkvBwdIdeal.τ).loc Cert.MemkvBwdIdeal.main_v0_0)) (v1 : (c : Dev Cert.MemkvBwdIdeal.nD) → Buf (Elt Ideal) ((c.tc : Thread Cert.MemkvBwdIdeal.nD Cert.MemkvBwdIdeal.τ).loc Cert.MemkvBwdIdeal.main_v0_1)),
      θ_run (Cert.MemkvBwdIdeal.defs (F := Ideal)) (onTc (τ := Cert.MemkvBwdIdeal.τ) (Cert.MemkvBwdIdeal.main (F := Ideal))) ⟨m, fun _ => 0, g⟩ (fun r => ∀ c : Dev Cert.MemkvBwdIdeal.nD,
          r.2.mem ((c.tc : Thread Cert.MemkvBwdIdeal.nD Cert.MemkvBwdIdeal.τ).loc Cert.MemkvBwdIdeal.main_v0_0) = v0 c
          ∧ r.2.mem ((c.tc : Thread Cert.MemkvBwdIdeal.nD Cert.MemkvBwdIdeal.τ).loc Cert.MemkvBwdIdeal.main_v0_1) = v1 c
          ∧ r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
          ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
          ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
          ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ θ_run (Cert.MemkvBwdRefIdeal.defs (F := Ideal)) (onTc (τ := Cert.MemkvBwdRefIdeal.τ) (Cert.MemkvBwdRefIdeal.main (F := Ideal))) ⟨m', fun _ => 0, g'⟩ (fun r => ∀ c : Dev Cert.MemkvBwdRefIdeal.nD,
          r.2.mem ((c.tc : Thread Cert.MemkvBwdRefIdeal.nD Cert.MemkvBwdRefIdeal.τ).loc Cert.MemkvBwdRefIdeal.main_v46) = v0 c
          ∧ r.2.mem ((c.tc : Thread Cert.MemkvBwdRefIdeal.nD Cert.MemkvBwdRefIdeal.τ).loc Cert.MemkvBwdRefIdeal.main_v47) = v1 c
          ∧ r.2.mem ((c.tc : Thread Cert.MemkvBwdRefIdeal.nD Cert.MemkvBwdRefIdeal.τ).loc Cert.MemkvBwdRefIdeal.main_arg0) = m' ((c.tc : Thread Cert.MemkvBwdRefIdeal.nD Cert.MemkvBwdRefIdeal.τ).loc Cert.MemkvBwdRefIdeal.main_arg0)
          ∧ r.2.mem ((c.tc : Thread Cert.MemkvBwdRefIdeal.nD Cert.MemkvBwdRefIdeal.τ).loc Cert.MemkvBwdRefIdeal.main_arg1) = m' ((c.tc : Thread Cert.MemkvBwdRefIdeal.nD Cert.MemkvBwdRefIdeal.τ).loc Cert.MemkvBwdRefIdeal.main_arg1)
          ∧ r.2.mem ((c.tc : Thread Cert.MemkvBwdRefIdeal.nD Cert.MemkvBwdRefIdeal.τ).loc Cert.MemkvBwdRefIdeal.main_arg2) = m' ((c.tc : Thread Cert.MemkvBwdRefIdeal.nD Cert.MemkvBwdRefIdeal.τ).loc Cert.MemkvBwdRefIdeal.main_arg2)
          ∧ r.2.mem ((c.tc : Thread Cert.MemkvBwdRefIdeal.nD Cert.MemkvBwdRefIdeal.τ).loc Cert.MemkvBwdRefIdeal.main_arg3) = m' ((c.tc : Thread Cert.MemkvBwdRefIdeal.nD Cert.MemkvBwdRefIdeal.τ).loc Cert.MemkvBwdRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_RpbExpand_RpbExpandIdeal : Prop :=
  True

def algebraic_RpbExpandIdeal_RpbExpandRefIdeal [hRpbExpandIdeal : Cert.RpbExpandIdeal.Facts] [hRpbExpandRefIdeal : Cert.RpbExpandRefIdeal.Facts] : Prop :=
  ∀ (m : (ℓ : Loc Cert.RpbExpandIdeal.nD Cert.RpbExpandIdeal.τ Cert.RpbExpandIdeal.sig) → Buf (Elt Ideal) ℓ) (g : Dev Cert.RpbExpandIdeal.nD → PrngReg)
    (m' : (ℓ : Loc Cert.RpbExpandRefIdeal.nD Cert.RpbExpandRefIdeal.τ Cert.RpbExpandRefIdeal.sig) → Buf (Elt Ideal) ℓ) (g' : Dev Cert.RpbExpandRefIdeal.nD → PrngReg), Pre_RpbExpandIdeal m →
    (∀ c : Dev Cert.RpbExpandIdeal.nD,
      m' ((c.tc : Thread Cert.RpbExpandRefIdeal.nD Cert.RpbExpandRefIdeal.τ).loc Cert.RpbExpandRefIdeal.main_arg0) = m ((c.tc : Thread Cert.RpbExpandIdeal.nD Cert.RpbExpandIdeal.τ).loc Cert.RpbExpandIdeal.main_arg0)
      ∧ m' ((c.tc : Thread Cert.RpbExpandRefIdeal.nD Cert.RpbExpandRefIdeal.τ).loc Cert.RpbExpandRefIdeal.main_arg1) = m ((c.tc : Thread Cert.RpbExpandIdeal.nD Cert.RpbExpandIdeal.τ).loc Cert.RpbExpandIdeal.main_arg1)) →
    ∃ (v0 : (c : Dev Cert.RpbExpandIdeal.nD) → Buf (Elt Ideal) ((c.tc : Thread Cert.RpbExpandIdeal.nD Cert.RpbExpandIdeal.τ).loc Cert.RpbExpandIdeal.main_v0)),
      θ_run (Cert.RpbExpandIdeal.defs (F := Ideal)) (onTc (τ := Cert.RpbExpandIdeal.τ) (Cert.RpbExpandIdeal.main (F := Ideal))) ⟨m, fun _ => 0, g⟩ (fun r => ∀ c : Dev Cert.RpbExpandIdeal.nD,
          r.2.mem ((c.tc : Thread Cert.RpbExpandIdeal.nD Cert.RpbExpandIdeal.τ).loc Cert.RpbExpandIdeal.main_v0) = v0 c
          ∧ r.2.mem ((c.tc : Thread Cert.RpbExpandIdeal.nD Cert.RpbExpandIdeal.τ).loc Cert.RpbExpandIdeal.main_arg0) = m ((c.tc : Thread Cert.RpbExpandIdeal.nD Cert.RpbExpandIdeal.τ).loc Cert.RpbExpandIdeal.main_arg0)
          ∧ r.2.mem ((c.tc : Thread Cert.RpbExpandIdeal.nD Cert.RpbExpandIdeal.τ).loc Cert.RpbExpandIdeal.main_arg1) = m ((c.tc : Thread Cert.RpbExpandIdeal.nD Cert.RpbExpandIdeal.τ).loc Cert.RpbExpandIdeal.main_arg1))
      ∧ θ_run (Cert.RpbExpandRefIdeal.defs (F := Ideal)) (onTc (τ := Cert.RpbExpandRefIdeal.τ) (Cert.RpbExpandRefIdeal.main (F := Ideal))) ⟨m', fun _ => 0, g'⟩ (fun r => ∀ c : Dev Cert.RpbExpandRefIdeal.nD,
          r.2.mem ((c.tc : Thread Cert.RpbExpandRefIdeal.nD Cert.RpbExpandRefIdeal.τ).loc Cert.RpbExpandRefIdeal.main_v0) = v0 c
          ∧ r.2.mem ((c.tc : Thread Cert.RpbExpandRefIdeal.nD Cert.RpbExpandRefIdeal.τ).loc Cert.RpbExpandRefIdeal.main_arg0) = m' ((c.tc : Thread Cert.RpbExpandRefIdeal.nD Cert.RpbExpandRefIdeal.τ).loc Cert.RpbExpandRefIdeal.main_arg0)
          ∧ r.2.mem ((c.tc : Thread Cert.RpbExpandRefIdeal.nD Cert.RpbExpandRefIdeal.τ).loc Cert.RpbExpandRefIdeal.main_arg1) = m' ((c.tc : Thread Cert.RpbExpandRefIdeal.nD Cert.RpbExpandRefIdeal.τ).loc Cert.RpbExpandRefIdeal.main_arg1))

def preserves_RpbReduce_RpbReduceIdeal : Prop :=
  True

def algebraic_RpbReduceIdeal_RpbReduceRefIdeal [hRpbReduceIdeal : Cert.RpbReduceIdeal.Facts] [hRpbReduceRefIdeal : Cert.RpbReduceRefIdeal.Facts] : Prop :=
  ∀ (m : (ℓ : Loc Cert.RpbReduceIdeal.nD Cert.RpbReduceIdeal.τ Cert.RpbReduceIdeal.sig) → Buf (Elt Ideal) ℓ) (g : Dev Cert.RpbReduceIdeal.nD → PrngReg)
    (m' : (ℓ : Loc Cert.RpbReduceRefIdeal.nD Cert.RpbReduceRefIdeal.τ Cert.RpbReduceRefIdeal.sig) → Buf (Elt Ideal) ℓ) (g' : Dev Cert.RpbReduceRefIdeal.nD → PrngReg), Pre_RpbReduceIdeal m →
    (∀ c : Dev Cert.RpbReduceIdeal.nD,
      m' ((c.tc : Thread Cert.RpbReduceRefIdeal.nD Cert.RpbReduceRefIdeal.τ).loc Cert.RpbReduceRefIdeal.main_arg0) = m ((c.tc : Thread Cert.RpbReduceIdeal.nD Cert.RpbReduceIdeal.τ).loc Cert.RpbReduceIdeal.main_arg0)
      ∧ m' ((c.tc : Thread Cert.RpbReduceRefIdeal.nD Cert.RpbReduceRefIdeal.τ).loc Cert.RpbReduceRefIdeal.main_arg1) = m ((c.tc : Thread Cert.RpbReduceIdeal.nD Cert.RpbReduceIdeal.τ).loc Cert.RpbReduceIdeal.main_arg1)) →
    ∃ (v0 : (c : Dev Cert.RpbReduceIdeal.nD) → Buf (Elt Ideal) ((c.tc : Thread Cert.RpbReduceIdeal.nD Cert.RpbReduceIdeal.τ).loc Cert.RpbReduceIdeal.main_v0)),
      θ_run (Cert.RpbReduceIdeal.defs (F := Ideal)) (onTc (τ := Cert.RpbReduceIdeal.τ) (Cert.RpbReduceIdeal.main (F := Ideal))) ⟨m, fun _ => 0, g⟩ (fun r => ∀ c : Dev Cert.RpbReduceIdeal.nD,
          r.2.mem ((c.tc : Thread Cert.RpbReduceIdeal.nD Cert.RpbReduceIdeal.τ).loc Cert.RpbReduceIdeal.main_v0) = v0 c
          ∧ r.2.mem ((c.tc : Thread Cert.RpbReduceIdeal.nD Cert.RpbReduceIdeal.τ).loc Cert.RpbReduceIdeal.main_arg0) = m ((c.tc : Thread Cert.RpbReduceIdeal.nD Cert.RpbReduceIdeal.τ).loc Cert.RpbReduceIdeal.main_arg0)
          ∧ r.2.mem ((c.tc : Thread Cert.RpbReduceIdeal.nD Cert.RpbReduceIdeal.τ).loc Cert.RpbReduceIdeal.main_arg1) = m ((c.tc : Thread Cert.RpbReduceIdeal.nD Cert.RpbReduceIdeal.τ).loc Cert.RpbReduceIdeal.main_arg1))
      ∧ θ_run (Cert.RpbReduceRefIdeal.defs (F := Ideal)) (onTc (τ := Cert.RpbReduceRefIdeal.τ) (Cert.RpbReduceRefIdeal.main (F := Ideal))) ⟨m', fun _ => 0, g'⟩ (fun r => ∀ c : Dev Cert.RpbReduceRefIdeal.nD,
          r.2.mem ((c.tc : Thread Cert.RpbReduceRefIdeal.nD Cert.RpbReduceRefIdeal.τ).loc Cert.RpbReduceRefIdeal.main_v2) = v0 c
          ∧ r.2.mem ((c.tc : Thread Cert.RpbReduceRefIdeal.nD Cert.RpbReduceRefIdeal.τ).loc Cert.RpbReduceRefIdeal.main_arg0) = m' ((c.tc : Thread Cert.RpbReduceRefIdeal.nD Cert.RpbReduceRefIdeal.τ).loc Cert.RpbReduceRefIdeal.main_arg0)
          ∧ r.2.mem ((c.tc : Thread Cert.RpbReduceRefIdeal.nD Cert.RpbReduceRefIdeal.τ).loc Cert.RpbReduceRefIdeal.main_arg1) = m' ((c.tc : Thread Cert.RpbReduceRefIdeal.nD Cert.RpbReduceRefIdeal.τ).loc Cert.RpbReduceRefIdeal.main_arg1))

def Claim : Prop :=
  ∃ (hMemBwd : Cert.MemBwd.Facts) (hMemBwdIdeal : Cert.MemBwdIdeal.Facts) (hMemBwdRefIdeal : Cert.MemBwdRefIdeal.Facts) (hMergeBwd : Cert.MergeBwd.Facts) (hMergeBwdIdeal : Cert.MergeBwdIdeal.Facts) (hMergeBwdRefIdeal : Cert.MergeBwdRefIdeal.Facts) (hFfnOutBwd : Cert.FfnOutBwd.Facts) (hFfnOutBwdIdeal : Cert.FfnOutBwdIdeal.Facts) (hFfnOutBwdRefIdeal : Cert.FfnOutBwdRefIdeal.Facts) (hGateDx : Cert.GateDx.Facts) (hGateDxIdeal : Cert.GateDxIdeal.Facts) (hGateDxRefIdeal : Cert.GateDxRefIdeal.Facts) (hFfnInDxG : Cert.FfnInDxG.Facts) (hFfnInDxGIdeal : Cert.FfnInDxGIdeal.Facts) (hFfnInDxGRefIdeal : Cert.FfnInDxGRefIdeal.Facts) (hFfnOutDw : Cert.FfnOutDw.Facts) (hFfnOutDwIdeal : Cert.FfnOutDwIdeal.Facts) (hFfnOutDwRefIdeal : Cert.FfnOutDwRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hGateDw : Cert.GateDw.Facts) (hGateDwIdeal : Cert.GateDwIdeal.Facts) (hGateDwRefIdeal : Cert.GateDwRefIdeal.Facts) (hFfnInDxA : Cert.FfnInDxA.Facts) (hFfnInDxAIdeal : Cert.FfnInDxAIdeal.Facts) (hFfnInDxARefIdeal : Cert.FfnInDxARefIdeal.Facts) (hOutDx : Cert.OutDx.Facts) (hOutDxIdeal : Cert.OutDxIdeal.Facts) (hOutDxRefIdeal : Cert.OutDxRefIdeal.Facts) (hInDx : Cert.InDx.Facts) (hInDxIdeal : Cert.InDxIdeal.Facts) (hInDxRefIdeal : Cert.InDxRefIdeal.Facts) (hFfnInDwA : Cert.FfnInDwA.Facts) (hFfnInDwAIdeal : Cert.FfnInDwAIdeal.Facts) (hFfnInDwARefIdeal : Cert.FfnInDwARefIdeal.Facts) (hFfnInDwG : Cert.FfnInDwG.Facts) (hFfnInDwGIdeal : Cert.FfnInDwGIdeal.Facts) (hFfnInDwGRefIdeal : Cert.FfnInDwGRefIdeal.Facts) (hNormMemBwd : Cert.NormMemBwd.Facts) (hNormMemBwdIdeal : Cert.NormMemBwdIdeal.Facts) (hNormMemBwdRefIdeal : Cert.NormMemBwdRefIdeal.Facts) (hMemkvDw : Cert.MemkvDw.Facts) (hMemkvDwIdeal : Cert.MemkvDwIdeal.Facts) (hMemkvDwRefIdeal : Cert.MemkvDwRefIdeal.Facts) (hMemkvDx : Cert.MemkvDx.Facts) (hMemkvDxIdeal : Cert.MemkvDxIdeal.Facts) (hMemkvDxRefIdeal : Cert.MemkvDxRefIdeal.Facts) (hNormMix : Cert.NormMix.Facts) (hNormMixIdeal : Cert.NormMixIdeal.Facts) (hNormMixRefIdeal : Cert.NormMixRefIdeal.Facts) (hNormMem : Cert.NormMem.Facts) (hNormMemIdeal : Cert.NormMemIdeal.Facts) (hNormMemRefIdeal : Cert.NormMemRefIdeal.Facts) (hMmMemkv : Cert.MmMemkv.Facts) (hMmMemkvIdeal : Cert.MmMemkvIdeal.Facts) (hMmMemkvRefIdeal : Cert.MmMemkvRefIdeal.Facts) (hMemFwd : Cert.MemFwd.Facts) (hMemFwdIdeal : Cert.MemFwdIdeal.Facts) (hMemFwdRefIdeal : Cert.MemFwdRefIdeal.Facts) (hLossHead : Cert.LossHead.Facts) (hLossHeadIdeal : Cert.LossHeadIdeal.Facts) (hLossHeadRefIdeal : Cert.LossHeadRefIdeal.Facts) (hAdamSmall : Cert.AdamSmall.Facts) (hAdamSmallIdeal : Cert.AdamSmallIdeal.Facts) (hAdamSmallRefIdeal : Cert.AdamSmallRefIdeal.Facts) (hMmIn : Cert.MmIn.Facts) (hMmInIdeal : Cert.MmInIdeal.Facts) (hMmInRefIdeal : Cert.MmInRefIdeal.Facts) (hMmGate : Cert.MmGate.Facts) (hMmGateIdeal : Cert.MmGateIdeal.Facts) (hMmGateRefIdeal : Cert.MmGateRefIdeal.Facts) (hMmOut : Cert.MmOut.Facts) (hMmOutIdeal : Cert.MmOutIdeal.Facts) (hMmOutRefIdeal : Cert.MmOutRefIdeal.Facts) (hFfnOut : Cert.FfnOut.Facts) (hFfnOutIdeal : Cert.FfnOutIdeal.Facts) (hFfnOutRefIdeal : Cert.FfnOutRefIdeal.Facts) (hFfnOutLast : Cert.FfnOutLast.Facts) (hFfnOutLastIdeal : Cert.FfnOutLastIdeal.Facts) (hFfnOutLastRefIdeal : Cert.FfnOutLastRefIdeal.Facts) (hFfnIn : Cert.FfnIn.Facts) (hFfnInIdeal : Cert.FfnInIdeal.Facts) (hFfnInRefIdeal : Cert.FfnInRefIdeal.Facts) (hMergeFwd : Cert.MergeFwd.Facts) (hMergeFwdIdeal : Cert.MergeFwdIdeal.Facts) (hMergeFwdRefIdeal : Cert.MergeFwdRefIdeal.Facts) (hRetPostBwd : Cert.RetPostBwd.Facts) (hRetPostBwdIdeal : Cert.RetPostBwdIdeal.Facts) (hRetPostBwdRefIdeal : Cert.RetPostBwdRefIdeal.Facts) (hMemkvPrep : Cert.MemkvPrep.Facts) (hMemkvPrepIdeal : Cert.MemkvPrepIdeal.Facts) (hMemkvPrepRefIdeal : Cert.MemkvPrepRefIdeal.Facts) (hMemkvBwd : Cert.MemkvBwd.Facts) (hMemkvBwdIdeal : Cert.MemkvBwdIdeal.Facts) (hMemkvBwdRefIdeal : Cert.MemkvBwdRefIdeal.Facts) (hSmallSum : Cert.SmallSum.Facts) (hSmallSumIdeal : Cert.SmallSumIdeal.Facts) (hSmallSumRefIdeal : Cert.SmallSumRefIdeal.Facts) (hRpbExpand : Cert.RpbExpand.Facts) (hRpbExpandIdeal : Cert.RpbExpandIdeal.Facts) (hRpbExpandRefIdeal : Cert.RpbExpandRefIdeal.Facts) (hRpbReduce : Cert.RpbReduce.Facts) (hRpbReduceIdeal : Cert.RpbReduceIdeal.Facts) (hRpbReduceRefIdeal : Cert.RpbReduceRefIdeal.Facts) (hPre_real_scores : Cert.Pre_real_scores.Facts) (hPre_real_ffn : Cert.Pre_real_ffn.Facts) (hPre_real_norm : Cert.Pre_real_norm.Facts) (hPre_real_norm_half : Cert.Pre_real_norm_half.Facts) (hPre_real_norm_mem : Cert.Pre_real_norm_mem.Facts) (hPre_real_ret_post : Cert.Pre_real_ret_post.Facts) (hPre_real_memkv : Cert.Pre_real_memkv.Facts) (hPre_real_memkv_bwd : Cert.Pre_real_memkv_bwd.Facts),
    quiescent_MemBwd (hMemBwd := hMemBwd)
    ∧ quiescent_MemBwdIdeal (hMemBwdIdeal := hMemBwdIdeal)
    ∧ quiescent_MemBwdIdeal_pre_real_scores (hMemBwdIdeal := hMemBwdIdeal) (hPre_real_scores := hPre_real_scores)
    ∧ quiescent_MemBwdRefIdeal (hMemBwdRefIdeal := hMemBwdRefIdeal)
    ∧ quiescent_MemBwdRefIdeal_pre_real_scores (hMemBwdRefIdeal := hMemBwdRefIdeal) (hPre_real_scores := hPre_real_scores)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_FfnOutBwd (hFfnOutBwd := hFfnOutBwd)
    ∧ quiescent_FfnOutBwdIdeal (hFfnOutBwdIdeal := hFfnOutBwdIdeal)
    ∧ quiescent_FfnOutBwdIdeal_pre_real_ffn (hFfnOutBwdIdeal := hFfnOutBwdIdeal) (hPre_real_ffn := hPre_real_ffn)
    ∧ quiescent_FfnOutBwdRefIdeal (hFfnOutBwdRefIdeal := hFfnOutBwdRefIdeal)
    ∧ quiescent_FfnOutBwdRefIdeal_pre_real_ffn (hFfnOutBwdRefIdeal := hFfnOutBwdRefIdeal) (hPre_real_ffn := hPre_real_ffn)
    ∧ quiescent_GateDx (hGateDx := hGateDx)
    ∧ quiescent_GateDxIdeal (hGateDxIdeal := hGateDxIdeal)
    ∧ quiescent_GateDxIdeal_pre_real_norm (hGateDxIdeal := hGateDxIdeal) (hPre_real_norm := hPre_real_norm)
    ∧ quiescent_GateDxRefIdeal (hGateDxRefIdeal := hGateDxRefIdeal)
    ∧ quiescent_GateDxRefIdeal_pre_real_norm (hGateDxRefIdeal := hGateDxRefIdeal) (hPre_real_norm := hPre_real_norm)
    ∧ quiescent_FfnInDxG (hFfnInDxG := hFfnInDxG)
    ∧ quiescent_FfnInDxGIdeal (hFfnInDxGIdeal := hFfnInDxGIdeal)
    ∧ quiescent_FfnInDxGIdeal_pre_real_norm_half (hFfnInDxGIdeal := hFfnInDxGIdeal) (hPre_real_norm_half := hPre_real_norm_half)
    ∧ quiescent_FfnInDxGRefIdeal (hFfnInDxGRefIdeal := hFfnInDxGRefIdeal)
    ∧ quiescent_FfnInDxGRefIdeal_pre_real_norm_half (hFfnInDxGRefIdeal := hFfnInDxGRefIdeal) (hPre_real_norm_half := hPre_real_norm_half)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_FfnInDxA (hFfnInDxA := hFfnInDxA)
    ∧ quiescent_FfnInDxAIdeal (hFfnInDxAIdeal := hFfnInDxAIdeal)
    ∧ quiescent_FfnInDxARefIdeal (hFfnInDxARefIdeal := hFfnInDxARefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_FfnInDwA (hFfnInDwA := hFfnInDwA)
    ∧ quiescent_FfnInDwAIdeal (hFfnInDwAIdeal := hFfnInDwAIdeal)
    ∧ quiescent_FfnInDwARefIdeal (hFfnInDwARefIdeal := hFfnInDwARefIdeal)
    ∧ quiescent_FfnInDwG (hFfnInDwG := hFfnInDwG)
    ∧ quiescent_FfnInDwGIdeal (hFfnInDwGIdeal := hFfnInDwGIdeal)
    ∧ quiescent_FfnInDwGRefIdeal (hFfnInDwGRefIdeal := hFfnInDwGRefIdeal)
    ∧ quiescent_NormMemBwd (hNormMemBwd := hNormMemBwd)
    ∧ quiescent_NormMemBwdIdeal (hNormMemBwdIdeal := hNormMemBwdIdeal)
    ∧ quiescent_NormMemBwdIdeal_pre_real_norm_mem (hNormMemBwdIdeal := hNormMemBwdIdeal) (hPre_real_norm_mem := hPre_real_norm_mem)
    ∧ quiescent_NormMemBwdRefIdeal (hNormMemBwdRefIdeal := hNormMemBwdRefIdeal)
    ∧ quiescent_NormMemBwdRefIdeal_pre_real_norm_mem (hNormMemBwdRefIdeal := hNormMemBwdRefIdeal) (hPre_real_norm_mem := hPre_real_norm_mem)
    ∧ quiescent_MemkvDw (hMemkvDw := hMemkvDw)
    ∧ quiescent_MemkvDwIdeal (hMemkvDwIdeal := hMemkvDwIdeal)
    ∧ quiescent_MemkvDwRefIdeal (hMemkvDwRefIdeal := hMemkvDwRefIdeal)
    ∧ quiescent_MemkvDx (hMemkvDx := hMemkvDx)
    ∧ quiescent_MemkvDxIdeal (hMemkvDxIdeal := hMemkvDxIdeal)
    ∧ quiescent_MemkvDxRefIdeal (hMemkvDxRefIdeal := hMemkvDxRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_MmMemkv (hMmMemkv := hMmMemkv)
    ∧ quiescent_MmMemkvIdeal (hMmMemkvIdeal := hMmMemkvIdeal)
    ∧ quiescent_MmMemkvRefIdeal (hMmMemkvRefIdeal := hMmMemkvRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutLast (hFfnOutLast := hFfnOutLast)
    ∧ quiescent_FfnOutLastIdeal (hFfnOutLastIdeal := hFfnOutLastIdeal)
    ∧ quiescent_FfnOutLastRefIdeal (hFfnOutLastRefIdeal := hFfnOutLastRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RetPostBwd (hRetPostBwd := hRetPostBwd)
    ∧ quiescent_RetPostBwdIdeal (hRetPostBwdIdeal := hRetPostBwdIdeal)
    ∧ quiescent_RetPostBwdIdeal_pre_real_ret_post (hRetPostBwdIdeal := hRetPostBwdIdeal) (hPre_real_ret_post := hPre_real_ret_post)
    ∧ quiescent_RetPostBwdRefIdeal (hRetPostBwdRefIdeal := hRetPostBwdRefIdeal)
    ∧ quiescent_RetPostBwdRefIdeal_pre_real_ret_post (hRetPostBwdRefIdeal := hRetPostBwdRefIdeal) (hPre_real_ret_post := hPre_real_ret_post)
    ∧ quiescent_MemkvPrep (hMemkvPrep := hMemkvPrep)
    ∧ quiescent_MemkvPrepIdeal (hMemkvPrepIdeal := hMemkvPrepIdeal)
    ∧ quiescent_MemkvPrepIdeal_pre_real_memkv (hMemkvPrepIdeal := hMemkvPrepIdeal) (hPre_real_memkv := hPre_real_memkv)
    ∧ quiescent_MemkvPrepRefIdeal (hMemkvPrepRefIdeal := hMemkvPrepRefIdeal)
    ∧ quiescent_MemkvPrepRefIdeal_pre_real_memkv (hMemkvPrepRefIdeal := hMemkvPrepRefIdeal) (hPre_real_memkv := hPre_real_memkv)
    ∧ quiescent_MemkvBwd (hMemkvBwd := hMemkvBwd)
    ∧ quiescent_MemkvBwdIdeal (hMemkvBwdIdeal := hMemkvBwdIdeal)
    ∧ quiescent_MemkvBwdIdeal_pre_real_memkv_bwd (hMemkvBwdIdeal := hMemkvBwdIdeal) (hPre_real_memkv_bwd := hPre_real_memkv_bwd)
    ∧ quiescent_MemkvBwdRefIdeal (hMemkvBwdRefIdeal := hMemkvBwdRefIdeal)
    ∧ quiescent_MemkvBwdRefIdeal_pre_real_memkv_bwd (hMemkvBwdRefIdeal := hMemkvBwdRefIdeal) (hPre_real_memkv_bwd := hPre_real_memkv_bwd)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_RpbExpand (hRpbExpand := hRpbExpand)
    ∧ quiescent_RpbExpandIdeal (hRpbExpandIdeal := hRpbExpandIdeal)
    ∧ quiescent_RpbExpandRefIdeal (hRpbExpandRefIdeal := hRpbExpandRefIdeal)
    ∧ quiescent_RpbReduce (hRpbReduce := hRpbReduce)
    ∧ quiescent_RpbReduceIdeal (hRpbReduceIdeal := hRpbReduceIdeal)
    ∧ quiescent_RpbReduceRefIdeal (hRpbReduceRefIdeal := hRpbReduceRefIdeal)
    ∧ preserves_MemBwd_MemBwdIdeal
    ∧ algebraic_MemBwdIdeal_MemBwdRefIdeal_pre_real_scores (hMemBwdIdeal := hMemBwdIdeal) (hMemBwdRefIdeal := hMemBwdRefIdeal) (hPre_real_scores := hPre_real_scores)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_FfnOutBwd_FfnOutBwdIdeal
    ∧ algebraic_FfnOutBwdIdeal_FfnOutBwdRefIdeal_pre_real_ffn (hFfnOutBwdIdeal := hFfnOutBwdIdeal) (hFfnOutBwdRefIdeal := hFfnOutBwdRefIdeal) (hPre_real_ffn := hPre_real_ffn)
    ∧ preserves_GateDx_GateDxIdeal
    ∧ algebraic_GateDxIdeal_GateDxRefIdeal_pre_real_norm (hGateDxIdeal := hGateDxIdeal) (hGateDxRefIdeal := hGateDxRefIdeal) (hPre_real_norm := hPre_real_norm)
    ∧ preserves_FfnInDxG_FfnInDxGIdeal
    ∧ algebraic_FfnInDxGIdeal_FfnInDxGRefIdeal_pre_real_norm_half (hFfnInDxGIdeal := hFfnInDxGIdeal) (hFfnInDxGRefIdeal := hFfnInDxGRefIdeal) (hPre_real_norm_half := hPre_real_norm_half)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_GateDw_GateDwIdeal
    ∧ algebraic_GateDwIdeal_GateDwRefIdeal (hGateDwIdeal := hGateDwIdeal) (hGateDwRefIdeal := hGateDwRefIdeal)
    ∧ preserves_FfnInDxA_FfnInDxAIdeal
    ∧ algebraic_FfnInDxAIdeal_FfnInDxARefIdeal (hFfnInDxAIdeal := hFfnInDxAIdeal) (hFfnInDxARefIdeal := hFfnInDxARefIdeal)
    ∧ preserves_OutDx_OutDxIdeal
    ∧ algebraic_OutDxIdeal_OutDxRefIdeal (hOutDxIdeal := hOutDxIdeal) (hOutDxRefIdeal := hOutDxRefIdeal)
    ∧ preserves_InDx_InDxIdeal
    ∧ algebraic_InDxIdeal_InDxRefIdeal (hInDxIdeal := hInDxIdeal) (hInDxRefIdeal := hInDxRefIdeal)
    ∧ preserves_FfnInDwA_FfnInDwAIdeal
    ∧ algebraic_FfnInDwAIdeal_FfnInDwARefIdeal (hFfnInDwAIdeal := hFfnInDwAIdeal) (hFfnInDwARefIdeal := hFfnInDwARefIdeal)
    ∧ preserves_FfnInDwG_FfnInDwGIdeal
    ∧ algebraic_FfnInDwGIdeal_FfnInDwGRefIdeal (hFfnInDwGIdeal := hFfnInDwGIdeal) (hFfnInDwGRefIdeal := hFfnInDwGRefIdeal)
    ∧ preserves_NormMemBwd_NormMemBwdIdeal
    ∧ algebraic_NormMemBwdIdeal_NormMemBwdRefIdeal_pre_real_norm_mem (hNormMemBwdIdeal := hNormMemBwdIdeal) (hNormMemBwdRefIdeal := hNormMemBwdRefIdeal) (hPre_real_norm_mem := hPre_real_norm_mem)
    ∧ preserves_MemkvDw_MemkvDwIdeal
    ∧ algebraic_MemkvDwIdeal_MemkvDwRefIdeal (hMemkvDwIdeal := hMemkvDwIdeal) (hMemkvDwRefIdeal := hMemkvDwRefIdeal)
    ∧ preserves_MemkvDx_MemkvDxIdeal
    ∧ algebraic_MemkvDxIdeal_MemkvDxRefIdeal (hMemkvDxIdeal := hMemkvDxIdeal) (hMemkvDxRefIdeal := hMemkvDxRefIdeal)
    ∧ preserves_NormMix_NormMixIdeal
    ∧ algebraic_NormMixIdeal_NormMixRefIdeal (hNormMixIdeal := hNormMixIdeal) (hNormMixRefIdeal := hNormMixRefIdeal)
    ∧ preserves_NormMem_NormMemIdeal
    ∧ algebraic_NormMemIdeal_NormMemRefIdeal (hNormMemIdeal := hNormMemIdeal) (hNormMemRefIdeal := hNormMemRefIdeal)
    ∧ preserves_MmMemkv_MmMemkvIdeal
    ∧ algebraic_MmMemkvIdeal_MmMemkvRefIdeal (hMmMemkvIdeal := hMmMemkvIdeal) (hMmMemkvRefIdeal := hMmMemkvRefIdeal)
    ∧ preserves_MemFwd_MemFwdIdeal
    ∧ algebraic_MemFwdIdeal_MemFwdRefIdeal (hMemFwdIdeal := hMemFwdIdeal) (hMemFwdRefIdeal := hMemFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MmIn_MmInIdeal
    ∧ algebraic_MmInIdeal_MmInRefIdeal (hMmInIdeal := hMmInIdeal) (hMmInRefIdeal := hMmInRefIdeal)
    ∧ preserves_MmGate_MmGateIdeal
    ∧ algebraic_MmGateIdeal_MmGateRefIdeal (hMmGateIdeal := hMmGateIdeal) (hMmGateRefIdeal := hMmGateRefIdeal)
    ∧ preserves_MmOut_MmOutIdeal
    ∧ algebraic_MmOutIdeal_MmOutRefIdeal (hMmOutIdeal := hMmOutIdeal) (hMmOutRefIdeal := hMmOutRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutLast_FfnOutLastIdeal
    ∧ algebraic_FfnOutLastIdeal_FfnOutLastRefIdeal (hFfnOutLastIdeal := hFfnOutLastIdeal) (hFfnOutLastRefIdeal := hFfnOutLastRefIdeal)
    ∧ preserves_FfnIn_FfnInIdeal
    ∧ algebraic_FfnInIdeal_FfnInRefIdeal (hFfnInIdeal := hFfnInIdeal) (hFfnInRefIdeal := hFfnInRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RetPostBwd_RetPostBwdIdeal
    ∧ algebraic_RetPostBwdIdeal_RetPostBwdRefIdeal_pre_real_ret_post (hRetPostBwdIdeal := hRetPostBwdIdeal) (hRetPostBwdRefIdeal := hRetPostBwdRefIdeal) (hPre_real_ret_post := hPre_real_ret_post)
    ∧ preserves_MemkvPrep_MemkvPrepIdeal
    ∧ algebraic_MemkvPrepIdeal_MemkvPrepRefIdeal_pre_real_memkv (hMemkvPrepIdeal := hMemkvPrepIdeal) (hMemkvPrepRefIdeal := hMemkvPrepRefIdeal) (hPre_real_memkv := hPre_real_memkv)
    ∧ preserves_MemkvBwd_MemkvBwdIdeal
    ∧ algebraic_MemkvBwdIdeal_MemkvBwdRefIdeal_pre_real_memkv_bwd (hMemkvBwdIdeal := hMemkvBwdIdeal) (hMemkvBwdRefIdeal := hMemkvBwdRefIdeal) (hPre_real_memkv_bwd := hPre_real_memkv_bwd)
    ∧ preserves_SmallSum_SmallSumIdeal
    ∧ algebraic_SmallSumIdeal_SmallSumRefIdeal (hSmallSumIdeal := hSmallSumIdeal) (hSmallSumRefIdeal := hSmallSumRefIdeal)
    ∧ preserves_RpbExpand_RpbExpandIdeal
    ∧ algebraic_RpbExpandIdeal_RpbExpandRefIdeal (hRpbExpandIdeal := hRpbExpandIdeal) (hRpbExpandRefIdeal := hRpbExpandRefIdeal)
    ∧ preserves_RpbReduce_RpbReduceIdeal
    ∧ algebraic_RpbReduceIdeal_RpbReduceRefIdeal (hRpbReduceIdeal := hRpbReduceIdeal) (hRpbReduceRefIdeal := hRpbReduceRefIdeal)
-- ==== Pre_real_ffn.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2048x2816 .f32 := (extf .f32 · bitsLt_bf16_f32) main_arg3
  let main_v11 : FVec F S2048x2816 .f32 := Host.absf main_v10
  let main_cst_2 : FVec F S_ .f32 := constant S_ .f32 0x7F800000#32
  let main_v12 : FVec F S2048x2816 .f32 := broadcastInDim S2048x2816 ![] bcast_S_S2048x2816 main_cst_2
  let main_v13 : IVec S2048x2816 1 := cmpf .olt main_v11 main_v12
  let main_c_3 : IVec S_ 1 := constantI S_ 1 1#1
  let main_v14 : IVec S_ 1 := (fun x v => Host.reduce IntOp.andi x v reducesTo_S2048x2816_S_d0_1 h_S_) main_v13 main_c_3
  let main_v15 : IVec S_ 1 := andi main_v4 main_v9
  let main_v16 : IVec S_ 1 := andi main_v15 main_v14
  main_v16
-- ==== Pre_real_memkv.lean ====
abbrev S256x512 : Shape := ⟨2, ![256, 512]⟩
abbrev S1x256 : Shape := ⟨2, ![1, 256]⟩
abbrev S256x256 : Shape := ⟨2, ![256, 256]⟩
abbrev S_ : Shape := ⟨0, ![]⟩

class Facts : Prop where
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x512 .f32) (main_arg1 : FVec F S1x256 .f32) : IVec S_ 1 :=
  let main_v0 : FVec F S256x256 .f32 := (extractStridedSlice S256x256 ![0, 0] · slices_S256x512_S256x256_0_0) main_arg0
  let main_v1 : FVec F S256x256 .f32 := Host.absf main_v0
  let main_cst : FVec F S_ .f32 := constant S_ .f32 0x7F800000#32
  let main_v2 : FVec F S256x256 .f32 := broadcastInDim S256x256 ![] bcast_S_S256x256 main_cst
  let main_v3 : IVec S256x256 1 := cmpf .olt main_v1 main_v2
  let main_c : IVec S_ 1 := constantI S_ 1 1#1
  let main_v4 : IVec S_ 1 := (fun x v => Host.reduce IntOp.andi x v reducesTo_S256x256_S_d0_1 h_S_) main_v3 main_c
  main_v4
-- ==== Pre_real_memkv_bwd.lean ====
abbrev S256x512 : Shape := ⟨2, ![256, 512]⟩
abbrev S256x256 : Shape := ⟨2, ![256, 256]⟩
abbrev S1x256 : Shape := ⟨2, ![1, 256]⟩
abbrev S_ : Shape := ⟨0, ![]⟩

class Facts : Prop where
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S256x512 .f32) (main_arg1 : FVec F S256x256 .f32) (main_arg2 : FVec F S256x256 .f32) (main_arg3 : FVec F S1x256 .f32) : IVec S_ 1 :=
  let main_v0 : FVec F S256x256 .f32 := (extractStridedSlice S256x256 ![0, 0] · slices_S256x512_S256x256_0_0) main_arg0
  let main_v1 : FVec F S256x256 .f32 := Host.absf main_v0
  let main_cst : FVec F S_ .f32 := constant S_ .f32 0x7F800000#32
  let main_v2 : FVec F S256x256 .f32 := broadcastInDim S256x256 ![] bcast_S_S256x256 main_cst
  let main_v3 : IVec S256x256 1 := cmpf .olt main_v1 main_v2
  let main_c : IVec S_ 1 := constantI S_ 1 1#1
  let main_v4 : IVec S_ 1 := (fun x v => Host.reduce IntOp.andi x v reducesTo_S256x256_S_d0_1 h_S_) main_v3 main_c
  let main_v5 : FVec F S256x256 .f32 := Host.absf main_arg1
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  let main_c_1 : IVec S_ 1 := constantI S_ 1 1#1
  let main_v8 : IVec S_ 1 := (fun x v => Host.reduce IntOp.andi x v reducesTo_S256x256_S_d0_1 h_S_) main_v7 main_c_1
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v4 main_v8
  let main_v14 : IVec S_ 1 := andi main_v13 main_v12
  main_v14
-- ==== Pre_real_norm.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2048x4096 .bf16) (main_arg1 : FVec F S4096x1024 .bf16) (main_arg2 : FVec F S2048x1024 .f32) (main_arg3 : FVec F S2048x1024 .f32) (main_arg4 : FVec F S1x1024 .f32) (main_arg5 : FVec F S2048x1024 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v4 main_v9 main_v13 main_v16
-- ==== Pre_real_norm_half.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2048x2816 .bf16) (main_arg1 : FVec F S5632x1024 .bf16) (main_arg2 : FVec F S2048x1024 .f32) (main_arg3 : FVec F S2048x1024 .f32) (main_arg4 : FVec F S1x1024 .f32) (main_arg5 : FVec F S2048x1024 .f32) : IVec S_ 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_c : IVec S_ 1 := constantI S_ 1 1#1
  let main_v4 : IVec S_ 1 := (fun x v => Host.reduce IntOp.andi x v reducesTo_S2048x2816_S_d0_1 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v4 main_v9 main_v13 main_v16
-- ==== Pre_real_norm_mem.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S256x1024 .f32) (main_arg1 : FVec F S256x1024 .f32) (main_arg2 : FVec F S1x1024 .f32) (main_arg3 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v3 main_v7
  let main_v13 : IVec S_ 1 := andi main_v12 main_v11
  main_v13
-- ==== Pre_real_ret_post.lean ====
abbrev S2048x1024 : Shape := ⟨2, ![2048, 1024]⟩
abbrev S2048x256 : Shape := ⟨2, ![2048, 256]⟩
abbrev S2048x2304 : Shape := ⟨2, ![2048, 2304]⟩
abbrev S1x256 : Shape := ⟨2, ![1, 256]⟩
abbrev S_ : Shape := ⟨0, ![]⟩

class Facts : Prop where
  slices_S2048x1024_S2048x256_0_0 : S2048x1024.Slices ![0, 0] S2048x256
  slices_S2048x2304_S2048x256_0_768 : S2048x2304.Slices ![0, 768] S2048x256
  bcast_S_S2048x256 : S_.BroadcastsInDim S2048x256 (![] : Fin 0 → Fin S2048x256.rank)
  reducesTo_S2048x256_S_d0_1 : S2048x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v5 : IVec S_ 1) (main_v9 : IVec S_ 1) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x1024 .f32) (main_arg1 : FVec F S2048x256 .f32) (main_arg2 : FVec F S2048x2304 .f32) (main_arg3 : FVec F S1x256 .f32) : IVec S_ 1 :=
  let main_v0 : FVec F S2048x256 .f32 := (extractStridedSlice S2048x256 ![0, 0] · slices_S2048x1024_S2048x256_0_0) main_arg0
  let main_v1 : FVec F S2048x256 .f32 := (extractStridedSlice S2048x256 ![0, 768] · slices_S2048x2304_S2048x256_0_768) main_arg2
  let main_v2 : FVec F S2048x256 .f32 := Host.absf main_v0
  let main_cst : FVec F S_ .f32 := constant S_ .f32 0x7F800000#32
  let main_v3 : FVec F S2048x256 .f32 := broadcastInDim S2048x256 ![] bcast_S_S2048x256 main_cst
  let main_v4 : IVec S2048x256 1 := cmpf .olt main_v2 main_v3
  let main_c : IVec S_ 1 := constantI S_ 1 1#1
  let main_v5 : IVec S_ 1 := (fun x v => Host.reduce IntOp.andi x v reducesTo_S2048x256_S_d0_1 h_S_) main_v4 main_c
  let main_v6 : FVec F S2048x256 .f32 := Host.absf main_arg1
  let main_cst_0 : FVec F S_ .f32 := constant S_ .f32 0x7F800000#32
  let main_v7 : FVec F S2048x256 .f32 := broadcastInDim S2048x256 ![] bcast_S_S2048x256 main_cst_0
  let main_v8 : IVec S2048x256 1 := cmpf .olt main_v6 main_v7
  let main_c_1 : IVec S_ 1 := constantI S_ 1 1#1
  let main_v9 : IVec S_ 1 := (fun x v => Host.reduce IntOp.andi x v reducesTo_S2048x256_S_d0_1 h_S_) main_v8 main_c_1
  let main_v10 : FVec F S2048x256 .f32 := Host.absf main_v1
  let main_cst_2 : FVec F S_ .f32 := constant S_ .f32 0x7F800000#32
  let main_v11 : FVec F S2048x256 .f32 := broadcastInDim S2048x256 ![] bcast_S_S2048x256 main_cst_2
  let main_v12 : IVec S2048x256 1 := cmpf .olt main_v10 main_v11
  let main_c_3 : IVec S_ 1 := constantI S_ 1 1#1
  let main_v13 : IVec S_ 1 := (fun x v => Host.reduce IntOp.andi x v reducesTo_S2048x256_S_d0_1 h_S_) main_v12 main_c_3
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v5 main_v9 main_v13 main_v16
-- ==== Pre_real_scores.lean ====
abbrev S2048x1024 : Shape := ⟨2, ![2048, 1024]⟩
abbrev S2048x256 : Shape := ⟨2, ![2048, 256]⟩
abbrev S256x256 : Shape := ⟨2, ![256, 256]⟩
abbrev S_ : Shape := ⟨0, ![]⟩

class Facts : Prop where
  bitsLt_bf16_f32 : FTy.bits .bf16 < FTy.bits .f32
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S2048x1024 .f32) (main_arg1 : FVec F S2048x256 .bf16) (main_arg2 : FVec F S256x256 .bf16) (main_arg3 : FVec F S256x256 .bf16) : IVec S_ 1 :=
  let main_v0 : FVec F S2048x256 .f32 := (extf .f32 · bitsLt_bf16_f32) main_arg1
  let main_v1 : FVec F S2048x256 .f32 := Host.absf main_v0
  let main_cst : FVec F S_ .f32 := constant S_ .f32 0x7F800000#32
  let main_v2 : FVec F S2048x256 .f32 := broadcastInDim S2048x256 ![] bcast_S_S2048x256 main_cst
  let main_v3 : IVec S2048x256 1 := cmpf .olt main_v1 main_v2
  let main_c : IVec S_ 1 := constantI S_ 1 1#1
  let main_v4 : IVec S_ 1 := (fun x v => Host.reduce IntOp.andi x v reducesTo_S2048x256_S_d0_1 h_S_) main_v3 main_c
  let main_v5 : FVec F S256x256 .f32 := (extf .f32 · bitsLt_bf16_f32) main_arg2
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  main_v10
-- ==== MemBwd.lean ====
abbrev S2048x1024 : Shape := ⟨2, ![2048, 1024]⟩
abbrev S2048x256 : Shape := ⟨2, ![2048, 256]⟩
abbrev S256x256 : Shape := ⟨2, ![256, 256]⟩
abbrev S512x256 : Shape := ⟨2, ![512, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S256x256, .bf16⟩
  | .hbm, ⟨3, _⟩ => ⟨S256x256, .bf16⟩
  | .hbm, ⟨4, _⟩ => ⟨S2048x256, .f32⟩
  | .hbm, ⟨5, _⟩ => ⟨S256x256, .f32⟩
  | .hbm, ⟨6, _⟩ => ⟨S256x256, .f32⟩
  | .local _ .vmem, ⟨0, _⟩ => ⟨S512x256, .f32⟩
  | .local _ .vmem, ⟨1, _⟩ => ⟨S512x256, .f32⟩
  | .local _ .vmem, ⟨2, _⟩ => ⟨S512x256, .bf16⟩
  | .local _ .vmem, ⟨3, _⟩ => ⟨S512x256, .bf16⟩
  | .local _ .vmem, ⟨4, _⟩ => ⟨S256x256, .bf16⟩
  | .local _ .vmem, ⟨5, _⟩ => ⟨S256x256, .bf16⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_46 : BitVec 32 := 0#32
  let v108 : BitVec 1 := Scalar.cmpi .ne v107 c0_i32_46
  v108

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v109 : BitVec 1 := Scalar.xori v0 true_47
  let v110 : BitVec 32 := Scalar.extui v109
  let c0_i32_48 : BitVec 32 := 0#32
  let v111 : BitVec 1 := Scalar.cmpi .ne v110 c0_i32_48
  v111

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v63 : BitVec 1 := Scalar.xori v0 v_true
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemBwdRefIdeal.lean ====
abbrev S2048x1024 : Shape := ⟨2, ![2048, 1024]⟩
abbrev S2048x256 : Shape := ⟨2, ![2048, 256]⟩
abbrev S256x256 : Shape := ⟨2, ![256, 256]⟩
abbrev S1x2048x256 : Shape := ⟨3, ![1, 2048, 256]⟩
abbrev S1x2048x4x64 : Shape := ⟨4, ![1, 2048, 4, 64]⟩
abbrev S1x4x2048x64 : Shape := ⟨4, ![1, 4, 2048, 64]⟩
abbrev S1x256x256 : Shape := ⟨3, ![1, 256, 256]⟩
abbrev S1x256x4x64 : Shape := ⟨4, ![1, 256, 4, 64]⟩
abbrev S1x4x256x64 : Shape := ⟨4, ![1, 4, 256, 64]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x64x256 : Shape := ⟨4, ![1, 4, 64, 256]⟩
abbrev S4x2048 : Shape := ⟨2, ![4, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S256x256, .bf16⟩
  | .hbm, ⟨3, _⟩ => ⟨S256x256, .bf16⟩
  | .hbm, ⟨4, _⟩ => ⟨S2048x256, .f32⟩
  | .hbm, ⟨5, _⟩ => ⟨S256x256, .f32⟩
  | .hbm, ⟨6, _⟩ => ⟨S256x256, .f32⟩
  | .hbm, ⟨7, _⟩ => ⟨S1x2048x256, .f32⟩
  | .hbm, ⟨8, _⟩ => ⟨S1x2048x4x64, .f32⟩
  | .hbm, ⟨9, _⟩ => ⟨S1x4x2048x64, .f32⟩
  | .hbm, ⟨10, _⟩ => ⟨S1x256x256, .f32⟩
  | .hbm, ⟨11, _⟩ => ⟨S1x256x4x64, .f32⟩
  | .hbm, ⟨12, _⟩ => ⟨S1x4x256x64, .f32⟩
  | .hbm, ⟨13, _⟩ => ⟨S1x256x256, .f32⟩
  | .hbm, ⟨14, _⟩ => ⟨S1x256x4x64, .f32⟩
  | .hbm, ⟨15, _⟩ => ⟨S1x4x256x64, .f32⟩
  | .hbm, ⟨16, _⟩ => ⟨S1x4x2048x256, .f32⟩
  | .hbm, ⟨17, _⟩ => ⟨S_, .f32⟩
  | .hbm, ⟨18, _⟩ => ⟨S1x4x2048x256, .f32⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S1x4x2048x1, .f32⟩
  | .hbm, ⟨23, _⟩ => ⟨S1x4x2048x256, .f32⟩
  | .hbm, ⟨24, _⟩ => ⟨S1x4x2048x256, .i1⟩
  | .hbm, ⟨25, _⟩ => ⟨S1x4x2048x256, .f32⟩
  | .hbm, ⟨26, _⟩ => ⟨S_, .f32⟩
  | .hbm, ⟨27, _⟩ => ⟨S1x4x2048, .f32⟩
  | .hbm, ⟨28, _⟩ => ⟨S_, .f32⟩
  | .hbm, ⟨29, _⟩ => ⟨S1x4x2048, .f32⟩
  | .hbm, ⟨30, _⟩ => ⟨S1x4x2048, .f32⟩
  | .hbm, ⟨31, _⟩ => ⟨S_, .f32⟩
  | .hbm, ⟨32, _⟩ => ⟨S1x4x2048, .f32⟩
  | .hbm, ⟨33, _⟩ => ⟨S1x4x2048, .i1⟩
  | .hbm, ⟨34, _⟩ => ⟨S_, .f32⟩
  | .hbm, ⟨35, _⟩ => ⟨S1x4x2048, .f32⟩
  | .hbm, ⟨36, _⟩ => ⟨S1x4x2048, .i1⟩
  | .hbm, ⟨37, _⟩ => ⟨S_, .f32⟩
  | .hbm, ⟨38, _⟩ => ⟨S1x4x2048, .f32⟩
  | .hbm, ⟨39, _⟩ => ⟨S_, .f32⟩
  | .hbm, ⟨40, _⟩ => ⟨S1x4x2048, .f32⟩
  | .hbm, ⟨41, _⟩ => ⟨S_, .f32⟩
  | .hbm, ⟨42, _⟩ => ⟨S1x4x2048, .f32⟩
  | .hbm, ⟨43, _⟩ => ⟨S1x4x2048, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x256, .f32⟩
  | .hbm, ⟨49, _⟩ => ⟨S_, .f32⟩
  | .hbm, ⟨50, _⟩ => ⟨S1x4x2048, .f32⟩
  | .hbm, ⟨51, _⟩ => ⟨S1x4x2048x1, .f32⟩
  | .hbm, ⟨52, _⟩ => ⟨S1x4x2048x256, .f32⟩
  | .hbm, ⟨53, _⟩ => ⟨S1x4x2048x256, .f32⟩
  | .hbm, ⟨54, _⟩ => ⟨S1x4x2048x1, .f32⟩
  | .hbm, ⟨55, _⟩ => ⟨S_, .f32⟩
  | .hbm, ⟨56, _⟩ => ⟨S1x4x2048x1, .f32⟩
  | .hbm, ⟨57, _⟩ => ⟨S1x4x2048x1, .f32⟩
  | .hbm, ⟨58, _⟩ => ⟨S1x4x2048x64, .f32⟩
  | .hbm, ⟨59, _⟩ => ⟨S1x2048x4x64, .f32⟩
  | .hbm, ⟨60, _⟩ => ⟨S1x2048x256, .f32⟩
  | .hbm, ⟨61, _⟩ => ⟨S2048x256, .f32⟩
  | .hbm, ⟨62, _⟩ => ⟨S2048x256, .f32⟩
  | .hbm, ⟨63, _⟩ => ⟨S1x2048x256, .f32⟩
  | .hbm, ⟨64, _⟩ => ⟨S1x2048x4x64, .f32⟩
  | .hbm, ⟨65, _⟩ => ⟨S1x4x2048x64, .f32⟩
  | .hbm, ⟨66, _⟩ => ⟨S1x4x64x256, .f32⟩
  | .hbm, ⟨67, _⟩ => ⟨S1x4x256x64, .f32⟩
  | .hbm, ⟨68, _⟩ => ⟨S1x4x2048x256, .f32⟩
  | .hbm, ⟨69, _⟩ => ⟨S1x4x2048x256, .f32⟩
  | .hbm, ⟨70, _⟩ => ⟨S1x4x2048x256, .f32⟩
  | .hbm, ⟨71, _⟩ => ⟨S1x4x2048x256, .f32⟩
  | .hbm, ⟨72, _⟩ => ⟨S_, .f32⟩
  | .hbm, ⟨73, _⟩ => ⟨S1x4x2048, .f32⟩
  | .hbm, ⟨74, _⟩ => ⟨S1x4x2048x1, .f32⟩
  | .hbm, ⟨75, _⟩ => ⟨S1x4x2048x1, .f32⟩
  | .hbm, ⟨76, _⟩ => ⟨S1x4x2048x256, .f32⟩
  | .hbm, ⟨77, _⟩ => ⟨S1x4x2048x256, .f32⟩
  | .hbm, ⟨78, _⟩ => ⟨S_, .f32⟩
  | .hbm, ⟨79, _⟩ => ⟨S4x2048, .f32⟩
  | .hbm, ⟨80, _⟩ => ⟨S1x4x2048, .f32⟩
  | .hbm, ⟨81, _⟩ => ⟨S1x4x2048x256, .f32⟩
  | .hbm, ⟨82, _⟩ => ⟨S1x4x2048x256, .f32⟩
  | .hbm, ⟨83, _⟩ => ⟨S1x4x2048x256, .f32⟩
  | .hbm, ⟨84, _⟩ => ⟨S_, .f32⟩
  | .hbm, ⟨85, _⟩ => ⟨S1x4x2048x256, .f32⟩
  | .hbm, ⟨86, _⟩ => ⟨S1x4x2048x256, .f32⟩
  | .hbm, ⟨87, _⟩ => ⟨S1x4x256x64, .f32⟩
  | .hbm, ⟨88, _⟩ => ⟨S1x4x2048x64, .f32⟩
  | .hbm, ⟨89, _⟩ => ⟨S1x256x4x64, .f32⟩
  | .hbm, ⟨90, _⟩ => ⟨S1x256x256, .f32⟩
  | .hbm, ⟨91, _⟩ => ⟨S_, .f32⟩
  | .hbm, ⟨92, _⟩ => ⟨S256x256, .f32⟩
  | .hbm, ⟨93, _⟩ => ⟨S1x256x4x64, .f32⟩
  | .hbm, ⟨94, _⟩ => ⟨S1x256x256, .f32⟩
  | .hbm, ⟨95, _⟩ => ⟨S_, .f32⟩
  | .hbm, ⟨96, _⟩ => ⟨S256x256, .f32⟩
  | .hbm, ⟨97, _⟩ => ⟨S1x2048x4x64, .f32⟩
  | .hbm, ⟨98, _⟩ => ⟨S1x2048x256, .f32⟩
  | .hbm, ⟨99, _⟩ => ⟨S_, .f32⟩
  | .hbm, ⟨100, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== MergeBwd.lean ====
abbrev S2048x1024 : Shape := ⟨2, ![2048, 1024]⟩
abbrev S2048x256 : Shape := ⟨2, ![2048, 256]⟩
abbrev S4x1024x256 : Shape := ⟨3, ![4, 1024, 256]⟩
abbrev S2048x4096 : Shape := ⟨2, ![2048, 4096]⟩
abbrev S512x1024 : Shape := ⟨2, ![512, 1024]⟩
abbrev S512x256 : Shape := ⟨2, ![512, 256]⟩
abbrev S512x4096 : Shape := ⟨2, ![512, 4096]⟩
abbrev S1x1024x256 : Shape := ⟨3, ![1, 1024, 256]⟩
abbrev S1024x256 : Shape := ⟨2, ![1024, 256]⟩

abbrev nBuf : Space → Nat
  | .hbm => 10
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x1024x256, .bf16⟩
  | .hbm, ⟨6, _⟩ => ⟨S2048x4096, .bf16⟩
  | .hbm, ⟨7, _⟩ => ⟨S2048x4096, .bf16⟩
  | .hbm, ⟨8, _⟩ => ⟨S2048x1024, .f32⟩
  | .hbm, ⟨9, _⟩ => ⟨S4x1024x256, .bf16⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S4x1024x256, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S512x1024, .f32⟩
  | .local _ .vmem, ⟨16, _⟩ => ⟨S512x1024, .f32⟩
  | .local _ .vmem, ⟨17, _⟩ => ⟨S4x1024x256, .bf16⟩
  | .local _ .vmem, ⟨18, _⟩ => ⟨S4x1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v133 : BitVec 1 := Scalar.cmpi .eq arg0 c3_i32
  let v134 : BitVec 32 := Scalar.extui v133
  let c0_i32_90 : BitVec 32 := 0#32
  let v135 : BitVec 1 := Scalar.cmpi .ne v134 c0_i32_90
  v135

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MergeBwdRefIdeal.lean ====
abbrev S2048x1024 : Shape := ⟨2, ![2048, 1024]⟩
abbrev S2048x256 : Shape := ⟨2, ![2048, 256]⟩
abbrev S4x1024x256 : Shape := ⟨3, ![4, 1024, 256]⟩
abbrev S2048x4096 : Shape := ⟨2, ![2048, 4096]⟩
abbrev S2048x1x256 : Shape := ⟨3, ![2048, 1, 256]⟩
abbrev S2048x4x256 : Shape := ⟨3, ![2048, 4, 256]⟩
abbrev S4x256x1024 : Shape := ⟨3, ![4, 256, 1024]⟩
abbrev S4x1024x2048 : Shape := ⟨3, ![4, 1024, 2048]⟩
abbrev S2048x4x1024 : Shape := ⟨3, ![2048, 4, 1024]⟩
abbrev S_ : Shape := ⟨0, ![]⟩
abbrev S4x2048x256 : Shape := ⟨3, ![4, 2048, 256]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x1024x256, .bf16⟩
  | .hbm, ⟨6, _⟩ => ⟨S2048x4096, .bf16⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x1x256, .f32⟩
  | .hbm, ⟨12, _⟩ => ⟨S2048x1x256, .f32⟩
  | .hbm, ⟨13, _⟩ => ⟨S2048x1x256, .f32⟩
  | .hbm, ⟨14, _⟩ => ⟨S2048x1x256, .f32⟩
  | .hbm, ⟨15, _⟩ => ⟨S2048x4x256, .f32⟩
  | .hbm, ⟨16, _⟩ => ⟨S4x1024x256, .f32⟩
  | .hbm, ⟨17, _⟩ => ⟨S4x256x1024, .f32⟩
  | .hbm, ⟨18, _⟩ => ⟨S2048x4096, .f32⟩
  | .hbm, ⟨19, _⟩ => ⟨S4x1024x2048, .f32⟩
  | .hbm, ⟨20, _⟩ => ⟨S2048x4x1024, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S2048x4096, .f32⟩
  | .hbm, ⟨33, _⟩ => ⟨S2048x4x1024, .f32⟩
  | .hbm, ⟨34, _⟩ => ⟨S2048x4x1024, .f32⟩
  | .hbm, ⟨35, _⟩ => ⟨S_, .f32⟩
  | .hbm, ⟨36, _⟩ => ⟨S2048x1024, .f32⟩
  | .hbm, ⟨37, _⟩ => ⟨S2048x4x1024, .f32⟩
  | .hbm, ⟨38, _⟩ => ⟨S2048x4x1024, .f32⟩
  | .hbm, ⟨39, _⟩ => ⟨S2048x4x1024, .f32⟩
  | .hbm, ⟨40, _⟩ => ⟨S2048x4096, .f32⟩
  | .hbm, ⟨41, _⟩ => ⟨S2048x4096, .f32⟩
  | .hbm, ⟨42, _⟩ => ⟨S4x1024x2048, .f32⟩
  | .hbm, ⟨43, _⟩ => ⟨S4x2048x256, .f32⟩
  | .hbm, ⟨44, _⟩ => ⟨S2048x4x256, .f32⟩
  | .hbm, ⟨45, _⟩ => ⟨S4x1024x256, .f32⟩
  | .hbm, ⟨46, _⟩ => ⟨S4x256x1024, .f32⟩
  | .hbm, ⟨47, _⟩ => ⟨S2048x4096, .bf16⟩
  | .hbm, ⟨48, _⟩ => ⟨S2048x1024, .f32⟩
  | .hbm, ⟨49, _⟩ => ⟨S4x1024x256, .f32⟩
  | .hbm, ⟨50, _⟩ => ⟨S4x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== FfnOutBwd.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOutBwdRefIdeal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .bf16⟩
  | .hbm, ⟨31, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== GateDx.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateDxRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S4096x1024, .f32⟩
  | .hbm, ⟨7, _⟩ => ⟨S1024x4096, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x4096, .f32⟩
  | .hbm, ⟨30, _⟩ => ⟨S2048x4096, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== FfnInDxG.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S2048x2816, .bf16⟩
  | .hbm, ⟨1, _⟩ => ⟨S5632x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInDxGRefIdeal.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S5632x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2816x1024, .bf16⟩
  | .hbm, ⟨7, _⟩ => ⟨S2816x1024, .f32⟩
  | .hbm, ⟨8, _⟩ => ⟨S1024x2816, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== FfnOutDw.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutDwRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S2048x2304 : Shape := ⟨2, ![2048, 2304]⟩
abbrev S2048x1024 : Shape := ⟨2, ![2048, 1024]⟩
abbrev S2304x1024 : Shape := ⟨2, ![2304, 1024]⟩
abbrev S2048x1152 : Shape := ⟨2, ![2048, 1152]⟩
abbrev S2048x512 : Shape := ⟨2, ![2048, 512]⟩
abbrev S1152x512 : Shape := ⟨2, ![1152, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S2048x1024, .bf16⟩
  | .hbm, ⟨2, _⟩ => ⟨S2304x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x512, .bf16⟩
  | .local _ .vmem, ⟨3, _⟩ => ⟨S2048x512, .bf16⟩
  | .local _ .vmem, ⟨4, _⟩ => ⟨S1152x512, .bf16⟩
  | .local _ .vmem, ⟨5, _⟩ => ⟨S1152x512, .bf16⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S2048x2304 : Shape := ⟨2, ![2048, 2304]⟩
abbrev S2048x1024 : Shape := ⟨2, ![2048, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x2304, .f32⟩
  | .hbm, ⟨5, _⟩ => ⟨S2048x2304, .f32⟩
  | .hbm, ⟨6, _⟩ => ⟨S2048x2304, .f32⟩
  | .hbm, ⟨7, _⟩ => ⟨S2304x1024, .f32⟩
  | .hbm, ⟨8, _⟩ => ⟨S1024x2304, .f32⟩
  | .hbm, ⟨9, _⟩ => ⟨S2304x1024, .f32⟩
  | .hbm, ⟨10, _⟩ => ⟨S2304x1024, .bf16⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateDw.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDwRefIdeal.lean ====
abbrev S2048x4096 : Shape := ⟨2, ![2048, 4096]⟩
abbrev S2048x1024 : Shape := ⟨2, ![2048, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnInDxA.lean ====
abbrev S2048x2816 : Shape := ⟨2, ![2048, 2816]⟩
abbrev S5632x1024 : Shape := ⟨2, ![5632, 1024]⟩
abbrev S2048x1024 : Shape := ⟨2, ![2048, 1024]⟩
abbrev S2816x512 : Shape := ⟨2, ![2816, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S5632x1024, .bf16⟩
  | .hbm, ⟨2, _⟩ => ⟨S2048x1024, .f32⟩
  | .local _ .vmem, ⟨0, _⟩ => ⟨S2048x2816, .bf16⟩
  | .local _ .vmem, ⟨1, _⟩ => ⟨S2816x512, .bf16⟩
  | .local _ .vmem, ⟨2, _⟩ => ⟨S2816x512, .bf16⟩
  | .local _ .vmem, ⟨3, _⟩ => ⟨S2048x512, .f32⟩
  | .local _ .vmem, ⟨4, _⟩ => ⟨S2048x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInDxARefIdeal.lean ====
abbrev S2048x2816 : Shape := ⟨2, ![2048, 2816]⟩
abbrev S5632x1024 : Shape := ⟨2, ![5632, 1024]⟩
abbrev S2816x1024 : Shape := ⟨2, ![2816, 1024]⟩
abbrev S_ : Shape := ⟨0, ![]⟩
abbrev S2048x1024 : Shape := ⟨2, ![2048, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S5632x1024, .bf16⟩
  | .hbm, ⟨2, _⟩ => ⟨S2816x1024, .bf16⟩
  | .hbm, ⟨3, _⟩ => ⟨S_, .f32⟩
  | .hbm, ⟨4, _⟩ => ⟨S2048x1024, .f32⟩
  | .hbm, ⟨5, _⟩ => ⟨S2816x1024, .f32⟩
  | .hbm, ⟨6, _⟩ => ⟨S1024x2816, .f32⟩
  | .hbm, ⟨7, _⟩ => ⟨S2048x2816, .f32⟩
  | .hbm, ⟨8, _⟩ => ⟨S2048x2816, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S2048x2304 : Shape := ⟨2, ![2048, 2304]⟩
abbrev S2304x1024 : Shape := ⟨2, ![2304, 1024]⟩
abbrev S2048x1024 : Shape := ⟨2, ![2048, 1024]⟩
abbrev S2304x512 : Shape := ⟨2, ![2304, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2304, .bf16⟩
  | .hbm, ⟨1, _⟩ => ⟨S2304x1024, .bf16⟩
  | .hbm, ⟨2, _⟩ => ⟨S2048x1024, .f32⟩
  | .local _ .vmem, ⟨0, _⟩ => ⟨S2048x2304, .bf16⟩
  | .local _ .vmem, ⟨1, _⟩ => ⟨S2304x512, .bf16⟩
  | .local _ .vmem, ⟨2, _⟩ => ⟨S2304x512, .bf16⟩
  | .local _ .vmem, ⟨3, _⟩ => ⟨S2048x512, .f32⟩
  | .local _ .vmem, ⟨4, _⟩ => ⟨S2048x512, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDxRefIdeal.lean ====
abbrev S2048x2304 : Shape := ⟨2, ![2048, 2304]⟩
abbrev S2304x1024 : Shape := ⟨2, ![2304, 1024]⟩
abbrev S_ : Shape := ⟨0, ![]⟩
abbrev S2048x1024 : Shape := ⟨2, ![2048, 1024]⟩
abbrev S1024x2304 : Shape := ⟨2, ![1024, 2304]⟩

abbrev nBuf : Space → Nat
  | .hbm => 9
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S2304x1024, .bf16⟩
  | .hbm, ⟨2, _⟩ => ⟨S_, .f32⟩
  | .hbm, ⟨3, _⟩ => ⟨S2048x1024, .f32⟩
  | .hbm, ⟨4, _⟩ => ⟨S2304x1024, .f32⟩
  | .hbm, ⟨5, _⟩ => ⟨S1024x2304, .f32⟩
  | .hbm, ⟨6, _⟩ => ⟨S2048x2304, .f32⟩
  | .hbm, ⟨7, _⟩ => ⟨S2048x2304, .f32⟩
  | .hbm, ⟨8, _⟩ => ⟨S2048x1024, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDwA.lean ====
abbrev S2048x2816 : Shape := ⟨2, ![2048, 2816]⟩
abbrev S2048x1024 : Shape := ⟨2, ![2048, 1024]⟩
abbrev S5632x1024 : Shape := ⟨2, ![5632, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInDwARefIdeal.lean ====
abbrev S2048x2816 : Shape := ⟨2, ![2048, 2816]⟩
abbrev S2048x1024 : Shape := ⟨2, ![2048, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S2048x1024, .f32⟩
  | .hbm, ⟨4, _⟩ => ⟨S_, .f32⟩
  | .hbm, ⟨5, _⟩ => ⟨S1024x2816, .f32⟩
  | .hbm, ⟨6, _⟩ => ⟨S2048x2816, .f32⟩
  | .hbm, ⟨7, _⟩ => ⟨S2048x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FfnInDwG.lean ====
abbrev S2048x2816 : Shape := ⟨2, ![2048, 2816]⟩
abbrev S2048x1024 : Shape := ⟨2, ![2048, 1024]⟩
abbrev S5632x1024 : Shape := ⟨2, ![5632, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInDwGRefIdeal.lean ====
abbrev S2048x2816 : Shape := ⟨2, ![2048, 2816]⟩
abbrev S2048x1024 : Shape := ⟨2, ![2048, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S2816x1024, .bf16⟩
  | .hbm, ⟨4, _⟩ => ⟨S2048x1024, .f32⟩
  | .hbm, ⟨5, _⟩ => ⟨S_, .f32⟩
  | .hbm, ⟨6, _⟩ => ⟨S1024x2816, .f32⟩
  | .hbm, ⟨7, _⟩ => ⟨S2048x2816, .f32⟩
  | .hbm, ⟨8, _⟩ => ⟨S2048x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== NormMemBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S256x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormMemBwdRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 53
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .bf16⟩
  | .hbm, ⟨52, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MemkvDw.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S1024x512, .bf16⟩
  | .local _ .vmem, ⟨0, _⟩ => ⟨S256x1024, .bf16⟩
  | .local _ .vmem, ⟨1, _⟩ => ⟨S256x512, .bf16⟩
  | .local _ .vmem, ⟨2, _⟩ => ⟨S1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemkvDwRefIdeal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S256x1024, .f32⟩
  | .hbm, ⟨3, _⟩ => ⟨S_, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemkvDx.lean ====
abbrev S256x512 : Shape := ⟨2, ![256, 512]⟩
abbrev S1024x512 : Shape := ⟨2, ![1024, 512]⟩
abbrev S256x1024 : Shape := ⟨2, ![256, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .local _ .vmem, ⟨0, _⟩ => ⟨S256x512, .bf16⟩
  | .local _ .vmem, ⟨1, _⟩ => ⟨S512x512, .bf16⟩
  | .local _ .vmem, ⟨2, _⟩ => ⟨S512x512, .bf16⟩
  | .local _ .vmem, ⟨3, _⟩ => ⟨S256x512, .f32⟩
  | .local _ .vmem, ⟨4, _⟩ => ⟨S256x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemkvDxRefIdeal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S_, .f32⟩
  | .hbm, ⟨3, _⟩ => ⟨S256x1024, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S256x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormMix.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MmMemkv.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .f32⟩
  | .local _ .vmem, ⟨0, _⟩ => ⟨S256x1024, .bf16⟩
  | .local _ .vmem, ⟨1, _⟩ => ⟨S1024x512, .bf16⟩
  | .local _ .vmem, ⟨2, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MmMemkvRefIdeal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemFwd.lean ====
abbrev S2048x256 : Shape := ⟨2, ![2048, 256]⟩
abbrev S256x256 : Shape := ⟨2, ![256, 256]⟩
abbrev S512x256 : Shape := ⟨2, ![512, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S256x256, .bf16⟩
  | .hbm, ⟨2, _⟩ => ⟨S256x256, .bf16⟩
  | .hbm, ⟨3, _⟩ => ⟨S2048x256, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdRefIdeal.lean ====
abbrev S2048x256 : Shape := ⟨2, ![2048, 256]⟩
abbrev S256x256 : Shape := ⟨2, ![256, 256]⟩
abbrev S1x2048x256 : Shape := ⟨3, ![1, 2048, 256]⟩
abbrev S1x2048x4x64 : Shape := ⟨4, ![1, 2048, 4, 64]⟩
abbrev S1x4x2048x64 : Shape := ⟨4, ![1, 4, 2048, 64]⟩
abbrev S1x256x256 : Shape := ⟨3, ![1, 256, 256]⟩
abbrev S1x256x4x64 : Shape := ⟨4, ![1, 256, 4, 64]⟩
abbrev S1x4x256x64 : Shape := ⟨4, ![1, 4, 256, 64]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x256, .bf16⟩
  | .hbm, ⟨2, _⟩ => ⟨S256x256, .bf16⟩
  | .hbm, ⟨3, _⟩ => ⟨S2048x256, .f32⟩
  | .hbm, ⟨4, _⟩ => ⟨S256x256, .f32⟩
  | .hbm, ⟨5, _⟩ => ⟨S256x256, .f32⟩
  | .hbm, ⟨6, _⟩ => ⟨S1x2048x256, .f32⟩
  | .hbm, ⟨7, _⟩ => ⟨S1x2048x4x64, .f32⟩
  | .hbm, ⟨8, _⟩ => ⟨S1x4x2048x64, .f32⟩
  | .hbm, ⟨9, _⟩ => ⟨S1x256x256, .f32⟩
  | .hbm, ⟨10, _⟩ => ⟨S1x256x4x64, .f32⟩
  | .hbm, ⟨11, _⟩ => ⟨S1x4x256x64, .f32⟩
  | .hbm, ⟨12, _⟩ => ⟨S1x256x256, .f32⟩
  | .hbm, ⟨13, _⟩ => ⟨S1x256x4x64, .f32⟩
  | .hbm, ⟨14, _⟩ => ⟨S1x4x256x64, .f32⟩
  | .hbm, ⟨15, _⟩ => ⟨S1x4x2048x256, .f32⟩
  | .hbm, ⟨16, _⟩ => ⟨S_, .f32⟩
  | .hbm, ⟨17, _⟩ => ⟨S1x4x2048x256, .f32⟩
  | .hbm, ⟨18, _⟩ => ⟨S1x4x2048x256, .f32⟩
  | .hbm, ⟨19, _⟩ => ⟨S_, .f32⟩
  | .hbm, ⟨20, _⟩ => ⟨S1x4x2048, .f32⟩
  | .hbm, ⟨21, _⟩ => ⟨S_, .f32⟩
  | .hbm, ⟨22, _⟩ => ⟨S1x4x2048, .f32⟩
  | .hbm, ⟨23, _⟩ => ⟨S1x4x2048, .f32⟩
  | .hbm, ⟨24, _⟩ => ⟨S1x4x2048x1, .f32⟩
  | .hbm, ⟨25, _⟩ => ⟨S1x4x2048x256, .f32⟩
  | .hbm, ⟨26, _⟩ => ⟨S1x4x2048x256, .f32⟩
  | .hbm, ⟨27, _⟩ => ⟨S1x4x2048x256, .f32⟩
  | .hbm, ⟨28, _⟩ => ⟨S_, .f32⟩
  | .hbm, ⟨29, _⟩ => ⟨S1x4x2048, .f32⟩
  | .hbm, ⟨30, _⟩ => ⟨S1x4x2048x1, .f32⟩
  | .hbm, ⟨31, _⟩ => ⟨S1x4x2048x256, .f32⟩
  | .hbm, ⟨32, _⟩ => ⟨S1x4x2048x256, .f32⟩
  | .hbm, ⟨33, _⟩ => ⟨S1x4x2048x64, .f32⟩
  | .hbm, ⟨34, _⟩ => ⟨S1x2048x4x64, .f32⟩
  | .hbm, ⟨35, _⟩ => ⟨S1x2048x256, .f32⟩
  | .hbm, ⟨36, _⟩ => ⟨S2048x256, .f32⟩
  | .hbm, ⟨37, _⟩ => ⟨S2048x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== LossHead.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32 : BitVec 32 := 0#32
  let v21 : BitVec 1 := Scalar.cmpi .eq arg0 c0_i32
  let v_true : BitVec 1 := 1#1
  let v24 : BitVec 1 := Scalar.xori v21 v_true
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossHeadRefIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S2048x1024, .bf16⟩
  | .hbm, ⟨26, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== AdamSmall.lean ====
abbrev S744x128 : Shape := ⟨2, ![744, 128]⟩

abbrev nBuf : Space → Nat
  | .hbm => 7
  | .vmem => 7
  | .smem => 0
  | _ => 0

abbrev bufTy : (tb : Table) → Fin (tcTables nBuf tb) → BufTy
  | .hbm, ⟨0, _⟩ => ⟨S744x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S744x128, .f32⟩
  | .hbm, ⟨5, _⟩ => ⟨S744x128, .f32⟩
  | .hbm, ⟨6, _⟩ => ⟨S744x128, .f32⟩
  | .local _ .vmem, ⟨0, _⟩ => ⟨S744x128, .f32⟩
  | .local _ .vmem, ⟨1, _⟩ => ⟨S744x128, .f32⟩
  | .local _ .vmem, ⟨2, _⟩ => ⟨S744x128, .f32⟩
  | .local _ .vmem, ⟨3, _⟩ => ⟨S744x128, .f32⟩
  | .local _ .vmem, ⟨4, _⟩ => ⟨S744x128, .f32⟩
  | .local _ .vmem, ⟨5, _⟩ => ⟨S744x128, .f32⟩
  | .local _ .vmem, ⟨6, _⟩ => ⟨S744x128, .f32⟩
  | _, _ => ⟨S744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S744x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S744x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S744x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S744x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S744x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S744x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S744x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSmallRefIdeal.lean ====
abbrev S744x128 : Shape := ⟨2, ![744, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S744x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S_, .f32⟩
  | .hbm, ⟨5, _⟩ => ⟨S744x128, .f32⟩
  | .hbm, ⟨6, _⟩ => ⟨S744x128, .f32⟩
  | .hbm, ⟨7, _⟩ => ⟨S_, .f32⟩
  | .hbm, ⟨8, _⟩ => ⟨S744x128, .f32⟩
  | .hbm, ⟨9, _⟩ => ⟨S744x128, .f32⟩
  | .hbm, ⟨10, _⟩ => ⟨S744x128, .f32⟩
  | .hbm, ⟨11, _⟩ => ⟨S_, .f32⟩
  | .hbm, ⟨12, _⟩ => ⟨S744x128, .f32⟩
  | .hbm, ⟨13, _⟩ => ⟨S744x128, .f32⟩
  | .hbm, ⟨14, _⟩ => ⟨S744x128, .f32⟩
  | .hbm, ⟨15, _⟩ => ⟨S_, .f32⟩
  | .hbm, ⟨16, _⟩ => ⟨S744x128, .f32⟩
  | .hbm, ⟨17, _⟩ => ⟨S744x128, .f32⟩
  | .hbm, ⟨18, _⟩ => ⟨S744x128, .f32⟩
  | .hbm, ⟨19, _⟩ => ⟨S_, .f32⟩
  | .hbm, ⟨20, _⟩ => ⟨S744x128, .f32⟩
  | .hbm, ⟨21, _⟩ => ⟨S744x128, .f32⟩
  | .hbm, ⟨22, _⟩ => ⟨S_, .f32⟩
  | .hbm, ⟨23, _⟩ => ⟨S744x128, .f32⟩
  | .hbm, ⟨24, _⟩ => ⟨S744x128, .f32⟩
  | .hbm, ⟨25, _⟩ => ⟨S744x128, .f32⟩
  | .hbm, ⟨26, _⟩ => ⟨S_, .f32⟩
  | .hbm, ⟨27, _⟩ => ⟨S744x128, .f32⟩
  | .hbm, ⟨28, _⟩ => ⟨S744x128, .f32⟩
  | .hbm, ⟨29, _⟩ => ⟨S744x128, .f32⟩
  | .hbm, ⟨30, _⟩ => ⟨S_, .f32⟩
  | .hbm, ⟨31, _⟩ => ⟨S744x128, .f32⟩
  | .hbm, ⟨32, _⟩ => ⟨S744x128, .f32⟩
  | .hbm, ⟨33, _⟩ => ⟨S744x128, .f32⟩
  | .hbm, ⟨34, _⟩ => ⟨S_, .f32⟩
  | .hbm, ⟨35, _⟩ => ⟨S744x128, .f32⟩
  | .hbm, ⟨36, _⟩ => ⟨S744x128, .f32⟩
  | _, _ => ⟨S744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MmIn.lean ====
abbrev S2048x1024 : Shape := ⟨2, ![2048, 1024]⟩
abbrev S2304x1024 : Shape := ⟨2, ![2304, 1024]⟩
abbrev S2048x2304 : Shape := ⟨2, ![2048, 2304]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2304x1024, .bf16⟩
  | .hbm, ⟨2, _⟩ => ⟨S2048x2304, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInRefIdeal.lean ====
abbrev S2048x1024 : Shape := ⟨2, ![2048, 1024]⟩
abbrev S2304x1024 : Shape := ⟨2, ![2304, 1024]⟩
abbrev S1024x2304 : Shape := ⟨2, ![1024, 2304]⟩
abbrev S2048x2304 : Shape := ⟨2, ![2048, 2304]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2304x1024, .bf16⟩
  | .hbm, ⟨2, _⟩ => ⟨S2048x1024, .f32⟩
  | .hbm, ⟨3, _⟩ => ⟨S2304x1024, .f32⟩
  | .hbm, ⟨4, _⟩ => ⟨S1024x2304, .f32⟩
  | .hbm, ⟨5, _⟩ => ⟨S2048x2304, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmGate.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmGateRefIdeal.lean ====
abbrev S2048x1024 : Shape := ⟨2, ![2048, 1024]⟩
abbrev S4096x1024 : Shape := ⟨2, ![4096, 1024]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x1024, .f32⟩
  | .hbm, ⟨3, _⟩ => ⟨S4096x1024, .f32⟩
  | .hbm, ⟨4, _⟩ => ⟨S1024x4096, .f32⟩
  | .hbm, ⟨5, _⟩ => ⟨S2048x4096, .f32⟩
  | .hbm, ⟨6, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmOut.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MmOutRefIdeal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnOut.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOutRefIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnOutLast.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutLastRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnIn.lean ====
abbrev S2048x1024 : Shape := ⟨2, ![2048, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | .hbm, ⟨19, _⟩ => ⟨S2048x2816, .bf16⟩
  | .hbm, ⟨20, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== MergeFwd.lean ====
abbrev S2048x256 : Shape := ⟨2, ![2048, 256]⟩
abbrev S4x1024x256 : Shape := ⟨3, ![4, 1024, 256]⟩
abbrev S2048x4096 : Shape := ⟨2, ![2048, 4096]⟩
abbrev S2048x1024 : Shape := ⟨2, ![2048, 1024]⟩
abbrev S512x256 : Shape := ⟨2, ![512, 256]⟩
abbrev S512x4096 : Shape := ⟨2, ![512, 4096]⟩
abbrev S512x1024 : Shape := ⟨2, ![512, 1024]⟩
abbrev S1x1024x256 : Shape := ⟨3, ![1, 1024, 256]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S4x1024x256, .bf16⟩
  | .hbm, ⟨5, _⟩ => ⟨S2048x4096, .bf16⟩
  | .hbm, ⟨6, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4x1024x256, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S2048x256 : Shape := ⟨2, ![2048, 256]⟩
abbrev S4x1024x256 : Shape := ⟨3, ![4, 1024, 256]⟩
abbrev S2048x4096 : Shape := ⟨2, ![2048, 4096]⟩
abbrev S2048x1x256 : Shape := ⟨3, ![2048, 1, 256]⟩
abbrev S2048x4x256 : Shape := ⟨3, ![2048, 4, 256]⟩
abbrev S4x256x1024 : Shape := ⟨3, ![4, 256, 1024]⟩
abbrev S4x1024x2048 : Shape := ⟨3, ![4, 1024, 2048]⟩
abbrev S2048x4x1024 : Shape := ⟨3, ![2048, 4, 1024]⟩
abbrev S_ : Shape := ⟨0, ![]⟩
abbrev S2048x1024 : Shape := ⟨2, ![2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S4x1024x256, .bf16⟩
  | .hbm, ⟨5, _⟩ => ⟨S2048x4096, .bf16⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x1x256, .f32⟩
  | .hbm, ⟨11, _⟩ => ⟨S2048x1x256, .f32⟩
  | .hbm, ⟨12, _⟩ => ⟨S2048x1x256, .f32⟩
  | .hbm, ⟨13, _⟩ => ⟨S2048x1x256, .f32⟩
  | .hbm, ⟨14, _⟩ => ⟨S2048x4x256, .f32⟩
  | .hbm, ⟨15, _⟩ => ⟨S2048x4096, .f32⟩
  | .hbm, ⟨16, _⟩ => ⟨S4x1024x256, .f32⟩
  | .hbm, ⟨17, _⟩ => ⟨S4x256x1024, .f32⟩
  | .hbm, ⟨18, _⟩ => ⟨S4x1024x2048, .f32⟩
  | .hbm, ⟨19, _⟩ => ⟨S2048x4x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x4x1024, .f32⟩
  | .hbm, ⟨29, _⟩ => ⟨S2048x4x1024, .f32⟩
  | .hbm, ⟨30, _⟩ => ⟨S_, .f32⟩
  | .hbm, ⟨31, _⟩ => ⟨S2048x1024, .f32⟩
  | .hbm, ⟨32, _⟩ => ⟨S2048x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== RetPostBwd.lean ====
abbrev S2048x1024 : Shape := ⟨2, ![2048, 1024]⟩
abbrev S2048x256 : Shape := ⟨2, ![2048, 256]⟩
abbrev S2048x2304 : Shape := ⟨2, ![2048, 2304]⟩
abbrev S1x256 : Shape := ⟨2, ![1, 256]⟩
abbrev S512x256 : Shape := ⟨2, ![512, 256]⟩
abbrev S256x256 : Shape := ⟨2, ![256, 256]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x2304, .f32⟩
  | .hbm, ⟨3, _⟩ => ⟨S1x256, .f32⟩
  | .hbm, ⟨4, _⟩ => ⟨S2048x256, .bf16⟩
  | .hbm, ⟨5, _⟩ => ⟨S2048x256, .f32⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S512x256, .bf16⟩
  | .local _ .vmem, ⟨8, _⟩ => ⟨S512x256, .bf16⟩
  | .local _ .vmem, ⟨9, _⟩ => ⟨S512x256, .f32⟩
  | .local _ .vmem, ⟨10, _⟩ => ⟨S512x256, .f32⟩
  | .local _ .vmem, ⟨11, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_35 : BitVec 32 := 0#32
  let v101 : BitVec 1 := Scalar.cmpi .ne v100 c0_i32_35
  v101

def k0_cond2 (i : grid0.Coords) : BitVec 1 :=
  let arg0 : BitVec 32 := BitVec.ofNat 32 (i 0).val
  let c0_i32 : BitVec 32 := 0#32
  let v99 : BitVec 1 := Scalar.cmpi .eq arg0 c0_i32
  let v_true : BitVec 1 := 1#1
  let v102 : BitVec 1 := Scalar.xori v99 v_true
  let v103 : BitVec 32 := Scalar.extui v102
  let c0_i32_36 : BitVec 32 := 0#32
  let v104 : BitVec 1 := Scalar.cmpi .ne v103 c0_i32_36
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RetPostBwdRefIdeal.lean ====
abbrev S2048x1024 : Shape := ⟨2, ![2048, 1024]⟩
abbrev S2048x256 : Shape := ⟨2, ![2048, 256]⟩
abbrev S2048x2304 : Shape := ⟨2, ![2048, 2304]⟩
abbrev S1x256 : Shape := ⟨2, ![1, 256]⟩
abbrev S256 : Shape := ⟨1, ![256]⟩
abbrev S2048x4x64 : Shape := ⟨3, ![2048, 4, 64]⟩
abbrev S4x64 : Shape := ⟨2, ![4, 64]⟩
abbrev S_ : Shape := ⟨0, ![]⟩
abbrev S2048x4 : Shape := ⟨2, ![2048, 4]⟩
abbrev S2048x4x1 : Shape := ⟨3, ![2048, 4, 1]⟩
abbrev S1x4x64 : Shape := ⟨3, ![1, 4, 64]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x2304, .f32⟩
  | .hbm, ⟨3, _⟩ => ⟨S1x256, .f32⟩
  | .hbm, ⟨4, _⟩ => ⟨S2048x256, .f32⟩
  | .hbm, ⟨5, _⟩ => ⟨S256, .f32⟩
  | .hbm, ⟨6, _⟩ => ⟨S2048x4x64, .f32⟩
  | .hbm, ⟨7, _⟩ => ⟨S4x64, .f32⟩
  | .hbm, ⟨8, _⟩ => ⟨S2048x4x64, .f32⟩
  | .hbm, ⟨9, _⟩ => ⟨S_, .f32⟩
  | .hbm, ⟨10, _⟩ => ⟨S2048x4, .f32⟩
  | .hbm, ⟨11, _⟩ => ⟨S2048x4x1, .f32⟩
  | .hbm, ⟨12, _⟩ => ⟨S_, .f32⟩
  | .hbm, ⟨13, _⟩ => ⟨S2048x4x1, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S2048x4x1, .f32⟩
  | .hbm, ⟨19, _⟩ => ⟨S2048x4x1, .f32⟩
  | .hbm, ⟨20, _⟩ => ⟨S_, .f32⟩
  | .hbm, ⟨21, _⟩ => ⟨S2048x4x1, .f32⟩
  | .hbm, ⟨22, _⟩ => ⟨S2048x4x1, .f32⟩
  | .hbm, ⟨23, _⟩ => ⟨S2048x4x64, .f32⟩
  | .hbm, ⟨24, _⟩ => ⟨S2048x4x64, .f32⟩
  | .hbm, ⟨25, _⟩ => ⟨S1x4x64, .f32⟩
  | .hbm, ⟨26, _⟩ => ⟨S2048x4x64, .f32⟩
  | .hbm, ⟨27, _⟩ => ⟨S2048x4x64, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x4x64, .f32⟩
  | .hbm, ⟨51, _⟩ => ⟨S2048x4x64, .f32⟩
  | .hbm, ⟨52, _⟩ => ⟨S_, .f32⟩
  | .hbm, ⟨53, _⟩ => ⟨S4x64, .f32⟩
  | .hbm, ⟨54, _⟩ => ⟨S1x4x64, .f32⟩
  | .hbm, ⟨55, _⟩ => ⟨S2048x4x64, .f32⟩
  | .hbm, ⟨56, _⟩ => ⟨S2048x4x64, .f32⟩
  | .hbm, ⟨57, _⟩ => ⟨S_, .f32⟩
  | .hbm, ⟨58, _⟩ => ⟨S4x64, .f32⟩
  | .hbm, ⟨59, _⟩ => ⟨S2048x4x64, .f32⟩
  | .hbm, ⟨60, _⟩ => ⟨S_, .f32⟩
  | .hbm, ⟨61, _⟩ => ⟨S2048x4, .f32⟩
  | .hbm, ⟨62, _⟩ => ⟨S2048x4x1, .f32⟩
  | .hbm, ⟨63, _⟩ => ⟨S2048x4x64, .f32⟩
  | .hbm, ⟨64, _⟩ => ⟨S2048x4x64, .f32⟩
  | .hbm, ⟨65, _⟩ => ⟨S2048x4x1, .f32⟩
  | .hbm, ⟨66, _⟩ => ⟨S_, .f32⟩
  | .hbm, ⟨67, _⟩ => ⟨S2048x4x1, .f32⟩
  | .hbm, ⟨68, _⟩ => ⟨S2048x4x1, .f32⟩
  | .hbm, ⟨69, _⟩ => ⟨S_, .f32⟩
  | .hbm, ⟨70, _⟩ => ⟨S2048x4, .f32⟩
  | .hbm, ⟨71, _⟩ => ⟨S2048x4x64, .f32⟩
  | .hbm, ⟨72, _⟩ => ⟨S2048x4x64, .f32⟩
  | .hbm, ⟨73, _⟩ => ⟨S2048x4x64, .f32⟩
  | .hbm, ⟨74, _⟩ => ⟨S2048x4x64, .f32⟩
  | .hbm, ⟨75, _⟩ => ⟨S2048x4x64, .f32⟩
  | .hbm, ⟨76, _⟩ => ⟨S256, .f32⟩
  | .hbm, ⟨77, _⟩ => ⟨S2048x256, .f32⟩
  | .hbm, ⟨78, _⟩ => ⟨S2048x256, .bf16⟩
  | .hbm, ⟨79, _⟩ => ⟨S1x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== MemkvPrep.lean ====
abbrev S256x512 : Shape := ⟨2, ![256, 512]⟩
abbrev S1x256 : Shape := ⟨2, ![1, 256]⟩
abbrev S256x256 : Shape := ⟨2, ![256, 256]⟩

abbrev nBuf : Space → Nat
  | .hbm => 4
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S1x256, .f32⟩
  | .hbm, ⟨2, _⟩ => ⟨S256x256, .bf16⟩
  | .hbm, ⟨3, _⟩ => ⟨S256x256, .bf16⟩
  | .local _ .vmem, ⟨0, _⟩ => ⟨S256x512, .f32⟩
  | .local _ .vmem, ⟨1, _⟩ => ⟨S1x256, .f32⟩
  | .local _ .vmem, ⟨2, _⟩ => ⟨S256x256, .bf16⟩
  | .local _ .vmem, ⟨3, _⟩ => ⟨S256x256, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemkvPrepRefIdeal.lean ====
abbrev S256x512 : Shape := ⟨2, ![256, 512]⟩
abbrev S1x256 : Shape := ⟨2, ![1, 256]⟩
abbrev S256 : Shape := ⟨1, ![256]⟩
abbrev S256x256 : Shape := ⟨2, ![256, 256]⟩
abbrev S256x4x64 : Shape := ⟨3, ![256, 4, 64]⟩
abbrev S4x64 : Shape := ⟨2, ![4, 64]⟩
abbrev S_ : Shape := ⟨0, ![]⟩
abbrev S256x4 : Shape := ⟨2, ![256, 4]⟩
abbrev S256x4x1 : Shape := ⟨3, ![256, 4, 1]⟩
abbrev S1x4x64 : Shape := ⟨3, ![1, 4, 64]⟩

abbrev nBuf : Space → Nat
  | .hbm => 26
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1x256, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S256x4x64, .f32⟩
  | .hbm, ⟨6, _⟩ => ⟨S4x64, .f32⟩
  | .hbm, ⟨7, _⟩ => ⟨S256x4x64, .f32⟩
  | .hbm, ⟨8, _⟩ => ⟨S_, .f32⟩
  | .hbm, ⟨9, _⟩ => ⟨S256x4, .f32⟩
  | .hbm, ⟨10, _⟩ => ⟨S256x4x1, .f32⟩
  | .hbm, ⟨11, _⟩ => ⟨S_, .f32⟩
  | .hbm, ⟨12, _⟩ => ⟨S256x4x1, .f32⟩
  | .hbm, ⟨13, _⟩ => ⟨S256x4x1, .f32⟩
  | .hbm, ⟨14, _⟩ => ⟨S_, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S256x4x64, .f32⟩
  | .hbm, ⟨19, _⟩ => ⟨S256x4x64, .f32⟩
  | .hbm, ⟨20, _⟩ => ⟨S1x4x64, .f32⟩
  | .hbm, ⟨21, _⟩ => ⟨S256x4x64, .f32⟩
  | .hbm, ⟨22, _⟩ => ⟨S256x4x64, .f32⟩
  | .hbm, ⟨23, _⟩ => ⟨S256x256, .f32⟩
  | .hbm, ⟨24, _⟩ => ⟨S256x256, .bf16⟩
  | .hbm, ⟨25, _⟩ => ⟨S256x256, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== MemkvBwd.lean ====
abbrev S256x512 : Shape := ⟨2, ![256, 512]⟩
abbrev S256x256 : Shape := ⟨2, ![256, 256]⟩
abbrev S1x256 : Shape := ⟨2, ![1, 256]⟩
abbrev S256 : Shape := ⟨1, ![256]⟩

abbrev nBuf : Space → Nat
  | .hbm => 6
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S256x256, .f32⟩
  | .hbm, ⟨2, _⟩ => ⟨S256x256, .f32⟩
  | .hbm, ⟨3, _⟩ => ⟨S1x256, .f32⟩
  | .hbm, ⟨4, _⟩ => ⟨S256x512, .bf16⟩
  | .hbm, ⟨5, _⟩ => ⟨S1x256, .f32⟩
  | .local _ .vmem, ⟨0, _⟩ => ⟨S256x512, .f32⟩
  | .local _ .vmem, ⟨1, _⟩ => ⟨S256x256, .f32⟩
  | .local _ .vmem, ⟨2, _⟩ => ⟨S256x256, .f32⟩
  | .local _ .vmem, ⟨3, _⟩ => ⟨S1x256, .f32⟩
  | .local _ .vmem, ⟨4, _⟩ => ⟨S256x512, .bf16⟩
  | .local _ .vmem, ⟨5, _⟩ => ⟨S1x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemkvBwdRefIdeal.lean ====
abbrev S256x512 : Shape := ⟨2, ![256, 512]⟩
abbrev S256x256 : Shape := ⟨2, ![256, 256]⟩
abbrev S1x256 : Shape := ⟨2, ![1, 256]⟩
abbrev S256 : Shape := ⟨1, ![256]⟩
abbrev S256x4x64 : Shape := ⟨3, ![256, 4, 64]⟩
abbrev S4x64 : Shape := ⟨2, ![4, 64]⟩
abbrev S_ : Shape := ⟨0, ![]⟩
abbrev S256x4 : Shape := ⟨2, ![256, 4]⟩
abbrev S256x4x1 : Shape := ⟨3, ![256, 4, 1]⟩
abbrev S1x4x64 : Shape := ⟨3, ![1, 4, 64]⟩

abbrev nBuf : Space → Nat
  | .hbm => 61
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x256, .f32⟩
  | .hbm, ⟨2, _⟩ => ⟨S256x256, .f32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S4x64, .f32⟩
  | .hbm, ⟨9, _⟩ => ⟨S256x4x64, .f32⟩
  | .hbm, ⟨10, _⟩ => ⟨S_, .f32⟩
  | .hbm, ⟨11, _⟩ => ⟨S256x4, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S_, .f32⟩
  | .hbm, ⟨17, _⟩ => ⟨S256x4x1, .f32⟩
  | .hbm, ⟨18, _⟩ => ⟨S256x4x1, .f32⟩
  | .hbm, ⟨19, _⟩ => ⟨S256x4x1, .f32⟩
  | .hbm, ⟨20, _⟩ => ⟨S256x4x1, .f32⟩
  | .hbm, ⟨21, _⟩ => ⟨S_, .f32⟩
  | .hbm, ⟨22, _⟩ => ⟨S256x4x1, .f32⟩
  | .hbm, ⟨23, _⟩ => ⟨S256x4x1, .f32⟩
  | .hbm, ⟨24, _⟩ => ⟨S256x4x64, .f32⟩
  | .hbm, ⟨25, _⟩ => ⟨S256x4x64, .f32⟩
  | .hbm, ⟨26, _⟩ => ⟨S1x4x64, .f32⟩
  | .hbm, ⟨27, _⟩ => ⟨S256x4x64, .f32⟩
  | .hbm, ⟨28, _⟩ => ⟨S256x4x64, .f32⟩
  | .hbm, ⟨29, _⟩ => ⟨S256x256, .f32⟩
  | .hbm, ⟨30, _⟩ => ⟨S256x4x64, .f32⟩
  | .hbm, ⟨31, _⟩ => ⟨S256x4x64, .f32⟩
  | .hbm, ⟨32, _⟩ => ⟨S_, .f32⟩
  | .hbm, ⟨33, _⟩ => ⟨S4x64, .f32⟩
  | .hbm, ⟨34, _⟩ => ⟨S1x4x64, .f32⟩
  | .hbm, ⟨35, _⟩ => ⟨S256x4x64, .f32⟩
  | .hbm, ⟨36, _⟩ => ⟨S256x4x64, .f32⟩
  | .hbm, ⟨37, _⟩ => ⟨S_, .f32⟩
  | .hbm, ⟨38, _⟩ => ⟨S4x64, .f32⟩
  | .hbm, ⟨39, _⟩ => ⟨S256x4x64, .f32⟩
  | .hbm, ⟨40, _⟩ => ⟨S_, .f32⟩
  | .hbm, ⟨41, _⟩ => ⟨S256x4, .f32⟩
  | .hbm, ⟨42, _⟩ => ⟨S256x4x1, .f32⟩
  | .hbm, ⟨43, _⟩ => ⟨S256x4x64, .f32⟩
  | .hbm, ⟨44, _⟩ => ⟨S256x4x64, .f32⟩
  | .hbm, ⟨45, _⟩ => ⟨S256x4x1, .f32⟩
  | .hbm, ⟨46, _⟩ => ⟨S_, .f32⟩
  | .hbm, ⟨47, _⟩ => ⟨S256x4x1, .f32⟩
  | .hbm, ⟨48, _⟩ => ⟨S256x4x1, .f32⟩
  | .hbm, ⟨49, _⟩ => ⟨S_, .f32⟩
  | .hbm, ⟨50, _⟩ => ⟨S256x4, .f32⟩
  | .hbm, ⟨51, _⟩ => ⟨S256x4x64, .f32⟩
  | .hbm, ⟨52, _⟩ => ⟨S256x4x64, .f32⟩
  | .hbm, ⟨53, _⟩ => ⟨S256x4x64, .f32⟩
  | .hbm, ⟨54, _⟩ => ⟨S256x4x64, .f32⟩
  | .hbm, ⟨55, _⟩ => ⟨S256x4x64, .f32⟩
  | .hbm, ⟨56, _⟩ => ⟨S256, .f32⟩
  | .hbm, ⟨57, _⟩ => ⟨S256x256, .f32⟩
  | .hbm, ⟨58, _⟩ => ⟨S256x512, .f32⟩
  | .hbm, ⟨59, _⟩ => ⟨S256x512, .bf16⟩
  | .hbm, ⟨60, _⟩ => ⟨S1x256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== SmallSum.lean ====
abbrev S8x744x128 : Shape := ⟨3, ![8, 744, 128]⟩
abbrev S744x128 : Shape := ⟨2, ![744, 128]⟩
abbrev S1x744x128 : Shape := ⟨3, ![1, 744, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x744x128, .f32⟩
  | .hbm, ⟨1, _⟩ => ⟨S744x128, .f32⟩
  | .local _ .vmem, ⟨0, _⟩ => ⟨S8x744x128, .f32⟩
  | .local _ .vmem, ⟨1, _⟩ => ⟨S744x128, .f32⟩
  | _, _ => ⟨S8x744x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x744x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S744x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumRefIdeal.lean ====
abbrev S8x744x128 : Shape := ⟨3, ![8, 744, 128]⟩
abbrev S_ : Shape := ⟨0, ![]⟩
abbrev S744x128 : Shape := ⟨2, ![744, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x744x128, .f32⟩
  | .hbm, ⟨1, _⟩ => ⟨S_, .f32⟩
  | .hbm, ⟨2, _⟩ => ⟨S744x128, .f32⟩
  | _, _ => ⟨S8x744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RpbExpand.lean ====
abbrev S64x128 : Shape := ⟨2, ![64, 128]⟩
abbrev S128x4096 : Shape := ⟨2, ![128, 4096]⟩
abbrev S64x4096 : Shape := ⟨2, ![64, 4096]⟩

abbrev nBuf : Space → Nat
  | .hbm => 3
  | .vmem => 3
  | .smem => 0
  | _ => 0

abbrev bufTy : (tb : Table) → Fin (tcTables nBuf tb) → BufTy
  | .hbm, ⟨0, _⟩ => ⟨S64x128, .f32⟩
  | .hbm, ⟨1, _⟩ => ⟨S128x4096, .f32⟩
  | .hbm, ⟨2, _⟩ => ⟨S64x4096, .f32⟩
  | .local _ .vmem, ⟨0, _⟩ => ⟨S64x128, .f32⟩
  | .local _ .vmem, ⟨1, _⟩ => ⟨S128x4096, .f32⟩
  | .local _ .vmem, ⟨2, _⟩ => ⟨S64x4096, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RpbExpandRefIdeal.lean ====
abbrev S64x128 : Shape := ⟨2, ![64, 128]⟩
abbrev S128x4096 : Shape := ⟨2, ![128, 4096]⟩
abbrev S64x4096 : Shape := ⟨2, ![64, 4096]⟩

abbrev nBuf : Space → Nat
  | .hbm => 3
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S128x4096, .f32⟩
  | .hbm, ⟨2, _⟩ => ⟨S64x4096, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RpbReduce.lean ====
abbrev S64x4096 : Shape := ⟨2, ![64, 4096]⟩
abbrev S128x4096 : Shape := ⟨2, ![128, 4096]⟩
abbrev S64x128 : Shape := ⟨2, ![64, 128]⟩

abbrev nBuf : Space → Nat
  | .hbm => 3
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S128x4096, .f32⟩
  | .hbm, ⟨2, _⟩ => ⟨S64x128, .f32⟩
  | .local _ .vmem, ⟨0, _⟩ => ⟨S64x4096, .f32⟩
  | .local _ .vmem, ⟨1, _⟩ => ⟨S128x4096, .f32⟩
  | .local _ .vmem, ⟨2, _⟩ => ⟨S64x128, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RpbReduceRefIdeal.lean ====
abbrev S64x4096 : Shape := ⟨2, ![64, 4096]⟩
abbrev S128x4096 : Shape := ⟨2, ![128, 4096]⟩
abbrev S_ : Shape := ⟨0, ![]⟩
abbrev S64x128 : Shape := ⟨2, ![64, 128]⟩

abbrev nBuf : Space → Nat
  | .hbm => 6
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S128x4096, .f32⟩
  | .hbm, ⟨2, _⟩ => ⟨S_, .f32⟩
  | .hbm, ⟨3, _⟩ => ⟨S64x128, .f32⟩
  | .hbm, ⟨4, _⟩ => ⟨S64x4096, .f32⟩
  | .hbm, ⟨5, _⟩ => ⟨S64x128, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Softmax.lean ====
/-
  The softmax gradient of one row over the extended reals. `prob` is the softmax of a row of scores; `dsKernel` is the
  gradient as an attention kernel writes it, `p * (dp - sum dp p)`; `dsQuotient` is the same gradient as the quotient
  rule writes it. They agree as soon as the scores are real numbers, whatever the cotangent is.
-/
module

public import Idealize.ShloMosaic.Lib.IdealHost
public import Idealize.ShloMosaic.PureOps.Ideal.Laws

@[expose] public section

noncomputable section

namespace Cert.Softmax

open Idealize.ShloMosaic

variable {n : ℕ}

/-- The greatest entry of a row, from minus infinity. -/
def rowMax (s : Fin n → EReal) : EReal := Finset.univ.fold max ⊥ s

/-- The exponential of a score less the row's maximum. -/
def ex (s : Fin n → EReal) (j : Fin n) : EReal := Ideal.exp (s j - rowMax s)

/-- The row's sum of exponentials. -/
def den (s : Fin n → EReal) : EReal := ∑ j, ex s j

/-- The softmax of a row. -/
def prob (s : Fin n → EReal) (j : Fin n) : EReal := Ideal.div (ex s j) (den s)

/-- The softmax's gradient as the kernel writes it. -/
def dsKernel (s dp : Fin n → EReal) (j : Fin n) : EReal := prob s j * (dp j - ∑ l, dp l * prob s l)

/-- The softmax's gradient as the quotient rule writes it. -/
def dsQuotient (s dp : Fin n → EReal) (j : Fin n) : EReal :=
  (Ideal.div (dp j) (den s) + -(∑ l, dp l * Ideal.div 1 (den s * den s) * ex s l)) * ex s j

/-- A product with a nonnegative real number goes into a sum. -/
theorem sum_mul_coe {ι : Type*} (t : Finset ι) (f : ι → EReal) {c : ℝ} (hc : 0 ≤ c) :
    ∑ l ∈ t, f l * (c : EReal) = (∑ l ∈ t, f l) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- A finite sum of real numbers is a real number. -/
theorem sum_coe {ι : Type*} (t : Finset ι) (f : ι → ℝ) : ∑ l ∈ t, ((f l : ℝ) : EReal) = ((∑ l ∈ t, f l : ℝ) : EReal) := by
  classical
  induction t using Finset.induction_on with
  | empty => simp
  | insert a t ha ih => rw [Finset.sum_insert ha, Finset.sum_insert ha, ih, EReal.coe_add]

/-- The maximum of a nonempty row of real numbers is a real number. -/
theorem rowMax_real [NeZero n] (r : Fin n → ℝ) : ∃ x : ℝ, rowMax (fun j => ((r j : ℝ) : EReal)) = x := by
  have key : ∀ t : Finset (Fin n), (t.fold max ⊥ (fun j => ((r j : ℝ) : EReal)) = ⊥ ∧ t = ∅) ∨ ∃ x : ℝ, t.fold max ⊥ (fun j => ((r j : ℝ) : EReal)) = x := by
    classical
    intro t
    induction t using Finset.induction_on with
    | empty => exact .inl ⟨Finset.fold_empty, rfl⟩
    | insert a t ha ih =>
      right
      rw [Finset.fold_insert ha]
      rcases ih with ⟨h, _⟩ | ⟨x, h⟩
      · exact ⟨r a, by rw [h]; exact max_bot_right _⟩
      · refine ⟨max (r a) x, by rw [h]; exact (EReal.coe_strictMono.monotone.map_max).symm⟩
  rcases key Finset.univ with ⟨_, h⟩ | h
  · exact absurd h (Finset.univ_nonempty (α := Fin n)).ne_empty
  · exact h

/-- **The two spellings of the softmax gradient agree on a row of real scores.** -/
theorem dsKernel_eq_dsQuotient [NeZero n] (s dp : Fin n → EReal) (hs : ∀ j, ∃ r : ℝ, s j = r) (j : Fin n) :
    dsKernel s dp j = dsQuotient s dp j := by
  choose r hr using hs
  obtain rfl : s = fun j => ((r j : ℝ) : EReal) := funext hr
  clear hr
  obtain ⟨M, hM⟩ := rowMax_real r
  have he : ∀ l, ex (fun j => ((r j : ℝ) : EReal)) l = ((Real.exp (r l - M) : ℝ) : EReal) := by
    intro l
    unfold ex
    rw [hM, ← EReal.coe_sub]
    rfl
  have hL : den (fun j => ((r j : ℝ) : EReal)) = ((∑ l, Real.exp (r l - M) : ℝ) : EReal) := by
    unfold den
    rw [Finset.sum_congr rfl fun l _ => he l, sum_coe]
  have hpos : 0 < ∑ l, Real.exp (r l - M) := Finset.sum_pos (fun _ _ => Real.exp_pos _) Finset.univ_nonempty
  generalize hLe : ∑ l, Real.exp (r l - M) = L at hL hpos
  have hp : ∀ l, prob (fun j => ((r j : ℝ) : EReal)) l = ((Real.exp (r l - M) * (1 / L) : ℝ) : EReal) := by
    intro l
    unfold prob
    rw [he, hL, Ideal.div_coe hpos.ne', ← EReal.coe_mul]
  have hsum : ∑ l, dp l * Ideal.div 1 (den (fun j => ((r j : ℝ) : EReal)) * den (fun j => ((r j : ℝ) : EReal))) * ex (fun j => ((r j : ℝ) : EReal)) l
      = (∑ l, dp l * prob (fun j => ((r j : ℝ) : EReal)) l) * ((1 / L : ℝ) : EReal) := by
    rw [← sum_mul_coe _ _ (by positivity)]
    refine Finset.sum_congr rfl fun l _ => ?_
    rw [hL, hp, he, ← EReal.coe_mul, Ideal.div_coe (mul_pos hpos hpos).ne', one_mul, mul_assoc, mul_assoc, ← EReal.coe_mul,
      ← EReal.coe_mul]
    congr 2
    field_simp
  unfold dsKernel dsQuotient
  rw [hsum, hL, Ideal.div_coe hpos.ne', hp, he, ← EReal.neg_mul,
    ← EReal.right_distrib_of_nonneg_of_ne_top (by exact_mod_cast (by positivity : (0:ℝ) ≤ 1 / L)) (EReal.coe_ne_top _),
    mul_assoc, ← EReal.coe_mul, mul_comm (Real.exp _) (1 / L), sub_eq_add_neg (dp j), mul_comm]

/-- A sum over `n * m` places, by quotient and remainder. -/
theorem sum_split {M : Type*} [AddCommMonoid M] (n m N : ℕ) (h : n * m = N) (f : Fin N → M) :
    ∑ x, f x = ∑ a : Fin n, ∑ b : Fin m, f ⟨m * a.val + b.val, by
      have ha := a.isLt; have hb := b.isLt
      have := Nat.mul_le_mul_left m (Nat.succ_le_of_lt ha)
      rw [Nat.mul_succ] at this
      calc m * a.val + b.val < m * a.val + m := by omega
        _ ≤ m * n := this
        _ = N := by rw [← h, Nat.mul_comm]⟩ := by
  subst h
  rw [← finProdFinEquiv.sum_comp, Fintype.sum_prod_type]
  refine Finset.sum_congr rfl fun a _ => Finset.sum_congr rfl fun b _ => congrArg f (Fin.ext ?_)
  simp [finProdFinEquiv, Nat.add_comm]

/-- In a sum over `n * m` places only the terms of one quotient are kept by a mask on the quotient. -/
theorem sum_masked {M : Type*} [AddCommMonoid M] (n m N : ℕ) (h : n * m = N) (q : Fin n) (f : Fin N → M)
    (hz : ∀ x : Fin N, x.val / m ≠ q.val → f x = 0) :
    ∑ x, f x = ∑ b : Fin m, f ⟨m * q.val + b.val, by
      have ha := q.isLt; have hb := b.isLt
      have := Nat.mul_le_mul_left m (Nat.succ_le_of_lt ha)
      rw [Nat.mul_succ] at this
      calc m * q.val + b.val < m * q.val + m := by omega
        _ ≤ m * n := this
        _ = N := by rw [← h, Nat.mul_comm]⟩ := by
  rw [sum_split n m N h]
  refine Finset.sum_eq_single q (fun a _ ha => Finset.sum_eq_zero fun b _ => hz _ ?_) (fun h => absurd (Finset.mem_univ _) h)
  have hb := b.isLt
  intro e
  apply ha
  apply Fin.ext
  rw [← e]
  show a.val = (m * a.val + b.val) / m
  rw [Nat.mul_add_div (by omega), Nat.div_eq_of_lt hb, Nat.add_zero]

end Cert.Softmax

end
-- ==== Proof.MemSpec.lean ====
/-
  The memory cross-attention's backward pass as sums over the extended reals: four heads of 64 lanes each, 256 memory
  rows. A row of the queries is `q`, of the branch's cotangent `g`; `k` and `v` are the memory's keys and values.
-/
module

public import proofs.«01_k».proof.Proof.Softmax

@[expose] public section

noncomputable section

namespace Cert.MemSpec

open Idealize.ShloMosaic Cert.Softmax

/-- The scale of the scores, an eighth. -/
def scale : EReal := Ideal.ofBits .f32 0x3E000000#32

theorem scale_real : ∃ r : ℝ, scale = r := ⟨_, by simp [scale, Ideal.ofBits, Ideal.ieee]; rfl⟩

/-- Lane `d` of head `h`. -/
def lane (h : Fin 4) (d : Fin 64) : Fin 256 := ⟨64 * h.val + d.val, by omega⟩

/-- The head of a lane. -/
def head (c : Fin 256) : Fin 4 := ⟨c.val / 64, by omega⟩

/-- The score of a query row against memory row `j`, in head `h`. -/
def score (q : Fin 256 → EReal) (k : Fin 256 → Fin 256 → EReal) (h : Fin 4) (j : Fin 256) : EReal :=
  (∑ d : Fin 64, q (lane h d) * k j (lane h d)) * scale

/-- The cotangent of the attention weights. -/
def dprob (g : Fin 256 → EReal) (v : Fin 256 → Fin 256 → EReal) (h : Fin 4) (j : Fin 256) : EReal :=
  ∑ d : Fin 64, g (lane h d) * v j (lane h d)

/-- The cotangent of the products of queries and keys, before the sum over the lanes. -/
def ds (q g : Fin 256 → EReal) (k v : Fin 256 → Fin 256 → EReal) (h : Fin 4) (j : Fin 256) : EReal :=
  dsKernel (score q k h) (dprob g v h) j * scale

/-- The gradient of a query row. -/
def dq (q g : Fin 256 → EReal) (k v : Fin 256 → Fin 256 → EReal) (c : Fin 256) : EReal :=
  ∑ j, ds q g k v (head c) j * k j c

/-- The gradient of the memory's keys, over `n` query rows. -/
def dk {n : ℕ} (q g : Fin n → Fin 256 → EReal) (k v : Fin 256 → Fin 256 → EReal) (j c : Fin 256) : EReal :=
  ∑ i, ds (q i) (g i) k v (head c) j * q i c

/-- The gradient of the memory's values, over `n` query rows. -/
def dv {n : ℕ} (q g : Fin n → Fin 256 → EReal) (k : Fin 256 → Fin 256 → EReal) (j c : Fin 256) : EReal :=
  ∑ i, prob (score (q i) k (head c)) j * g i c

/-- Scores of real queries against real keys are real. -/
theorem score_real (q : Fin 256 → EReal) (k : Fin 256 → Fin 256 → EReal) (hq : ∀ c, ∃ r : ℝ, q c = r)
    (hk : ∀ j c, ∃ r : ℝ, k j c = r) (h : Fin 4) (j : Fin 256) : ∃ r : ℝ, score q k h j = r := by
  choose a ha using hq
  choose b hb using hk
  obtain ⟨s, hs⟩ := scale_real
  refine ⟨(∑ d : Fin 64, a (lane h d) * b j (lane h d)) * s, ?_⟩
  unfold score
  rw [hs, EReal.coe_mul, ← sum_coe]
  congr 1
  refine Finset.sum_congr rfl fun d _ => ?_
  rw [ha, hb, EReal.coe_mul]

end Cert.MemSpec

end
-- ==== Proof.MemPay.lean ====
/-
  What one grid point of the memory attention's backward kernel computes from its block of 512 rows, read element by
  element: the heads stacked under a mask, the softmax, its gradient, and the three products.
-/
module

public import proofs.«01_k».proof.Proof.Gen.MemBwdIdeal.Value
public import proofs.«01_k».proof.Proof.MemSpec
public import Idealize.ShloMosaic.Lib.Pointwise

@[expose] public section

set_option maxRecDepth 16384

noncomputable section

namespace Cert.MemBwdIdeal.Pay

open Idealize.ShloMosaic Cert.MemBwdIdeal Cert.MemBwdIdeal.Gen Cert.Softmax Cert.MemSpec

/-- Row `i` of a block or array of 256 columns. -/
abbrev row {n : ℕ} (x : (⟨2, ![n, 256]⟩ : Shape).Idx → EReal) (i : Fin n) (c : Fin 256) : EReal := x (ix2 i c)

theorem headBit0 : ∀ c : Fin 256, (IntOp.cmpi .eq (IntOp.shrui ArithUnit.vector (BitVec.ofNat 32 c.val) 6#32) 0#32 = (1 : BitVec 1)) ↔ c.val / 64 = 0 := by decide +kernel
theorem headBit1 : ∀ c : Fin 256, (IntOp.cmpi .eq (IntOp.shrui ArithUnit.vector (BitVec.ofNat 32 c.val) 6#32) 1#32 = (1 : BitVec 1)) ↔ c.val / 64 = 1 := by decide +kernel
theorem headBit2 : ∀ c : Fin 256, (IntOp.cmpi .eq (IntOp.shrui ArithUnit.vector (BitVec.ofNat 32 c.val) 6#32) 2#32 = (1 : BitVec 1)) ↔ c.val / 64 = 2 := by decide +kernel
theorem headBit3 : ∀ c : Fin 256, (IntOp.cmpi .eq (IntOp.shrui ArithUnit.vector (BitVec.ofNat 32 c.val) 6#32) 3#32 = (1 : BitVec 1)) ↔ c.val / 64 = 3 := by decide +kernel

/-- The stacked, masked heads of a block at a row of the stack and a lane. -/
def stacked (x : (⟨2, ![512, 256]⟩ : Shape).Idx → EReal) (r : Fin 2048) (c : Fin 256) : EReal :=
  if c.val / 64 = r.val / 512 then x (ix2 ⟨r.val % 512, Nat.mod_lt _ (by decide)⟩ c) else 0

/-- The stacked queries. -/
theorem qs_apply (q : FVec Ideal S512x256 .bf16) (r : Fin 2048) (c : Fin 256) : k0_pay4 (F := Ideal) q (ix2 r c) = stacked q r c := by
  pointwise [k0_pay4]
  simp only [Scalar.select, headBit0, headBit1, headBit2, headBit3]
  unfold stacked
  have hr := r.isLt
  rcases (by omega : r.val / 512 = 0 ∨ r.val / 512 = 1 ∨ r.val / 512 = 2 ∨ r.val / 512 = 3) with e | e | e | e
  · rw [dif_pos (by omega)]
    exact if_congr (by rw [e]) (congrArg q (congrArg (ix2 · c) (Fin.ext (by show r.val = r.val % 512; omega)))) rfl
  · rw [dif_neg (by omega), dif_pos (by omega)]
    exact if_congr (by rw [e]) (congrArg q (congrArg (ix2 · c) (Fin.ext (by show r.val - 512 = r.val % 512; omega)))) rfl
  · rw [dif_neg (by omega), dif_neg (by omega), dif_pos (by omega)]
    exact if_congr (by rw [e]) (congrArg q (congrArg (ix2 · c) (Fin.ext (by show r.val - 512 - 512 = r.val % 512; omega)))) rfl
  · rw [dif_neg (by omega), dif_neg (by omega), dif_neg (by omega)]
    exact if_congr (by rw [e]) (congrArg q (congrArg (ix2 · c) (Fin.ext (by show r.val - 512 - 512 - 512 = r.val % 512; omega)))) rfl

/-- The stacked cotangents. -/
theorem dos_apply (g : FVec Ideal S512x256 .f32) (r : Fin 2048) (c : Fin 256) :
    k0_pay9 (F := Ideal) g k0_pay5 (k0_pay6 g) (k0_pay7 g) (k0_pay8 g) (ix2 r c) = stacked g r c := by
  pointwise [k0_pay9, k0_pay8, k0_pay7, k0_pay6, k0_pay5]
  simp only [Scalar.select, headBit0, headBit1, headBit2, headBit3]
  unfold stacked
  have hr := r.isLt
  rcases (by omega : r.val / 512 = 0 ∨ r.val / 512 = 1 ∨ r.val / 512 = 2 ∨ r.val / 512 = 3) with e | e | e | e
  · rw [dif_pos (by omega)]
    exact if_congr (by rw [e]) (congrArg g (congrArg (ix2 · c) (Fin.ext (by show r.val = r.val % 512; omega)))) rfl
  · rw [dif_neg (by omega), dif_pos (by omega)]
    exact if_congr (by rw [e]) (congrArg g (congrArg (ix2 · c) (Fin.ext (by show r.val - 512 = r.val % 512; omega)))) rfl
  · rw [dif_neg (by omega), dif_neg (by omega), dif_pos (by omega)]
    exact if_congr (by rw [e]) (congrArg g (congrArg (ix2 · c) (Fin.ext (by show r.val - 512 - 512 = r.val % 512; omega)))) rfl
  · rw [dif_neg (by omega), dif_neg (by omega), dif_neg (by omega)]
    exact if_congr (by rw [e]) (congrArg g (congrArg (ix2 · c) (Fin.ext (by show r.val - 512 - 512 - 512 = r.val % 512; omega)))) rfl

/-- Row `i` of head `h` in the stack. -/
def st (h : Fin 4) (i : Fin 512) : Fin 2048 := ⟨512 * h.val + i.val, by omega⟩

theorem stacked_st (x : (⟨2, ![512, 256]⟩ : Shape).Idx → EReal) (h : Fin 4) (i : Fin 512) (c : Fin 256) :
    stacked x (st h i) c = if c.val / 64 = h.val then x (ix2 i c) else 0 := by
  unfold stacked
  have e1 : (st h i).val / 512 = h.val := by show (512 * h.val + i.val) / 512 = _; omega
  have e2 : (⟨(st h i).val % 512, Nat.mod_lt _ (by decide)⟩ : Fin 512) = i := Fin.ext (by show (512 * h.val + i.val) % 512 = _; omega)
  rw [e1, e2]

/-- A product with a stacked row keeps one head's lanes. -/
theorem sum_lanes (x : (⟨2, ![512, 256]⟩ : Shape).Idx → EReal) (h : Fin 4) (i : Fin 512) (f : Fin 256 → EReal) :
    ∑ c : Fin 256, stacked x (st h i) c * f c = ∑ d : Fin 64, row x i (lane h d) * f (lane h d) := by
  rw [sum_masked 4 64 256 rfl h _ fun c hc => by rw [stacked_st, if_neg hc, zero_mul]]
  refine Finset.sum_congr rfl fun d _ => ?_
  show stacked x (st h i) (lane h d) * f (lane h d) = _
  rw [stacked_st, if_pos (by show (64 * h.val + d.val) / 64 = h.val; omega)]

/-- A product down the stack keeps the rows of the lane's head. -/
theorem sum_rows (x : (⟨2, ![512, 256]⟩ : Shape).Idx → EReal) (c : Fin 256) (f : Fin 2048 → EReal) :
    ∑ r : Fin 2048, f r * stacked x r c = ∑ i : Fin 512, f (st (head c) i) * row x i c := by
  rw [sum_masked 4 512 2048 rfl (head c) _ fun r hr => by
    unfold stacked; rw [if_neg fun e => hr e.symm, mul_zero]]
  refine Finset.sum_congr rfl fun i _ => ?_
  show f (st (head c) i) * stacked x (st (head c) i) c = _
  rw [stacked_st, if_pos (show c.val / 64 = (head c).val from rfl)]

theorem ofBits_bot : Ideal.ofBits .f32 0xFF800000#32 = ⊥ := by simp [Ideal.ofBits, Ideal.ieee]

/-- The softmax of the stacked scores. -/
theorem p_apply (q : FVec Ideal S512x256 .bf16) (k : FVec Ideal S256x256 .bf16) (h : Fin 4) (i : Fin 512) (j : Fin 256) :
    k0_pay10 (F := Ideal) (k0_pay4 q) k (ix2 (st h i) j) = prob (score (row q i) (row k) h) j := by
  pointwise [k0_pay10]
  simp only [qs_apply, ofBits_bot]
  have e : ∀ j : Fin 256, (∑ x, stacked q (st h i) x * k (ix2 j x)) * Ideal.ofBits .f32 0x3E000000#32 = score (row q i) (row k) h j := fun j => by
    rw [sum_lanes q h i fun c => k (ix2 j c)]; rfl
  simp only [e]
  rfl

/-- The gradient of the stacked scores. -/
theorem ds_apply (q : FVec Ideal S512x256 .bf16) (g : FVec Ideal S512x256 .f32) (k v : FVec Ideal S256x256 .bf16) (h : Fin 4) (i : Fin 512) (j : Fin 256) :
    k0_pay13 (F := Ideal) (k0_pay4 q) g k0_pay5 (k0_pay6 g) (k0_pay7 g) (k0_pay8 g) k v (ix2 (st h i) j) = ds (row q i) (row g i) (row k) (row v) h j := by
  pointwise [k0_pay13]
  simp only [dos_apply, p_apply]
  have e : ∀ j : Fin 256, (∑ x, stacked g (st h i) x * v (ix2 j x)) = dprob (row g i) (row v) h j := fun j => by
    rw [sum_lanes g h i fun c => v (ix2 j c)]; rfl
  simp only [e]
  rfl

/-- Of four parts, each masked to its head's lanes, a lane keeps its own head's. -/
theorem pick_head (c : Fin 256) (A : Fin 4 → EReal) :
    Scalar.select (IntOp.cmpi .eq (IntOp.shrui ArithUnit.vector (BitVec.ofNat 32 c.val) 6#32) 0#32) (A 0) 0
      + Scalar.select (IntOp.cmpi .eq (IntOp.shrui ArithUnit.vector (BitVec.ofNat 32 c.val) 6#32) 1#32) (A 1) 0
      + Scalar.select (IntOp.cmpi .eq (IntOp.shrui ArithUnit.vector (BitVec.ofNat 32 c.val) 6#32) 2#32) (A 2) 0
      + Scalar.select (IntOp.cmpi .eq (IntOp.shrui ArithUnit.vector (BitVec.ofNat 32 c.val) 6#32) 3#32) (A 3) 0 = A (head c) := by
  simp only [Scalar.select, headBit0, headBit1, headBit2, headBit3]
  rcases (by omega : c.val / 64 = 0 ∨ c.val / 64 = 1 ∨ c.val / 64 = 2 ∨ c.val / 64 = 3) with e | e | e | e <;>
    simp only [e, if_true, if_false, zero_add, add_zero, reduceIte, Nat.reduceEqDiff, OfNat.ofNat_ne_zero, OfNat.zero_ne_ofNat, one_ne_zero, zero_ne_one]
  · exact congrArg A (Fin.ext e.symm)
  · exact congrArg A (Fin.ext e.symm)
  · exact congrArg A (Fin.ext e.symm)
  · exact congrArg A (Fin.ext e.symm)

/-- The block of query gradients. -/
theorem dq_apply (q : FVec Ideal S512x256 .bf16) (g : FVec Ideal S512x256 .f32) (k v : FVec Ideal S256x256 .bf16) (i : Fin 512) (c : Fin 256) :
    k0_pay1 (F := Ideal) (k0_pay13 (k0_pay4 q) g k0_pay5 (k0_pay6 g) (k0_pay7 g) (k0_pay8 g) k v) k (constant S2048x256 .f32 0x00000000#32) (ix2 i c)
      = dq (row q i) (row g i) (row k) (row v) c := by
  generalize hD : k0_pay13 (F := Ideal) (k0_pay4 q) g k0_pay5 (k0_pay6 g) (k0_pay7 g) (k0_pay8 g) k v = D
  have hd : ∀ (h : Fin 4) (j : Fin 256), D (ix2 (st h i) j) = ds (row q i) (row g i) (row k) (row v) h j := fun h j => by rw [← hD, ds_apply]
  have pick := pick_head c fun h => ∑ x, D (ix2 (st h i) x) * k (ix2 x c)
  simp only [hd] at pick
  pointwise [k0_pay1]
  refine Eq.trans ?_ pick
  simp only [← hd]
  rw [(Fin.ext (by show 512 * 0 + i.val = i.val; omega) : st 0 i = ⟨i.val, by omega⟩)]
  rfl

/-- A block's part of the key gradients. -/
theorem dk_apply (q : FVec Ideal S512x256 .bf16) (g : FVec Ideal S512x256 .f32) (k v : FVec Ideal S256x256 .bf16) (j c : Fin 256) :
    k0_pay2 (F := Ideal) (k0_pay4 q) (k0_pay13 (k0_pay4 q) g k0_pay5 (k0_pay6 g) (k0_pay7 g) (k0_pay8 g) k v) (ix2 j c)
      = dk (row q) (row g) (row k) (row v) j c := by
  pointwise [k0_pay2]
  simp only [qs_apply]
  rw [sum_rows q c fun r => k0_pay13 (F := Ideal) (k0_pay4 q) g k0_pay5 (k0_pay6 g) (k0_pay7 g) (k0_pay8 g) k v (ix2 r j)]
  simp only [ds_apply]
  rfl

/-- A block's part of the value gradients. -/
theorem dv_apply (q : FVec Ideal S512x256 .bf16) (g : FVec Ideal S512x256 .f32) (k : FVec Ideal S256x256 .bf16) (j c : Fin 256) :
    k0_pay11 (F := Ideal) (k0_pay4 q) g k0_pay5 (k0_pay6 g) (k0_pay7 g) (k0_pay8 g) k (ix2 j c)
      = dv (row q) (row g) (row k) j c := by
  pointwise [k0_pay11]
  simp only [dos_apply]
  rw [sum_rows g c fun r => k0_pay10 (F := Ideal) (k0_pay4 q) k (ix2 r j)]
  simp only [p_apply]
  rfl

end Cert.MemBwdIdeal.Pay

end
-- ==== Proof.MemValue.lean ====
/-
  What the memory attention's backward kernel leaves in its three arrays: the query gradients block by block, and the key
  and value gradients added up over the four blocks of rows.
-/
module

public import proofs.«01_k».proof.Proof.MemPay
public import Idealize.ShloMosaic.Lib.Pipeline.Value
public import Idealize.ShloMosaic.Lib.Tactic

@[expose] public section

set_option maxRecDepth 16384

noncomputable section

namespace Cert.MemBwdIdeal.Pay

open Idealize.ShloMosaic Idealize.ShloMosaic.TcCoe Idealize.SL.Sem Cert.MemBwdIdeal Cert.MemBwdIdeal.Gen Cert.Softmax Cert.MemSpec
open Idealize.ShloMosaic.Pipeline (Dat)

section
variable {F : FTy → Type} [FloatOps F]

theorem hz : (![0, 0] : Fin 2 → Nat) = fun _ => 0 := funext fun a => by fin_cases a <;> rfl

/-- The score gradients of a block. -/
abbrev DS (x0 : Vec F S512x256 .f32) (x1 : Vec F S512x256 .bf16) (x2 x3 : Vec F S256x256 .bf16) : FVec F S2048x256 .bf16 :=
  k0_pay13 (k0_pay4 x1) x0 k0_pay5 (k0_pay6 x0) (k0_pay7 x0) (k0_pay8 x0) x2 x3

/-- The query gradients of a block. -/
abbrev DQ (x0 : Vec F S512x256 .f32) (x1 : Vec F S512x256 .bf16) (x2 x3 : Vec F S256x256 .bf16) : FVec F S512x256 .f32 :=
  k0_pay1 (DS x0 x1 x2 x3) x2 (constant S2048x256 .f32 0x00000000#32)

/-- A block's part of the key gradients. -/
abbrev DK (x0 : Vec F S512x256 .f32) (x1 : Vec F S512x256 .bf16) (x2 x3 : Vec F S256x256 .bf16) : FVec F S256x256 .f32 :=
  k0_pay2 (k0_pay4 x1) (DS x0 x1 x2 x3)

/-- A block's part of the value gradients. -/
abbrev DV (x0 : Vec F S512x256 .f32) (x1 : Vec F S512x256 .bf16) (x2 : Vec F S256x256 .bf16) : FVec F S256x256 .f32 :=
  k0_pay11 (k0_pay4 x1) x0 k0_pay5 (k0_pay6 x0) (k0_pay7 x0) (k0_pay8 x0) x2

section
variable (c : Dev nD) (i : grid0.Coords) (arg1 : Memref sig .tc .vmem S512x256 .f32) (h1 : arg1.IsWhole) (arg2 : Memref sig .tc .vmem S512x256 .bf16) (h2 : arg2.IsWhole) (arg3 : Memref sig .tc .vmem S256x256 .bf16) (h3 : arg3.IsWhole) (arg4 : Memref sig .tc .vmem S256x256 .bf16) (h4 : arg4.IsWhole) (arg5 : Memref sig .tc .vmem S512x256 .f32) (h5 : arg5.IsWhole) (arg6 : Memref sig .tc .vmem S256x256 .f32) (h6 : arg6.IsWhole) (arg7 : Memref sig .tc .vmem S256x256 .f32) (h7 : arg7.IsWhole)

/-- What case A leaves in the block of the query gradients. -/
theorem out_A_4 (hc0 : cond0_0 i) (hc1 : ¬cond0_1 i) (hc2 : cond0_2 i) (hc3 : ¬cond0_3 i) (x0 : Vec F S512x256 .f32) (x1 : Vec F S512x256 .bf16) (x2 : Vec F S256x256 .bf16) (x3 : Vec F S256x256 .bf16) :
    out0_A_4 c i arg1 h1 arg2 h2 arg3 h3 arg4 h4 arg5 h5 arg6 h6 arg7 h7 hc0 hc1 hc2 hc3 x0 x1 x2 x3 = DQ x0 x1 x2 x3 := by
  unfold out0_A_4
  rw [View.read_writes_eq_canon _ _ _ (cover0_A_4 c i arg1 h1 arg2 h2 arg3 h3 arg4 h4 arg5 h5 arg6 h6 arg7 h7 hc0 hc1 hc2 hc3 x0 x1 x2 x3)]
  unfold kernelRun0_A
  dsimp only
  rw [View.canon_unit_zero hz]
  try sl_unfold_words
  skip
  simp only [View.readAt_eq_ld, h1.read_unread, h2.read_unread, h3.read_unread, h4.read_unread, h6.read_unread, h7.read_unread, View.ld_unit_zero (S := S512x256) hz, View.ld_unit_zero (S := S256x256) hz, shapeCast_self]
  try rfl

/-- What case A leaves in the block of the key gradients. -/
theorem out_A_5 (hc0 : cond0_0 i) (hc1 : ¬cond0_1 i) (hc2 : cond0_2 i) (hc3 : ¬cond0_3 i) (x0 : Vec F S512x256 .f32) (x1 : Vec F S512x256 .bf16) (x2 : Vec F S256x256 .bf16) (x3 : Vec F S256x256 .bf16) :
    out0_A_5 c i arg1 h1 arg2 h2 arg3 h3 arg4 h4 arg5 h5 arg6 h6 arg7 h7 hc0 hc1 hc2 hc3 x0 x1 x2 x3 = DK x0 x1 x2 x3 := by
  unfold out0_A_5
  rw [View.read_writes_eq_canon _ _ _ (cover0_A_5 c i arg1 h1 arg2 h2 arg3 h3 arg4 h4 arg5 h5 arg6 h6 arg7 h7 hc0 hc1 hc2 hc3 x0 x1 x2 x3)]
  unfold kernelRun0_A
  dsimp only
  rw [View.canon_unit_zero hz]
  try sl_unfold_words
  skip
  simp only [View.readAt_eq_ld, h1.read_unread, h2.read_unread, h3.read_unread, h4.read_unread, h6.read_unread, h7.read_unread, View.ld_unit_zero (S := S512x256) hz, View.ld_unit_zero (S := S256x256) hz, shapeCast_self]
  try rfl

/-- What case A leaves in the block of the value gradients. -/
theorem out_A_6 (hc0 : cond0_0 i) (hc1 : ¬cond0_1 i) (hc2 : cond0_2 i) (hc3 : ¬cond0_3 i) (x0 : Vec F S512x256 .f32) (x1 : Vec F S512x256 .bf16) (x2 : Vec F S256x256 .bf16) (x3 : Vec F S256x256 .bf16) :
    out0_A_6 c i arg1 h1 arg2 h2 arg3 h3 arg4 h4 arg5 h5 arg6 h6 arg7 h7 hc0 hc1 hc2 hc3 x0 x1 x2 x3 = DV x0 x1 x2 := by
  unfold out0_A_6
  rw [View.read_writes_eq_canon _ _ _ (cover0_A_6 c i arg1 h1 arg2 h2 arg3 h3 arg4 h4 arg5 h5 arg6 h6 arg7 h7 hc0 hc1 hc2 hc3 x0 x1 x2 x3)]
  unfold kernelRun0_A
  dsimp only
  rw [View.canon_unit_zero hz]
  try sl_unfold_words
  skip
  simp only [View.readAt_eq_ld, h1.read_unread, h2.read_unread, h3.read_unread, h4.read_unread, h6.read_unread, h7.read_unread, View.ld_unit_zero (S := S512x256) hz, View.ld_unit_zero (S := S256x256) hz, shapeCast_self]
  try rfl

/-- What case B leaves in the block of the query gradients. -/
theorem out_B_4 (hc0 : ¬cond0_0 i) (hc1 : cond0_1 i) (hc2 : ¬cond0_2 i) (hc3 : cond0_3 i) (x0 : Vec F S512x256 .f32) (x1 : Vec F S512x256 .bf16) (x2 : Vec F S256x256 .bf16) (x3 : Vec F S256x256 .bf16) (y5 y6 : Vec F S256x256 .f32) :
    out0_B_4 c i arg1 h1 arg2 h2 arg3 h3 arg4 h4 arg5 h5 arg6 h6 arg7 h7 hc0 hc1 hc2 hc3 x0 x1 x2 x3 y5 y6 = DQ x0 x1 x2 x3 := by
  unfold out0_B_4
  rw [View.read_writes_eq_canon _ _ _ (cover0_B_4 c i arg1 h1 arg2 h2 arg3 h3 arg4 h4 arg5 h5 arg6 h6 arg7 h7 hc0 hc1 hc2 hc3 x0 x1 x2 x3 y5 y6)]
  unfold kernelRun0_B
  dsimp only
  rw [View.canon_unit_zero hz]
  try sl_unfold_words
  skip
  simp only [View.readAt_eq_ld, h1.read_unread, h2.read_unread, h3.read_unread, h4.read_unread, h6.read_unread, h7.read_unread, View.ld_unit_zero (S := S512x256) hz, View.ld_unit_zero (S := S256x256) hz, shapeCast_self]
  try rfl

/-- What case B leaves in the block of the key gradients. -/
theorem out_B_5 (hc0 : ¬cond0_0 i) (hc1 : cond0_1 i) (hc2 : ¬cond0_2 i) (hc3 : cond0_3 i) (x0 : Vec F S512x256 .f32) (x1 : Vec F S512x256 .bf16) (x2 : Vec F S256x256 .bf16) (x3 : Vec F S256x256 .bf16) (y5 y6 : Vec F S256x256 .f32) :
    out0_B_5 c i arg1 h1 arg2 h2 arg3 h3 arg4 h4 arg5 h5 arg6 h6 arg7 h7 hc0 hc1 hc2 hc3 x0 x1 x2 x3 y5 y6 = addf y5 (DK x0 x1 x2 x3) := by
  unfold out0_B_5
  rw [View.read_writes_eq_canon _ _ _ (cover0_B_5 c i arg1 h1 arg2 h2 arg3 h3 arg4 h4 arg5 h5 arg6 h6 arg7 h7 hc0 hc1 hc2 hc3 x0 x1 x2 x3 y5 y6)]
  unfold kernelRun0_B
  dsimp only
  rw [View.canon_unit_zero hz]
  unfold k0_pay3
  try sl_unfold_words
  simp only [View.readAt_eq_ld, h1.read_unread, h2.read_unread, h3.read_unread, h4.read_unread, h6.read_unread, h7.read_unread, View.ld_unit_zero (S := S512x256) hz, View.ld_unit_zero (S := S256x256) hz, shapeCast_self]
  try rfl

/-- What case B leaves in the block of the value gradients. -/
theorem out_B_6 (hc0 : ¬cond0_0 i) (hc1 : cond0_1 i) (hc2 : ¬cond0_2 i) (hc3 : cond0_3 i) (x0 : Vec F S512x256 .f32) (x1 : Vec F S512x256 .bf16) (x2 : Vec F S256x256 .bf16) (x3 : Vec F S256x256 .bf16) (y5 y6 : Vec F S256x256 .f32) :
    out0_B_6 c i arg1 h1 arg2 h2 arg3 h3 arg4 h4 arg5 h5 arg6 h6 arg7 h7 hc0 hc1 hc2 hc3 x0 x1 x2 x3 y5 y6 = addf y6 (DV x0 x1 x2) := by
  unfold out0_B_6
  rw [View.read_writes_eq_canon _ _ _ (cover0_B_6 c i arg1 h1 arg2 h2 arg3 h3 arg4 h4 arg5 h5 arg6 h6 arg7 h7 hc0 hc1 hc2 hc3 x0 x1 x2 x3 y5 y6)]
  unfold kernelRun0_B
  dsimp only
  rw [View.canon_unit_zero hz]
  unfold k0_pay12
  try sl_unfold_words
  simp only [View.readAt_eq_ld, h1.read_unread, h2.read_unread, h3.read_unread, h4.read_unread, h6.read_unread, h7.read_unread, View.ld_unit_zero (S := S512x256) hz, View.ld_unit_zero (S := S256x256) hz, shapeCast_self]
  try rfl

end

end

variable (m : (ℓ : Loc nD τ sig) → Buf (Elt Ideal) ℓ) (ρ : Dev nD → PrngReg)

/-- The cotangent's last quarter of columns, the branch's own. -/
def aG (c : Dev nD) (i : Fin 2048) (l : Fin 256) : EReal := m ((c : Thread nD τ).loc main_arg0) (ix2 i ⟨768 + l.val, by omega⟩)
/-- The queries. -/
def aQ (c : Dev nD) (i : Fin 2048) (l : Fin 256) : EReal := m ((c : Thread nD τ).loc main_arg1) (ix2 i l)
/-- The memory's keys. -/
def aK (c : Dev nD) (i : Fin 256) (l : Fin 256) : EReal := m ((c : Thread nD τ).loc main_arg2) (ix2 i l)
/-- The memory's values. -/
def aV (c : Dev nD) (i : Fin 256) (l : Fin 256) : EReal := m ((c : Thread nD τ).loc main_arg3) (ix2 i l)

/-- Row `i` of block `t`. -/
def tr (t : Fin cfg0.N) (i : Fin 512) : Fin 2048 := ⟨512 * t.val + i.val, by have := t.isLt; have : cfg0.N = 4 := N_0; omega⟩

theorem ix0 : ∀ t : Fin grid0.N, win0_0.index t 0 = t.val ∧ win0_0.index t 1 = 3 := by decide +kernel
theorem ix1 : ∀ t : Fin grid0.N, win0_1.index t 0 = t.val ∧ win0_1.index t 1 = 0 := by decide +kernel
theorem ix2' : ∀ t : Fin grid0.N, win0_2.index t 0 = 0 ∧ win0_2.index t 1 = 0 := by decide +kernel
theorem ix3' : ∀ t : Fin grid0.N, win0_3.index t 0 = 0 ∧ win0_3.index t 1 = 0 := by decide +kernel
theorem ix4 : ∀ t : Fin grid0.N, win0_4.index t 0 = t.val ∧ win0_4.index t 1 = 0 := by decide +kernel
theorem ix5 : ∀ t : Fin grid0.N, win0_5.index t 0 = 0 ∧ win0_5.index t 1 = 0 := by decide +kernel
theorem ix6 : ∀ t : Fin grid0.N, win0_6.index t 0 = 0 ∧ win0_6.index t 1 = 0 := by decide +kernel

/-- Block `t` of the cotangent. -/
theorem blk0 (c : Dev nD) (t : Fin cfg0.N) : row (iblk m c 0 t) = fun i => aG m c (tr t i) := by
  funext i l
  show iblk m c 0 t (ix2 i l) = _
  unfold iblk aG
  rw [View.read_apply]
  show V m c main_arg0 _ = m (c.tc.loc main_arg0) _
  unfold V
  congr 1
  funext a
  apply Fin.ext
  match a with
  | ⟨0, _⟩ => show win0_0.index t 0 * 512 + 1 * i.val = 512 * t.val + i.val; rw [(ix0 t).1]; omega
  | ⟨1, _⟩ => show win0_0.index t 1 * 256 + 1 * l.val = 768 + l.val; rw [(ix0 t).2]; omega

/-- Block `t` of the queries. -/
theorem blk1 (c : Dev nD) (t : Fin cfg0.N) : row (iblk m c 1 t) = fun i => aQ m c (tr t i) := by
  funext i l
  show iblk m c 1 t (ix2 i l) = _
  unfold iblk aQ
  rw [View.read_apply]
  show V m c main_arg1 _ = m (c.tc.loc main_arg1) _
  unfold V
  congr 1
  funext a
  apply Fin.ext
  match a with
  | ⟨0, _⟩ => show win0_1.index t 0 * 512 + 1 * i.val = 512 * t.val + i.val; rw [(ix1 t).1]; omega
  | ⟨1, _⟩ => show win0_1.index t 1 * 256 + 1 * l.val = l.val; rw [(ix1 t).2]; omega

/-- Each block of the keys is all of them. -/
theorem blk2 (c : Dev nD) (t : Fin cfg0.N) : row (iblk m c 2 t) = aK m c := by
  funext i l
  show iblk m c 2 t (ix2 i l) = _
  unfold iblk aK
  rw [View.read_apply]
  show V m c main_arg2 _ = m (c.tc.loc main_arg2) _
  unfold V
  congr 1
  funext a
  apply Fin.ext
  match a with
  | ⟨0, _⟩ => show win0_2.index t 0 * 256 + 1 * i.val = i.val; rw [(ix2' t).1]; omega
  | ⟨1, _⟩ => show win0_2.index t 1 * 256 + 1 * l.val = l.val; rw [(ix2' t).2]; omega

/-- Each block of the values is all of them. -/
theorem blk3 (c : Dev nD) (t : Fin cfg0.N) : row (iblk m c 3 t) = aV m c := by
  funext i l
  show iblk m c 3 t (ix2 i l) = _
  unfold iblk aV
  rw [View.read_apply]
  show V m c main_arg3 _ = m (c.tc.loc main_arg3) _
  unfold V
  congr 1
  funext a
  apply Fin.ext
  match a with
  | ⟨0, _⟩ => show win0_3.index t 0 * 256 + 1 * i.val = i.val; rw [(ix3' t).1]; omega
  | ⟨1, _⟩ => show win0_3.index t 1 * 256 + 1 * l.val = l.val; rw [(ix3' t).2]; omega

/-- The query gradients a point leaves. -/
theorem out4 (c : Dev nD) (t : Fin cfg0.N) (i : Fin 512) (l : Fin 256) :
    (outsAt0 m c t.val t.isLt).1 (ix2 i l) = dq (aQ m c (tr t i)) (aG m c (tr t i)) (aK m c) (aV m c) l := by
  have hN : cfg0.N = 4 := N_0
  have e : DQ (F := Ideal) (iblk m c 0 t) (iblk m c 1 t) (iblk m c 2 t) (iblk m c 3 t) (ix2 i l) = dq (aQ m c (tr t i)) (aG m c (tr t i)) (aK m c) (aV m c) l := by
    refine (dq_apply _ _ _ _ i l).trans ?_
    rw [blk0 m c t, blk1 m c t, blk2 m c t, blk3 m c t]
  by_cases h : t.val = 0
  · rw [outsAt0_A m c t (by omega) (by omega) (by omega) (by omega)]
    dsimp only
    rw [out_A_4]; exact e
  · have := t.isLt
    rw [outsAt0_B m c t (by omega) (by omega) (by omega) (by omega)]
    dsimp only
    rw [out_B_4]; exact e

/-- One point's part of the key gradients. -/
theorem part5 (c : Dev nD) (t : Fin cfg0.N) (j l : Fin 256) :
    DK (F := Ideal) (iblk m c 0 t) (iblk m c 1 t) (iblk m c 2 t) (iblk m c 3 t) (ix2 j l)
      = dk (fun i => aQ m c (tr t i)) (fun i => aG m c (tr t i)) (aK m c) (aV m c) j l := by
  refine (dk_apply _ _ _ _ j l).trans ?_
  rw [blk0 m c t, blk1 m c t, blk2 m c t, blk3 m c t]

/-- One point's part of the value gradients. -/
theorem part6 (c : Dev nD) (t : Fin cfg0.N) (j l : Fin 256) :
    DV (F := Ideal) (iblk m c 0 t) (iblk m c 1 t) (iblk m c 2 t) (ix2 j l)
      = dv (fun i => aQ m c (tr t i)) (fun i => aG m c (tr t i)) (aK m c) j l := by
  refine (dv_apply _ _ _ j l).trans ?_
  rw [blk0 m c t, blk1 m c t, blk2 m c t]

/-- The key gradients after a point: the parts of the points so far. -/
theorem out5 (c : Dev nD) (j l : Fin 256) : ∀ (n : ℕ) (h : n < cfg0.N), (outsAt0 m c n h).2.1 (ix2 j l)
    = ∑ s : Fin (n + 1), dk (fun i => aQ m c (tr ⟨s.val, by omega⟩ i)) (fun i => aG m c (tr ⟨s.val, by omega⟩ i)) (aK m c) (aV m c) j l
  | 0, h => by
    rw [outsAt0_A m c ⟨0, h⟩ rfl (Nat.not_succ_le_zero 0) rfl (Nat.not_succ_le_zero 0)]
    dsimp only
    rw [out_A_5, Fin.sum_univ_one]
    exact part5 m c ⟨0, h⟩ j l
  | n + 1, h => by
    have hN : cfg0.N = 4 := N_0
    have hB : ¬(n + 1) % 4 = 0 := by omega
    rw [outsAt0_B m c ⟨n + 1, h⟩ hB (Nat.le_add_left 1 n) hB (Nat.le_add_left 1 n)]
    dsimp only
    rw [out_B_5, Fin.sum_univ_castSucc]
    show (outsAt0 m c n _).2.1 (ix2 j l) + _ = _
    rw [out5 c j l n]
    exact congrArg _ (part5 m c ⟨n + 1, h⟩ j l)

/-- The value gradients after a point: the parts of the points so far. -/
theorem out6 (c : Dev nD) (j l : Fin 256) : ∀ (n : ℕ) (h : n < cfg0.N), (outsAt0 m c n h).2.2 (ix2 j l)
    = ∑ s : Fin (n + 1), dv (fun i => aQ m c (tr ⟨s.val, by omega⟩ i)) (fun i => aG m c (tr ⟨s.val, by omega⟩ i)) (aK m c) j l
  | 0, h => by
    rw [outsAt0_A m c ⟨0, h⟩ rfl (Nat.not_succ_le_zero 0) rfl (Nat.not_succ_le_zero 0)]
    dsimp only
    rw [out_A_6, Fin.sum_univ_one]
    exact part6 m c ⟨0, h⟩ j l
  | n + 1, h => by
    have hN : cfg0.N = 4 := N_0
    have hB : ¬(n + 1) % 4 = 0 := by omega
    rw [outsAt0_B m c ⟨n + 1, h⟩ hB (Nat.le_add_left 1 n) hB (Nat.le_add_left 1 n)]
    dsimp only
    rw [out_B_6, Fin.sum_univ_castSucc]
    show (outsAt0 m c n _).2.2 (ix2 j l) + _ = _
    rw [out6 c j l n]
    exact congrArg _ (part6 m c ⟨n + 1, h⟩ j l)

theorem eta2 {n k : ℕ} (x : (⟨2, ![n, k]⟩ : Shape).Idx) : x = ix2 (x 0) (x 1) := funext fun a => by
  match a with
  | ⟨0, _⟩ => rfl
  | ⟨1, _⟩ => rfl

/-- All query gradients. -/
def rDq (c : Dev nD) : Buf (Elt Ideal) ((c : Thread nD τ).loc main_v0_0) := fun x : S2048x256.Idx => dq (aQ m c (x 0)) (aG m c (x 0)) (aK m c) (aV m c) (x 1)
/-- All key gradients. -/
def rDk (c : Dev nD) : Buf (Elt Ideal) ((c : Thread nD τ).loc main_v0_1) := fun x : S256x256.Idx => dk (aQ m c) (aG m c) (aK m c) (aV m c) (x 0) (x 1)
/-- All value gradients. -/
def rDv (c : Dev nD) : Buf (Elt Ideal) ((c : Thread nD τ).loc main_v0_2) := fun x : S256x256.Idx => dv (aQ m c) (aG m c) (aK m c) (x 0) (x 1)

theorem flushed4_eq (c : Dev nD) (t : Fin cfg0.N) : (dats m 0 c).flushed 4 t = ((cfg0.win 4).blk t).view.read (Elt Ideal) (rDq m c) := by
  rw [Value.flushed4]
  funext x
  rw [View.read_apply]
  obtain ⟨i, l, rfl⟩ : ∃ (i : Fin 512) (l : Fin 256), x = ix2 i l := ⟨x 0, x 1, eta2 x⟩
  refine (out4 m c t i l).trans ?_
  have e0 : tr t i = (((cfg0.win 4).blk t).view.emb (ix2 i l) : S2048x256.Idx) 0 := Fin.ext (by
    show 512 * t.val + i.val = win0_4.index t 0 * 512 + 1 * i.val; rw [(ix4 t).1]; omega)
  have e1 : l = (((cfg0.win 4).blk t).view.emb (ix2 i l) : S2048x256.Idx) 1 := Fin.ext (by
    show l.val = win0_4.index t 1 * 256 + 1 * l.val; rw [(ix4 t).2]; omega)
  exact congrArg₂ (fun r l => dq (aQ m c r) (aG m c r) (aK m c) (aV m c) l) e0 e1

/-- The array of query gradients at the end. -/
theorem final4 (c : Dev nD) : (dats m 0 c).arrAt 4 cfg0.N = rDq m c :=
  (dats m 0 c).arrAt_eq_of_cover 4 (rDq m c) (fun t _ => flushed4_eq m c t) fun i => by
    have h0 : (i 0 : Nat) < 2048 := (i 0).isLt
    have h1 : (i 1 : Nat) < 256 := (i 1).isLt
    have hN : cfg0.N = 4 := N_0
    let t : Fin cfg0.N := ⟨(i 0 : Nat) / 512, by omega⟩
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(ix4 t).1]; show (i 0 : Nat) / 512 * 512 ≤ _ ∧ _ < (i 0 : Nat) / 512 * 512 + 512; omega
    | ⟨1, _⟩ => show win0_4.index t 1 * 256 ≤ (i 1 : Nat) ∧ (i 1 : Nat) < win0_4.index t 1 * 256 + 256
                rw [(ix4 t).2]; omega

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (sum_split 4 512 2048 rfl f).symm

theorem flushed5_eq (c : Dev nD) (t : Fin cfg0.N) (hf : (cfg0.win 5).flush t = true) : (dats m 0 c).flushed 5 t = ((cfg0.win 5).blk t).view.read (Elt Ideal) (rDk m c) := by
  have hN : cfg0.N = 4 := N_0
  have h3 : t.val = 3 := by have := (flush0_5 t).mp hf; have := t.isLt; omega
  obtain ⟨n, hn⟩ := t
  obtain rfl : n = 3 := h3
  rw [Value.flushed5]
  have hz' : (fun a => win0_5.index ⟨3, hn⟩ a * main_v0_1.ty.shape.size a) = fun _ => 0 := funext fun a => by
    match a with
    | ⟨0, _⟩ => show win0_5.index ⟨3, hn⟩ 0 * _ = 0; rw [(ix5 ⟨3, hn⟩).1, Nat.zero_mul]
    | ⟨1, _⟩ => show win0_5.index ⟨3, hn⟩ 1 * _ = 0; rw [(ix5 ⟨3, hn⟩).2, Nat.zero_mul]
  refine Eq.trans ?_ (Memref.read_access_unit_zero (Elt Ideal) main_v0_1 hz' (fun a => by rw [congrFun hz' a]; simp) (rDk m c)).symm
  funext x
  obtain ⟨j, l, rfl⟩ : ∃ (j : Fin 256) (l : Fin 256), x = ix2 j l := ⟨x 0, x 1, eta2 x⟩
  refine (out5 m c j l 3 hn).trans ?_
  exact sum_points fun i => ds (aQ m c i) (aG m c i) (aK m c) (aV m c) (head l) j * aQ m c i l

/-- The array of key gradients at the end. -/
theorem final5 (c : Dev nD) : (dats m 0 c).arrAt 5 cfg0.N = rDk m c :=
  (dats m 0 c).arrAt_eq_of_cover 5 (rDk m c) (flushed5_eq m c) fun i => by
    have h0 : (i 0 : Nat) < 256 := (i 0).isLt
    have h1 : (i 1 : Nat) < 256 := (i 1).isLt
    have hN : cfg0.N = 4 := N_0
    let t : Fin cfg0.N := ⟨3, by omega⟩
    refine ⟨t, (flush0_5 t).mpr rfl, ?_⟩
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(ix5 t).1]; omega
    | ⟨1, _⟩ => show win0_5.index t 1 * 256 ≤ (i 1 : Nat) ∧ (i 1 : Nat) < win0_5.index t 1 * 256 + 256
                rw [(ix5 t).2]; omega

theorem flushed6_eq (c : Dev nD) (t : Fin cfg0.N) (hf : (cfg0.win 6).flush t = true) : (dats m 0 c).flushed 6 t = ((cfg0.win 6).blk t).view.read (Elt Ideal) (rDv m c) := by
  have hN : cfg0.N = 4 := N_0
  have h3 : t.val = 3 := by have := (flush0_6 t).mp hf; have := t.isLt; omega
  obtain ⟨n, hn⟩ := t
  obtain rfl : n = 3 := h3
  rw [Value.flushed6]
  have hz' : (fun a => win0_6.index ⟨3, hn⟩ a * main_v0_2.ty.shape.size a) = fun _ => 0 := funext fun a => by
    match a with
    | ⟨0, _⟩ => show win0_6.index ⟨3, hn⟩ 0 * _ = 0; rw [(ix6 ⟨3, hn⟩).1, Nat.zero_mul]
    | ⟨1, _⟩ => show win0_6.index ⟨3, hn⟩ 1 * _ = 0; rw [(ix6 ⟨3, hn⟩).2, Nat.zero_mul]
  refine Eq.trans ?_ (Memref.read_access_unit_zero (Elt Ideal) main_v0_2 hz' (fun a => by rw [congrFun hz' a]; simp) (rDv m c)).symm
  funext x
  obtain ⟨j, l, rfl⟩ : ∃ (j : Fin 256) (l : Fin 256), x = ix2 j l := ⟨x 0, x 1, eta2 x⟩
  refine (out6 m c j l 3 hn).trans ?_
  exact sum_points fun i => prob (score (aQ m c i) (aK m c) (head l)) j * aG m c i l

/-- The array of value gradients at the end. -/
theorem final6 (c : Dev nD) : (dats m 0 c).arrAt 6 cfg0.N = rDv m c :=
  (dats m 0 c).arrAt_eq_of_cover 6 (rDv m c) (flushed6_eq m c) fun i => by
    have h0 : (i 0 : Nat) < 256 := (i 0).isLt
    have h1 : (i 1 : Nat) < 256 := (i 1).isLt
    have hN : cfg0.N = 4 := N_0
    let t : Fin cfg0.N := ⟨3, by omega⟩
    refine ⟨t, (flush0_6 t).mpr rfl, ?_⟩
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(ix6 t).1]; omega
    | ⟨1, _⟩ => show win0_6.index t 1 * 256 ≤ (i 1 : Nat) ∧ (i 1 : Nat) < win0_6.index t 1 * 256 + 256
                rw [(ix6 t).2]; omega

end Cert.MemBwdIdeal.Pay

end
-- ==== Proof.MemRef.lean ====
/-
  The reference's gradients of the memory attention, read element by element: where the scores are real numbers, the
  quotient rule's form of the softmax's gradient is the kernel's, and the three results are the same sums.
-/
module

public import proofs.«01_k».proof.Proof.Gen.MemBwdRefIdeal.Read
public import proofs.«01_k».proof.Proof.MemSpec
public import Idealize.ShloMosaic.Lib.Pointwise
public import Idealize.ShloMosaic.Lib.IdealHost

@[expose] public section

set_option maxRecDepth 16384

noncomputable section

namespace Cert.MemBwdRefIdeal.Rd

open Idealize.ShloMosaic Cert.MemBwdRefIdeal Cert.MemBwdRefIdeal.Gen Cert.MemBwdRefIdeal.Read Cert.Softmax Cert.MemSpec

variable (x0 : (⟨S2048x1024, .f32⟩ : BufTy).Contents (Elt Ideal)) (x1 : (⟨S2048x256, .bf16⟩ : BufTy).Contents (Elt Ideal))
  (x2 x3 : (⟨S256x256, .bf16⟩ : BufTy).Contents (Elt Ideal))

/-- The branch's cotangent. -/
def G (i : Fin 2048) (l : Fin 256) : EReal := x0 (ix2 i ⟨768 + l.val, by omega⟩)
/-- The queries. -/
def Q (i : Fin 2048) (l : Fin 256) : EReal := x1 (ix2 i l)
/-- The keys or values of the memory. -/
def K (x : (⟨S256x256, .bf16⟩ : BufTy).Contents (Elt Ideal)) (i : Fin 256) (l : Fin 256) : EReal := x (ix2 i l)

/-- The queries by head. -/
theorem r5 (h : Fin 4) (s : Fin 2048) (d : Fin 64) : val_main_v5 (F := Ideal) x1 (ix4 0 h s d) = Q x1 s (lane h d) := by
  rw [val_main_v5_apply, val_main_v4_apply, val_main_v3_apply]
  refine congrArg x1 (funext fun a => Fin.ext ?_)
  match a with
  | ⟨0, _⟩ => show (((0 * 2048 + s.val) * 4 + h.val) * 64 + d.val) / 256 % 2048 = s.val; omega
  | ⟨1, _⟩ => show (((0 * 2048 + s.val) * 4 + h.val) * 64 + d.val) % 256 = 64 * h.val + d.val; omega

/-- The keys by head. -/
theorem r8 (h : Fin 4) (s : Fin 256) (d : Fin 64) : val_main_v8 (F := Ideal) x2 (ix4 0 h s d) = K x2 s (lane h d) := by
  rw [val_main_v8_apply, val_main_v7_apply, val_main_v6_apply]
  refine congrArg x2 (funext fun a => Fin.ext ?_)
  match a with
  | ⟨0, _⟩ => show (((0 * 256 + s.val) * 4 + h.val) * 64 + d.val) / 256 % 256 = s.val; omega
  | ⟨1, _⟩ => show (((0 * 256 + s.val) * 4 + h.val) * 64 + d.val) % 256 = 64 * h.val + d.val; omega

/-- The values by head. -/
theorem r11 (h : Fin 4) (s : Fin 256) (d : Fin 64) : val_main_v11 (F := Ideal) x3 (ix4 0 h s d) = K x3 s (lane h d) := by
  rw [val_main_v11_apply, val_main_v10_apply, val_main_v9_apply]
  refine congrArg x3 (funext fun a => Fin.ext ?_)
  match a with
  | ⟨0, _⟩ => show (((0 * 256 + s.val) * 4 + h.val) * 64 + d.val) / 256 % 256 = s.val; omega
  | ⟨1, _⟩ => show (((0 * 256 + s.val) * 4 + h.val) * 64 + d.val) % 256 = 64 * h.val + d.val; omega

/-- The cotangent by head. -/
theorem r50 (h : Fin 4) (s : Fin 2048) (d : Fin 64) : val_main_v50 (F := Ideal) x0 (ix4 0 h s d) = G x0 s (lane h d) := by
  rw [val_main_v50_apply, val_main_v49_apply, val_main_v48_apply, val_main_v47_apply]
  refine congrArg x0 (funext fun a => Fin.ext ?_)
  match a with
  | ⟨0, _⟩ => show (((0 * 2048 + s.val) * 4 + h.val) * 64 + d.val) / 256 % 2048 = s.val; omega
  | ⟨1, _⟩ => show 768 + (((0 * 2048 + s.val) * 4 + h.val) * 64 + d.val) % 256 = 768 + (64 * h.val + d.val); omega

/-- The scores. -/
theorem r14 (h : Fin 4) (s : Fin 2048) (j : Fin 256) : val_main_v14 (F := Ideal) x1 x2 (ix4 0 h s j) = score (Q x1 s) (K x2) h j := by
  have e : val_main_v12 (F := Ideal) x1 x2 (ix4 0 h s j) = ∑ d : Fin 64, Q x1 s (lane h d) * K x2 j (lane h d) := by
    rw [val_main_v12_apply]
    refine Finset.sum_congr rfl fun d _ => ?_
    rw [← r5 x1 h s d, ← r8 x2 h j d]
    congr 2 <;> funext a <;> match a with
    | ⟨0, _⟩ => rfl
    | ⟨1, _⟩ => rfl
    | ⟨2, _⟩ => rfl
    | ⟨3, _⟩ => rfl
  rw [val_main_v14_apply, e]
  rfl

/-- The products of the cotangent with the values. -/
theorem r53 (h : Fin 4) (s : Fin 2048) (j : Fin 256) : val_main_v53 (F := Ideal) x0 x3 (ix4 0 h s j) = dprob (G x0 s) (K x3) h j := by
  rw [val_main_v53_apply]
  refine Finset.sum_congr rfl fun d _ => ?_
  rw [← r50 x0 h s d, ← r11 x3 h j d]
  congr 2 <;> funext a <;> match a with
  | ⟨0, _⟩ => rfl
  | ⟨1, _⟩ => rfl
  | ⟨2, _⟩ => rfl
  | ⟨3, _⟩ => rfl

theorem bot_bits : Ideal.ofBits .f32 0xFF800000#32 = ⊥ := by simp [Ideal.ofBits, Ideal.ieee]

/-- The maximum of a row of scores. -/
theorem r15 (h : Fin 4) (s : Fin 2048) : val_main_v15 (F := Ideal) x1 x2 (ix3 0 h s) = rowMax (score (Q x1 s) (K x2) h) := by
  unfold val_main_v15
  rw [Host.reduce_eq_fold_single FloatOps.maximumf _ _ _ (by decide) _]
  have e : (val_main_v14 (F := Ideal) x1 x2 ∘ (by decide : S1x4x2048x256.Reduces [3] S1x4x2048).lift (ix3 0 h s)) = fun j : Fin 256 => score (Q x1 s) (K x2) h j := by
    funext j
    rw [← r14 x1 x2 h s j]
    refine congrArg (val_main_v14 (F := Ideal) x1 x2) (funext fun a => ?_)
    match a with
    | ⟨0, _⟩ => rfl
    | ⟨1, _⟩ => rfl
    | ⟨2, _⟩ => rfl
    | ⟨3, _⟩ => rfl
  rw [e]
  show Finset.univ.fold max (Ideal.ofBits .f32 0xFF800000#32) _ = _
  rw [bot_bits]
  rfl

/-- The exponentials. -/
theorem r35 (h : Fin 4) (s : Fin 2048) (j : Fin 256) : val_main_v35 (F := Ideal) x1 x2 (ix4 0 h s j) = ex (score (Q x1 s) (K x2) h) j := by
  have e : val_main_v33 (F := Ideal) x1 x2 (ix4 0 h s j) = rowMax (score (Q x1 s) (K x2) h) := by
    rw [val_main_v33_apply, val_main_v32_apply, val_main_v22_apply]
    have i : idx_main_v32 (idx_main_v33 (ix4 0 h s j)) = ix3 0 h s := funext fun a => match a with
      | ⟨0, _⟩ => rfl
      | ⟨1, _⟩ => rfl
      | ⟨2, _⟩ => rfl
    rw [i, r15]
    show max (Ideal.ofBits .f32 0xFF800000#32) _ = _
    rw [bot_bits]; exact max_eq_right bot_le
  rw [val_main_v35_apply, val_main_v34_apply, r14, e]
  rfl

/-- The sums of exponentials. -/
theorem r36 (h : Fin 4) (s : Fin 2048) : val_main_v36 (F := Ideal) x1 x2 (ix3 0 h s) = den (score (Q x1 s) (K x2) h) := by
  rw [val_main_v36_apply]
  show Ideal.ofBits .f32 0x00000000#32 + _ = _
  rw [Ideal.ofBits_zero_f32, zero_add]
  refine Finset.sum_congr rfl fun j _ => ?_
  rw [← r35 x1 x2 h s j]
  refine congrArg (val_main_v35 (F := Ideal) x1 x2) (funext fun a => ?_)
  match a with
  | ⟨0, _⟩ => rfl
  | ⟨1, _⟩ => rfl
  | ⟨2, _⟩ => rfl
  | ⟨3, _⟩ => rfl

theorem r37 (h : Fin 4) (s : Fin 2048) : val_main_v37 (F := Ideal) x1 x2 (ix4 0 h s 0) = den (score (Q x1 s) (K x2) h) := by
  rw [val_main_v37_apply, ← r36]
  refine congrArg (val_main_v36 (F := Ideal) x1 x2) (funext fun a => ?_)
  match a with
  | ⟨0, _⟩ => rfl
  | ⟨1, _⟩ => rfl
  | ⟨2, _⟩ => rfl

/-- The softmax. -/
theorem r39 (h : Fin 4) (s : Fin 2048) (j : Fin 256) : val_main_v39 (F := Ideal) x1 x2 (ix4 0 h s j) = prob (score (Q x1 s) (K x2) h) j := by
  have i : idx_main_v38 (ix4 0 h s j) = ix4 0 h s 0 := funext fun a => match a with
    | ⟨0, _⟩ => rfl
    | ⟨1, _⟩ => rfl
    | ⟨2, _⟩ => rfl
    | ⟨3, _⟩ => rfl
  rw [val_main_v39_apply, val_main_v38_apply, i, r37, r35]
  rfl

/-- The reciprocal of the squared sum. -/
theorem r54 (h : Fin 4) (s : Fin 2048) (j : Fin 256) : val_main_v54 (F := Ideal) x1 x2 (ix4 0 h s j)
    = Ideal.div 1 (den (score (Q x1 s) (K x2) h) * den (score (Q x1 s) (K x2) h)) := by
  have i : idx_main_v54 (ix4 0 h s j) = ix4 0 h s 0 := funext fun a => match a with
    | ⟨0, _⟩ => rfl
    | ⟨1, _⟩ => rfl
    | ⟨2, _⟩ => rfl
    | ⟨3, _⟩ => rfl
  rw [val_main_v54_apply, i, val_main_v42_apply, val_main_v40_apply, r37]
  show Ideal.div (Ideal.ofBits .f32 0x3F800000#32) _ = _
  rw [Ideal.ofBits_one_f32]
  rfl

/-- The quotient rule's row sum. -/
theorem r57 (h : Fin 4) (s : Fin 2048) : val_main_v57 (F := Ideal) x0 x1 x2 x3 (ix3 0 h s)
    = ∑ l, dprob (G x0 s) (K x3) h l * Ideal.div 1 (den (score (Q x1 s) (K x2) h) * den (score (Q x1 s) (K x2) h)) * ex (score (Q x1 s) (K x2) h) l := by
  rw [val_main_v57_apply]
  show Ideal.ofBits .f32 0x00000000#32 + _ = _
  rw [Ideal.ofBits_zero_f32, zero_add]
  refine Finset.sum_congr rfl fun j _ => ?_
  have i : idx_main_v57 (ix3 0 h s) j = ix4 0 h s j := funext fun a => match a with
    | ⟨0, _⟩ => rfl
    | ⟨1, _⟩ => rfl
    | ⟨2, _⟩ => rfl
    | ⟨3, _⟩ => rfl
  rw [i, val_main_v56_apply, val_main_v55_apply, r53, r54, r35]
  rfl

/-- … its negative, summed over two axes of one entry. -/
theorem r62 (h : Fin 4) (s : Fin 2048) : val_main_v62 (F := Ideal) x0 x1 x2 x3 (ix2 h s) = -(val_main_v57 (F := Ideal) x0 x1 x2 x3 (ix3 0 h s)) := by
  unfold val_main_v62
  simp only [Host.reduceAdd, Ideal.hostReduceAdd_def]
  unfold Ideal.hostReduceAdd
  have e : (Finset.univ.filter fun i : S1x4x2048x1.Idx => Shape.ReducesTo.drop reducesTo_S1x4x2048x1_S4x2048_d0_3 i = ix2 h s) = {ix4 0 h s 0} := by
    ext i
    simp only [Finset.mem_filter, Finset.mem_univ, true_and, Finset.mem_singleton]
    have v0 : (Shape.ReducesTo.drop reducesTo_S1x4x2048x1_S4x2048_d0_3 i 0 : Nat) = i 1 := Shape.ReducesTo.drop_apply_val _ i 0
    have v1 : (Shape.ReducesTo.drop reducesTo_S1x4x2048x1_S4x2048_d0_3 i 1 : Nat) = i 2 := Shape.ReducesTo.drop_apply_val _ i 1
    constructor
    · intro hi
      rw [hi] at v0 v1
      funext a
      match a with
      | ⟨0, _⟩ => exact Subsingleton.elim (α := Fin 1) _ _
      | ⟨1, _⟩ => exact Fin.ext v0.symm
      | ⟨2, _⟩ => exact Fin.ext v1.symm
      | ⟨3, _⟩ => exact Subsingleton.elim (α := Fin 1) _ _
    · intro hi
      rw [hi] at v0 v1 ⊢
      funext a
      match a with
      | ⟨0, _⟩ => exact Fin.ext v0
      | ⟨1, _⟩ => exact Fin.ext v1
  rw [e, Finset.sum_singleton]
  show Ideal.ofBits .f32 0x00000000#32 + _ = _
  rw [Ideal.ofBits_zero_f32, zero_add, val_main_v59_apply, val_main_v58_apply]
  have i : idx_main_v58 (ix4 0 h s 0) = ix3 0 h s := funext fun a => Fin.ext <| match a with
    | ⟨0, _⟩ => rfl
    | ⟨1, _⟩ => by show (((0 * 4 + h.val) * 2048 + s.val) * 1 + 0) / 2048 % 4 = h.val; omega
    | ⟨2, _⟩ => by show (((0 * 4 + h.val) * 2048 + s.val) * 1 + 0) % 2048 = s.val; omega
  rw [i]
  rfl

/-- The scores' gradient, as the quotient rule writes it. -/
theorem r66 (h : Fin 4) (s : Fin 2048) (j : Fin 256) : val_main_v66 (F := Ideal) x0 x1 x2 x3 (ix4 0 h s j)
    = dsQuotient (score (Q x1 s) (K x2) h) (dprob (G x0 s) (K x3) h) j := by
  have i : idx_main_v60 (ix4 0 h s j) = ix4 0 h s 0 := funext fun a => match a with
    | ⟨0, _⟩ => rfl
    | ⟨1, _⟩ => rfl
    | ⟨2, _⟩ => rfl
    | ⟨3, _⟩ => rfl
  have k : idx_main_v63 (idx_main_v64 (ix4 0 h s j)) = ix2 h s := funext fun a => match a with
    | ⟨0, _⟩ => rfl
    | ⟨1, _⟩ => rfl
  rw [val_main_v66_apply, val_main_v65_apply, val_main_v61_apply, val_main_v60_apply, val_main_v64_apply, val_main_v63_apply, i, k, r37, r62, r57, r53, r35]
  rfl

variable (hq : ∀ i l, ∃ r : ℝ, Q x1 i l = r) (hk : ∀ i l, ∃ r : ℝ, K x2 i l = r)
include hq hk

/-- The scaled scores' gradient, the kernel's form. -/
theorem r68 (h : Fin 4) (s : Fin 2048) (j : Fin 256) : val_main_v68 (F := Ideal) x0 x1 x2 x3 (ix4 0 h s j) = ds (Q x1 s) (G x0 s) (K x2) (K x3) h j := by
  rw [val_main_v68_apply, r66, ← dsKernel_eq_dsQuotient _ _ fun j => score_real _ _ (hq s) hk h j]
  rfl

/-- The query gradients. -/
theorem r79 (s : Fin 2048) (c : Fin 256) : val_main_v79 (F := Ideal) x0 x1 x2 x3 (ix2 s c) = dq (Q x1 s) (G x0 s) (K x2) (K x3) c := by
  have hc : c.val % 64 < 64 := Nat.mod_lt _ (by decide)
  have i : idx_main_v77 (idx_main_v78 (idx_main_v79 (ix2 s c) 0)) = ix4 0 (head c) s ⟨c.val % 64, hc⟩ := funext fun a => Fin.ext <| match a with
    | ⟨0, _⟩ => rfl
    | ⟨1, _⟩ => by show (((0 * 2048 + s.val) * 256 + c.val) / 64) % 4 = c.val / 64; omega
    | ⟨2, _⟩ => by show (((0 * 2048 + s.val) * 256 + c.val) / 256) % 2048 = s.val; omega
    | ⟨3, _⟩ => by show ((0 * 2048 + s.val) * 256 + c.val) % 64 = c.val % 64; omega
  rw [val_main_v79_apply, Fin.sum_univ_one, val_main_v78_apply, val_main_v77_apply, i, val_main_v70_apply]
  show Ideal.ofBits .f32 0x00000000#32 + _ = _
  rw [Ideal.ofBits_zero_f32, zero_add]
  refine Finset.sum_congr rfl fun j _ => ?_
  have e : K x2 j c = val_main_v8 (F := Ideal) x2 (ix4 0 (head c) j ⟨c.val % 64, hc⟩) := by
    rw [r8]; exact congrArg (K x2 j) (Fin.ext (by show c.val = 64 * (c.val / 64) + c.val % 64; omega))
  rw [e, ← r68 x0 x1 x2 x3 hq hk (head c) s j]
  congr 2 <;> funext a <;> match a with
  | ⟨0, _⟩ => rfl
  | ⟨1, _⟩ => rfl
  | ⟨2, _⟩ => rfl
  | ⟨3, _⟩ => rfl

/-- The key gradients. -/
theorem r76 (j c : Fin 256) : val_main_v76 (F := Ideal) x0 x1 x2 x3 (ix2 j c) = dk (Q x1) (G x0) (K x2) (K x3) j c := by
  have hc : c.val % 64 < 64 := Nat.mod_lt _ (by decide)
  have i : idx_main_v74 (idx_main_v75 (idx_main_v76 (ix2 j c) 0)) = ix4 0 (head c) j ⟨c.val % 64, hc⟩ := funext fun a => Fin.ext <| match a with
    | ⟨0, _⟩ => rfl
    | ⟨1, _⟩ => by show (((0 * 256 + j.val) * 256 + c.val) / 64) % 4 = c.val / 64; omega
    | ⟨2, _⟩ => by show (((0 * 256 + j.val) * 256 + c.val) / 256) % 256 = j.val; omega
    | ⟨3, _⟩ => by show ((0 * 256 + j.val) * 256 + c.val) % 64 = c.val % 64; omega
  rw [val_main_v76_apply, Fin.sum_univ_one, val_main_v75_apply, val_main_v74_apply, i, val_main_v69_apply]
  show Ideal.ofBits .f32 0x00000000#32 + _ = _
  rw [Ideal.ofBits_zero_f32, zero_add]
  refine Finset.sum_congr rfl fun s _ => ?_
  have e : Q x1 s c = val_main_v5 (F := Ideal) x1 (ix4 0 (head c) s ⟨c.val % 64, hc⟩) := by
    rw [r5]; exact congrArg (Q x1 s) (Fin.ext (by show c.val = 64 * (c.val / 64) + c.val % 64; omega))
  rw [e, ← r68 x0 x1 x2 x3 hq hk (head c) s j]
  congr 2 <;> funext a <;> match a with
  | ⟨0, _⟩ => rfl
  | ⟨1, _⟩ => rfl
  | ⟨2, _⟩ => rfl
  | ⟨3, _⟩ => rfl

omit hq hk in
/-- The value gradients. -/
theorem r73 (j c : Fin 256) : val_main_v73 (F := Ideal) x0 x1 x2 (ix2 j c) = dv (Q x1) (G x0) (K x2) j c := by
  have hc : c.val % 64 < 64 := Nat.mod_lt _ (by decide)
  have i : idx_main_v52 (idx_main_v71 (idx_main_v72 (idx_main_v73 (ix2 j c) 0))) = ix4 0 (head c) ⟨c.val % 64, hc⟩ j := funext fun a => Fin.ext <| match a with
    | ⟨0, _⟩ => rfl
    | ⟨1, _⟩ => by show (((0 * 256 + j.val) * 256 + c.val) / 64) % 4 = c.val / 64; omega
    | ⟨3, _⟩ => by show (((0 * 256 + j.val) * 256 + c.val) / 256) % 256 = j.val; omega
    | ⟨2, _⟩ => by show ((0 * 256 + j.val) * 256 + c.val) % 64 = c.val % 64; omega
  rw [val_main_v73_apply, Fin.sum_univ_one, val_main_v72_apply, val_main_v71_apply, val_main_v52_apply, i, val_main_v51_apply]
  show Ideal.ofBits .f32 0x00000000#32 + _ = _
  rw [Ideal.ofBits_zero_f32, zero_add]
  refine Finset.sum_congr rfl fun s _ => ?_
  have e : G x0 s c = val_main_v50 (F := Ideal) x0 (ix4 0 (head c) s ⟨c.val % 64, hc⟩) := by
    rw [r50]; exact congrArg (G x0 s) (Fin.ext (by show c.val = 64 * (c.val / 64) + c.val % 64; omega))
  rw [e, ← r39 x1 x2 (head c) s j, mul_comm]
  congr 2 <;> funext a <;> match a with
  | ⟨0, _⟩ => rfl
  | ⟨1, _⟩ => rfl
  | ⟨2, _⟩ => rfl
  | ⟨3, _⟩ => rfl

end Cert.MemBwdRefIdeal.Rd

end
-- ==== Proof.PreReal.lean ====
/-
  What the precondition says at the ideal numbers: where it holds, every entry of the queries and of the memory's keys is
  a real number.
-/
module

public import proofs.«01_k».proof.Pre_real_scores
public import Idealize.ShloMosaic.Lib.StableHlo.Predicate
public import Idealize.ShloMosaic.PureOps.Ideal.Laws

@[expose] public section

set_option maxRecDepth 16384

noncomputable section

namespace Cert.PreReal

open Idealize.ShloMosaic Idealize.ShloMosaic.StableHlo

/-- The shape relations the predicate's operations take. -/
theorem facts : Cert.Pre_real_scores.Facts where
  bitsLt_bf16_f32 := by decide
  bcast_S_S2048x256 := by decide
  reducesTo_S2048x256_S_d0_1 := by decide
  h_S_ := by decide
  bcast_S_S256x256 := by decide
  reducesTo_S256x256_S_d0_1 := by decide

/-- A conjunction of bits that is one holds at every bit. -/
theorem fold_and {ι : Type} [DecidableEq ι] (f : ι → BitVec 1) (a : BitVec 1) (S : Finset ι) :
    S.fold IntOp.andi a f = 1#1 → ∀ i ∈ S, f i = 1#1 := by
  have hb : ∀ x y : BitVec 1, IntOp.andi x y = 1#1 → x = 1#1 ∧ y = 1#1 := by decide
  induction S using Finset.induction_on with
  | empty => intro _ i hi; exact absurd hi (Finset.notMem_empty i)
  | insert b S hbS ih =>
    rw [Finset.fold_insert hbS]
    intro h i hi
    obtain ⟨h₁, h₂⟩ := hb _ _ h
    rcases Finset.mem_insert.mp hi with rfl | hi
    · exact h₁
    · exact ih h₂ i hi

theorem top_bits : Ideal.ofBits .f32 0x7F800000#32 = ⊤ := by simp [Ideal.ofBits, Ideal.ieee]

/-- A number whose absolute value is below infinity is real. -/
theorem real_of_abs (x : EReal) (h : max x (-x) < ⊤) : ∃ r : ℝ, x = r := by
  induction x with
  | bot => simp at h
  | top => simp at h
  | coe r => exact ⟨r, rfl⟩

/-- Where every entry's absolute value compares below infinity, every entry is real. -/
theorem all_real {s : Shape} {ft : FTy} {axes : List (Fin s.rank)} (x : FVec Ideal s ft) (y z : FVec Ideal s .f32) (init : IVec ⟨0, ![]⟩ 1)
    (h : s.ReducesTo axes ⟨0, ![]⟩) (h0 : 0 < (⟨0, ![]⟩ : Shape).numel) (hy : ∀ i, y i = max (x i : EReal) (-(x i : EReal))) (hz : ∀ i, z i = (⊤ : EReal))
    (e : Host.reduce IntOp.andi (cmpf .olt y z) init h h0 = fun _ => 1#1) (i : s.Idx) : ∃ r : ℝ, (x i : EReal) = r := by
  classical
  have e := congrFun e (Shape.Idx.first h0)
  rw [Host.reduce_eq_fold] at e
  have hi := fold_and _ _ _ e i (by
    rw [Finset.mem_filter]; exact ⟨Finset.mem_univ _, funext fun a => a.elim0⟩)
  have hi : BitVec.ofBool (decide ((y i : EReal) < z i)) = 1#1 := hi
  by_cases hlt : (y i : EReal) < z i
  · rw [hy, hz] at hlt
    exact real_of_abs _ hlt
  · rw [decide_eq_false hlt] at hi
    exact absurd hi (by decide)

/-- Where the precondition holds, the queries and the memory's keys are real. -/
theorem real [Cert.Pre_real_scores.Facts] (a0 : FVec Ideal Cert.Pre_real_scores.S2048x1024 .f32) (a1 : FVec Ideal Cert.Pre_real_scores.S2048x256 .bf16)
    (a2 a3 : FVec Ideal Cert.Pre_real_scores.S256x256 .bf16) (h : Cert.Pre_real_scores.fn a0 a1 a2 a3 = fun _ => 1#1) :
    (∀ i, ∃ r : ℝ, (a1 i : EReal) = r) ∧ ∀ i, ∃ r : ℝ, (a2 i : EReal) = r := by
  unfold Cert.Pre_real_scores.fn at h
  dsimp only at h
  have hb : ∀ x y : BitVec 1, IntOp.andi x y = 1#1 → x = 1#1 ∧ y = 1#1 := by decide
  have h1 := fun j => (hb _ _ (congrFun h j)).1
  have h2 := fun j => (hb _ _ (congrFun h j)).2
  exact ⟨all_real a1 _ _ _ _ _ (fun _ => rfl) (fun _ => top_bits) (funext h1), all_real a2 _ _ _ _ _ (fun _ => rfl) (fun _ => top_bits) (funext h2)⟩

end Cert.PreReal

end
-- ==== Proof.MemClaims.lean ====
/-
  The claims of the memory attention's gradients.
-/
module

public import proofs.«01_k».proof.Defs
public import proofs.«01_k».proof.Proof.Gen.MemBwd.Frame
public import proofs.«01_k».proof.Proof.MemValue
public import proofs.«01_k».proof.Proof.MemRef
public import proofs.«01_k».proof.Proof.PreReal

@[expose] public section

set_option maxRecDepth 16384

noncomputable section

namespace Cert.MemClaims

open Idealize.ShloMosaic Idealize.ShloMosaic.TcCoe Idealize.SL.Sem Cert.MemSpec
open Cert.MemBwdIdeal.Pay (rDq rDk rDv aQ aG aK aV final4 final5 final6 eta2)

attribute [local instance] Cert.MemBwd.Gen.facts Cert.MemBwdIdeal.Gen.facts Cert.MemBwdRefIdeal.Gen.facts Cert.PreReal.facts

/-- The kernel runs, keeps its arguments and ends quiescent. -/
theorem frameP : Cert.quiescent_MemBwd := fun m ρ _ => Cert.MemBwd.Gen.frame m ρ

/-- … and so does it at the ideal numbers. -/
theorem framePI : Cert.quiescent_MemBwdIdeal := fun m ρ _ => Cert.MemBwdIdeal.Gen.frame m ρ

theorem framePIpre : Cert.quiescent_MemBwdIdeal_pre_real_scores := fun m ρ _ => Cert.MemBwdIdeal.Gen.frame m ρ

/-- The reference runs, keeps its arguments and ends quiescent. -/
theorem frameRI : Cert.quiescent_MemBwdRefIdeal := fun m ρ _ =>
  (θ_run Cert.MemBwdRefIdeal.defs _ _).mono (fun r h => ⟨fun c => (h c).2.2.2,
      Idealize.ShloMosaic.sem_eq_zero_of_no_sems (by decide) r.2⟩) (Cert.MemBwdRefIdeal.Value.run (F := Ideal) m ρ)

theorem frameRIpre : Cert.quiescent_MemBwdRefIdeal_pre_real_scores := fun m ρ _ => frameRI m ρ trivial

/-- Kernel and reference compute the same three gradients. -/
theorem algebraic : Cert.algebraic_MemBwdIdeal_MemBwdRefIdeal_pre_real_scores := by
  intro m ρ m' ρ' hpre hag
  refine ⟨fun c => rDq m c, fun c => rDk m c, fun c => rDv m c, ?_, ?_⟩
  · exact (θ_run Cert.MemBwdIdeal.defs _ _).mono (fun r h c => ⟨(h c).1.trans (final4 m c), (h c).2.1.trans (final5 m c),
      (h c).2.2.1.trans (final6 m c), (h c).2.2.2⟩) (Cert.MemBwdIdeal.Value.run_blocks m ρ)
  · refine (θ_run Cert.MemBwdRefIdeal.defs _ _).mono (fun r h c => ?_) (Cert.MemBwdRefIdeal.Value.run (F := Ideal) m' ρ')
    obtain ⟨hq, hk⟩ := Cert.PreReal.real _ _ _ _ (hpre c)
    obtain ⟨g0, g1, g2, g3⟩ := hag c
    have q' : ∀ i l, ∃ r : ℝ, Cert.MemBwdRefIdeal.Rd.Q (m' ((c.tc : Thread Cert.MemBwdRefIdeal.nD Cert.MemBwdRefIdeal.τ).loc Cert.MemBwdRefIdeal.main_arg1)) i l = r := by
      rw [g1]; exact fun i l => hq _
    have k' : ∀ i l, ∃ r : ℝ, Cert.MemBwdRefIdeal.Rd.K (m' ((c.tc : Thread Cert.MemBwdRefIdeal.nD Cert.MemBwdRefIdeal.τ).loc Cert.MemBwdRefIdeal.main_arg2)) i l = r := by
      rw [g2]; exact fun i l => hk _
    refine ⟨(h c).1.trans ?_, (h c).2.1.trans ?_, (h c).2.2.1.trans ?_, (h c).2.2.2⟩
    · rw [Cert.MemBwdRefIdeal.Read.val_main_v79_eq]
      funext x
      obtain ⟨s, l, rfl⟩ : ∃ s l, x = ix2 s l := ⟨x 0, x 1, eta2 x⟩
      rw [Cert.MemBwdRefIdeal.Rd.r79 _ _ _ _ q' k', g0, g1, g2, g3]
      rfl
    · rw [Cert.MemBwdRefIdeal.Read.val_main_v76_eq]
      funext x
      obtain ⟨s, l, rfl⟩ : ∃ s l, x = ix2 s l := ⟨x 0, x 1, eta2 x⟩
      rw [Cert.MemBwdRefIdeal.Rd.r76 _ _ _ _ q' k', g0, g1, g2, g3]
      rfl
    · rw [Cert.MemBwdRefIdeal.Read.val_main_v73_eq]
      funext x
      obtain ⟨s, l, rfl⟩ : ∃ s l, x = ix2 s l := ⟨x 0, x 1, eta2 x⟩
      rw [Cert.MemBwdRefIdeal.Rd.r73, g0, g1, g2]
      rfl

end Cert.MemClaims

end
-- ==== Proof.Tiles.lean ====
/-
  Pairs of indices, and the matrix products of the step's calls as sums, which kernels and references are both read as.
-/
module

public import Idealize.ShloMosaic.Lib.Pointwise
public import Idealize.ShloMosaic.Lib.IdealHost

@[expose] public section

noncomputable section

namespace Cert.Tiles

open Idealize.ShloMosaic

/-- Contents of a two-dimensional array. -/
abbrev Mat (a b : ℕ) := (⟨2, ![a, b]⟩ : Shape).Idx → EReal

/-- An index of two axes is the pair of its coordinates. -/
theorem eta2 {n0 n1 : ℕ} (x : (⟨2, ![n0, n1]⟩ : Shape).Idx) : x = ix2 (x 0) (x 1) :=
  funext fun a => match a with
    | ⟨0, _⟩ => rfl
    | ⟨1, _⟩ => rfl

/-- Every index of two axes is a pair. -/
theorem pair {n0 n1 : ℕ} (x : (⟨2, ![n0, n1]⟩ : Shape).Idx) : ∃ (i : Fin n0) (j : Fin n1), x = ix2 i j := ⟨x 0, x 1, eta2 x⟩

/-- Indices of two axes with equal coordinates are equal. -/
theorem ext2 {n0 n1 : ℕ} {x y : (⟨2, ![n0, n1]⟩ : Shape).Idx} (h0 : (x 0).val = (y 0).val) (h1 : (x 1).val = (y 1).val) : x = y :=
  funext fun a => Fin.ext (match a with
    | ⟨0, _⟩ => h0
    | ⟨1, _⟩ => h1)

/-- A coordinate lies in a block, by the block's position. -/
theorem in_block (v b : ℕ) {e f : ℕ} (h : e = f) (h' : f * b ≤ v ∧ v < f * b + b) : e * b ≤ v ∧ v < e * b + b := h ▸ h'

theorem hz : (![0, 0] : Fin 2 → Nat) = fun _ => 0 := funext fun a => by fin_cases a <;> rfl

/-- The product of an array's transpose with another array. -/
def mulTA {k a b : ℕ} (x : Mat k a) (y : Mat k b) : Mat a b := fun i => ∑ l : Fin k, x (ix2 l (i 0)) * y (ix2 l (i 1))
/-- The product of an array with another array's transpose. -/
def mulTB {k a b : ℕ} (x : Mat a k) (y : Mat b k) : Mat a b := fun i => ∑ l : Fin k, x (ix2 (i 0) l) * y (ix2 (i 1) l)
/-- The product of two arrays. -/
def mul {k a b : ℕ} (x : Mat a k) (y : Mat k b) : Mat a b := fun i => ∑ l : Fin k, x (ix2 (i 0) l) * y (ix2 l (i 1))

/-- The first rows of an array. -/
def firstRows {a b : ℕ} (k : ℕ) (h : k ≤ a) (x : Mat a b) : Mat k b := fun i => x (ix2 ⟨(i 0).val, Nat.lt_of_lt_of_le (i 0).isLt h⟩ (i 1))
/-- The last rows of an array. -/
def lastRows {a b : ℕ} (k : ℕ) (h : k ≤ a) (x : Mat a b) : Mat k b := fun i => x (ix2 ⟨a - k + (i 0).val, by have h' : (i 0).val < k := (i 0).isLt; omega⟩ (i 1))
/-- The sum of two arrays. -/
def plus {a b : ℕ} (x y : Mat a b) : Mat a b := fun i => x i + y i

end Cert.Tiles

end
-- ==== Proof.Reals.lean ====
/-
  Ideal numbers that are real, closed under the operations the gradients use, and what the preconditions say of them.
-/
module

public import proofs.«01_k».proof.Proof.Tiles
public import proofs.«01_k».proof.Proof.PreReal

@[expose] public section

noncomputable section

namespace Cert.Reals

open Idealize.ShloMosaic Cert.Tiles

/-- An ideal number that is real. -/
def Real' (x : EReal) : Prop := ∃ r : ℝ, x = r

theorem Real'.add {x y : EReal} (hx : Real' x) (hy : Real' y) : Real' (x + y) := by
  obtain ⟨x, rfl⟩ := hx
  obtain ⟨y, rfl⟩ := hy
  exact ⟨x + y, (EReal.coe_add x y).symm⟩

theorem Real'.mul {x y : EReal} (hx : Real' x) (hy : Real' y) : Real' (x * y) := by
  obtain ⟨x, rfl⟩ := hx
  obtain ⟨y, rfl⟩ := hy
  exact ⟨x * y, (EReal.coe_mul x y).symm⟩

theorem Real'.sum {n : ℕ} (f : Fin n → EReal) (h : ∀ k, Real' (f k)) : Real' (∑ k, f k) :=
  Finset.sum_induction f Real' (fun _ _ => Real'.add) ⟨0, rfl⟩ fun k _ => h k

/-- The sum of real numbers is theirs. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- Two bits whose conjunction is one are one. -/
theorem and_bits {x y : IVec ⟨0, ![]⟩ 1} (h : andi x y = fun _ => 1#1) : x = (fun _ => 1#1) ∧ y = fun _ => 1#1 := by
  have hb : ∀ x y : BitVec 1, IntOp.andi x y = 1#1 → x = 1#1 ∧ y = 1#1 := by decide
  exact ⟨funext fun j => (hb _ _ (congrFun h j)).1, funext fun j => (hb _ _ (congrFun h j)).2⟩

end Cert.Reals

end
-- ==== Proof.Swish.lean ====
/-
  The logistic function at the ideal numbers, as kernels and references write it.
-/
module

public import proofs.«01_k».proof.Proof.Reals

@[expose] public section

noncomputable section

namespace Cert.Swish

open Idealize.ShloMosaic Cert.Tiles Cert.Reals

/-- The logistic function. -/
def logi (x : EReal) : EReal := Ideal.div 1 (1 + Ideal.exp (-x))

/-- As the kernels write it. -/
theorem logi_kernel (x : EReal) :
    Ideal.div (Ideal.ofBits .f32 0x3F800000#32) (Ideal.ofBits .f32 0x3F800000#32 + Ideal.exp (Ideal.ofBits .f32 0x00000000#32 - x)) = logi x := by
  rw [Ideal.ofBits_one_f32, Ideal.ofBits_zero_f32, sub_eq_add_neg, zero_add]; rfl

/-- As the references write it. -/
theorem logi_ref (x : EReal) :
    Ideal.div (Ideal.ofBits .f32 0x3F800000#32) (Ideal.ofBits .f32 0x3F800000#32 + Ideal.exp (-x)) = logi x := by
  rw [Ideal.ofBits_one_f32]; rfl

/-- The logistic function of a real number is real. -/
theorem logi_coe (a : ℝ) : logi a = ((1 / (1 + Real.exp (-a)) : ℝ) : EReal) := by
  have h : (1 + Real.exp (-a) : ℝ) ≠ 0 := (add_pos one_pos (Real.exp_pos _)).ne'
  have e : (1 + Ideal.exp (-(a : EReal)) : EReal) = ((1 + Real.exp (-a) : ℝ) : EReal) := by
    rw [← EReal.coe_neg, EReal.coe_add]; rfl
  unfold logi
  rw [e, Ideal.div_coe h, one_mul]

theorem logi_top : logi ⊤ = 1 := by
  have e : (1 + Ideal.exp (-⊤) : EReal) = ((1 : ℝ) : EReal) := by
    rw [EReal.neg_top]; show (1 + 0 : EReal) = _; rw [add_zero]; rfl
  unfold logi
  rw [e, Ideal.div_coe one_ne_zero, one_mul, one_div_one]; rfl

theorem logi_bot : logi ⊥ = 0 := by
  have e : (1 + Ideal.exp (-⊥) : EReal) = ⊤ := by
    rw [EReal.neg_bot]; show (1 + ⊤ : EReal) = _; exact EReal.coe_add_top 1
  unfold logi
  rw [e, Ideal.div, if_neg (by simp), EReal.inv_top, mul_zero]

/-- The gradient of the swish, as the kernel and as the product rule write it, at a real cotangent. -/
theorem swish_grad (u : EReal) (hu : Real' u) (a : EReal) :
    u * (logi a * (1 + a * (1 - logi a))) = u * logi a + a * u * (logi a * (1 - logi a)) := by
  obtain ⟨u, rfl⟩ := hu
  induction a with
  | bot => rw [logi_bot]; simp
  | top =>
    rw [logi_top]
    have e : (1 - 1 : EReal) = 0 := by
      rw [← EReal.coe_one, ← EReal.coe_sub, sub_self]; rfl
    rw [e]; simp
  | coe a =>
    rw [logi_coe]
    generalize 1 / (1 + Real.exp (-a)) = s
    rw [← EReal.coe_one]
    simp only [← EReal.coe_mul, ← EReal.coe_add, ← EReal.coe_sub]
    congr 1
    ring

end Cert.Swish

end
-- ==== Proof.Merge.lean ====
/-
  Four branches of 256 columns side by side: the merge's gates and projections.
-/
module

public import proofs.«01_k».proof.Proof.Swish
public import Idealize.ShloMosaic.Lib.Pipeline.Value

@[expose] public section

noncomputable section

namespace Cert.Merge

open Idealize.ShloMosaic Cert.Tiles Cert.Swish

/-- The four branches. -/
def branch {a : ℕ} (x0 x1 x2 x3 : Mat a 256) : Fin 4 → Mat a 256 := ![x0, x1, x2, x3]

/-- A column of a branch's gates. -/
def col (s : Fin 4) (j : Fin 1024) : Fin 4096 := ⟨1024 * s.val + j.val, by omega⟩

/-- An array of the four branches' weights. -/
abbrev Wts (a b : ℕ) : Type := (⟨3, ![4, a, b]⟩ : Shape).Idx → EReal

/-- Four arrays stacked on a middle axis. -/
theorem stack4 {α : Type} (f : Fin 4 → (⟨3, ![2048, 1, 256]⟩ : Shape).Idx → α)
    (h : Shape.Concatenates [⟨3, ![2048, 1, 256]⟩, ⟨3, ![2048, 1, 256]⟩, ⟨3, ![2048, 1, 256]⟩, ⟨3, ![2048, 1, 256]⟩] ⟨3, ![2048, 4, 256]⟩ 1) (i : Fin 2048) (s : Fin 4) (k : Fin 256) :
    concatenate ⟨3, ![2048, 4, 256]⟩ 1 [⟨⟨3, ![2048, 1, 256]⟩, f 0⟩, ⟨⟨3, ![2048, 1, 256]⟩, f 1⟩, ⟨⟨3, ![2048, 1, 256]⟩, f 2⟩, ⟨⟨3, ![2048, 1, 256]⟩, f 3⟩] h (ix3 i s k) = f s (ix3 i 0 k) :=
  concatenate_ofFn_unit_apply (t := ⟨3, ![2048, 4, 256]⟩) (s₁ := ⟨3, ![2048, 1, 256]⟩) 1 f h rfl rfl (ix3 i s k) s rfl (ix3 i 0 k)
    (fun b hb => match b with | ⟨0, _⟩ => rfl | ⟨1, _⟩ => absurd rfl hb | ⟨2, _⟩ => rfl)

end Cert.Merge

end
-- ==== Proof.MergeGrad.lean ====
/-
  The gradients of the gated merge of four branches, on arrays of any number of rows.
-/
module

public import proofs.«01_k».proof.Proof.Merge

@[expose] public section

noncomputable section

namespace Cert.MergeGrad

open Idealize.ShloMosaic Cert.Tiles Cert.Swish Cert.Merge

/-- An index of three axes is the triple of its coordinates. -/
theorem eta3 {n0 n1 n2 : ℕ} (x : (⟨3, ![n0, n1, n2]⟩ : Shape).Idx) : x = ix3 (x 0) (x 1) (x 2) :=
  funext fun a => match a with
    | ⟨0, _⟩ => rfl
    | ⟨1, _⟩ => rfl
    | ⟨2, _⟩ => rfl

theorem triple {n0 n1 n2 : ℕ} (x : (⟨3, ![n0, n1, n2]⟩ : Shape).Idx) : ∃ (i : Fin n0) (j : Fin n1) (k : Fin n2), x = ix3 i j k := ⟨x 0, x 1, x 2, eta3 x⟩

theorem hz3 : (![0, 0, 0] : Fin 3 → Nat) = fun _ => 0 := funext fun a => by fin_cases a <;> rfl

/-- The branch a column of the gates belongs to, and its place there. -/
def gb (c : Fin 4096) : Fin 4 := ⟨c.val / 1024, by omega⟩
def gp (c : Fin 4096) : Fin 1024 := ⟨c.val % 1024, by omega⟩
/-- The branch a column of the branches side by side belongs to, and its place there. -/
def bb (c : Fin 1024) : Fin 4 := ⟨c.val / 256, by omega⟩
def bp (c : Fin 1024) : Fin 256 := ⟨c.val % 256, by omega⟩

theorem col_gb (c : Fin 4096) : col (gb c) (gp c) = c := Fin.ext (by show 1024 * (c.val / 1024) + c.val % 1024 = c.val; omega)
theorem gb_of (c : Fin 4096) (s : Fin 4) (l : Fin 1024) (h : c.val = 1024 * s.val + l.val) : gb c = s ∧ gp c = l :=
  ⟨Fin.ext (by show c.val / 1024 = s.val; omega), Fin.ext (by show c.val % 1024 = l.val; omega)⟩
theorem bb_of (c : Fin 1024) (s : Fin 4) (l : Fin 256) (h : c.val = 256 * s.val + l.val) : bb c = s ∧ bp c = l :=
  ⟨Fin.ext (by show c.val / 256 = s.val; omega), Fin.ext (by show c.val % 256 = l.val; omega)⟩

section
variable {a : ℕ} (x0 : Mat a 1024) (x1 x2 x3 x4 : Mat a 256) (x5 : Wts 1024 256) (x6 : Mat a 4096)

/-- The gradient of a branch's projection. -/
def dup (s : Fin 4) (i : Fin a) (j : Fin 1024) : EReal := x0 (ix2 i j) * logi (x6 (ix2 i (col s j)))
/-- The gradient of the logits of a branch's gates. -/
def dlog (s : Fin 4) (i : Fin a) (j : Fin 1024) : EReal :=
  x0 (ix2 i j) * (∑ k : Fin 256, branch x1 x2 x3 x4 s (ix2 i k) * x5 (ix3 s j k)) * (logi (x6 (ix2 i (col s j))) * (1 - logi (x6 (ix2 i (col s j)))))
/-- The gradient of a branch. -/
def dbr (s : Fin 4) (i : Fin a) (k : Fin 256) : EReal := ∑ j : Fin 1024, dup x0 x6 s i j * x5 (ix3 s j k)
/-- The gradient of a branch's weights. -/
def dwt (s : Fin 4) (j : Fin 1024) (k : Fin 256) : EReal := ∑ i : Fin a, dup x0 x6 s i j * branch x1 x2 x3 x4 s (ix2 i k)

def res7 : Mat a 4096 := fun y => dlog x0 x1 x2 x3 x4 x5 x6 (gb (y 1)) (y 0) (gp (y 1))
def res8 : Mat a 1024 := fun y => dbr x0 x5 x6 (bb (y 1)) (y 0) (bp (y 1))
def res9 : Wts 1024 256 := fun y => dwt x0 x1 x2 x3 x4 x6 (y 0) (y 1) (y 2)

theorem res7_at (y : (⟨2, ![a, 4096]⟩ : Shape).Idx) (s : Fin 4) (i : Fin a) (l : Fin 1024) (h0 : (y 0).val = i.val) (h1 : (y 1).val = 1024 * s.val + l.val) :
    res7 x0 x1 x2 x3 x4 x5 x6 y = dlog x0 x1 x2 x3 x4 x5 x6 s i l := by
  obtain ⟨e1, e2⟩ := gb_of (y 1) s l h1
  unfold res7
  rw [e1, e2, show y 0 = i from Fin.ext h0]

theorem res8_at (y : (⟨2, ![a, 1024]⟩ : Shape).Idx) (s : Fin 4) (i : Fin a) (k : Fin 256) (h0 : (y 0).val = i.val) (h1 : (y 1).val = 256 * s.val + k.val) :
    res8 x0 x5 x6 y = dbr x0 x5 x6 s i k := by
  obtain ⟨e1, e2⟩ := bb_of (y 1) s k h1
  unfold res8
  rw [e1, e2, show y 0 = i from Fin.ext h0]

theorem res9_at (y : (⟨3, ![4, 1024, 256]⟩ : Shape).Idx) (s : Fin 4) (j : Fin 1024) (k : Fin 256) (h0 : (y 0).val = s.val) (h1 : (y 1).val = j.val) (h2 : (y 2).val = k.val) :
    res9 x0 x1 x2 x3 x4 x6 y = dwt x0 x1 x2 x3 x4 x6 s j k := by
  unfold res9
  rw [show y 0 = s from Fin.ext h0, show y 1 = j from Fin.ext h1, show y 2 = k from Fin.ext h2]

end

section
variable {a b : ℕ} (x0 : Mat a 1024) (x1 x2 x3 x4 : Mat a 256) (x5 : Wts 1024 256) (x6 : Mat a 4096)
variable (y0 : Mat b 1024) (y1 y2 y3 y4 : Mat b 256) (y5 : Wts 1024 256) (y6 : Mat b 4096) (i : Fin a) (p : Fin b)

theorem branch_congr (h1 : ∀ k, x1 (ix2 i k) = y1 (ix2 p k)) (h2 : ∀ k, x2 (ix2 i k) = y2 (ix2 p k)) (h3 : ∀ k, x3 (ix2 i k) = y3 (ix2 p k)) (h4 : ∀ k, x4 (ix2 i k) = y4 (ix2 p k))
    (s : Fin 4) (k : Fin 256) : branch x1 x2 x3 x4 s (ix2 i k) = branch y1 y2 y3 y4 s (ix2 p k) :=
  match s with
  | ⟨0, _⟩ => h1 k
  | ⟨1, _⟩ => h2 k
  | ⟨2, _⟩ => h3 k
  | ⟨3, _⟩ => h4 k

theorem dup_congr (h0 : ∀ k, x0 (ix2 i k) = y0 (ix2 p k)) (h6 : ∀ k, x6 (ix2 i k) = y6 (ix2 p k)) (s : Fin 4) (j : Fin 1024) : dup x0 x6 s i j = dup y0 y6 s p j := by
  unfold dup
  rw [h0, h6]

theorem dlog_congr (h0 : ∀ k, x0 (ix2 i k) = y0 (ix2 p k)) (hb : ∀ s k, branch x1 x2 x3 x4 s (ix2 i k) = branch y1 y2 y3 y4 s (ix2 p k)) (h5 : x5 = y5) (h6 : ∀ k, x6 (ix2 i k) = y6 (ix2 p k)) (s : Fin 4) (j : Fin 1024) :
    dlog x0 x1 x2 x3 x4 x5 x6 s i j = dlog y0 y1 y2 y3 y4 y5 y6 s p j := by
  unfold dlog
  rw [h0, h6, h5]
  simp only [hb]

theorem dbr_congr (h0 : ∀ k, x0 (ix2 i k) = y0 (ix2 p k)) (h5 : x5 = y5) (h6 : ∀ k, x6 (ix2 i k) = y6 (ix2 p k)) (s : Fin 4) (k : Fin 256) :
    dbr x0 x5 x6 s i k = dbr y0 y5 y6 s p k := by
  unfold dbr
  rw [h5]
  exact Finset.sum_congr rfl fun j _ => congrArg (fun z : EReal => z * y5 (ix3 s j k)) (dup_congr x0 x6 y0 y6 i p h0 h6 s j)

end

end Cert.MergeGrad

end
-- ==== Proof.MergeBwd.lean ====
/-
  The gradient of the merge of the four branches.
-/
module

public import proofs.«01_k».proof.Defs
public import proofs.«01_k».proof.Proof.Tiles
public import proofs.«01_k».proof.Proof.MergeGrad
public import proofs.«01_k».proof.Proof.Softmax
public import Idealize.ShloMosaic.Lib.Pipeline.ValueKit.Tiles
public import proofs.«01_k».proof.Proof.Gen.MergeBwd.Frame
public import proofs.«01_k».proof.Proof.Gen.MergeBwdIdeal.Value
public import proofs.«01_k».proof.Proof.Gen.MergeBwdRefIdeal.Read
public import proofs.«01_k».proof.Proof.Gen.MergeBwdRefIdeal.Run
public import Idealize.ShloMosaic.Lib.Tactic

@[expose] public section

set_option maxRecDepth 16384

noncomputable section

namespace Cert.MergeBwdIdeal.Pay

open Idealize.ShloMosaic Idealize.ShloMosaic.TcCoe Idealize.SL.Sem Cert.MergeBwdIdeal Cert.MergeBwdIdeal.Gen Cert.Tiles
open Idealize.ShloMosaic.Pipeline (Dat)

variable (m : (ℓ : Loc nD τ sig) → Buf (Elt Ideal) ℓ)

open Cert.Swish Cert.Merge Cert.MergeGrad

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 1024) (p : Fin 2048) (q : Fin 1024) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 256) (p : Fin 2048) (q : Fin 256) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 256 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 512) (l : Fin 256) (p : Fin 2048) (q : Fin 256) (hp : p.val = 512 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 512 + 1 * i.val = p.val; rw [(at2 t).1]; omega
  · show win0_2.index t 1 * 256 + 1 * l.val = q.val; rw [(at2 t).2]; omega

theorem at3 : ∀ t : Fin grid0.N, win0_3.index t 0 = t.val ∧ win0_3.index t 1 = 0 := by decide +kernel

/-- An element of a block of window 3 is the array's. -/
theorem blk3 (c : Dev nD) (t : Fin cfg0.N) (i : Fin 512) (l : Fin 256) (p : Fin 2048) (q : Fin 256) (hp : p.val = 512 * (t.val) + i.val) (hq : q.val = l.val) :
    (iblk m c 3 t (ix2 i l) : EReal) = m (c.tc.loc main_arg3) (ix2 p q) := by
  refine congrArg (m (c.tc.loc main_arg3)) (ext2 ?_ ?_)
  · show win0_3.index t 0 * 512 + 1 * i.val = p.val; rw [(at3 t).1]; omega
  · show win0_3.index t 1 * 256 + 1 * l.val = q.val; rw [(at3 t).2]; omega

theorem at4 : ∀ t : Fin grid0.N, win0_4.index t 0 = t.val ∧ win0_4.index t 1 = 0 := by decide +kernel

/-- An element of a block of window 4 is the array's. -/
theorem blk4 (c : Dev nD) (t : Fin cfg0.N) (i : Fin 512) (l : Fin 256) (p : Fin 2048) (q : Fin 256) (hp : p.val = 512 * (t.val) + i.val) (hq : q.val = l.val) :
    (iblk m c 4 t (ix2 i l) : EReal) = m (c.tc.loc main_arg4) (ix2 p q) := by
  refine congrArg (m (c.tc.loc main_arg4)) (ext2 ?_ ?_)
  · show win0_4.index t 0 * 512 + 1 * i.val = p.val; rw [(at4 t).1]; omega
  · show win0_4.index t 1 * 256 + 1 * l.val = q.val; rw [(at4 t).2]; omega

theorem at5 : ∀ t : Fin grid0.N, win0_5.index t 0 = 0 ∧ win0_5.index t 1 = 0 ∧ win0_5.index t 2 = 0 := by decide +kernel

theorem at9 : ∀ t : Fin grid0.N, win0_9.index t 0 = 0 ∧ win0_9.index t 1 = 0 ∧ win0_9.index t 2 = 0 := by decide +kernel

/-- The block of the weights is the whole array. -/
theorem blk5 (c : Dev nD) (t : Fin cfg0.N) : (iblk m c 5 t : Wts 1024 256) = m (c.tc.loc main_arg5) := by
  funext x
  obtain ⟨s, j, k, rfl⟩ := triple x
  unfold iblk
  rw [View.read_apply]
  show V m c main_arg5 _ = m (c.tc.loc main_arg5) _
  unfold V
  congr 1
  funext a
  apply Fin.ext
  match a with
  | ⟨0, _⟩ => show win0_5.index t 0 * 4 + 1 * s.val = s.val; rw [(at5 t).1]; omega
  | ⟨1, _⟩ => show win0_5.index t 1 * 1024 + 1 * j.val = j.val; rw [(at5 t).2.1]; omega
  | ⟨2, _⟩ => show win0_5.index t 2 * 256 + 1 * k.val = k.val; rw [(at5 t).2.2]; omega

theorem at6 : ∀ t : Fin grid0.N, win0_6.index t 0 = t.val ∧ win0_6.index t 1 = 0 := by decide +kernel

/-- An element of a block of window 6 is the array's. -/
theorem blk6 (c : Dev nD) (t : Fin cfg0.N) (i : Fin 512) (l : Fin 4096) (p : Fin 2048) (q : Fin 4096) (hp : p.val = 512 * (t.val) + i.val) (hq : q.val = l.val) :
    (iblk m c 6 t (ix2 i l) : EReal) = m (c.tc.loc main_arg6) (ix2 p q) := by
  refine congrArg (m (c.tc.loc main_arg6)) (ext2 ?_ ?_)
  · show win0_6.index t 0 * 512 + 1 * i.val = p.val; rw [(at6 t).1]; omega
  · show win0_6.index t 1 * 4096 + 1 * l.val = q.val; rw [(at6 t).2]; omega

theorem at7 : ∀ t : Fin grid0.N, win0_7.index t 0 = t.val ∧ win0_7.index t 1 = 0 := by decide +kernel

theorem at8 : ∀ t : Fin grid0.N, win0_8.index t 0 = t.val ∧ win0_8.index t 1 = 0 := by decide +kernel

/-- The kernel's results. -/
def r7 (c : Dev nD) : Mat 2048 4096 := res7 (m (c.tc.loc main_arg0)) (m (c.tc.loc main_arg1)) (m (c.tc.loc main_arg2)) (m (c.tc.loc main_arg3)) (m (c.tc.loc main_arg4)) (m (c.tc.loc main_arg5)) (m (c.tc.loc main_arg6))
def r8 (c : Dev nD) : Mat 2048 1024 := res8 (m (c.tc.loc main_arg0)) (m (c.tc.loc main_arg5)) (m (c.tc.loc main_arg6))
def r9 (c : Dev nD) : Wts 1024 256 := res9 (m (c.tc.loc main_arg0)) (m (c.tc.loc main_arg1)) (m (c.tc.loc main_arg2)) (m (c.tc.loc main_arg3)) (m (c.tc.loc main_arg4)) (m (c.tc.loc main_arg6))

theorem logi_zero (x : EReal) : Ideal.div 1 (1 + Ideal.exp (0 - x)) = logi x := by
  rw [sub_eq_add_neg, zero_add]; rfl

section
variable (a0 : Vec Ideal S512x1024 .f32) (b : Vec Ideal S512x256 .bf16) (w : Vec Ideal S1x1024x256 .bf16) (g : Vec Ideal S512x1024 .bf16)

/-- A branch's gates in a block. -/
theorem pay4 (i : Fin 512) (l : Fin 1024) : (k0_pay4 (F := Ideal) g (ix2 i l) : EReal) = logi (g (ix2 i l)) := by
  pointwise [k0_pay4]
  rw [logi_zero]

theorem pay5 (i : Fin 512) (l : Fin 1024) :
    (k0_pay5 (F := Ideal) a0 b w g (ix2 i l) : EReal) = HMul.hMul (α := EReal) (β := EReal) (γ := EReal) (a0 (ix2 i l)) (∑ k : Fin 256, (b (ix2 i k) : EReal) * w (ix3 0 l k)) * (logi (g (ix2 i l)) * (1 - logi (g (ix2 i l)))) := by
  rw [← pay4]
  unfold k0_pay5
  generalize k0_pay4 (F := Ideal) g = r
  pointwise

theorem pay6 (i : Fin 512) (l : Fin 1024) : (k0_pay6 (F := Ideal) a0 g (ix2 i l) : EReal) = HMul.hMul (α := EReal) (β := EReal) (γ := EReal) (a0 (ix2 i l)) (logi (g (ix2 i l))) := by
  rw [← pay4]
  unfold k0_pay6
  generalize k0_pay4 (F := Ideal) g = r
  pointwise

theorem pay7 (i : Fin 512) (k : Fin 256) : (k0_pay7 (F := Ideal) a0 g w (ix2 i k) : EReal) = ∑ l : Fin 1024, (k0_pay6 (F := Ideal) a0 g (ix2 i l) : EReal) * w (ix3 0 l k) := by
  unfold k0_pay7
  generalize k0_pay6 (F := Ideal) a0 g = r
  pointwise

theorem pay8 (l : Fin 1024) (k : Fin 256) : (k0_pay8 (F := Ideal) a0 b g (ix2 l k) : EReal) = ∑ i : Fin 512, (k0_pay6 (F := Ideal) a0 g (ix2 i l) : EReal) * b (ix2 i k) := by
  unfold k0_pay8
  generalize k0_pay6 (F := Ideal) a0 g = r
  pointwise

theorem pay1 (v : FVec Ideal S1024x256 .f32) (l : Fin 1024) (k : Fin 256) : (k0_pay1 (F := Ideal) v (ix3 0 l k) : EReal) = v (ix2 l k) := by
  pointwise [k0_pay1]

theorem pay10 (v : FVec Ideal S1024x256 .f32) (o : Vec Ideal S1x1024x256 .f32) (l : Fin 1024) (k : Fin 256) : (k0_pay10 (F := Ideal) v o (ix3 0 l k) : EReal) = HAdd.hAdd (α := EReal) (β := EReal) (γ := EReal) (o (ix3 0 l k)) (v (ix2 l k)) := by
  pointwise [k0_pay10]

end

section
variable (a0 : Vec Ideal S512x1024 .f32) (b : Vec Ideal S512x256 .bf16) (w : Vec Ideal S1x1024x256 .bf16) (g : Vec Ideal S512x1024 .bf16) (s : Fin 4)
  (x1 x2 x3 x4 : Vec Ideal S512x256 .bf16) (x5 : Vec Ideal S4x1024x256 .bf16) (x6 : Vec Ideal S512x4096 .bf16)

/-- A branch's tile of the gradient of the gates' logits. -/
theorem tile7 (hb : ∀ i k, b (ix2 i k) = branch x1 x2 x3 x4 s (ix2 i k)) (hw : ∀ l k, w (ix3 0 l k) = x5 (ix3 s l k)) (hg : ∀ i l, g (ix2 i l) = x6 (ix2 i (col s l)))
    (y : S512x4096.Idx) (z : S512x1024.Idx) (e0 : (y 0).val = (z 0).val) (e1 : (y 1).val = 1024 * s.val + (z 1).val) :
    (k0_pay5 (F := Ideal) a0 b w g z : EReal) = res7 (a := 512) a0 x1 x2 x3 x4 x5 x6 y := by
  obtain ⟨i, l, rfl⟩ := pair (n0 := 512) (n1 := 1024) z
  rw [res7_at (a := 512) a0 x1 x2 x3 x4 x5 x6 y s i l e0 e1, pay5]
  unfold dlog
  rw [hg]
  exact congrArg (fun q : EReal => HMul.hMul (α := EReal) (β := EReal) (γ := EReal) (a0 (ix2 i l)) q * (logi (x6 (ix2 i (col s l))) * (1 - logi (x6 (ix2 i (col s l))))))
    (Finset.sum_congr rfl fun k _ => congrArg₂ (fun a b : EReal => a * b) (hb i k) (hw l k))

/-- A branch's tile of the gradient of the branches. -/
theorem tile8 (hw : ∀ l k, w (ix3 0 l k) = x5 (ix3 s l k)) (hg : ∀ i l, g (ix2 i l) = x6 (ix2 i (col s l)))
    (y : S512x1024.Idx) (z : S512x256.Idx) (e0 : (y 0).val = (z 0).val) (e1 : (y 1).val = 256 * s.val + (z 1).val) :
    (k0_pay7 (F := Ideal) a0 g w z : EReal) = res8 (a := 512) a0 x5 x6 y := by
  obtain ⟨i, k, rfl⟩ := pair (n0 := 512) (n1 := 256) z
  rw [res8_at (a := 512) a0 x5 x6 y s i k e0 e1, pay7]
  unfold dbr dup
  refine Finset.sum_congr rfl fun l _ => congrArg₂ (fun a b : EReal => a * b) ?_ (hw l k)
  rw [pay6, hg]

/-- A branch's part of its weights' gradient. -/
theorem part9 (hb : ∀ i k, b (ix2 i k) = branch x1 x2 x3 x4 s (ix2 i k)) (hg : ∀ i l, g (ix2 i l) = x6 (ix2 i (col s l))) (l : Fin 1024) (k : Fin 256) :
    (k0_pay8 (F := Ideal) a0 b g (ix2 l k) : EReal) = dwt (a := 512) a0 x1 x2 x3 x4 x6 s l k := by
  rw [pay8]
  unfold dwt dup
  refine Finset.sum_congr rfl fun i _ => congrArg₂ (fun a b : EReal => a * b) ?_ (hb i k)
  rw [pay6, hg]

theorem tileA (hb : ∀ i k, b (ix2 i k) = branch x1 x2 x3 x4 s (ix2 i k)) (hg : ∀ i l, g (ix2 i l) = x6 (ix2 i (col s l)))
    (y : S4x1024x256.Idx) (z : S1x1024x256.Idx) (e0 : (y 0).val = s.val + (z 0).val) (e1 : (y 1).val = (z 1).val) (e2 : (y 2).val = (z 2).val) :
    (k0_pay1 (F := Ideal) (k0_pay8 (F := Ideal) a0 b g) z : EReal) = res9 (a := 512) a0 x1 x2 x3 x4 x6 y := by
  obtain ⟨u, l, k, rfl⟩ := triple (n0 := 1) (n1 := 1024) (n2 := 256) z
  obtain rfl : u = 0 := Subsingleton.elim _ _
  rw [res9_at (a := 512) a0 x1 x2 x3 x4 x6 y s l k e0 e1 e2, pay1]
  exact part9 a0 b g s x1 x2 x3 x4 x6 hb hg l k

theorem tileB (hb : ∀ i k, b (ix2 i k) = branch x1 x2 x3 x4 s (ix2 i k)) (hg : ∀ i l, g (ix2 i l) = x6 (ix2 i (col s l)))
    (xs0 : Vec Ideal S4x1024x256 .f32) (o : Vec Ideal S1x1024x256 .f32) (ho : ∀ l k, o (ix3 0 l k) = xs0 (ix3 s l k))
    (y : S4x1024x256.Idx) (z : S1x1024x256.Idx) (e0 : (y 0).val = s.val + (z 0).val) (e1 : (y 1).val = (z 1).val) (e2 : (y 2).val = (z 2).val) :
    (k0_pay10 (F := Ideal) (k0_pay8 (F := Ideal) a0 b g) o z : EReal) = HAdd.hAdd (α := EReal) (β := EReal) (γ := EReal) (xs0 y) (res9 (a := 512) a0 x1 x2 x3 x4 x6 y) := by
  obtain ⟨u, l, k, rfl⟩ := triple (n0 := 1) (n1 := 1024) (n2 := 256) z
  obtain rfl : u = 0 := Subsingleton.elim _ _
  rw [res9_at (a := 512) a0 x1 x2 x3 x4 x6 y s l k e0 e1 e2, pay10, part9 a0 b g s x1 x2 x3 x4 x6 hb hg l k, ho]
  exact congrArg (fun q : EReal => q + dwt (a := 512) a0 x1 x2 x3 x4 x6 s l k) (congrArg xs0 (funext fun a => match a with | ⟨0, _⟩ => Fin.ext e0.symm | ⟨1, _⟩ => Fin.ext e1.symm | ⟨2, _⟩ => Fin.ext e2.symm))

end

section
theorem pay12_eq (a0 : Vec Ideal S512x1024 .f32) (b : Vec Ideal S512x256 .bf16) (w : Vec Ideal S1x1024x256 .bf16) (g : Vec Ideal S512x1024 .bf16) : k0_pay12 (F := Ideal) a0 b w g = k0_pay5 (F := Ideal) a0 b w g := rfl
theorem pay19_eq (a0 : Vec Ideal S512x1024 .f32) (b : Vec Ideal S512x256 .bf16) (w : Vec Ideal S1x1024x256 .bf16) (g : Vec Ideal S512x1024 .bf16) : k0_pay19 (F := Ideal) a0 b w g = k0_pay5 (F := Ideal) a0 b w g := rfl
theorem pay26_eq (a0 : Vec Ideal S512x1024 .f32) (b : Vec Ideal S512x256 .bf16) (w : Vec Ideal S1x1024x256 .bf16) (g : Vec Ideal S512x1024 .bf16) : k0_pay26 (F := Ideal) a0 b w g = k0_pay5 (F := Ideal) a0 b w g := rfl
theorem pay14_eq (a0 : Vec Ideal S512x1024 .f32) (w : Vec Ideal S1x1024x256 .bf16) (g : Vec Ideal S512x1024 .bf16) : k0_pay14 (F := Ideal) a0 g w = k0_pay7 (F := Ideal) a0 g w := rfl
theorem pay21_eq (a0 : Vec Ideal S512x1024 .f32) (w : Vec Ideal S1x1024x256 .bf16) (g : Vec Ideal S512x1024 .bf16) : k0_pay21 (F := Ideal) a0 g w = k0_pay7 (F := Ideal) a0 g w := rfl
theorem pay28_eq (a0 : Vec Ideal S512x1024 .f32) (w : Vec Ideal S1x1024x256 .bf16) (g : Vec Ideal S512x1024 .bf16) : k0_pay28 (F := Ideal) a0 g w = k0_pay7 (F := Ideal) a0 g w := rfl
theorem pay15_eq (a0 : Vec Ideal S512x1024 .f32) (b : Vec Ideal S512x256 .bf16) (g : Vec Ideal S512x1024 .bf16) : k0_pay15 (F := Ideal) a0 b g = k0_pay8 (F := Ideal) a0 b g := rfl
theorem pay22_eq (a0 : Vec Ideal S512x1024 .f32) (b : Vec Ideal S512x256 .bf16) (g : Vec Ideal S512x1024 .bf16) : k0_pay22 (F := Ideal) a0 b g = k0_pay8 (F := Ideal) a0 b g := rfl
theorem pay29_eq (a0 : Vec Ideal S512x1024 .f32) (b : Vec Ideal S512x256 .bf16) (g : Vec Ideal S512x1024 .bf16) : k0_pay29 (F := Ideal) a0 b g = k0_pay8 (F := Ideal) a0 b g := rfl
theorem pay16_eq (v : FVec Ideal S1024x256 .f32) : k0_pay16 (F := Ideal) v = k0_pay1 (F := Ideal) v := rfl
theorem pay23_eq (v : FVec Ideal S1024x256 .f32) : k0_pay23 (F := Ideal) v = k0_pay1 (F := Ideal) v := rfl
theorem pay17_eq (v : FVec Ideal S1024x256 .f32) (o : Vec Ideal S1x1024x256 .f32) : k0_pay17 (F := Ideal) v o = k0_pay10 (F := Ideal) v o := rfl
theorem pay24_eq (v : FVec Ideal S1024x256 .f32) (o : Vec Ideal S1x1024x256 .f32) : k0_pay24 (F := Ideal) v o = k0_pay10 (F := Ideal) v o := rfl
theorem pay2_eq (v : FVec Ideal S1024x256 .f32) (o : Vec Ideal S1x1024x256 .f32) : k0_pay2 (F := Ideal) v o = k0_pay10 (F := Ideal) v o := rfl
theorem pay3_eq (v : Vec Ideal S4x1024x256 .f32) : (k0_pay3 (F := Ideal) v : Wts 1024 256) = v := rfl
theorem pay9_eq (a0 : Vec Ideal S512x1024 .f32) (b : Vec Ideal S512x256 .bf16) (g : Vec Ideal S512x1024 .bf16) : k0_pay9 (F := Ideal) a0 b g = k0_pay1 (F := Ideal) (k0_pay8 (F := Ideal) a0 b g) := rfl
end

theorem ldw0 {e : EltTy} (x : Vec Ideal S4x1024x256 e) (h) (l : Fin 1024) (k : Fin 256) : View.ld (Val := Elt Ideal) x (Rect.unit (s := S4x1024x256) ![0, 0, 0] ![1, 1024, 256] h) (ix3 0 l k) = x (ix3 0 l k) :=
  View.ld_unit_apply_of (S := S4x1024x256) x _ _ h (ix3 0 l k) (ix3 0 l k) (fun a => match a with | ⟨0, _⟩ => rfl | ⟨1, _⟩ => (Nat.zero_add _).symm | ⟨2, _⟩ => (Nat.zero_add _).symm)

theorem ldg0 (x : Vec Ideal S512x4096 .f32) (h) (i : Fin 512) (l : Fin 1024) : View.ld (Val := Elt Ideal) x (Rect.unit (s := S512x4096) ![0, 0] ![512, 1024] h) (ix2 i l) = x (ix2 i (col 0 l)) :=
  View.ld_unit_apply_of (S := S512x4096) x _ _ h (ix2 i l) (ix2 i (col 0 l)) (fun a => match a with | ⟨0, _⟩ => (Nat.zero_add _).symm | ⟨1, _⟩ => rfl)

theorem ldw1 {e : EltTy} (x : Vec Ideal S4x1024x256 e) (h) (l : Fin 1024) (k : Fin 256) : View.ld (Val := Elt Ideal) x (Rect.unit (s := S4x1024x256) ![1, 0, 0] ![1, 1024, 256] h) (ix3 0 l k) = x (ix3 1 l k) :=
  View.ld_unit_apply_of (S := S4x1024x256) x _ _ h (ix3 0 l k) (ix3 1 l k) (fun a => match a with | ⟨0, _⟩ => rfl | ⟨1, _⟩ => (Nat.zero_add _).symm | ⟨2, _⟩ => (Nat.zero_add _).symm)

theorem ldg1 (x : Vec Ideal S512x4096 .f32) (h) (i : Fin 512) (l : Fin 1024) : View.ld (Val := Elt Ideal) x (Rect.unit (s := S512x4096) ![0, 1024] ![512, 1024] h) (ix2 i l) = x (ix2 i (col 1 l)) :=
  View.ld_unit_apply_of (S := S512x4096) x _ _ h (ix2 i l) (ix2 i (col 1 l)) (fun a => match a with | ⟨0, _⟩ => (Nat.zero_add _).symm | ⟨1, _⟩ => rfl)

theorem ldw2 {e : EltTy} (x : Vec Ideal S4x1024x256 e) (h) (l : Fin 1024) (k : Fin 256) : View.ld (Val := Elt Ideal) x (Rect.unit (s := S4x1024x256) ![2, 0, 0] ![1, 1024, 256] h) (ix3 0 l k) = x (ix3 2 l k) :=
  View.ld_unit_apply_of (S := S4x1024x256) x _ _ h (ix3 0 l k) (ix3 2 l k) (fun a => match a with | ⟨0, _⟩ => rfl | ⟨1, _⟩ => (Nat.zero_add _).symm | ⟨2, _⟩ => (Nat.zero_add _).symm)

theorem ldg2 (x : Vec Ideal S512x4096 .f32) (h) (i : Fin 512) (l : Fin 1024) : View.ld (Val := Elt Ideal) x (Rect.unit (s := S512x4096) ![0, 2048] ![512, 1024] h) (ix2 i l) = x (ix2 i (col 2 l)) :=
  View.ld_unit_apply_of (S := S512x4096) x _ _ h (ix2 i l) (ix2 i (col 2 l)) (fun a => match a with | ⟨0, _⟩ => (Nat.zero_add _).symm | ⟨1, _⟩ => rfl)

theorem ldw3 {e : EltTy} (x : Vec Ideal S4x1024x256 e) (h) (l : Fin 1024) (k : Fin 256) : View.ld (Val := Elt Ideal) x (Rect.unit (s := S4x1024x256) ![3, 0, 0] ![1, 1024, 256] h) (ix3 0 l k) = x (ix3 3 l k) :=
  View.ld_unit_apply_of (S := S4x1024x256) x _ _ h (ix3 0 l k) (ix3 3 l k) (fun a => match a with | ⟨0, _⟩ => rfl | ⟨1, _⟩ => (Nat.zero_add _).symm | ⟨2, _⟩ => (Nat.zero_add _).symm)

theorem ldg3 (x : Vec Ideal S512x4096 .f32) (h) (i : Fin 512) (l : Fin 1024) : View.ld (Val := Elt Ideal) x (Rect.unit (s := S512x4096) ![0, 3072] ![512, 1024] h) (ix2 i l) = x (ix2 i (col 3 l)) :=
  View.ld_unit_apply_of (S := S512x4096) x _ _ h (ix2 i l) (ix2 i (col 3 l)) (fun a => match a with | ⟨0, _⟩ => (Nat.zero_add _).symm | ⟨1, _⟩ => rfl)

section
variable (c : Dev nD) (i : grid0.Coords) (arg1 : Memref sig .tc .vmem S512x1024 .f32) (h1 : arg1.IsWhole) (arg2 : Memref sig .tc .vmem S512x256 .bf16) (h2 : arg2.IsWhole) (arg3 : Memref sig .tc .vmem S512x256 .bf16) (h3 : arg3.IsWhole) (arg4 : Memref sig .tc .vmem S512x256 .bf16) (h4 : arg4.IsWhole) (arg5 : Memref sig .tc .vmem S512x256 .bf16) (h5 : arg5.IsWhole) (arg6 : Memref sig .tc .vmem S4x1024x256 .bf16) (h6 : arg6.IsWhole) (arg7 : Memref sig .tc .vmem S512x4096 .bf16) (h7 : arg7.IsWhole) (arg8 : Memref sig .tc .vmem S512x4096 .bf16) (h8 : arg8.IsWhole) (arg9 : Memref sig .tc .vmem S512x1024 .f32) (h9 : arg9.IsWhole) (arg10 : Memref sig .tc .vmem S4x1024x256 .bf16) (h10 : arg10.IsWhole) (arg11 : Memref sig .tc .vmem S4x1024x256 .f32) (h11 : arg11.IsWhole)

theorem out_A_7 (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (y : S512x4096.Idx) :
    (out0_A_7 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 y : EReal) = res7 (a := 512) x0 x1 x2 x3 x4 x5 x6 y := by
  unfold out0_A_7
  rw [View.read_writes_eq_canon _ _ _ (fun _ => cover0_A_7 (F := Ideal) ..)]
  unfold kernelRun0_A
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay26_eq]; exact tile7 x0 x4 _ _ 3 x1 x2 x3 x4 x5 x6 (fun _ _ => rfl) (ldw3 x5 _) (ldg3 x6 _) y z g0 (by show _ = 1024 * 3 + _; omega)
  · rw [pay19_eq]; exact tile7 x0 x3 _ _ 2 x1 x2 x3 x4 x5 x6 (fun _ _ => rfl) (ldw2 x5 _) (ldg2 x6 _) y z g0 (by show _ = 1024 * 2 + _; omega)
  · rw [pay12_eq]; exact tile7 x0 x2 _ _ 1 x1 x2 x3 x4 x5 x6 (fun _ _ => rfl) (ldw1 x5 _) (ldg1 x6 _) y z g0 (by show _ = 1024 * 1 + _; omega)
  · exact tile7 x0 x1 _ _ 0 x1 x2 x3 x4 x5 x6 (fun _ _ => rfl) (ldw0 x5 _) (ldg0 x6 _) y z g0 (by show _ = 1024 * 0 + _; omega)

theorem out_A_8 (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (y : S512x1024.Idx) :
    (out0_A_8 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 y : EReal) = res8 (a := 512) x0 x5 x6 y := by
  unfold out0_A_8
  rw [View.read_writes_eq_canon _ _ _ (fun _ => cover0_A_8 (F := Ideal) ..)]
  unfold kernelRun0_A
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay28_eq]; exact tile8 x0 _ _ 3 x5 x6 (ldw3 x5 _) (ldg3 x6 _) y z g0 (by show _ = 256 * 3 + _; omega)
  · rw [pay21_eq]; exact tile8 x0 _ _ 2 x5 x6 (ldw2 x5 _) (ldg2 x6 _) y z g0 (by show _ = 256 * 2 + _; omega)
  · rw [pay14_eq]; exact tile8 x0 _ _ 1 x5 x6 (ldw1 x5 _) (ldg1 x6 _) y z g0 (by show _ = 256 * 1 + _; omega)
  · exact tile8 x0 _ _ 0 x5 x6 (ldw0 x5 _) (ldg0 x6 _) y z g0 (by show _ = 256 * 0 + _; omega)

theorem out_A_s (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (y : S4x1024x256.Idx) :
    (sout0_A_0 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 y : EReal) = res9 (a := 512) x0 x1 x2 x3 x4 x6 y := by
  unfold sout0_A_0
  rw [View.read_writes_eq_canon _ _ _ (fun _ => scover0_A_0 (F := Ideal) ..)]
  unfold kernelRun0_A
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay29_eq]; exact tileA x0 x4 _ 3 x1 x2 x3 x4 x6 (fun _ _ => rfl) (ldg3 x6 _) y z (by show _ = 3 + _; omega) g1 g2
  · rw [pay23_eq, pay22_eq]; exact tileA x0 x3 _ 2 x1 x2 x3 x4 x6 (fun _ _ => rfl) (ldg2 x6 _) y z (by show _ = 2 + _; omega) g1 g2
  · rw [pay16_eq, pay15_eq]; exact tileA x0 x2 _ 1 x1 x2 x3 x4 x6 (fun _ _ => rfl) (ldg1 x6 _) y z (by show _ = 1 + _; omega) g1 g2
  · rw [pay9_eq]; exact tileA x0 x1 _ 0 x1 x2 x3 x4 x6 (fun _ _ => rfl) (ldg0 x6 _) y z (by show _ = 0 + _; omega) g1 g2

theorem out_B_7 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S512x4096.Idx) :
    (out0_B_7 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = res7 (a := 512) x0 x1 x2 x3 x4 x5 x6 y := by
  unfold out0_B_7
  rw [View.read_writes_eq_canon _ _ _ (fun _ => cover0_B_7 (F := Ideal) ..)]
  unfold kernelRun0_B
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay26_eq]; exact tile7 x0 x4 _ _ 3 x1 x2 x3 x4 x5 x6 (fun _ _ => rfl) (ldw3 x5 _) (ldg3 x6 _) y z g0 (by show _ = 1024 * 3 + _; omega)
  · rw [pay19_eq]; exact tile7 x0 x3 _ _ 2 x1 x2 x3 x4 x5 x6 (fun _ _ => rfl) (ldw2 x5 _) (ldg2 x6 _) y z g0 (by show _ = 1024 * 2 + _; omega)
  · rw [pay12_eq]; exact tile7 x0 x2 _ _ 1 x1 x2 x3 x4 x5 x6 (fun _ _ => rfl) (ldw1 x5 _) (ldg1 x6 _) y z g0 (by show _ = 1024 * 1 + _; omega)
  · exact tile7 x0 x1 _ _ 0 x1 x2 x3 x4 x5 x6 (fun _ _ => rfl) (ldw0 x5 _) (ldg0 x6 _) y z g0 (by show _ = 1024 * 0 + _; omega)

theorem out_B_8 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S512x1024.Idx) :
    (out0_B_8 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = res8 (a := 512) x0 x5 x6 y := by
  unfold out0_B_8
  rw [View.read_writes_eq_canon _ _ _ (fun _ => cover0_B_8 (F := Ideal) ..)]
  unfold kernelRun0_B
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay28_eq]; exact tile8 x0 _ _ 3 x5 x6 (ldw3 x5 _) (ldg3 x6 _) y z g0 (by show _ = 256 * 3 + _; omega)
  · rw [pay21_eq]; exact tile8 x0 _ _ 2 x5 x6 (ldw2 x5 _) (ldg2 x6 _) y z g0 (by show _ = 256 * 2 + _; omega)
  · rw [pay14_eq]; exact tile8 x0 _ _ 1 x5 x6 (ldw1 x5 _) (ldg1 x6 _) y z g0 (by show _ = 256 * 1 + _; omega)
  · exact tile8 x0 _ _ 0 x5 x6 (ldw0 x5 _) (ldg0 x6 _) y z g0 (by show _ = 256 * 0 + _; omega)

theorem out_B_s (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S4x1024x256.Idx) :
    (sout0_B_0 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = HAdd.hAdd (α := EReal) (β := EReal) (γ := EReal) (xs0 y) (res9 (a := 512) x0 x1 x2 x3 x4 x6 y) := by
  unfold sout0_B_0
  rw [View.read_writes_eq_canon _ _ _ (fun _ => scover0_B_0 (F := Ideal) ..)]
  unfold kernelRun0_B
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay2_eq, pay29_eq]; exact tileB x0 x4 _ 3 x1 x2 x3 x4 x6 (fun _ _ => rfl) (ldg3 x6 _) xs0 _ (ldw3 xs0 _) y z (by show _ = 3 + _; omega) g1 g2
  · rw [pay24_eq, pay22_eq]; exact tileB x0 x3 _ 2 x1 x2 x3 x4 x6 (fun _ _ => rfl) (ldg2 x6 _) xs0 _ (ldw2 xs0 _) y z (by show _ = 2 + _; omega) g1 g2
  · rw [pay17_eq, pay15_eq]; exact tileB x0 x2 _ 1 x1 x2 x3 x4 x6 (fun _ _ => rfl) (ldg1 x6 _) xs0 _ (ldw1 xs0 _) y z (by show _ = 1 + _; omega) g1 g2
  · exact tileB x0 x1 _ 0 x1 x2 x3 x4 x6 (fun _ _ => rfl) (ldg0 x6 _) xs0 _ (ldw0 xs0 _) y z (by show _ = 0 + _; omega) g1 g2

theorem out_C_7 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S512x4096.Idx) :
    (out0_C_7 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = res7 (a := 512) x0 x1 x2 x3 x4 x5 x6 y := by
  unfold out0_C_7
  rw [View.read_writes_eq_canon _ _ _ (fun _ => cover0_C_7 (F := Ideal) ..)]
  unfold kernelRun0_C
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay26_eq]; exact tile7 x0 x4 _ _ 3 x1 x2 x3 x4 x5 x6 (fun _ _ => rfl) (ldw3 x5 _) (ldg3 x6 _) y z g0 (by show _ = 1024 * 3 + _; omega)
  · rw [pay19_eq]; exact tile7 x0 x3 _ _ 2 x1 x2 x3 x4 x5 x6 (fun _ _ => rfl) (ldw2 x5 _) (ldg2 x6 _) y z g0 (by show _ = 1024 * 2 + _; omega)
  · rw [pay12_eq]; exact tile7 x0 x2 _ _ 1 x1 x2 x3 x4 x5 x6 (fun _ _ => rfl) (ldw1 x5 _) (ldg1 x6 _) y z g0 (by show _ = 1024 * 1 + _; omega)
  · exact tile7 x0 x1 _ _ 0 x1 x2 x3 x4 x5 x6 (fun _ _ => rfl) (ldw0 x5 _) (ldg0 x6 _) y z g0 (by show _ = 1024 * 0 + _; omega)

theorem out_C_8 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S512x1024.Idx) :
    (out0_C_8 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = res8 (a := 512) x0 x5 x6 y := by
  unfold out0_C_8
  rw [View.read_writes_eq_canon _ _ _ (fun _ => cover0_C_8 (F := Ideal) ..)]
  unfold kernelRun0_C
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay28_eq]; exact tile8 x0 _ _ 3 x5 x6 (ldw3 x5 _) (ldg3 x6 _) y z g0 (by show _ = 256 * 3 + _; omega)
  · rw [pay21_eq]; exact tile8 x0 _ _ 2 x5 x6 (ldw2 x5 _) (ldg2 x6 _) y z g0 (by show _ = 256 * 2 + _; omega)
  · rw [pay14_eq]; exact tile8 x0 _ _ 1 x5 x6 (ldw1 x5 _) (ldg1 x6 _) y z g0 (by show _ = 256 * 1 + _; omega)
  · exact tile8 x0 _ _ 0 x5 x6 (ldw0 x5 _) (ldg0 x6 _) y z g0 (by show _ = 256 * 0 + _; omega)

theorem out_C_s (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S4x1024x256.Idx) :
    (sout0_C_0 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = HAdd.hAdd (α := EReal) (β := EReal) (γ := EReal) (xs0 y) (res9 (a := 512) x0 x1 x2 x3 x4 x6 y) := by
  unfold sout0_C_0
  rw [View.read_writes_eq_canon _ _ _ (fun _ => scover0_C_0 (F := Ideal) ..)]
  unfold kernelRun0_C
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  canon_tiles z g
  · rw [pay2_eq, pay29_eq]; exact tileB x0 x4 _ 3 x1 x2 x3 x4 x6 (fun _ _ => rfl) (ldg3 x6 _) xs0 _ (ldw3 xs0 _) y z (by show _ = 3 + _; omega) g1 g2
  · rw [pay24_eq, pay22_eq]; exact tileB x0 x3 _ 2 x1 x2 x3 x4 x6 (fun _ _ => rfl) (ldg2 x6 _) xs0 _ (ldw2 xs0 _) y z (by show _ = 2 + _; omega) g1 g2
  · rw [pay17_eq, pay15_eq]; exact tileB x0 x2 _ 1 x1 x2 x3 x4 x6 (fun _ _ => rfl) (ldg1 x6 _) xs0 _ (ldw1 xs0 _) y z (by show _ = 1 + _; omega) g1 g2
  · exact tileB x0 x1 _ 0 x1 x2 x3 x4 x6 (fun _ _ => rfl) (ldg0 x6 _) xs0 _ (ldw0 xs0 _) y z (by show _ = 0 + _; omega) g1 g2

theorem out_C_9 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : cond0_8 i) (x0 : Vec Ideal S512x1024 .f32) (x1 x2 x3 x4 : Vec Ideal S512x256 .bf16) (x5 : Vec Ideal S4x1024x256 .bf16) (x6 : Vec Ideal S512x4096 .bf16) (xs0 : Vec Ideal S4x1024x256 .f32) (y : S4x1024x256.Idx) :
    (out0_C_9 (F := Ideal) c i arg1 h1 arg2 h2 arg3 h3 arg4 h4 arg5 h5 arg6 h6 arg7 h7 arg8 h8 arg9 h9 arg10 h10 arg11 h11 hc0 hc1 hc2 hc3 hc4 hc5 hc6 hc7 hc8 x0 x1 x2 x3 x4 x5 x6 xs0 y : EReal) = HAdd.hAdd (α := EReal) (β := EReal) (γ := EReal) (xs0 y) (res9 (a := 512) x0 x1 x2 x3 x4 x6 y) := by
  unfold out0_C_9
  rw [View.read_writes_eq_canon _ _ _ (fun _ => cover0_C_9 (F := Ideal) ..)]
  unfold kernelRun0_C
  dsimp only
  try sl_unfold_words
  simp only [View.readAt_eq_ld, h1.read_unread, h2.read_unread, h3.read_unread, h4.read_unread, h5.read_unread, h6.read_unread, h7.read_unread, h11.read_unread, View.ld_unit_zero (S := S512x1024) hz, View.ld_unit_zero (S := S512x256) hz, shapeCast_self]
  rw [View.canon_unit_zero hz3]
  rw [pay3_eq, View.readCov_eq_canon_ld _ _ _ (fun y => View.cover_of_tiled_head _ _ _ (by rfl) y), View.ld_unit_zero (S := S4x1024x256) hz3]
  canon_tiles z g
  · rw [pay2_eq, pay29_eq]; exact tileB x0 x4 _ 3 x1 x2 x3 x4 x6 (fun _ _ => rfl) (ldg3 x6 _) xs0 _ (ldw3 xs0 _) y z (by show _ = 3 + _; omega) g1 g2
  · rw [pay24_eq, pay22_eq]; exact tileB x0 x3 _ 2 x1 x2 x3 x4 x6 (fun _ _ => rfl) (ldg2 x6 _) xs0 _ (ldw2 xs0 _) y z (by show _ = 2 + _; omega) g1 g2
  · rw [pay17_eq, pay15_eq]; exact tileB x0 x2 _ 1 x1 x2 x3 x4 x6 (fun _ _ => rfl) (ldg1 x6 _) xs0 _ (ldw1 xs0 _) y z (by show _ = 1 + _; omega) g1 g2
  · exact tileB x0 x1 _ 0 x1 x2 x3 x4 x6 (fun _ _ => rfl) (ldg0 x6 _) xs0 _ (ldw0 xs0 _) y z (by show _ = 0 + _; omega) g1 g2

end

/-- Row `i` of block `t`. -/
def tr (t : Fin cfg0.N) (i : Fin 512) : Fin 2048 := ⟨512 * t.val + i.val, by have := t.isLt; have : cfg0.N = 4 := N_0; omega⟩

/-- The branches of a block. -/
theorem bblk (c : Dev nD) (t : Fin cfg0.N) (i : Fin 512) (p : Fin 2048) (hp : p.val = 512 * t.val + i.val) (s : Fin 4) (k : Fin 256) :
    branch (a := 512) (iblk m c 1 t) (iblk m c 2 t) (iblk m c 3 t) (iblk m c 4 t) s (ix2 i k) = branch (m (c.tc.loc main_arg1)) (m (c.tc.loc main_arg2)) (m (c.tc.loc main_arg3)) (m (c.tc.loc main_arg4)) s (ix2 p k) :=
  branch_congr (a := 512) _ _ _ _ _ _ _ _ i p (fun k => blk1 m c t i k p k hp rfl) (fun k => blk2 m c t i k p k hp rfl) (fun k => blk3 m c t i k p k hp rfl) (fun k => blk4 m c t i k p k hp rfl) s k

theorem body7 (c : Dev nD) (t : Fin cfg0.N) (i : Fin 512) (l : Fin 4096) (p : Fin 2048) (hp : p.val = 512 * t.val + i.val) :
    res7 (a := 512) (iblk m c 0 t) (iblk m c 1 t) (iblk m c 2 t) (iblk m c 3 t) (iblk m c 4 t) (iblk m c 5 t) (iblk m c 6 t) (ix2 i l) = r7 m c (ix2 p l) :=
  dlog_congr (a := 512) _ _ _ _ _ _ _ _ _ _ _ _ _ _ i p (fun k => blk0 m c t i k p k hp rfl) (bblk m c t i p hp) (blk5 m c t) (fun k => blk6 m c t i k p k hp rfl) (gb l) (gp l)

theorem body8 (c : Dev nD) (t : Fin cfg0.N) (i : Fin 512) (l : Fin 1024) (p : Fin 2048) (hp : p.val = 512 * t.val + i.val) :
    res8 (a := 512) (iblk m c 0 t) (iblk m c 5 t) (iblk m c 6 t) (ix2 i l) = r8 m c (ix2 p l) :=
  dbr_congr (a := 512) _ _ _ _ _ _ i p (fun k => blk0 m c t i k p k hp rfl) (blk5 m c t) (fun k => blk6 m c t i k p k hp rfl) (bb l) (bp l)

/-- One row's part of the gradient of a weight. -/
def row9 (c : Dev nD) (x : S4x1024x256.Idx) (i : Fin 2048) : EReal := dup (m (c.tc.loc main_arg0)) (m (c.tc.loc main_arg6)) (x 0) i (x 1) * branch (m (c.tc.loc main_arg1)) (m (c.tc.loc main_arg2)) (m (c.tc.loc main_arg3)) (m (c.tc.loc main_arg4)) (x 0) (ix2 i (x 2))

theorem body9 (c : Dev nD) (t : Fin cfg0.N) (x : S4x1024x256.Idx) :
    res9 (a := 512) (iblk m c 0 t) (iblk m c 1 t) (iblk m c 2 t) (iblk m c 3 t) (iblk m c 4 t) (iblk m c 6 t) x = ∑ i : Fin 512, row9 m c x (tr t i) := by
  unfold res9 dwt row9
  exact Finset.sum_congr rfl fun i _ => congrArg₂ (fun a b : EReal => a * b)
    (dup_congr (a := 512) _ _ _ _ i (tr t i) (fun k => blk0 m c t i k (tr t i) k rfl rfl) (fun k => blk6 m c t i k (tr t i) k rfl rfl) (x 0) (x 1)) (bblk m c t i (tr t i) rfl (x 0) (x 2))

theorem out7 (c : Dev nD) (t : Fin cfg0.N) (i : Fin 512) (l : Fin 4096) (p : Fin 2048) (q : Fin 4096) (hp : p.val = 512 * t.val + i.val) (hq : q.val = l.val) :
    (outsAt0 m c t.val t.isLt).1 (ix2 i l) = r7 m c (ix2 p q) := by
  obtain rfl : q = l := Fin.ext hq
  have hN : cfg0.N = 4 := N_0
  have := t.isLt
  by_cases h : t.val = 0
  · rw [outsAt0_A m c t (by omega) (by omega) (by omega) (by omega) (by omega) (by omega) (by omega) (by omega) (by omega)]
    dsimp only
    rw [out_A_7]; exact body7 m c t i q p hp
  · by_cases h3 : t.val = 3
    · rw [outsAt0_C m c t (by omega) (by omega) (by omega) (by omega) (by omega) (by omega) (by omega) (by omega) (by omega)]
      dsimp only
      rw [out_C_7]; exact body7 m c t i q p hp
    · rw [outsAt0_B m c t (by omega) (by omega) (by omega) (by omega) (by omega) (by omega) (by omega) (by omega) (by omega)]
      dsimp only
      rw [out_B_7]; exact body7 m c t i q p hp

theorem out8 (c : Dev nD) (t : Fin cfg0.N) (i : Fin 512) (l : Fin 1024) (p : Fin 2048) (q : Fin 1024) (hp : p.val = 512 * t.val + i.val) (hq : q.val = l.val) :
    (outsAt0 m c t.val t.isLt).2.1 (ix2 i l) = r8 m c (ix2 p q) := by
  obtain rfl : q = l := Fin.ext hq
  have hN : cfg0.N = 4 := N_0
  have := t.isLt
  by_cases h : t.val = 0
  · rw [outsAt0_A m c t (by omega) (by omega) (by omega) (by omega) (by omega) (by omega) (by omega) (by omega) (by omega)]
    dsimp only
    rw [out_A_8]; exact body8 m c t i q p hp
  · by_cases h3 : t.val = 3
    · rw [outsAt0_C m c t (by omega) (by omega) (by omega) (by omega) (by omega) (by omega) (by omega) (by omega) (by omega)]
      dsimp only
      rw [out_C_8]; exact body8 m c t i q p hp
    · rw [outsAt0_B m c t (by omega) (by omega) (by omega) (by omega) (by omega) (by omega) (by omega) (by omega) (by omega)]
      dsimp only
      rw [out_B_8]; exact body8 m c t i q p hp

/-- The accumulated gradient of the weights after a point: the parts of the points so far. -/
theorem acc (c : Dev nD) (x : S4x1024x256.Idx) : ∀ (n : ℕ) (h : n < cfg0.N), (outsAt0 m c n h).2.2.2 x
    = ∑ s : Fin (n + 1), ∑ i : Fin 512, row9 m c x (tr ⟨s.val, by omega⟩ i)
  | 0, h => by
    rw [outsAt0_A m c ⟨0, h⟩ rfl (Nat.not_succ_le_zero 0) rfl (Nat.not_succ_le_zero 0) rfl (Nat.not_succ_le_zero 0) rfl (Nat.not_succ_le_zero 0) (by show ¬0 % 4 = 3; omega)]
    dsimp only
    rw [out_A_s, Fin.sum_univ_one]
    exact body9 m c ⟨0, h⟩ x
  | n + 1, h => by
    have hN : cfg0.N = 4 := N_0
    have hB : ¬(n + 1) % 4 = 0 := by omega
    have hl : 1 ≤ n + 1 := Nat.le_add_left 1 n
    by_cases h3 : (n + 1) % 4 = 3
    · rw [outsAt0_C m c ⟨n + 1, h⟩ hB hl hB hl hB hl hB hl h3]
      dsimp only
      rw [out_C_s, Fin.sum_univ_castSucc]
      show (outsAt0 m c n _).2.2.2 x + _ = _
      rw [acc c x n]
      exact congrArg _ (body9 m c ⟨n + 1, h⟩ x)
    · rw [outsAt0_B m c ⟨n + 1, h⟩ hB hl hB hl hB hl hB hl h3]
      dsimp only
      rw [out_B_s, Fin.sum_univ_castSucc]
      show (outsAt0 m c n _).2.2.2 x + _ = _
      rw [acc c x n]
      exact congrArg _ (body9 m c ⟨n + 1, h⟩ x)

/-- What the last point writes to the gradient of the weights. -/
theorem out9 (c : Dev nD) (x : S4x1024x256.Idx) (h : 3 < cfg0.N) : (outsAt0 m c 3 h).2.2.1 x
    = ∑ s : Fin 4, ∑ i : Fin 512, row9 m c x (tr ⟨s.val, by omega⟩ i) := by
  have hB : ¬3 % 4 = 0 := by omega
  have hl : 1 ≤ 3 := by omega
  rw [outsAt0_C m c ⟨3, h⟩ hB hl hB hl hB hl hB hl (by show 3 % 4 = 3; omega)]
  dsimp only
  rw [out_C_9, Fin.sum_univ_castSucc]
  show (outsAt0 m c 2 _).2.2.2 x + _ = _
  rw [acc m c x 2]
  exact congrArg _ (body9 m c ⟨3, h⟩ x)

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (Cert.Softmax.sum_split 4 512 2048 rfl f).symm

/-- What a grid point writes back to window 7. -/
theorem flushed7_eq (c : Dev nD) (t : Fin cfg0.N) : (dats m 0 c).flushed 7 t = ((cfg0.win 7).blk t).view.read (Elt Ideal) (r7 m c) := by
  rw [Value.flushed7]
  funext x
  rw [View.read_apply]
  obtain ⟨i, l, rfl⟩ := pair (n0 := 512) (n1 := 4096) x
  refine (out7 m c t i l ((((cfg0.win 7).blk t).view.emb (ix2 i l) : S2048x4096.Idx) 0) ((((cfg0.win 7).blk t).view.emb (ix2 i l) : S2048x4096.Idx) 1) ?_ ?_).trans (congrArg (r7 m c) (eta2 _).symm)
  · show win0_7.index t 0 * 512 + 1 * i.val = _; rw [(at7 t).1]; omega
  · show win0_7.index t 1 * 4096 + 1 * l.val = _; rw [(at7 t).2]; omega

/-- The array of window 7 at the end. -/
theorem final7 (c : Dev nD) : (dats m 0 c).arrAt 7 cfg0.N = r7 m c :=
  (dats m 0 c).arrAt_eq_of_cover 7 (r7 m c) (fun t _ => flushed7_eq m c t) fun i => by
    have h0 : (i 0 : Nat) < 2048 := (i 0).isLt
    have h1 : (i 1 : Nat) < 4096 := (i 1).isLt
    have hN : cfg0.N = 4 := N_0
    have ht : ((i 0 : Nat) / 512) < cfg0.N := by omega
    refine ⟨⟨((i 0 : Nat) / 512), ht⟩, flush0_7 _, ?_⟩
    show i ∈ ((View.whole main_v0_0).slice (win0_7.rect ⟨_, ht⟩)).set
    rw [View.set_slice_whole, Rect.mem_set_unit]
    intro a
    match a with
    | ⟨0, _⟩ => show win0_7.index ⟨_, ht⟩ 0 * 512 ≤ (i 0 : Nat) ∧ (i 0 : Nat) < win0_7.index ⟨_, ht⟩ 0 * 512 + 512
                rw [(at7 ⟨_, ht⟩).1]; try dsimp only
                omega
    | ⟨1, _⟩ => show win0_7.index ⟨_, ht⟩ 1 * 4096 ≤ (i 1 : Nat) ∧ (i 1 : Nat) < win0_7.index ⟨_, ht⟩ 1 * 4096 + 4096
                rw [(at7 ⟨_, ht⟩).2]; try dsimp only
                omega

/-- What a grid point writes back to window 8. -/
theorem flushed8_eq (c : Dev nD) (t : Fin cfg0.N) : (dats m 0 c).flushed 8 t = ((cfg0.win 8).blk t).view.read (Elt Ideal) (r8 m c) := by
  rw [Value.flushed8]
  funext x
  rw [View.read_apply]
  obtain ⟨i, l, rfl⟩ := pair (n0 := 512) (n1 := 1024) x
  refine (out8 m c t i l ((((cfg0.win 8).blk t).view.emb (ix2 i l) : S2048x1024.Idx) 0) ((((cfg0.win 8).blk t).view.emb (ix2 i l) : S2048x1024.Idx) 1) ?_ ?_).trans (congrArg (r8 m c) (eta2 _).symm)
  · show win0_8.index t 0 * 512 + 1 * i.val = _; rw [(at8 t).1]; omega
  · show win0_8.index t 1 * 1024 + 1 * l.val = _; rw [(at8 t).2]; omega

/-- The array of window 8 at the end. -/
theorem final8 (c : Dev nD) : (dats m 0 c).arrAt 8 cfg0.N = r8 m c :=
  (dats m 0 c).arrAt_eq_of_cover 8 (r8 m c) (fun t _ => flushed8_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_8 _, ?_⟩
    show i ∈ ((View.whole main_v0_1).slice (win0_8.rect ⟨_, ht⟩)).set
    rw [View.set_slice_whole, Rect.mem_set_unit]
    intro a
    match a with
    | ⟨0, _⟩ => show win0_8.index ⟨_, ht⟩ 0 * 512 ≤ (i 0 : Nat) ∧ (i 0 : Nat) < win0_8.index ⟨_, ht⟩ 0 * 512 + 512
                rw [(at8 ⟨_, ht⟩).1]; try dsimp only
                omega
    | ⟨1, _⟩ => show win0_8.index ⟨_, ht⟩ 1 * 1024 ≤ (i 1 : Nat) ∧ (i 1 : Nat) < win0_8.index ⟨_, ht⟩ 1 * 1024 + 1024
                rw [(at8 ⟨_, ht⟩).2]; try dsimp only
                omega

theorem flushed9_eq (c : Dev nD) (t : Fin cfg0.N) (hf : (cfg0.win 9).flush t = true) : (dats m 0 c).flushed 9 t = ((cfg0.win 9).blk t).view.read (Elt Ideal) (r9 m c) := by
  have hN : cfg0.N = 4 := N_0
  have h3 : t.val = 3 := by have := (flush0_9 t).mp hf; have := t.isLt; omega
  obtain ⟨n, hn⟩ := t
  obtain rfl : n = 3 := h3
  rw [Value.flushed9]
  have hz' : (fun a => win0_9.index ⟨3, hn⟩ a * main_v0_2.ty.shape.size a) = fun _ => 0 := funext fun a => by
    match a with
    | ⟨0, _⟩ => show win0_9.index ⟨3, hn⟩ 0 * _ = 0; rw [(at9 ⟨3, hn⟩).1, Nat.zero_mul]
    | ⟨1, _⟩ => show win0_9.index ⟨3, hn⟩ 1 * _ = 0; rw [(at9 ⟨3, hn⟩).2.1, Nat.zero_mul]
    | ⟨2, _⟩ => show win0_9.index ⟨3, hn⟩ 2 * _ = 0; rw [(at9 ⟨3, hn⟩).2.2, Nat.zero_mul]
  refine Eq.trans ?_ (Memref.read_access_unit_zero (Elt Ideal) main_v0_2 hz' (fun a => by rw [congrFun hz' a]; simp) (r9 m c)).symm
  funext x
  refine (out9 m c x hn).trans ?_
  exact sum_points (row9 m c x)

/-- The array of the weights' gradient at the end. -/
theorem final9 (c : Dev nD) : (dats m 0 c).arrAt 9 cfg0.N = r9 m c :=
  (dats m 0 c).arrAt_eq_of_cover 9 (r9 m c) (flushed9_eq m c) fun i => by
    have h0 : (i 0 : Nat) < 4 := (i 0).isLt
    have h1 : (i 1 : Nat) < 1024 := (i 1).isLt
    have h2 : (i 2 : Nat) < 256 := (i 2).isLt
    have hN : cfg0.N = 4 := N_0
    let t : Fin cfg0.N := ⟨3, by omega⟩
    refine ⟨t, (flush0_9 t).mpr rfl, ?_⟩
    show i ∈ ((View.whole main_v0_2).slice (win0_9.rect t)).set
    rw [View.set_slice_whole, Rect.mem_set_unit]
    intro a
    match a with
    | ⟨0, _⟩ => show win0_9.index t 0 * 4 ≤ (i 0 : Nat) ∧ (i 0 : Nat) < win0_9.index t 0 * 4 + 4
                rw [(at9 t).1]; omega
    | ⟨1, _⟩ => show win0_9.index t 1 * 1024 ≤ (i 1 : Nat) ∧ (i 1 : Nat) < win0_9.index t 1 * 1024 + 1024
                rw [(at9 t).2.1]; omega
    | ⟨2, _⟩ => show win0_9.index t 2 * 256 ≤ (i 2 : Nat) ∧ (i 2 : Nat) < win0_9.index t 2 * 256 + 256
                rw [(at9 t).2.2]; omega

section
open Cert.MergeBwdRefIdeal.Read
variable (x0 : Mat 2048 1024) (x1 x2 x3 x4 : Mat 2048 256) (x5 : Wts 1024 256) (x6 : Mat 2048 4096)

/-- The reference's stacked branches. -/
theorem stacked (i : Fin 2048) (s : Fin 4) (k : Fin 256) : val_main_v8 (F := Ideal) x1 x2 x3 x4 (ix3 i s k) = branch x1 x2 x3 x4 s (ix2 i k) := by
  unfold val_main_v8
  refine (stack4 ![val_main_v4 (F := Ideal) x1, val_main_v5 (F := Ideal) x2, val_main_v6 (F := Ideal) x3, val_main_v7 (F := Ideal) x4] _ i s k).trans ?_
  match s with
  | ⟨0, _⟩ => show val_main_v4 (F := Ideal) x1 (ix3 i 0 k) = x1 (ix2 i k); rw [val_main_v4_apply, val_main_v0_apply]; exact congrArg x1 (funext fun a => match a with | ⟨0, _⟩ => rfl | ⟨1, _⟩ => rfl)
  | ⟨1, _⟩ => show val_main_v5 (F := Ideal) x2 (ix3 i 0 k) = x2 (ix2 i k); rw [val_main_v5_apply, val_main_v1_apply]; exact congrArg x2 (funext fun a => match a with | ⟨0, _⟩ => rfl | ⟨1, _⟩ => rfl)
  | ⟨2, _⟩ => show val_main_v6 (F := Ideal) x3 (ix3 i 0 k) = x3 (ix2 i k); rw [val_main_v6_apply, val_main_v2_apply]; exact congrArg x3 (funext fun a => match a with | ⟨0, _⟩ => rfl | ⟨1, _⟩ => rfl)
  | ⟨3, _⟩ => show val_main_v7 (F := Ideal) x4 (ix3 i 0 k) = x4 (ix2 i k); rw [val_main_v7_apply, val_main_v3_apply]; exact congrArg x4 (funext fun a => match a with | ⟨0, _⟩ => rfl | ⟨1, _⟩ => rfl)

/-- The reference's weights. -/
theorem weights (s : Fin 4) (k : Fin 256) (j : Fin 1024) : val_main_v10 (F := Ideal) x5 (ix3 s k j) = x5 (ix3 s j k) := by
  rw [val_main_v10_apply, val_main_v9_apply]
  exact congrArg x5 (funext fun a => match a with | ⟨0, _⟩ => rfl | ⟨1, _⟩ => rfl | ⟨2, _⟩ => rfl)

/-- The reference's gates. -/
theorem gates (i : Fin 2048) (c : Fin 4096) : val_main_v19 (F := Ideal) x6 (ix2 i c) = logi (x6 (ix2 i c)) := by
  rw [val_main_v19_apply, val_main_v18_apply, val_main_v17_apply, val_main_v16_apply, val_main_v15_apply, val_main_v14_apply, val_main_v11_apply, val_main_cst_apply, val_main_cst_0_apply]
  exact logi_ref _

/-- The reference's gradient of a branch's projection. -/
theorem ref_dup (s : Fin 4) (j : Fin 1024) (i : Fin 2048) : val_main_v31 (F := Ideal) x0 x6 (ix3 s j i) = dup x0 x6 s i j := by
  rw [val_main_v31_apply]
  have e : idx_main_v31 (ix3 s j i) = ix3 i s j := (funext fun a => match a with | ⟨0, _⟩ => rfl | ⟨1, _⟩ => rfl | ⟨2, _⟩ => rfl)
  rw [e, val_main_v27_apply, val_main_v23_apply, val_main_v26_apply]
  have e23 : idx_main_v23 (ix3 i s j) = ix2 i (col s j) := funext fun a => match a with
    | ⟨0, _⟩ => Fin.ext (by show ((i.val * 4 + s.val) * 1024 + j.val) / 4096 = i.val; omega)
    | ⟨1, _⟩ => Fin.ext (by show ((i.val * 4 + s.val) * 1024 + j.val) % 4096 = 1024 * s.val + j.val; omega)
  rw [e23, gates]
  refine (mul_comm _ _).trans ?_
  unfold dup
  exact congrArg (fun z : EReal => z * logi (x6 (ix2 i (col s j)))) (congrArg x0 (funext fun a => match a with | ⟨0, _⟩ => rfl | ⟨1, _⟩ => rfl))

theorem ref7 : val_main_v36 (F := Ideal) x0 x1 x2 x3 x4 x5 x6 = res7 x0 x1 x2 x3 x4 x5 x6 := by
  funext x
  obtain ⟨i, c, rfl⟩ := pair (n0 := 2048) (n1 := 4096) x
  rw [val_main_v36_apply, val_main_v30_apply, val_main_v29_apply]
  have e29 : idx_main_v29 (ix2 i c) = ix3 i (gb c) (gp c) := funext fun a => match a with
    | ⟨0, _⟩ => Fin.ext (by show (i.val * 4096 + c.val) / 4096 = i.val; omega)
    | ⟨1, _⟩ => Fin.ext (by show (i.val * 4096 + c.val) / 1024 % 4 = c.val / 1024; omega)
    | ⟨2, _⟩ => Fin.ext (by show (i.val * 4096 + c.val) % 1024 = c.val % 1024; omega)
  rw [e29, val_main_v28_apply, val_main_v26_apply, val_main_v13_apply, val_main_v12_apply, val_main_v22_apply, val_main_v21_apply, val_main_v20_apply, val_main_cst_1_apply, gates]
  show _ = dlog x0 x1 x2 x3 x4 x5 x6 (gb c) i (gp c)
  unfold dlog
  rw [col_gb]
  have e1 : (FloatOps.ofBits (F := Ideal) .f32 0x3F800000#32 : EReal) = 1 := Ideal.ofBits_one_f32
  rw [e1]
  refine congrArg₂ (fun a b : EReal => a * b * (logi (x6 (ix2 i c)) * (1 - logi (x6 (ix2 i c))))) (congrArg x0 (funext fun a => match a with | ⟨0, _⟩ => rfl | ⟨1, _⟩ => rfl)) (Finset.sum_congr rfl fun k _ => ?_)
  have ew : lidx_main_v12 (idx_main_v13 (ix3 i (gb c) (gp c))) k = ix3 (gb c) k (gp c) := (funext fun a => match a with | ⟨0, _⟩ => rfl | ⟨1, _⟩ => rfl | ⟨2, _⟩ => rfl)
  have eb : ridx_main_v12 (idx_main_v13 (ix3 i (gb c) (gp c))) k = ix3 i (gb c) k := (funext fun a => match a with | ⟨0, _⟩ => rfl | ⟨1, _⟩ => rfl | ⟨2, _⟩ => rfl)
  rw [ew, eb, weights, stacked]
  exact mul_comm _ _

theorem ref8 : val_main_v37 (F := Ideal) x0 x5 x6 = res8 x0 x5 x6 := by
  funext x
  obtain ⟨i, c, rfl⟩ := pair (n0 := 2048) (n1 := 1024) x
  rw [val_main_v37_apply]
  have e : idx_main_v37 (ix2 i c) = ix3 i (bb c) (bp c) := funext fun a => match a with
    | ⟨0, _⟩ => Fin.ext (by show (i.val * 1024 + c.val) / 1024 = i.val; omega)
    | ⟨1, _⟩ => Fin.ext (by show (i.val * 1024 + c.val) / 256 % 4 = c.val / 256; omega)
    | ⟨2, _⟩ => Fin.ext (by show (i.val * 1024 + c.val) % 256 = c.val % 256; omega)
  rw [e, val_main_v33_apply, val_main_v32_apply]
  show _ = dbr x0 x5 x6 (bb c) i (bp c)
  unfold dbr
  refine Finset.sum_congr rfl fun j _ => ?_
  have el : lidx_main_v32 (idx_main_v33 (ix3 i (bb c) (bp c))) j = ix3 (bb c) j i := (funext fun a => match a with | ⟨0, _⟩ => rfl | ⟨1, _⟩ => rfl | ⟨2, _⟩ => rfl)
  have er : ridx_main_v32 (idx_main_v33 (ix3 i (bb c) (bp c))) j = ix3 (bb c) (bp c) j := (funext fun a => match a with | ⟨0, _⟩ => rfl | ⟨1, _⟩ => rfl | ⟨2, _⟩ => rfl)
  rw [el, er, ref_dup, weights]

theorem ref9 : val_main_v39 (F := Ideal) x0 x1 x2 x3 x4 x6 = res9 x0 x1 x2 x3 x4 x6 := by
  funext x
  obtain ⟨s, j, k, rfl⟩ := triple (n0 := 4) (n1 := 1024) (n2 := 256) x
  rw [val_main_v39_apply, val_main_v38_apply, val_main_v35_apply, val_main_v34_apply]
  show _ = dwt x0 x1 x2 x3 x4 x6 s j k
  unfold dwt
  refine Finset.sum_congr rfl fun i _ => ?_
  have el : lidx_main_v34 (idx_main_v35 (idx_main_v38 (ix3 s j k))) i = ix3 s j i := (funext fun a => match a with | ⟨0, _⟩ => rfl | ⟨1, _⟩ => rfl | ⟨2, _⟩ => rfl)
  have er : ridx_main_v34 (idx_main_v35 (idx_main_v38 (ix3 s j k))) i = ix3 i s k := (funext fun a => match a with | ⟨0, _⟩ => rfl | ⟨1, _⟩ => rfl | ⟨2, _⟩ => rfl)
  rw [el, er, ref_dup, stacked]

end

end Cert.MergeBwdIdeal.Pay

namespace Cert.MergeBwdClaims

open Idealize.ShloMosaic Idealize.ShloMosaic.TcCoe Idealize.SL.Sem Cert.Tiles Cert.MergeBwdIdeal.Pay

attribute [local instance] Cert.MergeBwd.Gen.facts Cert.MergeBwdIdeal.Gen.facts Cert.MergeBwdRefIdeal.Gen.facts

/-- The kernel runs, keeps its arguments and ends quiescent. -/
theorem frameP : Cert.quiescent_MergeBwd := fun m ρ _ => Cert.MergeBwd.Gen.frame m ρ

/-- … and so does it at the ideal numbers. -/
theorem framePI : Cert.quiescent_MergeBwdIdeal := fun m ρ _ => Cert.MergeBwdIdeal.Gen.frame m ρ

/-- The reference runs, keeps its arguments and ends quiescent. -/
theorem frameRI : Cert.quiescent_MergeBwdRefIdeal := fun m ρ _ =>
  (θ_run Cert.MergeBwdRefIdeal.defs _ _).mono (fun r h => ⟨fun c => (h c).2.2.2,
      Idealize.ShloMosaic.sem_eq_zero_of_no_sems (by decide) r.2⟩) (Cert.MergeBwdRefIdeal.Value.run (F := Ideal) m ρ)

/-- Kernel and reference compute the same results. -/
theorem algebraic : Cert.algebraic_MergeBwdIdeal_MergeBwdRefIdeal := by
  intro m ρ m' ρ' hpre hag
  refine ⟨fun c => r7 m c, fun c => r8 m c, fun c => r9 m c, ?_, ?_⟩
  · exact (θ_run Cert.MergeBwdIdeal.defs _ _).mono (fun r h c => ⟨((h c).1).trans (final7 m c), ((h c).2.1).trans (final8 m c), ((h c).2.2.1).trans (final9 m c), (h c).2.2.2⟩) (Cert.MergeBwdIdeal.Value.run_blocks m ρ)
  · refine (θ_run Cert.MergeBwdRefIdeal.defs _ _).mono (fun r h c => ?_) (Cert.MergeBwdRefIdeal.Value.run (F := Ideal) m' ρ')
    obtain ⟨g0, g1, g2, g3, g4, g5, g6⟩ := hag c
    refine ⟨((h c).1).trans ?_, ((h c).2.1).trans ?_, ((h c).2.2.1).trans ?_, (h c).2.2.2⟩ <;> clear h
    · rw [Cert.MergeBwdRefIdeal.Read.val_main_v36_eq]
      try rw [g0]
      try rw [g1]
      try rw [g2]
      try rw [g3]
      try rw [g4]
      try rw [g5]
      try rw [g6]
      exact ref7 _ _ _ _ _ _ _
    · rw [Cert.MergeBwdRefIdeal.Read.val_main_v37_eq]
      try rw [g0]
      try rw [g1]
      try rw [g2]
      try rw [g3]
      try rw [g4]
      try rw [g5]
      try rw [g6]
      exact ref8 _ _ _
    · rw [Cert.MergeBwdRefIdeal.Read.val_main_v39_eq]
      try rw [g0]
      try rw [g1]
      try rw [g2]
      try rw [g3]
      try rw [g4]
      try rw [g5]
      try rw [g6]
      exact ref9 _ _ _ _ _ _

end Cert.MergeBwdClaims

end
-- ==== Proof.PreRealFfn.lean ====
/-
  What the precondition says at the ideal numbers: every entry of the cotangent, of the weights and of the second factor is a real number.
-/
module

public import proofs.«01_k».proof.Pre_real_ffn
public import proofs.«01_k».proof.Proof.Reals

@[expose] public section

set_option maxRecDepth 16384

noncomputable section

namespace Cert.PreRealFfn

open Idealize.ShloMosaic Cert.Reals
open Cert.PreReal (all_real top_bits)

/-- The shape relations the predicate's operations take. -/
theorem facts : Cert.Pre_real_ffn.Facts where
  bitsLt_bf16_f32 := by decide
  bcast_S_S2048x1024 := by decide
  reducesTo_S2048x1024_S_d0_1 := by decide
  h_S_ := by decide
  bcast_S_S2816x1024 := by decide
  reducesTo_S2816x1024_S_d0_1 := by decide
  bcast_S_S2048x2816 := by decide
  reducesTo_S2048x2816_S_d0_1 := by decide

/-- Where the precondition holds, the arrays it names are real. -/
theorem real [Cert.Pre_real_ffn.Facts] (a0 : FVec Ideal Cert.Pre_real_ffn.S2048x1024 .bf16) (a1 : FVec Ideal Cert.Pre_real_ffn.S2816x1024 .bf16) (a2 : FVec Ideal Cert.Pre_real_ffn.S2048x2816 .bf16) (a3 : FVec Ideal Cert.Pre_real_ffn.S2048x2816 .bf16) (h : Cert.Pre_real_ffn.fn a0 a1 a2 a3 = fun _ => 1#1) :
    (∀ i, Real' (a0 i)) ∧ (∀ i, Real' (a1 i)) ∧ (∀ i, Real' (a3 i)) := by
  unfold Cert.Pre_real_ffn.fn at h
  try unfold Cert.Pre_real_ffn.fn_part1 at h
  dsimp only at h
  obtain ⟨h, e3⟩ := and_bits h
  obtain ⟨h, e1⟩ := and_bits h
  have e0 := h
  exact ⟨all_real a0 _ _ _ _ _ (fun _ => rfl) (fun _ => top_bits) e0, all_real a1 _ _ _ _ _ (fun _ => rfl) (fun _ => top_bits) e1, all_real a3 _ _ _ _ _ (fun _ => rfl) (fun _ => top_bits) e3⟩

end Cert.PreRealFfn

end
-- ==== Proof.FfnOutBwd.lean ====
/-
  The feed-forward's output gradient: the gradients of its two factors.
-/
module

public import proofs.«01_k».proof.Defs
public import proofs.«01_k».proof.Proof.Tiles
public import proofs.«01_k».proof.Proof.Swish
public import proofs.«01_k».proof.Proof.PreRealFfn
public import proofs.«01_k».proof.Proof.Gen.FfnOutBwd.Frame
public import proofs.«01_k».proof.Proof.Gen.FfnOutBwdIdeal.Value
public import proofs.«01_k».proof.Proof.Gen.FfnOutBwdRefIdeal.Read
public import proofs.«01_k».proof.Proof.Gen.FfnOutBwdRefIdeal.Run
public import Idealize.ShloMosaic.Lib.Tactic

@[expose] public section

set_option maxRecDepth 16384

noncomputable section

namespace Cert.FfnOutBwdIdeal.Pay

open Idealize.ShloMosaic Idealize.ShloMosaic.TcCoe Idealize.SL.Sem Cert.FfnOutBwdIdeal Cert.FfnOutBwdIdeal.Gen Cert.Tiles
open Idealize.ShloMosaic.Pipeline (Dat)

variable (m : (ℓ : Loc nD τ sig) → Buf (Elt Ideal) ℓ)

open Cert.Swish Cert.Reals

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 256) (l : Fin 1024) (p : Fin 2816) (q : Fin 1024) (hp : p.val = 256 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 256 + 1 * i.val = p.val; rw [(at1 t).1]; omega
  · show win0_1.index t 1 * 1024 + 1 * l.val = q.val; rw [(at1 t).2]; omega

theorem at2 : ∀ t : Fin grid0.N, win0_2.index t 0 = 0 ∧ win0_2.index t 1 = t.val := by decide +kernel

/-- An element of a block of window 2 is the array's. -/
theorem blk2 (c : Dev nD) (t : Fin cfg0.N) (i : Fin 2048) (l : Fin 256) (p : Fin 2048) (q : Fin 2816) (hp : p.val = i.val) (hq : q.val = 256 * (t.val) + l.val) :
    (iblk m c 2 t (ix2 i l) : EReal) = m (c.tc.loc main_arg2) (ix2 p q) := by
  refine congrArg (m (c.tc.loc main_arg2)) (ext2 ?_ ?_)
  · show win0_2.index t 0 * 2048 + 1 * i.val = p.val; rw [(at2 t).1]; omega
  · show win0_2.index t 1 * 256 + 1 * l.val = q.val; rw [(at2 t).2]; omega

theorem at3 : ∀ t : Fin grid0.N, win0_3.index t 0 = 0 ∧ win0_3.index t 1 = t.val := by decide +kernel

/-- An element of a block of window 3 is the array's. -/
theorem blk3 (c : Dev nD) (t : Fin cfg0.N) (i : Fin 2048) (l : Fin 256) (p : Fin 2048) (q : Fin 2816) (hp : p.val = i.val) (hq : q.val = 256 * (t.val) + l.val) :
    (iblk m c 3 t (ix2 i l) : EReal) = m (c.tc.loc main_arg3) (ix2 p q) := by
  refine congrArg (m (c.tc.loc main_arg3)) (ext2 ?_ ?_)
  · show win0_3.index t 0 * 2048 + 1 * i.val = p.val; rw [(at3 t).1]; omega
  · show win0_3.index t 1 * 256 + 1 * l.val = q.val; rw [(at3 t).2]; omega

theorem at4 : ∀ t : Fin grid0.N, win0_4.index t 0 = 0 ∧ win0_4.index t 1 = t.val := by decide +kernel

theorem at5 : ∀ t : Fin grid0.N, win0_5.index t 0 = 0 ∧ win0_5.index t 1 = t.val := by decide +kernel

/-- The gradient of the product of the two factors. -/
def dy (x0 : Mat 2048 1024) (x1 : Mat 2816 1024) : Mat 2048 2816 := mulTB (k := 1024) x0 x1
/-- The gradient of the first factor's argument. -/
def res4 (x0 : Mat 2048 1024) (x1 : Mat 2816 1024) (x2 x3 : Mat 2048 2816) : Mat 2048 2816 := fun i => dy x0 x1 i * x3 i * (logi (x2 i) * (1 + x2 i * (1 - logi (x2 i))))
/-- The gradient of the second factor. -/
def res5 (x0 : Mat 2048 1024) (x1 : Mat 2816 1024) (x2 x3 : Mat 2048 2816) : Mat 2048 2816 := fun i => dy x0 x1 i * (x2 i * logi (x2 i))

/-- The kernel's result in window 4. -/
def r4 (c : Dev nD) : Mat 2048 2816 := res4 (m (c.tc.loc main_arg0)) (m (c.tc.loc main_arg1)) (m (c.tc.loc main_arg2)) (m (c.tc.loc main_arg3))

/-- The kernel's result in window 5. -/
def r5 (c : Dev nD) : Mat 2048 2816 := res5 (m (c.tc.loc main_arg0)) (m (c.tc.loc main_arg1)) (m (c.tc.loc main_arg2)) (m (c.tc.loc main_arg3))

/-- A block's product. -/
theorem prod0 (c : Dev nD) (t : Fin cfg0.N) (i : Fin 2048) (l : Fin 256) (p : Fin 2048) (q : Fin 2816) (hp : p.val = i.val) (hq : q.val = 256 * t.val + l.val) :
    k0_pay1 (F := Ideal) (iblk m c 0 t) (iblk m c 1 t) (ix2 i l) = dy (m (c.tc.loc main_arg0)) (m (c.tc.loc main_arg1)) (ix2 p q) := by
  have ea : ∀ k : Fin 1024, (iblk m c 0 t (ix2 i k) : EReal) = m (c.tc.loc main_arg0) (ix2 p k) := fun k => blk0 m c t i k p k hp rfl
  have eb : ∀ k : Fin 1024, (iblk m c 1 t (ix2 l k) : EReal) = m (c.tc.loc main_arg1) (ix2 q k) := fun k => blk1 m c t l k q k hq rfl
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- A block's logistic function. -/
theorem logi0 (a : FVec Ideal S2048x256 .bf16) (i : Fin 2048) (l : Fin 256) : k0_pay3 (F := Ideal) a (ix2 i l) = logi (a (ix2 i l)) := logi_kernel _

theorem out4 (c : Dev nD) (t : Fin cfg0.N) (i : Fin 2048) (l : Fin 256) (p : Fin 2048) (q : Fin 2816) (hp : p.val = i.val) (hq : q.val = 256 * t.val + l.val) :
    out0_4 (iblk m c 0 t) (iblk m c 1 t) (iblk m c 2 t) (iblk m c 3 t) (ix2 i l) = r4 m c (ix2 p q) := by
  unfold out0_4
  rw [View.canon_unit_zero hz]
  simp only [View.ld_unit_zero (S := S2048x1024) hz, View.ld_unit_zero (S := S256x1024) hz, View.ld_unit_zero (S := S2048x256) hz]
  have e2 : (iblk m c 2 t (ix2 i l) : EReal) = m (c.tc.loc main_arg2) (ix2 p q) := blk2 m c t i l p q hp hq
  have e3 : (iblk m c 3 t (ix2 i l) : EReal) = m (c.tc.loc main_arg3) (ix2 p q) := blk3 m c t i l p q hp hq
  refine Eq.trans ?_ (congrArg₂ (fun d z : EReal => d * z) (congrArg₂ (fun a b : EReal => a * b) (prod0 m c t i l p q hp hq) e3) (congrArg (fun a : EReal => logi a * (1 + a * (1 - logi a))) e2))
  unfold k0_pay4
  have hl := logi0 (iblk m c 2 t) i l
  show k0_pay1 (F := Ideal) _ _ (ix2 i l) * _ * (k0_pay3 (F := Ideal) _ (ix2 i l) * (Ideal.ofBits .f32 0x3F800000#32 + _ * (Ideal.ofBits .f32 0x3F800000#32 - k0_pay3 (F := Ideal) _ (ix2 i l)))) = _
  rw [hl, Ideal.ofBits_one_f32]
  rfl

theorem out5 (c : Dev nD) (t : Fin cfg0.N) (i : Fin 2048) (l : Fin 256) (p : Fin 2048) (q : Fin 2816) (hp : p.val = i.val) (hq : q.val = 256 * t.val + l.val) :
    out0_5 (iblk m c 0 t) (iblk m c 1 t) (iblk m c 2 t) (iblk m c 3 t) (ix2 i l) = r5 m c (ix2 p q) := by
  unfold out0_5
  rw [View.canon_unit_zero hz]
  simp only [View.ld_unit_zero (S := S2048x1024) hz, View.ld_unit_zero (S := S256x1024) hz, View.ld_unit_zero (S := S2048x256) hz]
  have e2 : (iblk m c 2 t (ix2 i l) : EReal) = m (c.tc.loc main_arg2) (ix2 p q) := blk2 m c t i l p q hp hq
  refine Eq.trans ?_ (congrArg₂ (fun d z : EReal => d * z) (prod0 m c t i l p q hp hq) (congrArg (fun a : EReal => a * logi a) e2))
  unfold k0_pay5
  have hl := logi0 (iblk m c 2 t) i l
  show k0_pay1 (F := Ideal) _ _ (ix2 i l) * (_ * k0_pay3 (F := Ideal) _ (ix2 i l)) = _
  rw [hl]
  rfl

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 2048) (n1 := 256) x
  refine (out4 m c t i l ((((cfg0.win 4).blk t).view.emb (ix2 i l) : S2048x2816.Idx) 0) ((((cfg0.win 4).blk t).view.emb (ix2 i l) : S2048x2816.Idx) 1) ?_ ?_).trans (congrArg (r4 m c) (eta2 _).symm)
  · show win0_4.index t 0 * 2048 + 1 * i.val = _; rw [(at4 t).1]; omega
  · show win0_4.index t 1 * 256 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 2048 := (i 0).isLt
    have h1 : (i 1 : Nat) < 2816 := (i 1).isLt
    have hN : cfg0.N = 11 := N_0
    have ht : ((i 1 : Nat) / 256) < cfg0.N := by omega
    refine ⟨⟨((i 1 : Nat) / 256), ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 2048 ≤ (i 0 : Nat) ∧ (i 0 : Nat) < win0_4.index ⟨_, ht⟩ 0 * 2048 + 2048
                rw [(at4 ⟨_, ht⟩).1]; try dsimp only
                omega
    | ⟨1, _⟩ => show win0_4.index ⟨_, ht⟩ 1 * 256 ≤ (i 1 : Nat) ∧ (i 1 : Nat) < win0_4.index ⟨_, ht⟩ 1 * 256 + 256
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 2048) (n1 := 256) x
  refine (out5 m c t i l ((((cfg0.win 5).blk t).view.emb (ix2 i l) : S2048x2816.Idx) 0) ((((cfg0.win 5).blk t).view.emb (ix2 i l) : S2048x2816.Idx) 1) ?_ ?_).trans (congrArg (r5 m c) (eta2 _).symm)
  · show win0_5.index t 0 * 2048 + 1 * i.val = _; rw [(at5 t).1]; omega
  · show win0_5.index t 1 * 256 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 2048 := (i 0).isLt
    have h1 : (i 1 : Nat) < 2816 := (i 1).isLt
    have hN : cfg0.N = 11 := N_0
    have ht : ((i 1 : Nat) / 256) < cfg0.N := by omega
    refine ⟨⟨((i 1 : Nat) / 256), ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 2048 ≤ (i 0 : Nat) ∧ (i 0 : Nat) < win0_5.index ⟨_, ht⟩ 0 * 2048 + 2048
                rw [(at5 ⟨_, ht⟩).1]; try dsimp only
                omega
    | ⟨1, _⟩ => show win0_5.index ⟨_, ht⟩ 1 * 256 ≤ (i 1 : Nat) ∧ (i 1 : Nat) < win0_5.index ⟨_, ht⟩ 1 * 256 + 256
                rw [(at5 ⟨_, ht⟩).2]; try dsimp only
                omega

section
open Cert.FfnOutBwdRefIdeal.Read
variable (x0 : Mat 2048 1024) (x1 : Mat 2816 1024) (x2 x3 : Mat 2048 2816)

theorem g16 (i : Fin 2048) (j : Fin 2816) : val_main_v16 (F := Ideal) x0 x1 (ix2 i j) = dy x0 x1 (ix2 i j) := by
  rw [val_main_v16_apply]
  unfold dy
  refine Finset.sum_congr rfl fun k _ => ?_
  rw [val_main_v15_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem g8 (i : Fin 2048) (j : Fin 2816) : val_main_v8 (F := Ideal) x2 (ix2 i j) = logi (x2 (ix2 i j)) := by
  rw [val_main_v8_apply, val_main_v7_apply, val_main_v6_apply, val_main_v5_apply, val_main_v4_apply, val_main_v3_apply, val_main_v1_apply, val_main_cst_apply, val_main_cst_0_apply]
  exact logi_ref (x2 (ix2 i j))

theorem ref5 : val_main_v24 (F := Ideal) x0 x1 x2 = res5 x0 x1 x2 x3 := by
  funext x
  obtain ⟨i, j, rfl⟩ := pair (n0 := 2048) (n1 := 2816) x
  rw [val_main_v24_apply, val_main_v17_apply, val_main_v12_apply, val_main_v1_apply, g8, g16]
  exact mul_comm (x2 (ix2 i j) * logi (x2 (ix2 i j))) (dy x0 x1 (ix2 i j))

variable (h0 : ∀ i, Real' (x0 i)) (h1 : ∀ i, Real' (x1 i)) (h3 : ∀ i, Real' (x3 i))
include h0 h1 h3

theorem ref4 : val_main_v23 (F := Ideal) x0 x1 x2 x3 = res4 x0 x1 x2 x3 := by
  funext x
  obtain ⟨i, j, rfl⟩ := pair (n0 := 2048) (n1 := 2816) x
  rw [val_main_v23_apply, val_main_v22_apply, val_main_v21_apply, val_main_v20_apply, val_main_v19_apply, val_main_v18_apply, val_main_v11_apply, val_main_v10_apply, val_main_v9_apply,
    val_main_v2_apply, val_main_v1_apply, g8, g16, val_main_cst_1_apply]
  have hu : Real' (dy x0 x1 (ix2 i j) * x3 (ix2 i j)) := (Real'.sum _ fun k => (h0 _).mul (h1 _)).mul (h3 _)
  have ho : (FloatOps.ofBits (F := Ideal) .f32 0x3F800000#32 : EReal) = 1 := Ideal.ofBits_one_f32
  rw [ho]
  exact (swish_grad _ hu (x2 (ix2 i j))).symm

end

end Cert.FfnOutBwdIdeal.Pay

namespace Cert.FfnOutBwdClaims

open Idealize.ShloMosaic Idealize.ShloMosaic.TcCoe Idealize.SL.Sem Cert.Tiles Cert.FfnOutBwdIdeal.Pay

attribute [local instance] Cert.FfnOutBwd.Gen.facts Cert.FfnOutBwdIdeal.Gen.facts Cert.FfnOutBwdRefIdeal.Gen.facts Cert.PreRealFfn.facts

/-- The kernel runs, keeps its arguments and ends quiescent. -/
theorem frameP : Cert.quiescent_FfnOutBwd := fun m ρ _ => Cert.FfnOutBwd.Gen.frame m ρ

/-- … and so does it at the ideal numbers. -/
theorem framePI : Cert.quiescent_FfnOutBwdIdeal := fun m ρ _ => Cert.FfnOutBwdIdeal.Gen.frame m ρ

/-- The reference runs, keeps its arguments and ends quiescent. -/
theorem frameRI : Cert.quiescent_FfnOutBwdRefIdeal := fun m ρ _ =>
  (θ_run Cert.FfnOutBwdRefIdeal.defs _ _).mono (fun r h => ⟨fun c => (h c).2.2,
      Idealize.ShloMosaic.sem_eq_zero_of_no_sems (by decide) r.2⟩) (Cert.FfnOutBwdRefIdeal.Value.run (F := Ideal) m ρ)

theorem framePIpre : Cert.quiescent_FfnOutBwdIdeal_pre_real_ffn := fun m ρ _ => Cert.FfnOutBwdIdeal.Gen.frame m ρ

theorem frameRIpre : Cert.quiescent_FfnOutBwdRefIdeal_pre_real_ffn := fun m ρ _ => frameRI m ρ trivial

/-- Kernel and reference compute the same results. -/
theorem algebraic : Cert.algebraic_FfnOutBwdIdeal_FfnOutBwdRefIdeal_pre_real_ffn := by
  intro m ρ m' ρ' hpre hag
  refine ⟨fun c => r4 m c, fun c => r5 m c, ?_, ?_⟩
  · exact (θ_run Cert.FfnOutBwdIdeal.defs _ _).mono (fun r h c => ⟨((h c).1).trans (final4 m c), ((h c).2.1).trans (final5 m c), (h c).2.2⟩) (Cert.FfnOutBwdIdeal.Value.run_blocks m ρ)
  · refine (θ_run Cert.FfnOutBwdRefIdeal.defs _ _).mono (fun r h c => ?_) (Cert.FfnOutBwdRefIdeal.Value.run (F := Ideal) m' ρ')
    obtain ⟨g0, g1, g2, g3⟩ := hag c
    obtain ⟨h0, h1, h3⟩ := Cert.PreRealFfn.real _ _ _ _ (hpre c)
    refine ⟨((h c).1).trans ?_, ((h c).2.1).trans ?_, (h c).2.2⟩ <;> clear h
    · rw [Cert.FfnOutBwdRefIdeal.Read.val_main_v23_eq]
      try rw [g0]
      try rw [g1]
      try rw [g2]
      try rw [g3]
      exact ref4 _ _ _ _ h0 h1 h3
    · rw [Cert.FfnOutBwdRefIdeal.Read.val_main_v24_eq]
      try rw [g0]
      try rw [g1]
      try rw [g2]
      try rw [g3]
      exact ref5 _ _ _ _

end Cert.FfnOutBwdClaims

end
-- ==== Proof.RowNorm.lean ====
/-
  The root-mean-square normalisation of rows of 1024 columns.
-/
module

public import proofs.«01_k».proof.Proof.Tiles

@[expose] public section

noncomputable section

namespace Cert.RowNorm

open Idealize.ShloMosaic Cert.Tiles

/-- The mean of a row's squares, plus the norm's ε. -/
def ms {a : ℕ} (y : Mat a 1024) (i : Fin a) : EReal :=
  Ideal.div (∑ k : Fin 1024, y (ix2 i k) * y (ix2 i k)) (Ideal.ofBits .f32 0x44800000#32) + Ideal.ofBits .f32 0x358637BD#32

/-- The normalised rows, scaled by a gain. -/
def rmsNorm {a : ℕ} (y : Mat a 1024) (g : Mat 1 1024) : Mat a 1024 := fun i => y i * Ideal.rsqrt (ms y (i 0)) * g (ix2 0 (i 1))

end Cert.RowNorm

end
-- ==== Proof.RowNormGrad.lean ====
/-
  The gradient of a root-mean-square norm, as the kernels compute it and as the reference's derivative does: for real
  arguments the two agree.
-/
module

public import proofs.«01_k».proof.Proof.RowNorm
public import proofs.«01_k».proof.Proof.Reals
public import Mathlib.Tactic.FieldSimp
public import Mathlib.Tactic.Ring
public import Mathlib.Tactic.Positivity

@[expose] public section

noncomputable section

namespace Cert.RowNorm

open Idealize.ShloMosaic Cert.Tiles Cert.Reals

/-- A row's gradient, before the residual is added. -/
def rowGrad {a : ℕ} (dp x : Mat a 1024) (g : Mat 1 1024) (i : Fin a) (j : Fin 1024) : EReal :=
  Ideal.rsqrt (ms x i) * (dp (ix2 i j) * g (ix2 0 j) - x (ix2 i j) * Ideal.rsqrt (ms x i) * Ideal.div (∑ k : Fin 1024, dp (ix2 i k) * g (ix2 0 k) * (x (ix2 i k) * Ideal.rsqrt (ms x i))) (Ideal.ofBits .f32 0x44800000#32))

/-- The rows' gradients added to a residual. -/
def normGrad {a : ℕ} (dp x : Mat a 1024) (g : Mat 1 1024) (res : Mat a 1024) : Mat a 1024 := fun i => res i + rowGrad dp x g (i 0) (i 1)

/-- A row's part of the gain's gradient. -/
def gainPart {a : ℕ} (dp x : Mat a 1024) (i : Fin a) (j : Fin 1024) : EReal := dp (ix2 i j) * (x (ix2 i j) * Ideal.rsqrt (ms x i))

/-- The gain's gradient. -/
def gainGrad {a : ℕ} (dp x : Mat a 1024) : Mat 1 1024 := fun j => ∑ i : Fin a, gainPart dp x i (j 1)

/-- A row's mean square is its own. -/
theorem ms_congr {a b : ℕ} (x : Mat a 1024) (x' : Mat b 1024) (i : Fin a) (i' : Fin b) (hx : ∀ k, x (ix2 i k) = x' (ix2 i' k)) : ms x i = ms x' i' := by
  unfold ms
  simp only [hx]

/-- A row's gradient is its own. -/
theorem rowGrad_congr {a b : ℕ} (dp x : Mat a 1024) (g : Mat 1 1024) (dp' x' : Mat b 1024) (g' : Mat 1 1024) (i : Fin a) (i' : Fin b) (j : Fin 1024)
    (hd : ∀ k, dp (ix2 i k) = dp' (ix2 i' k)) (hx : ∀ k, x (ix2 i k) = x' (ix2 i' k)) (hg : ∀ k, g (ix2 0 k) = g' (ix2 0 k)) : rowGrad dp x g i j = rowGrad dp' x' g' i' j := by
  unfold rowGrad
  rw [ms_congr x x' i i' hx]
  simp only [hd, hx, hg]

/-- … and so is its part of the gain's gradient. -/
theorem gainPart_congr {a b : ℕ} (dp x : Mat a 1024) (dp' x' : Mat b 1024) (i : Fin a) (i' : Fin b) (j : Fin 1024)
    (hd : ∀ k, dp (ix2 i k) = dp' (ix2 i' k)) (hx : ∀ k, x (ix2 i k) = x' (ix2 i' k)) : gainPart dp x i j = gainPart dp' x' i' j := by
  unfold gainPart
  rw [ms_congr x x' i i' hx, hd, hx]

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, rfl⟩
  simp [Ideal.ofBits, Ideal.ieee]
  try norm_num

theorem ofBits_neg_half : Ideal.ofBits .f32 0xBF000000#32 = ((-(1 / 2) : ℝ) : EReal) := by
  simp [Ideal.ofBits, Ideal.ieee, -EReal.coe_mul, -EReal.coe_neg]; norm_num

/-- The mean square of a real row, with the norm's ε, is real and positive. -/
theorem ms_real {a : ℕ} (x : Mat a 1024) (hx : ∀ i, Real' (x i)) (i : Fin a) : ∃ s : ℝ, 0 < s ∧ ms x i = (s : EReal) := by
  obtain ⟨e, he, h⟩ := ofBits_eps
  choose y hy using fun k : Fin 1024 => hx (ix2 i k)
  refine ⟨(∑ k, y k * y k) * (1 / 1024) + e, add_pos_of_nonneg_of_pos (mul_nonneg (Finset.sum_nonneg fun k _ => mul_self_nonneg _) (by norm_num)) he, ?_⟩
  unfold ms
  rw [ofBits_1024, h, Ideal.div_coe (by norm_num)]
  have e : (∑ k : Fin 1024, x (ix2 i k) * x (ix2 i k)) = ((∑ k, y k * y k : ℝ) : EReal) := by
    rw [← coe_sum]
    exact Finset.sum_congr rfl fun k _ => by rw [hy k, EReal.coe_mul]
  rw [e, ← EReal.coe_mul, ← EReal.coe_add]

/-- The reference's derivative of a row is the kernels'. -/
theorem rowGrad_ref {a : ℕ} (dp x : Mat a 1024) (g : Mat 1 1024) (res : EReal) (hd : ∀ i, Real' (dp i)) (hx : ∀ i, Real' (x i)) (hg : ∀ i, Real' (g i)) (i : Fin a) (j : Fin 1024) :
    (res + dp (ix2 i j) * g (ix2 0 j) * Ideal.rsqrt (ms x i)
        + x (ix2 i j) * Ideal.div ((∑ k : Fin 1024, x (ix2 i k) * (dp (ix2 i k) * g (ix2 0 k))) * (Ideal.ofBits .f32 0xBF000000#32 * Ideal.div (Ideal.rsqrt (ms x i)) (ms x i))) (Ideal.ofBits .f32 0x44800000#32))
      + Ideal.div ((∑ k : Fin 1024, x (ix2 i k) * (dp (ix2 i k) * g (ix2 0 k))) * (Ideal.ofBits .f32 0xBF000000#32 * Ideal.div (Ideal.rsqrt (ms x i)) (ms x i))) (Ideal.ofBits .f32 0x44800000#32) * x (ix2 i j)
      = res + rowGrad dp x g i j := by
  obtain ⟨s, hs, hms⟩ := ms_real x hx i
  choose y hy using fun k : Fin 1024 => hx (ix2 i k)
  choose d hd using fun k : Fin 1024 => hd (ix2 i k)
  choose w hw using fun k : Fin 1024 => hg (ix2 0 k)
  have e1 : (∑ k : Fin 1024, x (ix2 i k) * (dp (ix2 i k) * g (ix2 0 k))) = ((∑ k, y k * (d k * w k) : ℝ) : EReal) := by
    rw [← coe_sum]
    exact Finset.sum_congr rfl fun k _ => by rw [hy k, hd k, hw k, EReal.coe_mul, EReal.coe_mul]
  have hq : (√s)⁻¹ * (√s)⁻¹ = 1 / s := by rw [← mul_inv, Real.mul_self_sqrt hs.le, one_div]
  unfold rowGrad
  rw [hms, Ideal.rsqrt_coe, if_neg (not_lt.mpr hs.le), if_neg hs.ne', ofBits_1024, ofBits_neg_half]
  generalize (√s)⁻¹ = r at hq
  have e2 : (∑ k : Fin 1024, dp (ix2 i k) * g (ix2 0 k) * (x (ix2 i k) * (r : EReal))) = (((∑ k, y k * (d k * w k)) * r : ℝ) : EReal) := by
    rw [Finset.sum_mul, ← coe_sum]
    refine Finset.sum_congr rfl fun k _ => ?_
    rw [hy k, hd k, hw k, ← EReal.coe_mul, ← EReal.coe_mul, ← EReal.coe_mul]
    exact congrArg _ (by ring)
  rw [e1, e2, hy j, hd j, hw j]
  generalize (∑ k, y k * (d k * w k)) = S
  rw [Ideal.div_coe hs.ne', Ideal.div_coe (by norm_num), Ideal.div_coe (by norm_num), add_assoc, add_assoc]
  refine congrArg (fun z : EReal => res + z) ?_
  simp only [← EReal.coe_mul, ← EReal.coe_add, ← EReal.coe_sub]
  refine congrArg _ ?_
  rw [← hq]
  ring

end Cert.RowNorm

end
-- ==== Proof.PreRealNorm.lean ====
/-
  What the precondition says at the ideal numbers: every entry of the product, of the gradient before the norm, of its input and of its gain is a real number.
-/
module

public import proofs.«01_k».proof.Pre_real_norm
public import proofs.«01_k».proof.Proof.Reals

@[expose] public section

set_option maxRecDepth 16384

noncomputable section

namespace Cert.PreRealNorm

open Idealize.ShloMosaic Cert.Reals
open Cert.PreReal (all_real top_bits)

/-- The shape relations the predicate's operations take. -/
theorem facts : Cert.Pre_real_norm.Facts where
  bitsLt_bf16_f32 := by decide
  bcast_S_S2048x4096 := by decide
  reducesTo_S2048x4096_S_d0_1 := by decide
  h_S_ := by decide
  bcast_S_S4096x1024 := by decide
  reducesTo_S4096x1024_S_d0_1 := by decide
  bcast_S_S2048x1024 := by decide
  reducesTo_S2048x1024_S_d0_1 := by decide
  bcast_S_S1x1024 := by decide
  reducesTo_S1x1024_S_d0_1 := by decide

/-- Where the precondition holds, the arrays it names are real. -/
theorem real [Cert.Pre_real_norm.Facts] (a0 : FVec Ideal Cert.Pre_real_norm.S2048x4096 .bf16) (a1 : FVec Ideal Cert.Pre_real_norm.S4096x1024 .bf16) (a2 : FVec Ideal Cert.Pre_real_norm.S2048x1024 .f32) (a3 : FVec Ideal Cert.Pre_real_norm.S2048x1024 .f32) (a4 : FVec Ideal Cert.Pre_real_norm.S1x1024 .f32) (a5 : FVec Ideal Cert.Pre_real_norm.S2048x1024 .f32) (h : Cert.Pre_real_norm.fn a0 a1 a2 a3 a4 a5 = fun _ => 1#1) :
    (∀ i, Real' (a0 i)) ∧ (∀ i, Real' (a1 i)) ∧ (∀ i, Real' (a2 i)) ∧ (∀ i, Real' (a3 i)) ∧ (∀ i, Real' (a4 i)) := by
  unfold Cert.Pre_real_norm.fn at h
  try unfold Cert.Pre_real_norm.fn_part1 at h
  dsimp only at h
  obtain ⟨h, e4⟩ := and_bits h
  obtain ⟨h, e3⟩ := and_bits h
  obtain ⟨h, e2⟩ := and_bits h
  obtain ⟨h, e1⟩ := and_bits h
  have e0 := h
  exact ⟨all_real a0 _ _ _ _ _ (fun _ => rfl) (fun _ => top_bits) e0, all_real a1 _ _ _ _ _ (fun _ => rfl) (fun _ => top_bits) e1, all_real a2 _ _ _ _ _ (fun _ => rfl) (fun _ => top_bits) e2, all_real a3 _ _ _ _ _ (fun _ => rfl) (fun _ => top_bits) e3, all_real a4 _ _ _ _ _ (fun _ => rfl) (fun _ => top_bits) e4⟩

end Cert.PreRealNorm

end
-- ==== Proof.GateDx.lean ====
/-
  The gradient through the gates' projection, the norm before it, and the residual.
-/
module

public import proofs.«01_k».proof.Defs
public import proofs.«01_k».proof.Proof.Tiles
public import proofs.«01_k».proof.Proof.RowNormGrad
public import proofs.«01_k».proof.Proof.Softmax
public import proofs.«01_k».proof.Proof.PreRealNorm
public import proofs.«01_k».proof.Proof.Gen.GateDx.Frame
public import proofs.«01_k».proof.Proof.Gen.GateDxIdeal.Value
public import proofs.«01_k».proof.Proof.Gen.GateDxRefIdeal.Read
public import proofs.«01_k».proof.Proof.Gen.GateDxRefIdeal.Run
public import Idealize.ShloMosaic.Lib.Tactic

@[expose] public section

set_option maxRecDepth 16384

noncomputable section

namespace Cert.GateDxIdeal.Pay

open Idealize.ShloMosaic Idealize.ShloMosaic.TcCoe Idealize.SL.Sem Cert.GateDxIdeal Cert.GateDxIdeal.Gen Cert.Tiles
open Idealize.ShloMosaic.Pipeline (Dat)

variable (m : (ℓ : Loc nD τ sig) → Buf (Elt Ideal) ℓ)

open Cert.RowNorm Cert.Reals

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 4096) (p : Fin 2048) (q : Fin 4096) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 4096 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 4096) (l : Fin 1024) (p : Fin 4096) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 4096 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 512) (l : Fin 1024) (p : Fin 2048) (q : Fin 1024) (hp : p.val = 512 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 512 + 1 * i.val = p.val; rw [(at2 t).1]; omega
  · show win0_2.index t 1 * 1024 + 1 * l.val = q.val; rw [(at2 t).2]; omega

theorem at3 : ∀ t : Fin grid0.N, win0_3.index t 0 = t.val ∧ win0_3.index t 1 = 0 := by decide +kernel

/-- An element of a block of window 3 is the array's. -/
theorem blk3 (c : Dev nD) (t : Fin cfg0.N) (i : Fin 512) (l : Fin 1024) (p : Fin 2048) (q : Fin 1024) (hp : p.val = 512 * (t.val) + i.val) (hq : q.val = l.val) :
    (iblk m c 3 t (ix2 i l) : EReal) = m (c.tc.loc main_arg3) (ix2 p q) := by
  refine congrArg (m (c.tc.loc main_arg3)) (ext2 ?_ ?_)
  · show win0_3.index t 0 * 512 + 1 * i.val = p.val; rw [(at3 t).1]; omega
  · show win0_3.index t 1 * 1024 + 1 * l.val = q.val; rw [(at3 t).2]; omega

theorem at4 : ∀ t : Fin grid0.N, win0_4.index t 0 = 0 ∧ win0_4.index t 1 = 0 := by decide +kernel

/-- An element of a block of window 4 is the array's. -/
theorem blk4 (c : Dev nD) (t : Fin cfg0.N) (i : Fin 1) (l : Fin 1024) (p : Fin 1) (q : Fin 1024) (hp : p.val = i.val) (hq : q.val = l.val) :
    (iblk m c 4 t (ix2 i l) : EReal) = m (c.tc.loc main_arg4) (ix2 p q) := by
  refine congrArg (m (c.tc.loc main_arg4)) (ext2 ?_ ?_)
  · show win0_4.index t 0 * 1 + 1 * i.val = p.val; rw [(at4 t).1]; omega
  · show win0_4.index t 1 * 1024 + 1 * l.val = q.val; rw [(at4 t).2]; omega

theorem at5 : ∀ t : Fin grid0.N, win0_5.index t 0 = t.val ∧ win0_5.index t 1 = 0 := by decide +kernel

/-- An element of a block of window 5 is the array's. -/
theorem blk5 (c : Dev nD) (t : Fin cfg0.N) (i : Fin 512) (l : Fin 1024) (p : Fin 2048) (q : Fin 1024) (hp : p.val = 512 * (t.val) + i.val) (hq : q.val = l.val) :
    (iblk m c 5 t (ix2 i l) : EReal) = m (c.tc.loc main_arg5) (ix2 p q) := by
  refine congrArg (m (c.tc.loc main_arg5)) (ext2 ?_ ?_)
  · show win0_5.index t 0 * 512 + 1 * i.val = p.val; rw [(at5 t).1]; omega
  · show win0_5.index t 1 * 1024 + 1 * l.val = q.val; rw [(at5 t).2]; omega

theorem at6 : ∀ t : Fin grid0.N, win0_6.index t 0 = t.val ∧ win0_6.index t 1 = 0 := by decide +kernel

theorem at7 : ∀ t : Fin grid0.N, win0_7.index t 0 = t.val ∧ win0_7.index t 1 = 0 := by decide +kernel

theorem at8 : ∀ t : Fin grid0.N, win0_8.index t 0 = 0 ∧ win0_8.index t 1 = 0 := by decide +kernel

/-- The gradient of the norm's result: the product's, added to what came before. -/
def dN (x0 : Mat 2048 4096) (x1 : Mat 4096 1024) (x2 : Mat 2048 1024) : Mat 2048 1024 := plus (mul (k := 4096) x0 x1) x2
/-- The gradient of the norm's argument, added to the residual. -/
def res6 (x0 : Mat 2048 4096) (x1 : Mat 4096 1024) (x2 x3 : Mat 2048 1024) (x4 : Mat 1 1024) (x5 : Mat 2048 1024) : Mat 2048 1024 := normGrad (dN x0 x1 x2) x3 x4 x5
def res7 (x0 : Mat 2048 4096) (x1 : Mat 4096 1024) (x2 x3 : Mat 2048 1024) (x4 : Mat 1 1024) (x5 : Mat 2048 1024) : Mat 2048 1024 := normGrad (dN x0 x1 x2) x3 x4 x5
/-- The gradient of the norm's gain. -/
def res8 (x0 : Mat 2048 4096) (x1 : Mat 4096 1024) (x2 x3 : Mat 2048 1024) : Mat 1 1024 := gainGrad (dN x0 x1 x2) x3

/-- The kernel's results. -/
def r6 (c : Dev nD) : Mat 2048 1024 := res6 (m (c.tc.loc main_arg0)) (m (c.tc.loc main_arg1)) (m (c.tc.loc main_arg2)) (m (c.tc.loc main_arg3)) (m (c.tc.loc main_arg4)) (m (c.tc.loc main_arg5))
def r7 (c : Dev nD) : Mat 2048 1024 := res7 (m (c.tc.loc main_arg0)) (m (c.tc.loc main_arg1)) (m (c.tc.loc main_arg2)) (m (c.tc.loc main_arg3)) (m (c.tc.loc main_arg4)) (m (c.tc.loc main_arg5))
def r8 (c : Dev nD) : Mat 1 1024 := res8 (m (c.tc.loc main_arg0)) (m (c.tc.loc main_arg1)) (m (c.tc.loc main_arg2)) (m (c.tc.loc main_arg3))

section
variable (y0 : Vec Ideal S512x4096 .bf16) (y1 : Vec Ideal S4096x1024 .bf16) (y2 y3 : Vec Ideal S512x1024 .f32) (y4 : Vec Ideal S1x1024 .f32) (y5 : Vec Ideal S512x1024 .f32)

theorem pay3 (i : Fin 512) (l : Fin 1024) : (k0_pay3 (F := Ideal) y0 y1 y2 (ix2 i l) : EReal) = plus (mul (k := 4096) (y0 : Mat 512 4096) (y1 : Mat 4096 1024)) y2 (ix2 i l) := by
  unfold plus mul
  pointwise [k0_pay3]

theorem pay4 (i : Fin 512) : (k0_pay4 (F := Ideal) y3 (ix2 i 0) : EReal) = Ideal.rsqrt (ms (y3 : Mat 512 1024) i) := by
  unfold ms
  pointwise [k0_pay4]

theorem pay5 (i : Fin 512) (l : Fin 1024) : (k0_pay5 (F := Ideal) y3 (ix2 i l) : EReal) = (y3 (ix2 i l) : EReal) * Ideal.rsqrt (ms (y3 : Mat 512 1024) i) := by
  rw [← pay4 y3 i]
  unfold k0_pay5
  generalize k0_pay4 (F := Ideal) y3 = r
  pointwise

/-- A block's rows. -/
theorem pay6 (i : Fin 512) (l : Fin 1024) :
    (k0_pay6 (F := Ideal) y0 y1 y2 y3 y4 y5 (ix2 i l) : EReal) = normGrad (plus (mul (k := 4096) (y0 : Mat 512 4096) (y1 : Mat 4096 1024)) y2) y3 y4 y5 (ix2 i l) := by
  have h3 : (k0_pay3 (F := Ideal) y0 y1 y2 : Mat 512 1024) = plus (mul (k := 4096) (y0 : Mat 512 4096) (y1 : Mat 4096 1024)) y2 := funext fun x => by
    obtain ⟨i, l, rfl⟩ := pair (n0 := 512) (n1 := 1024) x
    exact pay3 y0 y1 y2 i l
  have h5 := pay5 y3
  have h4 := pay4 y3
  unfold normGrad rowGrad
  rw [← h3]
  show _ = (y5 (ix2 i l) : EReal) + Ideal.rsqrt (ms (y3 : Mat 512 1024) i) * ((k0_pay3 (F := Ideal) y0 y1 y2 : Mat 512 1024) (ix2 i l) * y4 (ix2 0 l) - (y3 : Mat 512 1024) (ix2 i l) * Ideal.rsqrt (ms (y3 : Mat 512 1024) i)
    * Ideal.div (∑ k : Fin 1024, (k0_pay3 (F := Ideal) y0 y1 y2 : Mat 512 1024) (ix2 i k) * y4 (ix2 0 k) * ((y3 : Mat 512 1024) (ix2 i k) * Ideal.rsqrt (ms (y3 : Mat 512 1024) i))) (Ideal.ofBits .f32 0x44800000#32))
  unfold k0_pay6
  generalize k0_pay3 (F := Ideal) y0 y1 y2 = d at h3 ⊢
  generalize k0_pay5 (F := Ideal) y3 = xh at h5 ⊢
  generalize k0_pay4 (F := Ideal) y3 = r at h4 ⊢
  pointwise
  simp only [h5, h4]

/-- A block's part of the gain's gradient. -/
theorem pay1 (l : Fin 1024) :
    (k0_pay1 (F := Ideal) (k0_pay8 (F := Ideal) y0 y1 y2 y3) (ix2 0 l) : EReal) = ∑ i : Fin 512, gainPart (plus (mul (k := 4096) (y0 : Mat 512 4096) (y1 : Mat 4096 1024)) y2) y3 i l := by
  have h : (k0_pay1 (F := Ideal) (k0_pay8 (F := Ideal) y0 y1 y2 y3) (ix2 0 l) : EReal) = ∑ i : Fin 512, (k0_pay8 (F := Ideal) y0 y1 y2 y3 (ix2 i l) : EReal) := by
    generalize k0_pay8 (F := Ideal) y0 y1 y2 y3 = z
    pointwise [k0_pay1]
  rw [h]
  refine Finset.sum_congr rfl fun i _ => ?_
  unfold gainPart k0_pay8
  rw [← pay3, ← pay5]
  rfl

end

section
variable (c : Dev nD) (i : grid0.Coords) (arg1 : Memref sig .tc .vmem S512x4096 .bf16) (h1 : arg1.IsWhole) (arg2 : Memref sig .tc .vmem S4096x1024 .bf16) (h2 : arg2.IsWhole) (arg3 : Memref sig .tc .vmem S512x1024 .f32) (h3 : arg3.IsWhole) (arg4 : Memref sig .tc .vmem S512x1024 .f32) (h4 : arg4.IsWhole) (arg5 : Memref sig .tc .vmem S1x1024 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S512x1024 .bf16) (h8 : arg8.IsWhole) (arg9 : Memref sig .tc .vmem S1x1024 .f32) (h9 : arg9.IsWhole)

theorem out_A_6 (hc0 : cond0_0 i) (hc1 : ¬cond0_1 i) (x0 : Vec Ideal S512x4096 .bf16) (x1 : Vec Ideal S4096x1024 .bf16) (x2 x3 : Vec Ideal S512x1024 .f32) (x4 : Vec Ideal S1x1024 .f32) (x5 : Vec Ideal S512x1024 .f32) :
    out0_A_6 (F := Ideal) c i arg1 h1 arg2 h2 arg3 h3 arg4 h4 arg5 h5 arg6 h6 arg7 h7 arg8 h8 arg9 h9 hc0 hc1 x0 x1 x2 x3 x4 x5 = k0_pay6 (F := Ideal) x0 x1 x2 x3 x4 x5 := by
  unfold out0_A_6
  rw [View.read_writes_eq_canon _ _ _ (fun _ => cover0_A_6 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

theorem out_A_7 (hc0 : cond0_0 i) (hc1 : ¬cond0_1 i) (x0 : Vec Ideal S512x4096 .bf16) (x1 : Vec Ideal S4096x1024 .bf16) (x2 x3 : Vec Ideal S512x1024 .f32) (x4 : Vec Ideal S1x1024 .f32) (x5 : Vec Ideal S512x1024 .f32) :
    out0_A_7 (F := Ideal) c i arg1 h1 arg2 h2 arg3 h3 arg4 h4 arg5 h5 arg6 h6 arg7 h7 arg8 h8 arg9 h9 hc0 hc1 x0 x1 x2 x3 x4 x5 = k0_pay7 (F := Ideal) x0 x1 x2 x3 x4 x5 := by
  unfold out0_A_7
  rw [View.read_writes_eq_canon _ _ _ (fun _ => cover0_A_7 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

theorem out_A_8 (hc0 : cond0_0 i) (hc1 : ¬cond0_1 i) (x0 : Vec Ideal S512x4096 .bf16) (x1 : Vec Ideal S4096x1024 .bf16) (x2 x3 : Vec Ideal S512x1024 .f32) (x4 : Vec Ideal S1x1024 .f32) (x5 : Vec Ideal S512x1024 .f32) :
    out0_A_8 (F := Ideal) c i arg1 h1 arg2 h2 arg3 h3 arg4 h4 arg5 h5 arg6 h6 arg7 h7 arg8 h8 arg9 h9 hc0 hc1 x0 x1 x2 x3 x4 x5 = k0_pay1 (F := Ideal) (k0_pay8 (F := Ideal) x0 x1 x2 x3) := by
  unfold out0_A_8
  rw [View.read_writes_eq_canon _ _ _ (fun _ => cover0_A_8 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

theorem out_B_6 (hc0 : ¬cond0_0 i) (hc1 : cond0_1 i) (x0 : Vec Ideal S512x4096 .bf16) (x1 : Vec Ideal S4096x1024 .bf16) (x2 x3 : Vec Ideal S512x1024 .f32) (x4 : Vec Ideal S1x1024 .f32) (x5 : Vec Ideal S512x1024 .f32) (xo8 : Vec Ideal S1x1024 .f32) :
    out0_B_6 (F := Ideal) c i arg1 h1 arg2 h2 arg3 h3 arg4 h4 arg5 h5 arg6 h6 arg7 h7 arg8 h8 arg9 h9 hc0 hc1 x0 x1 x2 x3 x4 x5 xo8 = k0_pay6 (F := Ideal) x0 x1 x2 x3 x4 x5 := by
  unfold out0_B_6
  rw [View.read_writes_eq_canon _ _ _ (fun _ => cover0_B_6 (F := Ideal) ..)]
  unfold kernelRun0_B
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

theorem out_B_7 (hc0 : ¬cond0_0 i) (hc1 : cond0_1 i) (x0 : Vec Ideal S512x4096 .bf16) (x1 : Vec Ideal S4096x1024 .bf16) (x2 x3 : Vec Ideal S512x1024 .f32) (x4 : Vec Ideal S1x1024 .f32) (x5 : Vec Ideal S512x1024 .f32) (xo8 : Vec Ideal S1x1024 .f32) :
    out0_B_7 (F := Ideal) c i arg1 h1 arg2 h2 arg3 h3 arg4 h4 arg5 h5 arg6 h6 arg7 h7 arg8 h8 arg9 h9 hc0 hc1 x0 x1 x2 x3 x4 x5 xo8 = k0_pay7 (F := Ideal) x0 x1 x2 x3 x4 x5 := by
  unfold out0_B_7
  rw [View.read_writes_eq_canon _ _ _ (fun _ => cover0_B_7 (F := Ideal) ..)]
  unfold kernelRun0_B
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

theorem out_B_8 (hc0 : ¬cond0_0 i) (hc1 : cond0_1 i) (x0 : Vec Ideal S512x4096 .bf16) (x1 : Vec Ideal S4096x1024 .bf16) (x2 x3 : Vec Ideal S512x1024 .f32) (x4 : Vec Ideal S1x1024 .f32) (x5 : Vec Ideal S512x1024 .f32) (xo8 : Vec Ideal S1x1024 .f32) :
    out0_B_8 (F := Ideal) c i arg1 h1 arg2 h2 arg3 h3 arg4 h4 arg5 h5 arg6 h6 arg7 h7 arg8 h8 arg9 h9 hc0 hc1 x0 x1 x2 x3 x4 x5 xo8 = addf xo8 (k0_pay1 (F := Ideal) (k0_pay8 (F := Ideal) x0 x1 x2 x3)) := by
  unfold out0_B_8
  rw [View.read_writes_eq_canon _ _ _ (fun _ => cover0_B_8 (F := Ideal) ..)]
  unfold kernelRun0_B
  dsimp only
  rw [View.canon_unit_zero hz]
  unfold k0_pay2
  try sl_unfold_words
  simp only [View.readAt_eq_ld, h1.read_unread, h2.read_unread, h3.read_unread, h4.read_unread, h5.read_unread, h6.read_unread, h9.read_unread, View.ld_unit_zero (S := S512x4096) hz, View.ld_unit_zero (S := S4096x1024) hz, View.ld_unit_zero (S := S512x1024) hz, View.ld_unit_zero (S := S1x1024) hz, shapeCast_self]
  try rfl

end

/-- Row `i` of block `t`. -/
def tr (t : Fin cfg0.N) (i : Fin 512) : Fin 2048 := ⟨512 * t.val + i.val, by have := t.isLt; have : cfg0.N = 4 := N_0; omega⟩

/-- A block of the norm result's gradient. -/
theorem dblk (c : Dev nD) (t : Fin cfg0.N) (i : Fin 512) (l : Fin 1024) (p : Fin 2048) (hp : p.val = 512 * t.val + i.val) :
    plus (mul (k := 4096) (iblk m c 0 t : Mat 512 4096) (iblk m c 1 t : Mat 4096 1024)) (iblk m c 2 t : Mat 512 1024) (ix2 i l) = dN (m (c.tc.loc main_arg0)) (m (c.tc.loc main_arg1)) (m (c.tc.loc main_arg2)) (ix2 p l) := by
  unfold dN plus mul
  refine congrArg₂ (fun a b : EReal => a + b) (Finset.sum_congr rfl fun k _ => congrArg₂ (fun a b : EReal => a * b) (blk0 m c t i k p k hp rfl) ?_) (blk2 m c t i l p l hp rfl)
  exact blk1 m c t k l k l rfl rfl

/-- A block's rows in the whole array. -/
theorem body6 (c : Dev nD) (t : Fin cfg0.N) (i : Fin 512) (l : Fin 1024) (p : Fin 2048) (hp : p.val = 512 * t.val + i.val) :
    (k0_pay6 (F := Ideal) (iblk m c 0 t) (iblk m c 1 t) (iblk m c 2 t) (iblk m c 3 t) (iblk m c 4 t) (iblk m c 5 t) (ix2 i l) : EReal) = r6 m c (ix2 p l) := by
  refine (pay6 _ _ _ _ _ _ i l).trans ?_
  unfold r6 res6 normGrad
  refine congrArg₂ (fun a b : EReal => a + b) (blk5 m c t i l p l hp rfl) ?_
  exact rowGrad_congr _ _ _ _ _ _ i p l (fun k => dblk m c t i k p hp) (fun k => blk3 m c t i k p k hp rfl) (fun k => blk4 m c t 0 k 0 k rfl rfl)

theorem out6 (c : Dev nD) (t : Fin cfg0.N) (i : Fin 512) (l : Fin 1024) (p : Fin 2048) (q : Fin 1024) (hp : p.val = 512 * t.val + i.val) (hq : q.val = l.val) :
    (outsAt0 m c t.val t.isLt).1 (ix2 i l) = r6 m c (ix2 p q) := by
  obtain rfl : q = l := Fin.ext hq
  have hN : cfg0.N = 4 := N_0
  have := t.isLt
  by_cases h : t.val = 0
  · rw [outsAt0_A m c t (by omega) (by omega)]
    dsimp only
    rw [out_A_6]; exact body6 m c t i q p hp
  · rw [outsAt0_B m c t (by omega) (by omega)]
    dsimp only
    rw [out_B_6]; exact body6 m c t i q p hp

theorem out7 (c : Dev nD) (t : Fin cfg0.N) (i : Fin 512) (l : Fin 1024) (p : Fin 2048) (q : Fin 1024) (hp : p.val = 512 * t.val + i.val) (hq : q.val = l.val) :
    (outsAt0 m c t.val t.isLt).2.1 (ix2 i l) = r7 m c (ix2 p q) := by
  obtain rfl : q = l := Fin.ext hq
  have hN : cfg0.N = 4 := N_0
  have := t.isLt
  by_cases h : t.val = 0
  · rw [outsAt0_A m c t (by omega) (by omega)]
    dsimp only
    rw [out_A_7]; exact body6 m c t i q p hp
  · rw [outsAt0_B m c t (by omega) (by omega)]
    dsimp only
    rw [out_B_7]; exact body6 m c t i q p hp

/-- One block's part of the gain's gradient. -/
theorem part8 (c : Dev nD) (t : Fin cfg0.N) (l : Fin 1024) :
    (k0_pay1 (F := Ideal) (k0_pay8 (F := Ideal) (iblk m c 0 t) (iblk m c 1 t) (iblk m c 2 t) (iblk m c 3 t)) (ix2 0 l) : EReal)
      = ∑ i : Fin 512, gainPart (dN (m (c.tc.loc main_arg0)) (m (c.tc.loc main_arg1)) (m (c.tc.loc main_arg2))) (m (c.tc.loc main_arg3)) (tr t i) l := by
  refine (pay1 _ _ _ _ l).trans (Finset.sum_congr rfl fun i _ => ?_)
  exact gainPart_congr _ _ _ _ i (tr t i) l (fun k => dblk m c t i k (tr t i) rfl) (fun k => blk3 m c t i k (tr t i) k rfl rfl)

/-- The gain's gradient after a point: the parts of the points so far. -/
theorem out8 (c : Dev nD) (l : Fin 1024) : ∀ (n : ℕ) (h : n < cfg0.N), (outsAt0 m c n h).2.2 (ix2 0 l)
    = ∑ s : Fin (n + 1), ∑ i : Fin 512, gainPart (dN (m (c.tc.loc main_arg0)) (m (c.tc.loc main_arg1)) (m (c.tc.loc main_arg2))) (m (c.tc.loc main_arg3)) (tr ⟨s.val, by omega⟩ i) l
  | 0, h => by
    rw [outsAt0_A m c ⟨0, h⟩ rfl (Nat.not_succ_le_zero 0)]
    dsimp only
    rw [out_A_8, Fin.sum_univ_one]
    exact part8 m c ⟨0, h⟩ l
  | n + 1, h => by
    have hN : cfg0.N = 4 := N_0
    have hB : ¬(n + 1) % 4 = 0 := by omega
    rw [outsAt0_B m c ⟨n + 1, h⟩ hB (Nat.le_add_left 1 n)]
    dsimp only
    rw [out_B_8, Fin.sum_univ_castSucc]
    show (outsAt0 m c n _).2.2 (ix2 0 l) + _ = _
    rw [out8 c l n]
    exact congrArg _ (part8 m c ⟨n + 1, h⟩ l)

/-- What a grid point writes back to window 6. -/
theorem flushed6_eq (c : Dev nD) (t : Fin cfg0.N) : (dats m 0 c).flushed 6 t = ((cfg0.win 6).blk t).view.read (Elt Ideal) (r6 m c) := by
  rw [Value.flushed6]
  funext x
  rw [View.read_apply]
  obtain ⟨i, l, rfl⟩ := pair (n0 := 512) (n1 := 1024) x
  refine (out6 m c t i l ((((cfg0.win 6).blk t).view.emb (ix2 i l) : S2048x1024.Idx) 0) ((((cfg0.win 6).blk t).view.emb (ix2 i l) : S2048x1024.Idx) 1) ?_ ?_).trans (congrArg (r6 m c) (eta2 _).symm)
  · show win0_6.index t 0 * 512 + 1 * i.val = _; rw [(at6 t).1]; omega
  · show win0_6.index t 1 * 1024 + 1 * l.val = _; rw [(at6 t).2]; omega

/-- The array of window 6 at the end. -/
theorem final6 (c : Dev nD) : (dats m 0 c).arrAt 6 cfg0.N = r6 m c :=
  (dats m 0 c).arrAt_eq_of_cover 6 (r6 m c) (fun t _ => flushed6_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_6 _, ?_⟩
    show i ∈ ((View.whole main_v0_0).slice (win0_6.rect ⟨_, ht⟩)).set
    rw [View.set_slice_whole, Rect.mem_set_unit]
    intro a
    match a with
    | ⟨0, _⟩ => show win0_6.index ⟨_, ht⟩ 0 * 512 ≤ (i 0 : Nat) ∧ (i 0 : Nat) < win0_6.index ⟨_, ht⟩ 0 * 512 + 512
                rw [(at6 ⟨_, ht⟩).1]; try dsimp only
                omega
    | ⟨1, _⟩ => show win0_6.index ⟨_, ht⟩ 1 * 1024 ≤ (i 1 : Nat) ∧ (i 1 : Nat) < win0_6.index ⟨_, ht⟩ 1 * 1024 + 1024
                rw [(at6 ⟨_, ht⟩).2]; try dsimp only
                omega

/-- What a grid point writes back to window 7. -/
theorem flushed7_eq (c : Dev nD) (t : Fin cfg0.N) : (dats m 0 c).flushed 7 t = ((cfg0.win 7).blk t).view.read (Elt Ideal) (r7 m c) := by
  rw [Value.flushed7]
  funext x
  rw [View.read_apply]
  obtain ⟨i, l, rfl⟩ := pair (n0 := 512) (n1 := 1024) x
  refine (out7 m c t i l ((((cfg0.win 7).blk t).view.emb (ix2 i l) : S2048x1024.Idx) 0) ((((cfg0.win 7).blk t).view.emb (ix2 i l) : S2048x1024.Idx) 1) ?_ ?_).trans (congrArg (r7 m c) (eta2 _).symm)
  · show win0_7.index t 0 * 512 + 1 * i.val = _; rw [(at7 t).1]; omega
  · show win0_7.index t 1 * 1024 + 1 * l.val = _; rw [(at7 t).2]; omega

/-- The array of window 7 at the end. -/
theorem final7 (c : Dev nD) : (dats m 0 c).arrAt 7 cfg0.N = r7 m c :=
  (dats m 0 c).arrAt_eq_of_cover 7 (r7 m c) (fun t _ => flushed7_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_7 _, ?_⟩
    show i ∈ ((View.whole main_v0_1).slice (win0_7.rect ⟨_, ht⟩)).set
    rw [View.set_slice_whole, Rect.mem_set_unit]
    intro a
    match a with
    | ⟨0, _⟩ => show win0_7.index ⟨_, ht⟩ 0 * 512 ≤ (i 0 : Nat) ∧ (i 0 : Nat) < win0_7.index ⟨_, ht⟩ 0 * 512 + 512
                rw [(at7 ⟨_, ht⟩).1]; try dsimp only
                omega
    | ⟨1, _⟩ => show win0_7.index ⟨_, ht⟩ 1 * 1024 ≤ (i 1 : Nat) ∧ (i 1 : Nat) < win0_7.index ⟨_, ht⟩ 1 * 1024 + 1024
                rw [(at7 ⟨_, ht⟩).2]; try dsimp only
                omega

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (Cert.Softmax.sum_split 4 512 2048 rfl f).symm

theorem flushed8_eq (c : Dev nD) (t : Fin cfg0.N) (hf : (cfg0.win 8).flush t = true) : (dats m 0 c).flushed 8 t = ((cfg0.win 8).blk t).view.read (Elt Ideal) (r8 m c) := by
  have hN : cfg0.N = 4 := N_0
  have h3 : t.val = 3 := by have := (flush0_8 t).mp hf; have := t.isLt; omega
  obtain ⟨n, hn⟩ := t
  obtain rfl : n = 3 := h3
  rw [Value.flushed8]
  have hz' : (fun a => win0_8.index ⟨3, hn⟩ a * main_v0_2.ty.shape.size a) = fun _ => 0 := funext fun a => by
    match a with
    | ⟨0, _⟩ => show win0_8.index ⟨3, hn⟩ 0 * _ = 0; rw [(at8 ⟨3, hn⟩).1, Nat.zero_mul]
    | ⟨1, _⟩ => show win0_8.index ⟨3, hn⟩ 1 * _ = 0; rw [(at8 ⟨3, hn⟩).2, Nat.zero_mul]
  refine Eq.trans ?_ (Memref.read_access_unit_zero (Elt Ideal) main_v0_2 hz' (fun a => by rw [congrFun hz' a]; simp) (r8 m c)).symm
  funext x
  obtain ⟨j, l, rfl⟩ := pair (n0 := 1) (n1 := 1024) x
  obtain rfl : j = 0 := Subsingleton.elim _ _
  refine (out8 m c l 3 hn).trans ?_
  exact sum_points fun i => gainPart (dN (m (c.tc.loc main_arg0)) (m (c.tc.loc main_arg1)) (m (c.tc.loc main_arg2))) (m (c.tc.loc main_arg3)) i l

/-- The array of the gain's gradient at the end. -/
theorem final8 (c : Dev nD) : (dats m 0 c).arrAt 8 cfg0.N = r8 m c :=
  (dats m 0 c).arrAt_eq_of_cover 8 (r8 m c) (flushed8_eq m c) fun i => by
    have h0 : (i 0 : Nat) < 1 := (i 0).isLt
    have h1 : (i 1 : Nat) < 1024 := (i 1).isLt
    have hN : cfg0.N = 4 := N_0
    let t : Fin cfg0.N := ⟨3, by omega⟩
    refine ⟨t, (flush0_8 t).mpr rfl, ?_⟩
    show i ∈ ((View.whole main_v0_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [(at8 t).1]; omega
    | ⟨1, _⟩ => show win0_8.index t 1 * 1024 ≤ (i 1 : Nat) ∧ (i 1 : Nat) < win0_8.index t 1 * 1024 + 1024
                rw [(at8 t).2]; omega

section
open Cert.GateDxRefIdeal.Read
variable (x0 : Mat 2048 4096) (x1 : Mat 4096 1024) (x2 x3 : Mat 2048 1024) (x4 : Mat 1 1024) (x5 : Mat 2048 1024)

/-- The reference's gradient of the norm's result. -/
theorem ref_dN (i : Fin 2048) (j : Fin 1024) : val_main_v22 (F := Ideal) x0 x1 x2 (ix2 i j) = dN x0 x1 x2 (ix2 i j) := by
  rw [val_main_v22_apply, val_main_v21_apply]
  unfold dN plus mul
  refine (add_comm _ _).trans (congrArg (fun a : EReal => a + x2 (ix2 i j)) (Finset.sum_congr rfl fun k _ => ?_))
  rw [val_main_v20_apply, val_main_v1_apply, val_main_v0_apply]
  exact congrArg₂ (fun a b : EReal => a * b) (congrArg x0 (funext fun a => match a with | ⟨0, _⟩ => rfl | ⟨1, _⟩ => rfl)) (congrArg x1 (funext fun a => match a with | ⟨0, _⟩ => rfl | ⟨1, _⟩ => rfl))

/-- The reference's mean square of a row. -/
theorem ref_ms (x : (⟨2, ![2048, 1]⟩ : Shape).Idx) : val_main_v9 (F := Ideal) x3 x = ms x3 (x 0) := by
  rw [val_main_v9_apply, val_main_v8_apply, val_main_v7_apply, val_main_v6_apply, val_main_v5_apply, val_main_v4_apply, val_main_cst_apply, val_main_cst_0_apply, val_main_cst_1_apply]
  unfold ms
  refine congrArg (fun z : EReal => Ideal.div z _ + _) ?_
  show Ideal.ofBits .f32 0x00000000#32 + _ = _
  rw [Ideal.ofBits_zero_f32, zero_add]
  refine Finset.sum_congr rfl fun k _ => ?_
  rw [val_main_v3_apply]
  exact congrArg (fun z : EReal => z * z) (congrArg x3 (funext fun a => match a with | ⟨0, _⟩ => rfl | ⟨1, _⟩ => rfl))

/-- The reference's reciprocal root of it. -/
theorem ref_rs (x : (⟨2, ![2048, 1]⟩ : Shape).Idx) : val_main_v10 (F := Ideal) x3 x = Ideal.rsqrt (ms x3 (x 0)) := by
  rw [val_main_v10_apply, ref_ms]
  rfl

/-- The reference's gain. -/
theorem ref_gain (i : Fin 2048) (j : Fin 1024) : val_main_v26 (F := Ideal) x4 (ix2 i j) = x4 (ix2 0 j) := by
  rw [val_main_v26_apply, val_main_v16_apply, val_main_v2_apply]
  exact congrArg x4 (funext fun a => match a with | ⟨0, _⟩ => rfl | ⟨1, _⟩ => Fin.ext (Nat.mod_eq_of_lt j.isLt))

/-- The reference's gradient of the mean square, spread over its row. -/
theorem ref_sum (i : Fin 2048) (j : Fin 1024) : val_main_v39 (F := Ideal) x0 x1 x2 x3 x4 (ix2 i j)
    = Ideal.div ((∑ k : Fin 1024, x3 (ix2 i k) * (dN x0 x1 x2 (ix2 i k) * x4 (ix2 0 k))) * (Ideal.ofBits .f32 0xBF000000#32 * Ideal.div (Ideal.rsqrt (ms x3 i)) (ms x3 i))) (Ideal.ofBits .f32 0x44800000#32) := by
  rw [val_main_v39_apply, val_main_v38_apply, val_main_cst_7_apply]
  show Ideal.ofBits .f32 0x00000000#32 + _ = _
  rw [Ideal.ofBits_zero_f32, zero_add, Fin.sum_univ_one, val_main_v37_apply, val_main_v36_apply, val_main_v35_apply, val_main_v31_apply, val_main_v30_apply, val_main_v13_apply, val_main_v12_apply, val_main_v11_apply, ref_rs, ref_ms,
    val_main_cst_5_apply, val_main_cst_6_apply, val_main_cst_2_apply]
  refine congrArg (fun z : EReal => Ideal.div (z * (Ideal.ofBits .f32 0xBF000000#32 * Ideal.div (Ideal.rsqrt (ms x3 i)) (ms x3 i))) (Ideal.ofBits .f32 0x44800000#32)) ?_
  show Ideal.ofBits .f32 0x00000000#32 + _ = _
  rw [Ideal.ofBits_zero_f32, zero_add]
  refine Finset.sum_congr rfl fun k _ => ?_
  have e : idx_main_v30 (idx_main_v31 (idx_main_v38 (idx_main_v39 (ix2 i j)) 0)) k = ix2 i k := funext fun a => match a with
    | ⟨0, _⟩ => Fin.ext (by show i.val * 1 + 0 = i.val; omega)
    | ⟨1, _⟩ => rfl
  rw [e, val_main_v29_apply, val_main_v27_apply, ref_dN, ref_gain]
  rfl

theorem ref6 (h0 : ∀ i, Real' (x0 i)) (h1 : ∀ i, Real' (x1 i)) (h2 : ∀ i, Real' (x2 i)) (h3 : ∀ i, Real' (x3 i)) (h4 : ∀ i, Real' (x4 i)) :
    val_main_v43 (F := Ideal) x0 x1 x2 x3 x4 x5 = res6 x0 x1 x2 x3 x4 x5 := by
  funext x
  obtain ⟨i, j, rfl⟩ := pair (n0 := 2048) (n1 := 1024) x
  rw [val_main_v43_apply, val_main_v42_apply, val_main_v41_apply, val_main_v40_apply, val_main_v34_apply, val_main_v33_apply, val_main_v32_apply, val_main_v27_apply, ref_dN, ref_gain, ref_rs, ref_sum]
  refine rowGrad_ref (dN x0 x1 x2) x3 x4 (x5 (ix2 i j)) (fun z => ?_) h3 h4 i j
  unfold dN plus mul
  exact Real'.add (Real'.sum _ fun k => Real'.mul (h0 _) (h1 _)) (h2 _)

theorem ref7 (h0 : ∀ i, Real' (x0 i)) (h1 : ∀ i, Real' (x1 i)) (h2 : ∀ i, Real' (x2 i)) (h3 : ∀ i, Real' (x3 i)) (h4 : ∀ i, Real' (x4 i)) :
    val_main_v44 (F := Ideal) x0 x1 x2 x3 x4 x5 = res7 x0 x1 x2 x3 x4 x5 := by
  funext x
  rw [val_main_v44_apply]
  exact congrFun (ref6 _ _ _ _ _ x5 h0 h1 h2 h3 h4) x

theorem ref8 : val_main_v45 (F := Ideal) x0 x1 x2 x3 = res8 x0 x1 x2 x3 := by
  funext x
  obtain ⟨u, j, rfl⟩ := pair (n0 := 1) (n1 := 1024) x
  rw [val_main_v45_apply, val_main_v28_apply, val_main_cst_4_apply]
  show Ideal.ofBits .f32 0x00000000#32 + _ = _
  rw [Ideal.ofBits_zero_f32, zero_add, Fin.sum_univ_one, val_main_v25_apply, val_main_v24_apply, val_main_cst_3_apply]
  show Ideal.ofBits .f32 0x00000000#32 + _ = _
  rw [Ideal.ofBits_zero_f32, zero_add]
  unfold res8 gainGrad
  refine Finset.sum_congr rfl fun i _ => ?_
  have e : idx_main_v24 (idx_main_v25 (idx_main_v28 (idx_main_v45 (ix2 u j)) 0)) i = ix2 i j := funext fun a => match a with
    | ⟨0, _⟩ => rfl
    | ⟨1, _⟩ => Fin.ext (by show 0 * 1024 + j.val = j.val; omega)
  rw [e, val_main_v23_apply, val_main_v15_apply, val_main_v14_apply, ref_rs, ref_dN]
  unfold gainPart
  exact mul_comm _ _

end

end Cert.GateDxIdeal.Pay

namespace Cert.GateDxClaims

open Idealize.ShloMosaic Idealize.ShloMosaic.TcCoe Idealize.SL.Sem Cert.Tiles Cert.GateDxIdeal.Pay

attribute [local instance] Cert.GateDx.Gen.facts Cert.GateDxIdeal.Gen.facts Cert.GateDxRefIdeal.Gen.facts Cert.PreRealNorm.facts

/-- The kernel runs, keeps its arguments and ends quiescent. -/
theorem frameP : Cert.quiescent_GateDx := fun m ρ _ => Cert.GateDx.Gen.frame m ρ

/-- … and so does it at the ideal numbers. -/
theorem framePI : Cert.quiescent_GateDxIdeal := fun m ρ _ => Cert.GateDxIdeal.Gen.frame m ρ

/-- The reference runs, keeps its arguments and ends quiescent. -/
theorem frameRI : Cert.quiescent_GateDxRefIdeal := fun m ρ _ =>
  (θ_run Cert.GateDxRefIdeal.defs _ _).mono (fun r h => ⟨fun c => (h c).2.2.2,
      Idealize.ShloMosaic.sem_eq_zero_of_no_sems (by decide) r.2⟩) (Cert.GateDxRefIdeal.Value.run (F := Ideal) m ρ)

theorem framePIpre : Cert.quiescent_GateDxIdeal_pre_real_norm := fun m ρ _ => Cert.GateDxIdeal.Gen.frame m ρ

theorem frameRIpre : Cert.quiescent_GateDxRefIdeal_pre_real_norm := fun m ρ _ => frameRI m ρ trivial

/-- Kernel and reference compute the same results. -/
theorem algebraic : Cert.algebraic_GateDxIdeal_GateDxRefIdeal_pre_real_norm := by
  intro m ρ m' ρ' hpre hag
  refine ⟨fun c => r6 m c, fun c => r7 m c, fun c => r8 m c, ?_, ?_⟩
  · exact (θ_run Cert.GateDxIdeal.defs _ _).mono (fun r h c => ⟨((h c).1).trans (final6 m c), ((h c).2.1).trans (final7 m c), ((h c).2.2.1).trans (final8 m c), (h c).2.2.2⟩) (Cert.GateDxIdeal.Value.run_blocks m ρ)
  · refine (θ_run Cert.GateDxRefIdeal.defs _ _).mono (fun r h c => ?_) (Cert.GateDxRefIdeal.Value.run (F := Ideal) m' ρ')
    obtain ⟨g0, g1, g2, g3, g4, g5⟩ := hag c
    obtain ⟨h0, h1, h2, h3, h4⟩ := Cert.PreRealNorm.real _ _ _ _ _ _ (hpre c)
    refine ⟨((h c).1).trans ?_, ((h c).2.1).trans ?_, ((h c).2.2.1).trans ?_, (h c).2.2.2⟩ <;> clear h
    · rw [Cert.GateDxRefIdeal.Read.val_main_v43_eq]
      try rw [g0]
      try rw [g1]
      try rw [g2]
      try rw [g3]
      try rw [g4]
      try rw [g5]
      exact ref6 _ _ _ _ _ _ h0 h1 h2 h3 h4
    · rw [Cert.GateDxRefIdeal.Read.val_main_v44_eq]
      try rw [g0]
      try rw [g1]
      try rw [g2]
      try rw [g3]
      try rw [g4]
      try rw [g5]
      exact ref7 _ _ _ _ _ _ h0 h1 h2 h3 h4
    · rw [Cert.GateDxRefIdeal.Read.val_main_v45_eq]
      try rw [g0]
      try rw [g1]
      try rw [g2]
      try rw [g3]
      try rw [g4]
      try rw [g5]
      exact ref8 _ _ _ _

end Cert.GateDxClaims

end
-- ==== Proof.PreRealNormHalf.lean ====
/-
  What the precondition says at the ideal numbers: every entry of the product, of the gradient before the norm, of its input and of its gain is a real number.
-/
module

public import proofs.«01_k».proof.Pre_real_norm_half
public import proofs.«01_k».proof.Proof.Reals

@[expose] public section

set_option maxRecDepth 16384

noncomputable section

namespace Cert.PreRealNormHalf

open Idealize.ShloMosaic Cert.Reals
open Cert.PreReal (all_real top_bits)

/-- The shape relations the predicate's operations take. -/
theorem facts : Cert.Pre_real_norm_half.Facts where
  bitsLt_bf16_f32 := by decide
  bcast_S_S2048x2816 := by decide
  reducesTo_S2048x2816_S_d0_1 := by decide
  h_S_ := by decide
  bcast_S_S5632x1024 := by decide
  reducesTo_S5632x1024_S_d0_1 := by decide
  bcast_S_S2048x1024 := by decide
  reducesTo_S2048x1024_S_d0_1 := by decide
  bcast_S_S1x1024 := by decide
  reducesTo_S1x1024_S_d0_1 := by decide

/-- Where the precondition holds, the arrays it names are real. -/
theorem real [Cert.Pre_real_norm_half.Facts] (a0 : FVec Ideal Cert.Pre_real_norm_half.S2048x2816 .bf16) (a1 : FVec Ideal Cert.Pre_real_norm_half.S5632x1024 .bf16) (a2 : FVec Ideal Cert.Pre_real_norm_half.S2048x1024 .f32) (a3 : FVec Ideal Cert.Pre_real_norm_half.S2048x1024 .f32) (a4 : FVec Ideal Cert.Pre_real_norm_half.S1x1024 .f32) (a5 : FVec Ideal Cert.Pre_real_norm_half.S2048x1024 .f32) (h : Cert.Pre_real_norm_half.fn a0 a1 a2 a3 a4 a5 = fun _ => 1#1) :
    (∀ i, Real' (a0 i)) ∧ (∀ i, Real' (a1 i)) ∧ (∀ i, Real' (a2 i)) ∧ (∀ i, Real' (a3 i)) ∧ (∀ i, Real' (a4 i)) := by
  unfold Cert.Pre_real_norm_half.fn at h
  try unfold Cert.Pre_real_norm_half.fn_part1 at h
  dsimp only at h
  obtain ⟨h, e4⟩ := and_bits h
  obtain ⟨h, e3⟩ := and_bits h
  obtain ⟨h, e2⟩ := and_bits h
  obtain ⟨h, e1⟩ := and_bits h
  have e0 := h
  exact ⟨all_real a0 _ _ _ _ _ (fun _ => rfl) (fun _ => top_bits) e0, all_real a1 _ _ _ _ _ (fun _ => rfl) (fun _ => top_bits) e1, all_real a2 _ _ _ _ _ (fun _ => rfl) (fun _ => top_bits) e2, all_real a3 _ _ _ _ _ (fun _ => rfl) (fun _ => top_bits) e3, all_real a4 _ _ _ _ _ (fun _ => rfl) (fun _ => top_bits) e4⟩

end Cert.PreRealNormHalf

end
-- ==== Proof.FfnInDxG.lean ====
/-
  The gradient through the feed-forward gate's projection, the norm before it, and the residual.
-/
module

public import proofs.«01_k».proof.Defs
public import proofs.«01_k».proof.Proof.Tiles
public import proofs.«01_k».proof.Proof.RowNormGrad
public import proofs.«01_k».proof.Proof.Softmax
public import proofs.«01_k».proof.Proof.PreRealNormHalf
public import proofs.«01_k».proof.Proof.Gen.FfnInDxG.Frame
public import proofs.«01_k».proof.Proof.Gen.FfnInDxGIdeal.Value
public import proofs.«01_k».proof.Proof.Gen.FfnInDxGRefIdeal.Read
public import proofs.«01_k».proof.Proof.Gen.FfnInDxGRefIdeal.Run
public import Idealize.ShloMosaic.Lib.Tactic

@[expose] public section

set_option maxRecDepth 16384

noncomputable section

namespace Cert.FfnInDxGIdeal.Pay

open Idealize.ShloMosaic Idealize.ShloMosaic.TcCoe Idealize.SL.Sem Cert.FfnInDxGIdeal Cert.FfnInDxGIdeal.Gen Cert.Tiles
open Idealize.ShloMosaic.Pipeline (Dat)

variable (m : (ℓ : Loc nD τ sig) → Buf (Elt Ideal) ℓ)

open Cert.RowNorm Cert.Reals

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 2816) (p : Fin 2048) (q : Fin 2816) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 2816 + 1 * l.val = q.val; rw [(at0 t).2]; omega

theorem at1 : ∀ t : Fin grid0.N, win0_1.index t 0 = 1 ∧ win0_1.index t 1 = 0 := by decide +kernel

/-- An element of a block of window 1 is the array's. -/
theorem blk1 (c : Dev nD) (t : Fin cfg0.N) (i : Fin 2816) (l : Fin 1024) (p : Fin 5632) (q : Fin 1024) (hp : p.val = 2816 * (1) + i.val) (hq : q.val = l.val) :
    (iblk m c 1 t (ix2 i l) : EReal) = m (c.tc.loc main_arg1) (ix2 p q) := by
  refine congrArg (m (c.tc.loc main_arg1)) (ext2 ?_ ?_)
  · show win0_1.index t 0 * 2816 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 512) (l : Fin 1024) (p : Fin 2048) (q : Fin 1024) (hp : p.val = 512 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 512 + 1 * i.val = p.val; rw [(at2 t).1]; omega
  · show win0_2.index t 1 * 1024 + 1 * l.val = q.val; rw [(at2 t).2]; omega

theorem at3 : ∀ t : Fin grid0.N, win0_3.index t 0 = t.val ∧ win0_3.index t 1 = 0 := by decide +kernel

/-- An element of a block of window 3 is the array's. -/
theorem blk3 (c : Dev nD) (t : Fin cfg0.N) (i : Fin 512) (l : Fin 1024) (p : Fin 2048) (q : Fin 1024) (hp : p.val = 512 * (t.val) + i.val) (hq : q.val = l.val) :
    (iblk m c 3 t (ix2 i l) : EReal) = m (c.tc.loc main_arg3) (ix2 p q) := by
  refine congrArg (m (c.tc.loc main_arg3)) (ext2 ?_ ?_)
  · show win0_3.index t 0 * 512 + 1 * i.val = p.val; rw [(at3 t).1]; omega
  · show win0_3.index t 1 * 1024 + 1 * l.val = q.val; rw [(at3 t).2]; omega

theorem at4 : ∀ t : Fin grid0.N, win0_4.index t 0 = 0 ∧ win0_4.index t 1 = 0 := by decide +kernel

/-- An element of a block of window 4 is the array's. -/
theorem blk4 (c : Dev nD) (t : Fin cfg0.N) (i : Fin 1) (l : Fin 1024) (p : Fin 1) (q : Fin 1024) (hp : p.val = i.val) (hq : q.val = l.val) :
    (iblk m c 4 t (ix2 i l) : EReal) = m (c.tc.loc main_arg4) (ix2 p q) := by
  refine congrArg (m (c.tc.loc main_arg4)) (ext2 ?_ ?_)
  · show win0_4.index t 0 * 1 + 1 * i.val = p.val; rw [(at4 t).1]; omega
  · show win0_4.index t 1 * 1024 + 1 * l.val = q.val; rw [(at4 t).2]; omega

theorem at5 : ∀ t : Fin grid0.N, win0_5.index t 0 = t.val ∧ win0_5.index t 1 = 0 := by decide +kernel

/-- An element of a block of window 5 is the array's. -/
theorem blk5 (c : Dev nD) (t : Fin cfg0.N) (i : Fin 512) (l : Fin 1024) (p : Fin 2048) (q : Fin 1024) (hp : p.val = 512 * (t.val) + i.val) (hq : q.val = l.val) :
    (iblk m c 5 t (ix2 i l) : EReal) = m (c.tc.loc main_arg5) (ix2 p q) := by
  refine congrArg (m (c.tc.loc main_arg5)) (ext2 ?_ ?_)
  · show win0_5.index t 0 * 512 + 1 * i.val = p.val; rw [(at5 t).1]; omega
  · show win0_5.index t 1 * 1024 + 1 * l.val = q.val; rw [(at5 t).2]; omega

theorem at6 : ∀ t : Fin grid0.N, win0_6.index t 0 = t.val ∧ win0_6.index t 1 = 0 := by decide +kernel

theorem at7 : ∀ t : Fin grid0.N, win0_7.index t 0 = t.val ∧ win0_7.index t 1 = 0 := by decide +kernel

theorem at8 : ∀ t : Fin grid0.N, win0_8.index t 0 = 0 ∧ win0_8.index t 1 = 0 := by decide +kernel

/-- The gradient of the norm's result: the product's, added to what came before. -/
def dN (x0 : Mat 2048 2816) (x1 : Mat 5632 1024) (x2 : Mat 2048 1024) : Mat 2048 1024 := plus (mul (k := 2816) x0 (lastRows 2816 (by omega) x1)) x2
/-- The gradient of the norm's argument, added to the residual. -/
def res6 (x0 : Mat 2048 2816) (x1 : Mat 5632 1024) (x2 x3 : Mat 2048 1024) (x4 : Mat 1 1024) (x5 : Mat 2048 1024) : Mat 2048 1024 := normGrad (dN x0 x1 x2) x3 x4 x5
def res7 (x0 : Mat 2048 2816) (x1 : Mat 5632 1024) (x2 x3 : Mat 2048 1024) (x4 : Mat 1 1024) (x5 : Mat 2048 1024) : Mat 2048 1024 := normGrad (dN x0 x1 x2) x3 x4 x5
/-- The gradient of the norm's gain. -/
def res8 (x0 : Mat 2048 2816) (x1 : Mat 5632 1024) (x2 x3 : Mat 2048 1024) : Mat 1 1024 := gainGrad (dN x0 x1 x2) x3

/-- The kernel's results. -/
def r6 (c : Dev nD) : Mat 2048 1024 := res6 (m (c.tc.loc main_arg0)) (m (c.tc.loc main_arg1)) (m (c.tc.loc main_arg2)) (m (c.tc.loc main_arg3)) (m (c.tc.loc main_arg4)) (m (c.tc.loc main_arg5))
def r7 (c : Dev nD) : Mat 2048 1024 := res7 (m (c.tc.loc main_arg0)) (m (c.tc.loc main_arg1)) (m (c.tc.loc main_arg2)) (m (c.tc.loc main_arg3)) (m (c.tc.loc main_arg4)) (m (c.tc.loc main_arg5))
def r8 (c : Dev nD) : Mat 1 1024 := res8 (m (c.tc.loc main_arg0)) (m (c.tc.loc main_arg1)) (m (c.tc.loc main_arg2)) (m (c.tc.loc main_arg3))

section
variable (y0 : Vec Ideal S512x2816 .bf16) (y1 : Vec Ideal S2816x1024 .bf16) (y2 y3 : Vec Ideal S512x1024 .f32) (y4 : Vec Ideal S1x1024 .f32) (y5 : Vec Ideal S512x1024 .f32)

theorem pay3 (i : Fin 512) (l : Fin 1024) : (k0_pay3 (F := Ideal) y0 y1 y2 (ix2 i l) : EReal) = plus (mul (k := 2816) (y0 : Mat 512 2816) (y1 : Mat 2816 1024)) y2 (ix2 i l) := by
  unfold plus mul
  pointwise [k0_pay3]

theorem pay4 (i : Fin 512) : (k0_pay4 (F := Ideal) y3 (ix2 i 0) : EReal) = Ideal.rsqrt (ms (y3 : Mat 512 1024) i) := by
  unfold ms
  pointwise [k0_pay4]

theorem pay5 (i : Fin 512) (l : Fin 1024) : (k0_pay5 (F := Ideal) y3 (ix2 i l) : EReal) = (y3 (ix2 i l) : EReal) * Ideal.rsqrt (ms (y3 : Mat 512 1024) i) := by
  rw [← pay4 y3 i]
  unfold k0_pay5
  generalize k0_pay4 (F := Ideal) y3 = r
  pointwise

/-- A block's rows. -/
theorem pay6 (i : Fin 512) (l : Fin 1024) :
    (k0_pay6 (F := Ideal) y0 y1 y2 y3 y4 y5 (ix2 i l) : EReal) = normGrad (plus (mul (k := 2816) (y0 : Mat 512 2816) (y1 : Mat 2816 1024)) y2) y3 y4 y5 (ix2 i l) := by
  have h3 : (k0_pay3 (F := Ideal) y0 y1 y2 : Mat 512 1024) = plus (mul (k := 2816) (y0 : Mat 512 2816) (y1 : Mat 2816 1024)) y2 := funext fun x => by
    obtain ⟨i, l, rfl⟩ := pair (n0 := 512) (n1 := 1024) x
    exact pay3 y0 y1 y2 i l
  have h5 := pay5 y3
  have h4 := pay4 y3
  unfold normGrad rowGrad
  rw [← h3]
  show _ = (y5 (ix2 i l) : EReal) + Ideal.rsqrt (ms (y3 : Mat 512 1024) i) * ((k0_pay3 (F := Ideal) y0 y1 y2 : Mat 512 1024) (ix2 i l) * y4 (ix2 0 l) - (y3 : Mat 512 1024) (ix2 i l) * Ideal.rsqrt (ms (y3 : Mat 512 1024) i)
    * Ideal.div (∑ k : Fin 1024, (k0_pay3 (F := Ideal) y0 y1 y2 : Mat 512 1024) (ix2 i k) * y4 (ix2 0 k) * ((y3 : Mat 512 1024) (ix2 i k) * Ideal.rsqrt (ms (y3 : Mat 512 1024) i))) (Ideal.ofBits .f32 0x44800000#32))
  unfold k0_pay6
  generalize k0_pay3 (F := Ideal) y0 y1 y2 = d at h3 ⊢
  generalize k0_pay5 (F := Ideal) y3 = xh at h5 ⊢
  generalize k0_pay4 (F := Ideal) y3 = r at h4 ⊢
  pointwise
  simp only [h5, h4]

/-- A block's part of the gain's gradient. -/
theorem pay1 (l : Fin 1024) :
    (k0_pay1 (F := Ideal) (k0_pay8 (F := Ideal) y0 y1 y2 y3) (ix2 0 l) : EReal) = ∑ i : Fin 512, gainPart (plus (mul (k := 2816) (y0 : Mat 512 2816) (y1 : Mat 2816 1024)) y2) y3 i l := by
  have h : (k0_pay1 (F := Ideal) (k0_pay8 (F := Ideal) y0 y1 y2 y3) (ix2 0 l) : EReal) = ∑ i : Fin 512, (k0_pay8 (F := Ideal) y0 y1 y2 y3 (ix2 i l) : EReal) := by
    generalize k0_pay8 (F := Ideal) y0 y1 y2 y3 = z
    pointwise [k0_pay1]
  rw [h]
  refine Finset.sum_congr rfl fun i _ => ?_
  unfold gainPart k0_pay8
  rw [← pay3, ← pay5]
  rfl

end

section
variable (c : Dev nD) (i : grid0.Coords) (arg1 : Memref sig .tc .vmem S512x2816 .bf16) (h1 : arg1.IsWhole) (arg2 : Memref sig .tc .vmem S2816x1024 .bf16) (h2 : arg2.IsWhole) (arg3 : Memref sig .tc .vmem S512x1024 .f32) (h3 : arg3.IsWhole) (arg4 : Memref sig .tc .vmem S512x1024 .f32) (h4 : arg4.IsWhole) (arg5 : Memref sig .tc .vmem S1x1024 .f32) (h5 : arg5.IsWhole) (arg6 : Memref sig .tc .vmem S512x1024 .f32) (h6 : arg6.IsWhole) (arg7 : Memref sig .tc .vmem S512x1024 .f32) (h7 : arg7.IsWhole) (arg8 : Memref sig .tc .vmem S512x1024 .bf16) (h8 : arg8.IsWhole) (arg9 : Memref sig .tc .vmem S1x1024 .f32) (h9 : arg9.IsWhole)

theorem out_A_6 (hc0 : cond0_0 i) (hc1 : ¬cond0_1 i) (x0 : Vec Ideal S512x2816 .bf16) (x1 : Vec Ideal S2816x1024 .bf16) (x2 x3 : Vec Ideal S512x1024 .f32) (x4 : Vec Ideal S1x1024 .f32) (x5 : Vec Ideal S512x1024 .f32) :
    out0_A_6 (F := Ideal) c i arg1 h1 arg2 h2 arg3 h3 arg4 h4 arg5 h5 arg6 h6 arg7 h7 arg8 h8 arg9 h9 hc0 hc1 x0 x1 x2 x3 x4 x5 = k0_pay6 (F := Ideal) x0 x1 x2 x3 x4 x5 := by
  unfold out0_A_6
  rw [View.read_writes_eq_canon _ _ _ (fun _ => cover0_A_6 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

theorem out_A_7 (hc0 : cond0_0 i) (hc1 : ¬cond0_1 i) (x0 : Vec Ideal S512x2816 .bf16) (x1 : Vec Ideal S2816x1024 .bf16) (x2 x3 : Vec Ideal S512x1024 .f32) (x4 : Vec Ideal S1x1024 .f32) (x5 : Vec Ideal S512x1024 .f32) :
    out0_A_7 (F := Ideal) c i arg1 h1 arg2 h2 arg3 h3 arg4 h4 arg5 h5 arg6 h6 arg7 h7 arg8 h8 arg9 h9 hc0 hc1 x0 x1 x2 x3 x4 x5 = k0_pay7 (F := Ideal) x0 x1 x2 x3 x4 x5 := by
  unfold out0_A_7
  rw [View.read_writes_eq_canon _ _ _ (fun _ => cover0_A_7 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

theorem out_A_8 (hc0 : cond0_0 i) (hc1 : ¬cond0_1 i) (x0 : Vec Ideal S512x2816 .bf16) (x1 : Vec Ideal S2816x1024 .bf16) (x2 x3 : Vec Ideal S512x1024 .f32) (x4 : Vec Ideal S1x1024 .f32) (x5 : Vec Ideal S512x1024 .f32) :
    out0_A_8 (F := Ideal) c i arg1 h1 arg2 h2 arg3 h3 arg4 h4 arg5 h5 arg6 h6 arg7 h7 arg8 h8 arg9 h9 hc0 hc1 x0 x1 x2 x3 x4 x5 = k0_pay1 (F := Ideal) (k0_pay8 (F := Ideal) x0 x1 x2 x3) := by
  unfold out0_A_8
  rw [View.read_writes_eq_canon _ _ _ (fun _ => cover0_A_8 (F := Ideal) ..)]
  unfold kernelRun0_A
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

theorem out_B_6 (hc0 : ¬cond0_0 i) (hc1 : cond0_1 i) (x0 : Vec Ideal S512x2816 .bf16) (x1 : Vec Ideal S2816x1024 .bf16) (x2 x3 : Vec Ideal S512x1024 .f32) (x4 : Vec Ideal S1x1024 .f32) (x5 : Vec Ideal S512x1024 .f32) (xo8 : Vec Ideal S1x1024 .f32) :
    out0_B_6 (F := Ideal) c i arg1 h1 arg2 h2 arg3 h3 arg4 h4 arg5 h5 arg6 h6 arg7 h7 arg8 h8 arg9 h9 hc0 hc1 x0 x1 x2 x3 x4 x5 xo8 = k0_pay6 (F := Ideal) x0 x1 x2 x3 x4 x5 := by
  unfold out0_B_6
  rw [View.read_writes_eq_canon _ _ _ (fun _ => cover0_B_6 (F := Ideal) ..)]
  unfold kernelRun0_B
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

theorem out_B_7 (hc0 : ¬cond0_0 i) (hc1 : cond0_1 i) (x0 : Vec Ideal S512x2816 .bf16) (x1 : Vec Ideal S2816x1024 .bf16) (x2 x3 : Vec Ideal S512x1024 .f32) (x4 : Vec Ideal S1x1024 .f32) (x5 : Vec Ideal S512x1024 .f32) (xo8 : Vec Ideal S1x1024 .f32) :
    out0_B_7 (F := Ideal) c i arg1 h1 arg2 h2 arg3 h3 arg4 h4 arg5 h5 arg6 h6 arg7 h7 arg8 h8 arg9 h9 hc0 hc1 x0 x1 x2 x3 x4 x5 xo8 = k0_pay7 (F := Ideal) x0 x1 x2 x3 x4 x5 := by
  unfold out0_B_7
  rw [View.read_writes_eq_canon _ _ _ (fun _ => cover0_B_7 (F := Ideal) ..)]
  unfold kernelRun0_B
  dsimp only
  rw [View.canon_unit_zero hz]
  skip
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

theorem out_B_8 (hc0 : ¬cond0_0 i) (hc1 : cond0_1 i) (x0 : Vec Ideal S512x2816 .bf16) (x1 : Vec Ideal S2816x1024 .bf16) (x2 x3 : Vec Ideal S512x1024 .f32) (x4 : Vec Ideal S1x1024 .f32) (x5 : Vec Ideal S512x1024 .f32) (xo8 : Vec Ideal S1x1024 .f32) :
    out0_B_8 (F := Ideal) c i arg1 h1 arg2 h2 arg3 h3 arg4 h4 arg5 h5 arg6 h6 arg7 h7 arg8 h8 arg9 h9 hc0 hc1 x0 x1 x2 x3 x4 x5 xo8 = addf xo8 (k0_pay1 (F := Ideal) (k0_pay8 (F := Ideal) x0 x1 x2 x3)) := by
  unfold out0_B_8
  rw [View.read_writes_eq_canon _ _ _ (fun _ => cover0_B_8 (F := Ideal) ..)]
  unfold kernelRun0_B
  dsimp only
  rw [View.canon_unit_zero hz]
  unfold k0_pay2
  try sl_unfold_words
  simp only [View.readAt_eq_ld, h1.read_unread, h2.read_unread, h3.read_unread, h4.read_unread, h5.read_unread, h6.read_unread, h9.read_unread, View.ld_unit_zero (S := S512x2816) hz, View.ld_unit_zero (S := S2816x1024) hz, View.ld_unit_zero (S := S512x1024) hz, View.ld_unit_zero (S := S1x1024) hz, shapeCast_self]
  try rfl

end

/-- Row `i` of block `t`. -/
def tr (t : Fin cfg0.N) (i : Fin 512) : Fin 2048 := ⟨512 * t.val + i.val, by have := t.isLt; have : cfg0.N = 4 := N_0; omega⟩

/-- A block of the norm result's gradient. -/
theorem dblk (c : Dev nD) (t : Fin cfg0.N) (i : Fin 512) (l : Fin 1024) (p : Fin 2048) (hp : p.val = 512 * t.val + i.val) :
    plus (mul (k := 2816) (iblk m c 0 t : Mat 512 2816) (iblk m c 1 t : Mat 2816 1024)) (iblk m c 2 t : Mat 512 1024) (ix2 i l) = dN (m (c.tc.loc main_arg0)) (m (c.tc.loc main_arg1)) (m (c.tc.loc main_arg2)) (ix2 p l) := by
  unfold dN plus mul
  refine congrArg₂ (fun a b : EReal => a + b) (Finset.sum_congr rfl fun k _ => congrArg₂ (fun a b : EReal => a * b) (blk0 m c t i k p k hp rfl) ?_) (blk2 m c t i l p l hp rfl)
  exact blk1 m c t k l ⟨5632 - 2816 + k.val, by omega⟩ l rfl rfl

/-- A block's rows in the whole array. -/
theorem body6 (c : Dev nD) (t : Fin cfg0.N) (i : Fin 512) (l : Fin 1024) (p : Fin 2048) (hp : p.val = 512 * t.val + i.val) :
    (k0_pay6 (F := Ideal) (iblk m c 0 t) (iblk m c 1 t) (iblk m c 2 t) (iblk m c 3 t) (iblk m c 4 t) (iblk m c 5 t) (ix2 i l) : EReal) = r6 m c (ix2 p l) := by
  refine (pay6 _ _ _ _ _ _ i l).trans ?_
  unfold r6 res6 normGrad
  refine congrArg₂ (fun a b : EReal => a + b) (blk5 m c t i l p l hp rfl) ?_
  exact rowGrad_congr _ _ _ _ _ _ i p l (fun k => dblk m c t i k p hp) (fun k => blk3 m c t i k p k hp rfl) (fun k => blk4 m c t 0 k 0 k rfl rfl)

theorem out6 (c : Dev nD) (t : Fin cfg0.N) (i : Fin 512) (l : Fin 1024) (p : Fin 2048) (q : Fin 1024) (hp : p.val = 512 * t.val + i.val) (hq : q.val = l.val) :
    (outsAt0 m c t.val t.isLt).1 (ix2 i l) = r6 m c (ix2 p q) := by
  obtain rfl : q = l := Fin.ext hq
  have hN : cfg0.N = 4 := N_0
  have := t.isLt
  by_cases h : t.val = 0
  · rw [outsAt0_A m c t (by omega) (by omega)]
    dsimp only
    rw [out_A_6]; exact body6 m c t i q p hp
  · rw [outsAt0_B m c t (by omega) (by omega)]
    dsimp only
    rw [out_B_6]; exact body6 m c t i q p hp

theorem out7 (c : Dev nD) (t : Fin cfg0.N) (i : Fin 512) (l : Fin 1024) (p : Fin 2048) (q : Fin 1024) (hp : p.val = 512 * t.val + i.val) (hq : q.val = l.val) :
    (outsAt0 m c t.val t.isLt).2.1 (ix2 i l) = r7 m c (ix2 p q) := by
  obtain rfl : q = l := Fin.ext hq
  have hN : cfg0.N = 4 := N_0
  have := t.isLt
  by_cases h : t.val = 0
  · rw [outsAt0_A m c t (by omega) (by omega)]
    dsimp only
    rw [out_A_7]; exact body6 m c t i q p hp
  · rw [outsAt0_B m c t (by omega) (by omega)]
    dsimp only
    rw [out_B_7]; exact body6 m c t i q p hp

/-- One block's part of the gain's gradient. -/
theorem part8 (c : Dev nD) (t : Fin cfg0.N) (l : Fin 1024) :
    (k0_pay1 (F := Ideal) (k0_pay8 (F := Ideal) (iblk m c 0 t) (iblk m c 1 t) (iblk m c 2 t) (iblk m c 3 t)) (ix2 0 l) : EReal)
      = ∑ i : Fin 512, gainPart (dN (m (c.tc.loc main_arg0)) (m (c.tc.loc main_arg1)) (m (c.tc.loc main_arg2))) (m (c.tc.loc main_arg3)) (tr t i) l := by
  refine (pay1 _ _ _ _ l).trans (Finset.sum_congr rfl fun i _ => ?_)
  exact gainPart_congr _ _ _ _ i (tr t i) l (fun k => dblk m c t i k (tr t i) rfl) (fun k => blk3 m c t i k (tr t i) k rfl rfl)

/-- The gain's gradient after a point: the parts of the points so far. -/
theorem out8 (c : Dev nD) (l : Fin 1024) : ∀ (n : ℕ) (h : n < cfg0.N), (outsAt0 m c n h).2.2 (ix2 0 l)
    = ∑ s : Fin (n + 1), ∑ i : Fin 512, gainPart (dN (m (c.tc.loc main_arg0)) (m (c.tc.loc main_arg1)) (m (c.tc.loc main_arg2))) (m (c.tc.loc main_arg3)) (tr ⟨s.val, by omega⟩ i) l
  | 0, h => by
    rw [outsAt0_A m c ⟨0, h⟩ rfl (Nat.not_succ_le_zero 0)]
    dsimp only
    rw [out_A_8, Fin.sum_univ_one]
    exact part8 m c ⟨0, h⟩ l
  | n + 1, h => by
    have hN : cfg0.N = 4 := N_0
    have hB : ¬(n + 1) % 4 = 0 := by omega
    rw [outsAt0_B m c ⟨n + 1, h⟩ hB (Nat.le_add_left 1 n)]
    dsimp only
    rw [out_B_8, Fin.sum_univ_castSucc]
    show (outsAt0 m c n _).2.2 (ix2 0 l) + _ = _
    rw [out8 c l n]
    exact congrArg _ (part8 m c ⟨n + 1, h⟩ l)

/-- What a grid point writes back to window 6. -/
theorem flushed6_eq (c : Dev nD) (t : Fin cfg0.N) : (dats m 0 c).flushed 6 t = ((cfg0.win 6).blk t).view.read (Elt Ideal) (r6 m c) := by
  rw [Value.flushed6]
  funext x
  rw [View.read_apply]
  obtain ⟨i, l, rfl⟩ := pair (n0 := 512) (n1 := 1024) x
  refine (out6 m c t i l ((((cfg0.win 6).blk t).view.emb (ix2 i l) : S2048x1024.Idx) 0) ((((cfg0.win 6).blk t).view.emb (ix2 i l) : S2048x1024.Idx) 1) ?_ ?_).trans (congrArg (r6 m c) (eta2 _).symm)
  · show win0_6.index t 0 * 512 + 1 * i.val = _; rw [(at6 t).1]; omega
  · show win0_6.index t 1 * 1024 + 1 * l.val = _; rw [(at6 t).2]; omega

/-- The array of window 6 at the end. -/
theorem final6 (c : Dev nD) : (dats m 0 c).arrAt 6 cfg0.N = r6 m c :=
  (dats m 0 c).arrAt_eq_of_cover 6 (r6 m c) (fun t _ => flushed6_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_6 _, ?_⟩
    show i ∈ ((View.whole main_v0_0).slice (win0_6.rect ⟨_, ht⟩)).set
    rw [View.set_slice_whole, Rect.mem_set_unit]
    intro a
    match a with
    | ⟨0, _⟩ => show win0_6.index ⟨_, ht⟩ 0 * 512 ≤ (i 0 : Nat) ∧ (i 0 : Nat) < win0_6.index ⟨_, ht⟩ 0 * 512 + 512
                rw [(at6 ⟨_, ht⟩).1]; try dsimp only
                omega
    | ⟨1, _⟩ => show win0_6.index ⟨_, ht⟩ 1 * 1024 ≤ (i 1 : Nat) ∧ (i 1 : Nat) < win0_6.index ⟨_, ht⟩ 1 * 1024 + 1024
                rw [(at6 ⟨_, ht⟩).2]; try dsimp only
                omega

/-- What a grid point writes back to window 7. -/
theorem flushed7_eq (c : Dev nD) (t : Fin cfg0.N) : (dats m 0 c).flushed 7 t = ((cfg0.win 7).blk t).view.read (Elt Ideal) (r7 m c) := by
  rw [Value.flushed7]
  funext x
  rw [View.read_apply]
  obtain ⟨i, l, rfl⟩ := pair (n0 := 512) (n1 := 1024) x
  refine (out7 m c t i l ((((cfg0.win 7).blk t).view.emb (ix2 i l) : S2048x1024.Idx) 0) ((((cfg0.win 7).blk t).view.emb (ix2 i l) : S2048x1024.Idx) 1) ?_ ?_).trans (congrArg (r7 m c) (eta2 _).symm)
  · show win0_7.index t 0 * 512 + 1 * i.val = _; rw [(at7 t).1]; omega
  · show win0_7.index t 1 * 1024 + 1 * l.val = _; rw [(at7 t).2]; omega

/-- The array of window 7 at the end. -/
theorem final7 (c : Dev nD) : (dats m 0 c).arrAt 7 cfg0.N = r7 m c :=
  (dats m 0 c).arrAt_eq_of_cover 7 (r7 m c) (fun t _ => flushed7_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_7 _, ?_⟩
    show i ∈ ((View.whole main_v0_1).slice (win0_7.rect ⟨_, ht⟩)).set
    rw [View.set_slice_whole, Rect.mem_set_unit]
    intro a
    match a with
    | ⟨0, _⟩ => show win0_7.index ⟨_, ht⟩ 0 * 512 ≤ (i 0 : Nat) ∧ (i 0 : Nat) < win0_7.index ⟨_, ht⟩ 0 * 512 + 512
                rw [(at7 ⟨_, ht⟩).1]; try dsimp only
                omega
    | ⟨1, _⟩ => show win0_7.index ⟨_, ht⟩ 1 * 1024 ≤ (i 1 : Nat) ∧ (i 1 : Nat) < win0_7.index ⟨_, ht⟩ 1 * 1024 + 1024
                rw [(at7 ⟨_, ht⟩).2]; try dsimp only
                omega

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (Cert.Softmax.sum_split 4 512 2048 rfl f).symm

theorem flushed8_eq (c : Dev nD) (t : Fin cfg0.N) (hf : (cfg0.win 8).flush t = true) : (dats m 0 c).flushed 8 t = ((cfg0.win 8).blk t).view.read (Elt Ideal) (r8 m c) := by
  have hN : cfg0.N = 4 := N_0
  have h3 : t.val = 3 := by have := (flush0_8 t).mp hf; have := t.isLt; omega
  obtain ⟨n, hn⟩ := t
  obtain rfl : n = 3 := h3
  rw [Value.flushed8]
  have hz' : (fun a => win0_8.index ⟨3, hn⟩ a * main_v0_2.ty.shape.size a) = fun _ => 0 := funext fun a => by
    match a with
    | ⟨0, _⟩ => show win0_8.index ⟨3, hn⟩ 0 * _ = 0; rw [(at8 ⟨3, hn⟩).1, Nat.zero_mul]
    | ⟨1, _⟩ => show win0_8.index ⟨3, hn⟩ 1 * _ = 0; rw [(at8 ⟨3, hn⟩).2, Nat.zero_mul]
  refine Eq.trans ?_ (Memref.read_access_unit_zero (Elt Ideal) main_v0_2 hz' (fun a => by rw [congrFun hz' a]; simp) (r8 m c)).symm
  funext x
  obtain ⟨j, l, rfl⟩ := pair (n0 := 1) (n1 := 1024) x
  obtain rfl : j = 0 := Subsingleton.elim _ _
  refine (out8 m c l 3 hn).trans ?_
  exact sum_points fun i => gainPart (dN (m (c.tc.loc main_arg0)) (m (c.tc.loc main_arg1)) (m (c.tc.loc main_arg2))) (m (c.tc.loc main_arg3)) i l

/-- The array of the gain's gradient at the end. -/
theorem final8 (c : Dev nD) : (dats m 0 c).arrAt 8 cfg0.N = r8 m c :=
  (dats m 0 c).arrAt_eq_of_cover 8 (r8 m c) (flushed8_eq m c) fun i => by
    have h0 : (i 0 : Nat) < 1 := (i 0).isLt
    have h1 : (i 1 : Nat) < 1024 := (i 1).isLt
    have hN : cfg0.N = 4 := N_0
    let t : Fin cfg0.N := ⟨3, by omega⟩
    refine ⟨t, (flush0_8 t).mpr rfl, ?_⟩
    show i ∈ ((View.whole main_v0_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [(at8 t).1]; omega
    | ⟨1, _⟩ => show win0_8.index t 1 * 1024 ≤ (i 1 : Nat) ∧ (i 1 : Nat) < win0_8.index t 1 * 1024 + 1024
                rw [(at8 t).2]; omega

section
open Cert.FfnInDxGRefIdeal.Read
variable (x0 : Mat 2048 2816) (x1 : Mat 5632 1024) (x2 x3 : Mat 2048 1024) (x4 : Mat 1 1024) (x5 : Mat 2048 1024)

/-- The reference's gradient of the norm's result. -/
theorem ref_dN (i : Fin 2048) (j : Fin 1024) : val_main_v23 (F := Ideal) x0 x1 x2 (ix2 i j) = dN x0 x1 x2 (ix2 i j) := by
  rw [val_main_v23_apply, val_main_v22_apply]
  unfold dN plus mul
  refine (add_comm _ _).trans (congrArg (fun a : EReal => a + x2 (ix2 i j)) (Finset.sum_congr rfl fun k _ => ?_))
  rw [val_main_v21_apply, val_main_v2_apply, val_main_v1_apply, val_main_v0_apply]
  exact congrArg₂ (fun a b : EReal => a * b) (congrArg x0 (funext fun a => match a with | ⟨0, _⟩ => rfl | ⟨1, _⟩ => rfl)) (congrArg x1 (funext fun a => match a with | ⟨0, _⟩ => rfl | ⟨1, _⟩ => rfl))

/-- The reference's mean square of a row. -/
theorem ref_ms (x : (⟨2, ![2048, 1]⟩ : Shape).Idx) : val_main_v10 (F := Ideal) x3 x = ms x3 (x 0) := by
  rw [val_main_v10_apply, val_main_v9_apply, val_main_v8_apply, val_main_v7_apply, val_main_v6_apply, val_main_v5_apply, val_main_cst_apply, val_main_cst_0_apply, val_main_cst_1_apply]
  unfold ms
  refine congrArg (fun z : EReal => Ideal.div z _ + _) ?_
  show Ideal.ofBits .f32 0x00000000#32 + _ = _
  rw [Ideal.ofBits_zero_f32, zero_add]
  refine Finset.sum_congr rfl fun k _ => ?_
  rw [val_main_v4_apply]
  exact congrArg (fun z : EReal => z * z) (congrArg x3 (funext fun a => match a with | ⟨0, _⟩ => rfl | ⟨1, _⟩ => rfl))

/-- The reference's reciprocal root of it. -/
theorem ref_rs (x : (⟨2, ![2048, 1]⟩ : Shape).Idx) : val_main_v11 (F := Ideal) x3 x = Ideal.rsqrt (ms x3 (x 0)) := by
  rw [val_main_v11_apply, ref_ms]
  rfl

/-- The reference's gain. -/
theorem ref_gain (i : Fin 2048) (j : Fin 1024) : val_main_v27 (F := Ideal) x4 (ix2 i j) = x4 (ix2 0 j) := by
  rw [val_main_v27_apply, val_main_v17_apply, val_main_v3_apply]
  exact congrArg x4 (funext fun a => match a with | ⟨0, _⟩ => rfl | ⟨1, _⟩ => Fin.ext (Nat.mod_eq_of_lt j.isLt))

/-- The reference's gradient of the mean square, spread over its row. -/
theorem ref_sum (i : Fin 2048) (j : Fin 1024) : val_main_v40 (F := Ideal) x0 x1 x2 x3 x4 (ix2 i j)
    = Ideal.div ((∑ k : Fin 1024, x3 (ix2 i k) * (dN x0 x1 x2 (ix2 i k) * x4 (ix2 0 k))) * (Ideal.ofBits .f32 0xBF000000#32 * Ideal.div (Ideal.rsqrt (ms x3 i)) (ms x3 i))) (Ideal.ofBits .f32 0x44800000#32) := by
  rw [val_main_v40_apply, val_main_v39_apply, val_main_cst_7_apply]
  show Ideal.ofBits .f32 0x00000000#32 + _ = _
  rw [Ideal.ofBits_zero_f32, zero_add, Fin.sum_univ_one, val_main_v38_apply, val_main_v37_apply, val_main_v36_apply, val_main_v32_apply, val_main_v31_apply, val_main_v14_apply, val_main_v13_apply, val_main_v12_apply, ref_rs, ref_ms,
    val_main_cst_5_apply, val_main_cst_6_apply, val_main_cst_2_apply]
  refine congrArg (fun z : EReal => Ideal.div (z * (Ideal.ofBits .f32 0xBF000000#32 * Ideal.div (Ideal.rsqrt (ms x3 i)) (ms x3 i))) (Ideal.ofBits .f32 0x44800000#32)) ?_
  show Ideal.ofBits .f32 0x00000000#32 + _ = _
  rw [Ideal.ofBits_zero_f32, zero_add]
  refine Finset.sum_congr rfl fun k _ => ?_
  have e : idx_main_v31 (idx_main_v32 (idx_main_v39 (idx_main_v40 (ix2 i j)) 0)) k = ix2 i k := funext fun a => match a with
    | ⟨0, _⟩ => Fin.ext (by show i.val * 1 + 0 = i.val; omega)
    | ⟨1, _⟩ => rfl
  rw [e, val_main_v30_apply, val_main_v28_apply, ref_dN, ref_gain]
  rfl

theorem ref6 (h0 : ∀ i, Real' (x0 i)) (h1 : ∀ i, Real' (x1 i)) (h2 : ∀ i, Real' (x2 i)) (h3 : ∀ i, Real' (x3 i)) (h4 : ∀ i, Real' (x4 i)) :
    val_main_v44 (F := Ideal) x0 x1 x2 x3 x4 x5 = res6 x0 x1 x2 x3 x4 x5 := by
  funext x
  obtain ⟨i, j, rfl⟩ := pair (n0 := 2048) (n1 := 1024) x
  rw [val_main_v44_apply, val_main_v43_apply, val_main_v42_apply, val_main_v41_apply, val_main_v35_apply, val_main_v34_apply, val_main_v33_apply, val_main_v28_apply, ref_dN, ref_gain, ref_rs, ref_sum]
  refine rowGrad_ref (dN x0 x1 x2) x3 x4 (x5 (ix2 i j)) (fun z => ?_) h3 h4 i j
  unfold dN plus mul
  exact Real'.add (Real'.sum _ fun k => Real'.mul (h0 _) (h1 _)) (h2 _)

theorem ref7 (h0 : ∀ i, Real' (x0 i)) (h1 : ∀ i, Real' (x1 i)) (h2 : ∀ i, Real' (x2 i)) (h3 : ∀ i, Real' (x3 i)) (h4 : ∀ i, Real' (x4 i)) :
    val_main_v45 (F := Ideal) x0 x1 x2 x3 x4 x5 = res7 x0 x1 x2 x3 x4 x5 := by
  funext x
  rw [val_main_v45_apply]
  exact congrFun (ref6 _ _ _ _ _ x5 h0 h1 h2 h3 h4) x

theorem ref8 : val_main_v46 (F := Ideal) x0 x1 x2 x3 = res8 x0 x1 x2 x3 := by
  funext x
  obtain ⟨u, j, rfl⟩ := pair (n0 := 1) (n1 := 1024) x
  rw [val_main_v46_apply, val_main_v29_apply, val_main_cst_4_apply]
  show Ideal.ofBits .f32 0x00000000#32 + _ = _
  rw [Ideal.ofBits_zero_f32, zero_add, Fin.sum_univ_one, val_main_v26_apply, val_main_v25_apply, val_main_cst_3_apply]
  show Ideal.ofBits .f32 0x00000000#32 + _ = _
  rw [Ideal.ofBits_zero_f32, zero_add]
  unfold res8 gainGrad
  refine Finset.sum_congr rfl fun i _ => ?_
  have e : idx_main_v25 (idx_main_v26 (idx_main_v29 (idx_main_v46 (ix2 u j)) 0)) i = ix2 i j := funext fun a => match a with
    | ⟨0, _⟩ => rfl
    | ⟨1, _⟩ => Fin.ext (by show 0 * 1024 + j.val = j.val; omega)
  rw [e, val_main_v24_apply, val_main_v16_apply, val_main_v15_apply, ref_rs, ref_dN]
  unfold gainPart
  exact mul_comm _ _

end

end Cert.FfnInDxGIdeal.Pay

namespace Cert.FfnInDxGClaims

open Idealize.ShloMosaic Idealize.ShloMosaic.TcCoe Idealize.SL.Sem Cert.Tiles Cert.FfnInDxGIdeal.Pay

attribute [local instance] Cert.FfnInDxG.Gen.facts Cert.FfnInDxGIdeal.Gen.facts Cert.FfnInDxGRefIdeal.Gen.facts Cert.PreRealNormHalf.facts

/-- The kernel runs, keeps its arguments and ends quiescent. -/
theorem frameP : Cert.quiescent_FfnInDxG := fun m ρ _ => Cert.FfnInDxG.Gen.frame m ρ

/-- … and so does it at the ideal numbers. -/
theorem framePI : Cert.quiescent_FfnInDxGIdeal := fun m ρ _ => Cert.FfnInDxGIdeal.Gen.frame m ρ

/-- The reference runs, keeps its arguments and ends quiescent. -/
theorem frameRI : Cert.quiescent_FfnInDxGRefIdeal := fun m ρ _ =>
  (θ_run Cert.FfnInDxGRefIdeal.defs _ _).mono (fun r h => ⟨fun c => (h c).2.2.2,
      Idealize.ShloMosaic.sem_eq_zero_of_no_sems (by decide) r.2⟩) (Cert.FfnInDxGRefIdeal.Value.run (F := Ideal) m ρ)

theorem framePIpre : Cert.quiescent_FfnInDxGIdeal_pre_real_norm_half := fun m ρ _ => Cert.FfnInDxGIdeal.Gen.frame m ρ

theorem frameRIpre : Cert.quiescent_FfnInDxGRefIdeal_pre_real_norm_half := fun m ρ _ => frameRI m ρ trivial

/-- Kernel and reference compute the same results. -/
theorem algebraic : Cert.algebraic_FfnInDxGIdeal_FfnInDxGRefIdeal_pre_real_norm_half := by
  intro m ρ m' ρ' hpre hag
  refine ⟨fun c => r6 m c, fun c => r7 m c, fun c => r8 m c, ?_, ?_⟩
  · exact (θ_run Cert.FfnInDxGIdeal.defs _ _).mono (fun r h c => ⟨((h c).1).trans (final6 m c), ((h c).2.1).trans (final7 m c), ((h c).2.2.1).trans (final8 m c), (h c).2.2.2⟩) (Cert.FfnInDxGIdeal.Value.run_blocks m ρ)
  · refine (θ_run Cert.FfnInDxGRefIdeal.defs _ _).mono (fun r h c => ?_) (Cert.FfnInDxGRefIdeal.Value.run (F := Ideal) m' ρ')
    obtain ⟨g0, g1, g2, g3, g4, g5⟩ := hag c
    obtain ⟨h0, h1, h2, h3, h4⟩ := Cert.PreRealNormHalf.real _ _ _ _ _ _ (hpre c)
    refine ⟨((h c).1).trans ?_, ((h c).2.1).trans ?_, ((h c).2.2.1).trans ?_, (h c).2.2.2⟩ <;> clear h
    · rw [Cert.FfnInDxGRefIdeal.Read.val_main_v44_eq]
      try rw [g0]
      try rw [g1]
      try rw [g2]
      try rw [g3]
      try rw [g4]
      try rw [g5]
      exact ref6 _ _ _ _ _ _ h0 h1 h2 h3 h4
    · rw [Cert.FfnInDxGRefIdeal.Read.val_main_v45_eq]
      try rw [g0]
      try rw [g1]
      try rw [g2]
      try rw [g3]
      try rw [g4]
      try rw [g5]
      exact ref7 _ _ _ _ _ _ h0 h1 h2 h3 h4
    · rw [Cert.FfnInDxGRefIdeal.Read.val_main_v46_eq]
      try rw [g0]
      try rw [g1]
      try rw [g2]
      try rw [g3]
      try rw [g4]
      try rw [g5]
      exact ref8 _ _ _ _

end Cert.FfnInDxGClaims

end
-- ==== Proof.FfnOutDw.lean ====
/-
  The gradient of the feed-forward's output weights.
-/
module

public import proofs.«01_k».proof.Defs
public import proofs.«01_k».proof.Proof.Tiles
public import proofs.«01_k».proof.Proof.Gen.FfnOutDw.Frame
public import proofs.«01_k».proof.Proof.Gen.FfnOutDwIdeal.Value
public import proofs.«01_k».proof.Proof.Gen.FfnOutDwRefIdeal.Read
public import proofs.«01_k».proof.Proof.Gen.FfnOutDwRefIdeal.Run
public import Idealize.ShloMosaic.Lib.Tactic

@[expose] public section

set_option maxRecDepth 16384

noncomputable section

namespace Cert.FfnOutDwIdeal.Pay

open Idealize.ShloMosaic Idealize.ShloMosaic.TcCoe Idealize.SL.Sem Cert.FfnOutDwIdeal Cert.FfnOutDwIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = t.val / 2 := by decide +kernel

/-- An element of a block of window 0 is the array's. -/
theorem blk0 (c : Dev nD) (t : Fin cfg0.N) (i : Fin 2048) (l : Fin 1408) (p : Fin 2048) (q : Fin 2816) (hp : p.val = i.val) (hq : q.val = 1408 * (t.val / 2) + l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1408 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val % 2) + l.val) :
    (iblk m c 1 t (ix2 i l) : EReal) = m (c.tc.loc main_arg1) (ix2 p q) := by
  refine congrArg (m (c.tc.loc main_arg1)) (ext2 ?_ ?_)
  · show win0_1.index t 0 * 2048 + 1 * i.val = p.val; rw [(at1 t).1]; omega
  · show win0_1.index t 1 * 512 + 1 * l.val = q.val; rw [(at1 t).2]; omega

theorem at2 : ∀ t : Fin grid0.N, win0_2.index t 0 = t.val / 2 ∧ win0_2.index t 1 = t.val % 2 := by decide +kernel

/-- The result. -/
def res (x0 : Mat 2048 2816) (x1 : Mat 2048 1024) : Mat 2816 1024 := mulTA (k := 2048) x0 x1

/-- The kernel's result. -/
def r2 (c : Dev nD) : Mat 2816 1024 := res (m (c.tc.loc main_arg0)) (m (c.tc.loc main_arg1))

/-- What a grid point leaves in its block. -/
theorem out2 (c : Dev nD) (t : Fin cfg0.N) (i : Fin 1408) (l : Fin 512) (p : Fin 2816) (q : Fin 1024) (hp : p.val = 1408 * (t.val / 2) + i.val) (hq : q.val = 512 * (t.val % 2) + l.val) :
    out0_2 (iblk m c 0 t) (iblk m c 1 t) (ix2 i l) = r2 m c (ix2 p q) := by
  unfold out0_2
  rw [View.canon_unit_zero hz]
  simp only [View.ld_unit_zero (S := S2048x1408) hz, View.ld_unit_zero (S := S2048x512) hz]
  have ea : ∀ k : Fin 2048, (iblk m c 0 t (ix2 k i) : EReal) = m (c.tc.loc main_arg0) (ix2 k p) := fun k => blk0 m c t k i k p rfl hp
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1408) (n1 := 512) x
  refine (out2 m c t i l ((((cfg0.win 2).blk t).view.emb (ix2 i l) : S2816x1024.Idx) 0) ((((cfg0.win 2).blk t).view.emb (ix2 i l) : S2816x1024.Idx) 1) ?_ ?_).trans (congrArg (r2 m c) (eta2 _).symm)
  · show win0_2.index t 0 * 1408 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2816 := (i 0).isLt
    have h1 : (i 1 : Nat) < 1024 := (i 1).isLt
    have hN : cfg0.N = 4 := N_0
    have ht : ((i 0 : Nat) / 1408) * 2 + ((i 1 : Nat) / 512) < cfg0.N := by omega
    refine ⟨⟨((i 0 : Nat) / 1408) * 2 + ((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1408 ≤ (i 0 : Nat) ∧ (i 0 : Nat) < win0_2.index ⟨_, ht⟩ 0 * 1408 + 1408
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.FfnOutDwRefIdeal.Read in
/-- The reference's result. -/
theorem ref2 (x0 : Mat 2048 2816) (x1 : Mat 2048 1024) : val_main_v6 (F := Ideal) x0 x1 = res x0 x1 := by
  funext x
  obtain ⟨i, j, rfl⟩ := pair (n0 := 2816) (n1 := 1024) x
  rw [val_main_v6_apply, val_main_v5_apply, val_main_v4_apply]
  unfold res
  refine Finset.sum_congr rfl fun k _ => ?_
  rw [val_main_v2_apply, val_main_v0_apply]
  refine Eq.trans ?_ (mul_comm _ _)
  exact congrArg₂ (· * ·) (congrArg x1 (funext fun a => match a with | ⟨0, _⟩ => rfl | ⟨1, _⟩ => rfl)) (congrArg x0 (funext fun a => match a with | ⟨0, _⟩ => rfl | ⟨1, _⟩ => rfl))

end Cert.FfnOutDwIdeal.Pay

namespace Cert.FfnOutDwClaims

open Idealize.ShloMosaic Idealize.ShloMosaic.TcCoe Idealize.SL.Sem Cert.Tiles Cert.FfnOutDwIdeal.Pay

attribute [local instance] Cert.FfnOutDw.Gen.facts Cert.FfnOutDwIdeal.Gen.facts Cert.FfnOutDwRefIdeal.Gen.facts

/-- The kernel runs, keeps its arguments and ends quiescent. -/
theorem frameP : Cert.quiescent_FfnOutDw := fun m ρ _ => Cert.FfnOutDw.Gen.frame m ρ

/-- … and so does it at the ideal numbers. -/
theorem framePI : Cert.quiescent_FfnOutDwIdeal := fun m ρ _ => Cert.FfnOutDwIdeal.Gen.frame m ρ

/-- The reference runs, keeps its arguments and ends quiescent. -/
theorem frameRI : Cert.quiescent_FfnOutDwRefIdeal := fun m ρ _ =>
  (θ_run Cert.FfnOutDwRefIdeal.defs _ _).mono (fun r h => ⟨fun c => (h c).2,
      Idealize.ShloMosaic.sem_eq_zero_of_no_sems (by decide) r.2⟩) (Cert.FfnOutDwRefIdeal.Value.run (F := Ideal) m ρ)

/-- Kernel and reference compute the same results. -/
theorem algebraic : Cert.algebraic_FfnOutDwIdeal_FfnOutDwRefIdeal := by
  intro m ρ m' ρ' hpre hag
  refine ⟨fun c => r2 m c, ?_, ?_⟩
  · exact (θ_run Cert.FfnOutDwIdeal.defs _ _).mono (fun r h c => ⟨((h c).1).trans (final2 m c), (h c).2⟩) (Cert.FfnOutDwIdeal.Value.run_blocks m ρ)
  · refine (θ_run Cert.FfnOutDwRefIdeal.defs _ _).mono (fun r h c => ?_) (Cert.FfnOutDwRefIdeal.Value.run (F := Ideal) m' ρ')
    obtain ⟨g0, g1⟩ := hag c
    refine ⟨((h c).1).trans ?_, (h c).2⟩
    · rw [Cert.FfnOutDwRefIdeal.Read.val_main_v6_eq, g0, g1]
      exact ref2 _ _

end Cert.FfnOutDwClaims

end
-- ==== Proof.OutDw.lean ====
/-
  The gradient of the output projection's weights.
-/
module

public import proofs.«01_k».proof.Defs
public import proofs.«01_k».proof.Proof.Tiles
public import proofs.«01_k».proof.Proof.Gen.OutDw.Frame
public import proofs.«01_k».proof.Proof.Gen.OutDwIdeal.Value
public import proofs.«01_k».proof.Proof.Gen.OutDwRefIdeal.Read
public import proofs.«01_k».proof.Proof.Gen.OutDwRefIdeal.Run
public import Idealize.ShloMosaic.Lib.Tactic

@[expose] public section

set_option maxRecDepth 16384

noncomputable section

namespace Cert.OutDwIdeal.Pay

open Idealize.ShloMosaic Idealize.ShloMosaic.TcCoe Idealize.SL.Sem Cert.OutDwIdeal Cert.OutDwIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = t.val := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val) + l.val) :
    (iblk m c 1 t (ix2 i l) : EReal) = m (c.tc.loc main_arg1) (ix2 p q) := by
  refine congrArg (m (c.tc.loc main_arg1)) (ext2 ?_ ?_)
  · show win0_1.index t 0 * 2048 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 2048 1024) (x1 : Mat 2048 1024) : Mat 1024 1024 := mulTA (k := 2048) x0 x1

/-- The kernel's result. -/
def r2 (c : Dev nD) : Mat 1024 1024 := res (m (c.tc.loc main_arg0)) (m (c.tc.loc main_arg1))

/-- What a grid point leaves in its block. -/
theorem out2 (c : Dev nD) (t : Fin cfg0.N) (i : Fin 1024) (l : Fin 512) (p : Fin 1024) (q : Fin 1024) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S2048x1024) hz, View.ld_unit_zero (S := S2048x512) hz]
  have ea : ∀ k : Fin 2048, (iblk m c 0 t (ix2 k i) : EReal) = m (c.tc.loc main_arg0) (ix2 k p) := fun k => blk0 m c t k i k p rfl hp
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1024) (n1 := 512) x
  refine (out2 m c t i l ((((cfg0.win 2).blk t).view.emb (ix2 i l) : S1024x1024.Idx) 0) ((((cfg0.win 2).blk t).view.emb (ix2 i l) : S1024x1024.Idx) 1) ?_ ?_).trans (congrArg (r2 m c) (eta2 _).symm)
  · show win0_2.index t 0 * 1024 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 1024 := (i 0).isLt
    have h1 : (i 1 : Nat) < 1024 := (i 1).isLt
    have hN : cfg0.N = 2 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0 : Nat) ∧ (i 0 : Nat) < win0_2.index ⟨_, ht⟩ 0 * 1024 + 1024
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.OutDwRefIdeal.Read in
/-- The reference's result. -/
theorem ref2 (x0 : Mat 2048 1024) (x1 : Mat 2048 1024) : val_main_v6 (F := Ideal) x0 x1 = res x0 x1 := by
  funext x
  obtain ⟨i, j, rfl⟩ := pair (n0 := 1024) (n1 := 1024) x
  rw [val_main_v6_apply, val_main_v5_apply, val_main_v4_apply]
  unfold res
  refine Finset.sum_congr rfl fun k _ => ?_
  rw [val_main_v2_apply, val_main_v0_apply]
  refine Eq.trans ?_ (mul_comm _ _)
  exact congrArg₂ (· * ·) (congrArg x1 (funext fun a => match a with | ⟨0, _⟩ => rfl | ⟨1, _⟩ => rfl)) (congrArg x0 (funext fun a => match a with | ⟨0, _⟩ => rfl | ⟨1, _⟩ => rfl))

end Cert.OutDwIdeal.Pay

namespace Cert.OutDwClaims

open Idealize.ShloMosaic Idealize.ShloMosaic.TcCoe Idealize.SL.Sem Cert.Tiles Cert.OutDwIdeal.Pay

attribute [local instance] Cert.OutDw.Gen.facts Cert.OutDwIdeal.Gen.facts Cert.OutDwRefIdeal.Gen.facts

/-- The kernel runs, keeps its arguments and ends quiescent. -/
theorem frameP : Cert.quiescent_OutDw := fun m ρ _ => Cert.OutDw.Gen.frame m ρ

/-- … and so does it at the ideal numbers. -/
theorem framePI : Cert.quiescent_OutDwIdeal := fun m ρ _ => Cert.OutDwIdeal.Gen.frame m ρ

/-- The reference runs, keeps its arguments and ends quiescent. -/
theorem frameRI : Cert.quiescent_OutDwRefIdeal := fun m ρ _ =>
  (θ_run Cert.OutDwRefIdeal.defs _ _).mono (fun r h => ⟨fun c => (h c).2,
      Idealize.ShloMosaic.sem_eq_zero_of_no_sems (by decide) r.2⟩) (Cert.OutDwRefIdeal.Value.run (F := Ideal) m ρ)

/-- Kernel and reference compute the same results. -/
theorem algebraic : Cert.algebraic_OutDwIdeal_OutDwRefIdeal := by
  intro m ρ m' ρ' hpre hag
  refine ⟨fun c => r2 m c, ?_, ?_⟩
  · exact (θ_run Cert.OutDwIdeal.defs _ _).mono (fun r h c => ⟨((h c).1).trans (final2 m c), (h c).2⟩) (Cert.OutDwIdeal.Value.run_blocks m ρ)
  · refine (θ_run Cert.OutDwRefIdeal.defs _ _).mono (fun r h c => ?_) (Cert.OutDwRefIdeal.Value.run (F := Ideal) m' ρ')
    obtain ⟨g0, g1⟩ := hag c
    refine ⟨((h c).1).trans ?_, (h c).2⟩
    · rw [Cert.OutDwRefIdeal.Read.val_main_v6_eq, g0, g1]
      exact ref2 _ _

end Cert.OutDwClaims

end
-- ==== Proof.InDw.lean ====
/-
  The gradient of the input projection's weights.
-/
module

public import proofs.«01_k».proof.Defs
public import proofs.«01_k».proof.Proof.Tiles
public import proofs.«01_k».proof.Proof.Gen.InDw.Frame
public import proofs.«01_k».proof.Proof.Gen.InDwIdeal.Value
public import proofs.«01_k».proof.Proof.Gen.InDwRefIdeal.Read
public import proofs.«01_k».proof.Proof.Gen.InDwRefIdeal.Run
public import Idealize.ShloMosaic.Lib.Tactic

@[expose] public section

set_option maxRecDepth 16384

noncomputable section

namespace Cert.InDwIdeal.Pay

open Idealize.ShloMosaic Idealize.ShloMosaic.TcCoe Idealize.SL.Sem Cert.InDwIdeal Cert.InDwIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = t.val / 2 := by decide +kernel

/-- An element of a block of window 0 is the array's. -/
theorem blk0 (c : Dev nD) (t : Fin cfg0.N) (i : Fin 2048) (l : Fin 1152) (p : Fin 2048) (q : Fin 2304) (hp : p.val = i.val) (hq : q.val = 1152 * (t.val / 2) + l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1152 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val % 2) + l.val) :
    (iblk m c 1 t (ix2 i l) : EReal) = m (c.tc.loc main_arg1) (ix2 p q) := by
  refine congrArg (m (c.tc.loc main_arg1)) (ext2 ?_ ?_)
  · show win0_1.index t 0 * 2048 + 1 * i.val = p.val; rw [(at1 t).1]; omega
  · show win0_1.index t 1 * 512 + 1 * l.val = q.val; rw [(at1 t).2]; omega

theorem at2 : ∀ t : Fin grid0.N, win0_2.index t 0 = t.val / 2 ∧ win0_2.index t 1 = t.val % 2 := by decide +kernel

/-- The result. -/
def res (x0 : Mat 2048 2304) (x1 : Mat 2048 1024) : Mat 2304 1024 := mulTA (k := 2048) x0 x1

/-- The kernel's result. -/
def r2 (c : Dev nD) : Mat 2304 1024 := res (m (c.tc.loc main_arg0)) (m (c.tc.loc main_arg1))

/-- What a grid point leaves in its block. -/
theorem out2 (c : Dev nD) (t : Fin cfg0.N) (i : Fin 1152) (l : Fin 512) (p : Fin 2304) (q : Fin 1024) (hp : p.val = 1152 * (t.val / 2) + i.val) (hq : q.val = 512 * (t.val % 2) + l.val) :
    out0_2 (iblk m c 0 t) (iblk m c 1 t) (ix2 i l) = r2 m c (ix2 p q) := by
  unfold out0_2
  rw [View.canon_unit_zero hz]
  simp only [View.ld_unit_zero (S := S2048x1152) hz, View.ld_unit_zero (S := S2048x512) hz]
  have ea : ∀ k : Fin 2048, (iblk m c 0 t (ix2 k i) : EReal) = m (c.tc.loc main_arg0) (ix2 k p) := fun k => blk0 m c t k i k p rfl hp
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1152) (n1 := 512) x
  refine (out2 m c t i l ((((cfg0.win 2).blk t).view.emb (ix2 i l) : S2304x1024.Idx) 0) ((((cfg0.win 2).blk t).view.emb (ix2 i l) : S2304x1024.Idx) 1) ?_ ?_).trans (congrArg (r2 m c) (eta2 _).symm)
  · show win0_2.index t 0 * 1152 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2304 := (i 0).isLt
    have h1 : (i 1 : Nat) < 1024 := (i 1).isLt
    have hN : cfg0.N = 4 := N_0
    have ht : ((i 0 : Nat) / 1152) * 2 + ((i 1 : Nat) / 512) < cfg0.N := by omega
    refine ⟨⟨((i 0 : Nat) / 1152) * 2 + ((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1152 ≤ (i 0 : Nat) ∧ (i 0 : Nat) < win0_2.index ⟨_, ht⟩ 0 * 1152 + 1152
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.InDwRefIdeal.Read in
/-- The reference's result. -/
theorem ref2 (x0 : Mat 2048 2304) (x1 : Mat 2048 1024) : val_main_v7 (F := Ideal) x0 x1 = res x0 x1 := by
  funext x
  obtain ⟨i, j, rfl⟩ := pair (n0 := 2304) (n1 := 1024) x
  rw [val_main_v7_apply, val_main_v6_apply, val_main_v5_apply, val_main_v4_apply]
  unfold res
  refine Finset.sum_congr rfl fun k _ => ?_
  rw [val_main_v2_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.InDwIdeal.Pay

namespace Cert.InDwClaims

open Idealize.ShloMosaic Idealize.ShloMosaic.TcCoe Idealize.SL.Sem Cert.Tiles Cert.InDwIdeal.Pay

attribute [local instance] Cert.InDw.Gen.facts Cert.InDwIdeal.Gen.facts Cert.InDwRefIdeal.Gen.facts

/-- The kernel runs, keeps its arguments and ends quiescent. -/
theorem frameP : Cert.quiescent_InDw := fun m ρ _ => Cert.InDw.Gen.frame m ρ

/-- … and so does it at the ideal numbers. -/
theorem framePI : Cert.quiescent_InDwIdeal := fun m ρ _ => Cert.InDwIdeal.Gen.frame m ρ

/-- The reference runs, keeps its arguments and ends quiescent. -/
theorem frameRI : Cert.quiescent_InDwRefIdeal := fun m ρ _ =>
  (θ_run Cert.InDwRefIdeal.defs _ _).mono (fun r h => ⟨fun c => (h c).2,
      Idealize.ShloMosaic.sem_eq_zero_of_no_sems (by decide) r.2⟩) (Cert.InDwRefIdeal.Value.run (F := Ideal) m ρ)

/-- Kernel and reference compute the same results. -/
theorem algebraic : Cert.algebraic_InDwIdeal_InDwRefIdeal := by
  intro m ρ m' ρ' hpre hag
  refine ⟨fun c => r2 m c, ?_, ?_⟩
  · exact (θ_run Cert.InDwIdeal.defs _ _).mono (fun r h c => ⟨((h c).1).trans (final2 m c), (h c).2⟩) (Cert.InDwIdeal.Value.run_blocks m ρ)
  · refine (θ_run Cert.InDwRefIdeal.defs _ _).mono (fun r h c => ?_) (Cert.InDwRefIdeal.Value.run (F := Ideal) m' ρ')
    obtain ⟨g0, g1⟩ := hag c
    refine ⟨((h c).1).trans ?_, (h c).2⟩
    · rw [Cert.InDwRefIdeal.Read.val_main_v7_eq, g0, g1]
      exact ref2 _ _

end Cert.InDwClaims

end
-- ==== Proof.GateDw.lean ====
/-
  The gradient of the gate projection's weights.
-/
module

public import proofs.«01_k».proof.Defs
public import proofs.«01_k».proof.Proof.Tiles
public import proofs.«01_k».proof.Proof.Gen.GateDw.Frame
public import proofs.«01_k».proof.Proof.Gen.GateDwIdeal.Value
public import proofs.«01_k».proof.Proof.Gen.GateDwRefIdeal.Read
public import proofs.«01_k».proof.Proof.Gen.GateDwRefIdeal.Run
public import Idealize.ShloMosaic.Lib.Tactic

@[expose] public section

set_option maxRecDepth 16384

noncomputable section

namespace Cert.GateDwIdeal.Pay

open Idealize.ShloMosaic Idealize.ShloMosaic.TcCoe Idealize.SL.Sem Cert.GateDwIdeal Cert.GateDwIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = t.val / 2 := by decide +kernel

/-- An element of a block of window 0 is the array's. -/
theorem blk0 (c : Dev nD) (t : Fin cfg0.N) (i : Fin 2048) (l : Fin 1024) (p : Fin 2048) (q : Fin 4096) (hp : p.val = i.val) (hq : q.val = 1024 * (t.val / 2) + l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val % 2) + l.val) :
    (iblk m c 1 t (ix2 i l) : EReal) = m (c.tc.loc main_arg1) (ix2 p q) := by
  refine congrArg (m (c.tc.loc main_arg1)) (ext2 ?_ ?_)
  · show win0_1.index t 0 * 2048 + 1 * i.val = p.val; rw [(at1 t).1]; omega
  · show win0_1.index t 1 * 512 + 1 * l.val = q.val; rw [(at1 t).2]; omega

theorem at2 : ∀ t : Fin grid0.N, win0_2.index t 0 = t.val / 2 ∧ win0_2.index t 1 = t.val % 2 := by decide +kernel

/-- The result. -/
def res (x0 : Mat 2048 4096) (x1 : Mat 2048 1024) : Mat 4096 1024 := mulTA (k := 2048) x0 x1

/-- The kernel's result. -/
def r2 (c : Dev nD) : Mat 4096 1024 := res (m (c.tc.loc main_arg0)) (m (c.tc.loc main_arg1))

/-- What a grid point leaves in its block. -/
theorem out2 (c : Dev nD) (t : Fin cfg0.N) (i : Fin 1024) (l : Fin 512) (p : Fin 4096) (q : Fin 1024) (hp : p.val = 1024 * (t.val / 2) + i.val) (hq : q.val = 512 * (t.val % 2) + l.val) :
    out0_2 (iblk m c 0 t) (iblk m c 1 t) (ix2 i l) = r2 m c (ix2 p q) := by
  unfold out0_2
  rw [View.canon_unit_zero hz]
  simp only [View.ld_unit_zero (S := S2048x1024) hz, View.ld_unit_zero (S := S2048x512) hz]
  have ea : ∀ k : Fin 2048, (iblk m c 0 t (ix2 k i) : EReal) = m (c.tc.loc main_arg0) (ix2 k p) := fun k => blk0 m c t k i k p rfl hp
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1024) (n1 := 512) x
  refine (out2 m c t i l ((((cfg0.win 2).blk t).view.emb (ix2 i l) : S4096x1024.Idx) 0) ((((cfg0.win 2).blk t).view.emb (ix2 i l) : S4096x1024.Idx) 1) ?_ ?_).trans (congrArg (r2 m c) (eta2 _).symm)
  · show win0_2.index t 0 * 1024 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 4096 := (i 0).isLt
    have h1 : (i 1 : Nat) < 1024 := (i 1).isLt
    have hN : cfg0.N = 8 := N_0
    have ht : ((i 0 : Nat) / 1024) * 2 + ((i 1 : Nat) / 512) < cfg0.N := by omega
    refine ⟨⟨((i 0 : Nat) / 1024) * 2 + ((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0 : Nat) ∧ (i 0 : Nat) < win0_2.index ⟨_, ht⟩ 0 * 1024 + 1024
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.GateDwRefIdeal.Read in
/-- The reference's result. -/
theorem ref2 (x0 : Mat 2048 4096) (x1 : Mat 2048 1024) : val_main_v7 (F := Ideal) x0 x1 = res x0 x1 := by
  funext x
  obtain ⟨i, j, rfl⟩ := pair (n0 := 4096) (n1 := 1024) x
  rw [val_main_v7_apply, val_main_v6_apply, val_main_v5_apply, val_main_v4_apply]
  unfold res
  refine Finset.sum_congr rfl fun k _ => ?_
  rw [val_main_v2_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.GateDwIdeal.Pay

namespace Cert.GateDwClaims

open Idealize.ShloMosaic Idealize.ShloMosaic.TcCoe Idealize.SL.Sem Cert.Tiles Cert.GateDwIdeal.Pay

attribute [local instance] Cert.GateDw.Gen.facts Cert.GateDwIdeal.Gen.facts Cert.GateDwRefIdeal.Gen.facts

/-- The kernel runs, keeps its arguments and ends quiescent. -/
theorem frameP : Cert.quiescent_GateDw := fun m ρ _ => Cert.GateDw.Gen.frame m ρ

/-- … and so does it at the ideal numbers. -/
theorem framePI : Cert.quiescent_GateDwIdeal := fun m ρ _ => Cert.GateDwIdeal.Gen.frame m ρ

/-- The reference runs, keeps its arguments and ends quiescent. -/
theorem frameRI : Cert.quiescent_GateDwRefIdeal := fun m ρ _ =>
  (θ_run Cert.GateDwRefIdeal.defs _ _).mono (fun r h => ⟨fun c => (h c).2,
      Idealize.ShloMosaic.sem_eq_zero_of_no_sems (by decide) r.2⟩) (Cert.GateDwRefIdeal.Value.run (F := Ideal) m ρ)

/-- Kernel and reference compute the same results. -/
theorem algebraic : Cert.algebraic_GateDwIdeal_GateDwRefIdeal := by
  intro m ρ m' ρ' hpre hag
  refine ⟨fun c => r2 m c, ?_, ?_⟩
  · exact (θ_run Cert.GateDwIdeal.defs _ _).mono (fun r h c => ⟨((h c).1).trans (final2 m c), (h c).2⟩) (Cert.GateDwIdeal.Value.run_blocks m ρ)
  · refine (θ_run Cert.GateDwRefIdeal.defs _ _).mono (fun r h c => ?_) (Cert.GateDwRefIdeal.Value.run (F := Ideal) m' ρ')
    obtain ⟨g0, g1⟩ := hag c
    refine ⟨((h c).1).trans ?_, (h c).2⟩
    · rw [Cert.GateDwRefIdeal.Read.val_main_v7_eq, g0, g1]
      exact ref2 _ _

end Cert.GateDwClaims

end
-- ==== Proof.FfnInDxA.lean ====
/-
  The first half of the feed-forward's input gradient.
-/
module

public import proofs.«01_k».proof.Defs
public import proofs.«01_k».proof.Proof.Tiles
public import proofs.«01_k».proof.Proof.Gen.FfnInDxA.Frame
public import proofs.«01_k».proof.Proof.Gen.FfnInDxAIdeal.Value
public import proofs.«01_k».proof.Proof.Gen.FfnInDxARefIdeal.Read
public import proofs.«01_k».proof.Proof.Gen.FfnInDxARefIdeal.Run
public import Idealize.ShloMosaic.Lib.Tactic

@[expose] public section

set_option maxRecDepth 16384

noncomputable section

namespace Cert.FfnInDxAIdeal.Pay

open Idealize.ShloMosaic Idealize.ShloMosaic.TcCoe Idealize.SL.Sem Cert.FfnInDxAIdeal Cert.FfnInDxAIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 2816) (p : Fin 2048) (q : Fin 2816) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 2816 + 1 * l.val = q.val; rw [(at0 t).2]; omega

theorem at1 : ∀ t : Fin grid0.N, win0_1.index t 0 = 0 ∧ win0_1.index t 1 = t.val := by decide +kernel

/-- An element of a block of window 1 is the array's. -/
theorem blk1 (c : Dev nD) (t : Fin cfg0.N) (i : Fin 2816) (l : Fin 512) (p : Fin 5632) (q : Fin 1024) (hp : p.val = i.val) (hq : q.val = 512 * (t.val) + l.val) :
    (iblk m c 1 t (ix2 i l) : EReal) = m (c.tc.loc main_arg1) (ix2 p q) := by
  refine congrArg (m (c.tc.loc main_arg1)) (ext2 ?_ ?_)
  · show win0_1.index t 0 * 2816 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 2048 2816) (x1 : Mat 5632 1024) : Mat 2048 1024 := mul (k := 2816) x0 (firstRows 2816 (by omega) x1)

/-- The kernel's result. -/
def r2 (c : Dev nD) : Mat 2048 1024 := res (m (c.tc.loc main_arg0)) (m (c.tc.loc main_arg1))

/-- What a grid point leaves in its block. -/
theorem out2 (c : Dev nD) (t : Fin cfg0.N) (i : Fin 2048) (l : Fin 512) (p : Fin 2048) (q : Fin 1024) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S2048x2816) hz, View.ld_unit_zero (S := S2816x512) hz]
  have ea : ∀ k : Fin 2816, (iblk m c 0 t (ix2 i k) : EReal) = m (c.tc.loc main_arg0) (ix2 p k) := fun k => blk0 m c t i k p k hp rfl
  have eb : ∀ k : Fin 2816, (iblk m c 1 t (ix2 k l) : EReal) = m (c.tc.loc main_arg1) (ix2 (⟨k.val, by omega⟩) q) := fun k => blk1 m c t k l ⟨k.val, by omega⟩ q rfl hq
  refine Eq.trans ?_ (Finset.sum_congr (s₁ := (Finset.univ : Finset (Fin 2816))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 2048) (n1 := 512) x
  refine (out2 m c t i l ((((cfg0.win 2).blk t).view.emb (ix2 i l) : S2048x1024.Idx) 0) ((((cfg0.win 2).blk t).view.emb (ix2 i l) : S2048x1024.Idx) 1) ?_ ?_).trans (congrArg (r2 m c) (eta2 _).symm)
  · show win0_2.index t 0 * 2048 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 1024 := (i 1).isLt
    have hN : cfg0.N = 2 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : Nat) ∧ (i 0 : Nat) < win0_2.index ⟨_, ht⟩ 0 * 2048 + 2048
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.FfnInDxARefIdeal.Read in
/-- The reference's result. -/
theorem ref2 (x0 : Mat 2048 2816) (x1 : Mat 5632 1024) : val_main_v6 (F := Ideal) x0 x1 = res x0 x1 := by
  funext x
  obtain ⟨i, j, rfl⟩ := pair (n0 := 2048) (n1 := 1024) x
  rw [val_main_v6_apply]
  unfold res
  refine Finset.sum_congr rfl fun k _ => ?_
  rw [val_main_v4_apply, val_main_v3_apply, val_main_v2_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.FfnInDxAIdeal.Pay

namespace Cert.FfnInDxAClaims

open Idealize.ShloMosaic Idealize.ShloMosaic.TcCoe Idealize.SL.Sem Cert.Tiles Cert.FfnInDxAIdeal.Pay

attribute [local instance] Cert.FfnInDxA.Gen.facts Cert.FfnInDxAIdeal.Gen.facts Cert.FfnInDxARefIdeal.Gen.facts

/-- The kernel runs, keeps its arguments and ends quiescent. -/
theorem frameP : Cert.quiescent_FfnInDxA := fun m ρ _ => Cert.FfnInDxA.Gen.frame m ρ

/-- … and so does it at the ideal numbers. -/
theorem framePI : Cert.quiescent_FfnInDxAIdeal := fun m ρ _ => Cert.FfnInDxAIdeal.Gen.frame m ρ

/-- The reference runs, keeps its arguments and ends quiescent. -/
theorem frameRI : Cert.quiescent_FfnInDxARefIdeal := fun m ρ _ =>
  (θ_run Cert.FfnInDxARefIdeal.defs _ _).mono (fun r h => ⟨fun c => (h c).2,
      Idealize.ShloMosaic.sem_eq_zero_of_no_sems (by decide) r.2⟩) (Cert.FfnInDxARefIdeal.Value.run (F := Ideal) m ρ)

/-- Kernel and reference compute the same results. -/
theorem algebraic : Cert.algebraic_FfnInDxAIdeal_FfnInDxARefIdeal := by
  intro m ρ m' ρ' hpre hag
  refine ⟨fun c => r2 m c, ?_, ?_⟩
  · exact (θ_run Cert.FfnInDxAIdeal.defs _ _).mono (fun r h c => ⟨((h c).1).trans (final2 m c), (h c).2⟩) (Cert.FfnInDxAIdeal.Value.run_blocks m ρ)
  · refine (θ_run Cert.FfnInDxARefIdeal.defs _ _).mono (fun r h c => ?_) (Cert.FfnInDxARefIdeal.Value.run (F := Ideal) m' ρ')
    obtain ⟨g0, g1⟩ := hag c
    refine ⟨((h c).1).trans ?_, (h c).2⟩
    · rw [Cert.FfnInDxARefIdeal.Read.val_main_v6_eq, g0, g1]
      exact ref2 _ _

end Cert.FfnInDxAClaims

end
-- ==== Proof.OutDx.lean ====
/-
  The output projection's input gradient.
-/
module

public import proofs.«01_k».proof.Defs
public import proofs.«01_k».proof.Proof.Tiles
public import proofs.«01_k».proof.Proof.Gen.OutDx.Frame
public import proofs.«01_k».proof.Proof.Gen.OutDxIdeal.Value
public import proofs.«01_k».proof.Proof.Gen.OutDxRefIdeal.Read
public import proofs.«01_k».proof.Proof.Gen.OutDxRefIdeal.Run
public import Idealize.ShloMosaic.Lib.Tactic

@[expose] public section

set_option maxRecDepth 16384

noncomputable section

namespace Cert.OutDxIdeal.Pay

open Idealize.ShloMosaic Idealize.ShloMosaic.TcCoe Idealize.SL.Sem Cert.OutDxIdeal Cert.OutDxIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 1024) (p : Fin 1024) (q : Fin 1024) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 1024 + 1 * l.val = q.val; rw [(at1 t).2]; omega

theorem at2 : ∀ t : Fin grid0.N, win0_2.index t 0 = 0 ∧ win0_2.index t 1 = t.val := by decide +kernel

/-- The result. -/
def res (x0 : Mat 2048 1024) (x1 : Mat 1024 1024) : Mat 2048 1024 := mulTB (k := 1024) x0 x1

/-- The kernel's result. -/
def r2 (c : Dev nD) : Mat 2048 1024 := res (m (c.tc.loc main_arg0)) (m (c.tc.loc main_arg1))

/-- What a grid point leaves in its block. -/
theorem out2 (c : Dev nD) (t : Fin cfg0.N) (i : Fin 2048) (l : Fin 512) (p : Fin 2048) (q : Fin 1024) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S2048x1024) hz, View.ld_unit_zero (S := S512x1024) hz]
  have ea : ∀ k : Fin 1024, (iblk m c 0 t (ix2 i k) : EReal) = m (c.tc.loc main_arg0) (ix2 p k) := fun k => blk0 m c t i k p k hp rfl
  have eb : ∀ k : Fin 1024, (iblk m c 1 t (ix2 l k) : EReal) = m (c.tc.loc main_arg1) (ix2 q k) := fun k => blk1 m c t l k q k hq rfl
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 2048) (n1 := 512) x
  refine (out2 m c t i l ((((cfg0.win 2).blk t).view.emb (ix2 i l) : S2048x1024.Idx) 0) ((((cfg0.win 2).blk t).view.emb (ix2 i l) : S2048x1024.Idx) 1) ?_ ?_).trans (congrArg (r2 m c) (eta2 _).symm)
  · show win0_2.index t 0 * 2048 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 1024 := (i 1).isLt
    have hN : cfg0.N = 2 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : Nat) ∧ (i 0 : Nat) < win0_2.index ⟨_, ht⟩ 0 * 2048 + 2048
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.OutDxRefIdeal.Read in
/-- The reference's result. -/
theorem ref2 (x0 : Mat 2048 1024) (x1 : Mat 1024 1024) : val_main_v4 (F := Ideal) x0 x1 = res x0 x1 := by
  funext x
  obtain ⟨i, j, rfl⟩ := pair (n0 := 2048) (n1 := 1024) x
  rw [val_main_v4_apply]
  unfold res
  refine Finset.sum_congr rfl fun k _ => ?_
  rw [val_main_v2_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.OutDxIdeal.Pay

namespace Cert.OutDxClaims

open Idealize.ShloMosaic Idealize.ShloMosaic.TcCoe Idealize.SL.Sem Cert.Tiles Cert.OutDxIdeal.Pay

attribute [local instance] Cert.OutDx.Gen.facts Cert.OutDxIdeal.Gen.facts Cert.OutDxRefIdeal.Gen.facts

/-- The kernel runs, keeps its arguments and ends quiescent. -/
theorem frameP : Cert.quiescent_OutDx := fun m ρ _ => Cert.OutDx.Gen.frame m ρ

/-- … and so does it at the ideal numbers. -/
theorem framePI : Cert.quiescent_OutDxIdeal := fun m ρ _ => Cert.OutDxIdeal.Gen.frame m ρ

/-- The reference runs, keeps its arguments and ends quiescent. -/
theorem frameRI : Cert.quiescent_OutDxRefIdeal := fun m ρ _ =>
  (θ_run Cert.OutDxRefIdeal.defs _ _).mono (fun r h => ⟨fun c => (h c).2,
      Idealize.ShloMosaic.sem_eq_zero_of_no_sems (by decide) r.2⟩) (Cert.OutDxRefIdeal.Value.run (F := Ideal) m ρ)

/-- Kernel and reference compute the same results. -/
theorem algebraic : Cert.algebraic_OutDxIdeal_OutDxRefIdeal := by
  intro m ρ m' ρ' hpre hag
  refine ⟨fun c => r2 m c, ?_, ?_⟩
  · exact (θ_run Cert.OutDxIdeal.defs _ _).mono (fun r h c => ⟨((h c).1).trans (final2 m c), (h c).2⟩) (Cert.OutDxIdeal.Value.run_blocks m ρ)
  · refine (θ_run Cert.OutDxRefIdeal.defs _ _).mono (fun r h c => ?_) (Cert.OutDxRefIdeal.Value.run (F := Ideal) m' ρ')
    obtain ⟨g0, g1⟩ := hag c
    refine ⟨((h c).1).trans ?_, (h c).2⟩
    · rw [Cert.OutDxRefIdeal.Read.val_main_v4_eq, g0, g1]
      exact ref2 _ _

end Cert.OutDxClaims

end
-- ==== Proof.InDx.lean ====
/-
  The input projection's input gradient.
-/
module

public import proofs.«01_k».proof.Defs
public import proofs.«01_k».proof.Proof.Tiles
public import proofs.«01_k».proof.Proof.Gen.InDx.Frame
public import proofs.«01_k».proof.Proof.Gen.InDxIdeal.Value
public import proofs.«01_k».proof.Proof.Gen.InDxRefIdeal.Read
public import proofs.«01_k».proof.Proof.Gen.InDxRefIdeal.Run
public import Idealize.ShloMosaic.Lib.Tactic

@[expose] public section

set_option maxRecDepth 16384

noncomputable section

namespace Cert.InDxIdeal.Pay

open Idealize.ShloMosaic Idealize.ShloMosaic.TcCoe Idealize.SL.Sem Cert.InDxIdeal Cert.InDxIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 2304) (p : Fin 2048) (q : Fin 2304) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 2304 + 1 * l.val = q.val; rw [(at0 t).2]; omega

theorem at1 : ∀ t : Fin grid0.N, win0_1.index t 0 = 0 ∧ win0_1.index t 1 = t.val := by decide +kernel

/-- An element of a block of window 1 is the array's. -/
theorem blk1 (c : Dev nD) (t : Fin cfg0.N) (i : Fin 2304) (l : Fin 512) (p : Fin 2304) (q : Fin 1024) (hp : p.val = i.val) (hq : q.val = 512 * (t.val) + l.val) :
    (iblk m c 1 t (ix2 i l) : EReal) = m (c.tc.loc main_arg1) (ix2 p q) := by
  refine congrArg (m (c.tc.loc main_arg1)) (ext2 ?_ ?_)
  · show win0_1.index t 0 * 2304 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 2048 2304) (x1 : Mat 2304 1024) : Mat 2048 1024 := mul (k := 2304) x0 x1

/-- The kernel's result. -/
def r2 (c : Dev nD) : Mat 2048 1024 := res (m (c.tc.loc main_arg0)) (m (c.tc.loc main_arg1))

/-- What a grid point leaves in its block. -/
theorem out2 (c : Dev nD) (t : Fin cfg0.N) (i : Fin 2048) (l : Fin 512) (p : Fin 2048) (q : Fin 1024) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S2048x2304) hz, View.ld_unit_zero (S := S2304x512) hz]
  have ea : ∀ k : Fin 2304, (iblk m c 0 t (ix2 i k) : EReal) = m (c.tc.loc main_arg0) (ix2 p k) := fun k => blk0 m c t i k p k hp rfl
  have eb : ∀ k : Fin 2304, (iblk m c 1 t (ix2 k l) : EReal) = m (c.tc.loc main_arg1) (ix2 k q) := fun k => blk1 m c t k l k q rfl hq
  refine Eq.trans ?_ (Finset.sum_congr (s₁ := (Finset.univ : Finset (Fin 2304))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 2048) (n1 := 512) x
  refine (out2 m c t i l ((((cfg0.win 2).blk t).view.emb (ix2 i l) : S2048x1024.Idx) 0) ((((cfg0.win 2).blk t).view.emb (ix2 i l) : S2048x1024.Idx) 1) ?_ ?_).trans (congrArg (r2 m c) (eta2 _).symm)
  · show win0_2.index t 0 * 2048 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 1024 := (i 1).isLt
    have hN : cfg0.N = 2 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : Nat) ∧ (i 0 : Nat) < win0_2.index ⟨_, ht⟩ 0 * 2048 + 2048
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.InDxRefIdeal.Read in
/-- The reference's result. -/
theorem ref2 (x0 : Mat 2048 2304) (x1 : Mat 2304 1024) : val_main_v5 (F := Ideal) x0 x1 = res x0 x1 := by
  funext x
  obtain ⟨i, j, rfl⟩ := pair (n0 := 2048) (n1 := 1024) x
  rw [val_main_v5_apply]
  unfold res
  refine Finset.sum_congr rfl fun k _ => ?_
  rw [val_main_v3_apply, val_main_v2_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.InDxIdeal.Pay

namespace Cert.InDxClaims

open Idealize.ShloMosaic Idealize.ShloMosaic.TcCoe Idealize.SL.Sem Cert.Tiles Cert.InDxIdeal.Pay

attribute [local instance] Cert.InDx.Gen.facts Cert.InDxIdeal.Gen.facts Cert.InDxRefIdeal.Gen.facts

/-- The kernel runs, keeps its arguments and ends quiescent. -/
theorem frameP : Cert.quiescent_InDx := fun m ρ _ => Cert.InDx.Gen.frame m ρ

/-- … and so does it at the ideal numbers. -/
theorem framePI : Cert.quiescent_InDxIdeal := fun m ρ _ => Cert.InDxIdeal.Gen.frame m ρ

/-- The reference runs, keeps its arguments and ends quiescent. -/
theorem frameRI : Cert.quiescent_InDxRefIdeal := fun m ρ _ =>
  (θ_run Cert.InDxRefIdeal.defs _ _).mono (fun r h => ⟨fun c => (h c).2,
      Idealize.ShloMosaic.sem_eq_zero_of_no_sems (by decide) r.2⟩) (Cert.InDxRefIdeal.Value.run (F := Ideal) m ρ)

/-- Kernel and reference compute the same results. -/
theorem algebraic : Cert.algebraic_InDxIdeal_InDxRefIdeal := by
  intro m ρ m' ρ' hpre hag
  refine ⟨fun c => r2 m c, ?_, ?_⟩
  · exact (θ_run Cert.InDxIdeal.defs _ _).mono (fun r h c => ⟨((h c).1).trans (final2 m c), (h c).2⟩) (Cert.InDxIdeal.Value.run_blocks m ρ)
  · refine (θ_run Cert.InDxRefIdeal.defs _ _).mono (fun r h c => ?_) (Cert.InDxRefIdeal.Value.run (F := Ideal) m' ρ')
    obtain ⟨g0, g1⟩ := hag c
    refine ⟨((h c).1).trans ?_, (h c).2⟩
    · rw [Cert.InDxRefIdeal.Read.val_main_v5_eq, g0, g1]
      exact ref2 _ _

end Cert.InDxClaims

end
-- ==== Proof.FfnInDwA.lean ====
/-
  The gradient of the feed-forward's first input weights, written into half of an array.
-/
module

public import proofs.«01_k».proof.Defs
public import proofs.«01_k».proof.Proof.Tiles
public import proofs.«01_k».proof.Proof.Gen.FfnInDwA.Frame
public import proofs.«01_k».proof.Proof.Gen.FfnInDwAIdeal.Value
public import proofs.«01_k».proof.Proof.Gen.FfnInDwARefIdeal.Read
public import proofs.«01_k».proof.Proof.Gen.FfnInDwARefIdeal.Run
public import Idealize.ShloMosaic.Lib.Tactic

@[expose] public section

set_option maxRecDepth 16384

noncomputable section

namespace Cert.FfnInDwAIdeal.Pay

open Idealize.ShloMosaic Idealize.ShloMosaic.TcCoe Idealize.SL.Sem Cert.FfnInDwAIdeal Cert.FfnInDwAIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = t.val / 2 := by decide +kernel

/-- An element of a block of window 0 is the array's. -/
theorem blk0 (c : Dev nD) (t : Fin cfg0.N) (i : Fin 2048) (l : Fin 1408) (p : Fin 2048) (q : Fin 2816) (hp : p.val = i.val) (hq : q.val = 1408 * (t.val / 2) + l.val) :
    (iblk m c 0 t (ix2 i l) : EReal) = m (c.tc.loc main_arg0) (ix2 p q) := by
  unfold iblk
  rw [View.read_apply]
  show V m c main_arg0 _ = m (c.tc.loc main_arg0) _
  rw [V_main_arg0 m c]
  congr 1
  funext a
  apply Fin.ext
  match a with
  | ⟨0, _⟩ => show win0_0.index t 0 * 2048 + 1 * i.val = p.val; rw [(at0 t).1]; omega
  | ⟨1, _⟩ => show win0_0.index t 1 * 1408 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val % 2) + l.val) :
    (iblk m c 1 t (ix2 i l) : EReal) = m (c.tc.loc main_arg1) (ix2 p q) := by
  unfold iblk
  rw [View.read_apply]
  show V m c main_arg1 _ = m (c.tc.loc main_arg1) _
  rw [V_main_arg1 m c]
  congr 1
  funext a
  apply Fin.ext
  match a with
  | ⟨0, _⟩ => show win0_1.index t 0 * 2048 + 1 * i.val = p.val; rw [(at1 t).1]; omega
  | ⟨1, _⟩ => show win0_1.index t 1 * 512 + 1 * l.val = q.val; rw [(at1 t).2]; omega

theorem at2 : ∀ t : Fin grid0.N, win0_2.index t 0 = t.val / 2 ∧ win0_2.index t 1 = t.val % 2 := by decide +kernel

/-- The weights' gradient with its first half written. -/
def res2 (x0 : Mat 2048 2816) (x1 : Mat 2048 1024) (x2 : Mat 5632 1024) : Mat 5632 1024 := fun x =>
  if h : (x 0).val < 2816 then mulTA (k := 2048) x0 x1 (ix2 ⟨(x 0).val, h⟩ (x 1)) else x2 x

/-- The kernel's result. -/
def r2 (c : Dev nD) : Mat 5632 1024 := res2 (m (c.tc.loc main_arg0)) (m (c.tc.loc main_arg1)) (m (c.tc.loc main_arg2))

/-- What a grid point leaves in its block of the result. -/
theorem outA (c : Dev nD) (i : grid0.Coords) (arg2 : Memref sig .tc .vmem S2048x1408 .bf16) (h2 : arg2.IsWhole) (arg3 : Memref sig .tc .vmem S2048x512 .bf16) (h3 : arg3.IsWhole)
    (arg5 : Memref sig .tc .vmem S1408x512 .bf16) (h5 : arg5.IsWhole) (x0 : Vec Ideal S2048x1408 .bf16) (x1 : Vec Ideal S2048x512 .bf16) :
    out0_A_2 (F := Ideal) c i arg2 h2 arg3 h3 arg5 h5 x0 x1 = k0_pay1 (F := Ideal) x0 x1 := by
  unfold out0_A_2
  rw [View.read_writes_eq_canon _ _ _ (cover0_A_2 c i arg2 h2 arg3 h3 arg5 h5 x0 x1)]
  unfold kernelRun0_A
  dsimp only
  rw [View.canon_unit_zero hz]
  try sl_unfold_words
  simp only [View.readAt_eq_ld, h2.read_unread, h3.read_unread, View.ld_unit_zero (S := S2048x1408) hz, View.ld_unit_zero (S := S2048x512) hz, shapeCast_self]
  try rfl

theorem out2 (c : Dev nD) (t : Fin cfg0.N) (i : Fin 1408) (l : Fin 512) (p : Fin 5632) (q : Fin 1024) (hp : p.val = 1408 * (t.val / 2) + i.val) (hq : q.val = 512 * (t.val % 2) + l.val) :
    outsAt0 m c t (ix2 i l) = r2 m c (ix2 p q) := by
  have hN : cfg0.N = 4 := N_0
  have htl := t.isLt
  unfold outsAt0
  rw [outA]
  unfold r2 res2
  refine Eq.trans ?_ (dif_pos (show p.val < 2816 by omega)).symm
  have ea : ∀ k : Fin 2048, (iblk m c 0 t (ix2 k i) : EReal) = m (c.tc.loc main_arg0) (ix2 k ⟨p.val, by omega⟩) := fun k => blk0 m c t k i k ⟨p.val, by omega⟩ rfl (by show p.val = _; omega)
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- Before the first grid point the result's array is a copy of the argument. -/
theorem entryV (c : Dev nD) : V m c main_v0 = m (c.tc.loc main_arg2) := by
  show StableHlo.after hostOps0 _ _ = _
  unfold hostOps0
  rw [StableHlo.after_cons, StableHlo.after_nil]
  exact StableHlo.unary_result' _ _ _ _

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1408) (n1 := 512) x
  refine (out2 m c t i l ((((cfg0.win 2).blk t).view.emb (ix2 i l) : S5632x1024.Idx) 0) ((((cfg0.win 2).blk t).view.emb (ix2 i l) : S5632x1024.Idx) 1) ?_ ?_).trans (congrArg (r2 m c) (eta2 _).symm)
  · show win0_2.index t 0 * 1408 + 1 * i.val = _; rw [(at2 t).1]; omega
  · show win0_2.index t 1 * 512 + 1 * l.val = _; rw [(at2 t).2]; omega

/-- The array of the result at the end: the blocks written, the other half as at the start. -/
theorem final2 (c : Dev nD) : (dats m 0 c).arrAt 2 cfg0.N = r2 m c := by
  funext i
  have h0 : (i 0 : Nat) < 5632 := (i 0).isLt
  have h1 : (i 1 : Nat) < 1024 := (i 1).isLt
  have hN : cfg0.N = 4 := N_0
  by_cases h : (i 0 : Nat) < 2816
  · have ht : 2 * ((i 0 : Nat) / 1408) + (i 1 : Nat) / 512 < cfg0.N := by omega
    refine (dats m 0 c).arrAt_apply_of_mem 2 (r2 m c) (fun t _ => flushed2_eq m c t) cfg0.N ⟨2 * ((i 0 : Nat) / 1408) + (i 1 : Nat) / 512, ht⟩ i ht (flush0_2 _) ?_
    show i ∈ ((View.whole main_v0).slice (win0_2.rect ⟨_, ht⟩)).set
    rw [View.set_slice_whole, Rect.mem_set_unit]
    intro a
    match a with
    | ⟨0, _⟩ => show win0_2.index ⟨_, ht⟩ 0 * 1408 ≤ (i 0 : Nat) ∧ (i 0 : Nat) < win0_2.index ⟨_, ht⟩ 0 * 1408 + 1408
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega
  · rw [Value.entry2 m c i]
    · show V m c main_v0 i = _
      rw [entryV]
      unfold r2 res2
      rw [dif_neg h]
    · intro t _ hm
      have hm' : i ∈ ((View.whole main_v0).slice (win0_2.rect t)).set := hm
      rw [View.set_slice_whole, Rect.mem_set_unit] at hm'
      have hr : win0_2.index t 0 * 1408 ≤ (i 0 : Nat) ∧ (i 0 : Nat) < win0_2.index t 0 * 1408 + 1408 := hm' 0
      rw [(at2 t).1] at hr
      have htl := t.isLt
      omega

section
open Cert.FfnInDwARefIdeal.Read
variable (x0 : Mat 2048 2816) (x1 : Mat 2048 1024) (x2 : Mat 5632 1024)

theorem refP (i : Fin 2816) (j : Fin 1024) : val_main_v7 (F := Ideal) x0 x1 (ix2 i j) = mulTA (k := 2048) x0 x1 (ix2 i j) := by
  rw [val_main_v7_apply, val_main_v6_apply, val_main_v5_apply, val_main_v4_apply]
  unfold mulTA
  refine Finset.sum_congr rfl fun k _ => ?_
  rw [val_main_v2_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem ref2 : val_main_v9 (F := Ideal) x0 x1 x2 = res2 x0 x1 x2 := by
  funext x
  have h0 : (x 0).val < 5632 := (x 0).isLt
  unfold res2 val_main_v9
  by_cases h : (x 0).val < 2816
  · rw [dif_pos h]
    refine (concatenate_pair_apply_left (s₁ := Cert.FfnInDwARefIdeal.S2816x1024) (s₂ := Cert.FfnInDwARefIdeal.S2816x1024) 0 _ _ _ x rfl (ix2 (n0 := 2816) (n1 := 1024) ⟨(x 0).val, h⟩ (x 1)) (fun b => match b with | ⟨0, _⟩ => rfl | ⟨1, _⟩ => rfl)).trans ?_
    exact refP x0 x1 _ _
  · rw [dif_neg h]
    refine (concatenate_pair_apply_right (s₁ := Cert.FfnInDwARefIdeal.S2816x1024) (s₂ := Cert.FfnInDwARefIdeal.S2816x1024) 0 _ _ _ x rfl rfl (ix2 (n0 := 2816) (n1 := 1024) ⟨(x 0).val - 2816, by omega⟩ (x 1)) (fun b hb => match b with | ⟨0, _⟩ => absurd rfl hb | ⟨1, _⟩ => rfl) (by show (x 0).val - 2816 + 2816 = (x 0).val; omega)).trans ?_
    rw [val_main_v8_apply]
    exact congrArg x2 (funext fun a => match a with | ⟨0, _⟩ => Fin.ext (by first | rfl | (show 2816 + ((x 0).val - 2816) = (x 0).val; omega)) | ⟨1, _⟩ => rfl)

end

end Cert.FfnInDwAIdeal.Pay

namespace Cert.FfnInDwAClaims

open Idealize.ShloMosaic Idealize.ShloMosaic.TcCoe Idealize.SL.Sem Cert.Tiles Cert.FfnInDwAIdeal.Pay

attribute [local instance] Cert.FfnInDwA.Gen.facts Cert.FfnInDwAIdeal.Gen.facts Cert.FfnInDwARefIdeal.Gen.facts

/-- The kernel runs, keeps its arguments and ends quiescent. -/
theorem frameP : Cert.quiescent_FfnInDwA := fun m ρ _ => Cert.FfnInDwA.Gen.frame m ρ

/-- … and so does it at the ideal numbers. -/
theorem framePI : Cert.quiescent_FfnInDwAIdeal := fun m ρ _ => Cert.FfnInDwAIdeal.Gen.frame m ρ

/-- The reference runs, keeps its arguments and ends quiescent. -/
theorem frameRI : Cert.quiescent_FfnInDwARefIdeal := fun m ρ _ =>
  (θ_run Cert.FfnInDwARefIdeal.defs _ _).mono (fun r h => ⟨fun c => (h c).2,
      Idealize.ShloMosaic.sem_eq_zero_of_no_sems (by decide) r.2⟩) (Cert.FfnInDwARefIdeal.Value.run (F := Ideal) m ρ)

/-- Kernel and reference compute the same results. -/
theorem algebraic : Cert.algebraic_FfnInDwAIdeal_FfnInDwARefIdeal := by
  intro m ρ m' ρ' hpre hag
  refine ⟨fun c => r2 m c, ?_, ?_⟩
  · exact (θ_run Cert.FfnInDwAIdeal.defs _ _).mono (fun r h c => ⟨((h c).1).trans (final2 m c), (h c).2⟩) (Cert.FfnInDwAIdeal.Value.run_blocks m ρ)
  · refine (θ_run Cert.FfnInDwARefIdeal.defs _ _).mono (fun r h c => ?_) (Cert.FfnInDwARefIdeal.Value.run (F := Ideal) m' ρ')
    obtain ⟨g0, g1, g2⟩ := hag c
    refine ⟨((h c).1).trans ?_, (h c).2⟩ <;> clear h
    · rw [Cert.FfnInDwARefIdeal.Read.val_main_v9_eq]
      try rw [g0]
      try rw [g1]
      try rw [g2]
      exact ref2 _ _ _

end Cert.FfnInDwAClaims

end
-- ==== Proof.FfnInDwG.lean ====
/-
  The gradient of the feed-forward's second input weights, written into the other half.
-/
module

public import proofs.«01_k».proof.Defs
public import proofs.«01_k».proof.Proof.Tiles
public import proofs.«01_k».proof.Proof.Gen.FfnInDwG.Frame
public import proofs.«01_k».proof.Proof.Gen.FfnInDwGIdeal.Value
public import proofs.«01_k».proof.Proof.Gen.FfnInDwGRefIdeal.Read
public import proofs.«01_k».proof.Proof.Gen.FfnInDwGRefIdeal.Run
public import Idealize.ShloMosaic.Lib.Tactic

@[expose] public section

set_option maxRecDepth 16384

noncomputable section

namespace Cert.FfnInDwGIdeal.Pay

open Idealize.ShloMosaic Idealize.ShloMosaic.TcCoe Idealize.SL.Sem Cert.FfnInDwGIdeal Cert.FfnInDwGIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = t.val / 2 := by decide +kernel

/-- An element of a block of window 0 is the array's. -/
theorem blk0 (c : Dev nD) (t : Fin cfg0.N) (i : Fin 2048) (l : Fin 1408) (p : Fin 2048) (q : Fin 2816) (hp : p.val = i.val) (hq : q.val = 1408 * (t.val / 2) + l.val) :
    (iblk m c 0 t (ix2 i l) : EReal) = m (c.tc.loc main_arg0) (ix2 p q) := by
  unfold iblk
  rw [View.read_apply]
  show V m c main_arg0 _ = m (c.tc.loc main_arg0) _
  rw [V_main_arg0 m c]
  congr 1
  funext a
  apply Fin.ext
  match a with
  | ⟨0, _⟩ => show win0_0.index t 0 * 2048 + 1 * i.val = p.val; rw [(at0 t).1]; omega
  | ⟨1, _⟩ => show win0_0.index t 1 * 1408 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2048) (l : Fin 512) (p : Fin 2048) (q : Fin 1024) (hp : p.val = i.val) (hq : q.val = 512 * (t.val % 2) + l.val) :
    (iblk m c 1 t (ix2 i l) : EReal) = m (c.tc.loc main_arg1) (ix2 p q) := by
  unfold iblk
  rw [View.read_apply]
  show V m c main_arg1 _ = m (c.tc.loc main_arg1) _
  rw [V_main_arg1 m c]
  congr 1
  funext a
  apply Fin.ext
  match a with
  | ⟨0, _⟩ => show win0_1.index t 0 * 2048 + 1 * i.val = p.val; rw [(at1 t).1]; omega
  | ⟨1, _⟩ => show win0_1.index t 1 * 512 + 1 * l.val = q.val; rw [(at1 t).2]; omega

theorem at2 : ∀ t : Fin grid0.N, win0_2.index t 0 = t.val / 2 + 2 ∧ win0_2.index t 1 = t.val % 2 := by decide +kernel

/-- The weights' gradient with its second half written. -/
def res2 (x0 : Mat 2048 2816) (x1 : Mat 2048 1024) (x2 : Mat 5632 1024) : Mat 5632 1024 := fun x =>
  if h : (x 0).val < 2816 then x2 x else mulTA (k := 2048) x0 x1 (ix2 ⟨(x 0).val - 2816, by have h0 : (x 0).val < 5632 := (x 0).isLt; omega⟩ (x 1))

/-- The kernel's result. -/
def r2 (c : Dev nD) : Mat 5632 1024 := res2 (m (c.tc.loc main_arg0)) (m (c.tc.loc main_arg1)) (m (c.tc.loc main_arg2))

/-- What a grid point leaves in its block of the result. -/
theorem outA (c : Dev nD) (i : grid0.Coords) (arg2 : Memref sig .tc .vmem S2048x1408 .bf16) (h2 : arg2.IsWhole) (arg3 : Memref sig .tc .vmem S2048x512 .bf16) (h3 : arg3.IsWhole)
    (arg5 : Memref sig .tc .vmem S1408x512 .bf16) (h5 : arg5.IsWhole) (x0 : Vec Ideal S2048x1408 .bf16) (x1 : Vec Ideal S2048x512 .bf16) :
    out0_A_2 (F := Ideal) c i arg2 h2 arg3 h3 arg5 h5 x0 x1 = k0_pay1 (F := Ideal) x0 x1 := by
  unfold out0_A_2
  rw [View.read_writes_eq_canon _ _ _ (cover0_A_2 c i arg2 h2 arg3 h3 arg5 h5 x0 x1)]
  unfold kernelRun0_A
  dsimp only
  rw [View.canon_unit_zero hz]
  try sl_unfold_words
  simp only [View.readAt_eq_ld, h2.read_unread, h3.read_unread, View.ld_unit_zero (S := S2048x1408) hz, View.ld_unit_zero (S := S2048x512) hz, shapeCast_self]
  try rfl

theorem out2 (c : Dev nD) (t : Fin cfg0.N) (i : Fin 1408) (l : Fin 512) (p : Fin 5632) (q : Fin 1024) (hp : p.val = 1408 * (t.val / 2 + 2) + i.val) (hq : q.val = 512 * (t.val % 2) + l.val) :
    outsAt0 m c t (ix2 i l) = r2 m c (ix2 p q) := by
  have hN : cfg0.N = 4 := N_0
  have htl := t.isLt
  unfold outsAt0
  rw [outA]
  unfold r2 res2
  refine Eq.trans ?_ (dif_neg (show ¬p.val < 2816 by omega)).symm
  have ea : ∀ k : Fin 2048, (iblk m c 0 t (ix2 k i) : EReal) = m (c.tc.loc main_arg0) (ix2 k ⟨p.val - 2816, by omega⟩) := fun k => blk0 m c t k i k ⟨p.val - 2816, by omega⟩ rfl (by show p.val - 2816 = _; omega)
  have eb : ∀ k : Fin 2048, (iblk m c 1 t (ix2 k l) : EReal) = m (c.tc.loc main_arg1) (ix2 k q) := fun k => blk1 m c t k l k q rfl hq
  refine Eq.trans ?_ (Finset.sum_congr (s₁ := (Finset.univ : Finset (Fin 2048))) rfl fun k _ => congrArg₂ (fun a b : EReal => a * b) (ea k) (eb k))
  generalize iblk m c 0 t = a
  generalize iblk m c 1 t = b
  pointwise [k0_pay1]

/-- Before the first grid point the result's array is a copy of the argument. -/
theorem entryV (c : Dev nD) : V m c main_v0 = m (c.tc.loc main_arg2) := by
  show StableHlo.after hostOps0 _ _ = _
  unfold hostOps0
  rw [StableHlo.after_cons, StableHlo.after_nil]
  exact StableHlo.unary_result' _ _ _ _

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1408) (n1 := 512) x
  refine (out2 m c t i l ((((cfg0.win 2).blk t).view.emb (ix2 i l) : S5632x1024.Idx) 0) ((((cfg0.win 2).blk t).view.emb (ix2 i l) : S5632x1024.Idx) 1) ?_ ?_).trans (congrArg (r2 m c) (eta2 _).symm)
  · show win0_2.index t 0 * 1408 + 1 * i.val = _; rw [(at2 t).1]; omega
  · show win0_2.index t 1 * 512 + 1 * l.val = _; rw [(at2 t).2]; omega

/-- The array of the result at the end: the blocks written, the other half as at the start. -/
theorem final2 (c : Dev nD) : (dats m 0 c).arrAt 2 cfg0.N = r2 m c := by
  funext i
  have h0 : (i 0 : Nat) < 5632 := (i 0).isLt
  have h1 : (i 1 : Nat) < 1024 := (i 1).isLt
  have hN : cfg0.N = 4 := N_0
  by_cases h : ¬(i 0 : Nat) < 2816
  · have ht : 2 * ((i 0 : Nat) / 1408 - 2) + (i 1 : Nat) / 512 < cfg0.N := by omega
    refine (dats m 0 c).arrAt_apply_of_mem 2 (r2 m c) (fun t _ => flushed2_eq m c t) cfg0.N ⟨2 * ((i 0 : Nat) / 1408 - 2) + (i 1 : Nat) / 512, ht⟩ i ht (flush0_2 _) ?_
    show i ∈ ((View.whole main_v0).slice (win0_2.rect ⟨_, ht⟩)).set
    rw [View.set_slice_whole, Rect.mem_set_unit]
    intro a
    match a with
    | ⟨0, _⟩ => show win0_2.index ⟨_, ht⟩ 0 * 1408 ≤ (i 0 : Nat) ∧ (i 0 : Nat) < win0_2.index ⟨_, ht⟩ 0 * 1408 + 1408
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega
  · rw [Value.entry2 m c i]
    · show V m c main_v0 i = _
      rw [entryV]
      unfold r2 res2
      rw [dif_pos (not_not.mp h)]
    · intro t _ hm
      have hm' : i ∈ ((View.whole main_v0).slice (win0_2.rect t)).set := hm
      rw [View.set_slice_whole, Rect.mem_set_unit] at hm'
      have hr : win0_2.index t 0 * 1408 ≤ (i 0 : Nat) ∧ (i 0 : Nat) < win0_2.index t 0 * 1408 + 1408 := hm' 0
      rw [(at2 t).1] at hr
      have htl := t.isLt
      omega

section
open Cert.FfnInDwGRefIdeal.Read
variable (x0 : Mat 2048 2816) (x1 : Mat 2048 1024) (x2 : Mat 5632 1024)

theorem refP (i : Fin 2816) (j : Fin 1024) : val_main_v8 (F := Ideal) x0 x1 (ix2 i j) = mulTA (k := 2048) x0 x1 (ix2 i j) := by
  rw [val_main_v8_apply, val_main_v7_apply, val_main_v6_apply, val_main_v5_apply]
  unfold mulTA
  refine Finset.sum_congr rfl fun k _ => ?_
  rw [val_main_v3_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem ref2 : val_main_v9 (F := Ideal) x0 x1 x2 = res2 x0 x1 x2 := by
  funext x
  have h0 : (x 0).val < 5632 := (x 0).isLt
  unfold res2 val_main_v9
  by_cases h : (x 0).val < 2816
  · rw [dif_pos h]
    refine (concatenate_pair_apply_left (s₁ := Cert.FfnInDwGRefIdeal.S2816x1024) (s₂ := Cert.FfnInDwGRefIdeal.S2816x1024) 0 _ _ _ x rfl (ix2 (n0 := 2816) (n1 := 1024) ⟨(x 0).val, h⟩ (x 1)) (fun b => match b with | ⟨0, _⟩ => rfl | ⟨1, _⟩ => rfl)).trans ?_
    rw [val_main_v0_apply]
    exact congrArg x2 (funext fun a => match a with | ⟨0, _⟩ => Fin.ext (by first | rfl | (show 2816 + ((x 0).val - 2816) = (x 0).val; omega)) | ⟨1, _⟩ => rfl)
  · rw [dif_neg h]
    refine (concatenate_pair_apply_right (s₁ := Cert.FfnInDwGRefIdeal.S2816x1024) (s₂ := Cert.FfnInDwGRefIdeal.S2816x1024) 0 _ _ _ x rfl rfl (ix2 (n0 := 2816) (n1 := 1024) ⟨(x 0).val - 2816, by omega⟩ (x 1)) (fun b hb => match b with | ⟨0, _⟩ => absurd rfl hb | ⟨1, _⟩ => rfl) (by show (x 0).val - 2816 + 2816 = (x 0).val; omega)).trans ?_
    exact refP x0 x1 _ _

end

end Cert.FfnInDwGIdeal.Pay

namespace Cert.FfnInDwGClaims

open Idealize.ShloMosaic Idealize.ShloMosaic.TcCoe Idealize.SL.Sem Cert.Tiles Cert.FfnInDwGIdeal.Pay

attribute [local instance] Cert.FfnInDwG.Gen.facts Cert.FfnInDwGIdeal.Gen.facts Cert.FfnInDwGRefIdeal.Gen.facts

/-- The kernel runs, keeps its arguments and ends quiescent. -/
theorem frameP : Cert.quiescent_FfnInDwG := fun m ρ _ => Cert.FfnInDwG.Gen.frame m ρ

/-- … and so does it at the ideal numbers. -/
theorem framePI : Cert.quiescent_FfnInDwGIdeal := fun m ρ _ => Cert.FfnInDwGIdeal.Gen.frame m ρ

/-- The reference runs, keeps its arguments and ends quiescent. -/
theorem frameRI : Cert.quiescent_FfnInDwGRefIdeal := fun m ρ _ =>
  (θ_run Cert.FfnInDwGRefIdeal.defs _ _).mono (fun r h => ⟨fun c => (h c).2,
      Idealize.ShloMosaic.sem_eq_zero_of_no_sems (by decide) r.2⟩) (Cert.FfnInDwGRefIdeal.Value.run (F := Ideal) m ρ)

/-- Kernel and reference compute the same results. -/
theorem algebraic : Cert.algebraic_FfnInDwGIdeal_FfnInDwGRefIdeal := by
  intro m ρ m' ρ' hpre hag
  refine ⟨fun c => r2 m c, ?_, ?_⟩
  · exact (θ_run Cert.FfnInDwGIdeal.defs _ _).mono (fun r h c => ⟨((h c).1).trans (final2 m c), (h c).2⟩) (Cert.FfnInDwGIdeal.Value.run_blocks m ρ)
  · refine (θ_run Cert.FfnInDwGRefIdeal.defs _ _).mono (fun r h c => ?_) (Cert.FfnInDwGRefIdeal.Value.run (F := Ideal) m' ρ')
    obtain ⟨g0, g1, g2⟩ := hag c
    refine ⟨((h c).1).trans ?_, (h c).2⟩ <;> clear h
    · rw [Cert.FfnInDwGRefIdeal.Read.val_main_v9_eq]
      try rw [g0]
      try rw [g1]
      try rw [g2]
      exact ref2 _ _ _

end Cert.FfnInDwGClaims

end
-- ==== Proof.PreRealNormMem.lean ====
/-
  What the precondition says at the ideal numbers: every entry of the gradient at the memory's norm, of its input and of its gain is a real number.
-/
module

public import proofs.«01_k».proof.Pre_real_norm_mem
public import proofs.«01_k».proof.Proof.Reals

@[expose] public section

set_option maxRecDepth 16384

noncomputable section

namespace Cert.PreRealNormMem

open Idealize.ShloMosaic Cert.Reals
open Cert.PreReal (all_real top_bits)

/-- The shape relations the predicate's operations take. -/
theorem facts : Cert.Pre_real_norm_mem.Facts where
  bcast_S_S256x1024 := by decide
  reducesTo_S256x1024_S_d0_1 := by decide
  h_S_ := by decide
  bcast_S_S1x1024 := by decide
  reducesTo_S1x1024_S_d0_1 := by decide

/-- Where the precondition holds, the arrays it names are real. -/
theorem real [Cert.Pre_real_norm_mem.Facts] (a0 a1 : FVec Ideal Cert.Pre_real_norm_mem.S256x1024 .f32) (a2 : FVec Ideal Cert.Pre_real_norm_mem.S1x1024 .f32) (a3 : FVec Ideal Cert.Pre_real_norm_mem.S256x1024 .f32) (h : Cert.Pre_real_norm_mem.fn a0 a1 a2 a3 = fun _ => 1#1) :
    (∀ i, Real' (a0 i)) ∧ (∀ i, Real' (a1 i)) ∧ (∀ i, Real' (a2 i)) := by
  unfold Cert.Pre_real_norm_mem.fn at h
  try unfold Cert.Pre_real_norm_mem.fn_part1 at h
  dsimp only at h
  obtain ⟨h, e2⟩ := and_bits h
  obtain ⟨h, e1⟩ := and_bits h
  have e0 := h
  exact ⟨all_real a0 _ _ _ _ _ (fun _ => rfl) (fun _ => top_bits) e0, all_real a1 _ _ _ _ _ (fun _ => rfl) (fun _ => top_bits) e1, all_real a2 _ _ _ _ _ (fun _ => rfl) (fun _ => top_bits) e2⟩

end Cert.PreRealNormMem

end
-- ==== Proof.NormMemBwd.lean ====
/-
  The gradient through the memory's norm, added to what came before.
-/
module

public import proofs.«01_k».proof.Defs
public import proofs.«01_k».proof.Proof.Tiles
public import proofs.«01_k».proof.Proof.RowNormGrad
public import proofs.«01_k».proof.Proof.PreRealNormMem
public import proofs.«01_k».proof.Proof.Gen.NormMemBwd.Frame
public import proofs.«01_k».proof.Proof.Gen.NormMemBwdIdeal.Value
public import proofs.«01_k».proof.Proof.Gen.NormMemBwdRefIdeal.Read
public import proofs.«01_k».proof.Proof.Gen.NormMemBwdRefIdeal.Run
public import Idealize.ShloMosaic.Lib.Tactic

@[expose] public section

set_option maxRecDepth 16384

noncomputable section

namespace Cert.NormMemBwdIdeal.Pay

open Idealize.ShloMosaic Idealize.ShloMosaic.TcCoe Idealize.SL.Sem Cert.NormMemBwdIdeal Cert.NormMemBwdIdeal.Gen Cert.Tiles
open Idealize.ShloMosaic.Pipeline (Dat)

variable (m : (ℓ : Loc nD τ sig) → Buf (Elt Ideal) ℓ)

open Cert.RowNorm Cert.Reals

theorem at0 : ∀ t : Fin grid0.N, win0_0.index t 0 = 0 ∧ win0_0.index t 1 = 0 := by decide +kernel

/-- An element of a block of window 0 is the array's. -/
theorem blk0 (c : Dev nD) (t : Fin cfg0.N) (i : Fin 256) (l : Fin 1024) (p : Fin 256) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 256 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 256) (l : Fin 1024) (p : Fin 256) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 256 + 1 * i.val = p.val; rw [(at1 t).1]; omega
  · show win0_1.index t 1 * 1024 + 1 * l.val = q.val; rw [(at1 t).2]; omega

theorem at2 : ∀ t : Fin grid0.N, win0_2.index t 0 = 0 ∧ win0_2.index t 1 = 0 := by decide +kernel

/-- An element of a block of window 2 is the array's. -/
theorem blk2 (c : Dev nD) (t : Fin cfg0.N) (i : Fin 1) (l : Fin 1024) (p : Fin 1) (q : Fin 1024) (hp : p.val = i.val) (hq : q.val = l.val) :
    (iblk m c 2 t (ix2 i l) : EReal) = m (c.tc.loc main_arg2) (ix2 p q) := by
  refine congrArg (m (c.tc.loc main_arg2)) (ext2 ?_ ?_)
  · show win0_2.index t 0 * 1 + 1 * i.val = p.val; rw [(at2 t).1]; omega
  · show win0_2.index t 1 * 1024 + 1 * l.val = q.val; rw [(at2 t).2]; omega

theorem at3 : ∀ t : Fin grid0.N, win0_3.index t 0 = 0 ∧ win0_3.index t 1 = 0 := by decide +kernel

/-- An element of a block of window 3 is the array's. -/
theorem blk3 (c : Dev nD) (t : Fin cfg0.N) (i : Fin 256) (l : Fin 1024) (p : Fin 256) (q : Fin 1024) (hp : p.val = i.val) (hq : q.val = l.val) :
    (iblk m c 3 t (ix2 i l) : EReal) = m (c.tc.loc main_arg3) (ix2 p q) := by
  refine congrArg (m (c.tc.loc main_arg3)) (ext2 ?_ ?_)
  · show win0_3.index t 0 * 256 + 1 * i.val = p.val; rw [(at3 t).1]; omega
  · show win0_3.index t 1 * 1024 + 1 * l.val = q.val; rw [(at3 t).2]; omega

theorem at4 : ∀ t : Fin grid0.N, win0_4.index t 0 = 0 ∧ win0_4.index t 1 = 0 := by decide +kernel

theorem at5 : ∀ t : Fin grid0.N, win0_5.index t 0 = 0 ∧ win0_5.index t 1 = 0 := by decide +kernel

theorem at6 : ∀ t : Fin grid0.N, win0_6.index t 0 = 0 ∧ win0_6.index t 1 = 0 := by decide +kernel

/-- The kernel's results: the argument's gradient added to the residual, and the gain's gradient. -/
def r4 (c : Dev nD) : Mat 256 1024 := normGrad (m (c.tc.loc main_arg0)) (m (c.tc.loc main_arg1)) (m (c.tc.loc main_arg2)) (m (c.tc.loc main_arg3))
def r5 (c : Dev nD) : Mat 256 1024 := normGrad (m (c.tc.loc main_arg0)) (m (c.tc.loc main_arg1)) (m (c.tc.loc main_arg2)) (m (c.tc.loc main_arg3))
def r6 (c : Dev nD) : Mat 1 1024 := gainGrad (m (c.tc.loc main_arg0)) (m (c.tc.loc main_arg1))

section
variable (y0 y1 : Vec Ideal S256x1024 .f32) (y2 : Vec Ideal S1x1024 .f32) (y3 : Vec Ideal S256x1024 .f32)

theorem pay2 (i : Fin 256) : (k0_pay2 (F := Ideal) y1 (ix2 i 0) : EReal) = Ideal.rsqrt (ms (y1 : Mat 256 1024) i) := by
  unfold ms
  pointwise [k0_pay2]

theorem pay3 (i : Fin 256) (l : Fin 1024) : (k0_pay3 (F := Ideal) y1 (ix2 i l) : EReal) = (y1 (ix2 i l) : EReal) * Ideal.rsqrt (ms (y1 : Mat 256 1024) i) := by
  rw [← pay2 y1 i]
  unfold k0_pay3
  generalize k0_pay2 (F := Ideal) y1 = r
  pointwise

/-- A block's rows. -/
theorem pay4 (i : Fin 256) (l : Fin 1024) : (k0_pay4 (F := Ideal) y1 y0 y2 y3 (ix2 i l) : EReal) = normGrad (y0 : Mat 256 1024) y1 y2 y3 (ix2 i l) := by
  have h3 := pay3 y1
  have h2 := pay2 y1
  unfold normGrad rowGrad
  show _ = (y3 (ix2 i l) : EReal) + Ideal.rsqrt (ms (y1 : Mat 256 1024) i) * ((y0 : Mat 256 1024) (ix2 i l) * y2 (ix2 0 l) - (y1 : Mat 256 1024) (ix2 i l) * Ideal.rsqrt (ms (y1 : Mat 256 1024) i)
    * Ideal.div (∑ k : Fin 1024, (y0 : Mat 256 1024) (ix2 i k) * y2 (ix2 0 k) * ((y1 : Mat 256 1024) (ix2 i k) * Ideal.rsqrt (ms (y1 : Mat 256 1024) i))) (Ideal.ofBits .f32 0x44800000#32))
  unfold k0_pay4
  generalize k0_pay3 (F := Ideal) y1 = xh at h3 ⊢
  generalize k0_pay2 (F := Ideal) y1 = r at h2 ⊢
  pointwise
  simp only [h3, h2]

/-- The gain's gradient. -/
theorem pay6 (l : Fin 1024) : (k0_pay6 (F := Ideal) y1 y0 (ix2 0 l) : EReal) = ∑ i : Fin 256, gainPart (y0 : Mat 256 1024) y1 i l := by
  have h3 := pay3 y1
  unfold gainPart k0_pay6
  generalize k0_pay3 (F := Ideal) y1 = xh at h3 ⊢
  pointwise
  simp only [h3]

end

section
variable (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S1x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .bf16) (h6 : arg6.IsWhole) (arg7 : Memref sig .tc .vmem S1x1024 .f32) (h7 : arg7.IsWhole)

theorem out_A_4 (hc0 : cond0_0 i) (hc1 : ¬cond0_1 i) (x0 x1 : Vec Ideal S256x1024 .f32) (x2 : Vec Ideal S1x1024 .f32) (x3 : Vec Ideal S256x1024 .f32) :
    out0_A_4 (F := Ideal) c i arg1 h1 arg2 h2 arg3 h3 arg4 h4 arg5 h5 arg6 h6 arg7 h7 hc0 hc1 x0 x1 x2 x3 = k0_pay4 (F := Ideal) x1 x0 x2 x3 := by
  unfold out0_A_4
  rw [View.read_writes_eq_canon _ _ _ (fun _ => cover0_A_4 (F := Ideal) ..)]
  unfold kernelRun0_A
  dsimp only
  rw [View.canon_unit_zero hz]
  try sl_unfold_words
  simp only [View.readAt_eq_ld, h1.read_unread, h2.read_unread, h3.read_unread, h4.read_unread, View.ld_unit_zero (S := S256x1024) hz, View.ld_unit_zero (S := S1x1024) hz, shapeCast_self]
  try rfl

theorem out_A_5 (hc0 : cond0_0 i) (hc1 : ¬cond0_1 i) (x0 x1 : Vec Ideal S256x1024 .f32) (x2 : Vec Ideal S1x1024 .f32) (x3 : Vec Ideal S256x1024 .f32) :
    out0_A_5 (F := Ideal) c i arg1 h1 arg2 h2 arg3 h3 arg4 h4 arg5 h5 arg6 h6 arg7 h7 hc0 hc1 x0 x1 x2 x3 = k0_pay5 (F := Ideal) x1 x0 x2 x3 := by
  unfold out0_A_5
  rw [View.read_writes_eq_canon _ _ _ (fun _ => cover0_A_5 (F := Ideal) ..)]
  unfold kernelRun0_A
  dsimp only
  rw [View.canon_unit_zero hz]
  try sl_unfold_words
  simp only [View.readAt_eq_ld, h1.read_unread, h2.read_unread, h3.read_unread, h4.read_unread, View.ld_unit_zero (S := S256x1024) hz, View.ld_unit_zero (S := S1x1024) hz, shapeCast_self]
  try rfl

theorem out_A_6 (hc0 : cond0_0 i) (hc1 : ¬cond0_1 i) (x0 x1 : Vec Ideal S256x1024 .f32) (x2 : Vec Ideal S1x1024 .f32) (x3 : Vec Ideal S256x1024 .f32) :
    out0_A_6 (F := Ideal) c i arg1 h1 arg2 h2 arg3 h3 arg4 h4 arg5 h5 arg6 h6 arg7 h7 hc0 hc1 x0 x1 x2 x3 = k0_pay6 (F := Ideal) x1 x0 := by
  unfold out0_A_6
  rw [View.read_writes_eq_canon _ _ _ (fun _ => cover0_A_6 (F := Ideal) ..)]
  unfold kernelRun0_A
  dsimp only
  rw [View.canon_unit_zero hz]
  try sl_unfold_words
  simp only [View.readAt_eq_ld, h1.read_unread, h2.read_unread, h3.read_unread, h4.read_unread, View.ld_unit_zero (S := S256x1024) hz, View.ld_unit_zero (S := S1x1024) hz, shapeCast_self]
  try rfl

end

theorem out4 (c : Dev nD) (t : Fin cfg0.N) (i : Fin 256) (l : Fin 1024) (p : Fin 256) (q : Fin 1024) (hp : p.val = i.val) (hq : q.val = l.val) :
    (outsAt0 m c t).1 (ix2 i l) = r4 m c (ix2 p q) := by
  obtain rfl : q = l := Fin.ext hq
  obtain rfl : p = i := Fin.ext hp
  unfold outsAt0
  dsimp only
  rw [out_A_4]
  refine (pay4 _ _ _ _ p q).trans ?_
  unfold r4 normGrad
  refine congrArg₂ (fun a b : EReal => a + b) (blk3 m c t p q p q rfl rfl) ?_
  exact rowGrad_congr _ _ _ _ _ _ p p q (fun k => blk0 m c t p k p k rfl rfl) (fun k => blk1 m c t p k p k rfl rfl) (fun k => blk2 m c t 0 k 0 k rfl rfl)

theorem out5 (c : Dev nD) (t : Fin cfg0.N) (i : Fin 256) (l : Fin 1024) (p : Fin 256) (q : Fin 1024) (hp : p.val = i.val) (hq : q.val = l.val) :
    (outsAt0 m c t).2.1 (ix2 i l) = r5 m c (ix2 p q) := by
  obtain rfl : q = l := Fin.ext hq
  obtain rfl : p = i := Fin.ext hp
  unfold outsAt0
  dsimp only
  rw [out_A_5]
  refine (pay4 _ _ _ _ p q).trans ?_
  unfold r5 normGrad
  refine congrArg₂ (fun a b : EReal => a + b) (blk3 m c t p q p q rfl rfl) ?_
  exact rowGrad_congr _ _ _ _ _ _ p p q (fun k => blk0 m c t p k p k rfl rfl) (fun k => blk1 m c t p k p k rfl rfl) (fun k => blk2 m c t 0 k 0 k rfl rfl)

theorem out6 (c : Dev nD) (t : Fin cfg0.N) (i : Fin 1) (l : Fin 1024) (p : Fin 1) (q : Fin 1024) (hp : p.val = i.val) (hq : q.val = l.val) :
    (outsAt0 m c t).2.2 (ix2 i l) = r6 m c (ix2 p q) := by
  obtain rfl : q = l := Fin.ext hq
  obtain rfl : i = 0 := Subsingleton.elim _ _
  unfold outsAt0
  dsimp only
  rw [out_A_6]
  refine (pay6 _ _ q).trans ?_
  unfold r6 gainGrad
  exact Finset.sum_congr rfl fun i _ => gainPart_congr _ _ _ _ i i q (fun k => blk0 m c t i k i k rfl rfl) (fun k => blk1 m c t i k i k rfl rfl)

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 256) (n1 := 1024) x
  refine (out4 m c t i l ((((cfg0.win 4).blk t).view.emb (ix2 i l) : S256x1024.Idx) 0) ((((cfg0.win 4).blk t).view.emb (ix2 i l) : S256x1024.Idx) 1) ?_ ?_).trans (congrArg (r4 m c) (eta2 _).symm)
  · show win0_4.index t 0 * 256 + 1 * i.val = _; rw [(at4 t).1]; omega
  · show win0_4.index t 1 * 1024 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 256 := (i 0).isLt
    have h1 : (i 1 : Nat) < 1024 := (i 1).isLt
    have hN : cfg0.N = 1 := N_0
    have ht : 0 < cfg0.N := by omega
    refine ⟨⟨0, ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 256 ≤ (i 0 : Nat) ∧ (i 0 : Nat) < win0_4.index ⟨_, ht⟩ 0 * 256 + 256
                rw [(at4 ⟨_, ht⟩).1]; try dsimp only
                omega
    | ⟨1, _⟩ => show win0_4.index ⟨_, ht⟩ 1 * 1024 ≤ (i 1 : Nat) ∧ (i 1 : Nat) < win0_4.index ⟨_, ht⟩ 1 * 1024 + 1024
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 256) (n1 := 1024) x
  refine (out5 m c t i l ((((cfg0.win 5).blk t).view.emb (ix2 i l) : S256x1024.Idx) 0) ((((cfg0.win 5).blk t).view.emb (ix2 i l) : S256x1024.Idx) 1) ?_ ?_).trans (congrArg (r5 m c) (eta2 _).symm)
  · show win0_5.index t 0 * 256 + 1 * i.val = _; rw [(at5 t).1]; omega
  · show win0_5.index t 1 * 1024 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 256 := (i 0).isLt
    have h1 : (i 1 : Nat) < 1024 := (i 1).isLt
    have hN : cfg0.N = 1 := N_0
    have ht : 0 < cfg0.N := by omega
    refine ⟨⟨0, ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 256 ≤ (i 0 : Nat) ∧ (i 0 : Nat) < win0_5.index ⟨_, ht⟩ 0 * 256 + 256
                rw [(at5 ⟨_, ht⟩).1]; try dsimp only
                omega
    | ⟨1, _⟩ => show win0_5.index ⟨_, ht⟩ 1 * 1024 ≤ (i 1 : Nat) ∧ (i 1 : Nat) < win0_5.index ⟨_, ht⟩ 1 * 1024 + 1024
                rw [(at5 ⟨_, ht⟩).2]; try dsimp only
                omega

/-- What a grid point writes back to window 6. -/
theorem flushed6_eq (c : Dev nD) (t : Fin cfg0.N) : (dats m 0 c).flushed 6 t = ((cfg0.win 6).blk t).view.read (Elt Ideal) (r6 m c) := by
  rw [Value.flushed6]
  funext x
  rw [View.read_apply]
  obtain ⟨i, l, rfl⟩ := pair (n0 := 1) (n1 := 1024) x
  refine (out6 m c t i l ((((cfg0.win 6).blk t).view.emb (ix2 i l) : S1x1024.Idx) 0) ((((cfg0.win 6).blk t).view.emb (ix2 i l) : S1x1024.Idx) 1) ?_ ?_).trans (congrArg (r6 m c) (eta2 _).symm)
  · show win0_6.index t 0 * 1 + 1 * i.val = _; rw [(at6 t).1]; omega
  · show win0_6.index t 1 * 1024 + 1 * l.val = _; rw [(at6 t).2]; omega

/-- The array of window 6 at the end. -/
theorem final6 (c : Dev nD) : (dats m 0 c).arrAt 6 cfg0.N = r6 m c :=
  (dats m 0 c).arrAt_eq_of_cover 6 (r6 m c) (fun t _ => flushed6_eq m c t) fun i => by
    have h0 : (i 0 : Nat) < 1 := (i 0).isLt
    have h1 : (i 1 : Nat) < 1024 := (i 1).isLt
    have hN : cfg0.N = 1 := N_0
    have ht : 0 < cfg0.N := by omega
    refine ⟨⟨0, ht⟩, flush0_6 _, ?_⟩
    show i ∈ ((View.whole main_v0_2).slice (win0_6.rect ⟨_, ht⟩)).set
    rw [View.set_slice_whole, Rect.mem_set_unit]
    intro a
    match a with
    | ⟨0, _⟩ => show win0_6.index ⟨_, ht⟩ 0 * 1 ≤ (i 0 : Nat) ∧ (i 0 : Nat) < win0_6.index ⟨_, ht⟩ 0 * 1 + 1
                rw [(at6 ⟨_, ht⟩).1]; try dsimp only
                omega
    | ⟨1, _⟩ => show win0_6.index ⟨_, ht⟩ 1 * 1024 ≤ (i 1 : Nat) ∧ (i 1 : Nat) < win0_6.index ⟨_, ht⟩ 1 * 1024 + 1024
                rw [(at6 ⟨_, ht⟩).2]; try dsimp only
                omega

section
open Cert.NormMemBwdRefIdeal.Read
variable (x0 x1 : Mat 256 1024) (x2 : Mat 1 1024) (x3 : Mat 256 1024)

/-- The reference's mean square of a row. -/
theorem ref_ms (x : (⟨2, ![256, 1]⟩ : Shape).Idx) : val_main_v7 (F := Ideal) x1 x = ms x1 (x 0) := by
  rw [val_main_v7_apply, val_main_v6_apply, val_main_v5_apply, val_main_v4_apply, val_main_v3_apply, val_main_v2_apply, val_main_cst_apply, val_main_cst_0_apply, val_main_cst_1_apply]
  unfold ms
  refine congrArg (fun z : EReal => Ideal.div z _ + _) ?_
  show Ideal.ofBits .f32 0x00000000#32 + _ = _
  rw [Ideal.ofBits_zero_f32, zero_add]
  refine Finset.sum_congr rfl fun k _ => ?_
  rw [val_main_v1_apply]
  exact congrArg (fun z : EReal => z * z) (congrArg x1 (funext fun a => match a with | ⟨0, _⟩ => rfl | ⟨1, _⟩ => rfl))

/-- The reference's reciprocal root of it. -/
theorem ref_rs (x : (⟨2, ![256, 1]⟩ : Shape).Idx) : val_main_v8 (F := Ideal) x1 x = Ideal.rsqrt (ms x1 (x 0)) := by
  rw [val_main_v8_apply, ref_ms]
  rfl

/-- The reference's gain. -/
theorem ref_gain (i : Fin 256) (j : Fin 1024) : val_main_v20 (F := Ideal) x2 (ix2 i j) = x2 (ix2 0 j) := by
  rw [val_main_v20_apply, val_main_v14_apply, val_main_v0_apply]
  exact congrArg x2 (funext fun a => match a with | ⟨0, _⟩ => rfl | ⟨1, _⟩ => Fin.ext (Nat.mod_eq_of_lt j.isLt))

/-- The reference's gradient of the mean square, spread over its row. -/
theorem ref_sum (i : Fin 256) (j : Fin 1024) : val_main_v33 (F := Ideal) x0 x1 x2 (ix2 i j)
    = Ideal.div ((∑ k : Fin 1024, x1 (ix2 i k) * (x0 (ix2 i k) * x2 (ix2 0 k))) * (Ideal.ofBits .f32 0xBF000000#32 * Ideal.div (Ideal.rsqrt (ms x1 i)) (ms x1 i))) (Ideal.ofBits .f32 0x44800000#32) := by
  rw [val_main_v33_apply, val_main_v32_apply, val_main_cst_7_apply]
  show Ideal.ofBits .f32 0x00000000#32 + _ = _
  rw [Ideal.ofBits_zero_f32, zero_add, Fin.sum_univ_one, val_main_v31_apply, val_main_v30_apply, val_main_v29_apply, val_main_v25_apply, val_main_v24_apply, val_main_v11_apply, val_main_v10_apply, val_main_v9_apply, ref_rs, ref_ms,
    val_main_cst_5_apply, val_main_cst_6_apply, val_main_cst_2_apply]
  refine congrArg (fun z : EReal => Ideal.div (z * (Ideal.ofBits .f32 0xBF000000#32 * Ideal.div (Ideal.rsqrt (ms x1 i)) (ms x1 i))) (Ideal.ofBits .f32 0x44800000#32)) ?_
  show Ideal.ofBits .f32 0x00000000#32 + _ = _
  rw [Ideal.ofBits_zero_f32, zero_add]
  refine Finset.sum_congr rfl fun k _ => ?_
  have e : idx_main_v24 (idx_main_v25 (idx_main_v32 (idx_main_v33 (ix2 i j)) 0)) k = ix2 i k := funext fun a => match a with
    | ⟨0, _⟩ => Fin.ext (by show i.val * 1 + 0 = i.val; omega)
    | ⟨1, _⟩ => rfl
  rw [e, val_main_v23_apply, val_main_v21_apply, ref_gain]
  rfl

theorem ref4 (h0 : ∀ i, Real' (x0 i)) (h1 : ∀ i, Real' (x1 i)) (h2 : ∀ i, Real' (x2 i)) : val_main_v37 (F := Ideal) x0 x1 x2 x3 = normGrad x0 x1 x2 x3 := by
  funext x
  obtain ⟨i, j, rfl⟩ := pair (n0 := 256) (n1 := 1024) x
  rw [val_main_v37_apply, val_main_v36_apply, val_main_v35_apply, val_main_v34_apply, val_main_v28_apply, val_main_v27_apply, val_main_v26_apply, val_main_v21_apply, ref_gain, ref_rs, ref_sum]
  exact rowGrad_ref x0 x1 x2 (x3 (ix2 i j)) h0 h1 h2 i j

theorem ref5 (h0 : ∀ i, Real' (x0 i)) (h1 : ∀ i, Real' (x1 i)) (h2 : ∀ i, Real' (x2 i)) : val_main_v38 (F := Ideal) x0 x1 x2 x3 = normGrad x0 x1 x2 x3 := by
  funext x
  rw [val_main_v38_apply]
  exact congrFun (ref4 _ _ _ x3 h0 h1 h2) x

theorem ref6 : val_main_v39 (F := Ideal) x0 x1 = gainGrad x0 x1 := by
  funext x
  obtain ⟨u, j, rfl⟩ := pair (n0 := 1) (n1 := 1024) x
  rw [val_main_v39_apply, val_main_v22_apply, val_main_cst_4_apply]
  show Ideal.ofBits .f32 0x00000000#32 + _ = _
  rw [Ideal.ofBits_zero_f32, zero_add, Fin.sum_univ_one, val_main_v19_apply, val_main_v18_apply, val_main_cst_3_apply]
  show Ideal.ofBits .f32 0x00000000#32 + _ = _
  rw [Ideal.ofBits_zero_f32, zero_add]
  unfold gainGrad
  refine Finset.sum_congr rfl fun i _ => ?_
  have e : idx_main_v18 (idx_main_v19 (idx_main_v22 (idx_main_v39 (ix2 u j)) 0)) i = ix2 i j := funext fun a => match a with
    | ⟨0, _⟩ => rfl
    | ⟨1, _⟩ => Fin.ext (by show 0 * 1024 + j.val = j.val; omega)
  rw [e, val_main_v17_apply, val_main_v13_apply, val_main_v12_apply, ref_rs]
  unfold gainPart
  exact mul_comm _ _

end

end Cert.NormMemBwdIdeal.Pay

namespace Cert.NormMemBwdClaims

open Idealize.ShloMosaic Idealize.ShloMosaic.TcCoe Idealize.SL.Sem Cert.Tiles Cert.NormMemBwdIdeal.Pay

attribute [local instance] Cert.NormMemBwd.Gen.facts Cert.NormMemBwdIdeal.Gen.facts Cert.NormMemBwdRefIdeal.Gen.facts Cert.PreRealNormMem.facts

/-- The kernel runs, keeps its arguments and ends quiescent. -/
theorem frameP : Cert.quiescent_NormMemBwd := fun m ρ _ => Cert.NormMemBwd.Gen.frame m ρ

/-- … and so does it at the ideal numbers. -/
theorem framePI : Cert.quiescent_NormMemBwdIdeal := fun m ρ _ => Cert.NormMemBwdIdeal.Gen.frame m ρ

/-- The reference runs, keeps its arguments and ends quiescent. -/
theorem frameRI : Cert.quiescent_NormMemBwdRefIdeal := fun m ρ _ =>
  (θ_run Cert.NormMemBwdRefIdeal.defs _ _).mono (fun r h => ⟨fun c => (h c).2.2.2,
      Idealize.ShloMosaic.sem_eq_zero_of_no_sems (by decide) r.2⟩) (Cert.NormMemBwdRefIdeal.Value.run (F := Ideal) m ρ)

theorem framePIpre : Cert.quiescent_NormMemBwdIdeal_pre_real_norm_mem := fun m ρ _ => Cert.NormMemBwdIdeal.Gen.frame m ρ

theorem frameRIpre : Cert.quiescent_NormMemBwdRefIdeal_pre_real_norm_mem := fun m ρ _ => frameRI m ρ trivial

/-- Kernel and reference compute the same results. -/
theorem algebraic : Cert.algebraic_NormMemBwdIdeal_NormMemBwdRefIdeal_pre_real_norm_mem := by
  intro m ρ m' ρ' hpre hag
  refine ⟨fun c => r4 m c, fun c => r5 m c, fun c => r6 m c, ?_, ?_⟩
  · exact (θ_run Cert.NormMemBwdIdeal.defs _ _).mono (fun r h c => ⟨((h c).1).trans (final4 m c), ((h c).2.1).trans (final5 m c), ((h c).2.2.1).trans (final6 m c), (h c).2.2.2⟩) (Cert.NormMemBwdIdeal.Value.run_blocks m ρ)
  · refine (θ_run Cert.NormMemBwdRefIdeal.defs _ _).mono (fun r h c => ?_) (Cert.NormMemBwdRefIdeal.Value.run (F := Ideal) m' ρ')
    obtain ⟨g0, g1, g2, g3⟩ := hag c
    obtain ⟨h0, h1, h2⟩ := Cert.PreRealNormMem.real _ _ _ _ (hpre c)
    refine ⟨((h c).1).trans ?_, ((h c).2.1).trans ?_, ((h c).2.2.1).trans ?_, (h c).2.2.2⟩ <;> clear h
    · rw [Cert.NormMemBwdRefIdeal.Read.val_main_v37_eq]
      try rw [g0]
      try rw [g1]
      try rw [g2]
      try rw [g3]
      exact ref4 _ _ _ _ h0 h1 h2
    · rw [Cert.NormMemBwdRefIdeal.Read.val_main_v38_eq]
      try rw [g0]
      try rw [g1]
      try rw [g2]
      try rw [g3]
      exact ref5 _ _ _ _ h0 h1 h2
    · rw [Cert.NormMemBwdRefIdeal.Read.val_main_v39_eq]
      try rw [g0]
      try rw [g1]
      try rw [g2]
      try rw [g3]
      exact ref6 _ _

end Cert.NormMemBwdClaims

end
-- ==== Proof.MemkvDw.lean ====
/-
  The gradient of the memory projection's weights.
-/
module

public import proofs.«01_k».proof.Defs
public import proofs.«01_k».proof.Proof.Tiles
public import proofs.«01_k».proof.Proof.Gen.MemkvDw.Frame
public import proofs.«01_k».proof.Proof.Gen.MemkvDwIdeal.Value
public import proofs.«01_k».proof.Proof.Gen.MemkvDwRefIdeal.Read
public import proofs.«01_k».proof.Proof.Gen.MemkvDwRefIdeal.Run
public import Idealize.ShloMosaic.Lib.Tactic

@[expose] public section

set_option maxRecDepth 16384

noncomputable section

namespace Cert.MemkvDwIdeal.Pay

open Idealize.ShloMosaic Idealize.ShloMosaic.TcCoe Idealize.SL.Sem Cert.MemkvDwIdeal Cert.MemkvDwIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 256) (l : Fin 1024) (p : Fin 256) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 256 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = t.val := by decide +kernel

/-- An element of a block of window 1 is the array's. -/
theorem blk1 (c : Dev nD) (t : Fin cfg0.N) (i : Fin 256) (l : Fin 512) (p : Fin 256) (q : Fin 512) (hp : p.val = i.val) (hq : q.val = 512 * (t.val) + l.val) :
    (iblk m c 1 t (ix2 i l) : EReal) = m (c.tc.loc main_arg1) (ix2 p q) := by
  refine congrArg (m (c.tc.loc main_arg1)) (ext2 ?_ ?_)
  · show win0_1.index t 0 * 256 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 256 1024) (x1 : Mat 256 512) : Mat 1024 512 := mulTA (k := 256) x0 x1

/-- The kernel's result. -/
def r2 (c : Dev nD) : Mat 1024 512 := res (m (c.tc.loc main_arg0)) (m (c.tc.loc main_arg1))

/-- What a grid point leaves in its block. -/
theorem out2 (c : Dev nD) (t : Fin cfg0.N) (i : Fin 1024) (l : Fin 512) (p : Fin 1024) (q : Fin 512) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S256x1024) hz, View.ld_unit_zero (S := S256x512) hz]
  have ea : ∀ k : Fin 256, (iblk m c 0 t (ix2 k i) : EReal) = m (c.tc.loc main_arg0) (ix2 k p) := fun k => blk0 m c t k i k p rfl hp
  have eb : ∀ k : Fin 256, (iblk m c 1 t (ix2 k l) : EReal) = m (c.tc.loc main_arg1) (ix2 k q) := fun k => blk1 m c t k l k q rfl hq
  refine Eq.trans ?_ (Finset.sum_congr (s₁ := (Finset.univ : Finset (Fin 256))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 1024) (n1 := 512) x
  refine (out2 m c t i l ((((cfg0.win 2).blk t).view.emb (ix2 i l) : S1024x512.Idx) 0) ((((cfg0.win 2).blk t).view.emb (ix2 i l) : S1024x512.Idx) 1) ?_ ?_).trans (congrArg (r2 m c) (eta2 _).symm)
  · show win0_2.index t 0 * 1024 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 1024 := (i 0).isLt
    have h1 : (i 1 : Nat) < 512 := (i 1).isLt
    have hN : cfg0.N = 1 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0 : Nat) ∧ (i 0 : Nat) < win0_2.index ⟨_, ht⟩ 0 * 1024 + 1024
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.MemkvDwRefIdeal.Read in
/-- The reference's result. -/
theorem ref2 (x0 : Mat 256 1024) (x1 : Mat 256 512) : val_main_v6 (F := Ideal) x0 x1 = res x0 x1 := by
  funext x
  obtain ⟨i, j, rfl⟩ := pair (n0 := 1024) (n1 := 512) x
  rw [val_main_v6_apply, val_main_v5_apply, val_main_v4_apply]
  unfold res
  refine Finset.sum_congr rfl fun k _ => ?_
  rw [val_main_v2_apply, val_main_v0_apply]
  refine Eq.trans ?_ (mul_comm _ _)
  exact congrArg₂ (· * ·) (congrArg x1 (funext fun a => match a with | ⟨0, _⟩ => rfl | ⟨1, _⟩ => rfl)) (congrArg x0 (funext fun a => match a with | ⟨0, _⟩ => rfl | ⟨1, _⟩ => rfl))

end Cert.MemkvDwIdeal.Pay

namespace Cert.MemkvDwClaims

open Idealize.ShloMosaic Idealize.ShloMosaic.TcCoe Idealize.SL.Sem Cert.Tiles Cert.MemkvDwIdeal.Pay

attribute [local instance] Cert.MemkvDw.Gen.facts Cert.MemkvDwIdeal.Gen.facts Cert.MemkvDwRefIdeal.Gen.facts

/-- The kernel runs, keeps its arguments and ends quiescent. -/
theorem frameP : Cert.quiescent_MemkvDw := fun m ρ _ => Cert.MemkvDw.Gen.frame m ρ

/-- … and so does it at the ideal numbers. -/
theorem framePI : Cert.quiescent_MemkvDwIdeal := fun m ρ _ => Cert.MemkvDwIdeal.Gen.frame m ρ

/-- The reference runs, keeps its arguments and ends quiescent. -/
theorem frameRI : Cert.quiescent_MemkvDwRefIdeal := fun m ρ _ =>
  (θ_run Cert.MemkvDwRefIdeal.defs _ _).mono (fun r h => ⟨fun c => (h c).2,
      Idealize.ShloMosaic.sem_eq_zero_of_no_sems (by decide) r.2⟩) (Cert.MemkvDwRefIdeal.Value.run (F := Ideal) m ρ)

/-- Kernel and reference compute the same results. -/
theorem algebraic : Cert.algebraic_MemkvDwIdeal_MemkvDwRefIdeal := by
  intro m ρ m' ρ' hpre hag
  refine ⟨fun c => r2 m c, ?_, ?_⟩
  · exact (θ_run Cert.MemkvDwIdeal.defs _ _).mono (fun r h c => ⟨((h c).1).trans (final2 m c), (h c).2⟩) (Cert.MemkvDwIdeal.Value.run_blocks m ρ)
  · refine (θ_run Cert.MemkvDwRefIdeal.defs _ _).mono (fun r h c => ?_) (Cert.MemkvDwRefIdeal.Value.run (F := Ideal) m' ρ')
    obtain ⟨g0, g1⟩ := hag c
    refine ⟨((h c).1).trans ?_, (h c).2⟩ <;> clear h
    · rw [Cert.MemkvDwRefIdeal.Read.val_main_v6_eq]
      try rw [g0]
      try rw [g1]
      exact ref2 _ _

end Cert.MemkvDwClaims

end
-- ==== Proof.MemkvDx.lean ====
/-
  The memory projection's input gradient.
-/
module

public import proofs.«01_k».proof.Defs
public import proofs.«01_k».proof.Proof.Tiles
public import proofs.«01_k».proof.Proof.Gen.MemkvDx.Frame
public import proofs.«01_k».proof.Proof.Gen.MemkvDxIdeal.Value
public import proofs.«01_k».proof.Proof.Gen.MemkvDxRefIdeal.Read
public import proofs.«01_k».proof.Proof.Gen.MemkvDxRefIdeal.Run
public import Idealize.ShloMosaic.Lib.Tactic

@[expose] public section

set_option maxRecDepth 16384

noncomputable section

namespace Cert.MemkvDxIdeal.Pay

open Idealize.ShloMosaic Idealize.ShloMosaic.TcCoe Idealize.SL.Sem Cert.MemkvDxIdeal Cert.MemkvDxIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 256) (l : Fin 512) (p : Fin 256) (q : Fin 512) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 256 + 1 * i.val = p.val; rw [(at0 t).1]; omega
  · show win0_0.index t 1 * 512 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 512) (p : Fin 1024) (q : Fin 512) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 256 512) (x1 : Mat 1024 512) : Mat 256 1024 := mulTB (k := 512) x0 x1

/-- The kernel's result. -/
def r2 (c : Dev nD) : Mat 256 1024 := res (m (c.tc.loc main_arg0)) (m (c.tc.loc main_arg1))

/-- What a grid point leaves in its block. -/
theorem out2 (c : Dev nD) (t : Fin cfg0.N) (i : Fin 256) (l : Fin 512) (p : Fin 256) (q : Fin 1024) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S256x512) hz, View.ld_unit_zero (S := S512x512) hz]
  have ea : ∀ k : Fin 512, (iblk m c 0 t (ix2 i k) : EReal) = m (c.tc.loc main_arg0) (ix2 p k) := fun k => blk0 m c t i k p k hp rfl
  have eb : ∀ k : Fin 512, (iblk m c 1 t (ix2 l k) : EReal) = m (c.tc.loc main_arg1) (ix2 q k) := fun k => blk1 m c t l k q k hq rfl
  refine Eq.trans ?_ (Finset.sum_congr (s₁ := (Finset.univ : Finset (Fin 512))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 256) (n1 := 512) x
  refine (out2 m c t i l ((((cfg0.win 2).blk t).view.emb (ix2 i l) : S256x1024.Idx) 0) ((((cfg0.win 2).blk t).view.emb (ix2 i l) : S256x1024.Idx) 1) ?_ ?_).trans (congrArg (r2 m c) (eta2 _).symm)
  · show win0_2.index t 0 * 256 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 256 := (i 0).isLt
    have h1 : (i 1 : Nat) < 1024 := (i 1).isLt
    have hN : cfg0.N = 2 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 256 ≤ (i 0 : Nat) ∧ (i 0 : Nat) < win0_2.index ⟨_, ht⟩ 0 * 256 + 256
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.MemkvDxRefIdeal.Read in
/-- The reference's result. -/
theorem ref2 (x0 : Mat 256 512) (x1 : Mat 1024 512) : val_main_v4 (F := Ideal) x0 x1 = res x0 x1 := by
  funext x
  obtain ⟨i, j, rfl⟩ := pair (n0 := 256) (n1 := 1024) x
  rw [val_main_v4_apply]
  unfold res
  refine Finset.sum_congr rfl fun k _ => ?_
  rw [val_main_v2_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.MemkvDxIdeal.Pay

namespace Cert.MemkvDxClaims

open Idealize.ShloMosaic Idealize.ShloMosaic.TcCoe Idealize.SL.Sem Cert.Tiles Cert.MemkvDxIdeal.Pay

attribute [local instance] Cert.MemkvDx.Gen.facts Cert.MemkvDxIdeal.Gen.facts Cert.MemkvDxRefIdeal.Gen.facts

/-- The kernel runs, keeps its arguments and ends quiescent. -/
theorem frameP : Cert.quiescent_MemkvDx := fun m ρ _ => Cert.MemkvDx.Gen.frame m ρ

/-- … and so does it at the ideal numbers. -/
theorem framePI : Cert.quiescent_MemkvDxIdeal := fun m ρ _ => Cert.MemkvDxIdeal.Gen.frame m ρ

/-- The reference runs, keeps its arguments and ends quiescent. -/
theorem frameRI : Cert.quiescent_MemkvDxRefIdeal := fun m ρ _ =>
  (θ_run Cert.MemkvDxRefIdeal.defs _ _).mono (fun r h => ⟨fun c => (h c).2,
      Idealize.ShloMosaic.sem_eq_zero_of_no_sems (by decide) r.2⟩) (Cert.MemkvDxRefIdeal.Value.run (F := Ideal) m ρ)

/-- Kernel and reference compute the same results. -/
theorem algebraic : Cert.algebraic_MemkvDxIdeal_MemkvDxRefIdeal := by
  intro m ρ m' ρ' hpre hag
  refine ⟨fun c => r2 m c, ?_, ?_⟩
  · exact (θ_run Cert.MemkvDxIdeal.defs _ _).mono (fun r h c => ⟨((h c).1).trans (final2 m c), (h c).2⟩) (Cert.MemkvDxIdeal.Value.run_blocks m ρ)
  · refine (θ_run Cert.MemkvDxRefIdeal.defs _ _).mono (fun r h c => ?_) (Cert.MemkvDxRefIdeal.Value.run (F := Ideal) m' ρ')
    obtain ⟨g0, g1⟩ := hag c
    refine ⟨((h c).1).trans ?_, (h c).2⟩ <;> clear h
    · rw [Cert.MemkvDxRefIdeal.Read.val_main_v4_eq]
      try rw [g0]
      try rw [g1]
      exact ref2 _ _

end Cert.MemkvDxClaims

end
-- ==== Proof.NormMix.lean ====
/-
  The RMSNorm before the first layer.
-/
module

public import proofs.«01_k».proof.Defs
public import proofs.«01_k».proof.Proof.Tiles
public import proofs.«01_k».proof.Proof.RowNorm
public import proofs.«01_k».proof.Proof.Gen.NormMix.Frame
public import proofs.«01_k».proof.Proof.Gen.NormMixIdeal.Value
public import proofs.«01_k».proof.Proof.Gen.NormMixRefIdeal.Read
public import proofs.«01_k».proof.Proof.Gen.NormMixRefIdeal.Run
public import Idealize.ShloMosaic.Lib.Tactic

@[expose] public section

set_option maxRecDepth 16384

noncomputable section

namespace Cert.NormMixIdeal.Pay

open Idealize.ShloMosaic Idealize.ShloMosaic.TcCoe Idealize.SL.Sem Cert.NormMixIdeal Cert.NormMixIdeal.Gen Cert.Tiles
open Idealize.ShloMosaic.Pipeline (Dat)

variable (m : (ℓ : Loc nD τ sig) → Buf (Elt Ideal) ℓ)

open Cert.RowNorm

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 1024) (p : Fin 2048) (q : Fin 1024) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 1) (l : Fin 1024) (p : Fin 1) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 1 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- The kernel's result: the normalised rows. -/
def r2 (c : Dev nD) : Mat 2048 1024 := rmsNorm (m (c.tc.loc main_arg0)) (m (c.tc.loc main_arg1))

/-- A block's normalised rows. -/
theorem norm0 (y : FVec Ideal S512x1024 .f32) (g : FVec Ideal S1x1024 .f32) (i : Fin 512) (l : Fin 1024) :
    k0_pay1 (F := Ideal) y g (ix2 i l) = rmsNorm (y : Mat 512 1024) g (ix2 i l) := by
  unfold k0_pay1 rmsNorm ms
  pointwise

/-- What a grid point leaves in its block. -/
theorem out2 (c : Dev nD) (t : Fin cfg0.N) (i : Fin 512) (l : Fin 1024) (p : Fin 2048) (q : Fin 1024) (hp : p.val = 512 * t.val + i.val) (hq : q.val = l.val) :
    out0_2 (iblk m c 0 t) (iblk m c 1 t) (ix2 i l) = r2 m c (ix2 p q) := by
  unfold out0_2
  rw [View.canon_unit_zero hz]
  simp only [View.ld_unit_zero (S := S512x1024) hz, View.ld_unit_zero (S := S1x1024) hz]
  refine (norm0 _ _ i l).trans ?_
  have e : ∀ k : Fin 1024, (iblk m c 0 t (ix2 i k) : EReal) = m (c.tc.loc main_arg0) (ix2 p k) := fun k => blk0 m c t i k p k hp rfl
  refine congrArg₂ (fun a b : EReal => a * b) (congrArg₂ (fun a b : EReal => a * b) (blk0 m c t i l p q hp hq) (congrArg (fun z : EReal => Ideal.rsqrt (Ideal.div z _ + _)) ?_)) (blk1 m c t 0 l 0 q rfl hq)
  exact Finset.sum_congr rfl fun k _ => congrArg₂ (fun a b : EReal => a * b) (e k) (e k)

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 512) (n1 := 1024) x
  refine (out2 m c t i l ((((cfg0.win 2).blk t).view.emb (ix2 i l) : S2048x1024.Idx) 0) ((((cfg0.win 2).blk t).view.emb (ix2 i l) : S2048x1024.Idx) 1) ?_ ?_).trans (congrArg (r2 m c) (eta2 _).symm)
  · show win0_2.index t 0 * 512 + 1 * i.val = _; rw [(at2 t).1]; omega
  · show win0_2.index t 1 * 1024 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 512 ≤ (i 0 : Nat) ∧ (i 0 : Nat) < win0_2.index ⟨_, ht⟩ 0 * 512 + 512
                rw [(at2 ⟨_, ht⟩).1]; try dsimp only
                omega
    | ⟨1, _⟩ => show win0_2.index ⟨_, ht⟩ 1 * 1024 ≤ (i 1 : Nat) ∧ (i 1 : Nat) < win0_2.index ⟨_, ht⟩ 1 * 1024 + 1024
                rw [(at2 ⟨_, ht⟩).2]; try dsimp only
                omega

section
open Cert.NormMixRefIdeal.Read
variable (x0 : Mat 2048 1024) (x1 : Mat 1 1024)

/-- The reference's result. -/
theorem ref2 : val_main_v14 (F := Ideal) x0 x1 = rmsNorm x0 x1 := by
  funext x
  obtain ⟨i, j, rfl⟩ := pair (n0 := 2048) (n1 := 1024) x
  rw [val_main_v14_apply, val_main_v13_apply, val_main_v10_apply, val_main_v9_apply, val_main_v8_apply, val_main_v7_apply, val_main_v6_apply, val_main_v5_apply, val_main_v4_apply,
    val_main_v3_apply, val_main_v2_apply, val_main_v12_apply, val_main_v11_apply, val_main_v0_apply, val_main_cst_apply, val_main_cst_0_apply, val_main_cst_1_apply]
  unfold rmsNorm ms
  refine congrArg₂ (fun a b : EReal => a * b) (congrArg (fun z : EReal => x0 (ix2 i j) * Ideal.rsqrt (Ideal.div z _ + _)) ?_) (congrArg x1 (funext fun a => match a with | ⟨0, _⟩ => rfl | ⟨1, _⟩ => Fin.ext (by first | rfl | exact Nat.mod_eq_of_lt j.isLt)))
  show Ideal.ofBits .f32 0x00000000#32 + _ = _
  rw [Ideal.ofBits_zero_f32, zero_add]
  refine Finset.sum_congr rfl fun k _ => ?_
  rw [val_main_v1_apply]
  exact congrArg (fun z : EReal => z * z) (congrArg x0 (funext fun a => match a with | ⟨0, _⟩ => rfl | ⟨1, _⟩ => rfl))

end

end Cert.NormMixIdeal.Pay

namespace Cert.NormMixClaims

open Idealize.ShloMosaic Idealize.ShloMosaic.TcCoe Idealize.SL.Sem Cert.Tiles Cert.NormMixIdeal.Pay

attribute [local instance] Cert.NormMix.Gen.facts Cert.NormMixIdeal.Gen.facts Cert.NormMixRefIdeal.Gen.facts

/-- The kernel runs, keeps its arguments and ends quiescent. -/
theorem frameP : Cert.quiescent_NormMix := fun m ρ _ => Cert.NormMix.Gen.frame m ρ

/-- … and so does it at the ideal numbers. -/
theorem framePI : Cert.quiescent_NormMixIdeal := fun m ρ _ => Cert.NormMixIdeal.Gen.frame m ρ

/-- The reference runs, keeps its arguments and ends quiescent. -/
theorem frameRI : Cert.quiescent_NormMixRefIdeal := fun m ρ _ =>
  (θ_run Cert.NormMixRefIdeal.defs _ _).mono (fun r h => ⟨fun c => (h c).2,
      Idealize.ShloMosaic.sem_eq_zero_of_no_sems (by decide) r.2⟩) (Cert.NormMixRefIdeal.Value.run (F := Ideal) m ρ)

/-- Kernel and reference compute the same results. -/
theorem algebraic : Cert.algebraic_NormMixIdeal_NormMixRefIdeal := by
  intro m ρ m' ρ' hpre hag
  refine ⟨fun c => r2 m c, ?_, ?_⟩
  · exact (θ_run Cert.NormMixIdeal.defs _ _).mono (fun r h c => ⟨((h c).1).trans (final2 m c), (h c).2⟩) (Cert.NormMixIdeal.Value.run_blocks m ρ)
  · refine (θ_run Cert.NormMixRefIdeal.defs _ _).mono (fun r h c => ?_) (Cert.NormMixRefIdeal.Value.run (F := Ideal) m' ρ')
    obtain ⟨g0, g1⟩ := hag c
    refine ⟨((h c).1).trans ?_, (h c).2⟩ <;> clear h
    · rw [Cert.NormMixRefIdeal.Read.val_main_v14_eq]
      try rw [g0]
      try rw [g1]
      exact ref2 _ _

end Cert.NormMixClaims

end
-- ==== Proof.NormMem.lean ====
/-
  The memory's RMSNorm.
-/
module

public import proofs.«01_k».proof.Defs
public import proofs.«01_k».proof.Proof.Tiles
public import proofs.«01_k».proof.Proof.RowNorm
public import proofs.«01_k».proof.Proof.Gen.NormMem.Frame
public import proofs.«01_k».proof.Proof.Gen.NormMemIdeal.Value
public import proofs.«01_k».proof.Proof.Gen.NormMemRefIdeal.Read
public import proofs.«01_k».proof.Proof.Gen.NormMemRefIdeal.Run
public import Idealize.ShloMosaic.Lib.Tactic

@[expose] public section

set_option maxRecDepth 16384

noncomputable section

namespace Cert.NormMemIdeal.Pay

open Idealize.ShloMosaic Idealize.ShloMosaic.TcCoe Idealize.SL.Sem Cert.NormMemIdeal Cert.NormMemIdeal.Gen Cert.Tiles
open Idealize.ShloMosaic.Pipeline (Dat)

variable (m : (ℓ : Loc nD τ sig) → Buf (Elt Ideal) ℓ)

open Cert.RowNorm

theorem at0 : ∀ t : Fin grid0.N, win0_0.index t 0 = t.val ∧ win0_0.index t 1 = 0 := by decide +kernel

/-- An element of a block of window 0 is the array's. -/
theorem blk0 (c : Dev nD) (t : Fin cfg0.N) (i : Fin 256) (l : Fin 1024) (p : Fin 256) (q : Fin 1024) (hp : p.val = 256 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 256 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 1) (l : Fin 1024) (p : Fin 1) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 1 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- The kernel's result: the normalised rows. -/
def r2 (c : Dev nD) : Mat 256 1024 := rmsNorm (m (c.tc.loc main_arg0)) (m (c.tc.loc main_arg1))

/-- A block's normalised rows. -/
theorem norm0 (y : FVec Ideal S256x1024 .f32) (g : FVec Ideal S1x1024 .f32) (i : Fin 256) (l : Fin 1024) :
    k0_pay1 (F := Ideal) y g (ix2 i l) = rmsNorm (y : Mat 256 1024) g (ix2 i l) := by
  unfold k0_pay1 rmsNorm ms
  pointwise

/-- What a grid point leaves in its block. -/
theorem out2 (c : Dev nD) (t : Fin cfg0.N) (i : Fin 256) (l : Fin 1024) (p : Fin 256) (q : Fin 1024) (hp : p.val = 256 * t.val + i.val) (hq : q.val = l.val) :
    out0_2 (iblk m c 0 t) (iblk m c 1 t) (ix2 i l) = r2 m c (ix2 p q) := by
  unfold out0_2
  rw [View.canon_unit_zero hz]
  simp only [View.ld_unit_zero (S := S256x1024) hz, View.ld_unit_zero (S := S1x1024) hz]
  refine (norm0 _ _ i l).trans ?_
  have e : ∀ k : Fin 1024, (iblk m c 0 t (ix2 i k) : EReal) = m (c.tc.loc main_arg0) (ix2 p k) := fun k => blk0 m c t i k p k hp rfl
  refine congrArg₂ (fun a b : EReal => a * b) (congrArg₂ (fun a b : EReal => a * b) (blk0 m c t i l p q hp hq) (congrArg (fun z : EReal => Ideal.rsqrt (Ideal.div z _ + _)) ?_)) (blk1 m c t 0 l 0 q rfl hq)
  exact Finset.sum_congr rfl fun k _ => congrArg₂ (fun a b : EReal => a * b) (e k) (e k)

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 256) (n1 := 1024) x
  refine (out2 m c t i l ((((cfg0.win 2).blk t).view.emb (ix2 i l) : S256x1024.Idx) 0) ((((cfg0.win 2).blk t).view.emb (ix2 i l) : S256x1024.Idx) 1) ?_ ?_).trans (congrArg (r2 m c) (eta2 _).symm)
  · show win0_2.index t 0 * 256 + 1 * i.val = _; rw [(at2 t).1]; omega
  · show win0_2.index t 1 * 1024 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 256 := (i 0).isLt
    have h1 : (i 1 : Nat) < 1024 := (i 1).isLt
    have hN : cfg0.N = 1 := N_0
    have ht : ((i 0 : Nat) / 256) < cfg0.N := by omega
    refine ⟨⟨((i 0 : Nat) / 256), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 256 ≤ (i 0 : Nat) ∧ (i 0 : Nat) < win0_2.index ⟨_, ht⟩ 0 * 256 + 256
                rw [(at2 ⟨_, ht⟩).1]; try dsimp only
                omega
    | ⟨1, _⟩ => show win0_2.index ⟨_, ht⟩ 1 * 1024 ≤ (i 1 : Nat) ∧ (i 1 : Nat) < win0_2.index ⟨_, ht⟩ 1 * 1024 + 1024
                rw [(at2 ⟨_, ht⟩).2]; try dsimp only
                omega

section
open Cert.NormMemRefIdeal.Read
variable (x0 : Mat 256 1024) (x1 : Mat 1 1024)

/-- The reference's result. -/
theorem ref2 : val_main_v14 (F := Ideal) x0 x1 = rmsNorm x0 x1 := by
  funext x
  obtain ⟨i, j, rfl⟩ := pair (n0 := 256) (n1 := 1024) x
  rw [val_main_v14_apply, val_main_v13_apply, val_main_v10_apply, val_main_v9_apply, val_main_v8_apply, val_main_v7_apply, val_main_v6_apply, val_main_v5_apply, val_main_v4_apply,
    val_main_v3_apply, val_main_v2_apply, val_main_v12_apply, val_main_v11_apply, val_main_v0_apply, val_main_cst_apply, val_main_cst_0_apply, val_main_cst_1_apply]
  unfold rmsNorm ms
  refine congrArg₂ (fun a b : EReal => a * b) (congrArg (fun z : EReal => x0 (ix2 i j) * Ideal.rsqrt (Ideal.div z _ + _)) ?_) (congrArg x1 (funext fun a => match a with | ⟨0, _⟩ => rfl | ⟨1, _⟩ => Fin.ext (by first | rfl | exact Nat.mod_eq_of_lt j.isLt)))
  show Ideal.ofBits .f32 0x00000000#32 + _ = _
  rw [Ideal.ofBits_zero_f32, zero_add]
  refine Finset.sum_congr rfl fun k _ => ?_
  rw [val_main_v1_apply]
  exact congrArg (fun z : EReal => z * z) (congrArg x0 (funext fun a => match a with | ⟨0, _⟩ => rfl | ⟨1, _⟩ => rfl))

end

end Cert.NormMemIdeal.Pay

namespace Cert.NormMemClaims

open Idealize.ShloMosaic Idealize.ShloMosaic.TcCoe Idealize.SL.Sem Cert.Tiles Cert.NormMemIdeal.Pay

attribute [local instance] Cert.NormMem.Gen.facts Cert.NormMemIdeal.Gen.facts Cert.NormMemRefIdeal.Gen.facts

/-- The kernel runs, keeps its arguments and ends quiescent. -/
theorem frameP : Cert.quiescent_NormMem := fun m ρ _ => Cert.NormMem.Gen.frame m ρ

/-- … and so does it at the ideal numbers. -/
theorem framePI : Cert.quiescent_NormMemIdeal := fun m ρ _ => Cert.NormMemIdeal.Gen.frame m ρ

/-- The reference runs, keeps its arguments and ends quiescent. -/
theorem frameRI : Cert.quiescent_NormMemRefIdeal := fun m ρ _ =>
  (θ_run Cert.NormMemRefIdeal.defs _ _).mono (fun r h => ⟨fun c => (h c).2,
      Idealize.ShloMosaic.sem_eq_zero_of_no_sems (by decide) r.2⟩) (Cert.NormMemRefIdeal.Value.run (F := Ideal) m ρ)

/-- Kernel and reference compute the same results. -/
theorem algebraic : Cert.algebraic_NormMemIdeal_NormMemRefIdeal := by
  intro m ρ m' ρ' hpre hag
  refine ⟨fun c => r2 m c, ?_, ?_⟩
  · exact (θ_run Cert.NormMemIdeal.defs _ _).mono (fun r h c => ⟨((h c).1).trans (final2 m c), (h c).2⟩) (Cert.NormMemIdeal.Value.run_blocks m ρ)
  · refine (θ_run Cert.NormMemRefIdeal.defs _ _).mono (fun r h c => ?_) (Cert.NormMemRefIdeal.Value.run (F := Ideal) m' ρ')
    obtain ⟨g0, g1⟩ := hag c
    refine ⟨((h c).1).trans ?_, (h c).2⟩ <;> clear h
    · rw [Cert.NormMemRefIdeal.Read.val_main_v14_eq]
      try rw [g0]
      try rw [g1]
      exact ref2 _ _

end Cert.NormMemClaims

end
-- ==== Proof.MmMemkv.lean ====
/-
  The memory projection.
-/
module

public import proofs.«01_k».proof.Defs
public import proofs.«01_k».proof.Proof.Tiles
public import proofs.«01_k».proof.Proof.Gen.MmMemkv.Frame
public import proofs.«01_k».proof.Proof.Gen.MmMemkvIdeal.Value
public import proofs.«01_k».proof.Proof.Gen.MmMemkvRefIdeal.Read
public import proofs.«01_k».proof.Proof.Gen.MmMemkvRefIdeal.Run
public import Idealize.ShloMosaic.Lib.Tactic

@[expose] public section

set_option maxRecDepth 16384

noncomputable section

namespace Cert.MmMemkvIdeal.Pay

open Idealize.ShloMosaic Idealize.ShloMosaic.TcCoe Idealize.SL.Sem Cert.MmMemkvIdeal Cert.MmMemkvIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 256) (l : Fin 1024) (p : Fin 256) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 256 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = t.val := by decide +kernel

/-- An element of a block of window 1 is the array's. -/
theorem blk1 (c : Dev nD) (t : Fin cfg0.N) (i : Fin 1024) (l : Fin 512) (p : Fin 1024) (q : Fin 512) (hp : p.val = i.val) (hq : q.val = 512 * (t.val) + l.val) :
    (iblk m c 1 t (ix2 i l) : EReal) = m (c.tc.loc main_arg1) (ix2 p q) := by
  refine congrArg (m (c.tc.loc main_arg1)) (ext2 ?_ ?_)
  · show win0_1.index t 0 * 1024 + 1 * i.val = p.val; rw [(at1 t).1]; omega
  · show win0_1.index t 1 * 512 + 1 * l.val = q.val; rw [(at1 t).2]; omega

theorem at2 : ∀ t : Fin grid0.N, win0_2.index t 0 = 0 ∧ win0_2.index t 1 = t.val := by decide +kernel

/-- The result. -/
def res (x0 : Mat 256 1024) (x1 : Mat 1024 512) : Mat 256 512 := mul (k := 1024) x0 x1

/-- The kernel's result. -/
def r2 (c : Dev nD) : Mat 256 512 := res (m (c.tc.loc main_arg0)) (m (c.tc.loc main_arg1))

/-- What a grid point leaves in its block. -/
theorem out2 (c : Dev nD) (t : Fin cfg0.N) (i : Fin 256) (l : Fin 512) (p : Fin 256) (q : Fin 512) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S256x1024) hz, View.ld_unit_zero (S := S1024x512) hz]
  have ea : ∀ k : Fin 1024, (iblk m c 0 t (ix2 i k) : EReal) = m (c.tc.loc main_arg0) (ix2 p k) := fun k => blk0 m c t i k p k hp rfl
  have eb : ∀ k : Fin 1024, (iblk m c 1 t (ix2 k l) : EReal) = m (c.tc.loc main_arg1) (ix2 k q) := fun k => blk1 m c t k l k q rfl hq
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 256) (n1 := 512) x
  refine (out2 m c t i l ((((cfg0.win 2).blk t).view.emb (ix2 i l) : S256x512.Idx) 0) ((((cfg0.win 2).blk t).view.emb (ix2 i l) : S256x512.Idx) 1) ?_ ?_).trans (congrArg (r2 m c) (eta2 _).symm)
  · show win0_2.index t 0 * 256 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 256 := (i 0).isLt
    have h1 : (i 1 : Nat) < 512 := (i 1).isLt
    have hN : cfg0.N = 1 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 256 ≤ (i 0 : Nat) ∧ (i 0 : Nat) < win0_2.index ⟨_, ht⟩ 0 * 256 + 256
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.MmMemkvRefIdeal.Read in
/-- The reference's result. -/
theorem ref2 (x0 : Mat 256 1024) (x1 : Mat 1024 512) : val_main_v2 (F := Ideal) x0 x1 = res x0 x1 := by
  funext x
  obtain ⟨i, j, rfl⟩ := pair (n0 := 256) (n1 := 512) x
  rw [val_main_v2_apply]
  unfold res
  refine Finset.sum_congr rfl fun k _ => ?_
  rw [val_main_v0_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.MmMemkvIdeal.Pay

namespace Cert.MmMemkvClaims

open Idealize.ShloMosaic Idealize.ShloMosaic.TcCoe Idealize.SL.Sem Cert.Tiles Cert.MmMemkvIdeal.Pay

attribute [local instance] Cert.MmMemkv.Gen.facts Cert.MmMemkvIdeal.Gen.facts Cert.MmMemkvRefIdeal.Gen.facts

/-- The kernel runs, keeps its arguments and ends quiescent. -/
theorem frameP : Cert.quiescent_MmMemkv := fun m ρ _ => Cert.MmMemkv.Gen.frame m ρ

/-- … and so does it at the ideal numbers. -/
theorem framePI : Cert.quiescent_MmMemkvIdeal := fun m ρ _ => Cert.MmMemkvIdeal.Gen.frame m ρ

/-- The reference runs, keeps its arguments and ends quiescent. -/
theorem frameRI : Cert.quiescent_MmMemkvRefIdeal := fun m ρ _ =>
  (θ_run Cert.MmMemkvRefIdeal.defs _ _).mono (fun r h => ⟨fun c => (h c).2,
      Idealize.ShloMosaic.sem_eq_zero_of_no_sems (by decide) r.2⟩) (Cert.MmMemkvRefIdeal.Value.run (F := Ideal) m ρ)

/-- Kernel and reference compute the same results. -/
theorem algebraic : Cert.algebraic_MmMemkvIdeal_MmMemkvRefIdeal := by
  intro m ρ m' ρ' hpre hag
  refine ⟨fun c => r2 m c, ?_, ?_⟩
  · exact (θ_run Cert.MmMemkvIdeal.defs _ _).mono (fun r h c => ⟨((h c).1).trans (final2 m c), (h c).2⟩) (Cert.MmMemkvIdeal.Value.run_blocks m ρ)
  · refine (θ_run Cert.MmMemkvRefIdeal.defs _ _).mono (fun r h c => ?_) (Cert.MmMemkvRefIdeal.Value.run (F := Ideal) m' ρ')
    obtain ⟨g0, g1⟩ := hag c
    refine ⟨((h c).1).trans ?_, (h c).2⟩ <;> clear h
    · rw [Cert.MmMemkvRefIdeal.Read.val_main_v2_eq]
      try rw [g0]
      try rw [g1]
      exact ref2 _ _

end Cert.MmMemkvClaims

end
-- ==== Proof.MemFwd.lean ====
/-
  The memory cross-attention.
-/
module

public import proofs.«01_k».proof.Defs
public import proofs.«01_k».proof.Proof.Tiles
public import proofs.«01_k».proof.Proof.MemPay
public import Idealize.ShloMosaic.Lib.IdealHost
public import proofs.«01_k».proof.Proof.Gen.MemFwd.Frame
public import proofs.«01_k».proof.Proof.Gen.MemFwdIdeal.Value
public import proofs.«01_k».proof.Proof.Gen.MemFwdRefIdeal.Read
public import proofs.«01_k».proof.Proof.Gen.MemFwdRefIdeal.Run
public import Idealize.ShloMosaic.Lib.Tactic

@[expose] public section

set_option maxRecDepth 16384

noncomputable section

namespace Cert.MemFwdIdeal.Pay

open Idealize.ShloMosaic Idealize.ShloMosaic.TcCoe Idealize.SL.Sem Cert.MemFwdIdeal Cert.MemFwdIdeal.Gen Cert.Tiles
open Idealize.ShloMosaic.Pipeline (Dat)

variable (m : (ℓ : Loc nD τ sig) → Buf (Elt Ideal) ℓ)

open Cert.Softmax Cert.MemSpec
open Cert.MemBwdIdeal.Pay (row st pick_head p_apply)

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 256) (p : Fin 2048) (q : Fin 256) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 256 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 256) (l : Fin 256) (p : Fin 256) (q : Fin 256) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 256 + 1 * i.val = p.val; rw [(at1 t).1]; omega
  · show win0_1.index t 1 * 256 + 1 * l.val = q.val; rw [(at1 t).2]; omega

theorem at2 : ∀ t : Fin grid0.N, win0_2.index t 0 = 0 ∧ win0_2.index t 1 = 0 := by decide +kernel

/-- An element of a block of window 2 is the array's. -/
theorem blk2 (c : Dev nD) (t : Fin cfg0.N) (i : Fin 256) (l : Fin 256) (p : Fin 256) (q : Fin 256) (hp : p.val = i.val) (hq : q.val = l.val) :
    (iblk m c 2 t (ix2 i l) : EReal) = m (c.tc.loc main_arg2) (ix2 p q) := by
  refine congrArg (m (c.tc.loc main_arg2)) (ext2 ?_ ?_)
  · show win0_2.index t 0 * 256 + 1 * i.val = p.val; rw [(at2 t).1]; omega
  · show win0_2.index t 1 * 256 + 1 * l.val = q.val; rw [(at2 t).2]; omega

theorem at3 : ∀ t : Fin grid0.N, win0_3.index t 0 = t.val ∧ win0_3.index t 1 = 0 := by decide +kernel

/-- A lane of a query row's attention: the values weighted by the softmax of its head's scores. -/
def attend (q : Fin 256 → EReal) (k v : Fin 256 → Fin 256 → EReal) (c : Fin 256) : EReal := ∑ j, prob (score q k (head c)) j * v j c

/-- The attention of every row. -/
def res3 (x0 : Mat 2048 256) (x1 x2 : Mat 256 256) : Mat 2048 256 := fun i => attend (row x0 (i 0)) (row x1) (row x2) (i 1)

/-- The kernel's result. -/
def r3 (c : Dev nD) : Mat 2048 256 := res3 (m (c.tc.loc main_arg0)) (m (c.tc.loc main_arg1)) (m (c.tc.loc main_arg2))

attribute [local instance] Cert.MemBwdIdeal.Gen.facts

section
variable (q : FVec Ideal S512x256 .bf16) (k v : FVec Ideal S256x256 .bf16)

/-- The weighted values of the stacked heads. -/
theorem pay2 (h : Fin 4) (i : Fin 512) (c : Fin 256) : (k0_pay2 (F := Ideal) q k v (ix2 (st h i) c) : EReal) = ∑ j, prob (score (row q i) (row k) h) j * v (ix2 j c) := by
  have hp := p_apply q k h i
  show matmul dot_S2048x256_S256x256_S2048x256_1_0_0_1_n_n none (truncf .bf16 (Cert.MemBwdIdeal.Gen.k0_pay10 (F := Ideal) (Cert.MemBwdIdeal.Gen.k0_pay4 q) k) bitsLt_bf16_f32) v (constant S2048x256 .f32 0x00000000#32) (ix2 (st h i) c) = _
  generalize Cert.MemBwdIdeal.Gen.k0_pay10 (F := Ideal) (Cert.MemBwdIdeal.Gen.k0_pay4 q) k = p at hp ⊢
  pointwise
  simp only [hp]

/-- A lane takes its own head's slice. -/
theorem pay1 (w : FVec Ideal S2048x256 .f32) (i : Fin 512) (c : Fin 256) :
    (k0_pay1 (F := Ideal) w (iota .tc S512x256 32 [1] iota_S512x256_d1_w32) 6#32 (ix2 i c) : EReal) = w (ix2 (st (head c) i) c) := by
  have pick := pick_head c fun h => (w (ix2 (st h i) c) : EReal)
  pointwise [k0_pay1]
  refine Eq.trans ?_ pick
  rw [(Fin.ext (by show 512 * 0 + i.val = i.val; omega) : st 0 i = ⟨i.val, by omega⟩)]
  rfl

end

theorem out3 (c : Dev nD) (t : Fin cfg0.N) (i : Fin 512) (l : Fin 256) (p : Fin 2048) (q : Fin 256) (hp : p.val = 512 * t.val + i.val) (hq : q.val = l.val) :
    out0_3 (iblk m c 0 t) (iblk m c 1 t) (iblk m c 2 t) (ix2 i l) = r3 m c (ix2 p q) := by
  obtain rfl : q = l := Fin.ext hq
  unfold out0_3
  rw [View.canon_unit_zero hz]
  simp only [View.ld_unit_zero (S := S512x256) hz, View.ld_unit_zero (S := S256x256) hz]
  refine (pay1 _ i q).trans ((pay2 _ _ _ (head q) i q).trans ?_)
  have e0 : row (iblk m c 0 t : Mat 512 256) i = row (m (c.tc.loc main_arg0)) p := funext fun k => blk0 m c t i k p k hp rfl
  have e1 : row (iblk m c 1 t : Mat 256 256) = row (m (c.tc.loc main_arg1)) := funext fun j => funext fun k => blk1 m c t j k j k rfl rfl
  have e2 : ∀ j, (iblk m c 2 t (ix2 j q) : EReal) = row (m (c.tc.loc main_arg2)) j q := fun j => blk2 m c t j q j q rfl rfl
  unfold r3 res3 attend
  refine Finset.sum_congr rfl fun j _ => congrArg₂ (fun a b : EReal => a * b) ?_ (e2 j)
  exact congrArg₂ (fun a b => prob (score a b (head q)) j) e0 e1

/-- What a grid point writes back to window 3. -/
theorem flushed3_eq (c : Dev nD) (t : Fin cfg0.N) : (dats m 0 c).flushed 3 t = ((cfg0.win 3).blk t).view.read (Elt Ideal) (r3 m c) := by
  rw [Value.flushed3]
  funext x
  rw [View.read_apply]
  obtain ⟨i, l, rfl⟩ := pair (n0 := 512) (n1 := 256) x
  refine (out3 m c t i l ((((cfg0.win 3).blk t).view.emb (ix2 i l) : S2048x256.Idx) 0) ((((cfg0.win 3).blk t).view.emb (ix2 i l) : S2048x256.Idx) 1) ?_ ?_).trans (congrArg (r3 m c) (eta2 _).symm)
  · show win0_3.index t 0 * 512 + 1 * i.val = _; rw [(at3 t).1]; omega
  · show win0_3.index t 1 * 256 + 1 * l.val = _; rw [(at3 t).2]; omega

/-- The array of window 3 at the end. -/
theorem final3 (c : Dev nD) : (dats m 0 c).arrAt 3 cfg0.N = r3 m c :=
  (dats m 0 c).arrAt_eq_of_cover 3 (r3 m c) (fun t _ => flushed3_eq m c t) fun i => by
    have h0 : (i 0 : Nat) < 2048 := (i 0).isLt
    have h1 : (i 1 : Nat) < 256 := (i 1).isLt
    have hN : cfg0.N = 4 := N_0
    have ht : ((i 0 : Nat) / 512) < cfg0.N := by omega
    refine ⟨⟨((i 0 : Nat) / 512), ht⟩, flush0_3 _, ?_⟩
    show i ∈ ((View.whole main_v0).slice (win0_3.rect ⟨_, ht⟩)).set
    rw [View.set_slice_whole, Rect.mem_set_unit]
    intro a
    match a with
    | ⟨0, _⟩ => show win0_3.index ⟨_, ht⟩ 0 * 512 ≤ (i 0 : Nat) ∧ (i 0 : Nat) < win0_3.index ⟨_, ht⟩ 0 * 512 + 512
                rw [(at3 ⟨_, ht⟩).1]; try dsimp only
                omega
    | ⟨1, _⟩ => show win0_3.index ⟨_, ht⟩ 1 * 256 ≤ (i 1 : Nat) ∧ (i 1 : Nat) < win0_3.index ⟨_, ht⟩ 1 * 256 + 256
                rw [(at3 ⟨_, ht⟩).2]; try dsimp only
                omega

section
open Cert.MemFwdRefIdeal.Read
open Cert.MemFwdRefIdeal (S1x4x2048x256 S1x4x2048)
variable (x0 : Mat 2048 256) (x1 x2 : Mat 256 256)

/-- The queries by head. -/
theorem q5 (h : Fin 4) (s : Fin 2048) (d : Fin 64) : val_main_v5 (F := Ideal) x0 (ix4 0 h s d) = row x0 s (lane h d) := by
  rw [val_main_v5_apply, val_main_v4_apply, val_main_v3_apply, val_main_v0_apply]
  refine congrArg x0 (funext fun a => Fin.ext ?_)
  match a with
  | ⟨0, _⟩ => show (((0 * 2048 + s.val) * 4 + h.val) * 64 + d.val) / 256 % 2048 = s.val; omega
  | ⟨1, _⟩ => show (((0 * 2048 + s.val) * 4 + h.val) * 64 + d.val) % 256 = 64 * h.val + d.val; omega

/-- The keys by head. -/
theorem k8 (h : Fin 4) (s : Fin 256) (d : Fin 64) : val_main_v8 (F := Ideal) x1 (ix4 0 h s d) = row x1 s (lane h d) := by
  rw [val_main_v8_apply, val_main_v7_apply, val_main_v6_apply, val_main_v1_apply]
  refine congrArg x1 (funext fun a => Fin.ext ?_)
  match a with
  | ⟨0, _⟩ => show (((0 * 256 + s.val) * 4 + h.val) * 64 + d.val) / 256 % 256 = s.val; omega
  | ⟨1, _⟩ => show (((0 * 256 + s.val) * 4 + h.val) * 64 + d.val) % 256 = 64 * h.val + d.val; omega

/-- The values by head. -/
theorem v11 (h : Fin 4) (s : Fin 256) (d : Fin 64) : val_main_v11 (F := Ideal) x2 (ix4 0 h s d) = row x2 s (lane h d) := by
  rw [val_main_v11_apply, val_main_v10_apply, val_main_v9_apply, val_main_v2_apply]
  refine congrArg x2 (funext fun a => Fin.ext ?_)
  match a with
  | ⟨0, _⟩ => show (((0 * 256 + s.val) * 4 + h.val) * 64 + d.val) / 256 % 256 = s.val; omega
  | ⟨1, _⟩ => show (((0 * 256 + s.val) * 4 + h.val) * 64 + d.val) % 256 = 64 * h.val + d.val; omega

/-- The scores. -/
theorem s14 (h : Fin 4) (s : Fin 2048) (j : Fin 256) : val_main_v14 (F := Ideal) x0 x1 (ix4 0 h s j) = score (row x0 s) (row x1) h j := by
  have e : val_main_v12 (F := Ideal) x0 x1 (ix4 0 h s j) = ∑ d : Fin 64, row x0 s (lane h d) * row x1 j (lane h d) := by
    rw [val_main_v12_apply]
    refine Finset.sum_congr rfl fun d _ => ?_
    rw [← q5 x0 h s d, ← k8 x1 h j d]
    congr 2 <;> funext a <;> match a with
    | ⟨0, _⟩ => rfl
    | ⟨1, _⟩ => rfl
    | ⟨2, _⟩ => rfl
    | ⟨3, _⟩ => rfl
  rw [val_main_v14_apply, e]
  rfl

theorem bot_bits : Ideal.ofBits .f32 0xFF800000#32 = ⊥ := by simp [Ideal.ofBits, Ideal.ieee]

/-- The maximum of a row of scores. -/
theorem m15 (h : Fin 4) (s : Fin 2048) : val_main_v15 (F := Ideal) x0 x1 (ix3 0 h s) = rowMax (score (row x0 s) (row x1) h) := by
  unfold val_main_v15
  rw [Host.reduce_eq_fold_single FloatOps.maximumf _ _ _ (by decide) _]
  have e : (val_main_v14 (F := Ideal) x0 x1 ∘ (by decide : S1x4x2048x256.Reduces [3] S1x4x2048).lift (ix3 0 h s)) = fun j : Fin 256 => score (row x0 s) (row x1) h j := by
    funext j
    rw [← s14 x0 x1 h s j]
    refine congrArg (val_main_v14 (F := Ideal) x0 x1) (funext fun a => ?_)
    match a with
    | ⟨0, _⟩ => rfl
    | ⟨1, _⟩ => rfl
    | ⟨2, _⟩ => rfl
    | ⟨3, _⟩ => rfl
  rw [e]
  show Finset.univ.fold max (Ideal.ofBits .f32 0xFF800000#32) _ = _
  rw [bot_bits]
  rfl

/-- The exponentials. -/
theorem e21 (h : Fin 4) (s : Fin 2048) (j : Fin 256) : val_main_v21 (F := Ideal) x0 x1 (ix4 0 h s j) = ex (score (row x0 s) (row x1) h) j := by
  have e : val_main_v19 (F := Ideal) x0 x1 (ix4 0 h s j) = rowMax (score (row x0 s) (row x1) h) := by
    rw [val_main_v19_apply, val_main_v18_apply, val_main_v17_apply]
    have i : idx_main_v18 (idx_main_v19 (ix4 0 h s j)) = ix3 0 h s := funext fun a => match a with
      | ⟨0, _⟩ => rfl
      | ⟨1, _⟩ => rfl
      | ⟨2, _⟩ => rfl
    rw [i, m15]
    show max (Ideal.ofBits .f32 0xFF800000#32) _ = _
    rw [bot_bits]; exact max_eq_right bot_le
  rw [val_main_v21_apply, val_main_v20_apply, s14, e]
  rfl

/-- The sums of exponentials. -/
theorem d22 (h : Fin 4) (s : Fin 2048) : val_main_v22 (F := Ideal) x0 x1 (ix3 0 h s) = den (score (row x0 s) (row x1) h) := by
  rw [val_main_v22_apply]
  show Ideal.ofBits .f32 0x00000000#32 + _ = _
  rw [Ideal.ofBits_zero_f32, zero_add]
  refine Finset.sum_congr rfl fun j _ => ?_
  rw [← e21 x0 x1 h s j]
  refine congrArg (val_main_v21 (F := Ideal) x0 x1) (funext fun a => ?_)
  match a with
  | ⟨0, _⟩ => rfl
  | ⟨1, _⟩ => rfl
  | ⟨2, _⟩ => rfl
  | ⟨3, _⟩ => rfl

/-- The softmax. -/
theorem p25 (h : Fin 4) (s : Fin 2048) (j : Fin 256) : val_main_v25 (F := Ideal) x0 x1 (ix4 0 h s j) = prob (score (row x0 s) (row x1) h) j := by
  rw [val_main_v25_apply, val_main_v24_apply, val_main_v23_apply, e21]
  have i : idx_main_v23 (idx_main_v24 (ix4 0 h s j)) = ix3 0 h s := funext fun a => match a with
    | ⟨0, _⟩ => rfl
    | ⟨1, _⟩ => rfl
    | ⟨2, _⟩ => rfl
  rw [i, d22]
  rfl

theorem ref3 : val_main_v30 (F := Ideal) x0 x1 x2 = res3 x0 x1 x2 := by
  funext x
  obtain ⟨s, c, rfl⟩ := pair (n0 := 2048) (n1 := 256) x
  rw [val_main_v30_apply, val_main_v29_apply, val_main_v28_apply, val_main_v27_apply, val_main_v26_apply]
  unfold res3 attend
  let d : Fin 64 := ⟨c.val % 64, Nat.mod_lt _ (by decide)⟩
  have hc : lane (head c) d = c := Fin.ext (by show 64 * (c.val / 64) + c.val % 64 = c.val; omega)
  refine Finset.sum_congr rfl fun j _ => ?_
  show _ = prob (score (row x0 s) (row x1) (head c)) j * row x2 j c
  rw [← p25 x0 x1 (head c) s j, ← congrArg (row x2 j) hc, ← v11 x2 (head c) j d]
  refine congrArg₂ (fun a b : EReal => a * b) (congrArg (val_main_v25 (F := Ideal) x0 x1) (funext fun a => Fin.ext ?_)) (congrArg (val_main_v11 (F := Ideal) x2) (funext fun a => Fin.ext ?_))
  · match a with
    | ⟨0, _⟩ => show _ = 0; simp
    | ⟨1, _⟩ => show _ = c.val / 64; simp; omega
    | ⟨2, _⟩ => show _ = s.val; simp; omega
    | ⟨3, _⟩ => rfl
  · match a with
    | ⟨0, _⟩ => show _ = 0; simp
    | ⟨1, _⟩ => show _ = c.val / 64; simp; omega
    | ⟨2, _⟩ => rfl
    | ⟨3, _⟩ => show _ = c.val % 64; simp; omega

end

end Cert.MemFwdIdeal.Pay

namespace Cert.MemFwdClaims

open Idealize.ShloMosaic Idealize.ShloMosaic.TcCoe Idealize.SL.Sem Cert.Tiles Cert.MemFwdIdeal.Pay

attribute [local instance] Cert.MemFwd.Gen.facts Cert.MemFwdIdeal.Gen.facts Cert.MemFwdRefIdeal.Gen.facts

/-- The kernel runs, keeps its arguments and ends quiescent. -/
theorem frameP : Cert.quiescent_MemFwd := fun m ρ _ => Cert.MemFwd.Gen.frame m ρ

/-- … and so does it at the ideal numbers. -/
theorem framePI : Cert.quiescent_MemFwdIdeal := fun m ρ _ => Cert.MemFwdIdeal.Gen.frame m ρ

/-- The reference runs, keeps its arguments and ends quiescent. -/
theorem frameRI : Cert.quiescent_MemFwdRefIdeal := fun m ρ _ =>
  (θ_run Cert.MemFwdRefIdeal.defs _ _).mono (fun r h => ⟨fun c => (h c).2,
      Idealize.ShloMosaic.sem_eq_zero_of_no_sems (by decide) r.2⟩) (Cert.MemFwdRefIdeal.Value.run (F := Ideal) m ρ)

/-- Kernel and reference compute the same results. -/
theorem algebraic : Cert.algebraic_MemFwdIdeal_MemFwdRefIdeal := by
  intro m ρ m' ρ' hpre hag
  refine ⟨fun c => r3 m c, ?_, ?_⟩
  · exact (θ_run Cert.MemFwdIdeal.defs _ _).mono (fun r h c => ⟨((h c).1).trans (final3 m c), (h c).2⟩) (Cert.MemFwdIdeal.Value.run_blocks m ρ)
  · refine (θ_run Cert.MemFwdRefIdeal.defs _ _).mono (fun r h c => ?_) (Cert.MemFwdRefIdeal.Value.run (F := Ideal) m' ρ')
    obtain ⟨g0, g1, g2⟩ := hag c
    refine ⟨((h c).1).trans ?_, (h c).2⟩ <;> clear h
    · rw [Cert.MemFwdRefIdeal.Read.val_main_v30_eq]
      try rw [g0]
      try rw [g1]
      try rw [g2]
      exact ref3 _ _ _

end Cert.MemFwdClaims

end
-- ==== Proof.LossHead.lean ====
/-
  The loss and its gradient.
-/
module

public import proofs.«01_k».proof.Defs
public import proofs.«01_k».proof.Proof.Tiles
public import proofs.«01_k».proof.Proof.Softmax
public import proofs.«01_k».proof.Proof.RowNormGrad
public import proofs.«01_k».proof.Proof.Gen.LossHead.Frame
public import proofs.«01_k».proof.Proof.Gen.LossHeadIdeal.Value
public import proofs.«01_k».proof.Proof.Gen.LossHeadRefIdeal.Read
public import proofs.«01_k».proof.Proof.Gen.LossHeadRefIdeal.Run
public import Idealize.ShloMosaic.Lib.Tactic

@[expose] public section

set_option maxRecDepth 16384

noncomputable section

namespace Cert.LossHeadIdeal.Pay

open Idealize.ShloMosaic Idealize.ShloMosaic.TcCoe Idealize.SL.Sem Cert.LossHeadIdeal Cert.LossHeadIdeal.Gen Cert.Tiles
open Idealize.ShloMosaic.Pipeline (Dat)

variable (m : (ℓ : Loc nD τ sig) → Buf (Elt Ideal) ℓ)

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 1024) (p : Fin 2048) (q : Fin 1024) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 1024) (p : Fin 2048) (q : Fin 1024) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

theorem at3 : ∀ t : Fin grid0.N, win0_3.index t 0 = t.val ∧ win0_3.index t 1 = 0 := by decide +kernel

theorem at4 : ∀ t : Fin grid0.N, win0_4.index t 0 = 0 ∧ win0_4.index t 1 = 0 := by decide +kernel

/-- The gradient of the loss. -/
def res2 (x0 x1 : Mat 2048 1024) : Mat 2048 1024 := fun i => (x0 i - x1 i) * Ideal.ofBits .f32 0x3A800000#32
/-- A row's mean squared difference. -/
def part {a : ℕ} (x0 x1 : Mat a 1024) (i : Fin a) : EReal :=
  (∑ k : Fin 1024, (x0 (ix2 i k) - x1 (ix2 i k)) * (x0 (ix2 i k) - x1 (ix2 i k))) * Ideal.ofBits .f32 0x3A800000#32
/-- The loss: half the rows' sum. -/
def res4 (x0 x1 : Mat 2048 1024) : Mat 8 128 := fun _ => Ideal.ofBits .f32 0x3F000000#32 * ∑ i, part x0 x1 i

/-- The kernel's results. -/
def r2 (c : Dev nD) : Mat 2048 1024 := res2 (m (c.tc.loc main_arg0)) (m (c.tc.loc main_arg1))
def r3 (c : Dev nD) : Mat 2048 1024 := res2 (m (c.tc.loc main_arg0)) (m (c.tc.loc main_arg1))
def r4 (c : Dev nD) : Mat 8 128 := res4 (m (c.tc.loc main_arg0)) (m (c.tc.loc main_arg1))

theorem half_bits : Ideal.ofBits .f32 0x3F000000#32 = ((1 / 2 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; try norm_num

theorem inv_bits : Ideal.ofBits .f32 0x3A800000#32 = ((1 / 1024 : ℝ) : EReal) := by
  simp [Ideal.ofBits, Ideal.ieee, -EReal.coe_mul]; norm_num

/-- Halving distributes over a sum. -/
theorem half_sum {ι : Type} (u : Finset ι) (f : ι → EReal) : ∑ i ∈ u, Ideal.ofBits .f32 0x3F000000#32 * f i = Ideal.ofBits .f32 0x3F000000#32 * ∑ i ∈ u, f i := by
  classical
  rw [half_bits]
  induction u using Finset.induction_on with
  | empty => simp
  | insert a u h ih =>
    rw [Finset.sum_insert h, Finset.sum_insert h, ih]
    exact (EReal.left_distrib_of_nonneg_of_ne_top (EReal.coe_nonneg.mpr (by norm_num)) (EReal.coe_ne_top _) _ _).symm

/-- A row's part is its own. -/
theorem part_congr {a b : ℕ} (x y : Mat a 1024) (x' y' : Mat b 1024) (i : Fin a) (i' : Fin b) (hx : ∀ k, x (ix2 i k) = x' (ix2 i' k)) (hy : ∀ k, y (ix2 i k) = y' (ix2 i' k)) : part x y i = part x' y' i' := by
  unfold part
  simp only [hx, hy]

section
variable (y0 y1 : Vec Ideal S512x1024 .f32)

theorem pay2 (i : Fin 512) (l : Fin 1024) : (k0_pay2 (F := Ideal) y0 y1 (ix2 i l) : EReal) = (y0 (ix2 i l) - y1 (ix2 i l)) * Ideal.ofBits .f32 0x3A800000#32 := rfl

theorem pay3 (i : Fin 512) (l : Fin 1024) : (k0_pay3 (F := Ideal) y0 y1 (ix2 i l) : EReal) = (y0 (ix2 i l) - y1 (ix2 i l)) * Ideal.ofBits .f32 0x3A800000#32 := rfl

/-- A block's part of the loss. -/
theorem pay4 (i : Fin 8) (l : Fin 128) : (k0_pay4 (F := Ideal) y0 y1 (ix2 i l) : EReal) = Ideal.ofBits .f32 0x3F000000#32 * ∑ i : Fin 512, part (y0 : Mat 512 1024) y1 i := by
  unfold part
  pointwise [k0_pay4, k0_pay1]
  simp only [Fin.sum_univ_one]

end

section
variable (c : Dev nD) (i : grid0.Coords) (arg1 : Memref sig .tc .vmem S512x1024 .f32) (h1 : arg1.IsWhole) (arg2 : Memref sig .tc .vmem S512x1024 .f32) (h2 : arg2.IsWhole) (arg3 : Memref sig .tc .vmem S512x1024 .f32) (h3 : arg3.IsWhole) (arg4 : Memref sig .tc .vmem S512x1024 .bf16) (h4 : arg4.IsWhole) (arg5 : Memref sig .tc .vmem S8x128 .f32) (h5 : arg5.IsWhole)

theorem out_A_2 (hc0 : cond0_0 i) (hc1 : ¬cond0_1 i) (x0 x1 : Vec Ideal S512x1024 .f32) :
    out0_A_2 (F := Ideal) c i arg1 h1 arg2 h2 arg3 h3 arg4 h4 arg5 h5 hc0 hc1 x0 x1 = k0_pay2 (F := Ideal) x0 x1 := by
  unfold out0_A_2
  rw [View.read_writes_eq_canon _ _ _ (fun _ => cover0_A_2 (F := Ideal) ..)]
  unfold kernelRun0_A
  dsimp only
  rw [View.canon_unit_zero hz]
  skip
  try sl_unfold_words
  simp only [View.readAt_eq_ld, h1.read_unread, h2.read_unread, h5.read_unread, View.ld_unit_zero (S := S512x1024) hz, View.ld_unit_zero (S := S8x128) hz, shapeCast_self]
  try rfl

theorem out_A_3 (hc0 : cond0_0 i) (hc1 : ¬cond0_1 i) (x0 x1 : Vec Ideal S512x1024 .f32) :
    out0_A_3 (F := Ideal) c i arg1 h1 arg2 h2 arg3 h3 arg4 h4 arg5 h5 hc0 hc1 x0 x1 = k0_pay3 (F := Ideal) x0 x1 := by
  unfold out0_A_3
  rw [View.read_writes_eq_canon _ _ _ (fun _ => cover0_A_3 (F := Ideal) ..)]
  unfold kernelRun0_A
  dsimp only
  rw [View.canon_unit_zero hz]
  skip
  try sl_unfold_words
  simp only [View.readAt_eq_ld, h1.read_unread, h2.read_unread, h5.read_unread, View.ld_unit_zero (S := S512x1024) hz, View.ld_unit_zero (S := S8x128) hz, shapeCast_self]
  try rfl

theorem out_A_4 (hc0 : cond0_0 i) (hc1 : ¬cond0_1 i) (x0 x1 : Vec Ideal S512x1024 .f32) :
    out0_A_4 (F := Ideal) c i arg1 h1 arg2 h2 arg3 h3 arg4 h4 arg5 h5 hc0 hc1 x0 x1 = k0_pay4 (F := Ideal) x0 x1 := by
  unfold out0_A_4
  rw [View.read_writes_eq_canon _ _ _ (fun _ => cover0_A_4 (F := Ideal) ..)]
  unfold kernelRun0_A
  dsimp only
  rw [View.canon_unit_zero hz]
  skip
  try sl_unfold_words
  simp only [View.readAt_eq_ld, h1.read_unread, h2.read_unread, h5.read_unread, View.ld_unit_zero (S := S512x1024) hz, View.ld_unit_zero (S := S8x128) hz, shapeCast_self]
  try rfl

theorem out_B_2 (hc0 : ¬cond0_0 i) (hc1 : cond0_1 i) (x0 x1 : Vec Ideal S512x1024 .f32) (xo4 : Vec Ideal S8x128 .f32) :
    out0_B_2 (F := Ideal) c i arg1 h1 arg2 h2 arg3 h3 arg4 h4 arg5 h5 hc0 hc1 x0 x1 xo4 = k0_pay2 (F := Ideal) x0 x1 := by
  unfold out0_B_2
  rw [View.read_writes_eq_canon _ _ _ (fun _ => cover0_B_2 (F := Ideal) ..)]
  unfold kernelRun0_B
  dsimp only
  rw [View.canon_unit_zero hz]
  skip
  try sl_unfold_words
  simp only [View.readAt_eq_ld, h1.read_unread, h2.read_unread, h5.read_unread, View.ld_unit_zero (S := S512x1024) hz, View.ld_unit_zero (S := S8x128) hz, shapeCast_self]
  try rfl

theorem out_B_3 (hc0 : ¬cond0_0 i) (hc1 : cond0_1 i) (x0 x1 : Vec Ideal S512x1024 .f32) (xo4 : Vec Ideal S8x128 .f32) :
    out0_B_3 (F := Ideal) c i arg1 h1 arg2 h2 arg3 h3 arg4 h4 arg5 h5 hc0 hc1 x0 x1 xo4 = k0_pay3 (F := Ideal) x0 x1 := by
  unfold out0_B_3
  rw [View.read_writes_eq_canon _ _ _ (fun _ => cover0_B_3 (F := Ideal) ..)]
  unfold kernelRun0_B
  dsimp only
  rw [View.canon_unit_zero hz]
  skip
  try sl_unfold_words
  simp only [View.readAt_eq_ld, h1.read_unread, h2.read_unread, h5.read_unread, View.ld_unit_zero (S := S512x1024) hz, View.ld_unit_zero (S := S8x128) hz, shapeCast_self]
  try rfl

theorem out_B_4 (hc0 : ¬cond0_0 i) (hc1 : cond0_1 i) (x0 x1 : Vec Ideal S512x1024 .f32) (xo4 : Vec Ideal S8x128 .f32) :
    out0_B_4 (F := Ideal) c i arg1 h1 arg2 h2 arg3 h3 arg4 h4 arg5 h5 hc0 hc1 x0 x1 xo4 = addf xo4 (k0_pay4 (F := Ideal) x0 x1) := by
  unfold out0_B_4
  rw [View.read_writes_eq_canon _ _ _ (fun _ => cover0_B_4 (F := Ideal) ..)]
  unfold kernelRun0_B
  dsimp only
  rw [View.canon_unit_zero hz]
  unfold k0_pay5
  try sl_unfold_words
  simp only [View.readAt_eq_ld, h1.read_unread, h2.read_unread, h5.read_unread, View.ld_unit_zero (S := S512x1024) hz, View.ld_unit_zero (S := S8x128) hz, shapeCast_self]
  try rfl

end

/-- Row `i` of block `t`. -/
def tr (t : Fin cfg0.N) (i : Fin 512) : Fin 2048 := ⟨512 * t.val + i.val, by have := t.isLt; have : cfg0.N = 4 := N_0; omega⟩

theorem body2 (c : Dev nD) (t : Fin cfg0.N) (i : Fin 512) (l : Fin 1024) (p : Fin 2048) (hp : p.val = 512 * t.val + i.val) :
    (k0_pay2 (F := Ideal) (iblk m c 0 t) (iblk m c 1 t) (ix2 i l) : EReal) = r2 m c (ix2 p l) := by
  refine (pay2 _ _ i l).trans ?_
  unfold r2 res2
  rw [blk0 m c t i l p l hp rfl, blk1 m c t i l p l hp rfl]

theorem out2 (c : Dev nD) (t : Fin cfg0.N) (i : Fin 512) (l : Fin 1024) (p : Fin 2048) (q : Fin 1024) (hp : p.val = 512 * t.val + i.val) (hq : q.val = l.val) :
    (outsAt0 m c t.val t.isLt).1 (ix2 i l) = r2 m c (ix2 p q) := by
  obtain rfl : q = l := Fin.ext hq
  have hN : cfg0.N = 4 := N_0
  have := t.isLt
  by_cases h : t.val = 0
  · rw [outsAt0_A m c t (by omega) (by omega)]
    dsimp only
    rw [out_A_2]; exact body2 m c t i q p hp
  · rw [outsAt0_B m c t (by omega) (by omega)]
    dsimp only
    rw [out_B_2]; exact body2 m c t i q p hp

theorem out3 (c : Dev nD) (t : Fin cfg0.N) (i : Fin 512) (l : Fin 1024) (p : Fin 2048) (q : Fin 1024) (hp : p.val = 512 * t.val + i.val) (hq : q.val = l.val) :
    (outsAt0 m c t.val t.isLt).2.1 (ix2 i l) = r3 m c (ix2 p q) := by
  obtain rfl : q = l := Fin.ext hq
  have hN : cfg0.N = 4 := N_0
  have := t.isLt
  by_cases h : t.val = 0
  · rw [outsAt0_A m c t (by omega) (by omega)]
    dsimp only
    rw [out_A_3]; exact body2 m c t i q p hp
  · rw [outsAt0_B m c t (by omega) (by omega)]
    dsimp only
    rw [out_B_3]; exact body2 m c t i q p hp

/-- One block's part of the loss. -/
theorem part4 (c : Dev nD) (t : Fin cfg0.N) (j : Fin 8) (l : Fin 128) :
    (k0_pay4 (F := Ideal) (iblk m c 0 t) (iblk m c 1 t) (ix2 j l) : EReal) = Ideal.ofBits .f32 0x3F000000#32 * ∑ i : Fin 512, part (m (c.tc.loc main_arg0)) (m (c.tc.loc main_arg1)) (tr t i) := by
  refine (pay4 _ _ j l).trans (congrArg (fun z : EReal => Ideal.ofBits .f32 0x3F000000#32 * z) (Finset.sum_congr rfl fun i _ => ?_))
  exact part_congr _ _ _ _ i (tr t i) (fun k => blk0 m c t i k (tr t i) k rfl rfl) (fun k => blk1 m c t i k (tr t i) k rfl rfl)

/-- The loss after a point: the parts of the points so far. -/
theorem out4 (c : Dev nD) (j : Fin 8) (l : Fin 128) : ∀ (n : ℕ) (h : n < cfg0.N), (outsAt0 m c n h).2.2 (ix2 j l)
    = ∑ s : Fin (n + 1), Ideal.ofBits .f32 0x3F000000#32 * ∑ i : Fin 512, part (m (c.tc.loc main_arg0)) (m (c.tc.loc main_arg1)) (tr ⟨s.val, by omega⟩ i)
  | 0, h => by
    rw [outsAt0_A m c ⟨0, h⟩ rfl (Nat.not_succ_le_zero 0)]
    dsimp only
    rw [out_A_4, Fin.sum_univ_one]
    exact part4 m c ⟨0, h⟩ j l
  | n + 1, h => by
    have hN : cfg0.N = 4 := N_0
    have hB : ¬(n + 1) % 4 = 0 := by omega
    rw [outsAt0_B m c ⟨n + 1, h⟩ hB (Nat.le_add_left 1 n)]
    dsimp only
    rw [out_B_4, Fin.sum_univ_castSucc]
    show (outsAt0 m c n _).2.2 (ix2 j l) + _ = _
    rw [out4 c j l n]
    exact congrArg _ (part4 m c ⟨n + 1, h⟩ j l)

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 512) (n1 := 1024) x
  refine (out2 m c t i l ((((cfg0.win 2).blk t).view.emb (ix2 i l) : S2048x1024.Idx) 0) ((((cfg0.win 2).blk t).view.emb (ix2 i l) : S2048x1024.Idx) 1) ?_ ?_).trans (congrArg (r2 m c) (eta2 _).symm)
  · show win0_2.index t 0 * 512 + 1 * i.val = _; rw [(at2 t).1]; omega
  · show win0_2.index t 1 * 1024 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_2 _, ?_⟩
    show i ∈ ((View.whole main_v0_0).slice (win0_2.rect ⟨_, ht⟩)).set
    rw [View.set_slice_whole, Rect.mem_set_unit]
    intro a
    match a with
    | ⟨0, _⟩ => show win0_2.index ⟨_, ht⟩ 0 * 512 ≤ (i 0 : Nat) ∧ (i 0 : Nat) < win0_2.index ⟨_, ht⟩ 0 * 512 + 512
                rw [(at2 ⟨_, ht⟩).1]; try dsimp only
                omega
    | ⟨1, _⟩ => show win0_2.index ⟨_, ht⟩ 1 * 1024 ≤ (i 1 : Nat) ∧ (i 1 : Nat) < win0_2.index ⟨_, ht⟩ 1 * 1024 + 1024
                rw [(at2 ⟨_, ht⟩).2]; try dsimp only
                omega

/-- What a grid point writes back to window 3. -/
theorem flushed3_eq (c : Dev nD) (t : Fin cfg0.N) : (dats m 0 c).flushed 3 t = ((cfg0.win 3).blk t).view.read (Elt Ideal) (r3 m c) := by
  rw [Value.flushed3]
  funext x
  rw [View.read_apply]
  obtain ⟨i, l, rfl⟩ := pair (n0 := 512) (n1 := 1024) x
  refine (out3 m c t i l ((((cfg0.win 3).blk t).view.emb (ix2 i l) : S2048x1024.Idx) 0) ((((cfg0.win 3).blk t).view.emb (ix2 i l) : S2048x1024.Idx) 1) ?_ ?_).trans (congrArg (r3 m c) (eta2 _).symm)
  · show win0_3.index t 0 * 512 + 1 * i.val = _; rw [(at3 t).1]; omega
  · show win0_3.index t 1 * 1024 + 1 * l.val = _; rw [(at3 t).2]; omega

/-- The array of window 3 at the end. -/
theorem final3 (c : Dev nD) : (dats m 0 c).arrAt 3 cfg0.N = r3 m c :=
  (dats m 0 c).arrAt_eq_of_cover 3 (r3 m c) (fun t _ => flushed3_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_3 _, ?_⟩
    show i ∈ ((View.whole main_v0_1).slice (win0_3.rect ⟨_, ht⟩)).set
    rw [View.set_slice_whole, Rect.mem_set_unit]
    intro a
    match a with
    | ⟨0, _⟩ => show win0_3.index ⟨_, ht⟩ 0 * 512 ≤ (i 0 : Nat) ∧ (i 0 : Nat) < win0_3.index ⟨_, ht⟩ 0 * 512 + 512
                rw [(at3 ⟨_, ht⟩).1]; try dsimp only
                omega
    | ⟨1, _⟩ => show win0_3.index ⟨_, ht⟩ 1 * 1024 ≤ (i 1 : Nat) ∧ (i 1 : Nat) < win0_3.index ⟨_, ht⟩ 1 * 1024 + 1024
                rw [(at3 ⟨_, ht⟩).2]; try dsimp only
                omega

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (Cert.Softmax.sum_split 4 512 2048 rfl f).symm

theorem flushed4_eq (c : Dev nD) (t : Fin cfg0.N) (hf : (cfg0.win 4).flush t = true) : (dats m 0 c).flushed 4 t = ((cfg0.win 4).blk t).view.read (Elt Ideal) (r4 m c) := by
  have hN : cfg0.N = 4 := N_0
  have h3 : t.val = 3 := by have := (flush0_4 t).mp hf; have := t.isLt; omega
  obtain ⟨n, hn⟩ := t
  obtain rfl : n = 3 := h3
  rw [Value.flushed4]
  have hz' : (fun a => win0_4.index ⟨3, hn⟩ a * main_v0_2.ty.shape.size a) = fun _ => 0 := funext fun a => by
    match a with
    | ⟨0, _⟩ => show win0_4.index ⟨3, hn⟩ 0 * _ = 0; rw [(at4 ⟨3, hn⟩).1, Nat.zero_mul]
    | ⟨1, _⟩ => show win0_4.index ⟨3, hn⟩ 1 * _ = 0; rw [(at4 ⟨3, hn⟩).2, Nat.zero_mul]
  refine Eq.trans ?_ (Memref.read_access_unit_zero (Elt Ideal) main_v0_2 hz' (fun a => by rw [congrFun hz' a]; simp) (r4 m c)).symm
  funext x
  obtain ⟨j, l, rfl⟩ := pair (n0 := 8) (n1 := 128) x
  refine (out4 m c j l 3 hn).trans ?_
  exact (half_sum _ _).trans (congrArg (fun z : EReal => Ideal.ofBits .f32 0x3F000000#32 * z) (sum_points fun i => part (m (c.tc.loc main_arg0)) (m (c.tc.loc main_arg1)) i))

/-- The array of the loss at the end. -/
theorem final4 (c : Dev nD) : (dats m 0 c).arrAt 4 cfg0.N = r4 m c :=
  (dats m 0 c).arrAt_eq_of_cover 4 (r4 m c) (flushed4_eq m c) fun i => by
    have h0 : (i 0 : Nat) < 8 := (i 0).isLt
    have h1 : (i 1 : Nat) < 128 := (i 1).isLt
    have hN : cfg0.N = 4 := N_0
    let t : Fin cfg0.N := ⟨3, by omega⟩
    refine ⟨t, (flush0_4 t).mpr rfl, ?_⟩
    show i ∈ ((View.whole main_v0_2).slice (win0_4.rect t)).set
    rw [View.set_slice_whole, Rect.mem_set_unit]
    intro a
    match a with
    | ⟨0, _⟩ => show win0_4.index t 0 * 8 ≤ (i 0 : Nat) ∧ (i 0 : Nat) < win0_4.index t 0 * 8 + 8
                rw [(at4 t).1]; omega
    | ⟨1, _⟩ => show win0_4.index t 1 * 128 ≤ (i 1 : Nat) ∧ (i 1 : Nat) < win0_4.index t 1 * 128 + 128
                rw [(at4 t).2]; omega

section
open Cert.LossHeadRefIdeal.Read
variable (x0 x1 : Mat 2048 1024)

theorem one_const : Ideal.ofBits .f32 0x3F000000#32 * Ideal.ofBits .f32 0x3F800000#32 = ((1 / 2 : ℝ) : EReal) := by
  rw [half_bits, Ideal.ofBits_one_f32, mul_one]

theorem ref2 : val_main_v14 (F := Ideal) x0 x1 = res2 x0 x1 := by
  funext x
  rw [val_main_v14_apply, val_main_v13_apply, val_main_v12_apply, val_main_v11_apply, val_main_v10_apply, val_main_v9_apply, val_main_v3_apply, val_main_v2_apply, val_main_v0_apply,
    val_main_cst_apply, val_main_cst_4_apply, val_main_cst_5_apply, val_main_cst_6_apply]
  show Ideal.div (Ideal.ofBits .f32 0x3F000000#32 * Ideal.ofBits .f32 0x3F800000#32) (Ideal.ofBits .f32 0x44800000#32) * (Ideal.ofBits .f32 0x40000000#32 * (x0 x - x1 x)) = _
  unfold res2
  rw [one_const, Cert.RowNorm.ofBits_1024, two_bits, inv_bits, Ideal.div_coe (by norm_num), ← mul_assoc, ← EReal.coe_mul, ← EReal.coe_mul, mul_comm]
  exact congrArg (fun z : ℝ => (x0 x - x1 x) * (z : EReal)) (by norm_num)

theorem ref3 : val_main_v15 (F := Ideal) x0 x1 = res2 x0 x1 := by
  funext x
  rw [val_main_v15_apply]
  exact congrFun (ref2 x0 x1) x

/-- The indices of a vector are its positions. -/
def vecIdx : (⟨1, ![2048]⟩ : Shape).Idx ≃ Fin 2048 := ⟨fun j => j 0, fun i => fun a => match a with | ⟨0, _⟩ => i, fun j => funext fun a => match a with | ⟨0, _⟩ => rfl, fun i => rfl⟩

theorem ref4 : val_main_v16 (F := Ideal) x0 x1 = res4 x0 x1 := by
  funext x
  rw [val_main_v16_apply, val_main_v8_apply, val_main_v7_apply, val_main_cst_3_apply, val_main_cst_2_apply]
  unfold res4
  refine congrArg (fun z : EReal => Ideal.ofBits .f32 0x3F000000#32 * z) ?_
  show Ideal.ofBits .f32 0x00000000#32 + _ = _
  rw [Ideal.ofBits_zero_f32, zero_add]
  refine Fintype.sum_equiv vecIdx _ _ fun j => ?_
  rw [val_main_v6_apply, val_main_v5_apply, val_main_v4_apply, val_main_cst_1_apply, val_main_cst_0_apply]
  unfold part
  show Ideal.div (Ideal.ofBits .f32 0x00000000#32 + _) (Ideal.ofBits .f32 0x44800000#32) = _
  rw [Ideal.ofBits_zero_f32, zero_add, Cert.RowNorm.ofBits_1024, inv_bits, Ideal.div_coe (by norm_num)]
  refine congrArg (fun z : EReal => z * ((1 / 1024 : ℝ) : EReal)) (Finset.sum_congr rfl fun k _ => ?_)
  rw [val_main_v1_apply, val_main_v0_apply]
  have e : idx_main_v4 j k = ix2 (vecIdx j) k := funext fun a => match a with | ⟨0, _⟩ => rfl | ⟨1, _⟩ => rfl
  rw [e]
  rfl

end

end Cert.LossHeadIdeal.Pay

namespace Cert.LossHeadClaims

open Idealize.ShloMosaic Idealize.ShloMosaic.TcCoe Idealize.SL.Sem Cert.Tiles Cert.LossHeadIdeal.Pay

attribute [local instance] Cert.LossHead.Gen.facts Cert.LossHeadIdeal.Gen.facts Cert.LossHeadRefIdeal.Gen.facts

/-- The kernel runs, keeps its arguments and ends quiescent. -/
theorem frameP : Cert.quiescent_LossHead := fun m ρ _ => Cert.LossHead.Gen.frame m ρ

/-- … and so does it at the ideal numbers. -/
theorem framePI : Cert.quiescent_LossHeadIdeal := fun m ρ _ => Cert.LossHeadIdeal.Gen.frame m ρ

/-- The reference runs, keeps its arguments and ends quiescent. -/
theorem frameRI : Cert.quiescent_LossHeadRefIdeal := fun m ρ _ =>
  (θ_run Cert.LossHeadRefIdeal.defs _ _).mono (fun r h => ⟨fun c => (h c).2.2.2,
      Idealize.ShloMosaic.sem_eq_zero_of_no_sems (by decide) r.2⟩) (Cert.LossHeadRefIdeal.Value.run (F := Ideal) m ρ)

/-- Kernel and reference compute the same results. -/
theorem algebraic : Cert.algebraic_LossHeadIdeal_LossHeadRefIdeal := by
  intro m ρ m' ρ' hpre hag
  refine ⟨fun c => r2 m c, fun c => r3 m c, fun c => r4 m c, ?_, ?_⟩
  · exact (θ_run Cert.LossHeadIdeal.defs _ _).mono (fun r h c => ⟨((h c).1).trans (final2 m c), ((h c).2.1).trans (final3 m c), ((h c).2.2.1).trans (final4 m c), (h c).2.2.2⟩) (Cert.LossHeadIdeal.Value.run_blocks m ρ)
  · refine (θ_run Cert.LossHeadRefIdeal.defs _ _).mono (fun r h c => ?_) (Cert.LossHeadRefIdeal.Value.run (F := Ideal) m' ρ')
    obtain ⟨g0, g1⟩ := hag c
    refine ⟨((h c).1).trans ?_, ((h c).2.1).trans ?_, ((h c).2.2.1).trans ?_, (h c).2.2.2⟩ <;> clear h
    · rw [Cert.LossHeadRefIdeal.Read.val_main_v14_eq]
      try rw [g0]
      try rw [g1]
      exact ref2 _ _
    · rw [Cert.LossHeadRefIdeal.Read.val_main_v15_eq]
      try rw [g0]
      try rw [g1]
      exact ref3 _ _
    · rw [Cert.LossHeadRefIdeal.Read.val_main_v16_eq]
      try rw [g0]
      try rw [g1]
      exact ref4 _ _

end Cert.LossHeadClaims

end
-- ==== Proof.AdamSmall.lean ====
/-
  One optimiser step, element by element, on the packed small weights.
-/
module

public import proofs.«01_k».proof.Defs
public import proofs.«01_k».proof.Proof.Tiles
public import proofs.«01_k».proof.Proof.Gen.AdamSmall.Frame
public import proofs.«01_k».proof.Proof.Gen.AdamSmallIdeal.Value
public import proofs.«01_k».proof.Proof.Gen.AdamSmallRefIdeal.Read
public import proofs.«01_k».proof.Proof.Gen.AdamSmallRefIdeal.Run
public import Idealize.ShloMosaic.Lib.Tactic

@[expose] public section

set_option maxRecDepth 16384

noncomputable section

namespace Cert.AdamSmallIdeal.Pay

open Idealize.ShloMosaic Idealize.ShloMosaic.TcCoe Idealize.SL.Sem Cert.AdamSmallIdeal Cert.AdamSmallIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 744) (l : Fin 128) (p : Fin 744) (q : Fin 128) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 744 + 1 * i.val = p.val; rw [(at0 t).1]; omega
  · show win0_0.index t 1 * 128 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 744) (l : Fin 128) (p : Fin 744) (q : Fin 128) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 744 + 1 * i.val = p.val; rw [(at1 t).1]; omega
  · show win0_1.index t 1 * 128 + 1 * l.val = q.val; rw [(at1 t).2]; omega

theorem at2 : ∀ t : Fin grid0.N, win0_2.index t 0 = 0 ∧ win0_2.index t 1 = 0 := by decide +kernel

/-- An element of a block of window 2 is the array's. -/
theorem blk2 (c : Dev nD) (t : Fin cfg0.N) (i : Fin 744) (l : Fin 128) (p : Fin 744) (q : Fin 128) (hp : p.val = i.val) (hq : q.val = l.val) :
    (iblk m c 2 t (ix2 i l) : EReal) = m (c.tc.loc main_arg2) (ix2 p q) := by
  refine congrArg (m (c.tc.loc main_arg2)) (ext2 ?_ ?_)
  · show win0_2.index t 0 * 744 + 1 * i.val = p.val; rw [(at2 t).1]; omega
  · show win0_2.index t 1 * 128 + 1 * l.val = q.val; rw [(at2 t).2]; omega

theorem at3 : ∀ t : Fin grid0.N, win0_3.index t 0 = 0 ∧ win0_3.index t 1 = 0 := by decide +kernel

/-- An element of a block of window 3 is the array's. -/
theorem blk3 (c : Dev nD) (t : Fin cfg0.N) (i : Fin 744) (l : Fin 128) (p : Fin 744) (q : Fin 128) (hp : p.val = i.val) (hq : q.val = l.val) :
    (iblk m c 3 t (ix2 i l) : EReal) = m (c.tc.loc main_arg3) (ix2 p q) := by
  refine congrArg (m (c.tc.loc main_arg3)) (ext2 ?_ ?_)
  · show win0_3.index t 0 * 744 + 1 * i.val = p.val; rw [(at3 t).1]; omega
  · show win0_3.index t 1 * 128 + 1 * l.val = q.val; rw [(at3 t).2]; omega

theorem at4 : ∀ t : Fin grid0.N, win0_4.index t 0 = 0 ∧ win0_4.index t 1 = 0 := by decide +kernel

theorem at5 : ∀ t : Fin grid0.N, win0_5.index t 0 = 0 ∧ win0_5.index t 1 = 0 := by decide +kernel

theorem at6 : ∀ t : Fin grid0.N, win0_6.index t 0 = 0 ∧ win0_6.index t 1 = 0 := by decide +kernel

/-- The first moment after the step. -/
def newM (g m : EReal) : EReal := Ideal.ofBits .f32 0x3F666666#32 * m + Ideal.ofBits .f32 0x3DCCCCCD#32 * g
/-- The second moment after the step. -/
def newV (g v : EReal) : EReal := Ideal.ofBits .f32 0x3F7FBE77#32 * v + Ideal.ofBits .f32 0x3A83126F#32 * (g * g)
/-- The step of a weight. -/
def delta (w g m v : EReal) : EReal :=
  Ideal.ofBits .f32 0xBA83126F#32 * (Ideal.div (Ideal.div (newM g m) (Ideal.ofBits .f32 0x3F26BD02#32)) (Ideal.sqrt (Ideal.div (newV g v) (Ideal.ofBits .f32 0x3C231ACC#32)) + Ideal.ofBits .f32 0x322BCC77#32)
    + Ideal.ofBits .f32 0x3C23D70A#32 * w)

/-- The three results. -/
def res4 (x0 x1 x2 x3 : Mat 744 128) : Mat 744 128 := fun i => delta (x0 i) (x1 i) (x2 i) (x3 i)
def res5 (x1 x2 : Mat 744 128) : Mat 744 128 := fun i => newM (x1 i) (x2 i)
def res6 (x1 x3 : Mat 744 128) : Mat 744 128 := fun i => newV (x1 i) (x3 i)

/-- The kernel's results. -/
def r4 (c : Dev nD) : Mat 744 128 := res4 (m (c.tc.loc main_arg0)) (m (c.tc.loc main_arg1)) (m (c.tc.loc main_arg2)) (m (c.tc.loc main_arg3))
def r5 (c : Dev nD) : Mat 744 128 := res5 (m (c.tc.loc main_arg1)) (m (c.tc.loc main_arg2))
def r6 (c : Dev nD) : Mat 744 128 := res6 (m (c.tc.loc main_arg1)) (m (c.tc.loc main_arg3))

theorem out4 (c : Dev nD) (t : Fin cfg0.N) (i : Fin 744) (l : Fin 128) (p : Fin 744) (q : Fin 128) (hp : p.val = i.val) (hq : q.val = l.val) :
    out0_4 (iblk m c 0 t) (iblk m c 1 t) (iblk m c 2 t) (iblk m c 3 t) (ix2 i l) = r4 m c (ix2 p q) := by
  unfold out0_4
  rw [View.canon_unit_zero hz]
  simp only [View.ld_unit_zero (S := S744x128) hz]
  have e0 := blk0 m c t i l p q hp hq
  have e1 := blk1 m c t i l p q hp hq
  have e2 := blk2 m c t i l p q hp hq
  have e3 := blk3 m c t i l p q hp hq
  show delta (iblk m c 0 t (ix2 i l)) (iblk m c 1 t (ix2 i l)) (iblk m c 2 t (ix2 i l)) (iblk m c 3 t (ix2 i l)) = _
  unfold r4 res4
  rw [e0, e1, e2, e3]

theorem out5 (c : Dev nD) (t : Fin cfg0.N) (i : Fin 744) (l : Fin 128) (p : Fin 744) (q : Fin 128) (hp : p.val = i.val) (hq : q.val = l.val) :
    out0_5 (iblk m c 0 t) (iblk m c 1 t) (iblk m c 2 t) (iblk m c 3 t) (ix2 i l) = r5 m c (ix2 p q) := by
  unfold out0_5
  rw [View.canon_unit_zero hz]
  simp only [View.ld_unit_zero (S := S744x128) hz]
  have e0 := blk0 m c t i l p q hp hq
  have e1 := blk1 m c t i l p q hp hq
  have e2 := blk2 m c t i l p q hp hq
  have e3 := blk3 m c t i l p q hp hq
  show newM (iblk m c 1 t (ix2 i l)) (iblk m c 2 t (ix2 i l)) = _
  unfold r5 res5
  rw [e1, e2]

theorem out6 (c : Dev nD) (t : Fin cfg0.N) (i : Fin 744) (l : Fin 128) (p : Fin 744) (q : Fin 128) (hp : p.val = i.val) (hq : q.val = l.val) :
    out0_6 (iblk m c 0 t) (iblk m c 1 t) (iblk m c 2 t) (iblk m c 3 t) (ix2 i l) = r6 m c (ix2 p q) := by
  unfold out0_6
  rw [View.canon_unit_zero hz]
  simp only [View.ld_unit_zero (S := S744x128) hz]
  have e0 := blk0 m c t i l p q hp hq
  have e1 := blk1 m c t i l p q hp hq
  have e2 := blk2 m c t i l p q hp hq
  have e3 := blk3 m c t i l p q hp hq
  show newV (iblk m c 1 t (ix2 i l)) (iblk m c 3 t (ix2 i l)) = _
  unfold r6 res6
  rw [e1, e3]

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 744) (n1 := 128) x
  refine (out4 m c t i l ((((cfg0.win 4).blk t).view.emb (ix2 i l) : S744x128.Idx) 0) ((((cfg0.win 4).blk t).view.emb (ix2 i l) : S744x128.Idx) 1) ?_ ?_).trans (congrArg (r4 m c) (eta2 _).symm)
  · show win0_4.index t 0 * 744 + 1 * i.val = _; rw [(at4 t).1]; omega
  · show win0_4.index t 1 * 128 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 744 := (i 0).isLt
    have h1 : (i 1 : Nat) < 128 := (i 1).isLt
    have hN : cfg0.N = 1 := N_0
    have ht : 0 < cfg0.N := by omega
    refine ⟨⟨0, ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 744 ≤ (i 0 : Nat) ∧ (i 0 : Nat) < win0_4.index ⟨_, ht⟩ 0 * 744 + 744
                rw [(at4 ⟨_, ht⟩).1]; try dsimp only
                omega
    | ⟨1, _⟩ => show win0_4.index ⟨_, ht⟩ 1 * 128 ≤ (i 1 : Nat) ∧ (i 1 : Nat) < win0_4.index ⟨_, ht⟩ 1 * 128 + 128
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 744) (n1 := 128) x
  refine (out5 m c t i l ((((cfg0.win 5).blk t).view.emb (ix2 i l) : S744x128.Idx) 0) ((((cfg0.win 5).blk t).view.emb (ix2 i l) : S744x128.Idx) 1) ?_ ?_).trans (congrArg (r5 m c) (eta2 _).symm)
  · show win0_5.index t 0 * 744 + 1 * i.val = _; rw [(at5 t).1]; omega
  · show win0_5.index t 1 * 128 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 744 := (i 0).isLt
    have h1 : (i 1 : Nat) < 128 := (i 1).isLt
    have hN : cfg0.N = 1 := N_0
    have ht : 0 < cfg0.N := by omega
    refine ⟨⟨0, ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 744 ≤ (i 0 : Nat) ∧ (i 0 : Nat) < win0_5.index ⟨_, ht⟩ 0 * 744 + 744
                rw [(at5 ⟨_, ht⟩).1]; try dsimp only
                omega
    | ⟨1, _⟩ => show win0_5.index ⟨_, ht⟩ 1 * 128 ≤ (i 1 : Nat) ∧ (i 1 : Nat) < win0_5.index ⟨_, ht⟩ 1 * 128 + 128
                rw [(at5 ⟨_, ht⟩).2]; try dsimp only
                omega

/-- What a grid point writes back to window 6. -/
theorem flushed6_eq (c : Dev nD) (t : Fin cfg0.N) : (dats m 0 c).flushed 6 t = ((cfg0.win 6).blk t).view.read (Elt Ideal) (r6 m c) := by
  rw [Value.flushed6]
  funext x
  rw [View.read_apply]
  obtain ⟨i, l, rfl⟩ := pair (n0 := 744) (n1 := 128) x
  refine (out6 m c t i l ((((cfg0.win 6).blk t).view.emb (ix2 i l) : S744x128.Idx) 0) ((((cfg0.win 6).blk t).view.emb (ix2 i l) : S744x128.Idx) 1) ?_ ?_).trans (congrArg (r6 m c) (eta2 _).symm)
  · show win0_6.index t 0 * 744 + 1 * i.val = _; rw [(at6 t).1]; omega
  · show win0_6.index t 1 * 128 + 1 * l.val = _; rw [(at6 t).2]; omega

/-- The array of window 6 at the end. -/
theorem final6 (c : Dev nD) : (dats m 0 c).arrAt 6 cfg0.N = r6 m c :=
  (dats m 0 c).arrAt_eq_of_cover 6 (r6 m c) (fun t _ => flushed6_eq m c t) fun i => by
    have h0 : (i 0 : Nat) < 744 := (i 0).isLt
    have h1 : (i 1 : Nat) < 128 := (i 1).isLt
    have hN : cfg0.N = 1 := N_0
    have ht : 0 < cfg0.N := by omega
    refine ⟨⟨0, ht⟩, flush0_6 _, ?_⟩
    show i ∈ ((View.whole main_v0_2).slice (win0_6.rect ⟨_, ht⟩)).set
    rw [View.set_slice_whole, Rect.mem_set_unit]
    intro a
    match a with
    | ⟨0, _⟩ => show win0_6.index ⟨_, ht⟩ 0 * 744 ≤ (i 0 : Nat) ∧ (i 0 : Nat) < win0_6.index ⟨_, ht⟩ 0 * 744 + 744
                rw [(at6 ⟨_, ht⟩).1]; try dsimp only
                omega
    | ⟨1, _⟩ => show win0_6.index ⟨_, ht⟩ 1 * 128 ≤ (i 1 : Nat) ∧ (i 1 : Nat) < win0_6.index ⟨_, ht⟩ 1 * 128 + 128
                rw [(at6 ⟨_, ht⟩).2]; try dsimp only
                omega

section
open Cert.AdamSmallRefIdeal.Read
variable (x0 x1 x2 x3 : Mat 744 128)

theorem ref5 : val_main_v4 (F := Ideal) x1 x2 = res5 x1 x2 := by
  funext x
  rw [val_main_v4_apply, val_main_v1_apply, val_main_v3_apply, val_main_v0_apply, val_main_v2_apply, val_main_cst_apply, val_main_cst_0_apply]
  rfl

theorem ref6 : val_main_v10 (F := Ideal) x1 x3 = res6 x1 x3 := by
  funext x
  rw [val_main_v10_apply, val_main_v6_apply, val_main_v9_apply, val_main_v5_apply, val_main_v8_apply, val_main_v7_apply, val_main_cst_1_apply, val_main_cst_2_apply]
  rfl

theorem ref4 : val_main_v23 (F := Ideal) x0 x1 x2 x3 = res4 x0 x1 x2 x3 := by
  funext x
  rw [val_main_v23_apply, val_main_v22_apply, val_main_v21_apply, val_main_v20_apply, val_main_v19_apply, val_main_v18_apply, val_main_v17_apply, val_main_v16_apply, val_main_v15_apply,
    val_main_v14_apply, val_main_v13_apply, val_main_v12_apply, val_main_v11_apply, val_main_cst_3_apply, val_main_cst_4_apply, val_main_cst_5_apply, val_main_cst_6_apply, val_main_cst_7_apply, ref5, ref6]
  rfl

end

end Cert.AdamSmallIdeal.Pay

namespace Cert.AdamSmallClaims

open Idealize.ShloMosaic Idealize.ShloMosaic.TcCoe Idealize.SL.Sem Cert.Tiles Cert.AdamSmallIdeal.Pay

attribute [local instance] Cert.AdamSmall.Gen.facts Cert.AdamSmallIdeal.Gen.facts Cert.AdamSmallRefIdeal.Gen.facts

/-- The kernel runs, keeps its arguments and ends quiescent. -/
theorem frameP : Cert.quiescent_AdamSmall := fun m ρ _ => Cert.AdamSmall.Gen.frame m ρ

/-- … and so does it at the ideal numbers. -/
theorem framePI : Cert.quiescent_AdamSmallIdeal := fun m ρ _ => Cert.AdamSmallIdeal.Gen.frame m ρ

/-- The reference runs, keeps its arguments and ends quiescent. -/
theorem frameRI : Cert.quiescent_AdamSmallRefIdeal := fun m ρ _ =>
  (θ_run Cert.AdamSmallRefIdeal.defs _ _).mono (fun r h => ⟨fun c => (h c).2.2.2,
      Idealize.ShloMosaic.sem_eq_zero_of_no_sems (by decide) r.2⟩) (Cert.AdamSmallRefIdeal.Value.run (F := Ideal) m ρ)

/-- Kernel and reference compute the same results. -/
theorem algebraic : Cert.algebraic_AdamSmallIdeal_AdamSmallRefIdeal := by
  intro m ρ m' ρ' hpre hag
  refine ⟨fun c => r4 m c, fun c => r5 m c, fun c => r6 m c, ?_, ?_⟩
  · exact (θ_run Cert.AdamSmallIdeal.defs _ _).mono (fun r h c => ⟨((h c).1).trans (final4 m c), ((h c).2.1).trans (final5 m c), ((h c).2.2.1).trans (final6 m c), (h c).2.2.2⟩) (Cert.AdamSmallIdeal.Value.run_blocks m ρ)
  · refine (θ_run Cert.AdamSmallRefIdeal.defs _ _).mono (fun r h c => ?_) (Cert.AdamSmallRefIdeal.Value.run (F := Ideal) m' ρ')
    obtain ⟨g0, g1, g2, g3⟩ := hag c
    refine ⟨((h c).1).trans ?_, ((h c).2.1).trans ?_, ((h c).2.2.1).trans ?_, (h c).2.2.2⟩ <;> clear h
    · rw [Cert.AdamSmallRefIdeal.Read.val_main_v23_eq]
      try rw [g0]
      try rw [g1]
      try rw [g2]
      try rw [g3]
      exact ref4 _ _ _ _
    · rw [Cert.AdamSmallRefIdeal.Read.val_main_v4_eq]
      try rw [g0]
      try rw [g1]
      try rw [g2]
      try rw [g3]
      exact ref5 _ _
    · rw [Cert.AdamSmallRefIdeal.Read.val_main_v10_eq]
      try rw [g0]
      try rw [g1]
      try rw [g2]
      try rw [g3]
      exact ref6 _ _

end Cert.AdamSmallClaims

end
-- ==== Proof.MmIn.lean ====
/-
  The input projection.
-/
module

public import proofs.«01_k».proof.Defs
public import proofs.«01_k».proof.Proof.Tiles
public import proofs.«01_k».proof.Proof.Gen.MmIn.Frame
public import proofs.«01_k».proof.Proof.Gen.MmInIdeal.Value
public import proofs.«01_k».proof.Proof.Gen.MmInRefIdeal.Read
public import proofs.«01_k».proof.Proof.Gen.MmInRefIdeal.Run
public import Idealize.ShloMosaic.Lib.Tactic

@[expose] public section

set_option maxRecDepth 16384

noncomputable section

namespace Cert.MmInIdeal.Pay

open Idealize.ShloMosaic Idealize.ShloMosaic.TcCoe Idealize.SL.Sem Cert.MmInIdeal Cert.MmInIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 768) (l : Fin 1024) (p : Fin 2304) (q : Fin 1024) (hp : p.val = 768 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 768 + 1 * i.val = p.val; rw [(at1 t).1]; omega
  · show win0_1.index t 1 * 1024 + 1 * l.val = q.val; rw [(at1 t).2]; omega

theorem at2 : ∀ t : Fin grid0.N, win0_2.index t 0 = 0 ∧ win0_2.index t 1 = t.val := by decide +kernel

/-- The result. -/
def res (x0 : Mat 2048 1024) (x1 : Mat 2304 1024) : Mat 2048 2304 := mulTB (k := 1024) x0 x1

/-- The kernel's result. -/
def r2 (c : Dev nD) : Mat 2048 2304 := res (m (c.tc.loc main_arg0)) (m (c.tc.loc main_arg1))

/-- What a grid point leaves in its block. -/
theorem out2 (c : Dev nD) (t : Fin cfg0.N) (i : Fin 2048) (l : Fin 768) (p : Fin 2048) (q : Fin 2304) (hp : p.val = i.val) (hq : q.val = 768 * (t.val) + l.val) :
    out0_2 (iblk m c 0 t) (iblk m c 1 t) (ix2 i l) = r2 m c (ix2 p q) := by
  unfold out0_2
  rw [View.canon_unit_zero hz]
  simp only [View.ld_unit_zero (S := S2048x1024) hz, View.ld_unit_zero (S := S768x1024) hz]
  have ea : ∀ k : Fin 1024, (iblk m c 0 t (ix2 i k) : EReal) = m (c.tc.loc main_arg0) (ix2 p k) := fun k => blk0 m c t i k p k hp rfl
  have eb : ∀ k : Fin 1024, (iblk m c 1 t (ix2 l k) : EReal) = m (c.tc.loc main_arg1) (ix2 q k) := fun k => blk1 m c t l k q k hq rfl
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 2048) (n1 := 768) x
  refine (out2 m c t i l ((((cfg0.win 2).blk t).view.emb (ix2 i l) : S2048x2304.Idx) 0) ((((cfg0.win 2).blk t).view.emb (ix2 i l) : S2048x2304.Idx) 1) ?_ ?_).trans (congrArg (r2 m c) (eta2 _).symm)
  · show win0_2.index t 0 * 2048 + 1 * i.val = _; rw [(at2 t).1]; omega
  · show win0_2.index t 1 * 768 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 2304 := (i 1).isLt
    have hN : cfg0.N = 3 := N_0
    have ht : ((i 1 : Nat) / 768) < cfg0.N := by omega
    refine ⟨⟨((i 1 : Nat) / 768), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : Nat) ∧ (i 0 : Nat) < win0_2.index ⟨_, ht⟩ 0 * 2048 + 2048
                rw [(at2 ⟨_, ht⟩).1]; try dsimp only
                omega
    | ⟨1, _⟩ => show win0_2.index ⟨_, ht⟩ 1 * 768 ≤ (i 1 : Nat) ∧ (i 1 : Nat) < win0_2.index ⟨_, ht⟩ 1 * 768 + 768
                rw [(at2 ⟨_, ht⟩).2]; try dsimp only
                omega

open Cert.MmInRefIdeal.Read in
/-- The reference's result. -/
theorem ref2 (x0 : Mat 2048 1024) (x1 : Mat 2304 1024) : val_main_v3 (F := Ideal) x0 x1 = res x0 x1 := by
  funext x
  obtain ⟨i, j, rfl⟩ := pair (n0 := 2048) (n1 := 2304) x
  rw [val_main_v3_apply]
  unfold res
  refine Finset.sum_congr rfl fun k _ => ?_
  rw [val_main_v0_apply, val_main_v2_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.MmInIdeal.Pay

namespace Cert.MmInClaims

open Idealize.ShloMosaic Idealize.ShloMosaic.TcCoe Idealize.SL.Sem Cert.Tiles Cert.MmInIdeal.Pay

attribute [local instance] Cert.MmIn.Gen.facts Cert.MmInIdeal.Gen.facts Cert.MmInRefIdeal.Gen.facts

/-- The kernel runs, keeps its arguments and ends quiescent. -/
theorem frameP : Cert.quiescent_MmIn := fun m ρ _ => Cert.MmIn.Gen.frame m ρ

/-- … and so does it at the ideal numbers. -/
theorem framePI : Cert.quiescent_MmInIdeal := fun m ρ _ => Cert.MmInIdeal.Gen.frame m ρ

/-- The reference runs, keeps its arguments and ends quiescent. -/
theorem frameRI : Cert.quiescent_MmInRefIdeal := fun m ρ _ =>
  (θ_run Cert.MmInRefIdeal.defs _ _).mono (fun r h => ⟨fun c => (h c).2,
      Idealize.ShloMosaic.sem_eq_zero_of_no_sems (by decide) r.2⟩) (Cert.MmInRefIdeal.Value.run (F := Ideal) m ρ)

/-- Kernel and reference compute the same results. -/
theorem algebraic : Cert.algebraic_MmInIdeal_MmInRefIdeal := by
  intro m ρ m' ρ' hpre hag
  refine ⟨fun c => r2 m c, ?_, ?_⟩
  · exact (θ_run Cert.MmInIdeal.defs _ _).mono (fun r h c => ⟨((h c).1).trans (final2 m c), (h c).2⟩) (Cert.MmInIdeal.Value.run_blocks m ρ)
  · refine (θ_run Cert.MmInRefIdeal.defs _ _).mono (fun r h c => ?_) (Cert.MmInRefIdeal.Value.run (F := Ideal) m' ρ')
    obtain ⟨g0, g1⟩ := hag c
    refine ⟨((h c).1).trans ?_, (h c).2⟩
    · rw [Cert.MmInRefIdeal.Read.val_main_v3_eq, g0, g1]
      exact ref2 _ _

end Cert.MmInClaims

end
-- ==== Proof.MmGate.lean ====
/-
  The gate projection.
-/
module

public import proofs.«01_k».proof.Defs
public import proofs.«01_k».proof.Proof.Tiles
public import proofs.«01_k».proof.Proof.Gen.MmGate.Frame
public import proofs.«01_k».proof.Proof.Gen.MmGateIdeal.Value
public import proofs.«01_k».proof.Proof.Gen.MmGateRefIdeal.Read
public import proofs.«01_k».proof.Proof.Gen.MmGateRefIdeal.Run
public import Idealize.ShloMosaic.Lib.Tactic

@[expose] public section

set_option maxRecDepth 16384

noncomputable section

namespace Cert.MmGateIdeal.Pay

open Idealize.ShloMosaic Idealize.ShloMosaic.TcCoe Idealize.SL.Sem Cert.MmGateIdeal Cert.MmGateIdeal.Gen Cert.Tiles
open Idealize.ShloMosaic.Pipeline (Dat)

variable (m : (ℓ : Loc nD τ sig) → Buf (Elt Ideal) ℓ)

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 1024) (p : Fin 4096) (q : Fin 1024) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 1024 + 1 * l.val = q.val; rw [(at1 t).2]; omega

theorem at2 : ∀ t : Fin grid0.N, win0_2.index t 0 = 0 ∧ win0_2.index t 1 = t.val := by decide +kernel

/-- The result. -/
def res (x0 : Mat 2048 1024) (x1 : Mat 4096 1024) : Mat 2048 4096 := mulTB (k := 1024) x0 x1

/-- The kernel's result. -/
def r2 (c : Dev nD) : Mat 2048 4096 := res (m (c.tc.loc main_arg0)) (m (c.tc.loc main_arg1))

/-- What a grid point leaves in its block. -/
theorem out2 (c : Dev nD) (t : Fin cfg0.N) (i : Fin 2048) (l : Fin 512) (p : Fin 2048) (q : Fin 4096) (hp : p.val = i.val) (hq : q.val = 512 * (t.val) + l.val) :
    out0_2 (iblk m c 0 t) (iblk m c 1 t) (ix2 i l) = r2 m c (ix2 p q) := by
  unfold out0_2
  rw [View.canon_unit_zero hz]
  simp only [View.ld_unit_zero (S := S2048x1024) hz, View.ld_unit_zero (S := S512x1024) hz]
  have ea : ∀ k : Fin 1024, (iblk m c 0 t (ix2 i k) : EReal) = m (c.tc.loc main_arg0) (ix2 p k) := fun k => blk0 m c t i k p k hp rfl
  have eb : ∀ k : Fin 1024, (iblk m c 1 t (ix2 l k) : EReal) = m (c.tc.loc main_arg1) (ix2 q k) := fun k => blk1 m c t l k q k hq rfl
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- What a grid point writes back to window 2. -/
theorem flushed2_eq (c : Dev nD) (t : Fin cfg0.N) : (dats m 0 c).flushed 2 t = ((cfg0.win 2).blk t).view.read (Elt Ideal) (r2 m c) := by
  rw [Value.flushed2]
  funext x
  rw [View.read_apply]
  obtain ⟨i, l, rfl⟩ := pair (n0 := 2048) (n1 := 512) x
  refine (out2 m c t i l ((((cfg0.win 2).blk t).view.emb (ix2 i l) : S2048x4096.Idx) 0) ((((cfg0.win 2).blk t).view.emb (ix2 i l) : S2048x4096.Idx) 1) ?_ ?_).trans (congrArg (r2 m c) (eta2 _).symm)
  · show win0_2.index t 0 * 2048 + 1 * i.val = _; rw [(at2 t).1]; omega
  · show win0_2.index t 1 * 512 + 1 * l.val = _; rw [(at2 t).2]; omega

/-- The array of window 2 at the end. -/
theorem final2 (c : Dev nD) : (dats m 0 c).arrAt 2 cfg0.N = r2 m c :=
  (dats m 0 c).arrAt_eq_of_cover 2 (r2 m c) (fun t _ => flushed2_eq m c t) fun i => by
    have h0 : (i 0 : Nat) < 2048 := (i 0).isLt
    have h1 : (i 1 : Nat) < 4096 := (i 1).isLt
    have hN : cfg0.N = 8 := N_0
    have ht : ((i 1 : Nat) / 512) < cfg0.N := by omega
    refine ⟨⟨((i 1 : Nat) / 512), ht⟩, flush0_2 _, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : Nat) ∧ (i 0 : Nat) < win0_2.index ⟨_, ht⟩ 0 * 2048 + 2048
                rw [(at2 ⟨_, ht⟩).1]; try dsimp only
                omega
    | ⟨1, _⟩ => show win0_2.index ⟨_, ht⟩ 1 * 512 ≤ (i 1 : Nat) ∧ (i 1 : Nat) < win0_2.index ⟨_, ht⟩ 1 * 512 + 512
                rw [(at2 ⟨_, ht⟩).2]; try dsimp only
                omega

open Cert.MmGateRefIdeal.Read in
/-- The reference's result. -/
theorem ref2 (x0 : Mat 2048 1024) (x1 : Mat 4096 1024) : val_main_v4 (F := Ideal) x0 x1 = res x0 x1 := by
  funext x
  obtain ⟨i, j, rfl⟩ := pair (n0 := 2048) (n1 := 4096) x
  rw [val_main_v4_apply, val_main_v3_apply]
  unfold res
  refine Finset.sum_congr rfl fun k _ => ?_
  rw [val_main_v0_apply, val_main_v2_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.MmGateIdeal.Pay

namespace Cert.MmGateClaims

open Idealize.ShloMosaic Idealize.ShloMosaic.TcCoe Idealize.SL.Sem Cert.Tiles Cert.MmGateIdeal.Pay

attribute [local instance] Cert.MmGate.Gen.facts Cert.MmGateIdeal.Gen.facts Cert.MmGateRefIdeal.Gen.facts

/-- The kernel runs, keeps its arguments and ends quiescent. -/
theorem frameP : Cert.quiescent_MmGate := fun m ρ _ => Cert.MmGate.Gen.frame m ρ

/-- … and so does it at the ideal numbers. -/
theorem framePI : Cert.quiescent_MmGateIdeal := fun m ρ _ => Cert.MmGateIdeal.Gen.frame m ρ

/-- The reference runs, keeps its arguments and ends quiescent. -/
theorem frameRI : Cert.quiescent_MmGateRefIdeal := fun m ρ _ =>
  (θ_run Cert.MmGateRefIdeal.defs _ _).mono (fun r h => ⟨fun c => (h c).2,
      Idealize.ShloMosaic.sem_eq_zero_of_no_sems (by decide) r.2⟩) (Cert.MmGateRefIdeal.Value.run (F := Ideal) m ρ)

/-- Kernel and reference compute the same results. -/
theorem algebraic : Cert.algebraic_MmGateIdeal_MmGateRefIdeal := by
  intro m ρ m' ρ' hpre hag
  refine ⟨fun c => r2 m c, ?_, ?_⟩
  · exact (θ_run Cert.MmGateIdeal.defs _ _).mono (fun r h c => ⟨((h c).1).trans (final2 m c), (h c).2⟩) (Cert.MmGateIdeal.Value.run_blocks m ρ)
  · refine (θ_run Cert.MmGateRefIdeal.defs _ _).mono (fun r h c => ?_) (Cert.MmGateRefIdeal.Value.run (F := Ideal) m' ρ')
    obtain ⟨g0, g1⟩ := hag c
    refine ⟨((h c).1).trans ?_, (h c).2⟩
    · rw [Cert.MmGateRefIdeal.Read.val_main_v4_eq, g0, g1]
      exact ref2 _ _

end Cert.MmGateClaims

end
-- ==== Proof.MmOut.lean ====
/-
  The output projection: the residual stream and its normalised rows.
-/
module

public import proofs.«01_k».proof.Defs
public import proofs.«01_k».proof.Proof.Tiles
public import proofs.«01_k».proof.Proof.RowNorm
public import proofs.«01_k».proof.Proof.Gen.MmOut.Frame
public import proofs.«01_k».proof.Proof.Gen.MmOutIdeal.Value
public import proofs.«01_k».proof.Proof.Gen.MmOutRefIdeal.Read
public import proofs.«01_k».proof.Proof.Gen.MmOutRefIdeal.Run
public import Idealize.ShloMosaic.Lib.Tactic

@[expose] public section

set_option maxRecDepth 16384

noncomputable section

namespace Cert.MmOutIdeal.Pay

open Idealize.ShloMosaic Idealize.ShloMosaic.TcCoe Idealize.SL.Sem Cert.MmOutIdeal Cert.MmOutIdeal.Gen Cert.Tiles
open Idealize.ShloMosaic.Pipeline (Dat)

variable (m : (ℓ : Loc nD τ sig) → Buf (Elt Ideal) ℓ)

open Cert.RowNorm

theorem at0 : ∀ t : Fin grid0.N, win0_0.index t 0 = t.val ∧ win0_0.index t 1 = 0 := by decide +kernel

/-- An element of a block of window 0 is the array's. -/
theorem blk0 (c : Dev nD) (t : Fin cfg0.N) (i : Fin 1024) (l : Fin 1024) (p : Fin 2048) (q : Fin 1024) (hp : p.val = 1024 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 1024 + 1 * i.val = p.val; rw [(at0 t).1]; omega
  · show win0_0.index t 1 * 1024 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 1024) (l : Fin 1024) (p : Fin 1024) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 1024 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 1024) (l : Fin 1024) (p : Fin 2048) (q : Fin 1024) (hp : p.val = 1024 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 1024 + 1 * i.val = p.val; rw [(at2 t).1]; omega
  · show win0_2.index t 1 * 1024 + 1 * l.val = q.val; rw [(at2 t).2]; omega

theorem at3 : ∀ t : Fin grid0.N, win0_3.index t 0 = 0 ∧ win0_3.index t 1 = 0 := by decide +kernel

/-- An element of a block of window 3 is the array's. -/
theorem blk3 (c : Dev nD) (t : Fin cfg0.N) (i : Fin 1) (l : Fin 1024) (p : Fin 1) (q : Fin 1024) (hp : p.val = i.val) (hq : q.val = l.val) :
    (iblk m c 3 t (ix2 i l) : EReal) = m (c.tc.loc main_arg3) (ix2 p q) := by
  refine congrArg (m (c.tc.loc main_arg3)) (ext2 ?_ ?_)
  · show win0_3.index t 0 * 1 + 1 * i.val = p.val; rw [(at3 t).1]; omega
  · show win0_3.index t 1 * 1024 + 1 * l.val = q.val; rw [(at3 t).2]; omega

theorem at4 : ∀ t : Fin grid0.N, win0_4.index t 0 = t.val ∧ win0_4.index t 1 = 0 := by decide +kernel

theorem at5 : ∀ t : Fin grid0.N, win0_5.index t 0 = t.val ∧ win0_5.index t 1 = 0 := by decide +kernel

/-- The residual stream after the layer's half. -/
def res4 (x0 : Mat 2048 1024) (x1 : Mat 1024 1024) (x2 : Mat 2048 1024) (x3 : Mat 1 1024) : Mat 2048 1024 := fun i => x2 i + mul (k := 1024) x0 x1 i
/-- … and its rows normalised. -/
def res5 (x0 : Mat 2048 1024) (x1 : Mat 1024 1024) (x2 : Mat 2048 1024) (x3 : Mat 1 1024) : Mat 2048 1024 := rmsNorm (res4 x0 x1 x2 x3) x3

/-- The kernel's result in window 4. -/
def r4 (c : Dev nD) : Mat 2048 1024 := res4 (m (c.tc.loc main_arg0)) (m (c.tc.loc main_arg1)) (m (c.tc.loc main_arg2)) (m (c.tc.loc main_arg3))

/-- The kernel's result in window 5. -/
def r5 (c : Dev nD) : Mat 2048 1024 := res5 (m (c.tc.loc main_arg0)) (m (c.tc.loc main_arg1)) (m (c.tc.loc main_arg2)) (m (c.tc.loc main_arg3))

/-- A block's residual stream. -/
theorem sum0 (c : Dev nD) (t : Fin cfg0.N) (i : Fin 1024) (l : Fin 1024) (p : Fin 2048) (q : Fin 1024) (hp : p.val = 1024 * t.val + i.val) (hq : q.val = l.val) :
    k0_pay1 (F := Ideal) (iblk m c 0 t) (iblk m c 1 t) (iblk m c 2 t) (ix2 i l) = r4 m c (ix2 p q) := by
  have ea : ∀ k : Fin 1024, (iblk m c 0 t (ix2 i k) : EReal) = m (c.tc.loc main_arg0) (ix2 p k) := fun k => blk0 m c t i k p k hp rfl
  have eb : ∀ k : Fin 1024, (iblk m c 1 t (ix2 k l) : EReal) = m (c.tc.loc main_arg1) (ix2 k q) := fun k => blk1 m c t k l k q rfl hq
  have e2 : (iblk m c 2 t (ix2 i l) : EReal) = m (c.tc.loc main_arg2) (ix2 p q) := blk2 m c t i l p q hp hq
  refine Eq.trans ?_ (congrArg₂ (fun a b : EReal => a + b) e2 (Finset.sum_congr (s₁ := (Finset.univ : Finset (Fin 1024))) rfl fun k _ => congrArg₂ (fun a b : EReal => a * b) (ea k) (eb k)))
  generalize iblk m c 0 t = a
  generalize iblk m c 1 t = b
  generalize iblk m c 2 t = x
  pointwise [k0_pay1]
  exact add_comm _ _

/-- A block's normalised rows, from its residual stream. -/
theorem norm0 (v0 : FVec Ideal S1024x1024 .bf16) (v1 : FVec Ideal S1024x1024 .bf16) (v3 : FVec Ideal S1024x1024 .f32) (v16 : FVec Ideal S1x1024 .f32) (i : Fin 1024) (l : Fin 1024) :
    k0_pay2 (F := Ideal) v0 v1 v3 v16 (ix2 i l) = rmsNorm (k0_pay1 (F := Ideal) v0 v1 v3) v16 (ix2 i l) := by
  unfold k0_pay2 rmsNorm ms
  generalize k0_pay1 (F := Ideal) v0 v1 v3 = y
  pointwise

theorem out4 (c : Dev nD) (t : Fin cfg0.N) (i : Fin 1024) (l : Fin 1024) (p : Fin 2048) (q : Fin 1024) (hp : p.val = 1024 * t.val + i.val) (hq : q.val = l.val) :
    out0_4 (iblk m c 0 t) (iblk m c 1 t) (iblk m c 2 t) (iblk m c 3 t) (ix2 i l) = r4 m c (ix2 p q) := by
  unfold out0_4
  rw [View.canon_unit_zero hz]
  simp only [View.ld_unit_zero (S := S1024x1024) hz, View.ld_unit_zero (S := S1024x1024) hz, View.ld_unit_zero (S := S1024x1024) hz, View.ld_unit_zero (S := S1x1024) hz]
  exact sum0 m c t i l p q hp hq

theorem out5 (c : Dev nD) (t : Fin cfg0.N) (i : Fin 1024) (l : Fin 1024) (p : Fin 2048) (q : Fin 1024) (hp : p.val = 1024 * t.val + i.val) (hq : q.val = l.val) :
    out0_5 (iblk m c 0 t) (iblk m c 1 t) (iblk m c 2 t) (iblk m c 3 t) (ix2 i l) = r5 m c (ix2 p q) := by
  unfold out0_5
  rw [View.canon_unit_zero hz]
  simp only [View.ld_unit_zero (S := S1024x1024) hz, View.ld_unit_zero (S := S1024x1024) hz, View.ld_unit_zero (S := S1024x1024) hz, View.ld_unit_zero (S := S1x1024) hz]
  refine (norm0 _ _ _ _ i l).trans ?_
  have e : ∀ k : Fin 1024, k0_pay1 (F := Ideal) (iblk m c 0 t) (iblk m c 1 t) (iblk m c 2 t) (ix2 i k) = r4 m c (ix2 p k) := fun k => sum0 m c t i k p k hp rfl
  have e3 : (iblk m c 3 t (ix2 0 l) : EReal) = m (c.tc.loc main_arg3) (ix2 0 q) := blk3 m c t 0 l 0 q rfl hq
  refine congrArg₂ (fun a b : EReal => a * b) (congrArg₂ (fun a b : EReal => a * b) (sum0 m c t i l p q hp hq) (congrArg (fun z : EReal => Ideal.rsqrt (Ideal.div z _ + _)) ?_)) e3
  exact Finset.sum_congr rfl fun k _ => congrArg₂ (fun a b : EReal => a * b) (e k) (e k)

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 1024) (n1 := 1024) x
  refine (out4 m c t i l ((((cfg0.win 4).blk t).view.emb (ix2 i l) : S2048x1024.Idx) 0) ((((cfg0.win 4).blk t).view.emb (ix2 i l) : S2048x1024.Idx) 1) ?_ ?_).trans (congrArg (r4 m c) (eta2 _).symm)
  · show win0_4.index t 0 * 1024 + 1 * i.val = _; rw [(at4 t).1]; omega
  · show win0_4.index t 1 * 1024 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 2048 := (i 0).isLt
    have h1 : (i 1 : Nat) < 1024 := (i 1).isLt
    have hN : cfg0.N = 2 := N_0
    have ht : ((i 0 : Nat) / 1024) < cfg0.N := by omega
    refine ⟨⟨((i 0 : Nat) / 1024), ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 1024 ≤ (i 0 : Nat) ∧ (i 0 : Nat) < win0_4.index ⟨_, ht⟩ 0 * 1024 + 1024
                rw [(at4 ⟨_, ht⟩).1]; try dsimp only
                omega
    | ⟨1, _⟩ => show win0_4.index ⟨_, ht⟩ 1 * 1024 ≤ (i 1 : Nat) ∧ (i 1 : Nat) < win0_4.index ⟨_, ht⟩ 1 * 1024 + 1024
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 1024) (n1 := 1024) x
  refine (out5 m c t i l ((((cfg0.win 5).blk t).view.emb (ix2 i l) : S2048x1024.Idx) 0) ((((cfg0.win 5).blk t).view.emb (ix2 i l) : S2048x1024.Idx) 1) ?_ ?_).trans (congrArg (r5 m c) (eta2 _).symm)
  · show win0_5.index t 0 * 1024 + 1 * i.val = _; rw [(at5 t).1]; omega
  · show win0_5.index t 1 * 1024 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 2048 := (i 0).isLt
    have h1 : (i 1 : Nat) < 1024 := (i 1).isLt
    have hN : cfg0.N = 2 := N_0
    have ht : ((i 0 : Nat) / 1024) < cfg0.N := by omega
    refine ⟨⟨((i 0 : Nat) / 1024), ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 1024 ≤ (i 0 : Nat) ∧ (i 0 : Nat) < win0_5.index ⟨_, ht⟩ 0 * 1024 + 1024
                rw [(at5 ⟨_, ht⟩).1]; try dsimp only
                omega
    | ⟨1, _⟩ => show win0_5.index ⟨_, ht⟩ 1 * 1024 ≤ (i 1 : Nat) ∧ (i 1 : Nat) < win0_5.index ⟨_, ht⟩ 1 * 1024 + 1024
                rw [(at5 ⟨_, ht⟩).2]; try dsimp only
                omega

section
open Cert.MmOutRefIdeal.Read
variable (x0 : Mat 2048 1024) (x1 : Mat 1024 1024) (x2 : Mat 2048 1024) (x3 : Mat 1 1024)

theorem ref4 : val_main_v3 (F := Ideal) x0 x1 x2 = res4 x0 x1 x2 x3 := by
  funext x
  obtain ⟨i, j, rfl⟩ := pair (n0 := 2048) (n1 := 1024) x
  rw [val_main_v3_apply, val_main_v2_apply]
  unfold res4
  refine congrArg (fun a : EReal => x2 (ix2 i j) + a) (Finset.sum_congr rfl fun k _ => ?_)
  rw [val_main_v0_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem ref5 : val_main_v18 (F := Ideal) x0 x1 x2 x3 = res5 x0 x1 x2 x3 := by
  funext x
  obtain ⟨i, j, rfl⟩ := pair (n0 := 2048) (n1 := 1024) x
  rw [val_main_v18_apply, val_main_v17_apply, val_main_v14_apply, val_main_v13_apply, val_main_v12_apply, val_main_v11_apply, val_main_v10_apply, val_main_v9_apply,
    val_main_v8_apply, val_main_v7_apply, val_main_v6_apply, val_main_v16_apply, val_main_v15_apply, val_main_v4_apply, val_main_cst_apply, val_main_cst_0_apply, val_main_cst_1_apply, ref4 x0 x1 x2 x3]
  unfold res5 rmsNorm ms
  refine congrArg₂ (fun a b : EReal => a * b) (congrArg (fun z : EReal => res4 x0 x1 x2 x3 (ix2 i j) * Ideal.rsqrt (Ideal.div z _ + _)) ?_) (congrArg x3 (funext fun a => match a with | ⟨0, _⟩ => rfl | ⟨1, _⟩ => Fin.ext (by first | rfl | exact Nat.mod_eq_of_lt j.isLt)))
  show Ideal.ofBits .f32 0x00000000#32 + _ = _
  rw [Ideal.ofBits_zero_f32, zero_add]
  refine Finset.sum_congr rfl fun k _ => ?_
  rw [val_main_v5_apply, ref4 x0 x1 x2 x3]
  exact congrArg (fun z : EReal => z * z) (congrArg (res4 x0 x1 x2 x3) (funext fun a => match a with | ⟨0, _⟩ => rfl | ⟨1, _⟩ => rfl))

end

end Cert.MmOutIdeal.Pay

namespace Cert.MmOutClaims

open Idealize.ShloMosaic Idealize.ShloMosaic.TcCoe Idealize.SL.Sem Cert.Tiles Cert.MmOutIdeal.Pay

attribute [local instance] Cert.MmOut.Gen.facts Cert.MmOutIdeal.Gen.facts Cert.MmOutRefIdeal.Gen.facts

/-- The kernel runs, keeps its arguments and ends quiescent. -/
theorem frameP : Cert.quiescent_MmOut := fun m ρ _ => Cert.MmOut.Gen.frame m ρ

/-- … and so does it at the ideal numbers. -/
theorem framePI : Cert.quiescent_MmOutIdeal := fun m ρ _ => Cert.MmOutIdeal.Gen.frame m ρ

/-- The reference runs, keeps its arguments and ends quiescent. -/
theorem frameRI : Cert.quiescent_MmOutRefIdeal := fun m ρ _ =>
  (θ_run Cert.MmOutRefIdeal.defs _ _).mono (fun r h => ⟨fun c => (h c).2.2,
      Idealize.ShloMosaic.sem_eq_zero_of_no_sems (by decide) r.2⟩) (Cert.MmOutRefIdeal.Value.run (F := Ideal) m ρ)

/-- Kernel and reference compute the same results. -/
theorem algebraic : Cert.algebraic_MmOutIdeal_MmOutRefIdeal := by
  intro m ρ m' ρ' hpre hag
  refine ⟨fun c => r4 m c, fun c => r5 m c, ?_, ?_⟩
  · exact (θ_run Cert.MmOutIdeal.defs _ _).mono (fun r h c => ⟨((h c).1).trans (final4 m c), ((h c).2.1).trans (final5 m c), (h c).2.2⟩) (Cert.MmOutIdeal.Value.run_blocks m ρ)
  · refine (θ_run Cert.MmOutRefIdeal.defs _ _).mono (fun r h c => ?_) (Cert.MmOutRefIdeal.Value.run (F := Ideal) m' ρ')
    obtain ⟨g0, g1, g2, g3⟩ := hag c
    refine ⟨((h c).1).trans ?_, ((h c).2.1).trans ?_, (h c).2.2⟩ <;> clear h
    · rw [Cert.MmOutRefIdeal.Read.val_main_v3_eq]
      try rw [g0]
      try rw [g1]
      try rw [g2]
      try rw [g3]
      exact ref4 _ _ _ _
    · rw [Cert.MmOutRefIdeal.Read.val_main_v18_eq]
      try rw [g0]
      try rw [g1]
      try rw [g2]
      try rw [g3]
      exact ref5 _ _ _ _

end Cert.MmOutClaims

end
-- ==== Proof.FfnOut.lean ====
/-
  The feed-forward's output projection: the residual stream and its normalised rows.
-/
module

public import proofs.«01_k».proof.Defs
public import proofs.«01_k».proof.Proof.Tiles
public import proofs.«01_k».proof.Proof.RowNorm
public import proofs.«01_k».proof.Proof.Gen.FfnOut.Frame
public import proofs.«01_k».proof.Proof.Gen.FfnOutIdeal.Value
public import proofs.«01_k».proof.Proof.Gen.FfnOutRefIdeal.Read
public import proofs.«01_k».proof.Proof.Gen.FfnOutRefIdeal.Run
public import Idealize.ShloMosaic.Lib.Tactic

@[expose] public section

set_option maxRecDepth 16384

noncomputable section

namespace Cert.FfnOutIdeal.Pay

open Idealize.ShloMosaic Idealize.ShloMosaic.TcCoe Idealize.SL.Sem Cert.FfnOutIdeal Cert.FfnOutIdeal.Gen Cert.Tiles
open Idealize.ShloMosaic.Pipeline (Dat)

variable (m : (ℓ : Loc nD τ sig) → Buf (Elt Ideal) ℓ)

open Cert.RowNorm

theorem at0 : ∀ t : Fin grid0.N, win0_0.index t 0 = t.val ∧ win0_0.index t 1 = 0 := by decide +kernel

/-- An element of a block of window 0 is the array's. -/
theorem blk0 (c : Dev nD) (t : Fin cfg0.N) (i : Fin 1024) (l : Fin 2816) (p : Fin 2048) (q : Fin 2816) (hp : p.val = 1024 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 1024 + 1 * i.val = p.val; rw [(at0 t).1]; omega
  · show win0_0.index t 1 * 2816 + 1 * l.val = q.val; rw [(at0 t).2]; omega

theorem at1 : ∀ t : Fin grid0.N, win0_1.index t 0 = 0 ∧ win0_1.index t 1 = 0 := by decide +kernel

/-- An element of a block of window 1 is the array's. -/
theorem blk1 (c : Dev nD) (t : Fin cfg0.N) (i : Fin 2816) (l : Fin 1024) (p : Fin 2816) (q : Fin 1024) (hp : p.val = i.val) (hq : q.val = l.val) :
    (iblk m c 1 t (ix2 i l) : EReal) = m (c.tc.loc main_arg1) (ix2 p q) := by
  refine congrArg (m (c.tc.loc main_arg1)) (ext2 ?_ ?_)
  · show win0_1.index t 0 * 2816 + 1 * i.val = p.val; rw [(at1 t).1]; omega
  · show win0_1.index t 1 * 1024 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 1024) (l : Fin 1024) (p : Fin 2048) (q : Fin 1024) (hp : p.val = 1024 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 1024 + 1 * i.val = p.val; rw [(at2 t).1]; omega
  · show win0_2.index t 1 * 1024 + 1 * l.val = q.val; rw [(at2 t).2]; omega

theorem at3 : ∀ t : Fin grid0.N, win0_3.index t 0 = 0 ∧ win0_3.index t 1 = 0 := by decide +kernel

/-- An element of a block of window 3 is the array's. -/
theorem blk3 (c : Dev nD) (t : Fin cfg0.N) (i : Fin 1) (l : Fin 1024) (p : Fin 1) (q : Fin 1024) (hp : p.val = i.val) (hq : q.val = l.val) :
    (iblk m c 3 t (ix2 i l) : EReal) = m (c.tc.loc main_arg3) (ix2 p q) := by
  refine congrArg (m (c.tc.loc main_arg3)) (ext2 ?_ ?_)
  · show win0_3.index t 0 * 1 + 1 * i.val = p.val; rw [(at3 t).1]; omega
  · show win0_3.index t 1 * 1024 + 1 * l.val = q.val; rw [(at3 t).2]; omega

theorem at4 : ∀ t : Fin grid0.N, win0_4.index t 0 = t.val ∧ win0_4.index t 1 = 0 := by decide +kernel

theorem at5 : ∀ t : Fin grid0.N, win0_5.index t 0 = t.val ∧ win0_5.index t 1 = 0 := by decide +kernel

/-- The residual stream after the layer's half. -/
def res4 (x0 : Mat 2048 2816) (x1 : Mat 2816 1024) (x2 : Mat 2048 1024) (x3 : Mat 1 1024) : Mat 2048 1024 := fun i => x2 i + mul (k := 2816) x0 x1 i
/-- … and its rows normalised. -/
def res5 (x0 : Mat 2048 2816) (x1 : Mat 2816 1024) (x2 : Mat 2048 1024) (x3 : Mat 1 1024) : Mat 2048 1024 := rmsNorm (res4 x0 x1 x2 x3) x3

/-- The kernel's result in window 4. -/
def r4 (c : Dev nD) : Mat 2048 1024 := res4 (m (c.tc.loc main_arg0)) (m (c.tc.loc main_arg1)) (m (c.tc.loc main_arg2)) (m (c.tc.loc main_arg3))

/-- The kernel's result in window 5. -/
def r5 (c : Dev nD) : Mat 2048 1024 := res5 (m (c.tc.loc main_arg0)) (m (c.tc.loc main_arg1)) (m (c.tc.loc main_arg2)) (m (c.tc.loc main_arg3))

/-- A block's residual stream. -/
theorem sum0 (c : Dev nD) (t : Fin cfg0.N) (i : Fin 1024) (l : Fin 1024) (p : Fin 2048) (q : Fin 1024) (hp : p.val = 1024 * t.val + i.val) (hq : q.val = l.val) :
    k0_pay1 (F := Ideal) (iblk m c 0 t) (iblk m c 1 t) (iblk m c 2 t) (ix2 i l) = r4 m c (ix2 p q) := by
  have ea : ∀ k : Fin 2816, (iblk m c 0 t (ix2 i k) : EReal) = m (c.tc.loc main_arg0) (ix2 p k) := fun k => blk0 m c t i k p k hp rfl
  have eb : ∀ k : Fin 2816, (iblk m c 1 t (ix2 k l) : EReal) = m (c.tc.loc main_arg1) (ix2 k q) := fun k => blk1 m c t k l k q rfl hq
  have e2 : (iblk m c 2 t (ix2 i l) : EReal) = m (c.tc.loc main_arg2) (ix2 p q) := blk2 m c t i l p q hp hq
  refine Eq.trans ?_ (congrArg₂ (fun a b : EReal => a + b) e2 (Finset.sum_congr (s₁ := (Finset.univ : Finset (Fin 2816))) rfl fun k _ => congrArg₂ (fun a b : EReal => a * b) (ea k) (eb k)))
  generalize iblk m c 0 t = a
  generalize iblk m c 1 t = b
  generalize iblk m c 2 t = x
  pointwise [k0_pay1]
  exact add_comm _ _

/-- A block's normalised rows, from its residual stream. -/
theorem norm0 (v0 : FVec Ideal S1024x2816 .bf16) (v1 : FVec Ideal S2816x1024 .bf16) (v3 : FVec Ideal S1024x1024 .f32) (v16 : FVec Ideal S1x1024 .f32) (i : Fin 1024) (l : Fin 1024) :
    k0_pay2 (F := Ideal) v0 v1 v3 v16 (ix2 i l) = rmsNorm (k0_pay1 (F := Ideal) v0 v1 v3) v16 (ix2 i l) := by
  unfold k0_pay2 rmsNorm ms
  generalize k0_pay1 (F := Ideal) v0 v1 v3 = y
  pointwise

theorem out4 (c : Dev nD) (t : Fin cfg0.N) (i : Fin 1024) (l : Fin 1024) (p : Fin 2048) (q : Fin 1024) (hp : p.val = 1024 * t.val + i.val) (hq : q.val = l.val) :
    out0_4 (iblk m c 0 t) (iblk m c 1 t) (iblk m c 2 t) (iblk m c 3 t) (ix2 i l) = r4 m c (ix2 p q) := by
  unfold out0_4
  rw [View.canon_unit_zero hz]
  simp only [View.ld_unit_zero (S := S1024x2816) hz, View.ld_unit_zero (S := S2816x1024) hz, View.ld_unit_zero (S := S1024x1024) hz, View.ld_unit_zero (S := S1x1024) hz]
  exact sum0 m c t i l p q hp hq

theorem out5 (c : Dev nD) (t : Fin cfg0.N) (i : Fin 1024) (l : Fin 1024) (p : Fin 2048) (q : Fin 1024) (hp : p.val = 1024 * t.val + i.val) (hq : q.val = l.val) :
    out0_5 (iblk m c 0 t) (iblk m c 1 t) (iblk m c 2 t) (iblk m c 3 t) (ix2 i l) = r5 m c (ix2 p q) := by
  unfold out0_5
  rw [View.canon_unit_zero hz]
  simp only [View.ld_unit_zero (S := S1024x2816) hz, View.ld_unit_zero (S := S2816x1024) hz, View.ld_unit_zero (S := S1024x1024) hz, View.ld_unit_zero (S := S1x1024) hz]
  refine (norm0 _ _ _ _ i l).trans ?_
  have e : ∀ k : Fin 1024, k0_pay1 (F := Ideal) (iblk m c 0 t) (iblk m c 1 t) (iblk m c 2 t) (ix2 i k) = r4 m c (ix2 p k) := fun k => sum0 m c t i k p k hp rfl
  have e3 : (iblk m c 3 t (ix2 0 l) : EReal) = m (c.tc.loc main_arg3) (ix2 0 q) := blk3 m c t 0 l 0 q rfl hq
  refine congrArg₂ (fun a b : EReal => a * b) (congrArg₂ (fun a b : EReal => a * b) (sum0 m c t i l p q hp hq) (congrArg (fun z : EReal => Ideal.rsqrt (Ideal.div z _ + _)) ?_)) e3
  exact Finset.sum_congr rfl fun k _ => congrArg₂ (fun a b : EReal => a * b) (e k) (e k)

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 1024) (n1 := 1024) x
  refine (out4 m c t i l ((((cfg0.win 4).blk t).view.emb (ix2 i l) : S2048x1024.Idx) 0) ((((cfg0.win 4).blk t).view.emb (ix2 i l) : S2048x1024.Idx) 1) ?_ ?_).trans (congrArg (r4 m c) (eta2 _).symm)
  · show win0_4.index t 0 * 1024 + 1 * i.val = _; rw [(at4 t).1]; omega
  · show win0_4.index t 1 * 1024 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 2048 := (i 0).isLt
    have h1 : (i 1 : Nat) < 1024 := (i 1).isLt
    have hN : cfg0.N = 2 := N_0
    have ht : ((i 0 : Nat) / 1024) < cfg0.N := by omega
    refine ⟨⟨((i 0 : Nat) / 1024), ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 1024 ≤ (i 0 : Nat) ∧ (i 0 : Nat) < win0_4.index ⟨_, ht⟩ 0 * 1024 + 1024
                rw [(at4 ⟨_, ht⟩).1]; try dsimp only
                omega
    | ⟨1, _⟩ => show win0_4.index ⟨_, ht⟩ 1 * 1024 ≤ (i 1 : Nat) ∧ (i 1 : Nat) < win0_4.index ⟨_, ht⟩ 1 * 1024 + 1024
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 1024) (n1 := 1024) x
  refine (out5 m c t i l ((((cfg0.win 5).blk t).view.emb (ix2 i l) : S2048x1024.Idx) 0) ((((cfg0.win 5).blk t).view.emb (ix2 i l) : S2048x1024.Idx) 1) ?_ ?_).trans (congrArg (r5 m c) (eta2 _).symm)
  · show win0_5.index t 0 * 1024 + 1 * i.val = _; rw [(at5 t).1]; omega
  · show win0_5.index t 1 * 1024 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 2048 := (i 0).isLt
    have h1 : (i 1 : Nat) < 1024 := (i 1).isLt
    have hN : cfg0.N = 2 := N_0
    have ht : ((i 0 : Nat) / 1024) < cfg0.N := by omega
    refine ⟨⟨((i 0 : Nat) / 1024), ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 1024 ≤ (i 0 : Nat) ∧ (i 0 : Nat) < win0_5.index ⟨_, ht⟩ 0 * 1024 + 1024
                rw [(at5 ⟨_, ht⟩).1]; try dsimp only
                omega
    | ⟨1, _⟩ => show win0_5.index ⟨_, ht⟩ 1 * 1024 ≤ (i 1 : Nat) ∧ (i 1 : Nat) < win0_5.index ⟨_, ht⟩ 1 * 1024 + 1024
                rw [(at5 ⟨_, ht⟩).2]; try dsimp only
                omega

section
open Cert.FfnOutRefIdeal.Read
variable (x0 : Mat 2048 2816) (x1 : Mat 2816 1024) (x2 : Mat 2048 1024) (x3 : Mat 1 1024)

theorem ref4 : val_main_v3 (F := Ideal) x0 x1 x2 = res4 x0 x1 x2 x3 := by
  funext x
  obtain ⟨i, j, rfl⟩ := pair (n0 := 2048) (n1 := 1024) x
  rw [val_main_v3_apply, val_main_v2_apply]
  unfold res4
  refine congrArg (fun a : EReal => x2 (ix2 i j) + a) (Finset.sum_congr rfl fun k _ => ?_)
  rw [val_main_v0_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem ref5 : val_main_v18 (F := Ideal) x0 x1 x2 x3 = res5 x0 x1 x2 x3 := by
  funext x
  obtain ⟨i, j, rfl⟩ := pair (n0 := 2048) (n1 := 1024) x
  rw [val_main_v18_apply, val_main_v17_apply, val_main_v14_apply, val_main_v13_apply, val_main_v12_apply, val_main_v11_apply, val_main_v10_apply, val_main_v9_apply,
    val_main_v8_apply, val_main_v7_apply, val_main_v6_apply, val_main_v16_apply, val_main_v15_apply, val_main_v4_apply, val_main_cst_apply, val_main_cst_0_apply, val_main_cst_1_apply, ref4 x0 x1 x2 x3]
  unfold res5 rmsNorm ms
  refine congrArg₂ (fun a b : EReal => a * b) (congrArg (fun z : EReal => res4 x0 x1 x2 x3 (ix2 i j) * Ideal.rsqrt (Ideal.div z _ + _)) ?_) (congrArg x3 (funext fun a => match a with | ⟨0, _⟩ => rfl | ⟨1, _⟩ => Fin.ext (by first | rfl | exact Nat.mod_eq_of_lt j.isLt)))
  show Ideal.ofBits .f32 0x00000000#32 + _ = _
  rw [Ideal.ofBits_zero_f32, zero_add]
  refine Finset.sum_congr rfl fun k _ => ?_
  rw [val_main_v5_apply, ref4 x0 x1 x2 x3]
  exact congrArg (fun z : EReal => z * z) (congrArg (res4 x0 x1 x2 x3) (funext fun a => match a with | ⟨0, _⟩ => rfl | ⟨1, _⟩ => rfl))

end

end Cert.FfnOutIdeal.Pay

namespace Cert.FfnOutClaims

open Idealize.ShloMosaic Idealize.ShloMosaic.TcCoe Idealize.SL.Sem Cert.Tiles Cert.FfnOutIdeal.Pay

attribute [local instance] Cert.FfnOut.Gen.facts Cert.FfnOutIdeal.Gen.facts Cert.FfnOutRefIdeal.Gen.facts

/-- The kernel runs, keeps its arguments and ends quiescent. -/
theorem frameP : Cert.quiescent_FfnOut := fun m ρ _ => Cert.FfnOut.Gen.frame m ρ

/-- … and so does it at the ideal numbers. -/
theorem framePI : Cert.quiescent_FfnOutIdeal := fun m ρ _ => Cert.FfnOutIdeal.Gen.frame m ρ

/-- The reference runs, keeps its arguments and ends quiescent. -/
theorem frameRI : Cert.quiescent_FfnOutRefIdeal := fun m ρ _ =>
  (θ_run Cert.FfnOutRefIdeal.defs _ _).mono (fun r h => ⟨fun c => (h c).2.2,
      Idealize.ShloMosaic.sem_eq_zero_of_no_sems (by decide) r.2⟩) (Cert.FfnOutRefIdeal.Value.run (F := Ideal) m ρ)

/-- Kernel and reference compute the same results. -/
theorem algebraic : Cert.algebraic_FfnOutIdeal_FfnOutRefIdeal := by
  intro m ρ m' ρ' hpre hag
  refine ⟨fun c => r4 m c, fun c => r5 m c, ?_, ?_⟩
  · exact (θ_run Cert.FfnOutIdeal.defs _ _).mono (fun r h c => ⟨((h c).1).trans (final4 m c), ((h c).2.1).trans (final5 m c), (h c).2.2⟩) (Cert.FfnOutIdeal.Value.run_blocks m ρ)
  · refine (θ_run Cert.FfnOutRefIdeal.defs _ _).mono (fun r h c => ?_) (Cert.FfnOutRefIdeal.Value.run (F := Ideal) m' ρ')
    obtain ⟨g0, g1, g2, g3⟩ := hag c
    refine ⟨((h c).1).trans ?_, ((h c).2.1).trans ?_, (h c).2.2⟩ <;> clear h
    · rw [Cert.FfnOutRefIdeal.Read.val_main_v3_eq]
      try rw [g0]
      try rw [g1]
      try rw [g2]
      try rw [g3]
      exact ref4 _ _ _ _
    · rw [Cert.FfnOutRefIdeal.Read.val_main_v18_eq]
      try rw [g0]
      try rw [g1]
      try rw [g2]
      try rw [g3]
      exact ref5 _ _ _ _

end Cert.FfnOutClaims

end
-- ==== Proof.FfnOutLast.lean ====
/-
  The last layer's feed-forward output with its residual.
-/
module

public import proofs.«01_k».proof.Defs
public import proofs.«01_k».proof.Proof.Tiles
public import proofs.«01_k».proof.Proof.Gen.FfnOutLast.Frame
public import proofs.«01_k».proof.Proof.Gen.FfnOutLastIdeal.Value
public import proofs.«01_k».proof.Proof.Gen.FfnOutLastRefIdeal.Read
public import proofs.«01_k».proof.Proof.Gen.FfnOutLastRefIdeal.Run
public import Idealize.ShloMosaic.Lib.Tactic

@[expose] public section

set_option maxRecDepth 16384

noncomputable section

namespace Cert.FfnOutLastIdeal.Pay

open Idealize.ShloMosaic Idealize.ShloMosaic.TcCoe Idealize.SL.Sem Cert.FfnOutLastIdeal Cert.FfnOutLastIdeal.Gen Cert.Tiles
open Idealize.ShloMosaic.Pipeline (Dat)

variable (m : (ℓ : Loc nD τ sig) → Buf (Elt Ideal) ℓ)

theorem at0 : ∀ t : Fin grid0.N, win0_0.index t 0 = t.val / 2 ∧ win0_0.index t 1 = 0 := by decide +kernel

/-- An element of a block of window 0 is the array's. -/
theorem blk0 (c : Dev nD) (t : Fin cfg0.N) (i : Fin 1024) (l : Fin 2816) (p : Fin 2048) (q : Fin 2816) (hp : p.val = 1024 * (t.val / 2) + i.val) (hq : q.val = l.val) :
    (iblk m c 0 t (ix2 i l) : EReal) = m (c.tc.loc main_arg0) (ix2 p q) := by
  refine congrArg (m (c.tc.loc main_arg0)) (ext2 ?_ ?_)
  · show win0_0.index t 0 * 1024 + 1 * i.val = p.val; rw [(at0 t).1]; omega
  · show win0_0.index t 1 * 2816 + 1 * l.val = q.val; rw [(at0 t).2]; omega

theorem at1 : ∀ t : Fin grid0.N, win0_1.index t 0 = 0 ∧ win0_1.index t 1 = t.val % 2 := by decide +kernel

/-- An element of a block of window 1 is the array's. -/
theorem blk1 (c : Dev nD) (t : Fin cfg0.N) (i : Fin 2816) (l : Fin 512) (p : Fin 2816) (q : Fin 1024) (hp : p.val = i.val) (hq : q.val = 512 * (t.val % 2) + l.val) :
    (iblk m c 1 t (ix2 i l) : EReal) = m (c.tc.loc main_arg1) (ix2 p q) := by
  refine congrArg (m (c.tc.loc main_arg1)) (ext2 ?_ ?_)
  · show win0_1.index t 0 * 2816 + 1 * i.val = p.val; rw [(at1 t).1]; omega
  · show win0_1.index t 1 * 512 + 1 * l.val = q.val; rw [(at1 t).2]; omega

theorem at2 : ∀ t : Fin grid0.N, win0_2.index t 0 = t.val / 2 ∧ win0_2.index t 1 = t.val % 2 := by decide +kernel

/-- An element of a block of window 2 is the array's. -/
theorem blk2 (c : Dev nD) (t : Fin cfg0.N) (i : Fin 1024) (l : Fin 512) (p : Fin 2048) (q : Fin 1024) (hp : p.val = 1024 * (t.val / 2) + i.val) (hq : q.val = 512 * (t.val % 2) + l.val) :
    (iblk m c 2 t (ix2 i l) : EReal) = m (c.tc.loc main_arg2) (ix2 p q) := by
  refine congrArg (m (c.tc.loc main_arg2)) (ext2 ?_ ?_)
  · show win0_2.index t 0 * 1024 + 1 * i.val = p.val; rw [(at2 t).1]; omega
  · show win0_2.index t 1 * 512 + 1 * l.val = q.val; rw [(at2 t).2]; omega

theorem at3 : ∀ t : Fin grid0.N, win0_3.index t 0 = t.val / 2 ∧ win0_3.index t 1 = t.val % 2 := by decide +kernel

/-- The result. -/
def res (x0 : Mat 2048 2816) (x1 : Mat 2816 1024) (x2 : Mat 2048 1024) : Mat 2048 1024 := plus x2 (mul (k := 2816) x0 x1)

/-- The kernel's result. -/
def r3 (c : Dev nD) : Mat 2048 1024 := res (m (c.tc.loc main_arg0)) (m (c.tc.loc main_arg1)) (m (c.tc.loc main_arg2))

/-- What a grid point leaves in its block. -/
theorem out3 (c : Dev nD) (t : Fin cfg0.N) (i : Fin 1024) (l : Fin 512) (p : Fin 2048) (q : Fin 1024) (hp : p.val = 1024 * (t.val / 2) + i.val) (hq : q.val = 512 * (t.val % 2) + l.val) :
    out0_3 (iblk m c 0 t) (iblk m c 1 t) (iblk m c 2 t) (ix2 i l) = r3 m c (ix2 p q) := by
  unfold out0_3
  rw [View.canon_unit_zero hz]
  simp only [View.ld_unit_zero (S := S1024x2816) hz, View.ld_unit_zero (S := S2816x512) hz, View.ld_unit_zero (S := S1024x512) hz]
  have ea : ∀ k : Fin 2816, (iblk m c 0 t (ix2 i k) : EReal) = m (c.tc.loc main_arg0) (ix2 p k) := fun k => blk0 m c t i k p k hp rfl
  have eb : ∀ k : Fin 2816, (iblk m c 1 t (ix2 k l) : EReal) = m (c.tc.loc main_arg1) (ix2 k q) := fun k => blk1 m c t k l k q rfl hq
  have ed : (iblk m c 2 t (ix2 i l) : EReal) = m (c.tc.loc main_arg2) (ix2 p q) := blk2 m c t i l p q hp hq
  refine Eq.trans ?_ (congrArg₂ (fun a b : EReal => a + b) ed (Finset.sum_congr (s₁ := (Finset.univ : Finset (Fin 2816))) rfl fun k _ => congrArg₂ (fun a b : EReal => a * b) (ea k) (eb k)))
  generalize iblk m c 2 t = d
  generalize iblk m c 0 t = a
  generalize iblk m c 1 t = b
  pointwise [k0_pay1]
  exact add_comm _ _

/-- What a grid point writes back to window 3. -/
theorem flushed3_eq (c : Dev nD) (t : Fin cfg0.N) : (dats m 0 c).flushed 3 t = ((cfg0.win 3).blk t).view.read (Elt Ideal) (r3 m c) := by
  rw [Value.flushed3]
  funext x
  rw [View.read_apply]
  obtain ⟨i, l, rfl⟩ := pair (n0 := 1024) (n1 := 512) x
  refine (out3 m c t i l ((((cfg0.win 3).blk t).view.emb (ix2 i l) : S2048x1024.Idx) 0) ((((cfg0.win 3).blk t).view.emb (ix2 i l) : S2048x1024.Idx) 1) ?_ ?_).trans (congrArg (r3 m c) (eta2 _).symm)
  · show win0_3.index t 0 * 1024 + 1 * i.val = _; rw [(at3 t).1]; omega
  · show win0_3.index t 1 * 512 + 1 * l.val = _; rw [(at3 t).2]; omega

/-- The array of window 3 at the end. -/
theorem final3 (c : Dev nD) : (dats m 0 c).arrAt 3 cfg0.N = r3 m c :=
  (dats m 0 c).arrAt_eq_of_cover 3 (r3 m c) (fun t _ => flushed3_eq m c t) fun i => by
    have h0 : (i 0 : Nat) < 2048 := (i 0).isLt
    have h1 : (i 1 : Nat) < 1024 := (i 1).isLt
    have hN : cfg0.N = 4 := N_0
    have ht : ((i 0 : Nat) / 1024) * 2 + ((i 1 : Nat) / 512) < cfg0.N := by omega
    refine ⟨⟨((i 0 : Nat) / 1024) * 2 + ((i 1 : Nat) / 512), ht⟩, flush0_3 _, ?_⟩
    show i ∈ ((View.whole main_v0).slice (win0_3.rect ⟨_, ht⟩)).set
    rw [View.set_slice_whole, Rect.mem_set_unit]
    intro a
    match a with
    | ⟨0, _⟩ => show win0_3.index ⟨_, ht⟩ 0 * 1024 ≤ (i 0 : Nat) ∧ (i 0 : Nat) < win0_3.index ⟨_, ht⟩ 0 * 1024 + 1024
                rw [(at3 ⟨_, ht⟩).1]; try dsimp only
                omega
    | ⟨1, _⟩ => show win0_3.index ⟨_, ht⟩ 1 * 512 ≤ (i 1 : Nat) ∧ (i 1 : Nat) < win0_3.index ⟨_, ht⟩ 1 * 512 + 512
                rw [(at3 ⟨_, ht⟩).2]; try dsimp only
                omega

open Cert.FfnOutLastRefIdeal.Read in
/-- The reference's result. -/
theorem ref3 (x0 : Mat 2048 2816) (x1 : Mat 2816 1024) (x2 : Mat 2048 1024) : val_main_v3 (F := Ideal) x0 x1 x2 = res x0 x1 x2 := by
  funext x
  obtain ⟨i, j, rfl⟩ := pair (n0 := 2048) (n1 := 1024) x
  rw [val_main_v3_apply, val_main_v2_apply]
  refine congrArg (fun b : EReal => x2 (ix2 i j) + b) ?_
  refine Finset.sum_congr rfl fun k _ => ?_
  rw [val_main_v0_apply, val_main_v1_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

end Cert.FfnOutLastIdeal.Pay

namespace Cert.FfnOutLastClaims

open Idealize.ShloMosaic Idealize.ShloMosaic.TcCoe Idealize.SL.Sem Cert.Tiles Cert.FfnOutLastIdeal.Pay

attribute [local instance] Cert.FfnOutLast.Gen.facts Cert.FfnOutLastIdeal.Gen.facts Cert.FfnOutLastRefIdeal.Gen.facts

/-- The kernel runs, keeps its arguments and ends quiescent. -/
theorem frameP : Cert.quiescent_FfnOutLast := fun m ρ _ => Cert.FfnOutLast.Gen.frame m ρ

/-- … and so does it at the ideal numbers. -/
theorem framePI : Cert.quiescent_FfnOutLastIdeal := fun m ρ _ => Cert.FfnOutLastIdeal.Gen.frame m ρ

/-- The reference runs, keeps its arguments and ends quiescent. -/
theorem frameRI : Cert.quiescent_FfnOutLastRefIdeal := fun m ρ _ =>
  (θ_run Cert.FfnOutLastRefIdeal.defs _ _).mono (fun r h => ⟨fun c => (h c).2,
      Idealize.ShloMosaic.sem_eq_zero_of_no_sems (by decide) r.2⟩) (Cert.FfnOutLastRefIdeal.Value.run (F := Ideal) m ρ)

/-- Kernel and reference compute the same results. -/
theorem algebraic : Cert.algebraic_FfnOutLastIdeal_FfnOutLastRefIdeal := by
  intro m ρ m' ρ' hpre hag
  refine ⟨fun c => r3 m c, ?_, ?_⟩
  · exact (θ_run Cert.FfnOutLastIdeal.defs _ _).mono (fun r h c => ⟨((h c).1).trans (final3 m c), (h c).2⟩) (Cert.FfnOutLastIdeal.Value.run_blocks m ρ)
  · refine (θ_run Cert.FfnOutLastRefIdeal.defs _ _).mono (fun r h c => ?_) (Cert.FfnOutLastRefIdeal.Value.run (F := Ideal) m' ρ')
    obtain ⟨g0, g1, g2⟩ := hag c
    refine ⟨((h c).1).trans ?_, (h c).2⟩
    · rw [Cert.FfnOutLastRefIdeal.Read.val_main_v3_eq, g0, g1, g2]
      exact ref3 _ _ _

end Cert.FfnOutLastClaims

end
-- ==== Proof.FfnIn.lean ====
/-
  The feed-forward's input product: both halves, and the first half's swish times the second.
-/
module

public import proofs.«01_k».proof.Defs
public import proofs.«01_k».proof.Proof.Tiles
public import proofs.«01_k».proof.Proof.Swish
public import proofs.«01_k».proof.Proof.Gen.FfnIn.Frame
public import proofs.«01_k».proof.Proof.Gen.FfnInIdeal.Value
public import proofs.«01_k».proof.Proof.Gen.FfnInRefIdeal.Read
public import proofs.«01_k».proof.Proof.Gen.FfnInRefIdeal.Run
public import Idealize.ShloMosaic.Lib.Tactic

@[expose] public section

set_option maxRecDepth 16384

noncomputable section

namespace Cert.FfnInIdeal.Pay

open Idealize.ShloMosaic Idealize.ShloMosaic.TcCoe Idealize.SL.Sem Cert.FfnInIdeal Cert.FfnInIdeal.Gen Cert.Tiles
open Idealize.ShloMosaic.Pipeline (Dat)

variable (m : (ℓ : Loc nD τ sig) → Buf (Elt Ideal) ℓ)

open Cert.Swish

theorem at0 : ∀ t : Fin grid0.N, win0_0.index t 0 = 0 ∧ win0_0.index t 1 = 0 := by decide +kernel

/-- An element of a block of window 0 is the array's. -/
theorem blk0 (c : Dev nD) (t : Fin cfg0.N) (i : Fin 2048) (l : Fin 1024) (p : Fin 2048) (q : Fin 1024) (hp : p.val = i.val) (hq : q.val = l.val) :
    (iblk m c 0 t (ix2 i l) : EReal) = m (c.tc.loc main_arg0) (ix2 p q) := by
  refine congrArg (m (c.tc.loc main_arg0)) (ext2 ?_ ?_)
  · show win0_0.index t 0 * 2048 + 1 * i.val = p.val; rw [(at0 t).1]; omega
  · show win0_0.index t 1 * 1024 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 256) (l : Fin 1024) (p : Fin 5632) (q : Fin 1024) (hp : p.val = 256 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 256 + 1 * i.val = p.val; rw [(at1 t).1]; omega
  · show win0_1.index t 1 * 1024 + 1 * l.val = q.val; rw [(at1 t).2]; omega

theorem at2 : ∀ t : Fin grid0.N, win0_2.index t 0 = t.val + 11 ∧ win0_2.index t 1 = 0 := by decide +kernel

/-- An element of a block of window 2 is the array's. -/
theorem blk2 (c : Dev nD) (t : Fin cfg0.N) (i : Fin 256) (l : Fin 1024) (p : Fin 5632) (q : Fin 1024) (hp : p.val = 256 * (t.val + 11) + i.val) (hq : q.val = l.val) :
    (iblk m c 2 t (ix2 i l) : EReal) = m (c.tc.loc main_arg1) (ix2 p q) := by
  refine congrArg (m (c.tc.loc main_arg1)) (ext2 ?_ ?_)
  · show win0_2.index t 0 * 256 + 1 * i.val = p.val; rw [(at2 t).1]; omega
  · show win0_2.index t 1 * 1024 + 1 * l.val = q.val; rw [(at2 t).2]; omega

theorem at3 : ∀ t : Fin grid0.N, win0_3.index t 0 = 0 ∧ win0_3.index t 1 = t.val := by decide +kernel

theorem at4 : ∀ t : Fin grid0.N, win0_4.index t 0 = 0 ∧ win0_4.index t 1 = t.val := by decide +kernel

theorem at5 : ∀ t : Fin grid0.N, win0_5.index t 0 = 0 ∧ win0_5.index t 1 = t.val := by decide +kernel

/-- The first half. -/
def res3 (x0 : Mat 2048 1024) (x1 : Mat 5632 1024) : Mat 2048 2816 := mulTB (k := 1024) x0 (firstRows 2816 (by omega) x1)
/-- The second half. -/
def res4 (x0 : Mat 2048 1024) (x1 : Mat 5632 1024) : Mat 2048 2816 := mulTB (k := 1024) x0 (lastRows 2816 (by omega) x1)
/-- The first half's swish times the second half. -/
def res5 (x0 : Mat 2048 1024) (x1 : Mat 5632 1024) : Mat 2048 2816 := fun i => res3 x0 x1 i * logi (res3 x0 x1 i) * res4 x0 x1 i

/-- The kernel's result in window 3. -/
def r3 (c : Dev nD) : Mat 2048 2816 := res3 (m (c.tc.loc main_arg0)) (m (c.tc.loc main_arg1))

/-- The kernel's result in window 4. -/
def r4 (c : Dev nD) : Mat 2048 2816 := res4 (m (c.tc.loc main_arg0)) (m (c.tc.loc main_arg1))

/-- The kernel's result in window 5. -/
def r5 (c : Dev nD) : Mat 2048 2816 := res5 (m (c.tc.loc main_arg0)) (m (c.tc.loc main_arg1))

/-- A block's product for the first half. -/
theorem half0 (c : Dev nD) (t : Fin cfg0.N) (i : Fin 2048) (l : Fin 256) (p : Fin 2048) (q : Fin 2816) (hp : p.val = i.val) (hq : q.val = 256 * t.val + l.val) :
    k0_pay1 (F := Ideal) (iblk m c 0 t) (iblk m c 1 t) (ix2 i l) = r3 m c (ix2 p q) := by
  have ea : ∀ k : Fin 1024, (iblk m c 0 t (ix2 i k) : EReal) = m (c.tc.loc main_arg0) (ix2 p k) := fun k => blk0 m c t i k p k hp rfl
  have eb : ∀ k : Fin 1024, (iblk m c 1 t (ix2 l k) : EReal) = m (c.tc.loc main_arg1) (ix2 (⟨q.val, by omega⟩) k) := fun k => blk1 m c t l k ⟨q.val, by omega⟩ k hq rfl
  refine Eq.trans ?_ (Finset.sum_congr (s₁ := (Finset.univ : Finset (Fin 1024))) rfl fun k _ => congrArg₂ (fun a b : EReal => a * b) (ea k) (eb k))
  generalize iblk m c 0 t = a
  generalize iblk m c 1 t = b
  pointwise [k0_pay1]

/-- A block's product for the second half. -/
theorem half1 (c : Dev nD) (t : Fin cfg0.N) (i : Fin 2048) (l : Fin 256) (p : Fin 2048) (q : Fin 2816) (hp : p.val = i.val) (hq : q.val = 256 * t.val + l.val) :
    k0_pay2 (F := Ideal) (iblk m c 0 t) (iblk m c 2 t) (ix2 i l) = r4 m c (ix2 p q) := by
  have ea : ∀ k : Fin 1024, (iblk m c 0 t (ix2 i k) : EReal) = m (c.tc.loc main_arg0) (ix2 p k) := fun k => blk0 m c t i k p k hp rfl
  have eb : ∀ k : Fin 1024, (iblk m c 2 t (ix2 l k) : EReal) = m (c.tc.loc main_arg1) (ix2 (⟨2816 + q.val, by omega⟩) k) := fun k => blk2 m c t l k ⟨2816 + q.val, by omega⟩ k (by show 2816 + q.val = _; omega) rfl
  refine Eq.trans ?_ (Finset.sum_congr (s₁ := (Finset.univ : Finset (Fin 1024))) rfl fun k _ => congrArg₂ (fun a b : EReal => a * b) (ea k) (eb k))
  generalize iblk m c 0 t = a
  generalize iblk m c 2 t = b
  pointwise [k0_pay2]

theorem out3 (c : Dev nD) (t : Fin cfg0.N) (i : Fin 2048) (l : Fin 256) (p : Fin 2048) (q : Fin 2816) (hp : p.val = i.val) (hq : q.val = 256 * t.val + l.val) :
    out0_3 (iblk m c 0 t) (iblk m c 1 t) (iblk m c 2 t) (ix2 i l) = r3 m c (ix2 p q) := by
  unfold out0_3
  rw [View.canon_unit_zero hz]
  simp only [View.ld_unit_zero (S := S2048x1024) hz, View.ld_unit_zero (S := S256x1024) hz]
  exact half0 m c t i l p q hp hq

theorem out4 (c : Dev nD) (t : Fin cfg0.N) (i : Fin 2048) (l : Fin 256) (p : Fin 2048) (q : Fin 2816) (hp : p.val = i.val) (hq : q.val = 256 * t.val + l.val) :
    out0_4 (iblk m c 0 t) (iblk m c 1 t) (iblk m c 2 t) (ix2 i l) = r4 m c (ix2 p q) := by
  unfold out0_4
  rw [View.canon_unit_zero hz]
  simp only [View.ld_unit_zero (S := S2048x1024) hz, View.ld_unit_zero (S := S256x1024) hz]
  exact half1 m c t i l p q hp hq

theorem out5 (c : Dev nD) (t : Fin cfg0.N) (i : Fin 2048) (l : Fin 256) (p : Fin 2048) (q : Fin 2816) (hp : p.val = i.val) (hq : q.val = 256 * t.val + l.val) :
    out0_5 (iblk m c 0 t) (iblk m c 1 t) (iblk m c 2 t) (ix2 i l) = r5 m c (ix2 p q) := by
  unfold out0_5
  rw [View.canon_unit_zero hz]
  simp only [View.ld_unit_zero (S := S2048x1024) hz, View.ld_unit_zero (S := S256x1024) hz]
  refine Eq.trans ?_ (congrArg₂ (fun a b : EReal => a * logi a * b) (half0 m c t i l p q hp hq) (half1 m c t i l p q hp hq))
  generalize iblk m c 0 t = a
  generalize iblk m c 1 t = b
  generalize iblk m c 2 t = d
  unfold k0_pay5
  generalize k0_pay1 (F := Ideal) a b = u
  generalize k0_pay2 (F := Ideal) a d = v
  exact congrArg (fun z => u (ix2 i l) * z * v (ix2 i l)) (logi_kernel (u (ix2 i l)))

/-- What a grid point writes back to window 3. -/
theorem flushed3_eq (c : Dev nD) (t : Fin cfg0.N) : (dats m 0 c).flushed 3 t = ((cfg0.win 3).blk t).view.read (Elt Ideal) (r3 m c) := by
  rw [Value.flushed3]
  funext x
  rw [View.read_apply]
  obtain ⟨i, l, rfl⟩ := pair (n0 := 2048) (n1 := 256) x
  refine (out3 m c t i l ((((cfg0.win 3).blk t).view.emb (ix2 i l) : S2048x2816.Idx) 0) ((((cfg0.win 3).blk t).view.emb (ix2 i l) : S2048x2816.Idx) 1) ?_ ?_).trans (congrArg (r3 m c) (eta2 _).symm)
  · show win0_3.index t 0 * 2048 + 1 * i.val = _; rw [(at3 t).1]; omega
  · show win0_3.index t 1 * 256 + 1 * l.val = _; rw [(at3 t).2]; omega

/-- The array of window 3 at the end. -/
theorem final3 (c : Dev nD) : (dats m 0 c).arrAt 3 cfg0.N = r3 m c :=
  (dats m 0 c).arrAt_eq_of_cover 3 (r3 m c) (fun t _ => flushed3_eq m c t) fun i => by
    have h0 : (i 0 : Nat) < 2048 := (i 0).isLt
    have h1 : (i 1 : Nat) < 2816 := (i 1).isLt
    have hN : cfg0.N = 11 := N_0
    have ht : ((i 1 : Nat) / 256) < cfg0.N := by omega
    refine ⟨⟨((i 1 : Nat) / 256), ht⟩, flush0_3 _, ?_⟩
    show i ∈ ((View.whole main_v0_0).slice (win0_3.rect ⟨_, ht⟩)).set
    rw [View.set_slice_whole, Rect.mem_set_unit]
    intro a
    match a with
    | ⟨0, _⟩ => show win0_3.index ⟨_, ht⟩ 0 * 2048 ≤ (i 0 : Nat) ∧ (i 0 : Nat) < win0_3.index ⟨_, ht⟩ 0 * 2048 + 2048
                rw [(at3 ⟨_, ht⟩).1]; try dsimp only
                omega
    | ⟨1, _⟩ => show win0_3.index ⟨_, ht⟩ 1 * 256 ≤ (i 1 : Nat) ∧ (i 1 : Nat) < win0_3.index ⟨_, ht⟩ 1 * 256 + 256
                rw [(at3 ⟨_, ht⟩).2]; try dsimp only
                omega

/-- What a grid point writes back to window 4. -/
theorem flushed4_eq (c : Dev nD) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 2048) (n1 := 256) x
  refine (out4 m c t i l ((((cfg0.win 4).blk t).view.emb (ix2 i l) : S2048x2816.Idx) 0) ((((cfg0.win 4).blk t).view.emb (ix2 i l) : S2048x2816.Idx) 1) ?_ ?_).trans (congrArg (r4 m c) (eta2 _).symm)
  · show win0_4.index t 0 * 2048 + 1 * i.val = _; rw [(at4 t).1]; omega
  · show win0_4.index t 1 * 256 + 1 * l.val = _; rw [(at4 t).2]; omega

/-- The array of window 4 at the end. -/
theorem final4 (c : Dev nD) : (dats m 0 c).arrAt 4 cfg0.N = r4 m c :=
  (dats m 0 c).arrAt_eq_of_cover 4 (r4 m c) (fun t _ => flushed4_eq m c t) fun i => by
    have h0 : (i 0 : Nat) < 2048 := (i 0).isLt
    have h1 : (i 1 : Nat) < 2816 := (i 1).isLt
    have hN : cfg0.N = 11 := N_0
    have ht : ((i 1 : Nat) / 256) < cfg0.N := by omega
    refine ⟨⟨((i 1 : Nat) / 256), ht⟩, flush0_4 _, ?_⟩
    show i ∈ ((View.whole main_v0_1).slice (win0_4.rect ⟨_, ht⟩)).set
    rw [View.set_slice_whole, Rect.mem_set_unit]
    intro a
    match a with
    | ⟨0, _⟩ => show win0_4.index ⟨_, ht⟩ 0 * 2048 ≤ (i 0 : Nat) ∧ (i 0 : Nat) < win0_4.index ⟨_, ht⟩ 0 * 2048 + 2048
                rw [(at4 ⟨_, ht⟩).1]; try dsimp only
                omega
    | ⟨1, _⟩ => show win0_4.index ⟨_, ht⟩ 1 * 256 ≤ (i 1 : Nat) ∧ (i 1 : Nat) < win0_4.index ⟨_, ht⟩ 1 * 256 + 256
                rw [(at4 ⟨_, ht⟩).2]; try dsimp only
                omega

/-- What a grid point writes back to window 5. -/
theorem flushed5_eq (c : Dev nD) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 2048) (n1 := 256) x
  refine (out5 m c t i l ((((cfg0.win 5).blk t).view.emb (ix2 i l) : S2048x2816.Idx) 0) ((((cfg0.win 5).blk t).view.emb (ix2 i l) : S2048x2816.Idx) 1) ?_ ?_).trans (congrArg (r5 m c) (eta2 _).symm)
  · show win0_5.index t 0 * 2048 + 1 * i.val = _; rw [(at5 t).1]; omega
  · show win0_5.index t 1 * 256 + 1 * l.val = _; rw [(at5 t).2]; omega

/-- The array of window 5 at the end. -/
theorem final5 (c : Dev nD) : (dats m 0 c).arrAt 5 cfg0.N = r5 m c :=
  (dats m 0 c).arrAt_eq_of_cover 5 (r5 m c) (fun t _ => flushed5_eq m c t) fun i => by
    have h0 : (i 0 : Nat) < 2048 := (i 0).isLt
    have h1 : (i 1 : Nat) < 2816 := (i 1).isLt
    have hN : cfg0.N = 11 := N_0
    have ht : ((i 1 : Nat) / 256) < cfg0.N := by omega
    refine ⟨⟨((i 1 : Nat) / 256), ht⟩, flush0_5 _, ?_⟩
    show i ∈ ((View.whole main_v0_2).slice (win0_5.rect ⟨_, ht⟩)).set
    rw [View.set_slice_whole, Rect.mem_set_unit]
    intro a
    match a with
    | ⟨0, _⟩ => show win0_5.index ⟨_, ht⟩ 0 * 2048 ≤ (i 0 : Nat) ∧ (i 0 : Nat) < win0_5.index ⟨_, ht⟩ 0 * 2048 + 2048
                rw [(at5 ⟨_, ht⟩).1]; try dsimp only
                omega
    | ⟨1, _⟩ => show win0_5.index ⟨_, ht⟩ 1 * 256 ≤ (i 1 : Nat) ∧ (i 1 : Nat) < win0_5.index ⟨_, ht⟩ 1 * 256 + 256
                rw [(at5 ⟨_, ht⟩).2]; try dsimp only
                omega

section
open Cert.FfnInRefIdeal.Read
variable (x0 : Mat 2048 1024) (x1 : Mat 5632 1024)

theorem g4 (i : Fin 2048) (j : Fin 2816) : val_main_v4 (F := Ideal) x0 x1 (ix2 i j) = res3 x0 x1 (ix2 i j) := by
  rw [val_main_v4_apply, val_main_v3_apply]
  unfold res3
  refine Finset.sum_congr rfl fun k _ => ?_
  rw [val_main_v2_apply, val_main_v1_apply, val_main_v0_apply]
  exact congrArg₂ (· * ·) (congrArg x0 (funext fun a => match a with | ⟨0, _⟩ => rfl | ⟨1, _⟩ => rfl)) (congrArg x1 (funext fun a => match a with | ⟨0, _⟩ => rfl | ⟨1, _⟩ => rfl))

theorem g5 (i : Fin 2048) (j : Fin 2816) : val_main_v5 (F := Ideal) x0 x1 (ix2 i j) = res4 x0 x1 (ix2 i j) := by
  rw [val_main_v5_apply, val_main_v3_apply]
  unfold res4
  refine Finset.sum_congr rfl fun k _ => ?_
  rw [val_main_v2_apply, val_main_v1_apply, val_main_v0_apply]
  exact congrArg₂ (· * ·) (congrArg x0 (funext fun a => match a with | ⟨0, _⟩ => rfl | ⟨1, _⟩ => rfl)) (congrArg x1 (funext fun a => Fin.ext (by
    match a with
    | ⟨0, _⟩ => first | rfl | exact Nat.add_comm _ _
    | ⟨1, _⟩ => rfl)))

theorem ref3 : val_main_v14 (F := Ideal) x0 x1 = res3 x0 x1 := by
  funext x
  obtain ⟨i, j, rfl⟩ := pair (n0 := 2048) (n1 := 2816) x
  exact g4 x0 x1 i j

theorem ref4 : val_main_v15 (F := Ideal) x0 x1 = res4 x0 x1 := by
  funext x
  obtain ⟨i, j, rfl⟩ := pair (n0 := 2048) (n1 := 2816) x
  exact g5 x0 x1 i j

theorem ref5 : val_main_v16 (F := Ideal) x0 x1 = res5 x0 x1 := by
  funext x
  obtain ⟨i, j, rfl⟩ := pair (n0 := 2048) (n1 := 2816) x
  rw [val_main_v16_apply, val_main_v13_apply, val_main_v12_apply, val_main_v11_apply, val_main_v10_apply, val_main_v9_apply, val_main_v8_apply, val_main_v7_apply, val_main_v6_apply, g4, g5, val_main_cst_apply, val_main_cst_0_apply]
  exact congrArg (fun z => res3 x0 x1 (ix2 i j) * z * res4 x0 x1 (ix2 i j)) (logi_ref (res3 x0 x1 (ix2 i j)))

end

end Cert.FfnInIdeal.Pay

namespace Cert.FfnInClaims

open Idealize.ShloMosaic Idealize.ShloMosaic.TcCoe Idealize.SL.Sem Cert.Tiles Cert.FfnInIdeal.Pay

attribute [local instance] Cert.FfnIn.Gen.facts Cert.FfnInIdeal.Gen.facts Cert.FfnInRefIdeal.Gen.facts

/-- The kernel runs, keeps its arguments and ends quiescent. -/
theorem frameP : Cert.quiescent_FfnIn := fun m ρ _ => Cert.FfnIn.Gen.frame m ρ

/-- … and so does it at the ideal numbers. -/
theorem framePI : Cert.quiescent_FfnInIdeal := fun m ρ _ => Cert.FfnInIdeal.Gen.frame m ρ

/-- The reference runs, keeps its arguments and ends quiescent. -/
theorem frameRI : Cert.quiescent_FfnInRefIdeal := fun m ρ _ =>
  (θ_run Cert.FfnInRefIdeal.defs _ _).mono (fun r h => ⟨fun c => (h c).2.2.2,
      Idealize.ShloMosaic.sem_eq_zero_of_no_sems (by decide) r.2⟩) (Cert.FfnInRefIdeal.Value.run (F := Ideal) m ρ)

/-- Kernel and reference compute the same results. -/
theorem algebraic : Cert.algebraic_FfnInIdeal_FfnInRefIdeal := by
  intro m ρ m' ρ' hpre hag
  refine ⟨fun c => r3 m c, fun c => r4 m c, fun c => r5 m c, ?_, ?_⟩
  · exact (θ_run Cert.FfnInIdeal.defs _ _).mono (fun r h c => ⟨((h c).1).trans (final3 m c), ((h c).2.1).trans (final4 m c), ((h c).2.2.1).trans (final5 m c), (h c).2.2.2⟩) (Cert.FfnInIdeal.Value.run_blocks m ρ)
  · refine (θ_run Cert.FfnInRefIdeal.defs _ _).mono (fun r h c => ?_) (Cert.FfnInRefIdeal.Value.run (F := Ideal) m' ρ')
    obtain ⟨g0, g1⟩ := hag c
    refine ⟨((h c).1).trans ?_, ((h c).2.1).trans ?_, ((h c).2.2.1).trans ?_, (h c).2.2.2⟩
    · rw [Cert.FfnInRefIdeal.Read.val_main_v14_eq, g0, g1]
      exact ref3 _ _
    · rw [Cert.FfnInRefIdeal.Read.val_main_v15_eq, g0, g1]
      exact ref4 _ _
    · rw [Cert.FfnInRefIdeal.Read.val_main_v16_eq, g0, g1]
      exact ref5 _ _

end Cert.FfnInClaims

end
-- ==== Proof.MergeFwd.lean ====
/-
  The merge of the four branches: each projected and gated, and their sum.
-/
module

public import proofs.«01_k».proof.Defs
public import proofs.«01_k».proof.Proof.Tiles
public import proofs.«01_k».proof.Proof.Merge
public import Idealize.ShloMosaic.Lib.Pipeline.ValueKit.Tiles
public import proofs.«01_k».proof.Proof.Gen.MergeFwd.Frame
public import proofs.«01_k».proof.Proof.Gen.MergeFwdIdeal.Value
public import proofs.«01_k».proof.Proof.Gen.MergeFwdRefIdeal.Read
public import proofs.«01_k».proof.Proof.Gen.MergeFwdRefIdeal.Run
public import Idealize.ShloMosaic.Lib.Tactic

@[expose] public section

set_option maxRecDepth 16384

noncomputable section

namespace Cert.MergeFwdIdeal.Pay

open Idealize.ShloMosaic Idealize.ShloMosaic.TcCoe Idealize.SL.Sem Cert.MergeFwdIdeal Cert.MergeFwdIdeal.Gen Cert.Tiles
open Idealize.ShloMosaic.Pipeline (Dat)

variable (m : (ℓ : Loc nD τ sig) → Buf (Elt Ideal) ℓ)

open Cert.Swish Cert.Merge

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 256) (p : Fin 2048) (q : Fin 256) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 256 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 256) (p : Fin 2048) (q : Fin 256) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 256 + 1 * l.val = q.val; rw [(at1 t).2]; omega

theorem at2 : ∀ t : Fin grid0.N, win0_2.index t 0 = t.val ∧ win0_2.index t 1 = 0 := by decide +kernel

/-- An element of a block of window 2 is the array's. -/
theorem blk2 (c : Dev nD) (t : Fin cfg0.N) (i : Fin 512) (l : Fin 256) (p : Fin 2048) (q : Fin 256) (hp : p.val = 512 * (t.val) + i.val) (hq : q.val = l.val) :
    (iblk m c 2 t (ix2 i l) : EReal) = m (c.tc.loc main_arg2) (ix2 p q) := by
  refine congrArg (m (c.tc.loc main_arg2)) (ext2 ?_ ?_)
  · show win0_2.index t 0 * 512 + 1 * i.val = p.val; rw [(at2 t).1]; omega
  · show win0_2.index t 1 * 256 + 1 * l.val = q.val; rw [(at2 t).2]; omega

theorem at3 : ∀ t : Fin grid0.N, win0_3.index t 0 = t.val ∧ win0_3.index t 1 = 0 := by decide +kernel

/-- An element of a block of window 3 is the array's. -/
theorem blk3 (c : Dev nD) (t : Fin cfg0.N) (i : Fin 512) (l : Fin 256) (p : Fin 2048) (q : Fin 256) (hp : p.val = 512 * (t.val) + i.val) (hq : q.val = l.val) :
    (iblk m c 3 t (ix2 i l) : EReal) = m (c.tc.loc main_arg3) (ix2 p q) := by
  refine congrArg (m (c.tc.loc main_arg3)) (ext2 ?_ ?_)
  · show win0_3.index t 0 * 512 + 1 * i.val = p.val; rw [(at3 t).1]; omega
  · show win0_3.index t 1 * 256 + 1 * l.val = q.val; rw [(at3 t).2]; omega

theorem at4 : ∀ t : Fin grid0.N, win0_4.index t 0 = 0 ∧ win0_4.index t 1 = 0 ∧ win0_4.index t 2 = 0 := by decide +kernel

/-- The block of the weights is the whole array. -/
theorem blk4 (c : Dev nD) (t : Fin cfg0.N) (s : Fin 4) (j : Fin 1024) (k : Fin 256) :
    (iblk m c 4 t (ix3 s j k) : EReal) = m (c.tc.loc main_arg4) (ix3 s j k) := by
  unfold iblk
  rw [View.read_apply]
  show V m c main_arg4 _ = m (c.tc.loc main_arg4) _
  unfold V
  congr 1
  funext a
  apply Fin.ext
  match a with
  | ⟨0, _⟩ => show win0_4.index t 0 * 4 + 1 * s.val = s.val; rw [(at4 t).1]; omega
  | ⟨1, _⟩ => show win0_4.index t 1 * 1024 + 1 * j.val = j.val; rw [(at4 t).2.1]; omega
  | ⟨2, _⟩ => show win0_4.index t 2 * 256 + 1 * k.val = k.val; rw [(at4 t).2.2]; omega

theorem at5 : ∀ t : Fin grid0.N, win0_5.index t 0 = t.val ∧ win0_5.index t 1 = 0 := by decide +kernel

/-- An element of a block of window 5 is the array's. -/
theorem blk5 (c : Dev nD) (t : Fin cfg0.N) (i : Fin 512) (l : Fin 4096) (p : Fin 2048) (q : Fin 4096) (hp : p.val = 512 * (t.val) + i.val) (hq : q.val = l.val) :
    (iblk m c 5 t (ix2 i l) : EReal) = m (c.tc.loc main_arg5) (ix2 p q) := by
  refine congrArg (m (c.tc.loc main_arg5)) (ext2 ?_ ?_)
  · show win0_5.index t 0 * 512 + 1 * i.val = p.val; rw [(at5 t).1]; omega
  · show win0_5.index t 1 * 4096 + 1 * l.val = q.val; rw [(at5 t).2]; omega

theorem at6 : ∀ t : Fin grid0.N, win0_6.index t 0 = t.val ∧ win0_6.index t 1 = 0 := by decide +kernel

/-- A branch, projected and gated. -/
def part (x0 x1 x2 x3 : Mat 2048 256) (x4 : Wts 1024 256) (x5 : Mat 2048 4096) (s : Fin 4) (i : Fin 2048) (j : Fin 1024) : EReal :=
  logi (x5 (ix2 i (col s j))) * ∑ k : Fin 256, branch x0 x1 x2 x3 s (ix2 i k) * x4 (ix3 s j k)
/-- The merged branches. -/
def res6 (x0 x1 x2 x3 : Mat 2048 256) (x4 : Wts 1024 256) (x5 : Mat 2048 4096) : Mat 2048 1024 := fun i => ∑ s : Fin 4, part x0 x1 x2 x3 x4 x5 s (i 0) (i 1)

/-- The kernel's result. -/
def r6 (c : Dev nD) : Mat 2048 1024 := res6 (m (c.tc.loc main_arg0)) (m (c.tc.loc main_arg1)) (m (c.tc.loc main_arg2)) (m (c.tc.loc main_arg3)) (m (c.tc.loc main_arg4)) (m (c.tc.loc main_arg5))

theorem logi_zero (x : EReal) : Ideal.div 1 (1 + Ideal.exp (0 - x)) = logi x := by
  rw [sub_eq_add_neg, zero_add]; rfl

/-- The first two branches of a block. -/
theorem pay2 (a0 : Vec Ideal S512x256 .bf16) (b0 : Vec Ideal S1x1024x256 .bf16) (g0 : Vec Ideal S512x1024 .bf16) (a1 : Vec Ideal S512x256 .bf16) (b1 : Vec Ideal S1x1024x256 .bf16) (g1 : Vec Ideal S512x1024 .bf16) (i : Fin 512) (l : Fin 1024) :
    (k0_pay2 (F := Ideal) a0 b0 g0 a1 b1 g1 (ix2 i l) : EReal) = logi (g0 (ix2 i l)) * (∑ k : Fin 256, (a0 (ix2 i k) : EReal) * b0 (ix3 0 l k)) + logi (g1 (ix2 i l)) * (∑ k : Fin 256, (a1 (ix2 i k) : EReal) * b1 (ix3 0 l k)) := by
  pointwise [k0_pay2]
  rw [logi_zero, logi_zero]

/-- … and the other two. -/
theorem pay1 (y : FVec Ideal S512x1024 .f32) (a0 : Vec Ideal S512x256 .bf16) (b0 : Vec Ideal S1x1024x256 .bf16) (g0 : Vec Ideal S512x1024 .bf16) (a1 : Vec Ideal S512x256 .bf16) (b1 : Vec Ideal S1x1024x256 .bf16) (g1 : Vec Ideal S512x1024 .bf16) (i : Fin 512) (l : Fin 1024) :
    (k0_pay1 (F := Ideal) y a0 b0 g0 a1 b1 g1 (ix2 i l) : EReal) = y (ix2 i l) + logi (g0 (ix2 i l)) * (∑ k : Fin 256, (a0 (ix2 i k) : EReal) * b0 (ix3 0 l k)) + logi (g1 (ix2 i l)) * (∑ k : Fin 256, (a1 (ix2 i k) : EReal) * b1 (ix3 0 l k)) := by
  pointwise [k0_pay1]
  rw [logi_zero, logi_zero]

theorem ldg0 (X : Vec Ideal S512x4096 .bf16) (i : Fin 512) (l : Fin 1024) : View.ld X r0_2 (ix2 i l) = X (ix2 i (col 0 l)) :=
  View.ld_unit_apply_of (S := S512x4096) X ![0, 0] ![512, 1024] _ (ix2 i l) (ix2 i (col 0 l)) (fun a => match a with | ⟨0, _⟩ => (Nat.zero_add _).symm | ⟨1, _⟩ => rfl)
theorem ldw0 (X : Vec Ideal S4x1024x256 .bf16) (l : Fin 1024) (k : Fin 256) : View.ld X r0_1 (ix3 0 l k) = X (ix3 0 l k) :=
  View.ld_unit_apply_of (S := S4x1024x256) X ![0, 0, 0] ![1, 1024, 256] _ (ix3 0 l k) (ix3 0 l k) (fun a => match a with | ⟨0, _⟩ => rfl | ⟨1, _⟩ => (Nat.zero_add _).symm | ⟨2, _⟩ => (Nat.zero_add _).symm)

/-- Branch 0 of a block. -/
theorem part0 (c : Dev nD) (t : Fin cfg0.N) (i : Fin 512) (l : Fin 1024) (p : Fin 2048) (hp : p.val = 512 * t.val + i.val) :
    logi (View.ld (iblk m c 5 t) r0_2 (ix2 i l)) * (∑ k : Fin 256, HMul.hMul (α := EReal) (β := EReal) (γ := EReal) (iblk m c 0 t (ix2 i k)) (View.ld (iblk m c 4 t) r0_1 (ix3 0 l k)))
      = part (m (c.tc.loc main_arg0)) (m (c.tc.loc main_arg1)) (m (c.tc.loc main_arg2)) (m (c.tc.loc main_arg3)) (m (c.tc.loc main_arg4)) (m (c.tc.loc main_arg5)) 0 p l := by
  unfold part
  refine congrArg₂ (fun a b : EReal => a * b) (congrArg logi ?_) (Finset.sum_congr rfl fun k _ => congrArg₂ (fun a b : EReal => a * b) ?_ ?_)
  · refine (ldg0 _ i l).trans ?_
    exact blk5 m c t i (col 0 l) p (col 0 l) hp rfl
  · exact blk0 m c t i k p k hp rfl
  · refine (ldw0 _ l k).trans ?_
    exact blk4 m c t 0 l k

theorem ldg1 (X : Vec Ideal S512x4096 .bf16) (i : Fin 512) (l : Fin 1024) : View.ld X r0_4 (ix2 i l) = X (ix2 i (col 1 l)) :=
  View.ld_unit_apply_of (S := S512x4096) X ![0, 1024] ![512, 1024] _ (ix2 i l) (ix2 i (col 1 l)) (fun a => match a with | ⟨0, _⟩ => (Nat.zero_add _).symm | ⟨1, _⟩ => rfl)
theorem ldw1 (X : Vec Ideal S4x1024x256 .bf16) (l : Fin 1024) (k : Fin 256) : View.ld X r0_3 (ix3 0 l k) = X (ix3 1 l k) :=
  View.ld_unit_apply_of (S := S4x1024x256) X ![1, 0, 0] ![1, 1024, 256] _ (ix3 0 l k) (ix3 1 l k) (fun a => match a with | ⟨0, _⟩ => rfl | ⟨1, _⟩ => (Nat.zero_add _).symm | ⟨2, _⟩ => (Nat.zero_add _).symm)

/-- Branch 1 of a block. -/
theorem part1 (c : Dev nD) (t : Fin cfg0.N) (i : Fin 512) (l : Fin 1024) (p : Fin 2048) (hp : p.val = 512 * t.val + i.val) :
    logi (View.ld (iblk m c 5 t) r0_4 (ix2 i l)) * (∑ k : Fin 256, HMul.hMul (α := EReal) (β := EReal) (γ := EReal) (iblk m c 1 t (ix2 i k)) (View.ld (iblk m c 4 t) r0_3 (ix3 0 l k)))
      = part (m (c.tc.loc main_arg0)) (m (c.tc.loc main_arg1)) (m (c.tc.loc main_arg2)) (m (c.tc.loc main_arg3)) (m (c.tc.loc main_arg4)) (m (c.tc.loc main_arg5)) 1 p l := by
  unfold part
  refine congrArg₂ (fun a b : EReal => a * b) (congrArg logi ?_) (Finset.sum_congr rfl fun k _ => congrArg₂ (fun a b : EReal => a * b) ?_ ?_)
  · refine (ldg1 _ i l).trans ?_
    exact blk5 m c t i (col 1 l) p (col 1 l) hp rfl
  · exact blk1 m c t i k p k hp rfl
  · refine (ldw1 _ l k).trans ?_
    exact blk4 m c t 1 l k

theorem ldg2 (X : Vec Ideal S512x4096 .bf16) (i : Fin 512) (l : Fin 1024) : View.ld X r0_6 (ix2 i l) = X (ix2 i (col 2 l)) :=
  View.ld_unit_apply_of (S := S512x4096) X ![0, 2048] ![512, 1024] _ (ix2 i l) (ix2 i (col 2 l)) (fun a => match a with | ⟨0, _⟩ => (Nat.zero_add _).symm | ⟨1, _⟩ => rfl)
theorem ldw2 (X : Vec Ideal S4x1024x256 .bf16) (l : Fin 1024) (k : Fin 256) : View.ld X r0_5 (ix3 0 l k) = X (ix3 2 l k) :=
  View.ld_unit_apply_of (S := S4x1024x256) X ![2, 0, 0] ![1, 1024, 256] _ (ix3 0 l k) (ix3 2 l k) (fun a => match a with | ⟨0, _⟩ => rfl | ⟨1, _⟩ => (Nat.zero_add _).symm | ⟨2, _⟩ => (Nat.zero_add _).symm)

/-- Branch 2 of a block. -/
theorem part2 (c : Dev nD) (t : Fin cfg0.N) (i : Fin 512) (l : Fin 1024) (p : Fin 2048) (hp : p.val = 512 * t.val + i.val) :
    logi (View.ld (iblk m c 5 t) r0_6 (ix2 i l)) * (∑ k : Fin 256, HMul.hMul (α := EReal) (β := EReal) (γ := EReal) (iblk m c 2 t (ix2 i k)) (View.ld (iblk m c 4 t) r0_5 (ix3 0 l k)))
      = part (m (c.tc.loc main_arg0)) (m (c.tc.loc main_arg1)) (m (c.tc.loc main_arg2)) (m (c.tc.loc main_arg3)) (m (c.tc.loc main_arg4)) (m (c.tc.loc main_arg5)) 2 p l := by
  unfold part
  refine congrArg₂ (fun a b : EReal => a * b) (congrArg logi ?_) (Finset.sum_congr rfl fun k _ => congrArg₂ (fun a b : EReal => a * b) ?_ ?_)
  · refine (ldg2 _ i l).trans ?_
    exact blk5 m c t i (col 2 l) p (col 2 l) hp rfl
  · exact blk2 m c t i k p k hp rfl
  · refine (ldw2 _ l k).trans ?_
    exact blk4 m c t 2 l k

theorem ldg3 (X : Vec Ideal S512x4096 .bf16) (i : Fin 512) (l : Fin 1024) : View.ld X r0_8 (ix2 i l) = X (ix2 i (col 3 l)) :=
  View.ld_unit_apply_of (S := S512x4096) X ![0, 3072] ![512, 1024] _ (ix2 i l) (ix2 i (col 3 l)) (fun a => match a with | ⟨0, _⟩ => (Nat.zero_add _).symm | ⟨1, _⟩ => rfl)
theorem ldw3 (X : Vec Ideal S4x1024x256 .bf16) (l : Fin 1024) (k : Fin 256) : View.ld X r0_7 (ix3 0 l k) = X (ix3 3 l k) :=
  View.ld_unit_apply_of (S := S4x1024x256) X ![3, 0, 0] ![1, 1024, 256] _ (ix3 0 l k) (ix3 3 l k) (fun a => match a with | ⟨0, _⟩ => rfl | ⟨1, _⟩ => (Nat.zero_add _).symm | ⟨2, _⟩ => (Nat.zero_add _).symm)

/-- Branch 3 of a block. -/
theorem part3 (c : Dev nD) (t : Fin cfg0.N) (i : Fin 512) (l : Fin 1024) (p : Fin 2048) (hp : p.val = 512 * t.val + i.val) :
    logi (View.ld (iblk m c 5 t) r0_8 (ix2 i l)) * (∑ k : Fin 256, HMul.hMul (α := EReal) (β := EReal) (γ := EReal) (iblk m c 3 t (ix2 i k)) (View.ld (iblk m c 4 t) r0_7 (ix3 0 l k)))
      = part (m (c.tc.loc main_arg0)) (m (c.tc.loc main_arg1)) (m (c.tc.loc main_arg2)) (m (c.tc.loc main_arg3)) (m (c.tc.loc main_arg4)) (m (c.tc.loc main_arg5)) 3 p l := by
  unfold part
  refine congrArg₂ (fun a b : EReal => a * b) (congrArg logi ?_) (Finset.sum_congr rfl fun k _ => congrArg₂ (fun a b : EReal => a * b) ?_ ?_)
  · refine (ldg3 _ i l).trans ?_
    exact blk5 m c t i (col 3 l) p (col 3 l) hp rfl
  · exact blk3 m c t i k p k hp rfl
  · refine (ldw3 _ l k).trans ?_
    exact blk4 m c t 3 l k

theorem out6 (c : Dev nD) (t : Fin cfg0.N) (i : Fin 512) (l : Fin 1024) (p : Fin 2048) (q : Fin 1024) (hp : p.val = 512 * t.val + i.val) (hq : q.val = l.val) :
    out0_6 (iblk m c 0 t) (iblk m c 1 t) (iblk m c 2 t) (iblk m c 3 t) (iblk m c 4 t) (iblk m c 5 t) (ix2 i l) = r6 m c (ix2 p q) := by
  obtain rfl : q = l := Fin.ext hq
  unfold out0_6
  rw [View.canon_unit_zero hz]
  simp only [View.ld_unit_zero (S := S512x256) hz]
  refine (pay1 _ _ _ _ _ _ _ i q).trans ?_
  rw [pay2, part0 m c t i q p hp, part1 m c t i q p hp, part2 m c t i q p hp, part3 m c t i q p hp]
  unfold r6 res6
  rw [Fin.sum_univ_four]
  rfl

/-- What a grid point writes back to window 6. -/
theorem flushed6_eq (c : Dev nD) (t : Fin cfg0.N) : (dats m 0 c).flushed 6 t = ((cfg0.win 6).blk t).view.read (Elt Ideal) (r6 m c) := by
  rw [Value.flushed6]
  funext x
  rw [View.read_apply]
  obtain ⟨i, l, rfl⟩ := pair (n0 := 512) (n1 := 1024) x
  refine (out6 m c t i l ((((cfg0.win 6).blk t).view.emb (ix2 i l) : S2048x1024.Idx) 0) ((((cfg0.win 6).blk t).view.emb (ix2 i l) : S2048x1024.Idx) 1) ?_ ?_).trans (congrArg (r6 m c) (eta2 _).symm)
  · show win0_6.index t 0 * 512 + 1 * i.val = _; rw [(at6 t).1]; omega
  · show win0_6.index t 1 * 1024 + 1 * l.val = _; rw [(at6 t).2]; omega

/-- The array of window 6 at the end. -/
theorem final6 (c : Dev nD) : (dats m 0 c).arrAt 6 cfg0.N = r6 m c :=
  (dats m 0 c).arrAt_eq_of_cover 6 (r6 m c) (fun t _ => flushed6_eq m c t) fun i => by
    have h0 : (i 0 : Nat) < 2048 := (i 0).isLt
    have h1 : (i 1 : Nat) < 1024 := (i 1).isLt
    have hN : cfg0.N = 4 := N_0
    have ht : ((i 0 : Nat) / 512) < cfg0.N := by omega
    refine ⟨⟨((i 0 : Nat) / 512), ht⟩, flush0_6 _, ?_⟩
    show i ∈ ((View.whole main_v0).slice (win0_6.rect ⟨_, ht⟩)).set
    rw [View.set_slice_whole, Rect.mem_set_unit]
    intro a
    match a with
    | ⟨0, _⟩ => show win0_6.index ⟨_, ht⟩ 0 * 512 ≤ (i 0 : Nat) ∧ (i 0 : Nat) < win0_6.index ⟨_, ht⟩ 0 * 512 + 512
                rw [(at6 ⟨_, ht⟩).1]; try dsimp only
                omega
    | ⟨1, _⟩ => show win0_6.index ⟨_, ht⟩ 1 * 1024 ≤ (i 1 : Nat) ∧ (i 1 : Nat) < win0_6.index ⟨_, ht⟩ 1 * 1024 + 1024
                rw [(at6 ⟨_, ht⟩).2]; try dsimp only
                omega

section
open Cert.MergeFwdRefIdeal.Read
variable (x0 x1 x2 x3 : Mat 2048 256) (x4 : Wts 1024 256) (x5 : Mat 2048 4096)

/-- The reference's stacked branches. -/
theorem stacked (i : Fin 2048) (s : Fin 4) (k : Fin 256) : val_main_v8 (F := Ideal) x0 x1 x2 x3 (ix3 i s k) = branch x0 x1 x2 x3 s (ix2 i k) := by
  unfold val_main_v8
  refine (stack4 ![val_main_v4 (F := Ideal) x0, val_main_v5 (F := Ideal) x1, val_main_v6 (F := Ideal) x2, val_main_v7 (F := Ideal) x3] _ i s k).trans ?_
  match s with
  | ⟨0, _⟩ => show val_main_v4 (F := Ideal) x0 (ix3 i 0 k) = x0 (ix2 i k); rw [val_main_v4_apply, val_main_v0_apply]; exact congrArg x0 (funext fun a => match a with | ⟨0, _⟩ => rfl | ⟨1, _⟩ => rfl)
  | ⟨1, _⟩ => show val_main_v5 (F := Ideal) x1 (ix3 i 0 k) = x1 (ix2 i k); rw [val_main_v5_apply, val_main_v1_apply]; exact congrArg x1 (funext fun a => match a with | ⟨0, _⟩ => rfl | ⟨1, _⟩ => rfl)
  | ⟨2, _⟩ => show val_main_v6 (F := Ideal) x2 (ix3 i 0 k) = x2 (ix2 i k); rw [val_main_v6_apply, val_main_v2_apply]; exact congrArg x2 (funext fun a => match a with | ⟨0, _⟩ => rfl | ⟨1, _⟩ => rfl)
  | ⟨3, _⟩ => show val_main_v7 (F := Ideal) x3 (ix3 i 0 k) = x3 (ix2 i k); rw [val_main_v7_apply, val_main_v3_apply]; exact congrArg x3 (funext fun a => match a with | ⟨0, _⟩ => rfl | ⟨1, _⟩ => rfl)

/-- The reference's gates. -/
theorem gates (i : Fin 2048) (s : Fin 4) (j : Fin 1024) : val_main_v20 (F := Ideal) x5 (ix3 i s j) = logi (x5 (ix2 i (col s j))) := by
  rw [val_main_v20_apply, val_main_v19_apply, val_main_v18_apply, val_main_v17_apply, val_main_v16_apply, val_main_v15_apply, val_main_v14_apply, val_main_v9_apply, val_main_cst_apply, val_main_cst_0_apply]
  have e : idx_main_v20 (ix3 i s j) = ix2 i (col s j) := funext fun a => match a with
    | ⟨0, _⟩ => Fin.ext (by show ((i.val * 4 + s.val) * 1024 + j.val) / 4096 = i.val; omega)
    | ⟨1, _⟩ => Fin.ext (by show ((i.val * 4 + s.val) * 1024 + j.val) % 4096 = 1024 * s.val + j.val; omega)
  rw [e]
  exact logi_ref _

theorem ref6 : val_main_v23 (F := Ideal) x0 x1 x2 x3 x4 x5 = res6 x0 x1 x2 x3 x4 x5 := by
  funext x
  obtain ⟨i, j, rfl⟩ := pair (n0 := 2048) (n1 := 1024) x
  rw [val_main_v23_apply, val_main_v22_apply, val_main_cst_1_apply]
  show Ideal.ofBits .f32 0x00000000#32 + _ = _
  rw [Ideal.ofBits_zero_f32, zero_add]
  unfold res6
  refine Finset.sum_congr rfl fun s _ => ?_
  have e : idx_main_v22 (ix2 i j) s = ix3 i s j := funext fun a => match a with | ⟨0, _⟩ => rfl | ⟨1, _⟩ => rfl | ⟨2, _⟩ => rfl
  rw [e, val_main_v21_apply, gates, val_main_v13_apply, val_main_v12_apply]
  unfold part
  refine congrArg (fun z : EReal => logi (x5 (ix2 i (col s j))) * z) (Finset.sum_congr rfl fun k _ => ?_)
  have e8 : ridx_main_v12 (idx_main_v13 (ix3 i s j)) k = ix3 i s k := funext fun a => match a with | ⟨0, _⟩ => rfl | ⟨1, _⟩ => rfl | ⟨2, _⟩ => rfl
  rw [e8, stacked, val_main_v11_apply, val_main_v10_apply, mul_comm]
  exact congrArg (fun z : EReal => branch x0 x1 x2 x3 s (ix2 i k) * z) (congrArg x4 (funext fun a => match a with | ⟨0, _⟩ => rfl | ⟨1, _⟩ => rfl | ⟨2, _⟩ => rfl))

end

end Cert.MergeFwdIdeal.Pay

namespace Cert.MergeFwdClaims

open Idealize.ShloMosaic Idealize.ShloMosaic.TcCoe Idealize.SL.Sem Cert.Tiles Cert.MergeFwdIdeal.Pay

attribute [local instance] Cert.MergeFwd.Gen.facts Cert.MergeFwdIdeal.Gen.facts Cert.MergeFwdRefIdeal.Gen.facts

/-- The kernel runs, keeps its arguments and ends quiescent. -/
theorem frameP : Cert.quiescent_MergeFwd := fun m ρ _ => Cert.MergeFwd.Gen.frame m ρ

/-- … and so does it at the ideal numbers. -/
theorem framePI : Cert.quiescent_MergeFwdIdeal := fun m ρ _ => Cert.MergeFwdIdeal.Gen.frame m ρ

/-- The reference runs, keeps its arguments and ends quiescent. -/
theorem frameRI : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩) (Cert.MergeFwdRefIdeal.Value.run (F := Ideal) m ρ)

/-- Kernel and reference compute the same results. -/
theorem algebraic : Cert.algebraic_MergeFwdIdeal_MergeFwdRefIdeal := by
  intro m ρ m' ρ' hpre hag
  refine ⟨fun c => r6 m c, ?_, ?_⟩
  · exact (θ_run Cert.MergeFwdIdeal.defs _ _).mono (fun r h c => ⟨((h c).1).trans (final6 m c), (h c).2⟩) (Cert.MergeFwdIdeal.Value.run_blocks m ρ)
  · refine (θ_run Cert.MergeFwdRefIdeal.defs _ _).mono (fun r h c => ?_) (Cert.MergeFwdRefIdeal.Value.run (F := Ideal) m' ρ')
    obtain ⟨g0, g1, g2, g3, g4, g5⟩ := hag c
    refine ⟨((h c).1).trans ?_, (h c).2⟩ <;> clear h
    · rw [Cert.MergeFwdRefIdeal.Read.val_main_v23_eq]
      try rw [g0]
      try rw [g1]
      try rw [g2]
      try rw [g3]
      try rw [g4]
      try rw [g5]
      exact ref6 _ _ _ _ _ _

end Cert.MergeFwdClaims

end
-- ==== Proof.HeadNorm.lean ====
/-
  The root-mean-square norm of each of four heads of 64 lanes, its gradient, and the kernels' way to a head's mean: a product
  with a matrix holding 1/64 within a head, of the rounded squares and of what the rounding left.
-/
module

public import proofs.«01_k».proof.Proof.RowNormGrad
public import proofs.«01_k».proof.Proof.MemSpec

@[expose] public section

noncomputable section

namespace Cert.HeadNorm

open Idealize.ShloMosaic Cert.Tiles Cert.Reals Cert.Softmax
open Cert.MemSpec (lane head)
open Cert.RowNorm (ofBits_eps ofBits_neg_half)

/-- A lane's place in its head. -/
def sub (c : Fin 256) : Fin 64 := ⟨c.val % 64, Nat.mod_lt _ (by decide)⟩

theorem lane_head (c : Fin 256) : lane (head c) (sub c) = c := Fin.ext (by show 64 * (c.val / 64) + c.val % 64 = c.val; omega)

theorem head_lane (h : Fin 4) (d : Fin 64) : head (lane h d) = h := Fin.ext (by show (64 * h.val + d.val) / 64 = h.val; omega)

/-- The mean over a head. -/
def mean (z : Fin 256 → EReal) (h : Fin 4) : EReal := Ideal.div (∑ d : Fin 64, z (lane h d)) (Ideal.ofBits .f32 0x42800000#32)

/-- The kernels' matrix: 1/64 within a head. -/
def weight (j l : Fin 256) : EReal :=
  Scalar.select (IntOp.cmpi .eq (IntOp.shrui ArithUnit.vector (BitVec.ofNat 32 j.val) 6#32) (IntOp.shrui ArithUnit.vector (BitVec.ofNat 32 l.val) 6#32)) (Ideal.ofBits .f32 0x3C800000#32) (Ideal.ofBits .f32 0x00000000#32)

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem shift_lane : ∀ c : Fin 256, IntOp.shrui ArithUnit.vector (BitVec.ofNat 32 c.val) 6#32 = BitVec.ofNat 32 (head c).val := by decide +kernel

theorem same_head : ∀ a b : Fin 4, (IntOp.cmpi .eq (BitVec.ofNat 32 a.val) (BitVec.ofNat 32 b.val) = (1 : BitVec 1)) ↔ a = b := by decide +kernel

theorem weight_eq (j l : Fin 256) : weight j l = if head j = head l then ((1 / 64 : ℝ) : EReal) else 0 := by
  unfold weight
  rw [shift_lane, shift_lane, ofBits_inv64, Ideal.ofBits_zero_f32]
  exact if_congr (same_head _ _) rfl rfl

/-- The kernels' two products come to the mean over the head, of real numbers. -/
theorem mean_kernel (z : Fin 256 → EReal) (hz : ∀ j, Real' (z j)) (l : Fin 256) : (∑ j, z j * weight j l) + ∑ j, (z j - z j) * weight j l = mean z (head l) := by
  have e : ∑ j, (z j - z j) * weight j l = 0 := Finset.sum_eq_zero fun j _ => by
    obtain ⟨r, hr⟩ := hz j
    rw [hr, ← EReal.coe_sub, sub_self, EReal.coe_zero, zero_mul]
  rw [e, add_zero, sum_masked 4 64 256 rfl (head l) _ fun j hj => by
    rw [weight_eq, if_neg fun e => hj (congrArg Fin.val e), mul_zero]]
  choose y hy using hz
  unfold mean
  rw [ofBits_64, Ideal.div_coe (by norm_num)]
  have e2 : ∀ d : Fin 64, z (lane (head l) d) * weight (lane (head l) d) l = ((y (lane (head l) d) * (1 / 64) : ℝ) : EReal) := fun d => by
    rw [weight_eq, if_pos (head_lane _ _), hy, EReal.coe_mul]
  refine (Finset.sum_congr rfl fun d _ => e2 d).trans ?_
  simp only [hy]
  rw [coe_sum, coe_sum, ← EReal.coe_mul, Finset.sum_mul]

/-- The mean over a head of a row's squares, plus the norm's ε. -/
def ms {a : ℕ} (x : Mat a 256) (i : Fin a) (h : Fin 4) : EReal := mean (fun j => x (ix2 i j) * x (ix2 i j)) h + Ideal.ofBits .f32 0x358637BD#32

/-- The heads of a row normalised, before the gain. -/
def unitRow {a : ℕ} (x : Mat a 256) (i : Fin a) (l : Fin 256) : EReal := x (ix2 i l) * Ideal.rsqrt (ms x i (head l))

/-- The heads normalised and scaled by a gain. -/
def headNorm {a : ℕ} (x : Mat a 256) (g : Mat 1 256) (i : Fin a) (l : Fin 256) : EReal := unitRow x i l * g (ix2 0 l)

/-- A row's gradient. -/
def rowGrad {a : ℕ} (dp x : Mat a 256) (g : Mat 1 256) (i : Fin a) (l : Fin 256) : EReal :=
  Ideal.rsqrt (ms x i (head l)) * (dp (ix2 i l) * g (ix2 0 l) - unitRow x i l * mean (fun j => dp (ix2 i j) * g (ix2 0 j) * unitRow x i j) (head l))

/-- A row's part of the gain's gradient. -/
def gainPart {a : ℕ} (dp x : Mat a 256) (i : Fin a) (l : Fin 256) : EReal := dp (ix2 i l) * unitRow x i l

theorem ms_congr {a b : ℕ} (x : Mat a 256) (x' : Mat b 256) (i : Fin a) (i' : Fin b) (hx : ∀ k, x (ix2 i k) = x' (ix2 i' k)) : ms x i = ms x' i' := by
  unfold ms
  simp only [hx]

theorem unitRow_congr {a b : ℕ} (x : Mat a 256) (x' : Mat b 256) (i : Fin a) (i' : Fin b) (hx : ∀ k, x (ix2 i k) = x' (ix2 i' k)) : unitRow x i = unitRow x' i' := by
  funext l
  unfold unitRow
  rw [ms_congr x x' i i' hx, hx]

/-- A row's gradient is its own. -/
theorem rowGrad_congr {a b : ℕ} (dp x : Mat a 256) (g : Mat 1 256) (dp' x' : Mat b 256) (g' : Mat 1 256) (i : Fin a) (i' : Fin b)
    (hd : ∀ k, dp (ix2 i k) = dp' (ix2 i' k)) (hx : ∀ k, x (ix2 i k) = x' (ix2 i' k)) (hg : ∀ k, g (ix2 0 k) = g' (ix2 0 k)) : rowGrad dp x g i = rowGrad dp' x' g' i' := by
  funext l
  unfold rowGrad
  rw [ms_congr x x' i i' hx, unitRow_congr x x' i i' hx]
  simp only [hd, hg]

/-- The mean square over a head of real numbers, with the norm's ε, is real and positive. -/
theorem ms_real {a : ℕ} (x : Mat a 256) (i : Fin a) (hx : ∀ k, Real' (x (ix2 i k))) (h : Fin 4) : ∃ s : ℝ, 0 < s ∧ ms x i h = (s : EReal) := by
  obtain ⟨e, he, h'⟩ := ofBits_eps
  choose y hy using hx
  refine ⟨(∑ d, y (lane h d) * y (lane h d)) * (1 / 64) + e, add_pos_of_nonneg_of_pos (mul_nonneg (Finset.sum_nonneg fun k _ => mul_self_nonneg _) (by norm_num)) he, ?_⟩
  unfold ms mean
  rw [ofBits_64, h', Ideal.div_coe (by norm_num)]
  simp only [hy, ← EReal.coe_mul]
  rw [coe_sum, ← EReal.coe_mul, ← EReal.coe_add]

/-- The reciprocal root of it is real. -/
theorem rs_real {a : ℕ} (x : Mat a 256) (i : Fin a) (hx : ∀ k, Real' (x (ix2 i k))) (h : Fin 4) : Real' (Ideal.rsqrt (ms x i h)) := by
  obtain ⟨s, hs, e⟩ := ms_real x i hx h
  rw [e, Ideal.rsqrt_coe, if_neg (not_lt.mpr hs.le), if_neg hs.ne']
  exact ⟨_, rfl⟩

/-- The reference's derivative of the mean square, shared by a head's lanes. -/
def spread {a : ℕ} (dp x : Mat a 256) (g : Mat 1 256) (i : Fin a) (h : Fin 4) : EReal :=
  Ideal.div ((∑ d : Fin 64, x (ix2 i (lane h d)) * (dp (ix2 i (lane h d)) * g (ix2 0 (lane h d)))) * (Ideal.ofBits .f32 0xBF000000#32 * Ideal.div (Ideal.rsqrt (ms x i h)) (ms x i h))) (Ideal.ofBits .f32 0x42800000#32)

/-- The reference's derivative of a row is the kernels'. -/
theorem rowGrad_ref {a : ℕ} (dp x : Mat a 256) (g : Mat 1 256) (i : Fin a) (hd : ∀ k, Real' (dp (ix2 i k))) (hx : ∀ k, Real' (x (ix2 i k))) (hg : ∀ k, Real' (g (ix2 0 k))) (l : Fin 256) :
    (dp (ix2 i l) * g (ix2 0 l) * Ideal.rsqrt (ms x i (head l)) + x (ix2 i l) * spread dp x g i (head l)) + spread dp x g i (head l) * x (ix2 i l) = rowGrad dp x g i l := by
  obtain ⟨s, hs, hms⟩ := ms_real x i hx (head l)
  choose y hy using hx
  choose d hd using hd
  choose w hw using hg
  have hq : (√s)⁻¹ * (√s)⁻¹ = 1 / s := by rw [← mul_inv, Real.mul_self_sqrt hs.le, one_div]
  unfold rowGrad spread mean unitRow
  simp only [head_lane]
  rw [hms, Ideal.rsqrt_coe, if_neg (not_lt.mpr hs.le), if_neg hs.ne', ofBits_64, ofBits_neg_half]
  generalize (√s)⁻¹ = r at hq
  rw [Ideal.div_coe hs.ne', Ideal.div_coe (by norm_num), Ideal.div_coe (by norm_num)]
  simp only [hy, hd, hw, ← EReal.coe_mul, coe_sum, ← EReal.coe_add, ← EReal.coe_sub]
  have e2 : (∑ k : Fin 64, d (lane (head l) k) * w (lane (head l) k) * (y (lane (head l) k) * r)) = (∑ k : Fin 64, y (lane (head l) k) * (d (lane (head l) k) * w (lane (head l) k))) * r := by
    rw [Finset.sum_mul]
    exact Finset.sum_congr rfl fun k _ => by ring
  refine congrArg _ ?_
  rw [e2]
  generalize (∑ k : Fin 64, y (lane (head l) k) * (d (lane (head l) k) * w (lane (head l) k))) = S
  rw [← hq]
  ring

end Cert.HeadNorm

end
-- ==== Proof.PreRealRetPost.lean ====
/-
  What the precondition says at the ideal numbers: every entry of the retention's gradient, of its result, of its gate and of the norm's gain is a real number.
-/
module

public import proofs.«01_k».proof.Pre_real_ret_post
public import proofs.«01_k».proof.Proof.Reals
public import proofs.«01_k».proof.Proof.Tiles

@[expose] public section

set_option maxRecDepth 16384

noncomputable section

namespace Cert.PreRealRetPost

open Idealize.ShloMosaic Cert.Reals
open Cert.PreReal (all_real top_bits)

/-- The shape relations the predicate's operations take. -/
theorem facts : Cert.Pre_real_ret_post.Facts where
  slices_S2048x1024_S2048x256_0_0 := by decide
  slices_S2048x2304_S2048x256_0_768 := by decide
  bcast_S_S2048x256 := by decide
  reducesTo_S2048x256_S_d0_1 := by decide
  h_S_ := by decide
  bcast_S_S1x256 := by decide
  reducesTo_S1x256_S_d0_1 := by decide

/-- Where the precondition holds, the arrays it names are real. -/
theorem real [Cert.Pre_real_ret_post.Facts] (a0 : FVec Ideal Cert.Pre_real_ret_post.S2048x1024 .f32) (a1 : FVec Ideal Cert.Pre_real_ret_post.S2048x256 .f32) (a2 : FVec Ideal Cert.Pre_real_ret_post.S2048x2304 .f32) (a3 : FVec Ideal Cert.Pre_real_ret_post.S1x256 .f32) (h : Cert.Pre_real_ret_post.fn a0 a1 a2 a3 = fun _ => 1#1) :
    (∀ (i : Fin 2048) (l : Fin 256) (q : Fin 1024), q.val =  l.val → Real' (a0 (ix2 i q))) ∧ (∀ i, Real' (a1 i)) ∧ (∀ (i : Fin 2048) (l : Fin 256) (q : Fin 2304), q.val = 768 + l.val → Real' (a2 (ix2 i q))) ∧ (∀ i, Real' (a3 i)) := by
  unfold Cert.Pre_real_ret_post.fn at h
  unfold Cert.Pre_real_ret_post.fn_part1 at h
  dsimp only at h
  obtain ⟨h, e3⟩ := and_bits h
  obtain ⟨h, e2⟩ := and_bits h
  obtain ⟨h, e1⟩ := and_bits h
  exact ⟨fun i l q hq => (congrArg Real' (extractStridedSlice_apply (![0, 0] : Fin 2 → ℕ) a0 _ (ix2 i l) (ix2 i q) (fun a => match a with | ⟨0, _⟩ => (Nat.zero_add _).symm | ⟨1, _⟩ => by show q.val = 0 + l.val; omega))).mp (all_real (extractStridedSlice _ _ a0 _) _ _ _ _ _ (fun _ => rfl) (fun _ => top_bits) h (ix2 i l)), all_real a1 _ _ _ _ _ (fun _ => rfl) (fun _ => top_bits) e1, fun i l q hq => (congrArg Real' (extractStridedSlice_apply (![0, 768] : Fin 2 → ℕ) a2 _ (ix2 i l) (ix2 i q) (fun a => match a with | ⟨0, _⟩ => (Nat.zero_add _).symm | ⟨1, _⟩ => by show q.val = 768 + l.val; omega))).mp (all_real (extractStridedSlice _ _ a2 _) _ _ _ _ _ (fun _ => rfl) (fun _ => top_bits) e2 (ix2 i l)), all_real a3 _ _ _ _ _ (fun _ => rfl) (fun _ => top_bits) e3⟩

end Cert.PreRealRetPost

end
-- ==== Proof.RetPostBwd.lean ====
/-
  The gradient behind the retention: through the swish gate and the norm of every head.
-/
module

public import proofs.«01_k».proof.Defs
public import proofs.«01_k».proof.Proof.Tiles
public import proofs.«01_k».proof.Proof.HeadNorm
public import proofs.«01_k».proof.Proof.Swish
public import proofs.«01_k».proof.Proof.Softmax
public import proofs.«01_k».proof.Proof.PreRealRetPost
public import proofs.«01_k».proof.Proof.Gen.RetPostBwd.Frame
public import proofs.«01_k».proof.Proof.Gen.RetPostBwdIdeal.Value
public import proofs.«01_k».proof.Proof.Gen.RetPostBwdRefIdeal.Read
public import proofs.«01_k».proof.Proof.Gen.RetPostBwdRefIdeal.Run
public import Idealize.ShloMosaic.Lib.Tactic

@[expose] public section

set_option maxRecDepth 16384

noncomputable section

namespace Cert.RetPostBwdIdeal.Pay

open Idealize.ShloMosaic Idealize.ShloMosaic.TcCoe Idealize.SL.Sem Cert.RetPostBwdIdeal Cert.RetPostBwdIdeal.Gen Cert.Tiles
open Idealize.ShloMosaic.Pipeline (Dat)

variable (m : (ℓ : Loc nD τ sig) → Buf (Elt Ideal) ℓ)

open Cert.HeadNorm Cert.MemSpec Cert.Reals Cert.Swish
open Cert.RetPostBwdRefIdeal.Read (val_main_v0 val_main_v32 val_main_v0_apply val_main_v32_apply)

theorem at0 : ∀ t : Fin grid0.N, win0_0.index t 0 = t.val ∧ win0_0.index t 1 = 0 := by decide +kernel

/-- An element of a block of window 0 is the array's. -/
theorem blk0 (c : Dev nD) (t : Fin cfg0.N) (i : Fin 512) (l : Fin 256) (p : Fin 2048) (q : Fin 1024) (hp : p.val = 512 * (t.val) + i.val) (hq : q.val = l.val) :
    (iblk m c 0 t (ix2 i l) : EReal) = m (c.tc.loc main_arg0) (ix2 p q) := by
  refine congrArg (m (c.tc.loc main_arg0)) (ext2 ?_ ?_)
  · show win0_0.index t 0 * 512 + 1 * i.val = p.val; rw [(at0 t).1]; omega
  · show win0_0.index t 1 * 256 + 1 * l.val = q.val; rw [(at0 t).2]; omega

theorem at1 : ∀ t : Fin grid0.N, win0_1.index t 0 = t.val ∧ win0_1.index t 1 = 0 := by decide +kernel

/-- An element of a block of window 1 is the array's. -/
theorem blk1 (c : Dev nD) (t : Fin cfg0.N) (i : Fin 512) (l : Fin 256) (p : Fin 2048) (q : Fin 256) (hp : p.val = 512 * (t.val) + i.val) (hq : q.val = l.val) :
    (iblk m c 1 t (ix2 i l) : EReal) = m (c.tc.loc main_arg1) (ix2 p q) := by
  refine congrArg (m (c.tc.loc main_arg1)) (ext2 ?_ ?_)
  · show win0_1.index t 0 * 512 + 1 * i.val = p.val; rw [(at1 t).1]; omega
  · show win0_1.index t 1 * 256 + 1 * l.val = q.val; rw [(at1 t).2]; omega

theorem at2 : ∀ t : Fin grid0.N, win0_2.index t 0 = t.val ∧ win0_2.index t 1 = 3 := by decide +kernel

/-- An element of a block of window 2 is the array's. -/
theorem blk2 (c : Dev nD) (t : Fin cfg0.N) (i : Fin 512) (l : Fin 256) (p : Fin 2048) (q : Fin 2304) (hp : p.val = 512 * (t.val) + i.val) (hq : q.val = 256 * (3) + l.val) :
    (iblk m c 2 t (ix2 i l) : EReal) = m (c.tc.loc main_arg2) (ix2 p q) := by
  refine congrArg (m (c.tc.loc main_arg2)) (ext2 ?_ ?_)
  · show win0_2.index t 0 * 512 + 1 * i.val = p.val; rw [(at2 t).1]; omega
  · show win0_2.index t 1 * 256 + 1 * l.val = q.val; rw [(at2 t).2]; omega

theorem at3 : ∀ t : Fin grid0.N, win0_3.index t 0 = 0 ∧ win0_3.index t 1 = 0 := by decide +kernel

/-- An element of a block of window 3 is the array's. -/
theorem blk3 (c : Dev nD) (t : Fin cfg0.N) (i : Fin 1) (l : Fin 256) (p : Fin 1) (q : Fin 256) (hp : p.val = i.val) (hq : q.val = l.val) :
    (iblk m c 3 t (ix2 i l) : EReal) = m (c.tc.loc main_arg3) (ix2 p q) := by
  refine congrArg (m (c.tc.loc main_arg3)) (ext2 ?_ ?_)
  · show win0_3.index t 0 * 1 + 1 * i.val = p.val; rw [(at3 t).1]; omega
  · show win0_3.index t 1 * 256 + 1 * l.val = q.val; rw [(at3 t).2]; omega

theorem at4 : ∀ t : Fin grid0.N, win0_4.index t 0 = t.val ∧ win0_4.index t 1 = 0 := by decide +kernel

theorem at5 : ∀ t : Fin grid0.N, win0_5.index t 0 = t.val ∧ win0_5.index t 1 = 0 := by decide +kernel

theorem at6 : ∀ t : Fin grid0.N, win0_6.index t 0 = 0 ∧ win0_6.index t 1 = 0 := by decide +kernel

/-- The gradient of the normed heads. -/
def dp {a : ℕ} (d r : Mat a 256) : Mat a 256 := fun x => d x * (r x * logi (r x))

theorem dp_real {a : ℕ} (d r : Mat a 256) (x : (⟨2, ![a, 256]⟩ : Shape).Idx) (hd : Real' (d x)) (hr : Real' (r x)) : Real' (dp d r x) := by
  refine hd.mul (hr.mul ?_)
  obtain ⟨v, hv⟩ := hr
  rw [hv, logi_coe]
  exact ⟨_, rfl⟩

/-- The gradient of the gate. -/
def dr {a : ℕ} (d o r : Mat a 256) (g : Mat 1 256) (i : Fin a) (l : Fin 256) : EReal :=
  d (ix2 i l) * headNorm o g i l * (logi (r (ix2 i l)) * (1 + r (ix2 i l) * (1 - logi (r (ix2 i l)))))

/-- The kernel's results. -/
def r4 (c : Dev nD) : Mat 2048 256 := fun x => rowGrad (dp (val_main_v32 (F := Ideal) (m (c.tc.loc main_arg0))) (val_main_v0 (F := Ideal) (m (c.tc.loc main_arg2)))) (m (c.tc.loc main_arg1)) (m (c.tc.loc main_arg3)) (x 0) (x 1)
def r5 (c : Dev nD) : Mat 2048 256 := fun x => dr (val_main_v32 (F := Ideal) (m (c.tc.loc main_arg0))) (m (c.tc.loc main_arg1)) (val_main_v0 (F := Ideal) (m (c.tc.loc main_arg2))) (m (c.tc.loc main_arg3)) (x 0) (x 1)
def r6 (c : Dev nD) : Mat 1 256 := fun x => ∑ i, gainPart (dp (val_main_v32 (F := Ideal) (m (c.tc.loc main_arg0))) (val_main_v0 (F := Ideal) (m (c.tc.loc main_arg2)))) (m (c.tc.loc main_arg1)) i (x 1)

section
variable (y0 y1 y2 : Vec Ideal S512x256 .f32) (y3 : Vec Ideal S1x256 .f32) (i : Fin 512) (l : Fin 256)

theorem pay4 : (k0_pay4 (F := Ideal) y2 (ix2 i l) : EReal) = logi (y2 (ix2 i l)) := by
  rw [← logi_kernel]
  pointwise [k0_pay4]

theorem pay5 : (k0_pay5 (F := Ideal) y0 y2 (ix2 i l) : EReal) = dp (y0 : Mat 512 256) y2 (ix2 i l) := by
  unfold dp
  rw [← pay4]
  rfl

theorem pay6 (hx : ∀ k, Real' (y1 (ix2 i k))) : (k0_pay6 (F := Ideal) y1 (ix2 i l) : EReal) = Ideal.rsqrt (ms (y1 : Mat 512 256) i (head l)) := by
  unfold ms
  rw [← mean_kernel (fun j => (y1 : Mat 512 256) (ix2 i j) * (y1 : Mat 512 256) (ix2 i j)) (fun j => (hx j).mul (hx j)) l]
  unfold weight
  pointwise [k0_pay6]

theorem pay12 : k0_pay12 (F := Ideal) y1 = k0_pay6 y1 := rfl

theorem pay7 (hx : ∀ k, Real' (y1 (ix2 i k))) : (k0_pay7 (F := Ideal) y1 (ix2 i l) : EReal) = unitRow (y1 : Mat 512 256) i l := by
  unfold unitRow
  rw [← pay6 y1 i l hx]
  rfl

/-- A block's rows of the gradient of the heads. -/
theorem pay11 (hd : ∀ k, Real' (y0 (ix2 i k))) (hx : ∀ k, Real' (y1 (ix2 i k))) (hr : ∀ k, Real' (y2 (ix2 i k))) (hg : ∀ k, Real' (y3 (ix2 0 k))) :
    (k0_pay11 (F := Ideal) (k0_pay6 y1) (k0_pay7 y1) (k0_pay8 y0 y2 y3) (k0_pay9 y0 y1 y2 y3) (iota .tc S256x256 32 [0] iota_S256x256_d0_w32) 6#32 (ix2 i l) : EReal) = rowGrad (dp (y0 : Mat 512 256) y2) y1 y3 i l := by
  have h5 := fun l => pay5 y0 y2 i l
  have h6 := fun l => pay6 y1 i l hx
  have h7 := fun l => pay7 y1 i l hx
  unfold rowGrad
  rw [← mean_kernel (fun j => dp (y0 : Mat 512 256) y2 (ix2 i j) * (y3 : Mat 1 256) (ix2 0 j) * unitRow (y1 : Mat 512 256) i j) (fun j => ((dp_real _ _ _ (hd j) (hr j)).mul (hg j)).mul ((hx j).mul (rs_real _ i hx _))) l]
  unfold k0_pay11 k0_pay9 k0_pay8 weight
  generalize k0_pay5 (F := Ideal) y0 y2 = p at h5 ⊢
  generalize k0_pay6 (F := Ideal) y1 = q at h6 ⊢
  generalize k0_pay7 (F := Ideal) y1 = u at h7 ⊢
  pointwise
  simp only [h5, h6, h7]

/-- A block's rows of the gradient of the gate. -/
theorem pay1 (hx : ∀ k, Real' (y1 (ix2 i k))) :
    (k0_pay1 (F := Ideal) y0 y1 y2 y3 (k0_pay4 y2) (k0_pay12 y1) (ix2 i l) : EReal) = dr (y0 : Mat 512 256) y1 y2 y3 i l := by
  have h4 := pay4 y2 i l
  have h6 := pay6 y1 i l hx
  unfold dr headNorm unitRow
  rw [pay12, ← h4, ← h6, ← Ideal.ofBits_one_f32]
  unfold k0_pay1
  generalize k0_pay4 (F := Ideal) y2 = p
  generalize k0_pay6 (F := Ideal) y1 = q
  pointwise

/-- A block's part of the gain's gradient. -/
theorem pay2 (hx : ∀ i k, Real' (y1 (ix2 i k))) : (k0_pay2 (F := Ideal) (k0_pay10 (k0_pay5 y0 y2) (k0_pay7 y1)) (ix2 0 l) : EReal) = ∑ i, gainPart (dp (y0 : Mat 512 256) y2) y1 i l := by
  have h5 := fun i => pay5 y0 y2 i l
  have h7 := fun i => pay7 y1 i l (hx i)
  unfold gainPart k0_pay2 k0_pay10
  generalize k0_pay5 (F := Ideal) y0 y2 = p at h5 ⊢
  generalize k0_pay7 (F := Ideal) y1 = u at h7 ⊢
  pointwise
  simp only [h5, h7]

end

section
variable (c : Dev nD) (i : grid0.Coords) (arg1 : Memref sig .tc .vmem S512x256 .f32) (h1 : arg1.IsWhole) (arg2 : Memref sig .tc .vmem S512x256 .f32) (h2 : arg2.IsWhole) (arg3 : Memref sig .tc .vmem S512x256 .f32) (h3 : arg3.IsWhole) (arg4 : Memref sig .tc .vmem S1x256 .f32) (h4 : arg4.IsWhole) (arg5 : Memref sig .tc .vmem S512x256 .bf16) (h5 : arg5.IsWhole) (arg6 : Memref sig .tc .vmem S512x256 .f32) (h6 : arg6.IsWhole) (arg7 : Memref sig .tc .vmem S1x256 .f32) (h7 : arg7.IsWhole)

theorem out_A_4 (hc0 : cond0_0 i) (hc1 : ¬cond0_1 i) (x0 x1 x2 : Vec Ideal S512x256 .f32) (x3 : Vec Ideal S1x256 .f32) :
    out0_A_4 (F := Ideal) c i arg1 h1 arg2 h2 arg3 h3 arg4 h4 arg5 h5 arg6 h6 arg7 h7 hc0 hc1 x0 x1 x2 x3 = k0_pay11 (F := Ideal) (k0_pay6 x1) (k0_pay7 x1) (k0_pay8 x0 x2 x3) (k0_pay9 x0 x1 x2 x3) (iota .tc S256x256 32 [0] iota_S256x256_d0_w32) 6#32 := by
  unfold out0_A_4
  rw [View.read_writes_eq_canon _ _ _ (fun _ => cover0_A_4 (F := Ideal) ..)]
  unfold kernelRun0_A
  dsimp only
  rw [View.canon_unit_zero hz]
  skip
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

theorem out_A_5 (hc0 : cond0_0 i) (hc1 : ¬cond0_1 i) (x0 x1 x2 : Vec Ideal S512x256 .f32) (x3 : Vec Ideal S1x256 .f32) :
    out0_A_5 (F := Ideal) c i arg1 h1 arg2 h2 arg3 h3 arg4 h4 arg5 h5 arg6 h6 arg7 h7 hc0 hc1 x0 x1 x2 x3 = k0_pay1 (F := Ideal) x0 x1 x2 x3 (k0_pay4 x2) (k0_pay12 x1) := by
  unfold out0_A_5
  rw [View.read_writes_eq_canon _ _ _ (fun _ => cover0_A_5 (F := Ideal) ..)]
  unfold kernelRun0_A
  dsimp only
  rw [View.canon_unit_zero hz]
  skip
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

theorem out_A_6 (hc0 : cond0_0 i) (hc1 : ¬cond0_1 i) (x0 x1 x2 : Vec Ideal S512x256 .f32) (x3 : Vec Ideal S1x256 .f32) :
    out0_A_6 (F := Ideal) c i arg1 h1 arg2 h2 arg3 h3 arg4 h4 arg5 h5 arg6 h6 arg7 h7 hc0 hc1 x0 x1 x2 x3 = k0_pay2 (F := Ideal) (k0_pay10 (k0_pay5 x0 x2) (k0_pay7 x1)) := by
  unfold out0_A_6
  rw [View.read_writes_eq_canon _ _ _ (fun _ => cover0_A_6 (F := Ideal) ..)]
  unfold kernelRun0_A
  dsimp only
  rw [View.canon_unit_zero hz]
  skip
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

theorem out_B_4 (hc0 : ¬cond0_0 i) (hc1 : cond0_1 i) (x0 x1 x2 : Vec Ideal S512x256 .f32) (x3 : Vec Ideal S1x256 .f32) (xo6 : Vec Ideal S1x256 .f32) :
    out0_B_4 (F := Ideal) c i arg1 h1 arg2 h2 arg3 h3 arg4 h4 arg5 h5 arg6 h6 arg7 h7 hc0 hc1 x0 x1 x2 x3 xo6 = k0_pay11 (F := Ideal) (k0_pay6 x1) (k0_pay7 x1) (k0_pay8 x0 x2 x3) (k0_pay9 x0 x1 x2 x3) (iota .tc S256x256 32 [0] iota_S256x256_d0_w32) 6#32 := by
  unfold out0_B_4
  rw [View.read_writes_eq_canon _ _ _ (fun _ => cover0_B_4 (F := Ideal) ..)]
  unfold kernelRun0_B
  dsimp only
  rw [View.canon_unit_zero hz]
  skip
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

theorem out_B_5 (hc0 : ¬cond0_0 i) (hc1 : cond0_1 i) (x0 x1 x2 : Vec Ideal S512x256 .f32) (x3 : Vec Ideal S1x256 .f32) (xo6 : Vec Ideal S1x256 .f32) :
    out0_B_5 (F := Ideal) c i arg1 h1 arg2 h2 arg3 h3 arg4 h4 arg5 h5 arg6 h6 arg7 h7 hc0 hc1 x0 x1 x2 x3 xo6 = k0_pay1 (F := Ideal) x0 x1 x2 x3 (k0_pay4 x2) (k0_pay12 x1) := by
  unfold out0_B_5
  rw [View.read_writes_eq_canon _ _ _ (fun _ => cover0_B_5 (F := Ideal) ..)]
  unfold kernelRun0_B
  dsimp only
  rw [View.canon_unit_zero hz]
  skip
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

theorem out_B_6 (hc0 : ¬cond0_0 i) (hc1 : cond0_1 i) (x0 x1 x2 : Vec Ideal S512x256 .f32) (x3 : Vec Ideal S1x256 .f32) (xo6 : Vec Ideal S1x256 .f32) :
    out0_B_6 (F := Ideal) c i arg1 h1 arg2 h2 arg3 h3 arg4 h4 arg5 h5 arg6 h6 arg7 h7 hc0 hc1 x0 x1 x2 x3 xo6 = addf xo6 (k0_pay2 (F := Ideal) (k0_pay10 (k0_pay5 x0 x2) (k0_pay7 x1))) := by
  unfold out0_B_6
  rw [View.read_writes_eq_canon _ _ _ (fun _ => cover0_B_6 (F := Ideal) ..)]
  unfold kernelRun0_B
  dsimp only
  rw [View.canon_unit_zero hz]
  unfold k0_pay3
  try sl_unfold_words
  simp only [View.readAt_eq_ld, h1.read_unread, h2.read_unread, h3.read_unread, h4.read_unread, h7.read_unread, View.ld_unit_zero (S := S512x256) hz, View.ld_unit_zero (S := S1x256) hz, shapeCast_self]
  try rfl

end

/-- The entries the norms read are real numbers. -/
def Ok (c : Dev nD) : Prop := (∀ (i : Fin 2048) (l : Fin 256), Real' ((val_main_v32 (F := Ideal) (m (c.tc.loc main_arg0))) (ix2 i l))) ∧ (∀ i, Real' ((m (c.tc.loc main_arg1)) i)) ∧ (∀ (i : Fin 2048) (l : Fin 256), Real' ((val_main_v0 (F := Ideal) (m (c.tc.loc main_arg2))) (ix2 i l))) ∧ ∀ i, Real' ((m (c.tc.loc main_arg3)) i)

theorem part0 (x : (⟨Cert.RetPostBwdRefIdeal.S2048x1024, .f32⟩ : BufTy).Contents (Elt Ideal)) (p : Fin 2048) (l : Fin 256) : val_main_v32 (F := Ideal) x (ix2 p l) = x (ix2 p ⟨l.val, by omega⟩) := by
  rw [val_main_v32_apply]
  exact congrArg x (funext fun a => match a with | ⟨0, _⟩ => rfl | ⟨1, _⟩ => rfl)

theorem part2 (x : (⟨Cert.RetPostBwdRefIdeal.S2048x2304, .f32⟩ : BufTy).Contents (Elt Ideal)) (p : Fin 2048) (l : Fin 256) : val_main_v0 (F := Ideal) x (ix2 p l) = x (ix2 p ⟨768 + l.val, by omega⟩) := by
  rw [val_main_v0_apply]
  exact congrArg x (funext fun a => match a with | ⟨0, _⟩ => rfl | ⟨1, _⟩ => rfl)

/-- Row `i` of block `t`. -/
def tr (t : Fin cfg0.N) (i : Fin 512) : Fin 2048 := ⟨512 * t.val + i.val, by have := t.isLt; have : cfg0.N = 4 := N_0; omega⟩

section
variable (c : Dev nD) (t : Fin cfg0.N) (i : Fin 512) (k : Fin 256)

theorem b0 : (iblk m c 0 t (ix2 i k) : EReal) = (val_main_v32 (F := Ideal) (m (c.tc.loc main_arg0))) (ix2 (tr t i) k) := (blk0 m c t i k (tr t i) ⟨k.val, by omega⟩ rfl rfl).trans (part0 _ _ _).symm

theorem b1 : (iblk m c 1 t (ix2 i k) : EReal) = (m (c.tc.loc main_arg1)) (ix2 (tr t i) k) := blk1 m c t i k (tr t i) k rfl rfl

theorem b2 : (iblk m c 2 t (ix2 i k) : EReal) = (val_main_v0 (F := Ideal) (m (c.tc.loc main_arg2))) (ix2 (tr t i) k) := (blk2 m c t i k (tr t i) ⟨768 + k.val, by omega⟩ rfl (by show 768 + k.val = 256 * 3 + k.val; omega)).trans (part2 _ _ _).symm

theorem b3 : (iblk m c 3 t (ix2 0 k) : EReal) = (m (c.tc.loc main_arg3)) (ix2 0 k) := blk3 m c t 0 k 0 k rfl rfl

theorem bdp : dp (iblk m c 0 t : Mat 512 256) (iblk m c 2 t : Mat 512 256) (ix2 i k) = dp (val_main_v32 (F := Ideal) (m (c.tc.loc main_arg0))) (val_main_v0 (F := Ideal) (m (c.tc.loc main_arg2))) (ix2 (tr t i) k) := by
  unfold dp
  rw [b0, b2]

end

theorem body4 (c : Dev nD) (hc : Ok m c) (t : Fin cfg0.N) (i : Fin 512) (l : Fin 256) (x0 x1 x2 : Vec Ideal S512x256 .f32) (x3 : Vec Ideal S1x256 .f32) (e0 : x0 = iblk m c 0 t) (e1 : x1 = iblk m c 1 t) (e2 : x2 = iblk m c 2 t) (e3 : x3 = iblk m c 3 t) :
    (k0_pay11 (F := Ideal) (k0_pay6 x1) (k0_pay7 x1) (k0_pay8 x0 x2 x3) (k0_pay9 x0 x1 x2 x3) (iota .tc S256x256 32 [0] iota_S256x256_d0_w32) 6#32 (ix2 i l) : EReal) = r4 m c (ix2 (tr t i) l) := by
  subst e0 e1 e2 e3
  refine (pay11 _ _ _ _ i l (fun k => ?_) (fun k => ?_) (fun k => ?_) (fun k => ?_)).trans ?_
  · rw [b0]; exact hc.1 _ _
  · rw [b1]; exact hc.2.1 _
  · rw [b2]; exact hc.2.2.1 _ _
  · rw [b3]; exact hc.2.2.2 _
  · exact congrFun (rowGrad_congr _ _ _ _ _ _ i (tr t i) (bdp m c t i) (b1 m c t i) (b3 m c t)) l

theorem body5 (c : Dev nD) (hc : Ok m c) (t : Fin cfg0.N) (i : Fin 512) (l : Fin 256) :
    (k0_pay1 (F := Ideal) (iblk m c 0 t) (iblk m c 1 t) (iblk m c 2 t) (iblk m c 3 t) (k0_pay4 (iblk m c 2 t)) (k0_pay12 (iblk m c 1 t)) (ix2 i l) : EReal) = r5 m c (ix2 (tr t i) l) := by
  refine (pay1 _ _ _ _ i l (fun k => ?_)).trans ?_
  · rw [b1]; exact hc.2.1 _
  · unfold r5 dr headNorm
    rw [b0, b2, b3, unitRow_congr _ _ i (tr t i) (b1 m c t i)]
    rfl

theorem out4 (c : Dev nD) (hc : Ok m c) (t : Fin cfg0.N) (i : Fin 512) (l : Fin 256) (p : Fin 2048) (q : Fin 256) (hp : p.val = 512 * t.val + i.val) (hq : q.val = l.val) :
    (outsAt0 m c t.val t.isLt).1 (ix2 i l) = r4 m c (ix2 p q) := by
  obtain rfl : q = l := Fin.ext hq
  obtain rfl : p = tr t i := Fin.ext hp
  have hN : cfg0.N = 4 := N_0
  have := t.isLt
  by_cases h : t.val = 0
  · rw [outsAt0_A m c t (by omega) (by omega)]
    dsimp only
    rw [out_A_4]; exact body4 m c hc t i q _ _ _ _ rfl rfl rfl rfl
  · rw [outsAt0_B m c t (by omega) (by omega)]
    dsimp only
    rw [out_B_4]; exact body4 m c hc t i q _ _ _ _ rfl rfl rfl rfl

theorem out5 (c : Dev nD) (hc : Ok m c) (t : Fin cfg0.N) (i : Fin 512) (l : Fin 256) (p : Fin 2048) (q : Fin 256) (hp : p.val = 512 * t.val + i.val) (hq : q.val = l.val) :
    (outsAt0 m c t.val t.isLt).2.1 (ix2 i l) = r5 m c (ix2 p q) := by
  obtain rfl : q = l := Fin.ext hq
  obtain rfl : p = tr t i := Fin.ext hp
  have hN : cfg0.N = 4 := N_0
  have := t.isLt
  by_cases h : t.val = 0
  · rw [outsAt0_A m c t (by omega) (by omega)]
    dsimp only
    rw [out_A_5]; exact body5 m c hc t i q
  · rw [outsAt0_B m c t (by omega) (by omega)]
    dsimp only
    rw [out_B_5]; exact body5 m c hc t i q

/-- One block's part of the gain's gradient. -/
theorem part6 (c : Dev nD) (hc : Ok m c) (t : Fin cfg0.N) (l : Fin 256) :
    (k0_pay2 (F := Ideal) (k0_pay10 (k0_pay5 (iblk m c 0 t) (iblk m c 2 t)) (k0_pay7 (iblk m c 1 t))) (ix2 0 l) : EReal) = ∑ i : Fin 512, gainPart (dp (val_main_v32 (F := Ideal) (m (c.tc.loc main_arg0))) (val_main_v0 (F := Ideal) (m (c.tc.loc main_arg2)))) (m (c.tc.loc main_arg1)) (tr t i) l := by
  refine (pay2 _ _ _ l (fun i k => ?_)).trans (Finset.sum_congr rfl fun i _ => ?_)
  · rw [b1]; exact hc.2.1 _
  · unfold gainPart
    rw [bdp, unitRow_congr _ _ i (tr t i) (b1 m c t i)]

/-- The gain's gradient after a point: the parts of the points so far. -/
theorem out6 (c : Dev nD) (hc : Ok m c) (l : Fin 256) : ∀ (n : ℕ) (h : n < cfg0.N), (outsAt0 m c n h).2.2 (ix2 0 l)
    = ∑ s : Fin (n + 1), ∑ i : Fin 512, gainPart (dp (val_main_v32 (F := Ideal) (m (c.tc.loc main_arg0))) (val_main_v0 (F := Ideal) (m (c.tc.loc main_arg2)))) (m (c.tc.loc main_arg1)) (tr ⟨s.val, by omega⟩ i) l
  | 0, h => by
    rw [outsAt0_A m c ⟨0, h⟩ rfl (Nat.not_succ_le_zero 0)]
    dsimp only
    rw [out_A_6, Fin.sum_univ_one]
    exact part6 m c hc ⟨0, h⟩ l
  | n + 1, h => by
    have hN : cfg0.N = 4 := N_0
    have hB : ¬(n + 1) % 4 = 0 := by omega
    rw [outsAt0_B m c ⟨n + 1, h⟩ hB (Nat.le_add_left 1 n)]
    dsimp only
    rw [out_B_6, Fin.sum_univ_castSucc]
    show (outsAt0 m c n _).2.2 (ix2 0 l) + _ = _
    rw [out6 c hc l n]
    exact congrArg _ (part6 m c hc ⟨n + 1, h⟩ l)

/-- What a grid point writes back to window 4. -/
theorem flushed4_eq (c : Dev nD) (hc : Ok m c) (t : Fin cfg0.N) : (dats m 0 c).flushed 4 t = ((cfg0.win 4).blk t).view.read (Elt Ideal) (r4 m c) := by
  rw [Value.flushed4]
  funext x
  rw [View.read_apply]
  obtain ⟨i, l, rfl⟩ := pair (n0 := 512) (n1 := 256) x
  refine (out4 m c hc t i l ((((cfg0.win 4).blk t).view.emb (ix2 i l) : S2048x256.Idx) 0) ((((cfg0.win 4).blk t).view.emb (ix2 i l) : S2048x256.Idx) 1) ?_ ?_).trans (congrArg (r4 m c) (eta2 _).symm)
  · show win0_4.index t 0 * 512 + 1 * i.val = _; rw [(at4 t).1]; omega
  · show win0_4.index t 1 * 256 + 1 * l.val = _; rw [(at4 t).2]; omega

/-- The array of window 4 at the end. -/
theorem final4 (c : Dev nD) (hc : Ok m c) : (dats m 0 c).arrAt 4 cfg0.N = r4 m c :=
  (dats m 0 c).arrAt_eq_of_cover 4 (r4 m c) (fun t _ => flushed4_eq m c hc t) fun i => by
    have h0 : (i 0 : Nat) < 2048 := (i 0).isLt
    have h1 : (i 1 : Nat) < 256 := (i 1).isLt
    have hN : cfg0.N = 4 := N_0
    have ht : ((i 0 : Nat) / 512) < cfg0.N := by omega
    refine ⟨⟨((i 0 : Nat) / 512), ht⟩, flush0_4 _, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 512 ≤ (i 0 : Nat) ∧ (i 0 : Nat) < win0_4.index ⟨_, ht⟩ 0 * 512 + 512
                rw [(at4 ⟨_, ht⟩).1]; try dsimp only
                omega
    | ⟨1, _⟩ => show win0_4.index ⟨_, ht⟩ 1 * 256 ≤ (i 1 : Nat) ∧ (i 1 : Nat) < win0_4.index ⟨_, ht⟩ 1 * 256 + 256
                rw [(at4 ⟨_, ht⟩).2]; try dsimp only
                omega

/-- What a grid point writes back to window 5. -/
theorem flushed5_eq (c : Dev nD) (hc : Ok m c) (t : Fin cfg0.N) : (dats m 0 c).flushed 5 t = ((cfg0.win 5).blk t).view.read (Elt Ideal) (r5 m c) := by
  rw [Value.flushed5]
  funext x
  rw [View.read_apply]
  obtain ⟨i, l, rfl⟩ := pair (n0 := 512) (n1 := 256) x
  refine (out5 m c hc t i l ((((cfg0.win 5).blk t).view.emb (ix2 i l) : S2048x256.Idx) 0) ((((cfg0.win 5).blk t).view.emb (ix2 i l) : S2048x256.Idx) 1) ?_ ?_).trans (congrArg (r5 m c) (eta2 _).symm)
  · show win0_5.index t 0 * 512 + 1 * i.val = _; rw [(at5 t).1]; omega
  · show win0_5.index t 1 * 256 + 1 * l.val = _; rw [(at5 t).2]; omega

/-- The array of window 5 at the end. -/
theorem final5 (c : Dev nD) (hc : Ok m c) : (dats m 0 c).arrAt 5 cfg0.N = r5 m c :=
  (dats m 0 c).arrAt_eq_of_cover 5 (r5 m c) (fun t _ => flushed5_eq m c hc t) fun i => by
    have h0 : (i 0 : Nat) < 2048 := (i 0).isLt
    have h1 : (i 1 : Nat) < 256 := (i 1).isLt
    have hN : cfg0.N = 4 := N_0
    have ht : ((i 0 : Nat) / 512) < cfg0.N := by omega
    refine ⟨⟨((i 0 : Nat) / 512), ht⟩, flush0_5 _, ?_⟩
    show i ∈ ((View.whole main_v0_1).slice (win0_5.rect ⟨_, ht⟩)).set
    rw [View.set_slice_whole, Rect.mem_set_unit]
    intro a
    match a with
    | ⟨0, _⟩ => show win0_5.index ⟨_, ht⟩ 0 * 512 ≤ (i 0 : Nat) ∧ (i 0 : Nat) < win0_5.index ⟨_, ht⟩ 0 * 512 + 512
                rw [(at5 ⟨_, ht⟩).1]; try dsimp only
                omega
    | ⟨1, _⟩ => show win0_5.index ⟨_, ht⟩ 1 * 256 ≤ (i 1 : Nat) ∧ (i 1 : Nat) < win0_5.index ⟨_, ht⟩ 1 * 256 + 256
                rw [(at5 ⟨_, ht⟩).2]; try dsimp only
                omega

/-- The four points' rows are all rows. -/
theorem sum_points (f : Fin 2048 → EReal) : ∑ s : Fin 4, ∑ i : Fin 512, f (tr ⟨s.val, by rw [show cfg0.N = 4 from N_0]; exact s.isLt⟩ i) = ∑ i, f i :=
  (Cert.Softmax.sum_split 4 512 2048 rfl f).symm

theorem flushed6_eq (c : Dev nD) (hc : Ok m c) (t : Fin cfg0.N) (hf : (cfg0.win 6).flush t = true) : (dats m 0 c).flushed 6 t = ((cfg0.win 6).blk t).view.read (Elt Ideal) (r6 m c) := by
  have hN : cfg0.N = 4 := N_0
  have h3 : t.val = 3 := by have := (flush0_6 t).mp hf; have := t.isLt; omega
  obtain ⟨n, hn⟩ := t
  obtain rfl : n = 3 := h3
  rw [Value.flushed6]
  have hz' : (fun a => win0_6.index ⟨3, hn⟩ a * main_v0_2.ty.shape.size a) = fun _ => 0 := funext fun a => by
    match a with
    | ⟨0, _⟩ => show win0_6.index ⟨3, hn⟩ 0 * _ = 0; rw [(at6 ⟨3, hn⟩).1, Nat.zero_mul]
    | ⟨1, _⟩ => show win0_6.index ⟨3, hn⟩ 1 * _ = 0; rw [(at6 ⟨3, hn⟩).2, Nat.zero_mul]
  refine Eq.trans ?_ (Memref.read_access_unit_zero (Elt Ideal) main_v0_2 hz' (fun a => by rw [congrFun hz' a]; simp) (r6 m c)).symm
  funext x
  obtain ⟨j, l, rfl⟩ := pair (n0 := 1) (n1 := 256) x
  obtain rfl : j = 0 := Subsingleton.elim _ _
  refine (out6 m c hc l 3 hn).trans ?_
  exact sum_points fun i => gainPart (dp (val_main_v32 (F := Ideal) (m (c.tc.loc main_arg0))) (val_main_v0 (F := Ideal) (m (c.tc.loc main_arg2)))) (m (c.tc.loc main_arg1)) i l

/-- The array of the gain's gradient at the end. -/
theorem final6 (c : Dev nD) (hc : Ok m c) : (dats m 0 c).arrAt 6 cfg0.N = r6 m c :=
  (dats m 0 c).arrAt_eq_of_cover 6 (r6 m c) (flushed6_eq m c hc) fun i => by
    have h0 : (i 0 : Nat) < 1 := (i 0).isLt
    have h1 : (i 1 : Nat) < 256 := (i 1).isLt
    have hN : cfg0.N = 4 := N_0
    let t : Fin cfg0.N := ⟨3, by omega⟩
    refine ⟨t, (flush0_6 t).mpr rfl, ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(at6 t).1]; omega
    | ⟨1, _⟩ => show win0_6.index t 1 * 256 ≤ (i 1 : Nat) ∧ (i 1 : Nat) < win0_6.index t 1 * 256 + 256
                rw [(at6 t).2]; omega

theorem ok (c : Dev nD) (h0 : ∀ (i : Fin 2048) (l : Fin 256) (q : Fin 1024), q.val = l.val → Real' (m (c.tc.loc main_arg0) (ix2 i q))) (h1 : ∀ i, Real' (m (c.tc.loc main_arg1) i))
    (h2 : ∀ (i : Fin 2048) (l : Fin 256) (q : Fin 2304), q.val = 768 + l.val → Real' (m (c.tc.loc main_arg2) (ix2 i q))) (h3 : ∀ i, Real' (m (c.tc.loc main_arg3) i)) : Ok m c :=
  ⟨fun i l => by rw [part0]; exact h0 i l _ rfl, h1, fun i l => by rw [part2]; exact h2 i l _ rfl, h3⟩

section
open Cert.RetPostBwdRefIdeal.Read
variable (x0 : (⟨Cert.RetPostBwdRefIdeal.S2048x1024, .f32⟩ : BufTy).Contents (Elt Ideal)) (x1 : (⟨Cert.RetPostBwdRefIdeal.S2048x256, .f32⟩ : BufTy).Contents (Elt Ideal)) (x2 : (⟨Cert.RetPostBwdRefIdeal.S2048x2304, .f32⟩ : BufTy).Contents (Elt Ideal)) (x3 : (⟨Cert.RetPostBwdRefIdeal.S1x256, .f32⟩ : BufTy).Contents (Elt Ideal))

/-- The heads, split. -/
theorem v2 (i : Fin 2048) (h : Fin 4) (d : Fin 64) : (val_main_v2 (F := Ideal) x1 (ix3 i h d) : EReal) = x1 (ix2 i (lane h d)) := by
  rw [val_main_v2_apply]
  exact congrArg x1 (funext fun a => Fin.ext (match a with
    | ⟨0, _⟩ => by show ((i.val * 4 + h.val) * 64 + d.val) / 256 = i.val; omega
    | ⟨1, _⟩ => by show ((i.val * 4 + h.val) * 64 + d.val) % 256 = 64 * h.val + d.val; omega))

theorem v3 (h : Fin 4) (d : Fin 64) : (val_main_v3 (F := Ideal) x3 (ix2 h d) : EReal) = x3 (ix2 0 (lane h d)) := by
  rw [val_main_v3_apply, val_main_v1_apply]
  exact congrArg x3 (funext fun a => match a with
    | ⟨0, _⟩ => rfl
    | ⟨1, _⟩ => Fin.ext (by show (h.val * 64 + d.val) % 256 = 64 * h.val + d.val; omega))

/-- The mean square of a head. -/
theorem v10 (i : Fin 2048) (h : Fin 4) : (val_main_v10 (F := Ideal) x1 (ix3 i h 0) : EReal) = ms (x1 : Mat 2048 256) i h := by
  rw [val_main_v10_apply, val_main_v9_apply, val_main_cst_1_apply, val_main_v8_apply, val_main_v7_apply, val_main_cst_0_apply, val_main_v6_apply, val_main_v5_apply, val_main_cst_apply]
  unfold ms mean
  refine congrArg (fun z : EReal => Ideal.div z _ + _) ?_
  show Ideal.ofBits .f32 0x00000000#32 + _ = _
  rw [Ideal.ofBits_zero_f32, zero_add]
  refine Finset.sum_congr rfl fun d _ => ?_
  rw [val_main_v4_apply, show idx_main_v5 (idx_main_v6 (ix3 i h 0)) d = ix3 i h d from funext fun a => match a with | ⟨0, _⟩ => rfl | ⟨1, _⟩ => rfl | ⟨2, _⟩ => rfl, v2]
  rfl

theorem v11 (i : Fin 2048) (h : Fin 4) : (val_main_v11 (F := Ideal) x1 (ix3 i h 0) : EReal) = Ideal.rsqrt (ms (x1 : Mat 2048 256) i h) := by
  rw [val_main_v11_apply, v10]
  rfl

/-- A lane as head and place. -/
theorem lanes (i : Fin 2048) (l : Fin 256) : idx_main_v20 (ix2 i l) = ix3 i (head l) (sub l) := funext fun a => Fin.ext (match a with
    | ⟨0, _⟩ => by show (i.val * 256 + l.val) / 256 = i.val; omega
    | ⟨1, _⟩ => by show (i.val * 256 + l.val) / 64 % 4 = l.val / 64; omega
    | ⟨2, _⟩ => by show (i.val * 256 + l.val) % 64 = l.val % 64; omega)

theorem v16 (i : Fin 2048) (l : Fin 256) : (val_main_v16 (F := Ideal) x1 (ix3 i (head l) (sub l)) : EReal) = unitRow (x1 : Mat 2048 256) i l := by
  rw [val_main_v16_apply, val_main_v15_apply, v2, lane_head, show idx_main_v15 (ix3 i (head l) (sub l)) = ix3 i (head l) 0 from funext fun a => match a with | ⟨0, _⟩ => rfl | ⟨1, _⟩ => rfl | ⟨2, _⟩ => rfl, v11]
  rfl

/-- The normed heads. -/
theorem v20 (i : Fin 2048) (l : Fin 256) : (val_main_v20 (F := Ideal) x1 x3 (ix2 i l) : EReal) = headNorm (x1 : Mat 2048 256) x3 i l := by
  rw [val_main_v20_apply, lanes, val_main_v19_apply, v16, val_main_v18_apply, val_main_v17_apply, show idx_main_v17 (idx_main_v18 (ix3 i (head l) (sub l))) = ix2 (head l) (sub l) from funext fun a => match a with | ⟨0, _⟩ => rfl | ⟨1, _⟩ => rfl, v3, lane_head]
  rfl

/-- The logistic function of the gate. -/
theorem v26 (i : Fin 2048) (l : Fin 256) : (val_main_v26 (F := Ideal) x2 (ix2 i l) : EReal) = logi (val_main_v0 (F := Ideal) x2 (ix2 i l)) := by
  rw [val_main_v26_apply, val_main_v25_apply, val_main_cst_4_apply, val_main_v24_apply, val_main_v23_apply, val_main_cst_3_apply, val_main_v22_apply, val_main_v21_apply]
  exact logi_ref _

theorem v34 (i : Fin 2048) (l : Fin 256) : (val_main_v34 (F := Ideal) x0 x2 (ix2 i l) : EReal) = dp (val_main_v32 (F := Ideal) x0) (val_main_v0 (F := Ideal) x2) (ix2 i l) := by
  rw [val_main_v34_apply, val_main_v30_apply, v26]
  rfl

theorem v39 (i : Fin 2048) (h : Fin 4) (d : Fin 64) : (val_main_v39 (F := Ideal) x0 x2 (ix3 i h d) : EReal) = dp (val_main_v32 (F := Ideal) x0) (val_main_v0 (F := Ideal) x2) (ix2 i (lane h d)) := by
  rw [val_main_v39_apply, ← v34]
  exact congrArg _ (funext fun a => Fin.ext (match a with
    | ⟨0, _⟩ => by show ((i.val * 4 + h.val) * 64 + d.val) / 256 = i.val; omega
    | ⟨1, _⟩ => by show ((i.val * 4 + h.val) * 64 + d.val) % 256 = 64 * h.val + d.val; omega))

theorem v44 (i : Fin 2048) (h : Fin 4) (d : Fin 64) : (val_main_v44 (F := Ideal) x0 x2 x3 (ix3 i h d) : EReal) = dp (val_main_v32 (F := Ideal) x0) (val_main_v0 (F := Ideal) x2) (ix2 i (lane h d)) * x3 (ix2 0 (lane h d)) := by
  rw [val_main_v44_apply, v39, val_main_v43_apply, val_main_v17_apply, show idx_main_v17 (idx_main_v43 (ix3 i h d)) = ix2 h d from funext fun a => match a with | ⟨0, _⟩ => rfl | ⟨1, _⟩ => rfl, v3]
  rfl

/-- The derivative of the mean square. -/
theorem v55 (i : Fin 2048) (h : Fin 4) (d : Fin 64) : (val_main_v55 (F := Ideal) x0 x1 x2 x3 (ix3 i h d) : EReal) = spread (dp (val_main_v32 (F := Ideal) x0) (val_main_v0 (F := Ideal) x2)) (x1 : Mat 2048 256) x3 i h := by
  rw [val_main_v55_apply, val_main_v54_apply, val_main_cst_10_apply]
  show Ideal.ofBits .f32 0x00000000#32 + _ = _
  rw [Ideal.ofBits_zero_f32, zero_add, Fin.sum_univ_one, show idx_main_v54 (idx_main_v55 (ix3 i h d)) 0 = ix3 i h 0 from funext fun a => match a with | ⟨0, _⟩ => rfl | ⟨1, _⟩ => rfl | ⟨2, _⟩ => rfl,
    val_main_v53_apply, val_main_v52_apply, val_main_cst_9_apply, val_main_v51_apply, val_main_v14_apply, val_main_v13_apply, val_main_cst_2_apply, val_main_v12_apply, v11, v10, val_main_v48_apply, val_main_v47_apply, val_main_cst_8_apply]
  unfold spread
  refine congrArg (fun z : EReal => Ideal.div (z * _) _) ?_
  show Ideal.ofBits .f32 0x00000000#32 + _ = _
  rw [Ideal.ofBits_zero_f32, zero_add]
  refine Finset.sum_congr rfl fun k _ => ?_
  rw [show idx_main_v47 (idx_main_v48 (ix3 i h 0)) k = ix3 i h k from funext fun a => Fin.ext (match a with
    | ⟨0, _⟩ => by show ((i.val * 4 + h.val) * 1 + 0) / 4 = i.val; omega
    | ⟨1, _⟩ => by show ((i.val * 4 + h.val) * 1 + 0) % 4 = h.val; omega
    | ⟨2, _⟩ => rfl), val_main_v46_apply, v2, v44]
  rfl

variable (h0 : ∀ (i : Fin 2048) (l : Fin 256), Real' (val_main_v32 (F := Ideal) x0 (ix2 i l))) (h1 : ∀ i, Real' (x1 i)) (h2 : ∀ (i : Fin 2048) (l : Fin 256), Real' (val_main_v0 (F := Ideal) x2 (ix2 i l))) (h3 : ∀ i, Real' (x3 i))
include h0 h1 h3

theorem ref4 (h2 : ∀ (i : Fin 2048) (l : Fin 256), Real' (val_main_v0 (F := Ideal) x2 (ix2 i l))) : val_main_v62 (F := Ideal) x0 x1 x2 x3 = fun x => rowGrad (dp (val_main_v32 (F := Ideal) x0) (val_main_v0 (F := Ideal) x2)) (x1 : Mat 2048 256) x3 (x 0) (x 1) := by
  funext x
  obtain ⟨i, l, rfl⟩ := pair (n0 := 2048) (n1 := 256) x
  rw [val_main_v62_apply, val_main_v61_apply, show idx_main_v61 (ix2 i l) = _ from lanes i l,
    val_main_v59_apply, val_main_v58_apply, val_main_v57_apply, val_main_v56_apply, val_main_v50_apply, val_main_v49_apply, v55, v44, v2, lane_head,
    show idx_main_v49 (ix3 i (head l) (sub l)) = ix3 i (head l) 0 from funext fun a => match a with | ⟨0, _⟩ => rfl | ⟨1, _⟩ => rfl | ⟨2, _⟩ => rfl, v11]
  exact rowGrad_ref (dp (val_main_v32 (F := Ideal) x0) (val_main_v0 (F := Ideal) x2)) (x1 : Mat 2048 256) x3 i (fun _ => dp_real _ _ _ (h0 _ _) (h2 _ _)) (fun _ => h1 _) (fun _ => h3 _) l

theorem ref5 : val_main_v38 (F := Ideal) x0 x1 x2 x3 = fun x => dr (val_main_v32 (F := Ideal) x0) (x1 : Mat 2048 256) (val_main_v0 (F := Ideal) x2) x3 (x 0) (x 1) := by
  funext x
  obtain ⟨i, l, rfl⟩ := pair (n0 := 2048) (n1 := 256) x
  rw [val_main_v38_apply, val_main_v37_apply, val_main_v36_apply, val_main_v35_apply, val_main_v33_apply, val_main_v29_apply, val_main_v28_apply, val_main_v27_apply, val_main_cst_5_apply, v26, v20]
  show _ + _ * (_ * (Ideal.ofBits .f32 0x3F800000#32 - _)) = dr _ _ _ _ i l
  rw [Ideal.ofBits_one_f32]
  unfold dr
  rw [mul_comm (val_main_v32 (F := Ideal) x0 (ix2 i l) : EReal)]
  exact (swish_grad _ (((h1 _).mul (rs_real _ i (fun _ => h1 _) _)).mul (h3 _) |>.mul (h0 i l)) _).symm

omit h0 h1 h3 in
theorem ref6 : val_main_v63 (F := Ideal) x0 x1 x2 = fun x => ∑ i, gainPart (dp (val_main_v32 (F := Ideal) x0) (val_main_v0 (F := Ideal) x2)) (x1 : Mat 2048 256) i (x 1) := by
  funext x
  obtain ⟨u, l, rfl⟩ := pair (n0 := 1) (n1 := 256) x
  obtain rfl : u = 0 := Subsingleton.elim _ _
  rw [val_main_v63_apply, val_main_v60_apply, val_main_v45_apply, val_main_cst_7_apply]
  show Ideal.ofBits .f32 0x00000000#32 + _ = _
  rw [Ideal.ofBits_zero_f32, zero_add, Fin.sum_univ_one, val_main_v42_apply, val_main_v41_apply, val_main_cst_6_apply]
  show Ideal.ofBits .f32 0x00000000#32 + _ = _
  rw [Ideal.ofBits_zero_f32, zero_add]
  refine Finset.sum_congr rfl fun i _ => ?_
  rw [show idx_main_v41 (idx_main_v42 (idx_main_v45 (idx_main_v60 (idx_main_v63 (ix2 0 l))) 0)) i = ix3 i (head l) (sub l) from funext fun a => Fin.ext (match a with
    | ⟨0, _⟩ => rfl
    | ⟨1, _⟩ => by show ((0 * 4 + l.val / 64) * 64 + l.val % 64) / 64 = l.val / 64; omega
    | ⟨2, _⟩ => by show ((0 * 4 + l.val / 64) * 64 + l.val % 64) % 64 = l.val % 64; omega), val_main_v40_apply, v39, v16, lane_head]
  exact mul_comm _ _

end

end Cert.RetPostBwdIdeal.Pay

namespace Cert.RetPostBwdClaims

open Idealize.ShloMosaic Idealize.ShloMosaic.TcCoe Idealize.SL.Sem Cert.Tiles Cert.RetPostBwdIdeal.Pay

attribute [local instance] Cert.RetPostBwd.Gen.facts Cert.RetPostBwdIdeal.Gen.facts Cert.RetPostBwdRefIdeal.Gen.facts Cert.PreRealRetPost.facts

/-- The kernel runs, keeps its arguments and ends quiescent. -/
theorem frameP : Cert.quiescent_RetPostBwd := fun m ρ _ => Cert.RetPostBwd.Gen.frame m ρ

/-- … and so does it at the ideal numbers. -/
theorem framePI : Cert.quiescent_RetPostBwdIdeal := fun m ρ _ => Cert.RetPostBwdIdeal.Gen.frame m ρ

/-- The reference runs, keeps its arguments and ends quiescent. -/
theorem frameRI : Cert.quiescent_RetPostBwdRefIdeal := fun m ρ _ =>
  (θ_run Cert.RetPostBwdRefIdeal.defs _ _).mono (fun r h => ⟨fun c => (h c).2.2.2,
      Idealize.ShloMosaic.sem_eq_zero_of_no_sems (by decide) r.2⟩) (Cert.RetPostBwdRefIdeal.Value.run (F := Ideal) m ρ)

theorem framePIpre : Cert.quiescent_RetPostBwdIdeal_pre_real_ret_post := fun m ρ _ => Cert.RetPostBwdIdeal.Gen.frame m ρ

theorem frameRIpre : Cert.quiescent_RetPostBwdRefIdeal_pre_real_ret_post := fun m ρ _ => frameRI m ρ trivial

/-- Kernel and reference compute the same results. -/
theorem algebraic : Cert.algebraic_RetPostBwdIdeal_RetPostBwdRefIdeal_pre_real_ret_post := by
  intro m ρ m' ρ' hpre hag
  have K : ∀ c, Ok m c := fun c => by
    obtain ⟨h0, h1, h2, h3⟩ := Cert.PreRealRetPost.real _ _ _ _ (hpre c)
    exact ok m c h0 h1 h2 h3
  refine ⟨fun c => r4 m c, fun c => r5 m c, fun c => r6 m c, ?_, ?_⟩
  · exact (θ_run Cert.RetPostBwdIdeal.defs _ _).mono (fun r h c => ⟨((h c).1).trans (final4 m c (K c)), ((h c).2.1).trans (final5 m c (K c)), ((h c).2.2.1).trans (final6 m c (K c)), (h c).2.2.2⟩) (Cert.RetPostBwdIdeal.Value.run_blocks m ρ)
  · refine (θ_run Cert.RetPostBwdRefIdeal.defs _ _).mono (fun r h c => ?_) (Cert.RetPostBwdRefIdeal.Value.run (F := Ideal) m' ρ')
    obtain ⟨g0, g1, g2, g3⟩ := hag c
    obtain ⟨h0, h1, h2, h3⟩ := Cert.PreRealRetPost.real _ _ _ _ (hpre c)
    refine ⟨((h c).1).trans ?_, ((h c).2.1).trans ?_, ((h c).2.2.1).trans ?_, (h c).2.2.2⟩ <;> clear h
    · rw [Cert.RetPostBwdRefIdeal.Read.val_main_v62_eq]
      try rw [g0]
      try rw [g1]
      try rw [g2]
      try rw [g3]
      exact ref4 _ _ _ _ (ok m c h0 h1 h2 h3).1 h1 h3 (ok m c h0 h1 h2 h3).2.2.1
    · rw [Cert.RetPostBwdRefIdeal.Read.val_main_v38_eq]
      try rw [g0]
      try rw [g1]
      try rw [g2]
      try rw [g3]
      exact ref5 _ _ _ _ (ok m c h0 h1 h2 h3).1 h1 h3
    · rw [Cert.RetPostBwdRefIdeal.Read.val_main_v63_eq]
      try rw [g0]
      try rw [g1]
      try rw [g2]
      try rw [g3]
      exact ref6 _ _ _

end Cert.RetPostBwdClaims

end
-- ==== Proof.PreRealMemkv.lean ====
/-
  What the precondition says at the ideal numbers: every entry of the memory's keys is a real number.
-/
module

public import proofs.«01_k».proof.Pre_real_memkv
public import proofs.«01_k».proof.Proof.Reals
public import proofs.«01_k».proof.Proof.Tiles

@[expose] public section

set_option maxRecDepth 16384

noncomputable section

namespace Cert.PreRealMemkv

open Idealize.ShloMosaic Cert.Reals
open Cert.PreReal (all_real top_bits)

/-- The shape relations the predicate's operations take. -/
theorem facts : Cert.Pre_real_memkv.Facts where
  slices_S256x512_S256x256_0_0 := by decide
  bcast_S_S256x256 := by decide
  reducesTo_S256x256_S_d0_1 := by decide
  h_S_ := by decide

/-- Where the precondition holds, the arrays it names are real. -/
theorem real [Cert.Pre_real_memkv.Facts] (a0 : FVec Ideal Cert.Pre_real_memkv.S256x512 .f32) (a1 : FVec Ideal Cert.Pre_real_memkv.S1x256 .f32) (h : Cert.Pre_real_memkv.fn a0 a1 = fun _ => 1#1) :
    ∀ (i l : Fin 256) (q : Fin 512), q.val = l.val → Real' (a0 (ix2 i q)) := by
  unfold Cert.Pre_real_memkv.fn at h
  dsimp only at h
  exact fun i l q hq => (congrArg Real' (extractStridedSlice_apply (![0, 0] : Fin 2 → ℕ) a0 _ (ix2 i l) (ix2 i q) (fun a => match a with | ⟨0, _⟩ => (Nat.zero_add _).symm | ⟨1, _⟩ => by show q.val = 0 + l.val; omega))).mp (all_real (extractStridedSlice _ _ a0 _) _ _ _ _ _ (fun _ => rfl) (fun _ => top_bits) h (ix2 i l))

end Cert.PreRealMemkv

end
-- ==== Proof.MemkvPrep.lean ====
/-
  The memory's keys normalised head by head, and its values.
-/
module

public import proofs.«01_k».proof.Defs
public import proofs.«01_k».proof.Proof.HeadNorm
public import proofs.«01_k».proof.Proof.PreRealMemkv
public import proofs.«01_k».proof.Proof.Gen.MemkvPrep.Frame
public import proofs.«01_k».proof.Proof.Gen.MemkvPrepIdeal.Value
public import proofs.«01_k».proof.Proof.Gen.MemkvPrepRefIdeal.Read
public import proofs.«01_k».proof.Proof.Gen.MemkvPrepRefIdeal.Run
public import Idealize.ShloMosaic.Lib.Tactic

@[expose] public section

set_option maxRecDepth 16384

noncomputable section

namespace Cert.MemkvPrepIdeal.Pay

open Idealize.ShloMosaic Idealize.ShloMosaic.TcCoe Idealize.SL.Sem Cert.MemkvPrepIdeal Cert.MemkvPrepIdeal.Gen Cert.Tiles
open Cert.HeadNorm Cert.Reals Cert.MemSpec

/-- The kernel's keys: each head normalised, its squares' mean by two products. -/
theorem pay1 (x : Vec Ideal S256x256 .f32) (g : Vec Ideal S1x256 .f32) (i l : Fin 256) (hx : ∀ k, Real' (x (ix2 i k))) :
    (k0_pay1 (F := Ideal) x g (ix2 i l) : EReal) = headNorm (x : Mat 256 256) g i l := by
  unfold headNorm unitRow ms
  rw [← mean_kernel (fun j => (x : Mat 256 256) (ix2 i j) * (x : Mat 256 256) (ix2 i j)) (fun j => (hx j).mul (hx j)) l]
  unfold weight
  pointwise [k0_pay1]

end Cert.MemkvPrepIdeal.Pay

namespace Cert.MemkvPrepRefIdeal.Pay

open Idealize.ShloMosaic Cert.MemkvPrepRefIdeal Cert.MemkvPrepRefIdeal.Gen Cert.MemkvPrepRefIdeal.Read Cert.Tiles
open Cert.HeadNorm Cert.MemSpec Cert.Reals

variable (x0 : (⟨S256x512, .f32⟩ : BufTy).Contents (Elt Ideal)) (x1 : (⟨S1x256, .f32⟩ : BufTy).Contents (Elt Ideal))

/-- The keys, split into heads. -/
theorem v3 (i : Fin 256) (h : Fin 4) (d : Fin 64) : (val_main_v3 x0 (ix3 i h d) : EReal) = val_main_v1 x0 (ix2 i (lane h d)) := by
  rw [val_main_v3_apply]
  exact congrArg _ (funext fun a => Fin.ext (match a with
    | ⟨0, _⟩ => by show ((i.val * 4 + h.val) * 64 + d.val) / 256 = i.val; omega
    | ⟨1, _⟩ => by show ((i.val * 4 + h.val) * 64 + d.val) % 256 = 64 * h.val + d.val; omega))

theorem v4 (h : Fin 4) (d : Fin 64) : (val_main_v4 x1 (ix2 h d) : EReal) = x1 (ix2 0 (lane h d)) := by
  rw [val_main_v4_apply, val_main_v0_apply]
  exact congrArg x1 (funext fun a => match a with
    | ⟨0, _⟩ => rfl
    | ⟨1, _⟩ => Fin.ext (by show (h.val * 64 + d.val) % 256 = 64 * h.val + d.val; omega))

/-- The mean square of a head. -/
theorem v11 (i : Fin 256) (h : Fin 4) : (val_main_v11 x0 (ix3 i h 0) : EReal) = ms (val_main_v1 x0 : Mat 256 256) i h := by
  rw [val_main_v11_apply, val_main_v10_apply, val_main_cst_1_apply, val_main_v9_apply, val_main_v8_apply, val_main_cst_0_apply, val_main_v7_apply, val_main_v6_apply, val_main_cst_apply]
  unfold ms mean
  refine congrArg (fun z : EReal => Ideal.div z _ + _) ?_
  show Ideal.ofBits .f32 0x00000000#32 + _ = _
  rw [Ideal.ofBits_zero_f32, zero_add]
  refine Finset.sum_congr rfl fun d _ => ?_
  rw [val_main_v5_apply, show idx_main_v6 (idx_main_v7 (ix3 i h 0)) d = ix3 i h d from funext fun a => match a with | ⟨0, _⟩ => rfl | ⟨1, _⟩ => rfl | ⟨2, _⟩ => rfl, v3]
  rfl

theorem v18 (i l : Fin 256) : (val_main_v18 x0 x1 (ix2 i l) : EReal) = headNorm (val_main_v1 x0 : Mat 256 256) x1 i l := by
  rw [val_main_v18_apply]
  have e : idx_main_v18 (ix2 i l) = ix3 i (head l) (sub l) := funext fun a => Fin.ext (match a with
    | ⟨0, _⟩ => by show (i.val * 256 + l.val) / 256 = i.val; omega
    | ⟨1, _⟩ => by show (i.val * 256 + l.val) / 64 % 4 = l.val / 64; omega
    | ⟨2, _⟩ => by show (i.val * 256 + l.val) % 64 = l.val % 64; omega)
  rw [e, val_main_v17_apply, val_main_v14_apply, val_main_v13_apply, val_main_v12_apply, val_main_v16_apply, val_main_v15_apply, v3, lane_head,
    show idx_main_v13 (ix3 i (head l) (sub l)) = ix3 i (head l) 0 from funext fun a => match a with | ⟨0, _⟩ => rfl | ⟨1, _⟩ => rfl | ⟨2, _⟩ => rfl, v11,
    show idx_main_v15 (idx_main_v16 (ix3 i (head l) (sub l))) = ix2 (head l) (sub l) from funext fun a => match a with | ⟨0, _⟩ => rfl | ⟨1, _⟩ => rfl, v4, lane_head]
  rfl

/-- The kernel's keys are the reference's … -/
theorem ref2 (h : ∀ (i l : Fin 256) (q : Fin 512), q.val = l.val → Real' (x0 (ix2 i q))) : val_main_v19 x0 x1 = Cert.MemkvPrepIdeal.Value.G2 x0 x1 := by
  funext x
  obtain ⟨i, l, rfl⟩ := pair (n0 := 256) (n1 := 256) x
  have e : View.ld x0 Cert.MemkvPrepIdeal.Gen.r0_0 = val_main_v1 x0 := View.ld_unit _ _ _ _
  rw [val_main_v19_apply]
  refine (v18 x0 x1 i l).trans (Eq.trans ?_ (Cert.MemkvPrepIdeal.Pay.pay1 _ x1 i l fun k => ?_).symm)
  · rw [e]
  · rw [e, val_main_v1_apply, show idx_main_v1 (ix2 i k) = ix2 i ⟨k.val, by omega⟩ from funext fun a => match a with | ⟨0, _⟩ => rfl | ⟨1, _⟩ => rfl]
    exact h i k _ rfl

/-- … and so are its values. -/
theorem ref3 : val_main_v20 x0 = Cert.MemkvPrepIdeal.Value.G3 x0 x1 := by
  have e : View.ld x0 Cert.MemkvPrepIdeal.Gen.r0_3 = val_main_v2 x0 := View.ld_unit _ _ _ _
  show _ = Cert.MemkvPrepIdeal.Gen.k0_pay2 (View.ld x0 Cert.MemkvPrepIdeal.Gen.r0_3)
  rw [e]
  rfl

end Cert.MemkvPrepRefIdeal.Pay

namespace Cert.MemkvPrepClaims

open Idealize.ShloMosaic Idealize.ShloMosaic.TcCoe Idealize.SL.Sem Cert.Tiles

attribute [local instance] Cert.MemkvPrep.Gen.facts Cert.MemkvPrepIdeal.Gen.facts Cert.MemkvPrepRefIdeal.Gen.facts Cert.PreRealMemkv.facts

/-- The kernel runs, keeps its arguments and ends quiescent. -/
theorem frameP : Cert.quiescent_MemkvPrep := fun m ρ _ => Cert.MemkvPrep.Gen.frame m ρ

/-- … and so does it at the ideal numbers. -/
theorem framePI : Cert.quiescent_MemkvPrepIdeal := fun m ρ _ => Cert.MemkvPrepIdeal.Gen.frame m ρ

/-- The reference runs, keeps its arguments and ends quiescent. -/
theorem frameRI : Cert.quiescent_MemkvPrepRefIdeal := fun m ρ _ =>
  (θ_run Cert.MemkvPrepRefIdeal.defs _ _).mono (fun r h => ⟨fun c => (h c).2.2,
      Idealize.ShloMosaic.sem_eq_zero_of_no_sems (by decide) r.2⟩) (Cert.MemkvPrepRefIdeal.Value.run (F := Ideal) m ρ)

theorem framePIpre : Cert.quiescent_MemkvPrepIdeal_pre_real_memkv := fun m ρ _ => Cert.MemkvPrepIdeal.Gen.frame m ρ

theorem frameRIpre : Cert.quiescent_MemkvPrepRefIdeal_pre_real_memkv := fun m ρ _ => frameRI m ρ trivial

/-- Kernel and reference compute the same results. -/
theorem algebraic : Cert.algebraic_MemkvPrepIdeal_MemkvPrepRefIdeal_pre_real_memkv := by
  intro m ρ m' ρ' hpre hag
  refine ⟨_, _, (θ_run Cert.MemkvPrepIdeal.defs _ _).mono (fun r h c => ⟨(h c).1, (h c).2.1, (h c).2.2⟩) (Cert.MemkvPrepIdeal.Value.run m ρ), ?_⟩
  refine (θ_run Cert.MemkvPrepRefIdeal.defs _ _).mono (fun r h c => ?_) (Cert.MemkvPrepRefIdeal.Value.run (F := Ideal) m' ρ')
  obtain ⟨g0, g1⟩ := hag c
  have h0 := Cert.PreRealMemkv.real _ _ (hpre c)
  refine ⟨(h c).1.trans ?_, (h c).2.1.trans ?_, (h c).2.2⟩ <;> clear h
  · rw [Cert.MemkvPrepRefIdeal.Read.val_main_v19_eq, g0, g1]
    exact Cert.MemkvPrepRefIdeal.Pay.ref2 _ _ h0
  · rw [Cert.MemkvPrepRefIdeal.Read.val_main_v20_eq, g0]
    exact Cert.MemkvPrepRefIdeal.Pay.ref3 _ _

end Cert.MemkvPrepClaims

end
-- ==== Proof.PreRealMemkvBwd.lean ====
/-
  What the precondition says at the ideal numbers: every entry of the memory's keys, of their gradient and of the norm's gain is a real number.
-/
module

public import proofs.«01_k».proof.Pre_real_memkv_bwd
public import proofs.«01_k».proof.Proof.Reals
public import proofs.«01_k».proof.Proof.Tiles

@[expose] public section

set_option maxRecDepth 16384

noncomputable section

namespace Cert.PreRealMemkvBwd

open Idealize.ShloMosaic Cert.Reals
open Cert.PreReal (all_real top_bits)

/-- The shape relations the predicate's operations take. -/
theorem facts : Cert.Pre_real_memkv_bwd.Facts where
  slices_S256x512_S256x256_0_0 := by decide
  bcast_S_S256x256 := by decide
  reducesTo_S256x256_S_d0_1 := by decide
  h_S_ := by decide
  bcast_S_S1x256 := by decide
  reducesTo_S1x256_S_d0_1 := by decide

/-- Where the precondition holds, the arrays it names are real. -/
theorem real [Cert.Pre_real_memkv_bwd.Facts] (a0 : FVec Ideal Cert.Pre_real_memkv_bwd.S256x512 .f32) (a1 a2 : FVec Ideal Cert.Pre_real_memkv_bwd.S256x256 .f32) (a3 : FVec Ideal Cert.Pre_real_memkv_bwd.S1x256 .f32) (h : Cert.Pre_real_memkv_bwd.fn a0 a1 a2 a3 = fun _ => 1#1) :
    (∀ (i l : Fin 256) (q : Fin 512), q.val = l.val → Real' (a0 (ix2 i q))) ∧ (∀ i, Real' (a1 i)) ∧ (∀ i, Real' (a3 i)) := by
  unfold Cert.Pre_real_memkv_bwd.fn at h
  dsimp only at h
  obtain ⟨h, e3⟩ := and_bits h
  obtain ⟨h, e1⟩ := and_bits h
  exact ⟨fun i l q hq => (congrArg Real' (extractStridedSlice_apply (![0, 0] : Fin 2 → ℕ) a0 _ (ix2 i l) (ix2 i q) (fun a => match a with | ⟨0, _⟩ => (Nat.zero_add _).symm | ⟨1, _⟩ => by show q.val = 0 + l.val; omega))).mp (all_real (extractStridedSlice _ _ a0 _) _ _ _ _ _ (fun _ => rfl) (fun _ => top_bits) h (ix2 i l)), all_real a1 _ _ _ _ _ (fun _ => rfl) (fun _ => top_bits) e1, all_real a3 _ _ _ _ _ (fun _ => rfl) (fun _ => top_bits) e3⟩

end Cert.PreRealMemkvBwd

end
-- ==== Proof.MemkvBwd.lean ====
/-
  The gradient through the norm of the memory's keys, head by head, beside its values' gradient, and the gain's gradient.
-/
module

public import proofs.«01_k».proof.Defs
public import proofs.«01_k».proof.Proof.HeadNorm
public import proofs.«01_k».proof.Proof.PreRealMemkvBwd
public import proofs.«01_k».proof.Proof.Gen.MemkvBwd.Frame
public import proofs.«01_k».proof.Proof.Gen.MemkvBwdIdeal.Value
public import proofs.«01_k».proof.Proof.Gen.MemkvBwdRefIdeal.Read
public import proofs.«01_k».proof.Proof.Gen.MemkvBwdRefIdeal.Run
public import Idealize.ShloMosaic.Lib.Tactic

@[expose] public section

set_option maxRecDepth 16384

noncomputable section

namespace Cert.MemkvBwdIdeal.Pay

open Idealize.ShloMosaic Idealize.ShloMosaic.TcCoe Idealize.SL.Sem Cert.MemkvBwdIdeal Cert.MemkvBwdIdeal.Gen Cert.Tiles
open Cert.HeadNorm Cert.Reals Cert.MemSpec

/-- The reciprocal root of the mean square of a lane's head. -/
theorem pay4 (x : Vec Ideal S256x256 .f32) (i l : Fin 256) (hx : ∀ k, Real' (x (ix2 i k))) : (k0_pay4 (F := Ideal) x (ix2 i l) : EReal) = Ideal.rsqrt (ms (x : Mat 256 256) i (head l)) := by
  unfold ms
  rw [← mean_kernel (fun j => (x : Mat 256 256) (ix2 i j) * (x : Mat 256 256) (ix2 i j)) (fun j => (hx j).mul (hx j)) l]
  unfold weight
  pointwise [k0_pay4]

theorem pay5 (x : Vec Ideal S256x256 .f32) (i l : Fin 256) (hx : ∀ k, Real' (x (ix2 i k))) : (k0_pay5 (F := Ideal) x (ix2 i l) : EReal) = unitRow (x : Mat 256 256) i l := by
  unfold unitRow
  rw [← pay4 x i l hx]
  rfl

theorem pay8 (j l : Fin 256) : (k0_pay8 (F := Ideal) (ix2 j l) : EReal) = weight j l := by
  unfold weight
  pointwise [k0_pay8]

/-- A row's gradient. -/
theorem pay1 (d x : Vec Ideal S256x256 .f32) (g : Vec Ideal S1x256 .f32) (i l : Fin 256) (hd : ∀ k, Real' (d (ix2 i k))) (hx : ∀ k, Real' (x (ix2 i k))) (hg : ∀ k, Real' (g (ix2 0 k))) :
    (k0_pay1 (F := Ideal) (k0_pay4 x) (k0_pay5 x) (k0_pay6 d g) k0_pay8 (k0_pay9 d x g) (k0_pay10 d x g) (ix2 i l) : EReal) = rowGrad (d : Mat 256 256) x g i l := by
  have h4 := fun l => pay4 x i l hx
  have h5 := fun l => pay5 x i l hx
  unfold rowGrad
  rw [← mean_kernel (fun j => (d : Mat 256 256) (ix2 i j) * (g : Mat 1 256) (ix2 0 j) * unitRow (x : Mat 256 256) i j) (fun j => ((hd j).mul (hg j)).mul ((hx j).mul (rs_real _ i hx _))) l]
  unfold k0_pay1 k0_pay10 k0_pay9 k0_pay7 k0_pay6
  have h8 := pay8
  generalize k0_pay8 (F := Ideal) = w at h8 ⊢
  generalize k0_pay4 (F := Ideal) x = r at h4 ⊢
  generalize k0_pay5 (F := Ideal) x = u at h5 ⊢
  pointwise
  simp only [h4, h5, h8]

/-- The gain's gradient. -/
theorem pay3 (d x : Vec Ideal S256x256 .f32) (l : Fin 256) (hx : ∀ i k, Real' (x (ix2 i k))) : (k0_pay3 (F := Ideal) d (k0_pay5 x) (ix2 0 l) : EReal) = ∑ i, gainPart (d : Mat 256 256) x i l := by
  have h5 := fun i l => pay5 x i l (hx i)
  unfold gainPart k0_pay3
  generalize k0_pay5 (F := Ideal) x = u at h5 ⊢
  pointwise
  simp only [h5]

end Cert.MemkvBwdIdeal.Pay

namespace Cert.MemkvBwdRefIdeal.Pay

open Idealize.ShloMosaic Cert.MemkvBwdRefIdeal Cert.MemkvBwdRefIdeal.Gen Cert.MemkvBwdRefIdeal.Read Cert.Tiles
open Cert.HeadNorm Cert.MemSpec Cert.Reals

variable (x0 : (⟨S256x512, .f32⟩ : BufTy).Contents (Elt Ideal)) (x1 x2 : (⟨S256x256, .f32⟩ : BufTy).Contents (Elt Ideal)) (x3 : (⟨S1x256, .f32⟩ : BufTy).Contents (Elt Ideal))

/-- The keys, split into heads. -/
theorem v3 (i : Fin 256) (h : Fin 4) (d : Fin 64) : (val_main_v3 x0 (ix3 i h d) : EReal) = val_main_v1 x0 (ix2 i (lane h d)) := by
  rw [val_main_v3_apply]
  exact congrArg _ (funext fun a => Fin.ext (match a with
    | ⟨0, _⟩ => by show ((i.val * 4 + h.val) * 64 + d.val) / 256 = i.val; omega
    | ⟨1, _⟩ => by show ((i.val * 4 + h.val) * 64 + d.val) % 256 = 64 * h.val + d.val; omega))

theorem v4 (h : Fin 4) (d : Fin 64) : (val_main_v4 x3 (ix2 h d) : EReal) = x3 (ix2 0 (lane h d)) := by
  rw [val_main_v4_apply, val_main_v0_apply]
  exact congrArg x3 (funext fun a => match a with
    | ⟨0, _⟩ => rfl
    | ⟨1, _⟩ => Fin.ext (by show (h.val * 64 + d.val) % 256 = 64 * h.val + d.val; omega))

/-- The mean square of a head. -/
theorem v11 (i : Fin 256) (h : Fin 4) : (val_main_v11 x0 (ix3 i h 0) : EReal) = ms (val_main_v1 x0 : Mat 256 256) i h := by
  rw [val_main_v11_apply, val_main_v10_apply, val_main_cst_1_apply, val_main_v9_apply, val_main_v8_apply, val_main_cst_0_apply, val_main_v7_apply, val_main_v6_apply, val_main_cst_apply]
  unfold ms mean
  refine congrArg (fun z : EReal => Ideal.div z _ + _) ?_
  show Ideal.ofBits .f32 0x00000000#32 + _ = _
  rw [Ideal.ofBits_zero_f32, zero_add]
  refine Finset.sum_congr rfl fun d _ => ?_
  rw [val_main_v5_apply, show idx_main_v6 (idx_main_v7 (ix3 i h 0)) d = ix3 i h d from funext fun a => match a with | ⟨0, _⟩ => rfl | ⟨1, _⟩ => rfl | ⟨2, _⟩ => rfl, v3]
  rfl

theorem v12 (i : Fin 256) (h : Fin 4) : (val_main_v12 x0 (ix3 i h 0) : EReal) = Ideal.rsqrt (ms (val_main_v1 x0 : Mat 256 256) i h) := by
  rw [val_main_v12_apply, v11]
  rfl

theorem v22 (i : Fin 256) (h : Fin 4) (d : Fin 64) : (val_main_v22 x1 (ix3 i h d) : EReal) = x1 (ix2 i (lane h d)) := by
  rw [val_main_v22_apply]
  exact congrArg x1 (funext fun a => Fin.ext (match a with
    | ⟨0, _⟩ => by show ((i.val * 4 + h.val) * 64 + d.val) / 256 = i.val; omega
    | ⟨1, _⟩ => by show ((i.val * 4 + h.val) * 64 + d.val) % 256 = 64 * h.val + d.val; omega))

theorem v27 (i : Fin 256) (h : Fin 4) (d : Fin 64) : (val_main_v27 x1 x3 (ix3 i h d) : EReal) = (x1 (ix2 i (lane h d)) : EReal) * x3 (ix2 0 (lane h d)) := by
  rw [val_main_v27_apply, v22, val_main_v26_apply, val_main_v18_apply, show idx_main_v18 (idx_main_v26 (ix3 i h d)) = ix2 h d from funext fun a => match a with | ⟨0, _⟩ => rfl | ⟨1, _⟩ => rfl, v4]
  rfl

/-- The derivative of the mean square. -/
theorem v38 (i : Fin 256) (h : Fin 4) (d : Fin 64) : (val_main_v38 x0 x1 x3 (ix3 i h d) : EReal) = spread (x1 : Mat 256 256) (val_main_v1 x0) x3 i h := by
  rw [val_main_v38_apply, val_main_v37_apply, val_main_cst_7_apply]
  show Ideal.ofBits .f32 0x00000000#32 + _ = _
  rw [Ideal.ofBits_zero_f32, zero_add, Fin.sum_univ_one, show idx_main_v37 (idx_main_v38 (ix3 i h d)) 0 = ix3 i h 0 from funext fun a => match a with | ⟨0, _⟩ => rfl | ⟨1, _⟩ => rfl | ⟨2, _⟩ => rfl,
    val_main_v36_apply, val_main_v35_apply, val_main_cst_6_apply, val_main_v34_apply, val_main_v15_apply, val_main_v14_apply, val_main_cst_2_apply, val_main_v13_apply, v12, v11, val_main_v31_apply, val_main_v30_apply, val_main_cst_5_apply]
  unfold spread
  refine congrArg (fun z : EReal => Ideal.div (z * _) _) ?_
  show Ideal.ofBits .f32 0x00000000#32 + _ = _
  rw [Ideal.ofBits_zero_f32, zero_add]
  refine Finset.sum_congr rfl fun k _ => ?_
  rw [show idx_main_v30 (idx_main_v31 (ix3 i h 0)) k = ix3 i h k from funext fun a => Fin.ext (match a with
    | ⟨0, _⟩ => by show ((i.val * 4 + h.val) * 1 + 0) / 4 = i.val; omega
    | ⟨1, _⟩ => by show ((i.val * 4 + h.val) * 1 + 0) % 4 = h.val; omega
    | ⟨2, _⟩ => rfl), val_main_v29_apply, v3, v27]
  rfl

/-- The keys' gradient. -/
theorem v44 (i l : Fin 256) (hx : ∀ k, Real' (val_main_v1 x0 (ix2 i k))) (h1 : ∀ i, Real' (x1 i)) (h3 : ∀ i, Real' (x3 i)) : (val_main_v44 x0 x1 x3 (ix2 i l) : EReal) = rowGrad (x1 : Mat 256 256) (val_main_v1 x0) x3 i l := by
  rw [val_main_v44_apply, show idx_main_v44 (ix2 i l) = ix3 i (head l) (sub l) from funext fun a => Fin.ext (match a with
    | ⟨0, _⟩ => by show (i.val * 256 + l.val) / 256 = i.val; omega
    | ⟨1, _⟩ => by show (i.val * 256 + l.val) / 64 % 4 = l.val / 64; omega
    | ⟨2, _⟩ => by show (i.val * 256 + l.val) % 64 = l.val % 64; omega),
    val_main_v42_apply, val_main_v41_apply, val_main_v40_apply, val_main_v39_apply, val_main_v33_apply, val_main_v32_apply, v38, v27, v3, lane_head,
    show idx_main_v32 (ix3 i (head l) (sub l)) = ix3 i (head l) 0 from funext fun a => match a with | ⟨0, _⟩ => rfl | ⟨1, _⟩ => rfl | ⟨2, _⟩ => rfl, v12]
  exact rowGrad_ref (x1 : Mat 256 256) (val_main_v1 x0) x3 i (fun _ => h1 _) hx (fun _ => h3 _) l

/-- The gain's gradient. -/
theorem v47 (l : Fin 256) : (val_main_v47 x0 x1 (ix2 0 l) : EReal) = ∑ i, gainPart (x1 : Mat 256 256) (val_main_v1 x0) i l := by
  rw [val_main_v47_apply, val_main_v43_apply, val_main_v28_apply, val_main_cst_4_apply]
  show Ideal.ofBits .f32 0x00000000#32 + _ = _
  rw [Ideal.ofBits_zero_f32, zero_add, Fin.sum_univ_one, val_main_v25_apply, val_main_v24_apply, val_main_cst_3_apply]
  show Ideal.ofBits .f32 0x00000000#32 + _ = _
  rw [Ideal.ofBits_zero_f32, zero_add]
  refine Finset.sum_congr rfl fun i _ => ?_
  rw [show idx_main_v24 (idx_main_v25 (idx_main_v28 (idx_main_v43 (idx_main_v47 (ix2 0 l))) 0)) i = ix3 i (head l) (sub l) from funext fun a => Fin.ext (match a with
    | ⟨0, _⟩ => rfl
    | ⟨1, _⟩ => by show ((0 * 4 + l.val / 64) * 64 + l.val % 64) / 64 = l.val / 64; omega
    | ⟨2, _⟩ => by show ((0 * 4 + l.val / 64) * 64 + l.val % 64) % 64 = l.val % 64; omega), val_main_v23_apply, v22, val_main_v17_apply, v3, val_main_v16_apply, lane_head,
    show idx_main_v16 (ix3 i (head l) (sub l)) = ix3 i (head l) 0 from funext fun a => match a with | ⟨0, _⟩ => rfl | ⟨1, _⟩ => rfl | ⟨2, _⟩ => rfl, v12]
  exact mul_comm _ _

theorem ld (x : (⟨S256x512, .f32⟩ : BufTy).Contents (Elt Ideal)) : View.ld x Cert.MemkvBwdIdeal.Gen.r0_1 = val_main_v1 x := View.ld_unit _ _ _ _

theorem keys (h : ∀ (i l : Fin 256) (q : Fin 512), q.val = l.val → Real' (x0 (ix2 i q))) (i k : Fin 256) : Real' (val_main_v1 x0 (ix2 i k)) := by
  rw [val_main_v1_apply, show idx_main_v1 (ix2 i k) = ix2 i ⟨k.val, by omega⟩ from funext fun a => match a with | ⟨0, _⟩ => rfl | ⟨1, _⟩ => rfl]
  exact h i k _ rfl

/-- The kernel's two gradients side by side are the reference's … -/
theorem ref4 (h0 : ∀ (i l : Fin 256) (q : Fin 512), q.val = l.val → Real' (x0 (ix2 i q))) (h1 : ∀ i, Real' (x1 i)) (h3 : ∀ i, Real' (x3 i)) : val_main_v46 x0 x1 x2 x3 = Cert.MemkvBwdIdeal.Value.G4 x0 x1 x2 x3 := by
  symm
  funext z
  refine View.canon_apply_of_pieces (Val := Elt Ideal) (val_main_v46 x0 x1 x2 x3) _ ?_ z (Cert.MemkvBwdIdeal.Gen.cover0_4 _ _ z)
  intro p hp y
  have hp := List.mem_cons.mp hp
  rcases hp with rfl | hp
  · obtain ⟨i, l, rfl⟩ := pair (n0 := 256) (n1 := 256) y
    rw [val_main_v46_apply]
    unfold val_main_v45
    symm
    refine (concatenate_pair_apply_right (t := S256x512) (s₁ := S256x256) (s₂ := S256x256) 1 (val_main_v44 x0 x1 x3) x2 concatenates_S256x256_S256x256_S256x512_d1 (Cert.MemkvBwdIdeal.Gen.r0_3.emb (ix2 i l)) rfl rfl (ix2 i l) (fun b hb => match b with | ⟨0, _⟩ => by show i.val = 0 + 1 * i.val; omega | ⟨1, _⟩ => absurd rfl hb) (by show l.val + 256 = 256 + 1 * l.val; omega)).trans ?_
    rfl
  · obtain rfl := List.mem_singleton.mp hp
    obtain ⟨i, l, rfl⟩ := pair (n0 := 256) (n1 := 256) y
    rw [val_main_v46_apply]
    unfold val_main_v45
    symm
    refine (concatenate_pair_apply_left (t := S256x512) (s₁ := S256x256) (s₂ := S256x256) 1 (val_main_v44 x0 x1 x3) x2 concatenates_S256x256_S256x256_S256x512_d1 (Cert.MemkvBwdIdeal.Gen.r0_1.emb (ix2 i l)) rfl (ix2 i l) (fun b => match b with | ⟨0, _⟩ => by show i.val = 0 + 1 * i.val; omega | ⟨1, _⟩ => by show l.val = 0 + 1 * l.val; omega)).trans ?_
    refine (v44 x0 x1 x3 i l (keys x0 h0 i) h1 h3).trans (Eq.trans ?_ (Cert.MemkvBwdIdeal.Pay.pay1 x1 (View.ld x0 Cert.MemkvBwdIdeal.Gen.r0_1) x3 i l (fun _ => h1 _) (by rw [ld]; exact keys x0 h0 i) (fun _ => h3 _)).symm)
    rw [ld]

/-- … and so is the gain's. -/
theorem ref5 (h0 : ∀ (i l : Fin 256) (q : Fin 512), q.val = l.val → Real' (x0 (ix2 i q))) : val_main_v47 x0 x1 = Cert.MemkvBwdIdeal.Value.G5 x0 x1 x2 x3 := by
  funext z
  obtain ⟨u, l, rfl⟩ := pair (n0 := 1) (n1 := 256) z
  obtain rfl : u = 0 := Subsingleton.elim _ _
  unfold Cert.MemkvBwdIdeal.Value.G5 Cert.MemkvBwdIdeal.Gen.k0_pay11
  rw [ld]
  exact (v47 x0 x1 l).trans (Cert.MemkvBwdIdeal.Pay.pay3 x1 _ l (keys x0 h0)).symm

end Cert.MemkvBwdRefIdeal.Pay

namespace Cert.MemkvBwdClaims

open Idealize.ShloMosaic Idealize.ShloMosaic.TcCoe Idealize.SL.Sem Cert.Tiles

attribute [local instance] Cert.MemkvBwd.Gen.facts Cert.MemkvBwdIdeal.Gen.facts Cert.MemkvBwdRefIdeal.Gen.facts Cert.PreRealMemkvBwd.facts

/-- The kernel runs, keeps its arguments and ends quiescent. -/
theorem frameP : Cert.quiescent_MemkvBwd := fun m ρ _ => Cert.MemkvBwd.Gen.frame m ρ

/-- … and so does it at the ideal numbers. -/
theorem framePI : Cert.quiescent_MemkvBwdIdeal := fun m ρ _ => Cert.MemkvBwdIdeal.Gen.frame m ρ

/-- The reference runs, keeps its arguments and ends quiescent. -/
theorem frameRI : Cert.quiescent_MemkvBwdRefIdeal := fun m ρ _ =>
  (θ_run Cert.MemkvBwdRefIdeal.defs _ _).mono (fun r h => ⟨fun c => (h c).2.2,
      Idealize.ShloMosaic.sem_eq_zero_of_no_sems (by decide) r.2⟩) (Cert.MemkvBwdRefIdeal.Value.run (F := Ideal) m ρ)

theorem framePIpre : Cert.quiescent_MemkvBwdIdeal_pre_real_memkv_bwd := fun m ρ _ => Cert.MemkvBwdIdeal.Gen.frame m ρ

theorem frameRIpre : Cert.quiescent_MemkvBwdRefIdeal_pre_real_memkv_bwd := fun m ρ _ => frameRI m ρ trivial

/-- Kernel and reference compute the same results. -/
theorem algebraic : Cert.algebraic_MemkvBwdIdeal_MemkvBwdRefIdeal_pre_real_memkv_bwd := by
  intro m ρ m' ρ' hpre hag
  refine ⟨_, _, (θ_run Cert.MemkvBwdIdeal.defs _ _).mono (fun r h c => ⟨(h c).1, (h c).2.1, (h c).2.2⟩) (Cert.MemkvBwdIdeal.Value.run m ρ), ?_⟩
  refine (θ_run Cert.MemkvBwdRefIdeal.defs _ _).mono (fun r h c => ?_) (Cert.MemkvBwdRefIdeal.Value.run (F := Ideal) m' ρ')
  obtain ⟨g0, g1, g2, g3⟩ := hag c
  obtain ⟨h0, h1, h3⟩ := Cert.PreRealMemkvBwd.real _ _ _ _ (hpre c)
  refine ⟨(h c).1.trans ?_, (h c).2.1.trans ?_, (h c).2.2⟩ <;> clear h
  · rw [Cert.MemkvBwdRefIdeal.Read.val_main_v46_eq, g0, g1, g2, g3]
    exact Cert.MemkvBwdRefIdeal.Pay.ref4 _ _ _ _ h0 h1 h3
  · rw [Cert.MemkvBwdRefIdeal.Read.val_main_v47_eq, g0, g1]
    exact Cert.MemkvBwdRefIdeal.Pay.ref5 _ _ _ _ h0

end Cert.MemkvBwdClaims

end
-- ==== Proof.SmallSum.lean ====
/-
  The devices' small gradients and losses, added up.
-/
module

public import proofs.«01_k».proof.Defs
public import proofs.«01_k».proof.Proof.Tiles
public import proofs.«01_k».proof.Proof.Gen.SmallSum.Frame
public import proofs.«01_k».proof.Proof.Gen.SmallSumIdeal.Value
public import proofs.«01_k».proof.Proof.Gen.SmallSumRefIdeal.Read
public import proofs.«01_k».proof.Proof.Gen.SmallSumRefIdeal.Run
public import Idealize.ShloMosaic.Lib.Tactic

@[expose] public section

set_option maxRecDepth 16384

noncomputable section

namespace Cert.SmallSumClaims

open Idealize.ShloMosaic Idealize.ShloMosaic.TcCoe Idealize.SL.Sem Cert.Tiles Cert.SmallSumRefIdeal.Read

attribute [local instance] Cert.SmallSum.Gen.facts Cert.SmallSumIdeal.Gen.facts Cert.SmallSumRefIdeal.Gen.facts

/-- The kernel runs, keeps its arguments and ends quiescent. -/
theorem frameP : Cert.quiescent_SmallSum := fun m ρ _ => Cert.SmallSum.Gen.frame m ρ

/-- … and so does it at the ideal numbers. -/
theorem framePI : Cert.quiescent_SmallSumIdeal := fun m ρ _ => Cert.SmallSumIdeal.Gen.frame m ρ

/-- The reference runs, keeps its arguments and ends quiescent. -/
theorem frameRI : Cert.quiescent_SmallSumRefIdeal := fun m ρ _ =>
  (θ_run Cert.SmallSumRefIdeal.defs _ _).mono (fun r h => ⟨fun c => (h c).2,
      Idealize.ShloMosaic.sem_eq_zero_of_no_sems (by decide) r.2⟩) (Cert.SmallSumRefIdeal.Value.run (F := Ideal) m ρ)

/-- The reference's result is the kernel's. -/
theorem ref (x0 : Vec Ideal (⟨3, ![8, 744, 128]⟩ : Shape) .f32) : val_main_v0 (F := Ideal) x0 = Cert.SmallSumIdeal.Value.G1 x0 := by
  funext x
  obtain ⟨i, j, rfl⟩ := pair x
  rw [val_main_v0_apply]
  have e : ∀ k : Fin 8, idx_main_v0 (ix2 i j) k = ix3 k i j := fun k => funext fun a => match a with | ⟨0, _⟩ => rfl | ⟨1, _⟩ => rfl | ⟨2, _⟩ => rfl
  show Ideal.ofBits .f32 0x00000000#32 + _ = _
  rw [Ideal.ofBits_zero_f32, zero_add]
  simp only [e, Fin.sum_univ_eight]
  symm
  pointwise [Cert.SmallSumIdeal.Gen.k0_pay1]

/-- Kernel and reference compute the same results. -/
theorem algebraic : Cert.algebraic_SmallSumIdeal_SmallSumRefIdeal := by
  intro m ρ m' ρ' hpre hag
  refine ⟨_, (θ_run Cert.SmallSumIdeal.defs _ _).mono (fun r h c => h c) (Cert.SmallSumIdeal.Value.run m ρ), ?_⟩
  refine (θ_run Cert.SmallSumRefIdeal.defs _ _).mono (fun r h c => ?_) (Cert.SmallSumRefIdeal.Value.run (F := Ideal) m' ρ')
  have g0 := hag c
  refine ⟨(h c).1.trans ?_, (h c).2⟩
  rw [Cert.SmallSumRefIdeal.Read.val_main_v0_eq, g0]
  exact ref _

end Cert.SmallSumClaims

end
-- ==== Proof.RpbExpand.lean ====
/-
  The neighbourhood bias's table, spread over pairs of columns.
-/
module

public import proofs.«01_k».proof.Defs
public import proofs.«01_k».proof.Proof.Tiles
public import proofs.«01_k».proof.Proof.Gen.RpbExpand.Frame
public import proofs.«01_k».proof.Proof.Gen.RpbExpandIdeal.Value
public import proofs.«01_k».proof.Proof.Gen.RpbExpandRefIdeal.Read
public import proofs.«01_k».proof.Proof.Gen.RpbExpandRefIdeal.Run
public import Idealize.ShloMosaic.Lib.Tactic

@[expose] public section

set_option maxRecDepth 16384

noncomputable section

namespace Cert.RpbExpandClaims

open Idealize.ShloMosaic Idealize.ShloMosaic.TcCoe Idealize.SL.Sem Cert.Tiles Cert.RpbExpandRefIdeal.Read

attribute [local instance] Cert.RpbExpand.Gen.facts Cert.RpbExpandIdeal.Gen.facts Cert.RpbExpandRefIdeal.Gen.facts

/-- The kernel runs, keeps its arguments and ends quiescent. -/
theorem frameP : Cert.quiescent_RpbExpand := fun m ρ _ => Cert.RpbExpand.Gen.frame m ρ

/-- … and so does it at the ideal numbers. -/
theorem framePI : Cert.quiescent_RpbExpandIdeal := fun m ρ _ => Cert.RpbExpandIdeal.Gen.frame m ρ

/-- The reference runs, keeps its arguments and ends quiescent. -/
theorem frameRI : Cert.quiescent_RpbExpandRefIdeal := fun m ρ _ =>
  (θ_run Cert.RpbExpandRefIdeal.defs _ _).mono (fun r h => ⟨fun c => (h c).2,
      Idealize.ShloMosaic.sem_eq_zero_of_no_sems (by decide) r.2⟩) (Cert.RpbExpandRefIdeal.Value.run (F := Ideal) m ρ)

/-- The reference's result is the kernel's. -/
theorem ref (x0 : Mat 64 128) (x1 : Mat 128 4096) : val_main_v0 (F := Ideal) x0 x1 = Cert.RpbExpandIdeal.Value.G2 x0 x1 := by
  funext x
  obtain ⟨i, j, rfl⟩ := pair x
  rw [val_main_v0_apply]
  symm
  refine Eq.trans (b := ∑ k : Fin 128, x0 (ix2 i k) * x1 (ix2 k j)) ?_ (Finset.sum_congr rfl fun k _ => congrArg₂ (· * ·) (congrArg x0 (ext2 rfl rfl)) (congrArg x1 (ext2 rfl rfl)))
  pointwise [Cert.RpbExpandIdeal.Gen.k0_pay1]

/-- Kernel and reference compute the same results. -/
theorem algebraic : Cert.algebraic_RpbExpandIdeal_RpbExpandRefIdeal := by
  intro m ρ m' ρ' hpre hag
  refine ⟨_, (θ_run Cert.RpbExpandIdeal.defs _ _).mono (fun r h c => h c) (Cert.RpbExpandIdeal.Value.run m ρ), ?_⟩
  refine (θ_run Cert.RpbExpandRefIdeal.defs _ _).mono (fun r h c => ?_) (Cert.RpbExpandRefIdeal.Value.run (F := Ideal) m' ρ')
  obtain ⟨g0, g1⟩ := hag c
  refine ⟨(h c).1.trans ?_, (h c).2⟩
  rw [Cert.RpbExpandRefIdeal.Read.val_main_v0_eq, g0, g1]
  exact ref _ _

end Cert.RpbExpandClaims

end
-- ==== Proof.RpbReduce.lean ====
/-
  The gradient of the neighbourhood bias's table, from the pairs of columns.
-/
module

public import proofs.«01_k».proof.Defs
public import proofs.«01_k».proof.Proof.Tiles
public import proofs.«01_k».proof.Proof.Gen.RpbReduce.Frame
public import proofs.«01_k».proof.Proof.Gen.RpbReduceIdeal.Value
public import proofs.«01_k».proof.Proof.Gen.RpbReduceRefIdeal.Read
public import proofs.«01_k».proof.Proof.Gen.RpbReduceRefIdeal.Run
public import Idealize.ShloMosaic.Lib.Tactic

@[expose] public section

set_option maxRecDepth 16384

noncomputable section

namespace Cert.RpbReduceClaims

open Idealize.ShloMosaic Idealize.ShloMosaic.TcCoe Idealize.SL.Sem Cert.Tiles Cert.RpbReduceRefIdeal.Read

attribute [local instance] Cert.RpbReduce.Gen.facts Cert.RpbReduceIdeal.Gen.facts Cert.RpbReduceRefIdeal.Gen.facts

/-- The kernel runs, keeps its arguments and ends quiescent. -/
theorem frameP : Cert.quiescent_RpbReduce := fun m ρ _ => Cert.RpbReduce.Gen.frame m ρ

/-- … and so does it at the ideal numbers. -/
theorem framePI : Cert.quiescent_RpbReduceIdeal := fun m ρ _ => Cert.RpbReduceIdeal.Gen.frame m ρ

/-- The reference runs, keeps its arguments and ends quiescent. -/
theorem frameRI : Cert.quiescent_RpbReduceRefIdeal := fun m ρ _ =>
  (θ_run Cert.RpbReduceRefIdeal.defs _ _).mono (fun r h => ⟨fun c => (h c).2,
      Idealize.ShloMosaic.sem_eq_zero_of_no_sems (by decide) r.2⟩) (Cert.RpbReduceRefIdeal.Value.run (F := Ideal) m ρ)

/-- The reference's result is the kernel's. -/
theorem ref (x0 : Mat 64 4096) (x1 : Mat 128 4096) : val_main_v2 (F := Ideal) x0 x1 = Cert.RpbReduceIdeal.Value.G2 x0 x1 := by
  funext x
  obtain ⟨i, j, rfl⟩ := pair x
  rw [val_main_v2_apply]
  symm
  refine Eq.trans (b := ∑ k : Fin 4096, x0 (ix2 i k) * x1 (ix2 j k)) ?_ (Finset.sum_congr rfl fun k _ => congrArg₂ (· * ·) (congrArg x0 (ext2 rfl rfl)) (congrArg x1 (ext2 rfl rfl)))
  pointwise [Cert.RpbReduceIdeal.Gen.k0_pay1]

/-- Kernel and reference compute the same results. -/
theorem algebraic : Cert.algebraic_RpbReduceIdeal_RpbReduceRefIdeal := by
  intro m ρ m' ρ' hpre hag
  refine ⟨_, (θ_run Cert.RpbReduceIdeal.defs _ _).mono (fun r h c => h c) (Cert.RpbReduceIdeal.Value.run m ρ), ?_⟩
  refine (θ_run Cert.RpbReduceRefIdeal.defs _ _).mono (fun r h c => ?_) (Cert.RpbReduceRefIdeal.Value.run (F := Ideal) m' ρ')
  obtain ⟨g0, g1⟩ := hag c
  refine ⟨(h c).1.trans ?_, (h c).2⟩
  rw [Cert.RpbReduceRefIdeal.Read.val_main_v2_eq, g0, g1]
  exact ref _ _

end Cert.RpbReduceClaims

end
-- ==== Proof.lean ====
/-
  The certificate's claim, put together from the claims of its calls.
-/
module

public import proofs.«01_k».proof.Defs
public import proofs.«01_k».proof.Proof.Gen.MemBwd.Frame
public import proofs.«01_k».proof.Proof.Gen.MemBwdIdeal.Value
public import proofs.«01_k».proof.Proof.Gen.MemBwdRefIdeal.Run
public import proofs.«01_k».proof.Proof.Gen.MemBwdRefIdeal.Read
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.FfnOutBwd.Frame
public import proofs.«01_k».proof.Proof.Gen.FfnOutBwdIdeal.Value
public import proofs.«01_k».proof.Proof.Gen.FfnOutBwdRefIdeal.Run
public import proofs.«01_k».proof.Proof.Gen.FfnOutBwdRefIdeal.Read
public import proofs.«01_k».proof.Proof.Gen.GateDx.Frame
public import proofs.«01_k».proof.Proof.Gen.GateDxIdeal.Value
public import proofs.«01_k».proof.Proof.Gen.GateDxRefIdeal.Run
public import proofs.«01_k».proof.Proof.Gen.GateDxRefIdeal.Read
public import proofs.«01_k».proof.Proof.Gen.FfnInDxG.Frame
public import proofs.«01_k».proof.Proof.Gen.FfnInDxGIdeal.Value
public import proofs.«01_k».proof.Proof.Gen.FfnInDxGRefIdeal.Run
public import proofs.«01_k».proof.Proof.Gen.FfnInDxGRefIdeal.Read
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.FfnOutDwRefIdeal.Read
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.GateDw.Frame
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Gen.FfnInDxA.Frame
public import proofs.«01_k».proof.Proof.Gen.FfnInDxAIdeal.Value
public import proofs.«01_k».proof.Proof.Gen.FfnInDxARefIdeal.Run
public import proofs.«01_k».proof.Proof.Gen.FfnInDxARefIdeal.Read
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.FfnInDwA.Frame
public import proofs.«01_k».proof.Proof.Gen.FfnInDwAIdeal.Value
public import proofs.«01_k».proof.Proof.Gen.FfnInDwARefIdeal.Run
public import proofs.«01_k».proof.Proof.Gen.FfnInDwARefIdeal.Read
public import proofs.«01_k».proof.Proof.Gen.FfnInDwG.Frame
public import proofs.«01_k».proof.Proof.Gen.FfnInDwGIdeal.Value
public import proofs.«01_k».proof.Proof.Gen.FfnInDwGRefIdeal.Run
public import proofs.«01_k».proof.Proof.Gen.FfnInDwGRefIdeal.Read
public import proofs.«01_k».proof.Proof.Gen.NormMemBwd.Frame
public import proofs.«01_k».proof.Proof.Gen.NormMemBwdIdeal.Value
public import proofs.«01_k».proof.Proof.Gen.NormMemBwdRefIdeal.Run
public import proofs.«01_k».proof.Proof.Gen.NormMemBwdRefIdeal.Read
public import proofs.«01_k».proof.Proof.Gen.MemkvDw.Frame
public import proofs.«01_k».proof.Proof.Gen.MemkvDwIdeal.Value
public import proofs.«01_k».proof.Proof.Gen.MemkvDwRefIdeal.Run
public import proofs.«01_k».proof.Proof.Gen.MemkvDwRefIdeal.Read
public import proofs.«01_k».proof.Proof.Gen.MemkvDx.Frame
public import proofs.«01_k».proof.Proof.Gen.MemkvDxIdeal.Value
public import proofs.«01_k».proof.Proof.Gen.MemkvDxRefIdeal.Run
public import proofs.«01_k».proof.Proof.Gen.MemkvDxRefIdeal.Read
public import proofs.«01_k».proof.Proof.Gen.NormMix.Frame
public import proofs.«01_k».proof.Proof.Gen.NormMixIdeal.Value
public import proofs.«01_k».proof.Proof.Gen.NormMixRefIdeal.Run
public import proofs.«01_k».proof.Proof.Gen.NormMixRefIdeal.Read
public import proofs.«01_k».proof.Proof.Gen.NormMem.Frame
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.MmMemkv.Frame
public import proofs.«01_k».proof.Proof.Gen.MmMemkvIdeal.Value
public import proofs.«01_k».proof.Proof.Gen.MmMemkvRefIdeal.Run
public import proofs.«01_k».proof.Proof.Gen.MmMemkvRefIdeal.Read
public import proofs.«01_k».proof.Proof.Gen.MemFwd.Frame
public import proofs.«01_k».proof.Proof.Gen.MemFwdIdeal.Value
public import proofs.«01_k».proof.Proof.Gen.MemFwdRefIdeal.Run
public import proofs.«01_k».proof.Proof.Gen.MemFwdRefIdeal.Read
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.MmIn.Frame
public import proofs.«01_k».proof.Proof.Gen.MmInIdeal.Value
public import proofs.«01_k».proof.Proof.Gen.MmInRefIdeal.Run
public import proofs.«01_k».proof.Proof.Gen.MmInRefIdeal.Read
public import proofs.«01_k».proof.Proof.Gen.MmGate.Frame
public import proofs.«01_k».proof.Proof.Gen.MmGateIdeal.Value
public import proofs.«01_k».proof.Proof.Gen.MmGateRefIdeal.Run
public import proofs.«01_k».proof.Proof.Gen.MmGateRefIdeal.Read
public import proofs.«01_k».proof.Proof.Gen.MmOut.Frame
public import proofs.«01_k».proof.Proof.Gen.MmOutIdeal.Value
public import proofs.«01_k».proof.Proof.Gen.MmOutRefIdeal.Run
public import proofs.«01_k».proof.Proof.Gen.MmOutRefIdeal.Read
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.FfnOutLast.Frame
public import proofs.«01_k».proof.Proof.Gen.FfnOutLastIdeal.Value
public import proofs.«01_k».proof.Proof.Gen.FfnOutLastRefIdeal.Run
public import proofs.«01_k».proof.Proof.Gen.FfnOutLastRefIdeal.Read
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.RetPostBwd.Frame
public import proofs.«01_k».proof.Proof.Gen.RetPostBwdIdeal.Value
public import proofs.«01_k».proof.Proof.Gen.RetPostBwdRefIdeal.Run
public import proofs.«01_k».proof.Proof.Gen.RetPostBwdRefIdeal.Read
public import proofs.«01_k».proof.Proof.Gen.MemkvPrep.Frame
public import proofs.«01_k».proof.Proof.Gen.MemkvPrepIdeal.Value
public import proofs.«01_k».proof.Proof.Gen.MemkvPrepRefIdeal.Run
public import proofs.«01_k».proof.Proof.Gen.MemkvPrepRefIdeal.Read
public import proofs.«01_k».proof.Proof.Gen.MemkvBwd.Frame
public import proofs.«01_k».proof.Proof.Gen.MemkvBwdIdeal.Value
public import proofs.«01_k».proof.Proof.Gen.MemkvBwdRefIdeal.Run
public import proofs.«01_k».proof.Proof.Gen.MemkvBwdRefIdeal.Read
public import proofs.«01_k».proof.Proof.Gen.SmallSum.Frame
public import proofs.«01_k».proof.Proof.Gen.SmallSumIdeal.Value
public import proofs.«01_k».proof.Proof.Gen.SmallSumRefIdeal.Run
public import proofs.«01_k».proof.Proof.Gen.SmallSumRefIdeal.Read
public import proofs.«01_k».proof.Proof.Gen.RpbExpand.Frame
public import proofs.«01_k».proof.Proof.Gen.RpbExpandIdeal.Value
public import proofs.«01_k».proof.Proof.Gen.RpbExpandRefIdeal.Run
public import proofs.«01_k».proof.Proof.Gen.RpbExpandRefIdeal.Read
public import proofs.«01_k».proof.Proof.Gen.RpbReduce.Frame
public import proofs.«01_k».proof.Proof.Gen.RpbReduceIdeal.Value
public import proofs.«01_k».proof.Proof.Gen.RpbReduceRefIdeal.Run
public import proofs.«01_k».proof.Proof.Gen.RpbReduceRefIdeal.Read
public import proofs.«01_k».proof.Proof.MemClaims
public import proofs.«01_k».proof.Proof.MergeBwd
public import proofs.«01_k».proof.Proof.FfnOutBwd
public import proofs.«01_k».proof.Proof.GateDx
public import proofs.«01_k».proof.Proof.FfnInDxG
public import proofs.«01_k».proof.Proof.FfnOutDw
public import proofs.«01_k».proof.Proof.OutDw
public import proofs.«01_k».proof.Proof.InDw
public import proofs.«01_k».proof.Proof.GateDw
public import proofs.«01_k».proof.Proof.FfnInDxA
public import proofs.«01_k».proof.Proof.OutDx
public import proofs.«01_k».proof.Proof.InDx
public import proofs.«01_k».proof.Proof.FfnInDwA
public import proofs.«01_k».proof.Proof.FfnInDwG
public import proofs.«01_k».proof.Proof.NormMemBwd
public import proofs.«01_k».proof.Proof.MemkvDw
public import proofs.«01_k».proof.Proof.MemkvDx
public import proofs.«01_k».proof.Proof.NormMix
public import proofs.«01_k».proof.Proof.NormMem
public import proofs.«01_k».proof.Proof.MmMemkv
public import proofs.«01_k».proof.Proof.MemFwd
public import proofs.«01_k».proof.Proof.LossHead
public import proofs.«01_k».proof.Proof.AdamSmall
public import proofs.«01_k».proof.Proof.MmIn
public import proofs.«01_k».proof.Proof.MmGate
public import proofs.«01_k».proof.Proof.MmOut
public import proofs.«01_k».proof.Proof.FfnOut
public import proofs.«01_k».proof.Proof.FfnOutLast
public import proofs.«01_k».proof.Proof.FfnIn
public import proofs.«01_k».proof.Proof.MergeFwd
public import proofs.«01_k».proof.Proof.RetPostBwd
public import proofs.«01_k».proof.Proof.MemkvPrep
public import proofs.«01_k».proof.Proof.MemkvBwd
public import proofs.«01_k».proof.Proof.SmallSum
public import proofs.«01_k».proof.Proof.RpbExpand
public import proofs.«01_k».proof.Proof.RpbReduce

@[expose] public section

noncomputable section

namespace Cert.Proof

/-- Everything the certificate claims. -/
theorem claim : Cert.Claim := ⟨
  Cert.MemBwd.Gen.facts, Cert.MemBwdIdeal.Gen.facts, Cert.MemBwdRefIdeal.Gen.facts,
  Cert.MergeBwd.Gen.facts, Cert.MergeBwdIdeal.Gen.facts, Cert.MergeBwdRefIdeal.Gen.facts,
  Cert.FfnOutBwd.Gen.facts, Cert.FfnOutBwdIdeal.Gen.facts, Cert.FfnOutBwdRefIdeal.Gen.facts,
  Cert.GateDx.Gen.facts, Cert.GateDxIdeal.Gen.facts, Cert.GateDxRefIdeal.Gen.facts,
  Cert.FfnInDxG.Gen.facts, Cert.FfnInDxGIdeal.Gen.facts, Cert.FfnInDxGRefIdeal.Gen.facts,
  Cert.FfnOutDw.Gen.facts, Cert.FfnOutDwIdeal.Gen.facts, Cert.FfnOutDwRefIdeal.Gen.facts,
  Cert.OutDw.Gen.facts, Cert.OutDwIdeal.Gen.facts, Cert.OutDwRefIdeal.Gen.facts,
  Cert.InDw.Gen.facts, Cert.InDwIdeal.Gen.facts, Cert.InDwRefIdeal.Gen.facts,
  Cert.GateDw.Gen.facts, Cert.GateDwIdeal.Gen.facts, Cert.GateDwRefIdeal.Gen.facts,
  Cert.FfnInDxA.Gen.facts, Cert.FfnInDxAIdeal.Gen.facts, Cert.FfnInDxARefIdeal.Gen.facts,
  Cert.OutDx.Gen.facts, Cert.OutDxIdeal.Gen.facts, Cert.OutDxRefIdeal.Gen.facts,
  Cert.InDx.Gen.facts, Cert.InDxIdeal.Gen.facts, Cert.InDxRefIdeal.Gen.facts,
  Cert.FfnInDwA.Gen.facts, Cert.FfnInDwAIdeal.Gen.facts, Cert.FfnInDwARefIdeal.Gen.facts,
  Cert.FfnInDwG.Gen.facts, Cert.FfnInDwGIdeal.Gen.facts, Cert.FfnInDwGRefIdeal.Gen.facts,
  Cert.NormMemBwd.Gen.facts, Cert.NormMemBwdIdeal.Gen.facts, Cert.NormMemBwdRefIdeal.Gen.facts,
  Cert.MemkvDw.Gen.facts, Cert.MemkvDwIdeal.Gen.facts, Cert.MemkvDwRefIdeal.Gen.facts,
  Cert.MemkvDx.Gen.facts, Cert.MemkvDxIdeal.Gen.facts, Cert.MemkvDxRefIdeal.Gen.facts,
  Cert.NormMix.Gen.facts, Cert.NormMixIdeal.Gen.facts, Cert.NormMixRefIdeal.Gen.facts,
  Cert.NormMem.Gen.facts, Cert.NormMemIdeal.Gen.facts, Cert.NormMemRefIdeal.Gen.facts,
  Cert.MmMemkv.Gen.facts, Cert.MmMemkvIdeal.Gen.facts, Cert.MmMemkvRefIdeal.Gen.facts,
  Cert.MemFwd.Gen.facts, Cert.MemFwdIdeal.Gen.facts, Cert.MemFwdRefIdeal.Gen.facts,
  Cert.LossHead.Gen.facts, Cert.LossHeadIdeal.Gen.facts, Cert.LossHeadRefIdeal.Gen.facts,
  Cert.AdamSmall.Gen.facts, Cert.AdamSmallIdeal.Gen.facts, Cert.AdamSmallRefIdeal.Gen.facts,
  Cert.MmIn.Gen.facts, Cert.MmInIdeal.Gen.facts, Cert.MmInRefIdeal.Gen.facts,
  Cert.MmGate.Gen.facts, Cert.MmGateIdeal.Gen.facts, Cert.MmGateRefIdeal.Gen.facts,
  Cert.MmOut.Gen.facts, Cert.MmOutIdeal.Gen.facts, Cert.MmOutRefIdeal.Gen.facts,
  Cert.FfnOut.Gen.facts, Cert.FfnOutIdeal.Gen.facts, Cert.FfnOutRefIdeal.Gen.facts,
  Cert.FfnOutLast.Gen.facts, Cert.FfnOutLastIdeal.Gen.facts, Cert.FfnOutLastRefIdeal.Gen.facts,
  Cert.FfnIn.Gen.facts, Cert.FfnInIdeal.Gen.facts, Cert.FfnInRefIdeal.Gen.facts,
  Cert.MergeFwd.Gen.facts, Cert.MergeFwdIdeal.Gen.facts, Cert.MergeFwdRefIdeal.Gen.facts,
  Cert.RetPostBwd.Gen.facts, Cert.RetPostBwdIdeal.Gen.facts, Cert.RetPostBwdRefIdeal.Gen.facts,
  Cert.MemkvPrep.Gen.facts, Cert.MemkvPrepIdeal.Gen.facts, Cert.MemkvPrepRefIdeal.Gen.facts,
  Cert.MemkvBwd.Gen.facts, Cert.MemkvBwdIdeal.Gen.facts, Cert.MemkvBwdRefIdeal.Gen.facts,
  Cert.SmallSum.Gen.facts, Cert.SmallSumIdeal.Gen.facts, Cert.SmallSumRefIdeal.Gen.facts,
  Cert.RpbExpand.Gen.facts, Cert.RpbExpandIdeal.Gen.facts, Cert.RpbExpandRefIdeal.Gen.facts,
  Cert.RpbReduce.Gen.facts, Cert.RpbReduceIdeal.Gen.facts, Cert.RpbReduceRefIdeal.Gen.facts,
  Cert.PreReal.facts,
  Cert.PreRealFfn.facts,
  Cert.PreRealNorm.facts,
  Cert.PreRealNormHalf.facts,
  Cert.PreRealNormMem.facts,
  Cert.PreRealRetPost.facts,
  Cert.PreRealMemkv.facts,
  Cert.PreRealMemkvBwd.facts,
  Cert.MemClaims.frameP, Cert.MemClaims.framePI, Cert.MemClaims.framePIpre, Cert.MemClaims.frameRI, Cert.MemClaims.frameRIpre,
  Cert.MergeBwdClaims.frameP, Cert.MergeBwdClaims.framePI, Cert.MergeBwdClaims.frameRI,
  Cert.FfnOutBwdClaims.frameP, Cert.FfnOutBwdClaims.framePI, Cert.FfnOutBwdClaims.framePIpre, Cert.FfnOutBwdClaims.frameRI, Cert.FfnOutBwdClaims.frameRIpre,
  Cert.GateDxClaims.frameP, Cert.GateDxClaims.framePI, Cert.GateDxClaims.framePIpre, Cert.GateDxClaims.frameRI, Cert.GateDxClaims.frameRIpre,
  Cert.FfnInDxGClaims.frameP, Cert.FfnInDxGClaims.framePI, Cert.FfnInDxGClaims.framePIpre, Cert.FfnInDxGClaims.frameRI, Cert.FfnInDxGClaims.frameRIpre,
  Cert.FfnOutDwClaims.frameP, Cert.FfnOutDwClaims.framePI, Cert.FfnOutDwClaims.frameRI,
  Cert.OutDwClaims.frameP, Cert.OutDwClaims.framePI, Cert.OutDwClaims.frameRI,
  Cert.InDwClaims.frameP, Cert.InDwClaims.framePI, Cert.InDwClaims.frameRI,
  Cert.GateDwClaims.frameP, Cert.GateDwClaims.framePI, Cert.GateDwClaims.frameRI,
  Cert.FfnInDxAClaims.frameP, Cert.FfnInDxAClaims.framePI, Cert.FfnInDxAClaims.frameRI,
  Cert.OutDxClaims.frameP, Cert.OutDxClaims.framePI, Cert.OutDxClaims.frameRI,
  Cert.InDxClaims.frameP, Cert.InDxClaims.framePI, Cert.InDxClaims.frameRI,
  Cert.FfnInDwAClaims.frameP, Cert.FfnInDwAClaims.framePI, Cert.FfnInDwAClaims.frameRI,
  Cert.FfnInDwGClaims.frameP, Cert.FfnInDwGClaims.framePI, Cert.FfnInDwGClaims.frameRI,
  Cert.NormMemBwdClaims.frameP, Cert.NormMemBwdClaims.framePI, Cert.NormMemBwdClaims.framePIpre, Cert.NormMemBwdClaims.frameRI, Cert.NormMemBwdClaims.frameRIpre,
  Cert.MemkvDwClaims.frameP, Cert.MemkvDwClaims.framePI, Cert.MemkvDwClaims.frameRI,
  Cert.MemkvDxClaims.frameP, Cert.MemkvDxClaims.framePI, Cert.MemkvDxClaims.frameRI,
  Cert.NormMixClaims.frameP, Cert.NormMixClaims.framePI, Cert.NormMixClaims.frameRI,
  Cert.NormMemClaims.frameP, Cert.NormMemClaims.framePI, Cert.NormMemClaims.frameRI,
  Cert.MmMemkvClaims.frameP, Cert.MmMemkvClaims.framePI, Cert.MmMemkvClaims.frameRI,
  Cert.MemFwdClaims.frameP, Cert.MemFwdClaims.framePI, Cert.MemFwdClaims.frameRI,
  Cert.LossHeadClaims.frameP, Cert.LossHeadClaims.framePI, Cert.LossHeadClaims.frameRI,
  Cert.AdamSmallClaims.frameP, Cert.AdamSmallClaims.framePI, Cert.AdamSmallClaims.frameRI,
  Cert.MmInClaims.frameP, Cert.MmInClaims.framePI, Cert.MmInClaims.frameRI,
  Cert.MmGateClaims.frameP, Cert.MmGateClaims.framePI, Cert.MmGateClaims.frameRI,
  Cert.MmOutClaims.frameP, Cert.MmOutClaims.framePI, Cert.MmOutClaims.frameRI,
  Cert.FfnOutClaims.frameP, Cert.FfnOutClaims.framePI, Cert.FfnOutClaims.frameRI,
  Cert.FfnOutLastClaims.frameP, Cert.FfnOutLastClaims.framePI, Cert.FfnOutLastClaims.frameRI,
  Cert.FfnInClaims.frameP, Cert.FfnInClaims.framePI, Cert.FfnInClaims.frameRI,
  Cert.MergeFwdClaims.frameP, Cert.MergeFwdClaims.framePI, Cert.MergeFwdClaims.frameRI,
  Cert.RetPostBwdClaims.frameP, Cert.RetPostBwdClaims.framePI, Cert.RetPostBwdClaims.framePIpre, Cert.RetPostBwdClaims.frameRI, Cert.RetPostBwdClaims.frameRIpre,
  Cert.MemkvPrepClaims.frameP, Cert.MemkvPrepClaims.framePI, Cert.MemkvPrepClaims.framePIpre, Cert.MemkvPrepClaims.frameRI, Cert.MemkvPrepClaims.frameRIpre,
  Cert.MemkvBwdClaims.frameP, Cert.MemkvBwdClaims.framePI, Cert.MemkvBwdClaims.framePIpre, Cert.MemkvBwdClaims.frameRI, Cert.MemkvBwdClaims.frameRIpre,
  Cert.SmallSumClaims.frameP, Cert.SmallSumClaims.framePI, Cert.SmallSumClaims.frameRI,
  Cert.RpbExpandClaims.frameP, Cert.RpbExpandClaims.framePI, Cert.RpbExpandClaims.frameRI,
  Cert.RpbReduceClaims.frameP, Cert.RpbReduceClaims.framePI, Cert.RpbReduceClaims.frameRI,
  trivial, Cert.MemClaims.algebraic,
  trivial, Cert.MergeBwdClaims.algebraic,
  trivial, Cert.FfnOutBwdClaims.algebraic,
  trivial, Cert.GateDxClaims.algebraic,
  trivial, Cert.FfnInDxGClaims.algebraic,
  trivial, Cert.FfnOutDwClaims.algebraic,
  trivial, Cert.OutDwClaims.algebraic,
  trivial, Cert.InDwClaims.algebraic,
  trivial, Cert.GateDwClaims.algebraic,
  trivial, Cert.FfnInDxAClaims.algebraic,
  trivial, Cert.OutDxClaims.algebraic,
  trivial, Cert.InDxClaims.algebraic,
  trivial, Cert.FfnInDwAClaims.algebraic,
  trivial, Cert.FfnInDwGClaims.algebraic,
  trivial, Cert.NormMemBwdClaims.algebraic,
  trivial, Cert.MemkvDwClaims.algebraic,
  trivial, Cert.MemkvDxClaims.algebraic,
  trivial, Cert.NormMixClaims.algebraic,
  trivial, Cert.NormMemClaims.algebraic,
  trivial, Cert.MmMemkvClaims.algebraic,
  trivial, Cert.MemFwdClaims.algebraic,
  trivial, Cert.LossHeadClaims.algebraic,
  trivial, Cert.AdamSmallClaims.algebraic,
  trivial, Cert.MmInClaims.algebraic,
  trivial, Cert.MmGateClaims.algebraic,
  trivial, Cert.MmOutClaims.algebraic,
  trivial, Cert.FfnOutClaims.algebraic,
  trivial, Cert.FfnOutLastClaims.algebraic,
  trivial, Cert.FfnInClaims.algebraic,
  trivial, Cert.MergeFwdClaims.algebraic,
  trivial, Cert.RetPostBwdClaims.algebraic,
  trivial, Cert.MemkvPrepClaims.algebraic,
  trivial, Cert.MemkvBwdClaims.algebraic,
  trivial, Cert.SmallSumClaims.algebraic,
  trivial, Cert.RpbExpandClaims.algebraic,
  trivial, Cert.RpbReduceClaims.algebraic⟩

end Cert.Proof

end
